-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_ODx (m : (ℓ : Loc Cert.ODx.nD Cert.ODx.τ Cert.ODx.sig) → Buf (Elt Bits) ℓ) : Prop :=
  True

def Pre_ODxIdeal (m : (ℓ : Loc Cert.ODxIdeal.nD Cert.ODxIdeal.τ Cert.ODxIdeal.sig) → Buf (Elt Ideal) ℓ) : Prop :=
  True

def Pre_ODxReferenceIdeal (m : (ℓ : Loc Cert.ODxReferenceIdeal.nD Cert.ODxReferenceIdeal.τ Cert.ODxReferenceIdeal.sig) → Buf (Elt Ideal) ℓ) : Prop :=
  True

def Pre_ODw (m : (ℓ : Loc Cert.ODw.nD Cert.ODw.τ Cert.ODw.sig) → Buf (Elt Bits) ℓ) : Prop :=
  True

def Pre_ODwIdeal (m : (ℓ : Loc Cert.ODwIdeal.nD Cert.ODwIdeal.τ Cert.ODwIdeal.sig) → Buf (Elt Ideal) ℓ) : Prop :=
  True

def Pre_ODwReferenceIdeal (m : (ℓ : Loc Cert.ODwReferenceIdeal.nD Cert.ODwReferenceIdeal.τ Cert.ODwReferenceIdeal.sig) → Buf (Elt Ideal) ℓ) : Prop :=
  True

def Pre_BrDx (m : (ℓ : Loc Cert.BrDx.nD Cert.BrDx.τ Cert.BrDx.sig) → Buf (Elt Bits) ℓ) : Prop :=
  True

def Pre_BrDxIdeal (m : (ℓ : Loc Cert.BrDxIdeal.nD Cert.BrDxIdeal.τ Cert.BrDxIdeal.sig) → Buf (Elt Ideal) ℓ) : Prop :=
  True

def Pre_BrDxReferenceIdeal (m : (ℓ : Loc Cert.BrDxReferenceIdeal.nD Cert.BrDxReferenceIdeal.τ Cert.BrDxReferenceIdeal.sig) → Buf (Elt Ideal) ℓ) : Prop :=
  True

def Pre_BrDw (m : (ℓ : Loc Cert.BrDw.nD Cert.BrDw.τ Cert.BrDw.sig) → Buf (Elt Bits) ℓ) : Prop :=
  True

def Pre_BrDwIdeal (m : (ℓ : Loc Cert.BrDwIdeal.nD Cert.BrDwIdeal.τ Cert.BrDwIdeal.sig) → Buf (Elt Ideal) ℓ) : Prop :=
  True

def Pre_BrDwReferenceIdeal (m : (ℓ : Loc Cert.BrDwReferenceIdeal.nD Cert.BrDwReferenceIdeal.τ Cert.BrDwReferenceIdeal.sig) → Buf (Elt Ideal) ℓ) : Prop :=
  True

def Pre_FoxDw (m : (ℓ : Loc Cert.FoxDw.nD Cert.FoxDw.τ Cert.FoxDw.sig) → Buf (Elt Bits) ℓ) : Prop :=
  True

def Pre_FoxDwIdeal (m : (ℓ : Loc Cert.FoxDwIdeal.nD Cert.FoxDwIdeal.τ Cert.FoxDwIdeal.sig) → Buf (Elt Ideal) ℓ) : Prop :=
  True

def Pre_FoxDwReferenceIdeal (m : (ℓ : Loc Cert.FoxDwReferenceIdeal.nD Cert.FoxDwReferenceIdeal.τ Cert.FoxDwReferenceIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxReferenceIdeal (m : (ℓ : Loc Cert.GateDxReferenceIdeal.nD Cert.GateDxReferenceIdeal.τ Cert.GateDxReferenceIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwReferenceIdeal (m : (ℓ : Loc Cert.GateDwReferenceIdeal.nD Cert.GateDwReferenceIdeal.τ Cert.GateDwReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_InTail (m : (ℓ : Loc Cert.InTail.nD Cert.InTail.τ Cert.InTail.sig) → Buf (Elt Bits) ℓ) : Prop :=
  True

def Pre_InTailIdeal (m : (ℓ : Loc Cert.InTailIdeal.nD Cert.InTailIdeal.τ Cert.InTailIdeal.sig) → Buf (Elt Ideal) ℓ) : Prop :=
  True

def Pre_InTailReferenceIdeal (m : (ℓ : Loc Cert.InTailReferenceIdeal.nD Cert.InTailReferenceIdeal.τ Cert.InTailReferenceIdeal.sig) → Buf (Elt Ideal) ℓ) : Prop :=
  True

def Pre_BrFwd (m : (ℓ : Loc Cert.BrFwd.nD Cert.BrFwd.τ Cert.BrFwd.sig) → Buf (Elt Bits) ℓ) : Prop :=
  True

def Pre_BrFwdIdeal (m : (ℓ : Loc Cert.BrFwdIdeal.nD Cert.BrFwdIdeal.τ Cert.BrFwdIdeal.sig) → Buf (Elt Ideal) ℓ) : Prop :=
  True

def Pre_BrFwdReferenceIdeal (m : (ℓ : Loc Cert.BrFwdReferenceIdeal.nD Cert.BrFwdReferenceIdeal.τ Cert.BrFwdReferenceIdeal.sig) → Buf (Elt Ideal) ℓ) : Prop :=
  True

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdReferenceIdeal (m : (ℓ : Loc Cert.FoxFwdReferenceIdeal.nD Cert.FoxFwdReferenceIdeal.τ Cert.FoxFwdReferenceIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdReferenceIdeal (m : (ℓ : Loc Cert.GateFwdReferenceIdeal.nD Cert.GateFwdReferenceIdeal.τ Cert.GateFwdReferenceIdeal.sig) → Buf (Elt Ideal) ℓ) : Prop :=
  True

def Pre_OFwd (m : (ℓ : Loc Cert.OFwd.nD Cert.OFwd.τ Cert.OFwd.sig) → Buf (Elt Bits) ℓ) : Prop :=
  True

def Pre_OFwdIdeal (m : (ℓ : Loc Cert.OFwdIdeal.nD Cert.OFwdIdeal.τ Cert.OFwdIdeal.sig) → Buf (Elt Ideal) ℓ) : Prop :=
  True

def Pre_OFwdReferenceIdeal (m : (ℓ : Loc Cert.OFwdReferenceIdeal.nD Cert.OFwdReferenceIdeal.τ Cert.OFwdReferenceIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdReferenceIdeal (m : (ℓ : Loc Cert.UpFwdReferenceIdeal.nD Cert.UpFwdReferenceIdeal.τ Cert.UpFwdReferenceIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdReferenceIdeal (m : (ℓ : Loc Cert.DownFwdReferenceIdeal.nD Cert.DownFwdReferenceIdeal.τ Cert.DownFwdReferenceIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))) = (fun _ => 1#1)

def Pre_FfnBwdReferenceIdeal (m : (ℓ : Loc Cert.FfnBwdReferenceIdeal.nD Cert.FfnBwdReferenceIdeal.τ Cert.FfnBwdReferenceIdeal.sig) → Buf (Elt Ideal) ℓ) : Prop :=
  True

def Pre_FfnBwdReferenceIdeal_ffn_finite [hPre_ffn_finite : Cert.Pre_ffn_finite.Facts] (m : (ℓ : Loc Cert.FfnBwdReferenceIdeal.nD Cert.FfnBwdReferenceIdeal.τ Cert.FfnBwdReferenceIdeal.sig) → Buf (Elt Ideal) ℓ) : Prop :=
  ∀ c : Dev Cert.FfnBwdReferenceIdeal.nD,
    (Cert.Pre_ffn_finite.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdReferenceIdeal (m : (ℓ : Loc Cert.MixBwdReferenceIdeal.nD Cert.MixBwdReferenceIdeal.τ Cert.MixBwdReferenceIdeal.sig) → Buf (Elt Ideal) ℓ) : Prop :=
  True

def Pre_ResBwd (m : (ℓ : Loc Cert.ResBwd.nD Cert.ResBwd.τ Cert.ResBwd.sig) → Buf (Elt Bits) ℓ) : Prop :=
  True

def Pre_ResBwdIdeal (m : (ℓ : Loc Cert.ResBwdIdeal.nD Cert.ResBwdIdeal.τ Cert.ResBwdIdeal.sig) → Buf (Elt Ideal) ℓ) : Prop :=
  True

def Pre_ResBwdReferenceIdeal (m : (ℓ : Loc Cert.ResBwdReferenceIdeal.nD Cert.ResBwdReferenceIdeal.τ Cert.ResBwdReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_RopeBwd (m : (ℓ : Loc Cert.RopeBwd.nD Cert.RopeBwd.τ Cert.RopeBwd.sig) → Buf (Elt Bits) ℓ) : Prop :=
  True

def Pre_RopeBwdIdeal (m : (ℓ : Loc Cert.RopeBwdIdeal.nD Cert.RopeBwdIdeal.τ Cert.RopeBwdIdeal.sig) → Buf (Elt Ideal) ℓ) : Prop :=
  True

def Pre_RopeBwdReferenceIdeal (m : (ℓ : Loc Cert.RopeBwdReferenceIdeal.nD Cert.RopeBwdReferenceIdeal.τ Cert.RopeBwdReferenceIdeal.sig) → Buf (Elt Ideal) ℓ) : Prop :=
  True

def Pre_ResFwd (m : (ℓ : Loc Cert.ResFwd.nD Cert.ResFwd.τ Cert.ResFwd.sig) → Buf (Elt Bits) ℓ) : Prop :=
  True

def Pre_ResFwdIdeal (m : (ℓ : Loc Cert.ResFwdIdeal.nD Cert.ResFwdIdeal.τ Cert.ResFwdIdeal.sig) → Buf (Elt Ideal) ℓ) : Prop :=
  True

def Pre_ResFwdReferenceIdeal (m : (ℓ : Loc Cert.ResFwdReferenceIdeal.nD Cert.ResFwdReferenceIdeal.τ Cert.ResFwdReferenceIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ResNormReferenceIdeal (m : (ℓ : Loc Cert.ResNormReferenceIdeal.nD Cert.ResNormReferenceIdeal.τ Cert.ResNormReferenceIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdReferenceIdeal (m : (ℓ : Loc Cert.MixFwdReferenceIdeal.nD Cert.MixFwdReferenceIdeal.τ Cert.MixFwdReferenceIdeal.sig) → Buf (Elt Ideal) ℓ) : Prop :=
  True

def Pre_RopeFwd (m : (ℓ : Loc Cert.RopeFwd.nD Cert.RopeFwd.τ Cert.RopeFwd.sig) → Buf (Elt Bits) ℓ) : Prop :=
  True

def Pre_RopeFwdIdeal (m : (ℓ : Loc Cert.RopeFwdIdeal.nD Cert.RopeFwdIdeal.τ Cert.RopeFwdIdeal.sig) → Buf (Elt Ideal) ℓ) : Prop :=
  True

def Pre_RopeFwdReferenceIdeal (m : (ℓ : Loc Cert.RopeFwdReferenceIdeal.nD Cert.RopeFwdReferenceIdeal.τ Cert.RopeFwdReferenceIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_RetPost (m : (ℓ : Loc Cert.RetPost.nD Cert.RetPost.τ Cert.RetPost.sig) → Buf (Elt Bits) ℓ) : Prop :=
  True

def Pre_RetPostIdeal (m : (ℓ : Loc Cert.RetPostIdeal.nD Cert.RetPostIdeal.τ Cert.RetPostIdeal.sig) → Buf (Elt Ideal) ℓ) : Prop :=
  True

def Pre_RetPostReferenceIdeal (m : (ℓ : Loc Cert.RetPostReferenceIdeal.nD Cert.RetPostReferenceIdeal.τ Cert.RetPostReferenceIdeal.sig) → Buf (Elt Ideal) ℓ) : Prop :=
  True

def Pre_GlaPost (m : (ℓ : Loc Cert.GlaPost.nD Cert.GlaPost.τ Cert.GlaPost.sig) → Buf (Elt Bits) ℓ) : Prop :=
  True

def Pre_GlaPostIdeal (m : (ℓ : Loc Cert.GlaPostIdeal.nD Cert.GlaPostIdeal.τ Cert.GlaPostIdeal.sig) → Buf (Elt Ideal) ℓ) : Prop :=
  True

def Pre_GlaPostReferenceIdeal (m : (ℓ : Loc Cert.GlaPostReferenceIdeal.nD Cert.GlaPostReferenceIdeal.τ Cert.GlaPostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_ODx [hODx : Cert.ODx.Facts] : Prop :=
  ∀ (m : (ℓ : Loc Cert.ODx.nD Cert.ODx.τ Cert.ODx.sig) → Buf (Elt Bits) ℓ) (g : Dev Cert.ODx.nD → PrngReg), Pre_ODx m →
    θ_run (Cert.ODx.defs (F := Bits)) (onTc (τ := Cert.ODx.τ) (Cert.ODx.main (F := Bits))) ⟨m, fun _ => 0, g⟩ (fun r => (∀ c : Dev Cert.ODx.nD,
      r.2.mem ((c.tc : Thread Cert.ODx.nD Cert.ODx.τ).loc Cert.ODx.main_arg0) = m ((c.tc : Thread Cert.ODx.nD Cert.ODx.τ).loc Cert.ODx.main_arg0)
      ∧ r.2.mem ((c.tc : Thread Cert.ODx.nD Cert.ODx.τ).loc Cert.ODx.main_arg1) = m ((c.tc : Thread Cert.ODx.nD Cert.ODx.τ).loc Cert.ODx.main_arg1))
      ∧ r.2.sem = fun _ => 0)

def quiescent_ODxIdeal [hODxIdeal : Cert.ODxIdeal.Facts] : Prop :=
  ∀ (m : (ℓ : Loc Cert.ODxIdeal.nD Cert.ODxIdeal.τ Cert.ODxIdeal.sig) → Buf (Elt Ideal) ℓ) (g : Dev Cert.ODxIdeal.nD → PrngReg), Pre_ODxIdeal m →
    θ_run (Cert.ODxIdeal.defs (F := Ideal)) (onTc (τ := Cert.ODxIdeal.τ) (Cert.ODxIdeal.main (F := Ideal))) ⟨m, fun _ => 0, g⟩ (fun r => (∀ c : Dev Cert.ODxIdeal.nD,
      r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
      ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1))
      ∧ r.2.sem = fun _ => 0)

def quiescent_ODxReferenceIdeal [hODxReferenceIdeal : Cert.ODxReferenceIdeal.Facts] : Prop :=
  ∀ (m : (ℓ : Loc Cert.ODxReferenceIdeal.nD Cert.ODxReferenceIdeal.τ Cert.ODxReferenceIdeal.sig) → Buf (Elt Ideal) ℓ) (g : Dev Cert.ODxReferenceIdeal.nD → PrngReg), Pre_ODxReferenceIdeal m →
    θ_run (Cert.ODxReferenceIdeal.defs (F := Ideal)) (onTc (τ := Cert.ODxReferenceIdeal.τ) (Cert.ODxReferenceIdeal.main (F := Ideal))) ⟨m, fun _ => 0, g⟩ (fun r => (∀ c : Dev Cert.ODxReferenceIdeal.nD,
      r.2.mem ((c.tc : Thread Cert.ODxReferenceIdeal.nD Cert.ODxReferenceIdeal.τ).loc Cert.ODxReferenceIdeal.main_arg0) = m ((c.tc : Thread Cert.ODxReferenceIdeal.nD Cert.ODxReferenceIdeal.τ).loc Cert.ODxReferenceIdeal.main_arg0)
      ∧ r.2.mem ((c.tc : Thread Cert.ODxReferenceIdeal.nD Cert.ODxReferenceIdeal.τ).loc Cert.ODxReferenceIdeal.main_arg1) = m ((c.tc : Thread Cert.ODxReferenceIdeal.nD Cert.ODxReferenceIdeal.τ).loc Cert.ODxReferenceIdeal.main_arg1))
      ∧ r.2.sem = fun _ => 0)

def quiescent_ODw [hODw : Cert.ODw.Facts] : Prop :=
  ∀ (m : (ℓ : Loc Cert.ODw.nD Cert.ODw.τ Cert.ODw.sig) → Buf (Elt Bits) ℓ) (g : Dev Cert.ODw.nD → PrngReg), Pre_ODw m →
    θ_run (Cert.ODw.defs (F := Bits)) (onTc (τ := Cert.ODw.τ) (Cert.ODw.main (F := Bits))) ⟨m, fun _ => 0, g⟩ (fun r => (∀ c : Dev Cert.ODw.nD,
      r.2.mem ((c.tc : Thread Cert.ODw.nD Cert.ODw.τ).loc Cert.ODw.main_arg0) = m ((c.tc : Thread Cert.ODw.nD Cert.ODw.τ).loc Cert.ODw.main_arg0)
      ∧ r.2.mem ((c.tc : Thread Cert.ODw.nD Cert.ODw.τ).loc Cert.ODw.main_arg1) = m ((c.tc : Thread Cert.ODw.nD Cert.ODw.τ).loc Cert.ODw.main_arg1))
      ∧ r.2.sem = fun _ => 0)

def quiescent_ODwIdeal [hODwIdeal : Cert.ODwIdeal.Facts] : Prop :=
  ∀ (m : (ℓ : Loc Cert.ODwIdeal.nD Cert.ODwIdeal.τ Cert.ODwIdeal.sig) → Buf (Elt Ideal) ℓ) (g : Dev Cert.ODwIdeal.nD → PrngReg), Pre_ODwIdeal m →
    θ_run (Cert.ODwIdeal.defs (F := Ideal)) (onTc (τ := Cert.ODwIdeal.τ) (Cert.ODwIdeal.main (F := Ideal))) ⟨m, fun _ => 0, g⟩ (fun r => (∀ c : Dev Cert.ODwIdeal.nD,
      r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
      ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ r.2.sem = fun _ => 0)

def quiescent_ODwReferenceIdeal [hODwReferenceIdeal : Cert.ODwReferenceIdeal.Facts] : Prop :=
  ∀ (m : (ℓ : Loc Cert.ODwReferenceIdeal.nD Cert.ODwReferenceIdeal.τ Cert.ODwReferenceIdeal.sig) → Buf (Elt Ideal) ℓ) (g : Dev Cert.ODwReferenceIdeal.nD → PrngReg), Pre_ODwReferenceIdeal m →
    θ_run (Cert.ODwReferenceIdeal.defs (F := Ideal)) (onTc (τ := Cert.ODwReferenceIdeal.τ) (Cert.ODwReferenceIdeal.main (F := Ideal))) ⟨m, fun _ => 0, g⟩ (fun r => (∀ c : Dev Cert.ODwReferenceIdeal.nD,
      r.2.mem ((c.tc : Thread Cert.ODwReferenceIdeal.nD Cert.ODwReferenceIdeal.τ).loc Cert.ODwReferenceIdeal.main_arg0) = m ((c.tc : Thread Cert.ODwReferenceIdeal.nD Cert.ODwReferenceIdeal.τ).loc Cert.ODwReferenceIdeal.main_arg0)
      ∧ r.2.mem ((c.tc : Thread Cert.ODwReferenceIdeal.nD Cert.ODwReferenceIdeal.τ).loc Cert.ODwReferenceIdeal.main_arg1) = m ((c.tc : Thread Cert.ODwReferenceIdeal.nD Cert.ODwReferenceIdeal.τ).loc Cert.ODwReferenceIdeal.main_arg1))
      ∧ r.2.sem = fun _ => 0)

def quiescent_BrDx [hBrDx : Cert.BrDx.Facts] : Prop :=
  ∀ (m : (ℓ : Loc Cert.BrDx.nD Cert.BrDx.τ Cert.BrDx.sig) → Buf (Elt Bits) ℓ) (g : Dev Cert.BrDx.nD → PrngReg), Pre_BrDx m →
    θ_run (Cert.BrDx.defs (F := Bits)) (onTc (τ := Cert.BrDx.τ) (Cert.BrDx.main (F := Bits))) ⟨m, fun _ => 0, g⟩ (fun r => (∀ c : Dev Cert.BrDx.nD,
      r.2.mem ((c.tc : Thread Cert.BrDx.nD Cert.BrDx.τ).loc Cert.BrDx.main_arg0) = m ((c.tc : Thread Cert.BrDx.nD Cert.BrDx.τ).loc Cert.BrDx.main_arg0)
      ∧ r.2.mem ((c.tc : Thread Cert.BrDx.nD Cert.BrDx.τ).loc Cert.BrDx.main_arg1) = m ((c.tc : Thread Cert.BrDx.nD Cert.BrDx.τ).loc Cert.BrDx.main_arg1))
      ∧ r.2.sem = fun _ => 0)

def quiescent_BrDxIdeal [hBrDxIdeal : Cert.BrDxIdeal.Facts] : Prop :=
  ∀ (m : (ℓ : Loc Cert.BrDxIdeal.nD Cert.BrDxIdeal.τ Cert.BrDxIdeal.sig) → Buf (Elt Ideal) ℓ) (g : Dev Cert.BrDxIdeal.nD → PrngReg), Pre_BrDxIdeal m →
    θ_run (Cert.BrDxIdeal.defs (F := Ideal)) (onTc (τ := Cert.BrDxIdeal.τ) (Cert.BrDxIdeal.main (F := Ideal))) ⟨m, fun _ => 0, g⟩ (fun r => (∀ c : Dev Cert.BrDxIdeal.nD,
      r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
      ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ r.2.sem = fun _ => 0)

def quiescent_BrDxReferenceIdeal [hBrDxReferenceIdeal : Cert.BrDxReferenceIdeal.Facts] : Prop :=
  ∀ (m : (ℓ : Loc Cert.BrDxReferenceIdeal.nD Cert.BrDxReferenceIdeal.τ Cert.BrDxReferenceIdeal.sig) → Buf (Elt Ideal) ℓ) (g : Dev Cert.BrDxReferenceIdeal.nD → PrngReg), Pre_BrDxReferenceIdeal m →
    θ_run (Cert.BrDxReferenceIdeal.defs (F := Ideal)) (onTc (τ := Cert.BrDxReferenceIdeal.τ) (Cert.BrDxReferenceIdeal.main (F := Ideal))) ⟨m, fun _ => 0, g⟩ (fun r => (∀ c : Dev Cert.BrDxReferenceIdeal.nD,
      r.2.mem ((c.tc : Thread Cert.BrDxReferenceIdeal.nD Cert.BrDxReferenceIdeal.τ).loc Cert.BrDxReferenceIdeal.main_arg0) = m ((c.tc : Thread Cert.BrDxReferenceIdeal.nD Cert.BrDxReferenceIdeal.τ).loc Cert.BrDxReferenceIdeal.main_arg0)
      ∧ r.2.mem ((c.tc : Thread Cert.BrDxReferenceIdeal.nD Cert.BrDxReferenceIdeal.τ).loc Cert.BrDxReferenceIdeal.main_arg1) = m ((c.tc : Thread Cert.BrDxReferenceIdeal.nD Cert.BrDxReferenceIdeal.τ).loc Cert.BrDxReferenceIdeal.main_arg1))
      ∧ r.2.sem = fun _ => 0)

def quiescent_BrDw [hBrDw : Cert.BrDw.Facts] : Prop :=
  ∀ (m : (ℓ : Loc Cert.BrDw.nD Cert.BrDw.τ Cert.BrDw.sig) → Buf (Elt Bits) ℓ) (g : Dev Cert.BrDw.nD → PrngReg), Pre_BrDw m →
    θ_run (Cert.BrDw.defs (F := Bits)) (onTc (τ := Cert.BrDw.τ) (Cert.BrDw.main (F := Bits))) ⟨m, fun _ => 0, g⟩ (fun r => (∀ c : Dev Cert.BrDw.nD,
      r.2.mem ((c.tc : Thread Cert.BrDw.nD Cert.BrDw.τ).loc Cert.BrDw.main_arg0) = m ((c.tc : Thread Cert.BrDw.nD Cert.BrDw.τ).loc Cert.BrDw.main_arg0)
      ∧ r.2.mem ((c.tc : Thread Cert.BrDw.nD Cert.BrDw.τ).loc Cert.BrDw.main_arg1) = m ((c.tc : Thread Cert.BrDw.nD Cert.BrDw.τ).loc Cert.BrDw.main_arg1))
      ∧ r.2.sem = fun _ => 0)

def quiescent_BrDwIdeal [hBrDwIdeal : Cert.BrDwIdeal.Facts] : Prop :=
  ∀ (m : (ℓ : Loc Cert.BrDwIdeal.nD Cert.BrDwIdeal.τ Cert.BrDwIdeal.sig) → Buf (Elt Ideal) ℓ) (g : Dev Cert.BrDwIdeal.nD → PrngReg), Pre_BrDwIdeal m →
    θ_run (Cert.BrDwIdeal.defs (F := Ideal)) (onTc (τ := Cert.BrDwIdeal.τ) (Cert.BrDwIdeal.main (F := Ideal))) ⟨m, fun _ => 0, g⟩ (fun r => (∀ c : Dev Cert.BrDwIdeal.nD,
      r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
      ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ r.2.sem = fun _ => 0)

def quiescent_BrDwReferenceIdeal [hBrDwReferenceIdeal : Cert.BrDwReferenceIdeal.Facts] : Prop :=
  ∀ (m : (ℓ : Loc Cert.BrDwReferenceIdeal.nD Cert.BrDwReferenceIdeal.τ Cert.BrDwReferenceIdeal.sig) → Buf (Elt Ideal) ℓ) (g : Dev Cert.BrDwReferenceIdeal.nD → PrngReg), Pre_BrDwReferenceIdeal m →
    θ_run (Cert.BrDwReferenceIdeal.defs (F := Ideal)) (onTc (τ := Cert.BrDwReferenceIdeal.τ) (Cert.BrDwReferenceIdeal.main (F := Ideal))) ⟨m, fun _ => 0, g⟩ (fun r => (∀ c : Dev Cert.BrDwReferenceIdeal.nD,
      r.2.mem ((c.tc : Thread Cert.BrDwReferenceIdeal.nD Cert.BrDwReferenceIdeal.τ).loc Cert.BrDwReferenceIdeal.main_arg0) = m ((c.tc : Thread Cert.BrDwReferenceIdeal.nD Cert.BrDwReferenceIdeal.τ).loc Cert.BrDwReferenceIdeal.main_arg0)
      ∧ r.2.mem ((c.tc : Thread Cert.BrDwReferenceIdeal.nD Cert.BrDwReferenceIdeal.τ).loc Cert.BrDwReferenceIdeal.main_arg1) = m ((c.tc : Thread Cert.BrDwReferenceIdeal.nD Cert.BrDwReferenceIdeal.τ).loc Cert.BrDwReferenceIdeal.main_arg1))
      ∧ r.2.sem = fun _ => 0)

def quiescent_FoxDw [hFoxDw : Cert.FoxDw.Facts] : Prop :=
  ∀ (m : (ℓ : Loc Cert.FoxDw.nD Cert.FoxDw.τ Cert.FoxDw.sig) → Buf (Elt Bits) ℓ) (g : Dev Cert.FoxDw.nD → PrngReg), Pre_FoxDw m →
    θ_run (Cert.FoxDw.defs (F := Bits)) (onTc (τ := Cert.FoxDw.τ) (Cert.FoxDw.main (F := Bits))) ⟨m, fun _ => 0, g⟩ (fun r => (∀ c : Dev Cert.FoxDw.nD,
      r.2.mem ((c.tc : Thread Cert.FoxDw.nD Cert.FoxDw.τ).loc Cert.FoxDw.main_arg0) = m ((c.tc : Thread Cert.FoxDw.nD Cert.FoxDw.τ).loc Cert.FoxDw.main_arg0)
      ∧ r.2.mem ((c.tc : Thread Cert.FoxDw.nD Cert.FoxDw.τ).loc Cert.FoxDw.main_arg1) = m ((c.tc : Thread Cert.FoxDw.nD Cert.FoxDw.τ).loc Cert.FoxDw.main_arg1))
      ∧ r.2.sem = fun _ => 0)

def quiescent_FoxDwIdeal [hFoxDwIdeal : Cert.FoxDwIdeal.Facts] : Prop :=
  ∀ (m : (ℓ : Loc Cert.FoxDwIdeal.nD Cert.FoxDwIdeal.τ Cert.FoxDwIdeal.sig) → Buf (Elt Ideal) ℓ) (g : Dev Cert.FoxDwIdeal.nD → PrngReg), Pre_FoxDwIdeal m →
    θ_run (Cert.FoxDwIdeal.defs (F := Ideal)) (onTc (τ := Cert.FoxDwIdeal.τ) (Cert.FoxDwIdeal.main (F := Ideal))) ⟨m, fun _ => 0, g⟩ (fun r => (∀ c : Dev Cert.FoxDwIdeal.nD,
      r.2.mem ((c.tc : Thread Cert.FoxDwIdeal.nD Cert.FoxDwIdeal.τ).loc Cert.FoxDwIdeal.main_arg0) = m ((c.tc : Thread Cert.FoxDwIdeal.nD Cert.FoxDwIdeal.τ).loc Cert.FoxDwIdeal.main_arg0)
      ∧ r.2.mem ((c.tc : Thread Cert.FoxDwIdeal.nD Cert.FoxDwIdeal.τ).loc Cert.FoxDwIdeal.main_arg1) = m ((c.tc : Thread Cert.FoxDwIdeal.nD Cert.FoxDwIdeal.τ).loc Cert.FoxDwIdeal.main_arg1))
      ∧ r.2.sem = fun _ => 0)

def quiescent_FoxDwReferenceIdeal [hFoxDwReferenceIdeal : Cert.FoxDwReferenceIdeal.Facts] : Prop :=
  ∀ (m : (ℓ : Loc Cert.FoxDwReferenceIdeal.nD Cert.FoxDwReferenceIdeal.τ Cert.FoxDwReferenceIdeal.sig) → Buf (Elt Ideal) ℓ) (g : Dev Cert.FoxDwReferenceIdeal.nD → PrngReg), Pre_FoxDwReferenceIdeal m →
    θ_run (Cert.FoxDwReferenceIdeal.defs (F := Ideal)) (onTc (τ := Cert.FoxDwReferenceIdeal.τ) (Cert.FoxDwReferenceIdeal.main (F := Ideal))) ⟨m, fun _ => 0, g⟩ (fun r => (∀ c : Dev Cert.FoxDwReferenceIdeal.nD,
      r.2.mem ((c.tc : Thread Cert.FoxDwReferenceIdeal.nD Cert.FoxDwReferenceIdeal.τ).loc Cert.FoxDwReferenceIdeal.main_arg0) = m ((c.tc : Thread Cert.FoxDwReferenceIdeal.nD Cert.FoxDwReferenceIdeal.τ).loc Cert.FoxDwReferenceIdeal.main_arg0)
      ∧ r.2.mem ((c.tc : Thread Cert.FoxDwReferenceIdeal.nD Cert.FoxDwReferenceIdeal.τ).loc Cert.FoxDwReferenceIdeal.main_arg1) = m ((c.tc : Thread Cert.FoxDwReferenceIdeal.nD Cert.FoxDwReferenceIdeal.τ).loc Cert.FoxDwReferenceIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxReferenceIdeal [hGateDxReferenceIdeal : Cert.GateDxReferenceIdeal.Facts] : Prop :=
  ∀ (m : (ℓ : Loc Cert.GateDxReferenceIdeal.nD Cert.GateDxReferenceIdeal.τ Cert.GateDxReferenceIdeal.sig) → Buf (Elt Ideal) ℓ) (g : Dev Cert.GateDxReferenceIdeal.nD → PrngReg), Pre_GateDxReferenceIdeal m →
    θ_run (Cert.GateDxReferenceIdeal.defs (F := Ideal)) (onTc (τ := Cert.GateDxReferenceIdeal.τ) (Cert.GateDxReferenceIdeal.main (F := Ideal))) ⟨m, fun _ => 0, g⟩ (fun r => (∀ c : Dev Cert.GateDxReferenceIdeal.nD,
      r.2.mem ((c.tc : Thread Cert.GateDxReferenceIdeal.nD Cert.GateDxReferenceIdeal.τ).loc Cert.GateDxReferenceIdeal.main_arg0) = m ((c.tc : Thread Cert.GateDxReferenceIdeal.nD Cert.GateDxReferenceIdeal.τ).loc Cert.GateDxReferenceIdeal.main_arg0)
      ∧ r.2.mem ((c.tc : Thread Cert.GateDxReferenceIdeal.nD Cert.GateDxReferenceIdeal.τ).loc Cert.GateDxReferenceIdeal.main_arg1) = m ((c.tc : Thread Cert.GateDxReferenceIdeal.nD Cert.GateDxReferenceIdeal.τ).loc Cert.GateDxReferenceIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwReferenceIdeal [hGateDwReferenceIdeal : Cert.GateDwReferenceIdeal.Facts] : Prop :=
  ∀ (m : (ℓ : Loc Cert.GateDwReferenceIdeal.nD Cert.GateDwReferenceIdeal.τ Cert.GateDwReferenceIdeal.sig) → Buf (Elt Ideal) ℓ) (g : Dev Cert.GateDwReferenceIdeal.nD → PrngReg), Pre_GateDwReferenceIdeal m →
    θ_run (Cert.GateDwReferenceIdeal.defs (F := Ideal)) (onTc (τ := Cert.GateDwReferenceIdeal.τ) (Cert.GateDwReferenceIdeal.main (F := Ideal))) ⟨m, fun _ => 0, g⟩ (fun r => (∀ c : Dev Cert.GateDwReferenceIdeal.nD,
      r.2.mem ((c.tc : Thread Cert.GateDwReferenceIdeal.nD Cert.GateDwReferenceIdeal.τ).loc Cert.GateDwReferenceIdeal.main_arg0) = m ((c.tc : Thread Cert.GateDwReferenceIdeal.nD Cert.GateDwReferenceIdeal.τ).loc Cert.GateDwReferenceIdeal.main_arg0)
      ∧ r.2.mem ((c.tc : Thread Cert.GateDwReferenceIdeal.nD Cert.GateDwReferenceIdeal.τ).loc Cert.GateDwReferenceIdeal.main_arg1) = m ((c.tc : Thread Cert.GateDwReferenceIdeal.nD Cert.GateDwReferenceIdeal.τ).loc Cert.GateDwReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1))
      ∧ r.2.sem = fun _ => 0)

def quiescent_InTail [hInTail : Cert.InTail.Facts] : Prop :=
  ∀ (m : (ℓ : Loc Cert.InTail.nD Cert.InTail.τ Cert.InTail.sig) → Buf (Elt Bits) ℓ) (g : Dev Cert.InTail.nD → PrngReg), Pre_InTail m →
    θ_run (Cert.InTail.defs (F := Bits)) (onTc (τ := Cert.InTail.τ) (Cert.InTail.main (F := Bits))) ⟨m, fun _ => 0, g⟩ (fun r => (∀ c : Dev Cert.InTail.nD,
      r.2.mem ((c.tc : Thread Cert.InTail.nD Cert.InTail.τ).loc Cert.InTail.main_arg0) = m ((c.tc : Thread Cert.InTail.nD Cert.InTail.τ).loc Cert.InTail.main_arg0)
      ∧ r.2.mem ((c.tc : Thread Cert.InTail.nD Cert.InTail.τ).loc Cert.InTail.main_arg1) = m ((c.tc : Thread Cert.InTail.nD Cert.InTail.τ).loc Cert.InTail.main_arg1))
      ∧ r.2.sem = fun _ => 0)

def quiescent_InTailIdeal [hInTailIdeal : Cert.InTailIdeal.Facts] : Prop :=
  ∀ (m : (ℓ : Loc Cert.InTailIdeal.nD Cert.InTailIdeal.τ Cert.InTailIdeal.sig) → Buf (Elt Ideal) ℓ) (g : Dev Cert.InTailIdeal.nD → PrngReg), Pre_InTailIdeal m →
    θ_run (Cert.InTailIdeal.defs (F := Ideal)) (onTc (τ := Cert.InTailIdeal.τ) (Cert.InTailIdeal.main (F := Ideal))) ⟨m, fun _ => 0, g⟩ (fun r => (∀ c : Dev Cert.InTailIdeal.nD,
      r.2.mem ((c.tc : Thread Cert.InTailIdeal.nD Cert.InTailIdeal.τ).loc Cert.InTailIdeal.main_arg0) = m ((c.tc : Thread Cert.InTailIdeal.nD Cert.InTailIdeal.τ).loc Cert.InTailIdeal.main_arg0)
      ∧ r.2.mem ((c.tc : Thread Cert.InTailIdeal.nD Cert.InTailIdeal.τ).loc Cert.InTailIdeal.main_arg1) = m ((c.tc : Thread Cert.InTailIdeal.nD Cert.InTailIdeal.τ).loc Cert.InTailIdeal.main_arg1))
      ∧ r.2.sem = fun _ => 0)

def quiescent_InTailReferenceIdeal [hInTailReferenceIdeal : Cert.InTailReferenceIdeal.Facts] : Prop :=
  ∀ (m : (ℓ : Loc Cert.InTailReferenceIdeal.nD Cert.InTailReferenceIdeal.τ Cert.InTailReferenceIdeal.sig) → Buf (Elt Ideal) ℓ) (g : Dev Cert.InTailReferenceIdeal.nD → PrngReg), Pre_InTailReferenceIdeal m →
    θ_run (Cert.InTailReferenceIdeal.defs (F := Ideal)) (onTc (τ := Cert.InTailReferenceIdeal.τ) (Cert.InTailReferenceIdeal.main (F := Ideal))) ⟨m, fun _ => 0, g⟩ (fun r => (∀ c : Dev Cert.InTailReferenceIdeal.nD,
      r.2.mem ((c.tc : Thread Cert.InTailReferenceIdeal.nD Cert.InTailReferenceIdeal.τ).loc Cert.InTailReferenceIdeal.main_arg0) = m ((c.tc : Thread Cert.InTailReferenceIdeal.nD Cert.InTailReferenceIdeal.τ).loc Cert.InTailReferenceIdeal.main_arg0)
      ∧ r.2.mem ((c.tc : Thread Cert.InTailReferenceIdeal.nD Cert.InTailReferenceIdeal.τ).loc Cert.InTailReferenceIdeal.main_arg1) = m ((c.tc : Thread Cert.InTailReferenceIdeal.nD Cert.InTailReferenceIdeal.τ).loc Cert.InTailReferenceIdeal.main_arg1))
      ∧ r.2.sem = fun _ => 0)

def quiescent_BrFwd [hBrFwd : Cert.BrFwd.Facts] : Prop :=
  ∀ (m : (ℓ : Loc Cert.BrFwd.nD Cert.BrFwd.τ Cert.BrFwd.sig) → Buf (Elt Bits) ℓ) (g : Dev Cert.BrFwd.nD → PrngReg), Pre_BrFwd m →
    θ_run (Cert.BrFwd.defs (F := Bits)) (onTc (τ := Cert.BrFwd.τ) (Cert.BrFwd.main (F := Bits))) ⟨m, fun _ => 0, g⟩ (fun r => (∀ c : Dev Cert.BrFwd.nD,
      r.2.mem ((c.tc : Thread Cert.BrFwd.nD Cert.BrFwd.τ).loc Cert.BrFwd.main_arg0) = m ((c.tc : Thread Cert.BrFwd.nD Cert.BrFwd.τ).loc Cert.BrFwd.main_arg0)
      ∧ r.2.mem ((c.tc : Thread Cert.BrFwd.nD Cert.BrFwd.τ).loc Cert.BrFwd.main_arg1) = m ((c.tc : Thread Cert.BrFwd.nD Cert.BrFwd.τ).loc Cert.BrFwd.main_arg1))
      ∧ r.2.sem = fun _ => 0)

def quiescent_BrFwdIdeal [hBrFwdIdeal : Cert.BrFwdIdeal.Facts] : Prop :=
  ∀ (m : (ℓ : Loc Cert.BrFwdIdeal.nD Cert.BrFwdIdeal.τ Cert.BrFwdIdeal.sig) → Buf (Elt Ideal) ℓ) (g : Dev Cert.BrFwdIdeal.nD → PrngReg), Pre_BrFwdIdeal m →
    θ_run (Cert.BrFwdIdeal.defs (F := Ideal)) (onTc (τ := Cert.BrFwdIdeal.τ) (Cert.BrFwdIdeal.main (F := Ideal))) ⟨m, fun _ => 0, g⟩ (fun r => (∀ c : Dev Cert.BrFwdIdeal.nD,
      r.2.mem ((c.tc : Thread Cert.BrFwdIdeal.nD Cert.BrFwdIdeal.τ).loc Cert.BrFwdIdeal.main_arg0) = m ((c.tc : Thread Cert.BrFwdIdeal.nD Cert.BrFwdIdeal.τ).loc Cert.BrFwdIdeal.main_arg0)
      ∧ r.2.mem ((c.tc : Thread Cert.BrFwdIdeal.nD Cert.BrFwdIdeal.τ).loc Cert.BrFwdIdeal.main_arg1) = m ((c.tc : Thread Cert.BrFwdIdeal.nD Cert.BrFwdIdeal.τ).loc Cert.BrFwdIdeal.main_arg1))
      ∧ r.2.sem = fun _ => 0)

def quiescent_BrFwdReferenceIdeal [hBrFwdReferenceIdeal : Cert.BrFwdReferenceIdeal.Facts] : Prop :=
  ∀ (m : (ℓ : Loc Cert.BrFwdReferenceIdeal.nD Cert.BrFwdReferenceIdeal.τ Cert.BrFwdReferenceIdeal.sig) → Buf (Elt Ideal) ℓ) (g : Dev Cert.BrFwdReferenceIdeal.nD → PrngReg), Pre_BrFwdReferenceIdeal m →
    θ_run (Cert.BrFwdReferenceIdeal.defs (F := Ideal)) (onTc (τ := Cert.BrFwdReferenceIdeal.τ) (Cert.BrFwdReferenceIdeal.main (F := Ideal))) ⟨m, fun _ => 0, g⟩ (fun r => (∀ c : Dev Cert.BrFwdReferenceIdeal.nD,
      r.2.mem ((c.tc : Thread Cert.BrFwdReferenceIdeal.nD Cert.BrFwdReferenceIdeal.τ).loc Cert.BrFwdReferenceIdeal.main_arg0) = m ((c.tc : Thread Cert.BrFwdReferenceIdeal.nD Cert.BrFwdReferenceIdeal.τ).loc Cert.BrFwdReferenceIdeal.main_arg0)
      ∧ r.2.mem ((c.tc : Thread Cert.BrFwdReferenceIdeal.nD Cert.BrFwdReferenceIdeal.τ).loc Cert.BrFwdReferenceIdeal.main_arg1) = m ((c.tc : Thread Cert.BrFwdReferenceIdeal.nD Cert.BrFwdReferenceIdeal.τ).loc Cert.BrFwdReferenceIdeal.main_arg1))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1))
      ∧ r.2.sem = fun _ => 0)

def quiescent_FoxFwdReferenceIdeal [hFoxFwdReferenceIdeal : Cert.FoxFwdReferenceIdeal.Facts] : Prop :=
  ∀ (m : (ℓ : Loc Cert.FoxFwdReferenceIdeal.nD Cert.FoxFwdReferenceIdeal.τ Cert.FoxFwdReferenceIdeal.sig) → Buf (Elt Ideal) ℓ) (g : Dev Cert.FoxFwdReferenceIdeal.nD → PrngReg), Pre_FoxFwdReferenceIdeal m →
    θ_run (Cert.FoxFwdReferenceIdeal.defs (F := Ideal)) (onTc (τ := Cert.FoxFwdReferenceIdeal.τ) (Cert.FoxFwdReferenceIdeal.main (F := Ideal))) ⟨m, fun _ => 0, g⟩ (fun r => (∀ c : Dev Cert.FoxFwdReferenceIdeal.nD,
      r.2.mem ((c.tc : Thread Cert.FoxFwdReferenceIdeal.nD Cert.FoxFwdReferenceIdeal.τ).loc Cert.FoxFwdReferenceIdeal.main_arg0) = m ((c.tc : Thread Cert.FoxFwdReferenceIdeal.nD Cert.FoxFwdReferenceIdeal.τ).loc Cert.FoxFwdReferenceIdeal.main_arg0)
      ∧ r.2.mem ((c.tc : Thread Cert.FoxFwdReferenceIdeal.nD Cert.FoxFwdReferenceIdeal.τ).loc Cert.FoxFwdReferenceIdeal.main_arg1) = m ((c.tc : Thread Cert.FoxFwdReferenceIdeal.nD Cert.FoxFwdReferenceIdeal.τ).loc Cert.FoxFwdReferenceIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdReferenceIdeal [hGateFwdReferenceIdeal : Cert.GateFwdReferenceIdeal.Facts] : Prop :=
  ∀ (m : (ℓ : Loc Cert.GateFwdReferenceIdeal.nD Cert.GateFwdReferenceIdeal.τ Cert.GateFwdReferenceIdeal.sig) → Buf (Elt Ideal) ℓ) (g : Dev Cert.GateFwdReferenceIdeal.nD → PrngReg), Pre_GateFwdReferenceIdeal m →
    θ_run (Cert.GateFwdReferenceIdeal.defs (F := Ideal)) (onTc (τ := Cert.GateFwdReferenceIdeal.τ) (Cert.GateFwdReferenceIdeal.main (F := Ideal))) ⟨m, fun _ => 0, g⟩ (fun r => (∀ c : Dev Cert.GateFwdReferenceIdeal.nD,
      r.2.mem ((c.tc : Thread Cert.GateFwdReferenceIdeal.nD Cert.GateFwdReferenceIdeal.τ).loc Cert.GateFwdReferenceIdeal.main_arg0) = m ((c.tc : Thread Cert.GateFwdReferenceIdeal.nD Cert.GateFwdReferenceIdeal.τ).loc Cert.GateFwdReferenceIdeal.main_arg0)
      ∧ r.2.mem ((c.tc : Thread Cert.GateFwdReferenceIdeal.nD Cert.GateFwdReferenceIdeal.τ).loc Cert.GateFwdReferenceIdeal.main_arg1) = m ((c.tc : Thread Cert.GateFwdReferenceIdeal.nD Cert.GateFwdReferenceIdeal.τ).loc Cert.GateFwdReferenceIdeal.main_arg1))
      ∧ r.2.sem = fun _ => 0)

def quiescent_OFwd [hOFwd : Cert.OFwd.Facts] : Prop :=
  ∀ (m : (ℓ : Loc Cert.OFwd.nD Cert.OFwd.τ Cert.OFwd.sig) → Buf (Elt Bits) ℓ) (g : Dev Cert.OFwd.nD → PrngReg), Pre_OFwd m →
    θ_run (Cert.OFwd.defs (F := Bits)) (onTc (τ := Cert.OFwd.τ) (Cert.OFwd.main (F := Bits))) ⟨m, fun _ => 0, g⟩ (fun r => (∀ c : Dev Cert.OFwd.nD,
      r.2.mem ((c.tc : Thread Cert.OFwd.nD Cert.OFwd.τ).loc Cert.OFwd.main_arg0) = m ((c.tc : Thread Cert.OFwd.nD Cert.OFwd.τ).loc Cert.OFwd.main_arg0)
      ∧ r.2.mem ((c.tc : Thread Cert.OFwd.nD Cert.OFwd.τ).loc Cert.OFwd.main_arg1) = m ((c.tc : Thread Cert.OFwd.nD Cert.OFwd.τ).loc Cert.OFwd.main_arg1))
      ∧ r.2.sem = fun _ => 0)

def quiescent_OFwdIdeal [hOFwdIdeal : Cert.OFwdIdeal.Facts] : Prop :=
  ∀ (m : (ℓ : Loc Cert.OFwdIdeal.nD Cert.OFwdIdeal.τ Cert.OFwdIdeal.sig) → Buf (Elt Ideal) ℓ) (g : Dev Cert.OFwdIdeal.nD → PrngReg), Pre_OFwdIdeal m →
    θ_run (Cert.OFwdIdeal.defs (F := Ideal)) (onTc (τ := Cert.OFwdIdeal.τ) (Cert.OFwdIdeal.main (F := Ideal))) ⟨m, fun _ => 0, g⟩ (fun r => (∀ c : Dev Cert.OFwdIdeal.nD,
      r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
      ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1))
      ∧ r.2.sem = fun _ => 0)

def quiescent_OFwdReferenceIdeal [hOFwdReferenceIdeal : Cert.OFwdReferenceIdeal.Facts] : Prop :=
  ∀ (m : (ℓ : Loc Cert.OFwdReferenceIdeal.nD Cert.OFwdReferenceIdeal.τ Cert.OFwdReferenceIdeal.sig) → Buf (Elt Ideal) ℓ) (g : Dev Cert.OFwdReferenceIdeal.nD → PrngReg), Pre_OFwdReferenceIdeal m →
    θ_run (Cert.OFwdReferenceIdeal.defs (F := Ideal)) (onTc (τ := Cert.OFwdReferenceIdeal.τ) (Cert.OFwdReferenceIdeal.main (F := Ideal))) ⟨m, fun _ => 0, g⟩ (fun r => (∀ c : Dev Cert.OFwdReferenceIdeal.nD,
      r.2.mem ((c.tc : Thread Cert.OFwdReferenceIdeal.nD Cert.OFwdReferenceIdeal.τ).loc Cert.OFwdReferenceIdeal.main_arg0) = m ((c.tc : Thread Cert.OFwdReferenceIdeal.nD Cert.OFwdReferenceIdeal.τ).loc Cert.OFwdReferenceIdeal.main_arg0)
      ∧ r.2.mem ((c.tc : Thread Cert.OFwdReferenceIdeal.nD Cert.OFwdReferenceIdeal.τ).loc Cert.OFwdReferenceIdeal.main_arg1) = m ((c.tc : Thread Cert.OFwdReferenceIdeal.nD Cert.OFwdReferenceIdeal.τ).loc Cert.OFwdReferenceIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdReferenceIdeal [hUpFwdReferenceIdeal : Cert.UpFwdReferenceIdeal.Facts] : Prop :=
  ∀ (m : (ℓ : Loc Cert.UpFwdReferenceIdeal.nD Cert.UpFwdReferenceIdeal.τ Cert.UpFwdReferenceIdeal.sig) → Buf (Elt Ideal) ℓ) (g : Dev Cert.UpFwdReferenceIdeal.nD → PrngReg), Pre_UpFwdReferenceIdeal m →
    θ_run (Cert.UpFwdReferenceIdeal.defs (F := Ideal)) (onTc (τ := Cert.UpFwdReferenceIdeal.τ) (Cert.UpFwdReferenceIdeal.main (F := Ideal))) ⟨m, fun _ => 0, g⟩ (fun r => (∀ c : Dev Cert.UpFwdReferenceIdeal.nD,
      r.2.mem ((c.tc : Thread Cert.UpFwdReferenceIdeal.nD Cert.UpFwdReferenceIdeal.τ).loc Cert.UpFwdReferenceIdeal.main_arg0) = m ((c.tc : Thread Cert.UpFwdReferenceIdeal.nD Cert.UpFwdReferenceIdeal.τ).loc Cert.UpFwdReferenceIdeal.main_arg0)
      ∧ r.2.mem ((c.tc : Thread Cert.UpFwdReferenceIdeal.nD Cert.UpFwdReferenceIdeal.τ).loc Cert.UpFwdReferenceIdeal.main_arg1) = m ((c.tc : Thread Cert.UpFwdReferenceIdeal.nD Cert.UpFwdReferenceIdeal.τ).loc Cert.UpFwdReferenceIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdReferenceIdeal [hDownFwdReferenceIdeal : Cert.DownFwdReferenceIdeal.Facts] : Prop :=
  ∀ (m : (ℓ : Loc Cert.DownFwdReferenceIdeal.nD Cert.DownFwdReferenceIdeal.τ Cert.DownFwdReferenceIdeal.sig) → Buf (Elt Ideal) ℓ) (g : Dev Cert.DownFwdReferenceIdeal.nD → PrngReg), Pre_DownFwdReferenceIdeal m →
    θ_run (Cert.DownFwdReferenceIdeal.defs (F := Ideal)) (onTc (τ := Cert.DownFwdReferenceIdeal.τ) (Cert.DownFwdReferenceIdeal.main (F := Ideal))) ⟨m, fun _ => 0, g⟩ (fun r => (∀ c : Dev Cert.DownFwdReferenceIdeal.nD,
      r.2.mem ((c.tc : Thread Cert.DownFwdReferenceIdeal.nD Cert.DownFwdReferenceIdeal.τ).loc Cert.DownFwdReferenceIdeal.main_arg0) = m ((c.tc : Thread Cert.DownFwdReferenceIdeal.nD Cert.DownFwdReferenceIdeal.τ).loc Cert.DownFwdReferenceIdeal.main_arg0)
      ∧ r.2.mem ((c.tc : Thread Cert.DownFwdReferenceIdeal.nD Cert.DownFwdReferenceIdeal.τ).loc Cert.DownFwdReferenceIdeal.main_arg1) = m ((c.tc : Thread Cert.DownFwdReferenceIdeal.nD Cert.DownFwdReferenceIdeal.τ).loc Cert.DownFwdReferenceIdeal.main_arg1))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdReferenceIdeal [hFfnBwdReferenceIdeal : Cert.FfnBwdReferenceIdeal.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3))
      ∧ r.2.sem = fun _ => 0)

def quiescent_FfnBwdReferenceIdeal_pre_ffn_finite [hFfnBwdReferenceIdeal : Cert.FfnBwdReferenceIdeal.Facts] [hPre_ffn_finite : Cert.Pre_ffn_finite.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal_ffn_finite m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixBwdReferenceIdeal [hMixBwdReferenceIdeal : Cert.MixBwdReferenceIdeal.Facts] : Prop :=
  ∀ (m : (ℓ : Loc Cert.MixBwdReferenceIdeal.nD Cert.MixBwdReferenceIdeal.τ Cert.MixBwdReferenceIdeal.sig) → Buf (Elt Ideal) ℓ) (g : Dev Cert.MixBwdReferenceIdeal.nD → PrngReg), Pre_MixBwdReferenceIdeal m →
    θ_run (Cert.MixBwdReferenceIdeal.defs (F := Ideal)) (onTc (τ := Cert.MixBwdReferenceIdeal.τ) (Cert.MixBwdReferenceIdeal.main (F := Ideal))) ⟨m, fun _ => 0, g⟩ (fun r => (∀ c : Dev Cert.MixBwdReferenceIdeal.nD,
      r.2.mem ((c.tc : Thread Cert.MixBwdReferenceIdeal.nD Cert.MixBwdReferenceIdeal.τ).loc Cert.MixBwdReferenceIdeal.main_arg0) = m ((c.tc : Thread Cert.MixBwdReferenceIdeal.nD Cert.MixBwdReferenceIdeal.τ).loc Cert.MixBwdReferenceIdeal.main_arg0)
      ∧ r.2.mem ((c.tc : Thread Cert.MixBwdReferenceIdeal.nD Cert.MixBwdReferenceIdeal.τ).loc Cert.MixBwdReferenceIdeal.main_arg1) = m ((c.tc : Thread Cert.MixBwdReferenceIdeal.nD Cert.MixBwdReferenceIdeal.τ).loc Cert.MixBwdReferenceIdeal.main_arg1)
      ∧ r.2.mem ((c.tc : Thread Cert.MixBwdReferenceIdeal.nD Cert.MixBwdReferenceIdeal.τ).loc Cert.MixBwdReferenceIdeal.main_arg2) = m ((c.tc : Thread Cert.MixBwdReferenceIdeal.nD Cert.MixBwdReferenceIdeal.τ).loc Cert.MixBwdReferenceIdeal.main_arg2)
      ∧ r.2.mem ((c.tc : Thread Cert.MixBwdReferenceIdeal.nD Cert.MixBwdReferenceIdeal.τ).loc Cert.MixBwdReferenceIdeal.main_arg3) = m ((c.tc : Thread Cert.MixBwdReferenceIdeal.nD Cert.MixBwdReferenceIdeal.τ).loc Cert.MixBwdReferenceIdeal.main_arg3)
      ∧ r.2.mem ((c.tc : Thread Cert.MixBwdReferenceIdeal.nD Cert.MixBwdReferenceIdeal.τ).loc Cert.MixBwdReferenceIdeal.main_arg4) = m ((c.tc : Thread Cert.MixBwdReferenceIdeal.nD Cert.MixBwdReferenceIdeal.τ).loc Cert.MixBwdReferenceIdeal.main_arg4)
      ∧ r.2.mem ((c.tc : Thread Cert.MixBwdReferenceIdeal.nD Cert.MixBwdReferenceIdeal.τ).loc Cert.MixBwdReferenceIdeal.main_arg5) = m ((c.tc : Thread Cert.MixBwdReferenceIdeal.nD Cert.MixBwdReferenceIdeal.τ).loc Cert.MixBwdReferenceIdeal.main_arg5))
      ∧ r.2.sem = fun _ => 0)

def quiescent_ResBwd [hResBwd : Cert.ResBwd.Facts] : Prop :=
  ∀ (m : (ℓ : Loc Cert.ResBwd.nD Cert.ResBwd.τ Cert.ResBwd.sig) → Buf (Elt Bits) ℓ) (g : Dev Cert.ResBwd.nD → PrngReg), Pre_ResBwd m →
    θ_run (Cert.ResBwd.defs (F := Bits)) (onTc (τ := Cert.ResBwd.τ) (Cert.ResBwd.main (F := Bits))) ⟨m, fun _ => 0, g⟩ (fun r => (∀ c : Dev Cert.ResBwd.nD,
      r.2.mem ((c.tc : Thread Cert.ResBwd.nD Cert.ResBwd.τ).loc Cert.ResBwd.main_arg0) = m ((c.tc : Thread Cert.ResBwd.nD Cert.ResBwd.τ).loc Cert.ResBwd.main_arg0)
      ∧ r.2.mem ((c.tc : Thread Cert.ResBwd.nD Cert.ResBwd.τ).loc Cert.ResBwd.main_arg1) = m ((c.tc : Thread Cert.ResBwd.nD Cert.ResBwd.τ).loc Cert.ResBwd.main_arg1)
      ∧ r.2.mem ((c.tc : Thread Cert.ResBwd.nD Cert.ResBwd.τ).loc Cert.ResBwd.main_arg2) = m ((c.tc : Thread Cert.ResBwd.nD Cert.ResBwd.τ).loc Cert.ResBwd.main_arg2))
      ∧ r.2.sem = fun _ => 0)

def quiescent_ResBwdIdeal [hResBwdIdeal : Cert.ResBwdIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg), Pre_ResBwdIdeal m →
    θ_run (Cert.ResBwdIdeal.defs (F := Ideal)) (onTc (τ := Cert.ResBwdIdeal.τ) (Cert.ResBwdIdeal.main (F := Ideal))) ⟨m, fun _ => 0, g⟩ (fun r => (∀ c : Dev Cert.ResBwdIdeal.nD,
      r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
      ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
      ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2))
      ∧ r.2.sem = fun _ => 0)

def quiescent_ResBwdReferenceIdeal [hResBwdReferenceIdeal : Cert.ResBwdReferenceIdeal.Facts] : Prop :=
  ∀ (m : (ℓ : Loc Cert.ResBwdReferenceIdeal.nD Cert.ResBwdReferenceIdeal.τ Cert.ResBwdReferenceIdeal.sig) → Buf (Elt Ideal) ℓ) (g : Dev Cert.ResBwdReferenceIdeal.nD → PrngReg), Pre_ResBwdReferenceIdeal m →
    θ_run (Cert.ResBwdReferenceIdeal.defs (F := Ideal)) (onTc (τ := Cert.ResBwdReferenceIdeal.τ) (Cert.ResBwdReferenceIdeal.main (F := Ideal))) ⟨m, fun _ => 0, g⟩ (fun r => (∀ c : Dev Cert.ResBwdReferenceIdeal.nD,
      r.2.mem ((c.tc : Thread Cert.ResBwdReferenceIdeal.nD Cert.ResBwdReferenceIdeal.τ).loc Cert.ResBwdReferenceIdeal.main_arg0) = m ((c.tc : Thread Cert.ResBwdReferenceIdeal.nD Cert.ResBwdReferenceIdeal.τ).loc Cert.ResBwdReferenceIdeal.main_arg0)
      ∧ r.2.mem ((c.tc : Thread Cert.ResBwdReferenceIdeal.nD Cert.ResBwdReferenceIdeal.τ).loc Cert.ResBwdReferenceIdeal.main_arg1) = m ((c.tc : Thread Cert.ResBwdReferenceIdeal.nD Cert.ResBwdReferenceIdeal.τ).loc Cert.ResBwdReferenceIdeal.main_arg1)
      ∧ r.2.mem ((c.tc : Thread Cert.ResBwdReferenceIdeal.nD Cert.ResBwdReferenceIdeal.τ).loc Cert.ResBwdReferenceIdeal.main_arg2) = m ((c.tc : Thread Cert.ResBwdReferenceIdeal.nD Cert.ResBwdReferenceIdeal.τ).loc Cert.ResBwdReferenceIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3)
      ∧ r.2.mem ((c.tc : Thread Cert.NormBwdReferenceIdeal.nD Cert.NormBwdReferenceIdeal.τ).loc Cert.NormBwdReferenceIdeal.main_arg4) = m ((c.tc : Thread Cert.NormBwdReferenceIdeal.nD Cert.NormBwdReferenceIdeal.τ).loc Cert.NormBwdReferenceIdeal.main_arg4)
      ∧ r.2.mem ((c.tc : Thread Cert.NormBwdReferenceIdeal.nD Cert.NormBwdReferenceIdeal.τ).loc Cert.NormBwdReferenceIdeal.main_arg5) = m ((c.tc : Thread Cert.NormBwdReferenceIdeal.nD Cert.NormBwdReferenceIdeal.τ).loc Cert.NormBwdReferenceIdeal.main_arg5))
      ∧ r.2.sem = fun _ => 0)

def quiescent_RopeBwd [hRopeBwd : Cert.RopeBwd.Facts] : Prop :=
  ∀ (m : (ℓ : Loc Cert.RopeBwd.nD Cert.RopeBwd.τ Cert.RopeBwd.sig) → Buf (Elt Bits) ℓ) (g : Dev Cert.RopeBwd.nD → PrngReg), Pre_RopeBwd m →
    θ_run (Cert.RopeBwd.defs (F := Bits)) (onTc (τ := Cert.RopeBwd.τ) (Cert.RopeBwd.main (F := Bits))) ⟨m, fun _ => 0, g⟩ (fun r => (∀ c : Dev Cert.RopeBwd.nD,
      r.2.mem ((c.tc : Thread Cert.RopeBwd.nD Cert.RopeBwd.τ).loc Cert.RopeBwd.main_arg0) = m ((c.tc : Thread Cert.RopeBwd.nD Cert.RopeBwd.τ).loc Cert.RopeBwd.main_arg0)
      ∧ r.2.mem ((c.tc : Thread Cert.RopeBwd.nD Cert.RopeBwd.τ).loc Cert.RopeBwd.main_arg1) = m ((c.tc : Thread Cert.RopeBwd.nD Cert.RopeBwd.τ).loc Cert.RopeBwd.main_arg1)
      ∧ r.2.mem ((c.tc : Thread Cert.RopeBwd.nD Cert.RopeBwd.τ).loc Cert.RopeBwd.main_arg2) = m ((c.tc : Thread Cert.RopeBwd.nD Cert.RopeBwd.τ).loc Cert.RopeBwd.main_arg2)
      ∧ r.2.mem ((c.tc : Thread Cert.RopeBwd.nD Cert.RopeBwd.τ).loc Cert.RopeBwd.main_arg3) = m ((c.tc : Thread Cert.RopeBwd.nD Cert.RopeBwd.τ).loc Cert.RopeBwd.main_arg3))
      ∧ r.2.sem = fun _ => 0)

def quiescent_RopeBwdIdeal [hRopeBwdIdeal : Cert.RopeBwdIdeal.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg), Pre_RopeBwdIdeal m →
    θ_run (Cert.RopeBwdIdeal.defs (F := Ideal)) (onTc (τ := Cert.RopeBwdIdeal.τ) (Cert.RopeBwdIdeal.main (F := Ideal))) ⟨m, fun _ => 0, g⟩ (fun r => (∀ c : Dev Cert.RopeBwdIdeal.nD,
      r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
      ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
      ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
      ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3))
      ∧ r.2.sem = fun _ => 0)

def quiescent_RopeBwdReferenceIdeal [hRopeBwdReferenceIdeal : Cert.RopeBwdReferenceIdeal.Facts] : Prop :=
  ∀ (m : (ℓ : Loc Cert.RopeBwdReferenceIdeal.nD Cert.RopeBwdReferenceIdeal.τ Cert.RopeBwdReferenceIdeal.sig) → Buf (Elt Ideal) ℓ) (g : Dev Cert.RopeBwdReferenceIdeal.nD → PrngReg), Pre_RopeBwdReferenceIdeal m →
    θ_run (Cert.RopeBwdReferenceIdeal.defs (F := Ideal)) (onTc (τ := Cert.RopeBwdReferenceIdeal.τ) (Cert.RopeBwdReferenceIdeal.main (F := Ideal))) ⟨m, fun _ => 0, g⟩ (fun r => (∀ c : Dev Cert.RopeBwdReferenceIdeal.nD,
      r.2.mem ((c.tc : Thread Cert.RopeBwdReferenceIdeal.nD Cert.RopeBwdReferenceIdeal.τ).loc Cert.RopeBwdReferenceIdeal.main_arg0) = m ((c.tc : Thread Cert.RopeBwdReferenceIdeal.nD Cert.RopeBwdReferenceIdeal.τ).loc Cert.RopeBwdReferenceIdeal.main_arg0)
      ∧ r.2.mem ((c.tc : Thread Cert.RopeBwdReferenceIdeal.nD Cert.RopeBwdReferenceIdeal.τ).loc Cert.RopeBwdReferenceIdeal.main_arg1) = m ((c.tc : Thread Cert.RopeBwdReferenceIdeal.nD Cert.RopeBwdReferenceIdeal.τ).loc Cert.RopeBwdReferenceIdeal.main_arg1)
      ∧ r.2.mem ((c.tc : Thread Cert.RopeBwdReferenceIdeal.nD Cert.RopeBwdReferenceIdeal.τ).loc Cert.RopeBwdReferenceIdeal.main_arg2) = m ((c.tc : Thread Cert.RopeBwdReferenceIdeal.nD Cert.RopeBwdReferenceIdeal.τ).loc Cert.RopeBwdReferenceIdeal.main_arg2)
      ∧ r.2.mem ((c.tc : Thread Cert.RopeBwdReferenceIdeal.nD Cert.RopeBwdReferenceIdeal.τ).loc Cert.RopeBwdReferenceIdeal.main_arg3) = m ((c.tc : Thread Cert.RopeBwdReferenceIdeal.nD Cert.RopeBwdReferenceIdeal.τ).loc Cert.RopeBwdReferenceIdeal.main_arg3))
      ∧ r.2.sem = fun _ => 0)

def quiescent_ResFwd [hResFwd : Cert.ResFwd.Facts] : Prop :=
  ∀ (m : (ℓ : Loc Cert.ResFwd.nD Cert.ResFwd.τ Cert.ResFwd.sig) → Buf (Elt Bits) ℓ) (g : Dev Cert.ResFwd.nD → PrngReg), Pre_ResFwd m →
    θ_run (Cert.ResFwd.defs (F := Bits)) (onTc (τ := Cert.ResFwd.τ) (Cert.ResFwd.main (F := Bits))) ⟨m, fun _ => 0, g⟩ (fun r => (∀ c : Dev Cert.ResFwd.nD,
      r.2.mem ((c.tc : Thread Cert.ResFwd.nD Cert.ResFwd.τ).loc Cert.ResFwd.main_arg0) = m ((c.tc : Thread Cert.ResFwd.nD Cert.ResFwd.τ).loc Cert.ResFwd.main_arg0)
      ∧ r.2.mem ((c.tc : Thread Cert.ResFwd.nD Cert.ResFwd.τ).loc Cert.ResFwd.main_arg1) = m ((c.tc : Thread Cert.ResFwd.nD Cert.ResFwd.τ).loc Cert.ResFwd.main_arg1)
      ∧ r.2.mem ((c.tc : Thread Cert.ResFwd.nD Cert.ResFwd.τ).loc Cert.ResFwd.main_arg2) = m ((c.tc : Thread Cert.ResFwd.nD Cert.ResFwd.τ).loc Cert.ResFwd.main_arg2))
      ∧ r.2.sem = fun _ => 0)

def quiescent_ResFwdIdeal [hResFwdIdeal : Cert.ResFwdIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg), Pre_ResFwdIdeal m →
    θ_run (Cert.ResFwdIdeal.defs (F := Ideal)) (onTc (τ := Cert.ResFwdIdeal.τ) (Cert.ResFwdIdeal.main (F := Ideal))) ⟨m, fun _ => 0, g⟩ (fun r => (∀ c : Dev Cert.ResFwdIdeal.nD,
      r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
      ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
      ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2))
      ∧ r.2.sem = fun _ => 0)

def quiescent_ResFwdReferenceIdeal [hResFwdReferenceIdeal : Cert.ResFwdReferenceIdeal.Facts] : Prop :=
  ∀ (m : (ℓ : Loc Cert.ResFwdReferenceIdeal.nD Cert.ResFwdReferenceIdeal.τ Cert.ResFwdReferenceIdeal.sig) → Buf (Elt Ideal) ℓ) (g : Dev Cert.ResFwdReferenceIdeal.nD → PrngReg), Pre_ResFwdReferenceIdeal m →
    θ_run (Cert.ResFwdReferenceIdeal.defs (F := Ideal)) (onTc (τ := Cert.ResFwdReferenceIdeal.τ) (Cert.ResFwdReferenceIdeal.main (F := Ideal))) ⟨m, fun _ => 0, g⟩ (fun r => (∀ c : Dev Cert.ResFwdReferenceIdeal.nD,
      r.2.mem ((c.tc : Thread Cert.ResFwdReferenceIdeal.nD Cert.ResFwdReferenceIdeal.τ).loc Cert.ResFwdReferenceIdeal.main_arg0) = m ((c.tc : Thread Cert.ResFwdReferenceIdeal.nD Cert.ResFwdReferenceIdeal.τ).loc Cert.ResFwdReferenceIdeal.main_arg0)
      ∧ r.2.mem ((c.tc : Thread Cert.ResFwdReferenceIdeal.nD Cert.ResFwdReferenceIdeal.τ).loc Cert.ResFwdReferenceIdeal.main_arg1) = m ((c.tc : Thread Cert.ResFwdReferenceIdeal.nD Cert.ResFwdReferenceIdeal.τ).loc Cert.ResFwdReferenceIdeal.main_arg1)
      ∧ r.2.mem ((c.tc : Thread Cert.ResFwdReferenceIdeal.nD Cert.ResFwdReferenceIdeal.τ).loc Cert.ResFwdReferenceIdeal.main_arg2) = m ((c.tc : Thread Cert.ResFwdReferenceIdeal.nD Cert.ResFwdReferenceIdeal.τ).loc Cert.ResFwdReferenceIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1)
      ∧ r.2.mem ((c.tc : Thread Cert.NormFwdReferenceIdeal.nD Cert.NormFwdReferenceIdeal.τ).loc Cert.NormFwdReferenceIdeal.main_arg2) = m ((c.tc : Thread Cert.NormFwdReferenceIdeal.nD Cert.NormFwdReferenceIdeal.τ).loc Cert.NormFwdReferenceIdeal.main_arg2)
      ∧ r.2.mem ((c.tc : Thread Cert.NormFwdReferenceIdeal.nD Cert.NormFwdReferenceIdeal.τ).loc Cert.NormFwdReferenceIdeal.main_arg3) = m ((c.tc : Thread Cert.NormFwdReferenceIdeal.nD Cert.NormFwdReferenceIdeal.τ).loc Cert.NormFwdReferenceIdeal.main_arg3))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3)
      ∧ r.2.mem ((c.tc : Thread Cert.ResNorm.nD Cert.ResNorm.τ).loc Cert.ResNorm.main_arg4) = m ((c.tc : Thread Cert.ResNorm.nD Cert.ResNorm.τ).loc Cert.ResNorm.main_arg4)
      ∧ r.2.mem ((c.tc : Thread Cert.ResNorm.nD Cert.ResNorm.τ).loc Cert.ResNorm.main_arg5) = m ((c.tc : Thread Cert.ResNorm.nD Cert.ResNorm.τ).loc Cert.ResNorm.main_arg5))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3)
      ∧ r.2.mem ((c.tc : Thread Cert.ResNormIdeal.nD Cert.ResNormIdeal.τ).loc Cert.ResNormIdeal.main_arg4) = m ((c.tc : Thread Cert.ResNormIdeal.nD Cert.ResNormIdeal.τ).loc Cert.ResNormIdeal.main_arg4)
      ∧ r.2.mem ((c.tc : Thread Cert.ResNormIdeal.nD Cert.ResNormIdeal.τ).loc Cert.ResNormIdeal.main_arg5) = m ((c.tc : Thread Cert.ResNormIdeal.nD Cert.ResNormIdeal.τ).loc Cert.ResNormIdeal.main_arg5))
      ∧ r.2.sem = fun _ => 0)

def quiescent_ResNormReferenceIdeal [hResNormReferenceIdeal : Cert.ResNormReferenceIdeal.Facts] : Prop :=
  ∀ (m : (ℓ : Loc Cert.ResNormReferenceIdeal.nD Cert.ResNormReferenceIdeal.τ Cert.ResNormReferenceIdeal.sig) → Buf (Elt Ideal) ℓ) (g : Dev Cert.ResNormReferenceIdeal.nD → PrngReg), Pre_ResNormReferenceIdeal m →
    θ_run (Cert.ResNormReferenceIdeal.defs (F := Ideal)) (onTc (τ := Cert.ResNormReferenceIdeal.τ) (Cert.ResNormReferenceIdeal.main (F := Ideal))) ⟨m, fun _ => 0, g⟩ (fun r => (∀ c : Dev Cert.ResNormReferenceIdeal.nD,
      r.2.mem ((c.tc : Thread Cert.ResNormReferenceIdeal.nD Cert.ResNormReferenceIdeal.τ).loc Cert.ResNormReferenceIdeal.main_arg0) = m ((c.tc : Thread Cert.ResNormReferenceIdeal.nD Cert.ResNormReferenceIdeal.τ).loc Cert.ResNormReferenceIdeal.main_arg0)
      ∧ r.2.mem ((c.tc : Thread Cert.ResNormReferenceIdeal.nD Cert.ResNormReferenceIdeal.τ).loc Cert.ResNormReferenceIdeal.main_arg1) = m ((c.tc : Thread Cert.ResNormReferenceIdeal.nD Cert.ResNormReferenceIdeal.τ).loc Cert.ResNormReferenceIdeal.main_arg1)
      ∧ r.2.mem ((c.tc : Thread Cert.ResNormReferenceIdeal.nD Cert.ResNormReferenceIdeal.τ).loc Cert.ResNormReferenceIdeal.main_arg2) = m ((c.tc : Thread Cert.ResNormReferenceIdeal.nD Cert.ResNormReferenceIdeal.τ).loc Cert.ResNormReferenceIdeal.main_arg2)
      ∧ r.2.mem ((c.tc : Thread Cert.ResNormReferenceIdeal.nD Cert.ResNormReferenceIdeal.τ).loc Cert.ResNormReferenceIdeal.main_arg3) = m ((c.tc : Thread Cert.ResNormReferenceIdeal.nD Cert.ResNormReferenceIdeal.τ).loc Cert.ResNormReferenceIdeal.main_arg3)
      ∧ r.2.mem ((c.tc : Thread Cert.ResNormReferenceIdeal.nD Cert.ResNormReferenceIdeal.τ).loc Cert.ResNormReferenceIdeal.main_arg4) = m ((c.tc : Thread Cert.ResNormReferenceIdeal.nD Cert.ResNormReferenceIdeal.τ).loc Cert.ResNormReferenceIdeal.main_arg4)
      ∧ r.2.mem ((c.tc : Thread Cert.ResNormReferenceIdeal.nD Cert.ResNormReferenceIdeal.τ).loc Cert.ResNormReferenceIdeal.main_arg5) = m ((c.tc : Thread Cert.ResNormReferenceIdeal.nD Cert.ResNormReferenceIdeal.τ).loc Cert.ResNormReferenceIdeal.main_arg5))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ r.2.sem = fun _ => 0)

def quiescent_MixFwdReferenceIdeal [hMixFwdReferenceIdeal : Cert.MixFwdReferenceIdeal.Facts] : Prop :=
  ∀ (m : (ℓ : Loc Cert.MixFwdReferenceIdeal.nD Cert.MixFwdReferenceIdeal.τ Cert.MixFwdReferenceIdeal.sig) → Buf (Elt Ideal) ℓ) (g : Dev Cert.MixFwdReferenceIdeal.nD → PrngReg), Pre_MixFwdReferenceIdeal m →
    θ_run (Cert.MixFwdReferenceIdeal.defs (F := Ideal)) (onTc (τ := Cert.MixFwdReferenceIdeal.τ) (Cert.MixFwdReferenceIdeal.main (F := Ideal))) ⟨m, fun _ => 0, g⟩ (fun r => (∀ c : Dev Cert.MixFwdReferenceIdeal.nD,
      r.2.mem ((c.tc : Thread Cert.MixFwdReferenceIdeal.nD Cert.MixFwdReferenceIdeal.τ).loc Cert.MixFwdReferenceIdeal.main_arg0) = m ((c.tc : Thread Cert.MixFwdReferenceIdeal.nD Cert.MixFwdReferenceIdeal.τ).loc Cert.MixFwdReferenceIdeal.main_arg0)
      ∧ r.2.mem ((c.tc : Thread Cert.MixFwdReferenceIdeal.nD Cert.MixFwdReferenceIdeal.τ).loc Cert.MixFwdReferenceIdeal.main_arg1) = m ((c.tc : Thread Cert.MixFwdReferenceIdeal.nD Cert.MixFwdReferenceIdeal.τ).loc Cert.MixFwdReferenceIdeal.main_arg1)
      ∧ r.2.mem ((c.tc : Thread Cert.MixFwdReferenceIdeal.nD Cert.MixFwdReferenceIdeal.τ).loc Cert.MixFwdReferenceIdeal.main_arg2) = m ((c.tc : Thread Cert.MixFwdReferenceIdeal.nD Cert.MixFwdReferenceIdeal.τ).loc Cert.MixFwdReferenceIdeal.main_arg2)
      ∧ r.2.mem ((c.tc : Thread Cert.MixFwdReferenceIdeal.nD Cert.MixFwdReferenceIdeal.τ).loc Cert.MixFwdReferenceIdeal.main_arg3) = m ((c.tc : Thread Cert.MixFwdReferenceIdeal.nD Cert.MixFwdReferenceIdeal.τ).loc Cert.MixFwdReferenceIdeal.main_arg3)
      ∧ r.2.mem ((c.tc : Thread Cert.MixFwdReferenceIdeal.nD Cert.MixFwdReferenceIdeal.τ).loc Cert.MixFwdReferenceIdeal.main_arg4) = m ((c.tc : Thread Cert.MixFwdReferenceIdeal.nD Cert.MixFwdReferenceIdeal.τ).loc Cert.MixFwdReferenceIdeal.main_arg4))
      ∧ r.2.sem = fun _ => 0)

def quiescent_RopeFwd [hRopeFwd : Cert.RopeFwd.Facts] : Prop :=
  ∀ (m : (ℓ : Loc Cert.RopeFwd.nD Cert.RopeFwd.τ Cert.RopeFwd.sig) → Buf (Elt Bits) ℓ) (g : Dev Cert.RopeFwd.nD → PrngReg), Pre_RopeFwd m →
    θ_run (Cert.RopeFwd.defs (F := Bits)) (onTc (τ := Cert.RopeFwd.τ) (Cert.RopeFwd.main (F := Bits))) ⟨m, fun _ => 0, g⟩ (fun r => (∀ c : Dev Cert.RopeFwd.nD,
      r.2.mem ((c.tc : Thread Cert.RopeFwd.nD Cert.RopeFwd.τ).loc Cert.RopeFwd.main_arg0) = m ((c.tc : Thread Cert.RopeFwd.nD Cert.RopeFwd.τ).loc Cert.RopeFwd.main_arg0)
      ∧ r.2.mem ((c.tc : Thread Cert.RopeFwd.nD Cert.RopeFwd.τ).loc Cert.RopeFwd.main_arg1) = m ((c.tc : Thread Cert.RopeFwd.nD Cert.RopeFwd.τ).loc Cert.RopeFwd.main_arg1)
      ∧ r.2.mem ((c.tc : Thread Cert.RopeFwd.nD Cert.RopeFwd.τ).loc Cert.RopeFwd.main_arg2) = m ((c.tc : Thread Cert.RopeFwd.nD Cert.RopeFwd.τ).loc Cert.RopeFwd.main_arg2))
      ∧ r.2.sem = fun _ => 0)

def quiescent_RopeFwdIdeal [hRopeFwdIdeal : Cert.RopeFwdIdeal.Facts] : Prop :=
  ∀ (m : (ℓ : Loc Cert.RopeFwdIdeal.nD Cert.RopeFwdIdeal.τ Cert.RopeFwdIdeal.sig) → Buf (Elt Ideal) ℓ) (g : Dev Cert.RopeFwdIdeal.nD → PrngReg), Pre_RopeFwdIdeal m →
    θ_run (Cert.RopeFwdIdeal.defs (F := Ideal)) (onTc (τ := Cert.RopeFwdIdeal.τ) (Cert.RopeFwdIdeal.main (F := Ideal))) ⟨m, fun _ => 0, g⟩ (fun r => (∀ c : Dev Cert.RopeFwdIdeal.nD,
      r.2.mem ((c.tc : Thread Cert.RopeFwdIdeal.nD Cert.RopeFwdIdeal.τ).loc Cert.RopeFwdIdeal.main_arg0) = m ((c.tc : Thread Cert.RopeFwdIdeal.nD Cert.RopeFwdIdeal.τ).loc Cert.RopeFwdIdeal.main_arg0)
      ∧ r.2.mem ((c.tc : Thread Cert.RopeFwdIdeal.nD Cert.RopeFwdIdeal.τ).loc Cert.RopeFwdIdeal.main_arg1) = m ((c.tc : Thread Cert.RopeFwdIdeal.nD Cert.RopeFwdIdeal.τ).loc Cert.RopeFwdIdeal.main_arg1)
      ∧ r.2.mem ((c.tc : Thread Cert.RopeFwdIdeal.nD Cert.RopeFwdIdeal.τ).loc Cert.RopeFwdIdeal.main_arg2) = m ((c.tc : Thread Cert.RopeFwdIdeal.nD Cert.RopeFwdIdeal.τ).loc Cert.RopeFwdIdeal.main_arg2))
      ∧ r.2.sem = fun _ => 0)

def quiescent_RopeFwdReferenceIdeal [hRopeFwdReferenceIdeal : Cert.RopeFwdReferenceIdeal.Facts] : Prop :=
  ∀ (m : (ℓ : Loc Cert.RopeFwdReferenceIdeal.nD Cert.RopeFwdReferenceIdeal.τ Cert.RopeFwdReferenceIdeal.sig) → Buf (Elt Ideal) ℓ) (g : Dev Cert.RopeFwdReferenceIdeal.nD → PrngReg), Pre_RopeFwdReferenceIdeal m →
    θ_run (Cert.RopeFwdReferenceIdeal.defs (F := Ideal)) (onTc (τ := Cert.RopeFwdReferenceIdeal.τ) (Cert.RopeFwdReferenceIdeal.main (F := Ideal))) ⟨m, fun _ => 0, g⟩ (fun r => (∀ c : Dev Cert.RopeFwdReferenceIdeal.nD,
      r.2.mem ((c.tc : Thread Cert.RopeFwdReferenceIdeal.nD Cert.RopeFwdReferenceIdeal.τ).loc Cert.RopeFwdReferenceIdeal.main_arg0) = m ((c.tc : Thread Cert.RopeFwdReferenceIdeal.nD Cert.RopeFwdReferenceIdeal.τ).loc Cert.RopeFwdReferenceIdeal.main_arg0)
      ∧ r.2.mem ((c.tc : Thread Cert.RopeFwdReferenceIdeal.nD Cert.RopeFwdReferenceIdeal.τ).loc Cert.RopeFwdReferenceIdeal.main_arg1) = m ((c.tc : Thread Cert.RopeFwdReferenceIdeal.nD Cert.RopeFwdReferenceIdeal.τ).loc Cert.RopeFwdReferenceIdeal.main_arg1)
      ∧ r.2.mem ((c.tc : Thread Cert.RopeFwdReferenceIdeal.nD Cert.RopeFwdReferenceIdeal.τ).loc Cert.RopeFwdReferenceIdeal.main_arg2) = m ((c.tc : Thread Cert.RopeFwdReferenceIdeal.nD Cert.RopeFwdReferenceIdeal.τ).loc Cert.RopeFwdReferenceIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2))
      ∧ r.2.sem = fun _ => 0)

def quiescent_RetPost [hRetPost : Cert.RetPost.Facts] : Prop :=
  ∀ (m : (ℓ : Loc Cert.RetPost.nD Cert.RetPost.τ Cert.RetPost.sig) → Buf (Elt Bits) ℓ) (g : Dev Cert.RetPost.nD → PrngReg), Pre_RetPost m →
    θ_run (Cert.RetPost.defs (F := Bits)) (onTc (τ := Cert.RetPost.τ) (Cert.RetPost.main (F := Bits))) ⟨m, fun _ => 0, g⟩ (fun r => (∀ c : Dev Cert.RetPost.nD,
      r.2.mem ((c.tc : Thread Cert.RetPost.nD Cert.RetPost.τ).loc Cert.RetPost.main_arg0) = m ((c.tc : Thread Cert.RetPost.nD Cert.RetPost.τ).loc Cert.RetPost.main_arg0)
      ∧ r.2.mem ((c.tc : Thread Cert.RetPost.nD Cert.RetPost.τ).loc Cert.RetPost.main_arg1) = m ((c.tc : Thread Cert.RetPost.nD Cert.RetPost.τ).loc Cert.RetPost.main_arg1)
      ∧ r.2.mem ((c.tc : Thread Cert.RetPost.nD Cert.RetPost.τ).loc Cert.RetPost.main_arg2) = m ((c.tc : Thread Cert.RetPost.nD Cert.RetPost.τ).loc Cert.RetPost.main_arg2))
      ∧ r.2.sem = fun _ => 0)

def quiescent_RetPostIdeal [hRetPostIdeal : Cert.RetPostIdeal.Facts] : Prop :=
  ∀ (m : (ℓ : Loc Cert.RetPostIdeal.nD Cert.RetPostIdeal.τ Cert.RetPostIdeal.sig) → Buf (Elt Ideal) ℓ) (g : Dev Cert.RetPostIdeal.nD → PrngReg), Pre_RetPostIdeal m →
    θ_run (Cert.RetPostIdeal.defs (F := Ideal)) (onTc (τ := Cert.RetPostIdeal.τ) (Cert.RetPostIdeal.main (F := Ideal))) ⟨m, fun _ => 0, g⟩ (fun r => (∀ c : Dev Cert.RetPostIdeal.nD,
      r.2.mem ((c.tc : Thread Cert.RetPostIdeal.nD Cert.RetPostIdeal.τ).loc Cert.RetPostIdeal.main_arg0) = m ((c.tc : Thread Cert.RetPostIdeal.nD Cert.RetPostIdeal.τ).loc Cert.RetPostIdeal.main_arg0)
      ∧ r.2.mem ((c.tc : Thread Cert.RetPostIdeal.nD Cert.RetPostIdeal.τ).loc Cert.RetPostIdeal.main_arg1) = m ((c.tc : Thread Cert.RetPostIdeal.nD Cert.RetPostIdeal.τ).loc Cert.RetPostIdeal.main_arg1)
      ∧ r.2.mem ((c.tc : Thread Cert.RetPostIdeal.nD Cert.RetPostIdeal.τ).loc Cert.RetPostIdeal.main_arg2) = m ((c.tc : Thread Cert.RetPostIdeal.nD Cert.RetPostIdeal.τ).loc Cert.RetPostIdeal.main_arg2))
      ∧ r.2.sem = fun _ => 0)

def quiescent_RetPostReferenceIdeal [hRetPostReferenceIdeal : Cert.RetPostReferenceIdeal.Facts] : Prop :=
  ∀ (m : (ℓ : Loc Cert.RetPostReferenceIdeal.nD Cert.RetPostReferenceIdeal.τ Cert.RetPostReferenceIdeal.sig) → Buf (Elt Ideal) ℓ) (g : Dev Cert.RetPostReferenceIdeal.nD → PrngReg), Pre_RetPostReferenceIdeal m →
    θ_run (Cert.RetPostReferenceIdeal.defs (F := Ideal)) (onTc (τ := Cert.RetPostReferenceIdeal.τ) (Cert.RetPostReferenceIdeal.main (F := Ideal))) ⟨m, fun _ => 0, g⟩ (fun r => (∀ c : Dev Cert.RetPostReferenceIdeal.nD,
      r.2.mem ((c.tc : Thread Cert.RetPostReferenceIdeal.nD Cert.RetPostReferenceIdeal.τ).loc Cert.RetPostReferenceIdeal.main_arg0) = m ((c.tc : Thread Cert.RetPostReferenceIdeal.nD Cert.RetPostReferenceIdeal.τ).loc Cert.RetPostReferenceIdeal.main_arg0)
      ∧ r.2.mem ((c.tc : Thread Cert.RetPostReferenceIdeal.nD Cert.RetPostReferenceIdeal.τ).loc Cert.RetPostReferenceIdeal.main_arg1) = m ((c.tc : Thread Cert.RetPostReferenceIdeal.nD Cert.RetPostReferenceIdeal.τ).loc Cert.RetPostReferenceIdeal.main_arg1)
      ∧ r.2.mem ((c.tc : Thread Cert.RetPostReferenceIdeal.nD Cert.RetPostReferenceIdeal.τ).loc Cert.RetPostReferenceIdeal.main_arg2) = m ((c.tc : Thread Cert.RetPostReferenceIdeal.nD Cert.RetPostReferenceIdeal.τ).loc Cert.RetPostReferenceIdeal.main_arg2))
      ∧ r.2.sem = fun _ => 0)

def quiescent_GlaPost [hGlaPost : Cert.GlaPost.Facts] : Prop :=
  ∀ (m : (ℓ : Loc Cert.GlaPost.nD Cert.GlaPost.τ Cert.GlaPost.sig) → Buf (Elt Bits) ℓ) (g : Dev Cert.GlaPost.nD → PrngReg), Pre_GlaPost m →
    θ_run (Cert.GlaPost.defs (F := Bits)) (onTc (τ := Cert.GlaPost.τ) (Cert.GlaPost.main (F := Bits))) ⟨m, fun _ => 0, g⟩ (fun r => (∀ c : Dev Cert.GlaPost.nD,
      r.2.mem ((c.tc : Thread Cert.GlaPost.nD Cert.GlaPost.τ).loc Cert.GlaPost.main_arg0) = m ((c.tc : Thread Cert.GlaPost.nD Cert.GlaPost.τ).loc Cert.GlaPost.main_arg0)
      ∧ r.2.mem ((c.tc : Thread Cert.GlaPost.nD Cert.GlaPost.τ).loc Cert.GlaPost.main_arg1) = m ((c.tc : Thread Cert.GlaPost.nD Cert.GlaPost.τ).loc Cert.GlaPost.main_arg1)
      ∧ r.2.mem ((c.tc : Thread Cert.GlaPost.nD Cert.GlaPost.τ).loc Cert.GlaPost.main_arg2) = m ((c.tc : Thread Cert.GlaPost.nD Cert.GlaPost.τ).loc Cert.GlaPost.main_arg2))
      ∧ r.2.sem = fun _ => 0)

def quiescent_GlaPostIdeal [hGlaPostIdeal : Cert.GlaPostIdeal.Facts] : Prop :=
  ∀ (m : (ℓ : Loc Cert.GlaPostIdeal.nD Cert.GlaPostIdeal.τ Cert.GlaPostIdeal.sig) → Buf (Elt Ideal) ℓ) (g : Dev Cert.GlaPostIdeal.nD → PrngReg), Pre_GlaPostIdeal m →
    θ_run (Cert.GlaPostIdeal.defs (F := Ideal)) (onTc (τ := Cert.GlaPostIdeal.τ) (Cert.GlaPostIdeal.main (F := Ideal))) ⟨m, fun _ => 0, g⟩ (fun r => (∀ c : Dev Cert.GlaPostIdeal.nD,
      r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
      ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
      ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2))
      ∧ r.2.sem = fun _ => 0)

def quiescent_GlaPostReferenceIdeal [hGlaPostReferenceIdeal : Cert.GlaPostReferenceIdeal.Facts] : Prop :=
  ∀ (m : (ℓ : Loc Cert.GlaPostReferenceIdeal.nD Cert.GlaPostReferenceIdeal.τ Cert.GlaPostReferenceIdeal.sig) → Buf (Elt Ideal) ℓ) (g : Dev Cert.GlaPostReferenceIdeal.nD → PrngReg), Pre_GlaPostReferenceIdeal m →
    θ_run (Cert.GlaPostReferenceIdeal.defs (F := Ideal)) (onTc (τ := Cert.GlaPostReferenceIdeal.τ) (Cert.GlaPostReferenceIdeal.main (F := Ideal))) ⟨m, fun _ => 0, g⟩ (fun r => (∀ c : Dev Cert.GlaPostReferenceIdeal.nD,
      r.2.mem ((c.tc : Thread Cert.GlaPostReferenceIdeal.nD Cert.GlaPostReferenceIdeal.τ).loc Cert.GlaPostReferenceIdeal.main_arg0) = m ((c.tc : Thread Cert.GlaPostReferenceIdeal.nD Cert.GlaPostReferenceIdeal.τ).loc Cert.GlaPostReferenceIdeal.main_arg0)
      ∧ r.2.mem ((c.tc : Thread Cert.GlaPostReferenceIdeal.nD Cert.GlaPostReferenceIdeal.τ).loc Cert.GlaPostReferenceIdeal.main_arg1) = m ((c.tc : Thread Cert.GlaPostReferenceIdeal.nD Cert.GlaPostReferenceIdeal.τ).loc Cert.GlaPostReferenceIdeal.main_arg1)
      ∧ r.2.mem ((c.tc : Thread Cert.GlaPostReferenceIdeal.nD Cert.GlaPostReferenceIdeal.τ).loc Cert.GlaPostReferenceIdeal.main_arg2) = m ((c.tc : Thread Cert.GlaPostReferenceIdeal.nD Cert.GlaPostReferenceIdeal.τ).loc Cert.GlaPostReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)) (v3 : (c : Dev Cert.KernelIdeal.nD) → Buf (Elt Ideal) ((c.tc : Thread Cert.KernelIdeal.nD Cert.KernelIdeal.τ).loc Cert.KernelIdeal.main_v42_3)) (v4 : (c : Dev Cert.KernelIdeal.nD) → Buf (Elt Ideal) ((c.tc : Thread Cert.KernelIdeal.nD Cert.KernelIdeal.τ).loc Cert.KernelIdeal.main_v42_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_v42_3) = v3 c
          ∧ r.2.mem ((c.tc : Thread Cert.KernelIdeal.nD Cert.KernelIdeal.τ).loc Cert.KernelIdeal.main_v42_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v4) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v6) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v12) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v14) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_ODx_ODxIdeal : Prop :=
  True

def algebraic_ODxIdeal_ODxReferenceIdeal [hODxIdeal : Cert.ODxIdeal.Facts] [hODxReferenceIdeal : Cert.ODxReferenceIdeal.Facts] : Prop :=
  ∀ (m : (ℓ : Loc Cert.ODxIdeal.nD Cert.ODxIdeal.τ Cert.ODxIdeal.sig) → Buf (Elt Ideal) ℓ) (g : Dev Cert.ODxIdeal.nD → PrngReg)
    (m' : (ℓ : Loc Cert.ODxReferenceIdeal.nD Cert.ODxReferenceIdeal.τ Cert.ODxReferenceIdeal.sig) → Buf (Elt Ideal) ℓ) (g' : Dev Cert.ODxReferenceIdeal.nD → PrngReg), Pre_ODxIdeal m →
    (∀ c : Dev Cert.ODxIdeal.nD,
      m' ((c.tc : Thread Cert.ODxReferenceIdeal.nD Cert.ODxReferenceIdeal.τ).loc Cert.ODxReferenceIdeal.main_arg0) = m ((c.tc : Thread Cert.ODxIdeal.nD Cert.ODxIdeal.τ).loc Cert.ODxIdeal.main_arg0)
      ∧ m' ((c.tc : Thread Cert.ODxReferenceIdeal.nD Cert.ODxReferenceIdeal.τ).loc Cert.ODxReferenceIdeal.main_arg1) = m ((c.tc : Thread Cert.ODxIdeal.nD Cert.ODxIdeal.τ).loc Cert.ODxIdeal.main_arg1)) →
    ∃ (v0 : (c : Dev Cert.ODxIdeal.nD) → Buf (Elt Ideal) ((c.tc : Thread Cert.ODxIdeal.nD Cert.ODxIdeal.τ).loc Cert.ODxIdeal.main_v0)),
      θ_run (Cert.ODxIdeal.defs (F := Ideal)) (onTc (τ := Cert.ODxIdeal.τ) (Cert.ODxIdeal.main (F := Ideal))) ⟨m, fun _ => 0, g⟩ (fun r => ∀ c : Dev Cert.ODxIdeal.nD,
          r.2.mem ((c.tc : Thread Cert.ODxIdeal.nD Cert.ODxIdeal.τ).loc Cert.ODxIdeal.main_v0) = v0 c
          ∧ r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
          ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1))
      ∧ θ_run (Cert.ODxReferenceIdeal.defs (F := Ideal)) (onTc (τ := Cert.ODxReferenceIdeal.τ) (Cert.ODxReferenceIdeal.main (F := Ideal))) ⟨m', fun _ => 0, g'⟩ (fun r => ∀ c : Dev Cert.ODxReferenceIdeal.nD,
          r.2.mem ((c.tc : Thread Cert.ODxReferenceIdeal.nD Cert.ODxReferenceIdeal.τ).loc Cert.ODxReferenceIdeal.main_v4) = v0 c
          ∧ r.2.mem ((c.tc : Thread Cert.ODxReferenceIdeal.nD Cert.ODxReferenceIdeal.τ).loc Cert.ODxReferenceIdeal.main_arg0) = m' ((c.tc : Thread Cert.ODxReferenceIdeal.nD Cert.ODxReferenceIdeal.τ).loc Cert.ODxReferenceIdeal.main_arg0)
          ∧ r.2.mem ((c.tc : Thread Cert.ODxReferenceIdeal.nD Cert.ODxReferenceIdeal.τ).loc Cert.ODxReferenceIdeal.main_arg1) = m' ((c.tc : Thread Cert.ODxReferenceIdeal.nD Cert.ODxReferenceIdeal.τ).loc Cert.ODxReferenceIdeal.main_arg1))

def preserves_ODw_ODwIdeal : Prop :=
  True

def algebraic_ODwIdeal_ODwReferenceIdeal [hODwIdeal : Cert.ODwIdeal.Facts] [hODwReferenceIdeal : Cert.ODwReferenceIdeal.Facts] : Prop :=
  ∀ (m : (ℓ : Loc Cert.ODwIdeal.nD Cert.ODwIdeal.τ Cert.ODwIdeal.sig) → Buf (Elt Ideal) ℓ) (g : Dev Cert.ODwIdeal.nD → PrngReg)
    (m' : (ℓ : Loc Cert.ODwReferenceIdeal.nD Cert.ODwReferenceIdeal.τ Cert.ODwReferenceIdeal.sig) → Buf (Elt Ideal) ℓ) (g' : Dev Cert.ODwReferenceIdeal.nD → PrngReg), Pre_ODwIdeal m →
    (∀ c : Dev Cert.ODwIdeal.nD,
      m' ((c.tc : Thread Cert.ODwReferenceIdeal.nD Cert.ODwReferenceIdeal.τ).loc Cert.ODwReferenceIdeal.main_arg0) = m ((c.tc : Thread Cert.ODwIdeal.nD Cert.ODwIdeal.τ).loc Cert.ODwIdeal.main_arg0)
      ∧ m' ((c.tc : Thread Cert.ODwReferenceIdeal.nD Cert.ODwReferenceIdeal.τ).loc Cert.ODwReferenceIdeal.main_arg1) = m ((c.tc : Thread Cert.ODwIdeal.nD Cert.ODwIdeal.τ).loc Cert.ODwIdeal.main_arg1)) →
    ∃ (v0 : (c : Dev Cert.ODwIdeal.nD) → Buf (Elt Ideal) ((c.tc : Thread Cert.ODwIdeal.nD Cert.ODwIdeal.τ).loc Cert.ODwIdeal.main_v0)),
      θ_run (Cert.ODwIdeal.defs (F := Ideal)) (onTc (τ := Cert.ODwIdeal.τ) (Cert.ODwIdeal.main (F := Ideal))) ⟨m, fun _ => 0, g⟩ (fun r => ∀ c : Dev Cert.ODwIdeal.nD,
          r.2.mem ((c.tc : Thread Cert.ODwIdeal.nD Cert.ODwIdeal.τ).loc Cert.ODwIdeal.main_v0) = v0 c
          ∧ r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
          ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ θ_run (Cert.ODwReferenceIdeal.defs (F := Ideal)) (onTc (τ := Cert.ODwReferenceIdeal.τ) (Cert.ODwReferenceIdeal.main (F := Ideal))) ⟨m', fun _ => 0, g'⟩ (fun r => ∀ c : Dev Cert.ODwReferenceIdeal.nD,
          r.2.mem ((c.tc : Thread Cert.ODwReferenceIdeal.nD Cert.ODwReferenceIdeal.τ).loc Cert.ODwReferenceIdeal.main_v6) = v0 c
          ∧ r.2.mem ((c.tc : Thread Cert.ODwReferenceIdeal.nD Cert.ODwReferenceIdeal.τ).loc Cert.ODwReferenceIdeal.main_arg0) = m' ((c.tc : Thread Cert.ODwReferenceIdeal.nD Cert.ODwReferenceIdeal.τ).loc Cert.ODwReferenceIdeal.main_arg0)
          ∧ r.2.mem ((c.tc : Thread Cert.ODwReferenceIdeal.nD Cert.ODwReferenceIdeal.τ).loc Cert.ODwReferenceIdeal.main_arg1) = m' ((c.tc : Thread Cert.ODwReferenceIdeal.nD Cert.ODwReferenceIdeal.τ).loc Cert.ODwReferenceIdeal.main_arg1))

def preserves_BrDx_BrDxIdeal : Prop :=
  True

def algebraic_BrDxIdeal_BrDxReferenceIdeal [hBrDxIdeal : Cert.BrDxIdeal.Facts] [hBrDxReferenceIdeal : Cert.BrDxReferenceIdeal.Facts] : Prop :=
  ∀ (m : (ℓ : Loc Cert.BrDxIdeal.nD Cert.BrDxIdeal.τ Cert.BrDxIdeal.sig) → Buf (Elt Ideal) ℓ) (g : Dev Cert.BrDxIdeal.nD → PrngReg)
    (m' : (ℓ : Loc Cert.BrDxReferenceIdeal.nD Cert.BrDxReferenceIdeal.τ Cert.BrDxReferenceIdeal.sig) → Buf (Elt Ideal) ℓ) (g' : Dev Cert.BrDxReferenceIdeal.nD → PrngReg), Pre_BrDxIdeal m →
    (∀ c : Dev Cert.BrDxIdeal.nD,
      m' ((c.tc : Thread Cert.BrDxReferenceIdeal.nD Cert.BrDxReferenceIdeal.τ).loc Cert.BrDxReferenceIdeal.main_arg0) = m ((c.tc : Thread Cert.BrDxIdeal.nD Cert.BrDxIdeal.τ).loc Cert.BrDxIdeal.main_arg0)
      ∧ m' ((c.tc : Thread Cert.BrDxReferenceIdeal.nD Cert.BrDxReferenceIdeal.τ).loc Cert.BrDxReferenceIdeal.main_arg1) = m ((c.tc : Thread Cert.BrDxIdeal.nD Cert.BrDxIdeal.τ).loc Cert.BrDxIdeal.main_arg1)) →
    ∃ (v0 : (c : Dev Cert.BrDxIdeal.nD) → Buf (Elt Ideal) ((c.tc : Thread Cert.BrDxIdeal.nD Cert.BrDxIdeal.τ).loc Cert.BrDxIdeal.main_v0)),
      θ_run (Cert.BrDxIdeal.defs (F := Ideal)) (onTc (τ := Cert.BrDxIdeal.τ) (Cert.BrDxIdeal.main (F := Ideal))) ⟨m, fun _ => 0, g⟩ (fun r => ∀ c : Dev Cert.BrDxIdeal.nD,
          r.2.mem ((c.tc : Thread Cert.BrDxIdeal.nD Cert.BrDxIdeal.τ).loc Cert.BrDxIdeal.main_v0) = v0 c
          ∧ r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
          ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ θ_run (Cert.BrDxReferenceIdeal.defs (F := Ideal)) (onTc (τ := Cert.BrDxReferenceIdeal.τ) (Cert.BrDxReferenceIdeal.main (F := Ideal))) ⟨m', fun _ => 0, g'⟩ (fun r => ∀ c : Dev Cert.BrDxReferenceIdeal.nD,
          r.2.mem ((c.tc : Thread Cert.BrDxReferenceIdeal.nD Cert.BrDxReferenceIdeal.τ).loc Cert.BrDxReferenceIdeal.main_v5) = v0 c
          ∧ r.2.mem ((c.tc : Thread Cert.BrDxReferenceIdeal.nD Cert.BrDxReferenceIdeal.τ).loc Cert.BrDxReferenceIdeal.main_arg0) = m' ((c.tc : Thread Cert.BrDxReferenceIdeal.nD Cert.BrDxReferenceIdeal.τ).loc Cert.BrDxReferenceIdeal.main_arg0)
          ∧ r.2.mem ((c.tc : Thread Cert.BrDxReferenceIdeal.nD Cert.BrDxReferenceIdeal.τ).loc Cert.BrDxReferenceIdeal.main_arg1) = m' ((c.tc : Thread Cert.BrDxReferenceIdeal.nD Cert.BrDxReferenceIdeal.τ).loc Cert.BrDxReferenceIdeal.main_arg1))

def preserves_BrDw_BrDwIdeal : Prop :=
  True

def algebraic_BrDwIdeal_BrDwReferenceIdeal [hBrDwIdeal : Cert.BrDwIdeal.Facts] [hBrDwReferenceIdeal : Cert.BrDwReferenceIdeal.Facts] : Prop :=
  ∀ (m : (ℓ : Loc Cert.BrDwIdeal.nD Cert.BrDwIdeal.τ Cert.BrDwIdeal.sig) → Buf (Elt Ideal) ℓ) (g : Dev Cert.BrDwIdeal.nD → PrngReg)
    (m' : (ℓ : Loc Cert.BrDwReferenceIdeal.nD Cert.BrDwReferenceIdeal.τ Cert.BrDwReferenceIdeal.sig) → Buf (Elt Ideal) ℓ) (g' : Dev Cert.BrDwReferenceIdeal.nD → PrngReg), Pre_BrDwIdeal m →
    (∀ c : Dev Cert.BrDwIdeal.nD,
      m' ((c.tc : Thread Cert.BrDwReferenceIdeal.nD Cert.BrDwReferenceIdeal.τ).loc Cert.BrDwReferenceIdeal.main_arg0) = m ((c.tc : Thread Cert.BrDwIdeal.nD Cert.BrDwIdeal.τ).loc Cert.BrDwIdeal.main_arg0)
      ∧ m' ((c.tc : Thread Cert.BrDwReferenceIdeal.nD Cert.BrDwReferenceIdeal.τ).loc Cert.BrDwReferenceIdeal.main_arg1) = m ((c.tc : Thread Cert.BrDwIdeal.nD Cert.BrDwIdeal.τ).loc Cert.BrDwIdeal.main_arg1)) →
    ∃ (v0 : (c : Dev Cert.BrDwIdeal.nD) → Buf (Elt Ideal) ((c.tc : Thread Cert.BrDwIdeal.nD Cert.BrDwIdeal.τ).loc Cert.BrDwIdeal.main_v0)),
      θ_run (Cert.BrDwIdeal.defs (F := Ideal)) (onTc (τ := Cert.BrDwIdeal.τ) (Cert.BrDwIdeal.main (F := Ideal))) ⟨m, fun _ => 0, g⟩ (fun r => ∀ c : Dev Cert.BrDwIdeal.nD,
          r.2.mem ((c.tc : Thread Cert.BrDwIdeal.nD Cert.BrDwIdeal.τ).loc Cert.BrDwIdeal.main_v0) = v0 c
          ∧ r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
          ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ θ_run (Cert.BrDwReferenceIdeal.defs (F := Ideal)) (onTc (τ := Cert.BrDwReferenceIdeal.τ) (Cert.BrDwReferenceIdeal.main (F := Ideal))) ⟨m', fun _ => 0, g'⟩ (fun r => ∀ c : Dev Cert.BrDwReferenceIdeal.nD,
          r.2.mem ((c.tc : Thread Cert.BrDwReferenceIdeal.nD Cert.BrDwReferenceIdeal.τ).loc Cert.BrDwReferenceIdeal.main_v7) = v0 c
          ∧ r.2.mem ((c.tc : Thread Cert.BrDwReferenceIdeal.nD Cert.BrDwReferenceIdeal.τ).loc Cert.BrDwReferenceIdeal.main_arg0) = m' ((c.tc : Thread Cert.BrDwReferenceIdeal.nD Cert.BrDwReferenceIdeal.τ).loc Cert.BrDwReferenceIdeal.main_arg0)
          ∧ r.2.mem ((c.tc : Thread Cert.BrDwReferenceIdeal.nD Cert.BrDwReferenceIdeal.τ).loc Cert.BrDwReferenceIdeal.main_arg1) = m' ((c.tc : Thread Cert.BrDwReferenceIdeal.nD Cert.BrDwReferenceIdeal.τ).loc Cert.BrDwReferenceIdeal.main_arg1))

def preserves_FoxDw_FoxDwIdeal : Prop :=
  True

def algebraic_FoxDwIdeal_FoxDwReferenceIdeal [hFoxDwIdeal : Cert.FoxDwIdeal.Facts] [hFoxDwReferenceIdeal : Cert.FoxDwReferenceIdeal.Facts] : Prop :=
  ∀ (m : (ℓ : Loc Cert.FoxDwIdeal.nD Cert.FoxDwIdeal.τ Cert.FoxDwIdeal.sig) → Buf (Elt Ideal) ℓ) (g : Dev Cert.FoxDwIdeal.nD → PrngReg)
    (m' : (ℓ : Loc Cert.FoxDwReferenceIdeal.nD Cert.FoxDwReferenceIdeal.τ Cert.FoxDwReferenceIdeal.sig) → Buf (Elt Ideal) ℓ) (g' : Dev Cert.FoxDwReferenceIdeal.nD → PrngReg), Pre_FoxDwIdeal m →
    (∀ c : Dev Cert.FoxDwIdeal.nD,
      m' ((c.tc : Thread Cert.FoxDwReferenceIdeal.nD Cert.FoxDwReferenceIdeal.τ).loc Cert.FoxDwReferenceIdeal.main_arg0) = m ((c.tc : Thread Cert.FoxDwIdeal.nD Cert.FoxDwIdeal.τ).loc Cert.FoxDwIdeal.main_arg0)
      ∧ m' ((c.tc : Thread Cert.FoxDwReferenceIdeal.nD Cert.FoxDwReferenceIdeal.τ).loc Cert.FoxDwReferenceIdeal.main_arg1) = m ((c.tc : Thread Cert.FoxDwIdeal.nD Cert.FoxDwIdeal.τ).loc Cert.FoxDwIdeal.main_arg1)) →
    ∃ (v0 : (c : Dev Cert.FoxDwIdeal.nD) → Buf (Elt Ideal) ((c.tc : Thread Cert.FoxDwIdeal.nD Cert.FoxDwIdeal.τ).loc Cert.FoxDwIdeal.main_v0)),
      θ_run (Cert.FoxDwIdeal.defs (F := Ideal)) (onTc (τ := Cert.FoxDwIdeal.τ) (Cert.FoxDwIdeal.main (F := Ideal))) ⟨m, fun _ => 0, g⟩ (fun r => ∀ c : Dev Cert.FoxDwIdeal.nD,
          r.2.mem ((c.tc : Thread Cert.FoxDwIdeal.nD Cert.FoxDwIdeal.τ).loc Cert.FoxDwIdeal.main_v0) = v0 c
          ∧ r.2.mem ((c.tc : Thread Cert.FoxDwIdeal.nD Cert.FoxDwIdeal.τ).loc Cert.FoxDwIdeal.main_arg0) = m ((c.tc : Thread Cert.FoxDwIdeal.nD Cert.FoxDwIdeal.τ).loc Cert.FoxDwIdeal.main_arg0)
          ∧ r.2.mem ((c.tc : Thread Cert.FoxDwIdeal.nD Cert.FoxDwIdeal.τ).loc Cert.FoxDwIdeal.main_arg1) = m ((c.tc : Thread Cert.FoxDwIdeal.nD Cert.FoxDwIdeal.τ).loc Cert.FoxDwIdeal.main_arg1))
      ∧ θ_run (Cert.FoxDwReferenceIdeal.defs (F := Ideal)) (onTc (τ := Cert.FoxDwReferenceIdeal.τ) (Cert.FoxDwReferenceIdeal.main (F := Ideal))) ⟨m', fun _ => 0, g'⟩ (fun r => ∀ c : Dev Cert.FoxDwReferenceIdeal.nD,
          r.2.mem ((c.tc : Thread Cert.FoxDwReferenceIdeal.nD Cert.FoxDwReferenceIdeal.τ).loc Cert.FoxDwReferenceIdeal.main_v6) = v0 c
          ∧ r.2.mem ((c.tc : Thread Cert.FoxDwReferenceIdeal.nD Cert.FoxDwReferenceIdeal.τ).loc Cert.FoxDwReferenceIdeal.main_arg0) = m' ((c.tc : Thread Cert.FoxDwReferenceIdeal.nD Cert.FoxDwReferenceIdeal.τ).loc Cert.FoxDwReferenceIdeal.main_arg0)
          ∧ r.2.mem ((c.tc : Thread Cert.FoxDwReferenceIdeal.nD Cert.FoxDwReferenceIdeal.τ).loc Cert.FoxDwReferenceIdeal.main_arg1) = m' ((c.tc : Thread Cert.FoxDwReferenceIdeal.nD Cert.FoxDwReferenceIdeal.τ).loc Cert.FoxDwReferenceIdeal.main_arg1))

def preserves_GateDx_GateDxIdeal : Prop :=
  True

def algebraic_GateDxIdeal_GateDxReferenceIdeal [hGateDxIdeal : Cert.GateDxIdeal.Facts] [hGateDxReferenceIdeal : Cert.GateDxReferenceIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxReferenceIdeal.nD Cert.GateDxReferenceIdeal.τ Cert.GateDxReferenceIdeal.sig) → Buf (Elt Ideal) ℓ) (g' : Dev Cert.GateDxReferenceIdeal.nD → PrngReg), Pre_GateDxIdeal m →
    (∀ c : Dev Cert.GateDxIdeal.nD,
      m' ((c.tc : Thread Cert.GateDxReferenceIdeal.nD Cert.GateDxReferenceIdeal.τ).loc Cert.GateDxReferenceIdeal.main_arg0) = m ((c.tc : Thread Cert.GateDxIdeal.nD Cert.GateDxIdeal.τ).loc Cert.GateDxIdeal.main_arg0)
      ∧ m' ((c.tc : Thread Cert.GateDxReferenceIdeal.nD Cert.GateDxReferenceIdeal.τ).loc Cert.GateDxReferenceIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxReferenceIdeal.defs (F := Ideal)) (onTc (τ := Cert.GateDxReferenceIdeal.τ) (Cert.GateDxReferenceIdeal.main (F := Ideal))) ⟨m', fun _ => 0, g'⟩ (fun r => ∀ c : Dev Cert.GateDxReferenceIdeal.nD,
          r.2.mem ((c.tc : Thread Cert.GateDxReferenceIdeal.nD Cert.GateDxReferenceIdeal.τ).loc Cert.GateDxReferenceIdeal.main_v5) = v0 c
          ∧ r.2.mem ((c.tc : Thread Cert.GateDxReferenceIdeal.nD Cert.GateDxReferenceIdeal.τ).loc Cert.GateDxReferenceIdeal.main_arg0) = m' ((c.tc : Thread Cert.GateDxReferenceIdeal.nD Cert.GateDxReferenceIdeal.τ).loc Cert.GateDxReferenceIdeal.main_arg0)
          ∧ r.2.mem ((c.tc : Thread Cert.GateDxReferenceIdeal.nD Cert.GateDxReferenceIdeal.τ).loc Cert.GateDxReferenceIdeal.main_arg1) = m' ((c.tc : Thread Cert.GateDxReferenceIdeal.nD Cert.GateDxReferenceIdeal.τ).loc Cert.GateDxReferenceIdeal.main_arg1))

def preserves_GateDw_GateDwIdeal : Prop :=
  True

def algebraic_GateDwIdeal_GateDwReferenceIdeal [hGateDwIdeal : Cert.GateDwIdeal.Facts] [hGateDwReferenceIdeal : Cert.GateDwReferenceIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwReferenceIdeal.nD Cert.GateDwReferenceIdeal.τ Cert.GateDwReferenceIdeal.sig) → Buf (Elt Ideal) ℓ) (g' : Dev Cert.GateDwReferenceIdeal.nD → PrngReg), Pre_GateDwIdeal m →
    (∀ c : Dev Cert.GateDwIdeal.nD,
      m' ((c.tc : Thread Cert.GateDwReferenceIdeal.nD Cert.GateDwReferenceIdeal.τ).loc Cert.GateDwReferenceIdeal.main_arg0) = m ((c.tc : Thread Cert.GateDwIdeal.nD Cert.GateDwIdeal.τ).loc Cert.GateDwIdeal.main_arg0)
      ∧ m' ((c.tc : Thread Cert.GateDwReferenceIdeal.nD Cert.GateDwReferenceIdeal.τ).loc Cert.GateDwReferenceIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwReferenceIdeal.defs (F := Ideal)) (onTc (τ := Cert.GateDwReferenceIdeal.τ) (Cert.GateDwReferenceIdeal.main (F := Ideal))) ⟨m', fun _ => 0, g'⟩ (fun r => ∀ c : Dev Cert.GateDwReferenceIdeal.nD,
          r.2.mem ((c.tc : Thread Cert.GateDwReferenceIdeal.nD Cert.GateDwReferenceIdeal.τ).loc Cert.GateDwReferenceIdeal.main_v7) = v0 c
          ∧ r.2.mem ((c.tc : Thread Cert.GateDwReferenceIdeal.nD Cert.GateDwReferenceIdeal.τ).loc Cert.GateDwReferenceIdeal.main_arg0) = m' ((c.tc : Thread Cert.GateDwReferenceIdeal.nD Cert.GateDwReferenceIdeal.τ).loc Cert.GateDwReferenceIdeal.main_arg0)
          ∧ r.2.mem ((c.tc : Thread Cert.GateDwReferenceIdeal.nD Cert.GateDwReferenceIdeal.τ).loc Cert.GateDwReferenceIdeal.main_arg1) = m' ((c.tc : Thread Cert.GateDwReferenceIdeal.nD Cert.GateDwReferenceIdeal.τ).loc Cert.GateDwReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)
      ∧ m' ((c.tc : Thread Cert.InDxReferenceIdeal.nD Cert.InDxReferenceIdeal.τ).loc Cert.InDxReferenceIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v5) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v6) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v4) = v0 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1))

def preserves_InTail_InTailIdeal : Prop :=
  True

def algebraic_InTailIdeal_InTailReferenceIdeal [hInTailIdeal : Cert.InTailIdeal.Facts] [hInTailReferenceIdeal : Cert.InTailReferenceIdeal.Facts] : Prop :=
  ∀ (m : (ℓ : Loc Cert.InTailIdeal.nD Cert.InTailIdeal.τ Cert.InTailIdeal.sig) → Buf (Elt Ideal) ℓ) (g : Dev Cert.InTailIdeal.nD → PrngReg)
    (m' : (ℓ : Loc Cert.InTailReferenceIdeal.nD Cert.InTailReferenceIdeal.τ Cert.InTailReferenceIdeal.sig) → Buf (Elt Ideal) ℓ) (g' : Dev Cert.InTailReferenceIdeal.nD → PrngReg), Pre_InTailIdeal m →
    (∀ c : Dev Cert.InTailIdeal.nD,
      m' ((c.tc : Thread Cert.InTailReferenceIdeal.nD Cert.InTailReferenceIdeal.τ).loc Cert.InTailReferenceIdeal.main_arg0) = m ((c.tc : Thread Cert.InTailIdeal.nD Cert.InTailIdeal.τ).loc Cert.InTailIdeal.main_arg0)
      ∧ m' ((c.tc : Thread Cert.InTailReferenceIdeal.nD Cert.InTailReferenceIdeal.τ).loc Cert.InTailReferenceIdeal.main_arg1) = m ((c.tc : Thread Cert.InTailIdeal.nD Cert.InTailIdeal.τ).loc Cert.InTailIdeal.main_arg1)) →
    ∃ (v0 : (c : Dev Cert.InTailIdeal.nD) → Buf (Elt Ideal) ((c.tc : Thread Cert.InTailIdeal.nD Cert.InTailIdeal.τ).loc Cert.InTailIdeal.main_v0)),
      θ_run (Cert.InTailIdeal.defs (F := Ideal)) (onTc (τ := Cert.InTailIdeal.τ) (Cert.InTailIdeal.main (F := Ideal))) ⟨m, fun _ => 0, g⟩ (fun r => ∀ c : Dev Cert.InTailIdeal.nD,
          r.2.mem ((c.tc : Thread Cert.InTailIdeal.nD Cert.InTailIdeal.τ).loc Cert.InTailIdeal.main_v0) = v0 c
          ∧ r.2.mem ((c.tc : Thread Cert.InTailIdeal.nD Cert.InTailIdeal.τ).loc Cert.InTailIdeal.main_arg0) = m ((c.tc : Thread Cert.InTailIdeal.nD Cert.InTailIdeal.τ).loc Cert.InTailIdeal.main_arg0)
          ∧ r.2.mem ((c.tc : Thread Cert.InTailIdeal.nD Cert.InTailIdeal.τ).loc Cert.InTailIdeal.main_arg1) = m ((c.tc : Thread Cert.InTailIdeal.nD Cert.InTailIdeal.τ).loc Cert.InTailIdeal.main_arg1))
      ∧ θ_run (Cert.InTailReferenceIdeal.defs (F := Ideal)) (onTc (τ := Cert.InTailReferenceIdeal.τ) (Cert.InTailReferenceIdeal.main (F := Ideal))) ⟨m', fun _ => 0, g'⟩ (fun r => ∀ c : Dev Cert.InTailReferenceIdeal.nD,
          r.2.mem ((c.tc : Thread Cert.InTailReferenceIdeal.nD Cert.InTailReferenceIdeal.τ).loc Cert.InTailReferenceIdeal.main_v3) = v0 c
          ∧ r.2.mem ((c.tc : Thread Cert.InTailReferenceIdeal.nD Cert.InTailReferenceIdeal.τ).loc Cert.InTailReferenceIdeal.main_arg0) = m' ((c.tc : Thread Cert.InTailReferenceIdeal.nD Cert.InTailReferenceIdeal.τ).loc Cert.InTailReferenceIdeal.main_arg0)
          ∧ r.2.mem ((c.tc : Thread Cert.InTailReferenceIdeal.nD Cert.InTailReferenceIdeal.τ).loc Cert.InTailReferenceIdeal.main_arg1) = m' ((c.tc : Thread Cert.InTailReferenceIdeal.nD Cert.InTailReferenceIdeal.τ).loc Cert.InTailReferenceIdeal.main_arg1))

def preserves_BrFwd_BrFwdIdeal : Prop :=
  True

def algebraic_BrFwdIdeal_BrFwdReferenceIdeal [hBrFwdIdeal : Cert.BrFwdIdeal.Facts] [hBrFwdReferenceIdeal : Cert.BrFwdReferenceIdeal.Facts] : Prop :=
  ∀ (m : (ℓ : Loc Cert.BrFwdIdeal.nD Cert.BrFwdIdeal.τ Cert.BrFwdIdeal.sig) → Buf (Elt Ideal) ℓ) (g : Dev Cert.BrFwdIdeal.nD → PrngReg)
    (m' : (ℓ : Loc Cert.BrFwdReferenceIdeal.nD Cert.BrFwdReferenceIdeal.τ Cert.BrFwdReferenceIdeal.sig) → Buf (Elt Ideal) ℓ) (g' : Dev Cert.BrFwdReferenceIdeal.nD → PrngReg), Pre_BrFwdIdeal m →
    (∀ c : Dev Cert.BrFwdIdeal.nD,
      m' ((c.tc : Thread Cert.BrFwdReferenceIdeal.nD Cert.BrFwdReferenceIdeal.τ).loc Cert.BrFwdReferenceIdeal.main_arg0) = m ((c.tc : Thread Cert.BrFwdIdeal.nD Cert.BrFwdIdeal.τ).loc Cert.BrFwdIdeal.main_arg0)
      ∧ m' ((c.tc : Thread Cert.BrFwdReferenceIdeal.nD Cert.BrFwdReferenceIdeal.τ).loc Cert.BrFwdReferenceIdeal.main_arg1) = m ((c.tc : Thread Cert.BrFwdIdeal.nD Cert.BrFwdIdeal.τ).loc Cert.BrFwdIdeal.main_arg1)) →
    ∃ (v0 : (c : Dev Cert.BrFwdIdeal.nD) → Buf (Elt Ideal) ((c.tc : Thread Cert.BrFwdIdeal.nD Cert.BrFwdIdeal.τ).loc Cert.BrFwdIdeal.main_v0)),
      θ_run (Cert.BrFwdIdeal.defs (F := Ideal)) (onTc (τ := Cert.BrFwdIdeal.τ) (Cert.BrFwdIdeal.main (F := Ideal))) ⟨m, fun _ => 0, g⟩ (fun r => ∀ c : Dev Cert.BrFwdIdeal.nD,
          r.2.mem ((c.tc : Thread Cert.BrFwdIdeal.nD Cert.BrFwdIdeal.τ).loc Cert.BrFwdIdeal.main_v0) = v0 c
          ∧ r.2.mem ((c.tc : Thread Cert.BrFwdIdeal.nD Cert.BrFwdIdeal.τ).loc Cert.BrFwdIdeal.main_arg0) = m ((c.tc : Thread Cert.BrFwdIdeal.nD Cert.BrFwdIdeal.τ).loc Cert.BrFwdIdeal.main_arg0)
          ∧ r.2.mem ((c.tc : Thread Cert.BrFwdIdeal.nD Cert.BrFwdIdeal.τ).loc Cert.BrFwdIdeal.main_arg1) = m ((c.tc : Thread Cert.BrFwdIdeal.nD Cert.BrFwdIdeal.τ).loc Cert.BrFwdIdeal.main_arg1))
      ∧ θ_run (Cert.BrFwdReferenceIdeal.defs (F := Ideal)) (onTc (τ := Cert.BrFwdReferenceIdeal.τ) (Cert.BrFwdReferenceIdeal.main (F := Ideal))) ⟨m', fun _ => 0, g'⟩ (fun r => ∀ c : Dev Cert.BrFwdReferenceIdeal.nD,
          r.2.mem ((c.tc : Thread Cert.BrFwdReferenceIdeal.nD Cert.BrFwdReferenceIdeal.τ).loc Cert.BrFwdReferenceIdeal.main_v4) = v0 c
          ∧ r.2.mem ((c.tc : Thread Cert.BrFwdReferenceIdeal.nD Cert.BrFwdReferenceIdeal.τ).loc Cert.BrFwdReferenceIdeal.main_arg0) = m' ((c.tc : Thread Cert.BrFwdReferenceIdeal.nD Cert.BrFwdReferenceIdeal.τ).loc Cert.BrFwdReferenceIdeal.main_arg0)
          ∧ r.2.mem ((c.tc : Thread Cert.BrFwdReferenceIdeal.nD Cert.BrFwdReferenceIdeal.τ).loc Cert.BrFwdReferenceIdeal.main_arg1) = m' ((c.tc : Thread Cert.BrFwdReferenceIdeal.nD Cert.BrFwdReferenceIdeal.τ).loc Cert.BrFwdReferenceIdeal.main_arg1))

def preserves_FoxFwd_FoxFwdIdeal : Prop :=
  True

def algebraic_FoxFwdIdeal_FoxFwdReferenceIdeal [hFoxFwdIdeal : Cert.FoxFwdIdeal.Facts] [hFoxFwdReferenceIdeal : Cert.FoxFwdReferenceIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.FoxFwdReferenceIdeal.nD Cert.FoxFwdReferenceIdeal.τ Cert.FoxFwdReferenceIdeal.sig) → Buf (Elt Ideal) ℓ) (g' : Dev Cert.FoxFwdReferenceIdeal.nD → PrngReg), Pre_FoxFwdIdeal m →
    (∀ c : Dev Cert.FoxFwdIdeal.nD,
      m' ((c.tc : Thread Cert.FoxFwdReferenceIdeal.nD Cert.FoxFwdReferenceIdeal.τ).loc Cert.FoxFwdReferenceIdeal.main_arg0) = m ((c.tc : Thread Cert.FoxFwdIdeal.nD Cert.FoxFwdIdeal.τ).loc Cert.FoxFwdIdeal.main_arg0)
      ∧ m' ((c.tc : Thread Cert.FoxFwdReferenceIdeal.nD Cert.FoxFwdReferenceIdeal.τ).loc Cert.FoxFwdReferenceIdeal.main_arg1) = m ((c.tc : Thread Cert.FoxFwdIdeal.nD Cert.FoxFwdIdeal.τ).loc Cert.FoxFwdIdeal.main_arg1)) →
    ∃ (v0 : (c : Dev Cert.FoxFwdIdeal.nD) → Buf (Elt Ideal) ((c.tc : Thread Cert.FoxFwdIdeal.nD Cert.FoxFwdIdeal.τ).loc Cert.FoxFwdIdeal.main_v0)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v0) = v0 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1))
      ∧ θ_run (Cert.FoxFwdReferenceIdeal.defs (F := Ideal)) (onTc (τ := Cert.FoxFwdReferenceIdeal.τ) (Cert.FoxFwdReferenceIdeal.main (F := Ideal))) ⟨m', fun _ => 0, g'⟩ (fun r => ∀ c : Dev Cert.FoxFwdReferenceIdeal.nD,
          r.2.mem ((c.tc : Thread Cert.FoxFwdReferenceIdeal.nD Cert.FoxFwdReferenceIdeal.τ).loc Cert.FoxFwdReferenceIdeal.main_v3) = v0 c
          ∧ r.2.mem ((c.tc : Thread Cert.FoxFwdReferenceIdeal.nD Cert.FoxFwdReferenceIdeal.τ).loc Cert.FoxFwdReferenceIdeal.main_arg0) = m' ((c.tc : Thread Cert.FoxFwdReferenceIdeal.nD Cert.FoxFwdReferenceIdeal.τ).loc Cert.FoxFwdReferenceIdeal.main_arg0)
          ∧ r.2.mem ((c.tc : Thread Cert.FoxFwdReferenceIdeal.nD Cert.FoxFwdReferenceIdeal.τ).loc Cert.FoxFwdReferenceIdeal.main_arg1) = m' ((c.tc : Thread Cert.FoxFwdReferenceIdeal.nD Cert.FoxFwdReferenceIdeal.τ).loc Cert.FoxFwdReferenceIdeal.main_arg1))

def preserves_GateFwd_GateFwdIdeal : Prop :=
  True

def algebraic_GateFwdIdeal_GateFwdReferenceIdeal [hGateFwdIdeal : Cert.GateFwdIdeal.Facts] [hGateFwdReferenceIdeal : Cert.GateFwdReferenceIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdReferenceIdeal.nD Cert.GateFwdReferenceIdeal.τ Cert.GateFwdReferenceIdeal.sig) → Buf (Elt Ideal) ℓ) (g' : Dev Cert.GateFwdReferenceIdeal.nD → PrngReg), Pre_GateFwdIdeal m →
    (∀ c : Dev Cert.GateFwdIdeal.nD,
      m' ((c.tc : Thread Cert.GateFwdReferenceIdeal.nD Cert.GateFwdReferenceIdeal.τ).loc Cert.GateFwdReferenceIdeal.main_arg0) = m ((c.tc : Thread Cert.GateFwdIdeal.nD Cert.GateFwdIdeal.τ).loc Cert.GateFwdIdeal.main_arg0)
      ∧ m' ((c.tc : Thread Cert.GateFwdReferenceIdeal.nD Cert.GateFwdReferenceIdeal.τ).loc Cert.GateFwdReferenceIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdReferenceIdeal.defs (F := Ideal)) (onTc (τ := Cert.GateFwdReferenceIdeal.τ) (Cert.GateFwdReferenceIdeal.main (F := Ideal))) ⟨m', fun _ => 0, g'⟩ (fun r => ∀ c : Dev Cert.GateFwdReferenceIdeal.nD,
          r.2.mem ((c.tc : Thread Cert.GateFwdReferenceIdeal.nD Cert.GateFwdReferenceIdeal.τ).loc Cert.GateFwdReferenceIdeal.main_v4) = v0 c
          ∧ r.2.mem ((c.tc : Thread Cert.GateFwdReferenceIdeal.nD Cert.GateFwdReferenceIdeal.τ).loc Cert.GateFwdReferenceIdeal.main_arg0) = m' ((c.tc : Thread Cert.GateFwdReferenceIdeal.nD Cert.GateFwdReferenceIdeal.τ).loc Cert.GateFwdReferenceIdeal.main_arg0)
          ∧ r.2.mem ((c.tc : Thread Cert.GateFwdReferenceIdeal.nD Cert.GateFwdReferenceIdeal.τ).loc Cert.GateFwdReferenceIdeal.main_arg1) = m' ((c.tc : Thread Cert.GateFwdReferenceIdeal.nD Cert.GateFwdReferenceIdeal.τ).loc Cert.GateFwdReferenceIdeal.main_arg1))

def preserves_OFwd_OFwdIdeal : Prop :=
  True

def algebraic_OFwdIdeal_OFwdReferenceIdeal [hOFwdIdeal : Cert.OFwdIdeal.Facts] [hOFwdReferenceIdeal : Cert.OFwdReferenceIdeal.Facts] : Prop :=
  ∀ (m : (ℓ : Loc Cert.OFwdIdeal.nD Cert.OFwdIdeal.τ Cert.OFwdIdeal.sig) → Buf (Elt Ideal) ℓ) (g : Dev Cert.OFwdIdeal.nD → PrngReg)
    (m' : (ℓ : Loc Cert.OFwdReferenceIdeal.nD Cert.OFwdReferenceIdeal.τ Cert.OFwdReferenceIdeal.sig) → Buf (Elt Ideal) ℓ) (g' : Dev Cert.OFwdReferenceIdeal.nD → PrngReg), Pre_OFwdIdeal m →
    (∀ c : Dev Cert.OFwdIdeal.nD,
      m' ((c.tc : Thread Cert.OFwdReferenceIdeal.nD Cert.OFwdReferenceIdeal.τ).loc Cert.OFwdReferenceIdeal.main_arg0) = m ((c.tc : Thread Cert.OFwdIdeal.nD Cert.OFwdIdeal.τ).loc Cert.OFwdIdeal.main_arg0)
      ∧ m' ((c.tc : Thread Cert.OFwdReferenceIdeal.nD Cert.OFwdReferenceIdeal.τ).loc Cert.OFwdReferenceIdeal.main_arg1) = m ((c.tc : Thread Cert.OFwdIdeal.nD Cert.OFwdIdeal.τ).loc Cert.OFwdIdeal.main_arg1)) →
    ∃ (v0 : (c : Dev Cert.OFwdIdeal.nD) → Buf (Elt Ideal) ((c.tc : Thread Cert.OFwdIdeal.nD Cert.OFwdIdeal.τ).loc Cert.OFwdIdeal.main_v0)),
      θ_run (Cert.OFwdIdeal.defs (F := Ideal)) (onTc (τ := Cert.OFwdIdeal.τ) (Cert.OFwdIdeal.main (F := Ideal))) ⟨m, fun _ => 0, g⟩ (fun r => ∀ c : Dev Cert.OFwdIdeal.nD,
          r.2.mem ((c.tc : Thread Cert.OFwdIdeal.nD Cert.OFwdIdeal.τ).loc Cert.OFwdIdeal.main_v0) = v0 c
          ∧ r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
          ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1))
      ∧ θ_run (Cert.OFwdReferenceIdeal.defs (F := Ideal)) (onTc (τ := Cert.OFwdReferenceIdeal.τ) (Cert.OFwdReferenceIdeal.main (F := Ideal))) ⟨m', fun _ => 0, g'⟩ (fun r => ∀ c : Dev Cert.OFwdReferenceIdeal.nD,
          r.2.mem ((c.tc : Thread Cert.OFwdReferenceIdeal.nD Cert.OFwdReferenceIdeal.τ).loc Cert.OFwdReferenceIdeal.main_v2) = v0 c
          ∧ r.2.mem ((c.tc : Thread Cert.OFwdReferenceIdeal.nD Cert.OFwdReferenceIdeal.τ).loc Cert.OFwdReferenceIdeal.main_arg0) = m' ((c.tc : Thread Cert.OFwdReferenceIdeal.nD Cert.OFwdReferenceIdeal.τ).loc Cert.OFwdReferenceIdeal.main_arg0)
          ∧ r.2.mem ((c.tc : Thread Cert.OFwdReferenceIdeal.nD Cert.OFwdReferenceIdeal.τ).loc Cert.OFwdReferenceIdeal.main_arg1) = m' ((c.tc : Thread Cert.OFwdReferenceIdeal.nD Cert.OFwdReferenceIdeal.τ).loc Cert.OFwdReferenceIdeal.main_arg1))

def preserves_UpFwd_UpFwdIdeal : Prop :=
  True

def algebraic_UpFwdIdeal_UpFwdReferenceIdeal [hUpFwdIdeal : Cert.UpFwdIdeal.Facts] [hUpFwdReferenceIdeal : Cert.UpFwdReferenceIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdReferenceIdeal.nD Cert.UpFwdReferenceIdeal.τ Cert.UpFwdReferenceIdeal.sig) → Buf (Elt Ideal) ℓ) (g' : Dev Cert.UpFwdReferenceIdeal.nD → PrngReg), Pre_UpFwdIdeal m →
    (∀ c : Dev Cert.UpFwdIdeal.nD,
      m' ((c.tc : Thread Cert.UpFwdReferenceIdeal.nD Cert.UpFwdReferenceIdeal.τ).loc Cert.UpFwdReferenceIdeal.main_arg0) = m ((c.tc : Thread Cert.UpFwdIdeal.nD Cert.UpFwdIdeal.τ).loc Cert.UpFwdIdeal.main_arg0)
      ∧ m' ((c.tc : Thread Cert.UpFwdReferenceIdeal.nD Cert.UpFwdReferenceIdeal.τ).loc Cert.UpFwdReferenceIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdReferenceIdeal.defs (F := Ideal)) (onTc (τ := Cert.UpFwdReferenceIdeal.τ) (Cert.UpFwdReferenceIdeal.main (F := Ideal))) ⟨m', fun _ => 0, g'⟩ (fun r => ∀ c : Dev Cert.UpFwdReferenceIdeal.nD,
          r.2.mem ((c.tc : Thread Cert.UpFwdReferenceIdeal.nD Cert.UpFwdReferenceIdeal.τ).loc Cert.UpFwdReferenceIdeal.main_v4) = v0 c
          ∧ r.2.mem ((c.tc : Thread Cert.UpFwdReferenceIdeal.nD Cert.UpFwdReferenceIdeal.τ).loc Cert.UpFwdReferenceIdeal.main_arg0) = m' ((c.tc : Thread Cert.UpFwdReferenceIdeal.nD Cert.UpFwdReferenceIdeal.τ).loc Cert.UpFwdReferenceIdeal.main_arg0)
          ∧ r.2.mem ((c.tc : Thread Cert.UpFwdReferenceIdeal.nD Cert.UpFwdReferenceIdeal.τ).loc Cert.UpFwdReferenceIdeal.main_arg1) = m' ((c.tc : Thread Cert.UpFwdReferenceIdeal.nD Cert.UpFwdReferenceIdeal.τ).loc Cert.UpFwdReferenceIdeal.main_arg1))

def preserves_DownFwd_DownFwdIdeal : Prop :=
  True

def algebraic_DownFwdIdeal_DownFwdReferenceIdeal [hDownFwdIdeal : Cert.DownFwdIdeal.Facts] [hDownFwdReferenceIdeal : Cert.DownFwdReferenceIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdReferenceIdeal.nD Cert.DownFwdReferenceIdeal.τ Cert.DownFwdReferenceIdeal.sig) → Buf (Elt Ideal) ℓ) (g' : Dev Cert.DownFwdReferenceIdeal.nD → PrngReg), Pre_DownFwdIdeal m →
    (∀ c : Dev Cert.DownFwdIdeal.nD,
      m' ((c.tc : Thread Cert.DownFwdReferenceIdeal.nD Cert.DownFwdReferenceIdeal.τ).loc Cert.DownFwdReferenceIdeal.main_arg0) = m ((c.tc : Thread Cert.DownFwdIdeal.nD Cert.DownFwdIdeal.τ).loc Cert.DownFwdIdeal.main_arg0)
      ∧ m' ((c.tc : Thread Cert.DownFwdReferenceIdeal.nD Cert.DownFwdReferenceIdeal.τ).loc Cert.DownFwdReferenceIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdReferenceIdeal.defs (F := Ideal)) (onTc (τ := Cert.DownFwdReferenceIdeal.τ) (Cert.DownFwdReferenceIdeal.main (F := Ideal))) ⟨m', fun _ => 0, g'⟩ (fun r => ∀ c : Dev Cert.DownFwdReferenceIdeal.nD,
          r.2.mem ((c.tc : Thread Cert.DownFwdReferenceIdeal.nD Cert.DownFwdReferenceIdeal.τ).loc Cert.DownFwdReferenceIdeal.main_v2) = v0 c
          ∧ r.2.mem ((c.tc : Thread Cert.DownFwdReferenceIdeal.nD Cert.DownFwdReferenceIdeal.τ).loc Cert.DownFwdReferenceIdeal.main_arg0) = m' ((c.tc : Thread Cert.DownFwdReferenceIdeal.nD Cert.DownFwdReferenceIdeal.τ).loc Cert.DownFwdReferenceIdeal.main_arg0)
          ∧ r.2.mem ((c.tc : Thread Cert.DownFwdReferenceIdeal.nD Cert.DownFwdReferenceIdeal.τ).loc Cert.DownFwdReferenceIdeal.main_arg1) = m' ((c.tc : Thread Cert.DownFwdReferenceIdeal.nD Cert.DownFwdReferenceIdeal.τ).loc Cert.DownFwdReferenceIdeal.main_arg1))

def preserves_FfnBwd_FfnBwdIdeal : Prop :=
  True

def algebraic_FfnBwdIdeal_FfnBwdReferenceIdeal_pre_ffn_finite [hFfnBwdIdeal : Cert.FfnBwdIdeal.Facts] [hFfnBwdReferenceIdeal : Cert.FfnBwdReferenceIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdReferenceIdeal.nD Cert.FfnBwdReferenceIdeal.τ Cert.FfnBwdReferenceIdeal.sig) → Buf (Elt Ideal) ℓ) (g' : Dev Cert.FfnBwdReferenceIdeal.nD → PrngReg), Pre_FfnBwdIdeal_ffn_finite m →
    (∀ c : Dev Cert.FfnBwdIdeal.nD,
      m' ((c.tc : Thread Cert.FfnBwdReferenceIdeal.nD Cert.FfnBwdReferenceIdeal.τ).loc Cert.FfnBwdReferenceIdeal.main_arg0) = m ((c.tc : Thread Cert.FfnBwdIdeal.nD Cert.FfnBwdIdeal.τ).loc Cert.FfnBwdIdeal.main_arg0)
      ∧ m' ((c.tc : Thread Cert.FfnBwdReferenceIdeal.nD Cert.FfnBwdReferenceIdeal.τ).loc Cert.FfnBwdReferenceIdeal.main_arg1) = m ((c.tc : Thread Cert.FfnBwdIdeal.nD Cert.FfnBwdIdeal.τ).loc Cert.FfnBwdIdeal.main_arg1)
      ∧ m' ((c.tc : Thread Cert.FfnBwdReferenceIdeal.nD Cert.FfnBwdReferenceIdeal.τ).loc Cert.FfnBwdReferenceIdeal.main_arg2) = m ((c.tc : Thread Cert.FfnBwdIdeal.nD Cert.FfnBwdIdeal.τ).loc Cert.FfnBwdIdeal.main_arg2)
      ∧ m' ((c.tc : Thread Cert.FfnBwdReferenceIdeal.nD Cert.FfnBwdReferenceIdeal.τ).loc Cert.FfnBwdReferenceIdeal.main_arg3) = m ((c.tc : Thread Cert.FfnBwdIdeal.nD Cert.FfnBwdIdeal.τ).loc Cert.FfnBwdIdeal.main_arg3)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ θ_run (Cert.FfnBwdReferenceIdeal.defs (F := Ideal)) (onTc (τ := Cert.FfnBwdReferenceIdeal.τ) (Cert.FfnBwdReferenceIdeal.main (F := Ideal))) ⟨m', fun _ => 0, g'⟩ (fun r => ∀ c : Dev Cert.FfnBwdReferenceIdeal.nD,
          r.2.mem ((c.tc : Thread Cert.FfnBwdReferenceIdeal.nD Cert.FfnBwdReferenceIdeal.τ).loc Cert.FfnBwdReferenceIdeal.main_v74) = v0 c
          ∧ r.2.mem ((c.tc : Thread Cert.FfnBwdReferenceIdeal.nD Cert.FfnBwdReferenceIdeal.τ).loc Cert.FfnBwdReferenceIdeal.main_v77) = v1 c
          ∧ r.2.mem ((c.tc : Thread Cert.FfnBwdReferenceIdeal.nD Cert.FfnBwdReferenceIdeal.τ).loc Cert.FfnBwdReferenceIdeal.main_arg0) = m' ((c.tc : Thread Cert.FfnBwdReferenceIdeal.nD Cert.FfnBwdReferenceIdeal.τ).loc Cert.FfnBwdReferenceIdeal.main_arg0)
          ∧ r.2.mem ((c.tc : Thread Cert.FfnBwdReferenceIdeal.nD Cert.FfnBwdReferenceIdeal.τ).loc Cert.FfnBwdReferenceIdeal.main_arg1) = m' ((c.tc : Thread Cert.FfnBwdReferenceIdeal.nD Cert.FfnBwdReferenceIdeal.τ).loc Cert.FfnBwdReferenceIdeal.main_arg1)
          ∧ r.2.mem ((c.tc : Thread Cert.FfnBwdReferenceIdeal.nD Cert.FfnBwdReferenceIdeal.τ).loc Cert.FfnBwdReferenceIdeal.main_arg2) = m' ((c.tc : Thread Cert.FfnBwdReferenceIdeal.nD Cert.FfnBwdReferenceIdeal.τ).loc Cert.FfnBwdReferenceIdeal.main_arg2)
          ∧ r.2.mem ((c.tc : Thread Cert.FfnBwdReferenceIdeal.nD Cert.FfnBwdReferenceIdeal.τ).loc Cert.FfnBwdReferenceIdeal.main_arg3) = m' ((c.tc : Thread Cert.FfnBwdReferenceIdeal.nD Cert.FfnBwdReferenceIdeal.τ).loc Cert.FfnBwdReferenceIdeal.main_arg3))

def preserves_MixBwd_MixBwdIdeal : Prop :=
  True

def algebraic_MixBwdIdeal_MixBwdReferenceIdeal [hMixBwdIdeal : Cert.MixBwdIdeal.Facts] [hMixBwdReferenceIdeal : Cert.MixBwdReferenceIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdReferenceIdeal.nD Cert.MixBwdReferenceIdeal.τ Cert.MixBwdReferenceIdeal.sig) → Buf (Elt Ideal) ℓ) (g' : Dev Cert.MixBwdReferenceIdeal.nD → PrngReg), Pre_MixBwdIdeal m →
    (∀ c : Dev Cert.MixBwdIdeal.nD,
      m' ((c.tc : Thread Cert.MixBwdReferenceIdeal.nD Cert.MixBwdReferenceIdeal.τ).loc Cert.MixBwdReferenceIdeal.main_arg0) = m ((c.tc : Thread Cert.MixBwdIdeal.nD Cert.MixBwdIdeal.τ).loc Cert.MixBwdIdeal.main_arg0)
      ∧ m' ((c.tc : Thread Cert.MixBwdReferenceIdeal.nD Cert.MixBwdReferenceIdeal.τ).loc Cert.MixBwdReferenceIdeal.main_arg1) = m ((c.tc : Thread Cert.MixBwdIdeal.nD Cert.MixBwdIdeal.τ).loc Cert.MixBwdIdeal.main_arg1)
      ∧ m' ((c.tc : Thread Cert.MixBwdReferenceIdeal.nD Cert.MixBwdReferenceIdeal.τ).loc Cert.MixBwdReferenceIdeal.main_arg2) = m ((c.tc : Thread Cert.MixBwdIdeal.nD Cert.MixBwdIdeal.τ).loc Cert.MixBwdIdeal.main_arg2)
      ∧ m' ((c.tc : Thread Cert.MixBwdReferenceIdeal.nD Cert.MixBwdReferenceIdeal.τ).loc Cert.MixBwdReferenceIdeal.main_arg3) = m ((c.tc : Thread Cert.MixBwdIdeal.nD Cert.MixBwdIdeal.τ).loc Cert.MixBwdIdeal.main_arg3)
      ∧ m' ((c.tc : Thread Cert.MixBwdReferenceIdeal.nD Cert.MixBwdReferenceIdeal.τ).loc Cert.MixBwdReferenceIdeal.main_arg4) = m ((c.tc : Thread Cert.MixBwdIdeal.nD Cert.MixBwdIdeal.τ).loc Cert.MixBwdIdeal.main_arg4)
      ∧ m' ((c.tc : Thread Cert.MixBwdReferenceIdeal.nD Cert.MixBwdReferenceIdeal.τ).loc Cert.MixBwdReferenceIdeal.main_arg5) = m ((c.tc : Thread Cert.MixBwdIdeal.nD Cert.MixBwdIdeal.τ).loc Cert.MixBwdIdeal.main_arg5)) →
    ∃ (v0 : (c : Dev Cert.MixBwdIdeal.nD) → Buf (Elt Ideal) ((c.tc : Thread Cert.MixBwdIdeal.nD Cert.MixBwdIdeal.τ).loc Cert.MixBwdIdeal.main_v0_0)) (v1 : (c : Dev Cert.MixBwdIdeal.nD) → Buf (Elt Ideal) ((c.tc : Thread Cert.MixBwdIdeal.nD Cert.MixBwdIdeal.τ).loc Cert.MixBwdIdeal.main_v0_1)) (v2 : (c : Dev Cert.MixBwdIdeal.nD) → Buf (Elt Ideal) ((c.tc : Thread Cert.MixBwdIdeal.nD Cert.MixBwdIdeal.τ).loc Cert.MixBwdIdeal.main_v0_2)) (v3 : (c : Dev Cert.MixBwdIdeal.nD) → Buf (Elt Ideal) ((c.tc : Thread Cert.MixBwdIdeal.nD Cert.MixBwdIdeal.τ).loc Cert.MixBwdIdeal.main_v0_3)) (v4 : (c : Dev Cert.MixBwdIdeal.nD) → Buf (Elt Ideal) ((c.tc : Thread Cert.MixBwdIdeal.nD Cert.MixBwdIdeal.τ).loc Cert.MixBwdIdeal.main_v0_4)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0_0) = v0 c
          ∧ r.2.mem ((c.tc : Thread Cert.MixBwdIdeal.nD Cert.MixBwdIdeal.τ).loc Cert.MixBwdIdeal.main_v0_1) = v1 c
          ∧ r.2.mem ((c.tc : Thread Cert.MixBwdIdeal.nD Cert.MixBwdIdeal.τ).loc Cert.MixBwdIdeal.main_v0_2) = v2 c
          ∧ r.2.mem ((c.tc : Thread Cert.MixBwdIdeal.nD Cert.MixBwdIdeal.τ).loc Cert.MixBwdIdeal.main_v0_3) = v3 c
          ∧ r.2.mem ((c.tc : Thread Cert.MixBwdIdeal.nD Cert.MixBwdIdeal.τ).loc Cert.MixBwdIdeal.main_v0_4) = v4 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ θ_run (Cert.MixBwdReferenceIdeal.defs (F := Ideal)) (onTc (τ := Cert.MixBwdReferenceIdeal.τ) (Cert.MixBwdReferenceIdeal.main (F := Ideal))) ⟨m', fun _ => 0, g'⟩ (fun r => ∀ c : Dev Cert.MixBwdReferenceIdeal.nD,
          r.2.mem ((c.tc : Thread Cert.MixBwdReferenceIdeal.nD Cert.MixBwdReferenceIdeal.τ).loc Cert.MixBwdReferenceIdeal.main_v34) = v0 c
          ∧ r.2.mem ((c.tc : Thread Cert.MixBwdReferenceIdeal.nD Cert.MixBwdReferenceIdeal.τ).loc Cert.MixBwdReferenceIdeal.main_v36) = v1 c
          ∧ r.2.mem ((c.tc : Thread Cert.MixBwdReferenceIdeal.nD Cert.MixBwdReferenceIdeal.τ).loc Cert.MixBwdReferenceIdeal.main_v38) = v2 c
          ∧ r.2.mem ((c.tc : Thread Cert.MixBwdReferenceIdeal.nD Cert.MixBwdReferenceIdeal.τ).loc Cert.MixBwdReferenceIdeal.main_v39) = v3 c
          ∧ r.2.mem ((c.tc : Thread Cert.MixBwdReferenceIdeal.nD Cert.MixBwdReferenceIdeal.τ).loc Cert.MixBwdReferenceIdeal.main_v42) = v4 c
          ∧ r.2.mem ((c.tc : Thread Cert.MixBwdReferenceIdeal.nD Cert.MixBwdReferenceIdeal.τ).loc Cert.MixBwdReferenceIdeal.main_arg0) = m' ((c.tc : Thread Cert.MixBwdReferenceIdeal.nD Cert.MixBwdReferenceIdeal.τ).loc Cert.MixBwdReferenceIdeal.main_arg0)
          ∧ r.2.mem ((c.tc : Thread Cert.MixBwdReferenceIdeal.nD Cert.MixBwdReferenceIdeal.τ).loc Cert.MixBwdReferenceIdeal.main_arg1) = m' ((c.tc : Thread Cert.MixBwdReferenceIdeal.nD Cert.MixBwdReferenceIdeal.τ).loc Cert.MixBwdReferenceIdeal.main_arg1)
          ∧ r.2.mem ((c.tc : Thread Cert.MixBwdReferenceIdeal.nD Cert.MixBwdReferenceIdeal.τ).loc Cert.MixBwdReferenceIdeal.main_arg2) = m' ((c.tc : Thread Cert.MixBwdReferenceIdeal.nD Cert.MixBwdReferenceIdeal.τ).loc Cert.MixBwdReferenceIdeal.main_arg2)
          ∧ r.2.mem ((c.tc : Thread Cert.MixBwdReferenceIdeal.nD Cert.MixBwdReferenceIdeal.τ).loc Cert.MixBwdReferenceIdeal.main_arg3) = m' ((c.tc : Thread Cert.MixBwdReferenceIdeal.nD Cert.MixBwdReferenceIdeal.τ).loc Cert.MixBwdReferenceIdeal.main_arg3)
          ∧ r.2.mem ((c.tc : Thread Cert.MixBwdReferenceIdeal.nD Cert.MixBwdReferenceIdeal.τ).loc Cert.MixBwdReferenceIdeal.main_arg4) = m' ((c.tc : Thread Cert.MixBwdReferenceIdeal.nD Cert.MixBwdReferenceIdeal.τ).loc Cert.MixBwdReferenceIdeal.main_arg4)
          ∧ r.2.mem ((c.tc : Thread Cert.MixBwdReferenceIdeal.nD Cert.MixBwdReferenceIdeal.τ).loc Cert.MixBwdReferenceIdeal.main_arg5) = m' ((c.tc : Thread Cert.MixBwdReferenceIdeal.nD Cert.MixBwdReferenceIdeal.τ).loc Cert.MixBwdReferenceIdeal.main_arg5))

def preserves_ResBwd_ResBwdIdeal : Prop :=
  True

def algebraic_ResBwdIdeal_ResBwdReferenceIdeal [hResBwdIdeal : Cert.ResBwdIdeal.Facts] [hResBwdReferenceIdeal : Cert.ResBwdReferenceIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg)
    (m' : (ℓ : Loc Cert.ResBwdReferenceIdeal.nD Cert.ResBwdReferenceIdeal.τ Cert.ResBwdReferenceIdeal.sig) → Buf (Elt Ideal) ℓ) (g' : Dev Cert.ResBwdReferenceIdeal.nD → PrngReg), Pre_ResBwdIdeal m →
    (∀ c : Dev Cert.ResBwdIdeal.nD,
      m' ((c.tc : Thread Cert.ResBwdReferenceIdeal.nD Cert.ResBwdReferenceIdeal.τ).loc Cert.ResBwdReferenceIdeal.main_arg0) = m ((c.tc : Thread Cert.ResBwdIdeal.nD Cert.ResBwdIdeal.τ).loc Cert.ResBwdIdeal.main_arg0)
      ∧ m' ((c.tc : Thread Cert.ResBwdReferenceIdeal.nD Cert.ResBwdReferenceIdeal.τ).loc Cert.ResBwdReferenceIdeal.main_arg1) = m ((c.tc : Thread Cert.ResBwdIdeal.nD Cert.ResBwdIdeal.τ).loc Cert.ResBwdIdeal.main_arg1)
      ∧ m' ((c.tc : Thread Cert.ResBwdReferenceIdeal.nD Cert.ResBwdReferenceIdeal.τ).loc Cert.ResBwdReferenceIdeal.main_arg2) = m ((c.tc : Thread Cert.ResBwdIdeal.nD Cert.ResBwdIdeal.τ).loc Cert.ResBwdIdeal.main_arg2)) →
    ∃ (v0 : (c : Dev Cert.ResBwdIdeal.nD) → Buf (Elt Ideal) ((c.tc : Thread Cert.ResBwdIdeal.nD Cert.ResBwdIdeal.τ).loc Cert.ResBwdIdeal.main_v0_0)) (v1 : (c : Dev Cert.ResBwdIdeal.nD) → Buf (Elt Ideal) ((c.tc : Thread Cert.ResBwdIdeal.nD Cert.ResBwdIdeal.τ).loc Cert.ResBwdIdeal.main_v0_1)),
      θ_run (Cert.ResBwdIdeal.defs (F := Ideal)) (onTc (τ := Cert.ResBwdIdeal.τ) (Cert.ResBwdIdeal.main (F := Ideal))) ⟨m, fun _ => 0, g⟩ (fun r => ∀ c : Dev Cert.ResBwdIdeal.nD,
          r.2.mem ((c.tc : Thread Cert.ResBwdIdeal.nD Cert.ResBwdIdeal.τ).loc Cert.ResBwdIdeal.main_v0_0) = v0 c
          ∧ r.2.mem ((c.tc : Thread Cert.ResBwdIdeal.nD Cert.ResBwdIdeal.τ).loc Cert.ResBwdIdeal.main_v0_1) = v1 c
          ∧ r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
          ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
          ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2))
      ∧ θ_run (Cert.ResBwdReferenceIdeal.defs (F := Ideal)) (onTc (τ := Cert.ResBwdReferenceIdeal.τ) (Cert.ResBwdReferenceIdeal.main (F := Ideal))) ⟨m', fun _ => 0, g'⟩ (fun r => ∀ c : Dev Cert.ResBwdReferenceIdeal.nD,
          r.2.mem ((c.tc : Thread Cert.ResBwdReferenceIdeal.nD Cert.ResBwdReferenceIdeal.τ).loc Cert.ResBwdReferenceIdeal.main_v10) = v0 c
          ∧ r.2.mem ((c.tc : Thread Cert.ResBwdReferenceIdeal.nD Cert.ResBwdReferenceIdeal.τ).loc Cert.ResBwdReferenceIdeal.main_v13) = v1 c
          ∧ r.2.mem ((c.tc : Thread Cert.ResBwdReferenceIdeal.nD Cert.ResBwdReferenceIdeal.τ).loc Cert.ResBwdReferenceIdeal.main_arg0) = m' ((c.tc : Thread Cert.ResBwdReferenceIdeal.nD Cert.ResBwdReferenceIdeal.τ).loc Cert.ResBwdReferenceIdeal.main_arg0)
          ∧ r.2.mem ((c.tc : Thread Cert.ResBwdReferenceIdeal.nD Cert.ResBwdReferenceIdeal.τ).loc Cert.ResBwdReferenceIdeal.main_arg1) = m' ((c.tc : Thread Cert.ResBwdReferenceIdeal.nD Cert.ResBwdReferenceIdeal.τ).loc Cert.ResBwdReferenceIdeal.main_arg1)
          ∧ r.2.mem ((c.tc : Thread Cert.ResBwdReferenceIdeal.nD Cert.ResBwdReferenceIdeal.τ).loc Cert.ResBwdReferenceIdeal.main_arg2) = m' ((c.tc : Thread Cert.ResBwdReferenceIdeal.nD Cert.ResBwdReferenceIdeal.τ).loc Cert.ResBwdReferenceIdeal.main_arg2))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)
      ∧ m' ((c.tc : Thread Cert.NormBwdReferenceIdeal.nD Cert.NormBwdReferenceIdeal.τ).loc Cert.NormBwdReferenceIdeal.main_arg4) = m ((c.tc : Thread Cert.NormBwdIdeal.nD Cert.NormBwdIdeal.τ).loc Cert.NormBwdIdeal.main_arg4)
      ∧ m' ((c.tc : Thread Cert.NormBwdReferenceIdeal.nD Cert.NormBwdReferenceIdeal.τ).loc Cert.NormBwdReferenceIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v57) = v0 c
          ∧ r.2.mem ((c.tc : Thread Cert.NormBwdReferenceIdeal.nD Cert.NormBwdReferenceIdeal.τ).loc Cert.NormBwdReferenceIdeal.main_v62) = v1 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3)
          ∧ r.2.mem ((c.tc : Thread Cert.NormBwdReferenceIdeal.nD Cert.NormBwdReferenceIdeal.τ).loc Cert.NormBwdReferenceIdeal.main_arg4) = m' ((c.tc : Thread Cert.NormBwdReferenceIdeal.nD Cert.NormBwdReferenceIdeal.τ).loc Cert.NormBwdReferenceIdeal.main_arg4)
          ∧ r.2.mem ((c.tc : Thread Cert.NormBwdReferenceIdeal.nD Cert.NormBwdReferenceIdeal.τ).loc Cert.NormBwdReferenceIdeal.main_arg5) = m' ((c.tc : Thread Cert.NormBwdReferenceIdeal.nD Cert.NormBwdReferenceIdeal.τ).loc Cert.NormBwdReferenceIdeal.main_arg5))

def preserves_RopeBwd_RopeBwdIdeal : Prop :=
  True

def algebraic_RopeBwdIdeal_RopeBwdReferenceIdeal [hRopeBwdIdeal : Cert.RopeBwdIdeal.Facts] [hRopeBwdReferenceIdeal : Cert.RopeBwdReferenceIdeal.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg)
    (m' : (ℓ : Loc Cert.RopeBwdReferenceIdeal.nD Cert.RopeBwdReferenceIdeal.τ Cert.RopeBwdReferenceIdeal.sig) → Buf (Elt Ideal) ℓ) (g' : Dev Cert.RopeBwdReferenceIdeal.nD → PrngReg), Pre_RopeBwdIdeal m →
    (∀ c : Dev Cert.RopeBwdIdeal.nD,
      m' ((c.tc : Thread Cert.RopeBwdReferenceIdeal.nD Cert.RopeBwdReferenceIdeal.τ).loc Cert.RopeBwdReferenceIdeal.main_arg0) = m ((c.tc : Thread Cert.RopeBwdIdeal.nD Cert.RopeBwdIdeal.τ).loc Cert.RopeBwdIdeal.main_arg0)
      ∧ m' ((c.tc : Thread Cert.RopeBwdReferenceIdeal.nD Cert.RopeBwdReferenceIdeal.τ).loc Cert.RopeBwdReferenceIdeal.main_arg1) = m ((c.tc : Thread Cert.RopeBwdIdeal.nD Cert.RopeBwdIdeal.τ).loc Cert.RopeBwdIdeal.main_arg1)
      ∧ m' ((c.tc : Thread Cert.RopeBwdReferenceIdeal.nD Cert.RopeBwdReferenceIdeal.τ).loc Cert.RopeBwdReferenceIdeal.main_arg2) = m ((c.tc : Thread Cert.RopeBwdIdeal.nD Cert.RopeBwdIdeal.τ).loc Cert.RopeBwdIdeal.main_arg2)
      ∧ m' ((c.tc : Thread Cert.RopeBwdReferenceIdeal.nD Cert.RopeBwdReferenceIdeal.τ).loc Cert.RopeBwdReferenceIdeal.main_arg3) = m ((c.tc : Thread Cert.RopeBwdIdeal.nD Cert.RopeBwdIdeal.τ).loc Cert.RopeBwdIdeal.main_arg3)) →
    ∃ (v0 : (c : Dev Cert.RopeBwdIdeal.nD) → Buf (Elt Ideal) ((c.tc : Thread Cert.RopeBwdIdeal.nD Cert.RopeBwdIdeal.τ).loc Cert.RopeBwdIdeal.main_v3)),
      θ_run (Cert.RopeBwdIdeal.defs (F := Ideal)) (onTc (τ := Cert.RopeBwdIdeal.τ) (Cert.RopeBwdIdeal.main (F := Ideal))) ⟨m, fun _ => 0, g⟩ (fun r => ∀ c : Dev Cert.RopeBwdIdeal.nD,
          r.2.mem ((c.tc : Thread Cert.RopeBwdIdeal.nD Cert.RopeBwdIdeal.τ).loc Cert.RopeBwdIdeal.main_v3) = v0 c
          ∧ r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
          ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
          ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
          ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3))
      ∧ θ_run (Cert.RopeBwdReferenceIdeal.defs (F := Ideal)) (onTc (τ := Cert.RopeBwdReferenceIdeal.τ) (Cert.RopeBwdReferenceIdeal.main (F := Ideal))) ⟨m', fun _ => 0, g'⟩ (fun r => ∀ c : Dev Cert.RopeBwdReferenceIdeal.nD,
          r.2.mem ((c.tc : Thread Cert.RopeBwdReferenceIdeal.nD Cert.RopeBwdReferenceIdeal.τ).loc Cert.RopeBwdReferenceIdeal.main_v71) = v0 c
          ∧ r.2.mem ((c.tc : Thread Cert.RopeBwdReferenceIdeal.nD Cert.RopeBwdReferenceIdeal.τ).loc Cert.RopeBwdReferenceIdeal.main_arg0) = m' ((c.tc : Thread Cert.RopeBwdReferenceIdeal.nD Cert.RopeBwdReferenceIdeal.τ).loc Cert.RopeBwdReferenceIdeal.main_arg0)
          ∧ r.2.mem ((c.tc : Thread Cert.RopeBwdReferenceIdeal.nD Cert.RopeBwdReferenceIdeal.τ).loc Cert.RopeBwdReferenceIdeal.main_arg1) = m' ((c.tc : Thread Cert.RopeBwdReferenceIdeal.nD Cert.RopeBwdReferenceIdeal.τ).loc Cert.RopeBwdReferenceIdeal.main_arg1)
          ∧ r.2.mem ((c.tc : Thread Cert.RopeBwdReferenceIdeal.nD Cert.RopeBwdReferenceIdeal.τ).loc Cert.RopeBwdReferenceIdeal.main_arg2) = m' ((c.tc : Thread Cert.RopeBwdReferenceIdeal.nD Cert.RopeBwdReferenceIdeal.τ).loc Cert.RopeBwdReferenceIdeal.main_arg2)
          ∧ r.2.mem ((c.tc : Thread Cert.RopeBwdReferenceIdeal.nD Cert.RopeBwdReferenceIdeal.τ).loc Cert.RopeBwdReferenceIdeal.main_arg3) = m' ((c.tc : Thread Cert.RopeBwdReferenceIdeal.nD Cert.RopeBwdReferenceIdeal.τ).loc Cert.RopeBwdReferenceIdeal.main_arg3))

def preserves_ResFwd_ResFwdIdeal : Prop :=
  True

def algebraic_ResFwdIdeal_ResFwdReferenceIdeal [hResFwdIdeal : Cert.ResFwdIdeal.Facts] [hResFwdReferenceIdeal : Cert.ResFwdReferenceIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg)
    (m' : (ℓ : Loc Cert.ResFwdReferenceIdeal.nD Cert.ResFwdReferenceIdeal.τ Cert.ResFwdReferenceIdeal.sig) → Buf (Elt Ideal) ℓ) (g' : Dev Cert.ResFwdReferenceIdeal.nD → PrngReg), Pre_ResFwdIdeal m →
    (∀ c : Dev Cert.ResFwdIdeal.nD,
      m' ((c.tc : Thread Cert.ResFwdReferenceIdeal.nD Cert.ResFwdReferenceIdeal.τ).loc Cert.ResFwdReferenceIdeal.main_arg0) = m ((c.tc : Thread Cert.ResFwdIdeal.nD Cert.ResFwdIdeal.τ).loc Cert.ResFwdIdeal.main_arg0)
      ∧ m' ((c.tc : Thread Cert.ResFwdReferenceIdeal.nD Cert.ResFwdReferenceIdeal.τ).loc Cert.ResFwdReferenceIdeal.main_arg1) = m ((c.tc : Thread Cert.ResFwdIdeal.nD Cert.ResFwdIdeal.τ).loc Cert.ResFwdIdeal.main_arg1)
      ∧ m' ((c.tc : Thread Cert.ResFwdReferenceIdeal.nD Cert.ResFwdReferenceIdeal.τ).loc Cert.ResFwdReferenceIdeal.main_arg2) = m ((c.tc : Thread Cert.ResFwdIdeal.nD Cert.ResFwdIdeal.τ).loc Cert.ResFwdIdeal.main_arg2)) →
    ∃ (v0 : (c : Dev Cert.ResFwdIdeal.nD) → Buf (Elt Ideal) ((c.tc : Thread Cert.ResFwdIdeal.nD Cert.ResFwdIdeal.τ).loc Cert.ResFwdIdeal.main_v0)),
      θ_run (Cert.ResFwdIdeal.defs (F := Ideal)) (onTc (τ := Cert.ResFwdIdeal.τ) (Cert.ResFwdIdeal.main (F := Ideal))) ⟨m, fun _ => 0, g⟩ (fun r => ∀ c : Dev Cert.ResFwdIdeal.nD,
          r.2.mem ((c.tc : Thread Cert.ResFwdIdeal.nD Cert.ResFwdIdeal.τ).loc Cert.ResFwdIdeal.main_v0) = v0 c
          ∧ r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
          ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
          ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2))
      ∧ θ_run (Cert.ResFwdReferenceIdeal.defs (F := Ideal)) (onTc (τ := Cert.ResFwdReferenceIdeal.τ) (Cert.ResFwdReferenceIdeal.main (F := Ideal))) ⟨m', fun _ => 0, g'⟩ (fun r => ∀ c : Dev Cert.ResFwdReferenceIdeal.nD,
          r.2.mem ((c.tc : Thread Cert.ResFwdReferenceIdeal.nD Cert.ResFwdReferenceIdeal.τ).loc Cert.ResFwdReferenceIdeal.main_v4) = v0 c
          ∧ r.2.mem ((c.tc : Thread Cert.ResFwdReferenceIdeal.nD Cert.ResFwdReferenceIdeal.τ).loc Cert.ResFwdReferenceIdeal.main_arg0) = m' ((c.tc : Thread Cert.ResFwdReferenceIdeal.nD Cert.ResFwdReferenceIdeal.τ).loc Cert.ResFwdReferenceIdeal.main_arg0)
          ∧ r.2.mem ((c.tc : Thread Cert.ResFwdReferenceIdeal.nD Cert.ResFwdReferenceIdeal.τ).loc Cert.ResFwdReferenceIdeal.main_arg1) = m' ((c.tc : Thread Cert.ResFwdReferenceIdeal.nD Cert.ResFwdReferenceIdeal.τ).loc Cert.ResFwdReferenceIdeal.main_arg1)
          ∧ r.2.mem ((c.tc : Thread Cert.ResFwdReferenceIdeal.nD Cert.ResFwdReferenceIdeal.τ).loc Cert.ResFwdReferenceIdeal.main_arg2) = m' ((c.tc : Thread Cert.ResFwdReferenceIdeal.nD Cert.ResFwdReferenceIdeal.τ).loc Cert.ResFwdReferenceIdeal.main_arg2))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)
      ∧ m' ((c.tc : Thread Cert.NormFwdReferenceIdeal.nD Cert.NormFwdReferenceIdeal.τ).loc Cert.NormFwdReferenceIdeal.main_arg2) = m ((c.tc : Thread Cert.NormFwdIdeal.nD Cert.NormFwdIdeal.τ).loc Cert.NormFwdIdeal.main_arg2)
      ∧ m' ((c.tc : Thread Cert.NormFwdReferenceIdeal.nD Cert.NormFwdReferenceIdeal.τ).loc Cert.NormFwdReferenceIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v24) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1)
          ∧ r.2.mem ((c.tc : Thread Cert.NormFwdReferenceIdeal.nD Cert.NormFwdReferenceIdeal.τ).loc Cert.NormFwdReferenceIdeal.main_arg2) = m' ((c.tc : Thread Cert.NormFwdReferenceIdeal.nD Cert.NormFwdReferenceIdeal.τ).loc Cert.NormFwdReferenceIdeal.main_arg2)
          ∧ r.2.mem ((c.tc : Thread Cert.NormFwdReferenceIdeal.nD Cert.NormFwdReferenceIdeal.τ).loc Cert.NormFwdReferenceIdeal.main_arg3) = m' ((c.tc : Thread Cert.NormFwdReferenceIdeal.nD Cert.NormFwdReferenceIdeal.τ).loc Cert.NormFwdReferenceIdeal.main_arg3))

def preserves_ResNorm_ResNormIdeal : Prop :=
  True

def algebraic_ResNormIdeal_ResNormReferenceIdeal [hResNormIdeal : Cert.ResNormIdeal.Facts] [hResNormReferenceIdeal : Cert.ResNormReferenceIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ResNormReferenceIdeal.nD Cert.ResNormReferenceIdeal.τ Cert.ResNormReferenceIdeal.sig) → Buf (Elt Ideal) ℓ) (g' : Dev Cert.ResNormReferenceIdeal.nD → PrngReg), Pre_ResNormIdeal m →
    (∀ c : Dev Cert.ResNormIdeal.nD,
      m' ((c.tc : Thread Cert.ResNormReferenceIdeal.nD Cert.ResNormReferenceIdeal.τ).loc Cert.ResNormReferenceIdeal.main_arg0) = m ((c.tc : Thread Cert.ResNormIdeal.nD Cert.ResNormIdeal.τ).loc Cert.ResNormIdeal.main_arg0)
      ∧ m' ((c.tc : Thread Cert.ResNormReferenceIdeal.nD Cert.ResNormReferenceIdeal.τ).loc Cert.ResNormReferenceIdeal.main_arg1) = m ((c.tc : Thread Cert.ResNormIdeal.nD Cert.ResNormIdeal.τ).loc Cert.ResNormIdeal.main_arg1)
      ∧ m' ((c.tc : Thread Cert.ResNormReferenceIdeal.nD Cert.ResNormReferenceIdeal.τ).loc Cert.ResNormReferenceIdeal.main_arg2) = m ((c.tc : Thread Cert.ResNormIdeal.nD Cert.ResNormIdeal.τ).loc Cert.ResNormIdeal.main_arg2)
      ∧ m' ((c.tc : Thread Cert.ResNormReferenceIdeal.nD Cert.ResNormReferenceIdeal.τ).loc Cert.ResNormReferenceIdeal.main_arg3) = m ((c.tc : Thread Cert.ResNormIdeal.nD Cert.ResNormIdeal.τ).loc Cert.ResNormIdeal.main_arg3)
      ∧ m' ((c.tc : Thread Cert.ResNormReferenceIdeal.nD Cert.ResNormReferenceIdeal.τ).loc Cert.ResNormReferenceIdeal.main_arg4) = m ((c.tc : Thread Cert.ResNormIdeal.nD Cert.ResNormIdeal.τ).loc Cert.ResNormIdeal.main_arg4)
      ∧ m' ((c.tc : Thread Cert.ResNormReferenceIdeal.nD Cert.ResNormReferenceIdeal.τ).loc Cert.ResNormReferenceIdeal.main_arg5) = m ((c.tc : Thread Cert.ResNormIdeal.nD Cert.ResNormIdeal.τ).loc Cert.ResNormIdeal.main_arg5)) →
    ∃ (v0 : (c : Dev Cert.ResNormIdeal.nD) → Buf (Elt Ideal) ((c.tc : Thread Cert.ResNormIdeal.nD Cert.ResNormIdeal.τ).loc Cert.ResNormIdeal.main_v0_0)) (v1 : (c : Dev Cert.ResNormIdeal.nD) → Buf (Elt Ideal) ((c.tc : Thread Cert.ResNormIdeal.nD Cert.ResNormIdeal.τ).loc Cert.ResNormIdeal.main_v0_1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v0_0) = v0 c
          ∧ r.2.mem ((c.tc : Thread Cert.ResNormIdeal.nD Cert.ResNormIdeal.τ).loc Cert.ResNormIdeal.main_v0_1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3)
          ∧ r.2.mem ((c.tc : Thread Cert.ResNormIdeal.nD Cert.ResNormIdeal.τ).loc Cert.ResNormIdeal.main_arg4) = m ((c.tc : Thread Cert.ResNormIdeal.nD Cert.ResNormIdeal.τ).loc Cert.ResNormIdeal.main_arg4)
          ∧ r.2.mem ((c.tc : Thread Cert.ResNormIdeal.nD Cert.ResNormIdeal.τ).loc Cert.ResNormIdeal.main_arg5) = m ((c.tc : Thread Cert.ResNormIdeal.nD Cert.ResNormIdeal.τ).loc Cert.ResNormIdeal.main_arg5))
      ∧ θ_run (Cert.ResNormReferenceIdeal.defs (F := Ideal)) (onTc (τ := Cert.ResNormReferenceIdeal.τ) (Cert.ResNormReferenceIdeal.main (F := Ideal))) ⟨m', fun _ => 0, g'⟩ (fun r => ∀ c : Dev Cert.ResNormReferenceIdeal.nD,
          r.2.mem ((c.tc : Thread Cert.ResNormReferenceIdeal.nD Cert.ResNormReferenceIdeal.τ).loc Cert.ResNormReferenceIdeal.main_v4) = v0 c
          ∧ r.2.mem ((c.tc : Thread Cert.ResNormReferenceIdeal.nD Cert.ResNormReferenceIdeal.τ).loc Cert.ResNormReferenceIdeal.main_v29) = v1 c
          ∧ r.2.mem ((c.tc : Thread Cert.ResNormReferenceIdeal.nD Cert.ResNormReferenceIdeal.τ).loc Cert.ResNormReferenceIdeal.main_arg0) = m' ((c.tc : Thread Cert.ResNormReferenceIdeal.nD Cert.ResNormReferenceIdeal.τ).loc Cert.ResNormReferenceIdeal.main_arg0)
          ∧ r.2.mem ((c.tc : Thread Cert.ResNormReferenceIdeal.nD Cert.ResNormReferenceIdeal.τ).loc Cert.ResNormReferenceIdeal.main_arg1) = m' ((c.tc : Thread Cert.ResNormReferenceIdeal.nD Cert.ResNormReferenceIdeal.τ).loc Cert.ResNormReferenceIdeal.main_arg1)
          ∧ r.2.mem ((c.tc : Thread Cert.ResNormReferenceIdeal.nD Cert.ResNormReferenceIdeal.τ).loc Cert.ResNormReferenceIdeal.main_arg2) = m' ((c.tc : Thread Cert.ResNormReferenceIdeal.nD Cert.ResNormReferenceIdeal.τ).loc Cert.ResNormReferenceIdeal.main_arg2)
          ∧ r.2.mem ((c.tc : Thread Cert.ResNormReferenceIdeal.nD Cert.ResNormReferenceIdeal.τ).loc Cert.ResNormReferenceIdeal.main_arg3) = m' ((c.tc : Thread Cert.ResNormReferenceIdeal.nD Cert.ResNormReferenceIdeal.τ).loc Cert.ResNormReferenceIdeal.main_arg3)
          ∧ r.2.mem ((c.tc : Thread Cert.ResNormReferenceIdeal.nD Cert.ResNormReferenceIdeal.τ).loc Cert.ResNormReferenceIdeal.main_arg4) = m' ((c.tc : Thread Cert.ResNormReferenceIdeal.nD Cert.ResNormReferenceIdeal.τ).loc Cert.ResNormReferenceIdeal.main_arg4)
          ∧ r.2.mem ((c.tc : Thread Cert.ResNormReferenceIdeal.nD Cert.ResNormReferenceIdeal.τ).loc Cert.ResNormReferenceIdeal.main_arg5) = m' ((c.tc : Thread Cert.ResNormReferenceIdeal.nD Cert.ResNormReferenceIdeal.τ).loc Cert.ResNormReferenceIdeal.main_arg5))

def preserves_MixFwd_MixFwdIdeal : Prop :=
  True

def algebraic_MixFwdIdeal_MixFwdReferenceIdeal [hMixFwdIdeal : Cert.MixFwdIdeal.Facts] [hMixFwdReferenceIdeal : Cert.MixFwdReferenceIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdReferenceIdeal.nD Cert.MixFwdReferenceIdeal.τ Cert.MixFwdReferenceIdeal.sig) → Buf (Elt Ideal) ℓ) (g' : Dev Cert.MixFwdReferenceIdeal.nD → PrngReg), Pre_MixFwdIdeal m →
    (∀ c : Dev Cert.MixFwdIdeal.nD,
      m' ((c.tc : Thread Cert.MixFwdReferenceIdeal.nD Cert.MixFwdReferenceIdeal.τ).loc Cert.MixFwdReferenceIdeal.main_arg0) = m ((c.tc : Thread Cert.MixFwdIdeal.nD Cert.MixFwdIdeal.τ).loc Cert.MixFwdIdeal.main_arg0)
      ∧ m' ((c.tc : Thread Cert.MixFwdReferenceIdeal.nD Cert.MixFwdReferenceIdeal.τ).loc Cert.MixFwdReferenceIdeal.main_arg1) = m ((c.tc : Thread Cert.MixFwdIdeal.nD Cert.MixFwdIdeal.τ).loc Cert.MixFwdIdeal.main_arg1)
      ∧ m' ((c.tc : Thread Cert.MixFwdReferenceIdeal.nD Cert.MixFwdReferenceIdeal.τ).loc Cert.MixFwdReferenceIdeal.main_arg2) = m ((c.tc : Thread Cert.MixFwdIdeal.nD Cert.MixFwdIdeal.τ).loc Cert.MixFwdIdeal.main_arg2)
      ∧ m' ((c.tc : Thread Cert.MixFwdReferenceIdeal.nD Cert.MixFwdReferenceIdeal.τ).loc Cert.MixFwdReferenceIdeal.main_arg3) = m ((c.tc : Thread Cert.MixFwdIdeal.nD Cert.MixFwdIdeal.τ).loc Cert.MixFwdIdeal.main_arg3)
      ∧ m' ((c.tc : Thread Cert.MixFwdReferenceIdeal.nD Cert.MixFwdReferenceIdeal.τ).loc Cert.MixFwdReferenceIdeal.main_arg4) = m ((c.tc : Thread Cert.MixFwdIdeal.nD Cert.MixFwdIdeal.τ).loc Cert.MixFwdIdeal.main_arg4)) →
    ∃ (v0 : (c : Dev Cert.MixFwdIdeal.nD) → Buf (Elt Ideal) ((c.tc : Thread Cert.MixFwdIdeal.nD Cert.MixFwdIdeal.τ).loc Cert.MixFwdIdeal.main_v0)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ θ_run (Cert.MixFwdReferenceIdeal.defs (F := Ideal)) (onTc (τ := Cert.MixFwdReferenceIdeal.τ) (Cert.MixFwdReferenceIdeal.main (F := Ideal))) ⟨m', fun _ => 0, g'⟩ (fun r => ∀ c : Dev Cert.MixFwdReferenceIdeal.nD,
          r.2.mem ((c.tc : Thread Cert.MixFwdReferenceIdeal.nD Cert.MixFwdReferenceIdeal.τ).loc Cert.MixFwdReferenceIdeal.main_v21) = v0 c
          ∧ r.2.mem ((c.tc : Thread Cert.MixFwdReferenceIdeal.nD Cert.MixFwdReferenceIdeal.τ).loc Cert.MixFwdReferenceIdeal.main_arg0) = m' ((c.tc : Thread Cert.MixFwdReferenceIdeal.nD Cert.MixFwdReferenceIdeal.τ).loc Cert.MixFwdReferenceIdeal.main_arg0)
          ∧ r.2.mem ((c.tc : Thread Cert.MixFwdReferenceIdeal.nD Cert.MixFwdReferenceIdeal.τ).loc Cert.MixFwdReferenceIdeal.main_arg1) = m' ((c.tc : Thread Cert.MixFwdReferenceIdeal.nD Cert.MixFwdReferenceIdeal.τ).loc Cert.MixFwdReferenceIdeal.main_arg1)
          ∧ r.2.mem ((c.tc : Thread Cert.MixFwdReferenceIdeal.nD Cert.MixFwdReferenceIdeal.τ).loc Cert.MixFwdReferenceIdeal.main_arg2) = m' ((c.tc : Thread Cert.MixFwdReferenceIdeal.nD Cert.MixFwdReferenceIdeal.τ).loc Cert.MixFwdReferenceIdeal.main_arg2)
          ∧ r.2.mem ((c.tc : Thread Cert.MixFwdReferenceIdeal.nD Cert.MixFwdReferenceIdeal.τ).loc Cert.MixFwdReferenceIdeal.main_arg3) = m' ((c.tc : Thread Cert.MixFwdReferenceIdeal.nD Cert.MixFwdReferenceIdeal.τ).loc Cert.MixFwdReferenceIdeal.main_arg3)
          ∧ r.2.mem ((c.tc : Thread Cert.MixFwdReferenceIdeal.nD Cert.MixFwdReferenceIdeal.τ).loc Cert.MixFwdReferenceIdeal.main_arg4) = m' ((c.tc : Thread Cert.MixFwdReferenceIdeal.nD Cert.MixFwdReferenceIdeal.τ).loc Cert.MixFwdReferenceIdeal.main_arg4))

def preserves_RopeFwd_RopeFwdIdeal : Prop :=
  True

def algebraic_RopeFwdIdeal_RopeFwdReferenceIdeal [hRopeFwdIdeal : Cert.RopeFwdIdeal.Facts] [hRopeFwdReferenceIdeal : Cert.RopeFwdReferenceIdeal.Facts] : Prop :=
  ∀ (m : (ℓ : Loc Cert.RopeFwdIdeal.nD Cert.RopeFwdIdeal.τ Cert.RopeFwdIdeal.sig) → Buf (Elt Ideal) ℓ) (g : Dev Cert.RopeFwdIdeal.nD → PrngReg)
    (m' : (ℓ : Loc Cert.RopeFwdReferenceIdeal.nD Cert.RopeFwdReferenceIdeal.τ Cert.RopeFwdReferenceIdeal.sig) → Buf (Elt Ideal) ℓ) (g' : Dev Cert.RopeFwdReferenceIdeal.nD → PrngReg), Pre_RopeFwdIdeal m →
    (∀ c : Dev Cert.RopeFwdIdeal.nD,
      m' ((c.tc : Thread Cert.RopeFwdReferenceIdeal.nD Cert.RopeFwdReferenceIdeal.τ).loc Cert.RopeFwdReferenceIdeal.main_arg0) = m ((c.tc : Thread Cert.RopeFwdIdeal.nD Cert.RopeFwdIdeal.τ).loc Cert.RopeFwdIdeal.main_arg0)
      ∧ m' ((c.tc : Thread Cert.RopeFwdReferenceIdeal.nD Cert.RopeFwdReferenceIdeal.τ).loc Cert.RopeFwdReferenceIdeal.main_arg1) = m ((c.tc : Thread Cert.RopeFwdIdeal.nD Cert.RopeFwdIdeal.τ).loc Cert.RopeFwdIdeal.main_arg1)
      ∧ m' ((c.tc : Thread Cert.RopeFwdReferenceIdeal.nD Cert.RopeFwdReferenceIdeal.τ).loc Cert.RopeFwdReferenceIdeal.main_arg2) = m ((c.tc : Thread Cert.RopeFwdIdeal.nD Cert.RopeFwdIdeal.τ).loc Cert.RopeFwdIdeal.main_arg2)) →
    ∃ (v0 : (c : Dev Cert.RopeFwdIdeal.nD) → Buf (Elt Ideal) ((c.tc : Thread Cert.RopeFwdIdeal.nD Cert.RopeFwdIdeal.τ).loc Cert.RopeFwdIdeal.main_v3)),
      θ_run (Cert.RopeFwdIdeal.defs (F := Ideal)) (onTc (τ := Cert.RopeFwdIdeal.τ) (Cert.RopeFwdIdeal.main (F := Ideal))) ⟨m, fun _ => 0, g⟩ (fun r => ∀ c : Dev Cert.RopeFwdIdeal.nD,
          r.2.mem ((c.tc : Thread Cert.RopeFwdIdeal.nD Cert.RopeFwdIdeal.τ).loc Cert.RopeFwdIdeal.main_v3) = v0 c
          ∧ r.2.mem ((c.tc : Thread Cert.RopeFwdIdeal.nD Cert.RopeFwdIdeal.τ).loc Cert.RopeFwdIdeal.main_arg0) = m ((c.tc : Thread Cert.RopeFwdIdeal.nD Cert.RopeFwdIdeal.τ).loc Cert.RopeFwdIdeal.main_arg0)
          ∧ r.2.mem ((c.tc : Thread Cert.RopeFwdIdeal.nD Cert.RopeFwdIdeal.τ).loc Cert.RopeFwdIdeal.main_arg1) = m ((c.tc : Thread Cert.RopeFwdIdeal.nD Cert.RopeFwdIdeal.τ).loc Cert.RopeFwdIdeal.main_arg1)
          ∧ r.2.mem ((c.tc : Thread Cert.RopeFwdIdeal.nD Cert.RopeFwdIdeal.τ).loc Cert.RopeFwdIdeal.main_arg2) = m ((c.tc : Thread Cert.RopeFwdIdeal.nD Cert.RopeFwdIdeal.τ).loc Cert.RopeFwdIdeal.main_arg2))
      ∧ θ_run (Cert.RopeFwdReferenceIdeal.defs (F := Ideal)) (onTc (τ := Cert.RopeFwdReferenceIdeal.τ) (Cert.RopeFwdReferenceIdeal.main (F := Ideal))) ⟨m', fun _ => 0, g'⟩ (fun r => ∀ c : Dev Cert.RopeFwdReferenceIdeal.nD,
          r.2.mem ((c.tc : Thread Cert.RopeFwdReferenceIdeal.nD Cert.RopeFwdReferenceIdeal.τ).loc Cert.RopeFwdReferenceIdeal.main_v40) = v0 c
          ∧ r.2.mem ((c.tc : Thread Cert.RopeFwdReferenceIdeal.nD Cert.RopeFwdReferenceIdeal.τ).loc Cert.RopeFwdReferenceIdeal.main_arg0) = m' ((c.tc : Thread Cert.RopeFwdReferenceIdeal.nD Cert.RopeFwdReferenceIdeal.τ).loc Cert.RopeFwdReferenceIdeal.main_arg0)
          ∧ r.2.mem ((c.tc : Thread Cert.RopeFwdReferenceIdeal.nD Cert.RopeFwdReferenceIdeal.τ).loc Cert.RopeFwdReferenceIdeal.main_arg1) = m' ((c.tc : Thread Cert.RopeFwdReferenceIdeal.nD Cert.RopeFwdReferenceIdeal.τ).loc Cert.RopeFwdReferenceIdeal.main_arg1)
          ∧ r.2.mem ((c.tc : Thread Cert.RopeFwdReferenceIdeal.nD Cert.RopeFwdReferenceIdeal.τ).loc Cert.RopeFwdReferenceIdeal.main_arg2) = m' ((c.tc : Thread Cert.RopeFwdReferenceIdeal.nD Cert.RopeFwdReferenceIdeal.τ).loc Cert.RopeFwdReferenceIdeal.main_arg2))

def preserves_FfnFwd_FfnFwdIdeal : Prop :=
  True

def algebraic_FfnFwdIdeal_FfnFwdReferenceIdeal [hFfnFwdIdeal : Cert.FfnFwdIdeal.Facts] [hFfnFwdReferenceIdeal : Cert.FfnFwdReferenceIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdIdeal m →
    (∀ c : Dev Cert.FfnFwdIdeal.nD,
      m' ((c.tc : Thread Cert.FfnFwdReferenceIdeal.nD Cert.FfnFwdReferenceIdeal.τ).loc Cert.FfnFwdReferenceIdeal.main_arg0) = m ((c.tc : Thread Cert.FfnFwdIdeal.nD Cert.FfnFwdIdeal.τ).loc Cert.FfnFwdIdeal.main_arg0)
      ∧ m' ((c.tc : Thread Cert.FfnFwdReferenceIdeal.nD Cert.FfnFwdReferenceIdeal.τ).loc Cert.FfnFwdReferenceIdeal.main_arg1) = m ((c.tc : Thread Cert.FfnFwdIdeal.nD Cert.FfnFwdIdeal.τ).loc Cert.FfnFwdIdeal.main_arg1)
      ∧ m' ((c.tc : Thread Cert.FfnFwdReferenceIdeal.nD Cert.FfnFwdReferenceIdeal.τ).loc Cert.FfnFwdReferenceIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v0)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v31) = v0 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2))

def preserves_RetPost_RetPostIdeal : Prop :=
  True

def algebraic_RetPostIdeal_RetPostReferenceIdeal [hRetPostIdeal : Cert.RetPostIdeal.Facts] [hRetPostReferenceIdeal : Cert.RetPostReferenceIdeal.Facts] : Prop :=
  ∀ (m : (ℓ : Loc Cert.RetPostIdeal.nD Cert.RetPostIdeal.τ Cert.RetPostIdeal.sig) → Buf (Elt Ideal) ℓ) (g : Dev Cert.RetPostIdeal.nD → PrngReg)
    (m' : (ℓ : Loc Cert.RetPostReferenceIdeal.nD Cert.RetPostReferenceIdeal.τ Cert.RetPostReferenceIdeal.sig) → Buf (Elt Ideal) ℓ) (g' : Dev Cert.RetPostReferenceIdeal.nD → PrngReg), Pre_RetPostIdeal m →
    (∀ c : Dev Cert.RetPostIdeal.nD,
      m' ((c.tc : Thread Cert.RetPostReferenceIdeal.nD Cert.RetPostReferenceIdeal.τ).loc Cert.RetPostReferenceIdeal.main_arg0) = m ((c.tc : Thread Cert.RetPostIdeal.nD Cert.RetPostIdeal.τ).loc Cert.RetPostIdeal.main_arg0)
      ∧ m' ((c.tc : Thread Cert.RetPostReferenceIdeal.nD Cert.RetPostReferenceIdeal.τ).loc Cert.RetPostReferenceIdeal.main_arg1) = m ((c.tc : Thread Cert.RetPostIdeal.nD Cert.RetPostIdeal.τ).loc Cert.RetPostIdeal.main_arg1)
      ∧ m' ((c.tc : Thread Cert.RetPostReferenceIdeal.nD Cert.RetPostReferenceIdeal.τ).loc Cert.RetPostReferenceIdeal.main_arg2) = m ((c.tc : Thread Cert.RetPostIdeal.nD Cert.RetPostIdeal.τ).loc Cert.RetPostIdeal.main_arg2)) →
    ∃ (v0 : (c : Dev Cert.RetPostIdeal.nD) → Buf (Elt Ideal) ((c.tc : Thread Cert.RetPostIdeal.nD Cert.RetPostIdeal.τ).loc Cert.RetPostIdeal.main_v0)),
      θ_run (Cert.RetPostIdeal.defs (F := Ideal)) (onTc (τ := Cert.RetPostIdeal.τ) (Cert.RetPostIdeal.main (F := Ideal))) ⟨m, fun _ => 0, g⟩ (fun r => ∀ c : Dev Cert.RetPostIdeal.nD,
          r.2.mem ((c.tc : Thread Cert.RetPostIdeal.nD Cert.RetPostIdeal.τ).loc Cert.RetPostIdeal.main_v0) = v0 c
          ∧ r.2.mem ((c.tc : Thread Cert.RetPostIdeal.nD Cert.RetPostIdeal.τ).loc Cert.RetPostIdeal.main_arg0) = m ((c.tc : Thread Cert.RetPostIdeal.nD Cert.RetPostIdeal.τ).loc Cert.RetPostIdeal.main_arg0)
          ∧ r.2.mem ((c.tc : Thread Cert.RetPostIdeal.nD Cert.RetPostIdeal.τ).loc Cert.RetPostIdeal.main_arg1) = m ((c.tc : Thread Cert.RetPostIdeal.nD Cert.RetPostIdeal.τ).loc Cert.RetPostIdeal.main_arg1)
          ∧ r.2.mem ((c.tc : Thread Cert.RetPostIdeal.nD Cert.RetPostIdeal.τ).loc Cert.RetPostIdeal.main_arg2) = m ((c.tc : Thread Cert.RetPostIdeal.nD Cert.RetPostIdeal.τ).loc Cert.RetPostIdeal.main_arg2))
      ∧ θ_run (Cert.RetPostReferenceIdeal.defs (F := Ideal)) (onTc (τ := Cert.RetPostReferenceIdeal.τ) (Cert.RetPostReferenceIdeal.main (F := Ideal))) ⟨m', fun _ => 0, g'⟩ (fun r => ∀ c : Dev Cert.RetPostReferenceIdeal.nD,
          r.2.mem ((c.tc : Thread Cert.RetPostReferenceIdeal.nD Cert.RetPostReferenceIdeal.τ).loc Cert.RetPostReferenceIdeal.main_v26) = v0 c
          ∧ r.2.mem ((c.tc : Thread Cert.RetPostReferenceIdeal.nD Cert.RetPostReferenceIdeal.τ).loc Cert.RetPostReferenceIdeal.main_arg0) = m' ((c.tc : Thread Cert.RetPostReferenceIdeal.nD Cert.RetPostReferenceIdeal.τ).loc Cert.RetPostReferenceIdeal.main_arg0)
          ∧ r.2.mem ((c.tc : Thread Cert.RetPostReferenceIdeal.nD Cert.RetPostReferenceIdeal.τ).loc Cert.RetPostReferenceIdeal.main_arg1) = m' ((c.tc : Thread Cert.RetPostReferenceIdeal.nD Cert.RetPostReferenceIdeal.τ).loc Cert.RetPostReferenceIdeal.main_arg1)
          ∧ r.2.mem ((c.tc : Thread Cert.RetPostReferenceIdeal.nD Cert.RetPostReferenceIdeal.τ).loc Cert.RetPostReferenceIdeal.main_arg2) = m' ((c.tc : Thread Cert.RetPostReferenceIdeal.nD Cert.RetPostReferenceIdeal.τ).loc Cert.RetPostReferenceIdeal.main_arg2))

def preserves_GlaPost_GlaPostIdeal : Prop :=
  True

def algebraic_GlaPostIdeal_GlaPostReferenceIdeal [hGlaPostIdeal : Cert.GlaPostIdeal.Facts] [hGlaPostReferenceIdeal : Cert.GlaPostReferenceIdeal.Facts] : Prop :=
  ∀ (m : (ℓ : Loc Cert.GlaPostIdeal.nD Cert.GlaPostIdeal.τ Cert.GlaPostIdeal.sig) → Buf (Elt Ideal) ℓ) (g : Dev Cert.GlaPostIdeal.nD → PrngReg)
    (m' : (ℓ : Loc Cert.GlaPostReferenceIdeal.nD Cert.GlaPostReferenceIdeal.τ Cert.GlaPostReferenceIdeal.sig) → Buf (Elt Ideal) ℓ) (g' : Dev Cert.GlaPostReferenceIdeal.nD → PrngReg), Pre_GlaPostIdeal m →
    (∀ c : Dev Cert.GlaPostIdeal.nD,
      m' ((c.tc : Thread Cert.GlaPostReferenceIdeal.nD Cert.GlaPostReferenceIdeal.τ).loc Cert.GlaPostReferenceIdeal.main_arg0) = m ((c.tc : Thread Cert.GlaPostIdeal.nD Cert.GlaPostIdeal.τ).loc Cert.GlaPostIdeal.main_arg0)
      ∧ m' ((c.tc : Thread Cert.GlaPostReferenceIdeal.nD Cert.GlaPostReferenceIdeal.τ).loc Cert.GlaPostReferenceIdeal.main_arg1) = m ((c.tc : Thread Cert.GlaPostIdeal.nD Cert.GlaPostIdeal.τ).loc Cert.GlaPostIdeal.main_arg1)
      ∧ m' ((c.tc : Thread Cert.GlaPostReferenceIdeal.nD Cert.GlaPostReferenceIdeal.τ).loc Cert.GlaPostReferenceIdeal.main_arg2) = m ((c.tc : Thread Cert.GlaPostIdeal.nD Cert.GlaPostIdeal.τ).loc Cert.GlaPostIdeal.main_arg2)) →
    ∃ (v0 : (c : Dev Cert.GlaPostIdeal.nD) → Buf (Elt Ideal) ((c.tc : Thread Cert.GlaPostIdeal.nD Cert.GlaPostIdeal.τ).loc Cert.GlaPostIdeal.main_v0)),
      θ_run (Cert.GlaPostIdeal.defs (F := Ideal)) (onTc (τ := Cert.GlaPostIdeal.τ) (Cert.GlaPostIdeal.main (F := Ideal))) ⟨m, fun _ => 0, g⟩ (fun r => ∀ c : Dev Cert.GlaPostIdeal.nD,
          r.2.mem ((c.tc : Thread Cert.GlaPostIdeal.nD Cert.GlaPostIdeal.τ).loc Cert.GlaPostIdeal.main_v0) = v0 c
          ∧ r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
          ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
          ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2))
      ∧ θ_run (Cert.GlaPostReferenceIdeal.defs (F := Ideal)) (onTc (τ := Cert.GlaPostReferenceIdeal.τ) (Cert.GlaPostReferenceIdeal.main (F := Ideal))) ⟨m', fun _ => 0, g'⟩ (fun r => ∀ c : Dev Cert.GlaPostReferenceIdeal.nD,
          r.2.mem ((c.tc : Thread Cert.GlaPostReferenceIdeal.nD Cert.GlaPostReferenceIdeal.τ).loc Cert.GlaPostReferenceIdeal.main_v20) = v0 c
          ∧ r.2.mem ((c.tc : Thread Cert.GlaPostReferenceIdeal.nD Cert.GlaPostReferenceIdeal.τ).loc Cert.GlaPostReferenceIdeal.main_arg0) = m' ((c.tc : Thread Cert.GlaPostReferenceIdeal.nD Cert.GlaPostReferenceIdeal.τ).loc Cert.GlaPostReferenceIdeal.main_arg0)
          ∧ r.2.mem ((c.tc : Thread Cert.GlaPostReferenceIdeal.nD Cert.GlaPostReferenceIdeal.τ).loc Cert.GlaPostReferenceIdeal.main_arg1) = m' ((c.tc : Thread Cert.GlaPostReferenceIdeal.nD Cert.GlaPostReferenceIdeal.τ).loc Cert.GlaPostReferenceIdeal.main_arg1)
          ∧ r.2.mem ((c.tc : Thread Cert.GlaPostReferenceIdeal.nD Cert.GlaPostReferenceIdeal.τ).loc Cert.GlaPostReferenceIdeal.main_arg2) = m' ((c.tc : Thread Cert.GlaPostReferenceIdeal.nD Cert.GlaPostReferenceIdeal.τ).loc Cert.GlaPostReferenceIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDx : Cert.UpDx.Facts) (hUpDxIdeal : Cert.UpDxIdeal.Facts) (hUpDxReferenceIdeal : Cert.UpDxReferenceIdeal.Facts) (hUpDw : Cert.UpDw.Facts) (hUpDwIdeal : Cert.UpDwIdeal.Facts) (hUpDwReferenceIdeal : Cert.UpDwReferenceIdeal.Facts) (hODx : Cert.ODx.Facts) (hODxIdeal : Cert.ODxIdeal.Facts) (hODxReferenceIdeal : Cert.ODxReferenceIdeal.Facts) (hODw : Cert.ODw.Facts) (hODwIdeal : Cert.ODwIdeal.Facts) (hODwReferenceIdeal : Cert.ODwReferenceIdeal.Facts) (hBrDx : Cert.BrDx.Facts) (hBrDxIdeal : Cert.BrDxIdeal.Facts) (hBrDxReferenceIdeal : Cert.BrDxReferenceIdeal.Facts) (hBrDw : Cert.BrDw.Facts) (hBrDwIdeal : Cert.BrDwIdeal.Facts) (hBrDwReferenceIdeal : Cert.BrDwReferenceIdeal.Facts) (hFoxDw : Cert.FoxDw.Facts) (hFoxDwIdeal : Cert.FoxDwIdeal.Facts) (hFoxDwReferenceIdeal : Cert.FoxDwReferenceIdeal.Facts) (hGateDx : Cert.GateDx.Facts) (hGateDxIdeal : Cert.GateDxIdeal.Facts) (hGateDxReferenceIdeal : Cert.GateDxReferenceIdeal.Facts) (hGateDw : Cert.GateDw.Facts) (hGateDwIdeal : Cert.GateDwIdeal.Facts) (hGateDwReferenceIdeal : Cert.GateDwReferenceIdeal.Facts) (hInDx : Cert.InDx.Facts) (hInDxIdeal : Cert.InDxIdeal.Facts) (hInDxReferenceIdeal : Cert.InDxReferenceIdeal.Facts) (hInDw : Cert.InDw.Facts) (hInDwIdeal : Cert.InDwIdeal.Facts) (hInDwReferenceIdeal : Cert.InDwReferenceIdeal.Facts) (hInFwd : Cert.InFwd.Facts) (hInFwdIdeal : Cert.InFwdIdeal.Facts) (hInFwdReferenceIdeal : Cert.InFwdReferenceIdeal.Facts) (hInTail : Cert.InTail.Facts) (hInTailIdeal : Cert.InTailIdeal.Facts) (hInTailReferenceIdeal : Cert.InTailReferenceIdeal.Facts) (hBrFwd : Cert.BrFwd.Facts) (hBrFwdIdeal : Cert.BrFwdIdeal.Facts) (hBrFwdReferenceIdeal : Cert.BrFwdReferenceIdeal.Facts) (hFoxFwd : Cert.FoxFwd.Facts) (hFoxFwdIdeal : Cert.FoxFwdIdeal.Facts) (hFoxFwdReferenceIdeal : Cert.FoxFwdReferenceIdeal.Facts) (hGateFwd : Cert.GateFwd.Facts) (hGateFwdIdeal : Cert.GateFwdIdeal.Facts) (hGateFwdReferenceIdeal : Cert.GateFwdReferenceIdeal.Facts) (hOFwd : Cert.OFwd.Facts) (hOFwdIdeal : Cert.OFwdIdeal.Facts) (hOFwdReferenceIdeal : Cert.OFwdReferenceIdeal.Facts) (hUpFwd : Cert.UpFwd.Facts) (hUpFwdIdeal : Cert.UpFwdIdeal.Facts) (hUpFwdReferenceIdeal : Cert.UpFwdReferenceIdeal.Facts) (hDownFwd : Cert.DownFwd.Facts) (hDownFwdIdeal : Cert.DownFwdIdeal.Facts) (hDownFwdReferenceIdeal : Cert.DownFwdReferenceIdeal.Facts) (hFfnBwd : Cert.FfnBwd.Facts) (hFfnBwdIdeal : Cert.FfnBwdIdeal.Facts) (hFfnBwdReferenceIdeal : Cert.FfnBwdReferenceIdeal.Facts) (hMixBwd : Cert.MixBwd.Facts) (hMixBwdIdeal : Cert.MixBwdIdeal.Facts) (hMixBwdReferenceIdeal : Cert.MixBwdReferenceIdeal.Facts) (hResBwd : Cert.ResBwd.Facts) (hResBwdIdeal : Cert.ResBwdIdeal.Facts) (hResBwdReferenceIdeal : Cert.ResBwdReferenceIdeal.Facts) (hNormBwd : Cert.NormBwd.Facts) (hNormBwdIdeal : Cert.NormBwdIdeal.Facts) (hNormBwdReferenceIdeal : Cert.NormBwdReferenceIdeal.Facts) (hRopeBwd : Cert.RopeBwd.Facts) (hRopeBwdIdeal : Cert.RopeBwdIdeal.Facts) (hRopeBwdReferenceIdeal : Cert.RopeBwdReferenceIdeal.Facts) (hResFwd : Cert.ResFwd.Facts) (hResFwdIdeal : Cert.ResFwdIdeal.Facts) (hResFwdReferenceIdeal : Cert.ResFwdReferenceIdeal.Facts) (hNormFwd : Cert.NormFwd.Facts) (hNormFwdIdeal : Cert.NormFwdIdeal.Facts) (hNormFwdReferenceIdeal : Cert.NormFwdReferenceIdeal.Facts) (hResNorm : Cert.ResNorm.Facts) (hResNormIdeal : Cert.ResNormIdeal.Facts) (hResNormReferenceIdeal : Cert.ResNormReferenceIdeal.Facts) (hMixFwd : Cert.MixFwd.Facts) (hMixFwdIdeal : Cert.MixFwdIdeal.Facts) (hMixFwdReferenceIdeal : Cert.MixFwdReferenceIdeal.Facts) (hRopeFwd : Cert.RopeFwd.Facts) (hRopeFwdIdeal : Cert.RopeFwdIdeal.Facts) (hRopeFwdReferenceIdeal : Cert.RopeFwdReferenceIdeal.Facts) (hFfnFwd : Cert.FfnFwd.Facts) (hFfnFwdIdeal : Cert.FfnFwdIdeal.Facts) (hFfnFwdReferenceIdeal : Cert.FfnFwdReferenceIdeal.Facts) (hRetPost : Cert.RetPost.Facts) (hRetPostIdeal : Cert.RetPostIdeal.Facts) (hRetPostReferenceIdeal : Cert.RetPostReferenceIdeal.Facts) (hGlaPost : Cert.GlaPost.Facts) (hGlaPostIdeal : Cert.GlaPostIdeal.Facts) (hGlaPostReferenceIdeal : Cert.GlaPostReferenceIdeal.Facts) (hPre_finite : Cert.Pre_finite.Facts) (hPre_ffn_finite : Cert.Pre_ffn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_ODx (hODx := hODx)
    ∧ quiescent_ODxIdeal (hODxIdeal := hODxIdeal)
    ∧ quiescent_ODxReferenceIdeal (hODxReferenceIdeal := hODxReferenceIdeal)
    ∧ quiescent_ODw (hODw := hODw)
    ∧ quiescent_ODwIdeal (hODwIdeal := hODwIdeal)
    ∧ quiescent_ODwReferenceIdeal (hODwReferenceIdeal := hODwReferenceIdeal)
    ∧ quiescent_BrDx (hBrDx := hBrDx)
    ∧ quiescent_BrDxIdeal (hBrDxIdeal := hBrDxIdeal)
    ∧ quiescent_BrDxReferenceIdeal (hBrDxReferenceIdeal := hBrDxReferenceIdeal)
    ∧ quiescent_BrDw (hBrDw := hBrDw)
    ∧ quiescent_BrDwIdeal (hBrDwIdeal := hBrDwIdeal)
    ∧ quiescent_BrDwReferenceIdeal (hBrDwReferenceIdeal := hBrDwReferenceIdeal)
    ∧ quiescent_FoxDw (hFoxDw := hFoxDw)
    ∧ quiescent_FoxDwIdeal (hFoxDwIdeal := hFoxDwIdeal)
    ∧ quiescent_FoxDwReferenceIdeal (hFoxDwReferenceIdeal := hFoxDwReferenceIdeal)
    ∧ quiescent_GateDx (hGateDx := hGateDx)
    ∧ quiescent_GateDxIdeal (hGateDxIdeal := hGateDxIdeal)
    ∧ quiescent_GateDxReferenceIdeal (hGateDxReferenceIdeal := hGateDxReferenceIdeal)
    ∧ quiescent_GateDw (hGateDw := hGateDw)
    ∧ quiescent_GateDwIdeal (hGateDwIdeal := hGateDwIdeal)
    ∧ quiescent_GateDwReferenceIdeal (hGateDwReferenceIdeal := hGateDwReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_InTail (hInTail := hInTail)
    ∧ quiescent_InTailIdeal (hInTailIdeal := hInTailIdeal)
    ∧ quiescent_InTailReferenceIdeal (hInTailReferenceIdeal := hInTailReferenceIdeal)
    ∧ quiescent_BrFwd (hBrFwd := hBrFwd)
    ∧ quiescent_BrFwdIdeal (hBrFwdIdeal := hBrFwdIdeal)
    ∧ quiescent_BrFwdReferenceIdeal (hBrFwdReferenceIdeal := hBrFwdReferenceIdeal)
    ∧ quiescent_FoxFwd (hFoxFwd := hFoxFwd)
    ∧ quiescent_FoxFwdIdeal (hFoxFwdIdeal := hFoxFwdIdeal)
    ∧ quiescent_FoxFwdReferenceIdeal (hFoxFwdReferenceIdeal := hFoxFwdReferenceIdeal)
    ∧ quiescent_GateFwd (hGateFwd := hGateFwd)
    ∧ quiescent_GateFwdIdeal (hGateFwdIdeal := hGateFwdIdeal)
    ∧ quiescent_GateFwdReferenceIdeal (hGateFwdReferenceIdeal := hGateFwdReferenceIdeal)
    ∧ quiescent_OFwd (hOFwd := hOFwd)
    ∧ quiescent_OFwdIdeal (hOFwdIdeal := hOFwdIdeal)
    ∧ quiescent_OFwdReferenceIdeal (hOFwdReferenceIdeal := hOFwdReferenceIdeal)
    ∧ quiescent_UpFwd (hUpFwd := hUpFwd)
    ∧ quiescent_UpFwdIdeal (hUpFwdIdeal := hUpFwdIdeal)
    ∧ quiescent_UpFwdReferenceIdeal (hUpFwdReferenceIdeal := hUpFwdReferenceIdeal)
    ∧ quiescent_DownFwd (hDownFwd := hDownFwd)
    ∧ quiescent_DownFwdIdeal (hDownFwdIdeal := hDownFwdIdeal)
    ∧ quiescent_DownFwdReferenceIdeal (hDownFwdReferenceIdeal := hDownFwdReferenceIdeal)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnBwdReferenceIdeal (hFfnBwdReferenceIdeal := hFfnBwdReferenceIdeal)
    ∧ quiescent_FfnBwdReferenceIdeal_pre_ffn_finite (hFfnBwdReferenceIdeal := hFfnBwdReferenceIdeal) (hPre_ffn_finite := hPre_ffn_finite)
    ∧ quiescent_MixBwd (hMixBwd := hMixBwd)
    ∧ quiescent_MixBwdIdeal (hMixBwdIdeal := hMixBwdIdeal)
    ∧ quiescent_MixBwdReferenceIdeal (hMixBwdReferenceIdeal := hMixBwdReferenceIdeal)
    ∧ quiescent_ResBwd (hResBwd := hResBwd)
    ∧ quiescent_ResBwdIdeal (hResBwdIdeal := hResBwdIdeal)
    ∧ quiescent_ResBwdReferenceIdeal (hResBwdReferenceIdeal := hResBwdReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ quiescent_RopeBwd (hRopeBwd := hRopeBwd)
    ∧ quiescent_RopeBwdIdeal (hRopeBwdIdeal := hRopeBwdIdeal)
    ∧ quiescent_RopeBwdReferenceIdeal (hRopeBwdReferenceIdeal := hRopeBwdReferenceIdeal)
    ∧ quiescent_ResFwd (hResFwd := hResFwd)
    ∧ quiescent_ResFwdIdeal (hResFwdIdeal := hResFwdIdeal)
    ∧ quiescent_ResFwdReferenceIdeal (hResFwdReferenceIdeal := hResFwdReferenceIdeal)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_ResNorm (hResNorm := hResNorm)
    ∧ quiescent_ResNormIdeal (hResNormIdeal := hResNormIdeal)
    ∧ quiescent_ResNormReferenceIdeal (hResNormReferenceIdeal := hResNormReferenceIdeal)
    ∧ quiescent_MixFwd (hMixFwd := hMixFwd)
    ∧ quiescent_MixFwdIdeal (hMixFwdIdeal := hMixFwdIdeal)
    ∧ quiescent_MixFwdReferenceIdeal (hMixFwdReferenceIdeal := hMixFwdReferenceIdeal)
    ∧ quiescent_RopeFwd (hRopeFwd := hRopeFwd)
    ∧ quiescent_RopeFwdIdeal (hRopeFwdIdeal := hRopeFwdIdeal)
    ∧ quiescent_RopeFwdReferenceIdeal (hRopeFwdReferenceIdeal := hRopeFwdReferenceIdeal)
    ∧ quiescent_FfnFwd (hFfnFwd := hFfnFwd)
    ∧ quiescent_FfnFwdIdeal (hFfnFwdIdeal := hFfnFwdIdeal)
    ∧ quiescent_FfnFwdReferenceIdeal (hFfnFwdReferenceIdeal := hFfnFwdReferenceIdeal)
    ∧ quiescent_RetPost (hRetPost := hRetPost)
    ∧ quiescent_RetPostIdeal (hRetPostIdeal := hRetPostIdeal)
    ∧ quiescent_RetPostReferenceIdeal (hRetPostReferenceIdeal := hRetPostReferenceIdeal)
    ∧ quiescent_GlaPost (hGlaPost := hGlaPost)
    ∧ quiescent_GlaPostIdeal (hGlaPostIdeal := hGlaPostIdeal)
    ∧ quiescent_GlaPostReferenceIdeal (hGlaPostReferenceIdeal := hGlaPostReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_UpDw_UpDwIdeal
    ∧ algebraic_UpDwIdeal_UpDwReferenceIdeal (hUpDwIdeal := hUpDwIdeal) (hUpDwReferenceIdeal := hUpDwReferenceIdeal)
    ∧ preserves_ODx_ODxIdeal
    ∧ algebraic_ODxIdeal_ODxReferenceIdeal (hODxIdeal := hODxIdeal) (hODxReferenceIdeal := hODxReferenceIdeal)
    ∧ preserves_ODw_ODwIdeal
    ∧ algebraic_ODwIdeal_ODwReferenceIdeal (hODwIdeal := hODwIdeal) (hODwReferenceIdeal := hODwReferenceIdeal)
    ∧ preserves_BrDx_BrDxIdeal
    ∧ algebraic_BrDxIdeal_BrDxReferenceIdeal (hBrDxIdeal := hBrDxIdeal) (hBrDxReferenceIdeal := hBrDxReferenceIdeal)
    ∧ preserves_BrDw_BrDwIdeal
    ∧ algebraic_BrDwIdeal_BrDwReferenceIdeal (hBrDwIdeal := hBrDwIdeal) (hBrDwReferenceIdeal := hBrDwReferenceIdeal)
    ∧ preserves_FoxDw_FoxDwIdeal
    ∧ algebraic_FoxDwIdeal_FoxDwReferenceIdeal (hFoxDwIdeal := hFoxDwIdeal) (hFoxDwReferenceIdeal := hFoxDwReferenceIdeal)
    ∧ preserves_GateDx_GateDxIdeal
    ∧ algebraic_GateDxIdeal_GateDxReferenceIdeal (hGateDxIdeal := hGateDxIdeal) (hGateDxReferenceIdeal := hGateDxReferenceIdeal)
    ∧ preserves_GateDw_GateDwIdeal
    ∧ algebraic_GateDwIdeal_GateDwReferenceIdeal (hGateDwIdeal := hGateDwIdeal) (hGateDwReferenceIdeal := hGateDwReferenceIdeal)
    ∧ preserves_InDx_InDxIdeal
    ∧ algebraic_InDxIdeal_InDxReferenceIdeal (hInDxIdeal := hInDxIdeal) (hInDxReferenceIdeal := hInDxReferenceIdeal)
    ∧ preserves_InDw_InDwIdeal
    ∧ algebraic_InDwIdeal_InDwReferenceIdeal (hInDwIdeal := hInDwIdeal) (hInDwReferenceIdeal := hInDwReferenceIdeal)
    ∧ preserves_InFwd_InFwdIdeal
    ∧ algebraic_InFwdIdeal_InFwdReferenceIdeal (hInFwdIdeal := hInFwdIdeal) (hInFwdReferenceIdeal := hInFwdReferenceIdeal)
    ∧ preserves_InTail_InTailIdeal
    ∧ algebraic_InTailIdeal_InTailReferenceIdeal (hInTailIdeal := hInTailIdeal) (hInTailReferenceIdeal := hInTailReferenceIdeal)
    ∧ preserves_BrFwd_BrFwdIdeal
    ∧ algebraic_BrFwdIdeal_BrFwdReferenceIdeal (hBrFwdIdeal := hBrFwdIdeal) (hBrFwdReferenceIdeal := hBrFwdReferenceIdeal)
    ∧ preserves_FoxFwd_FoxFwdIdeal
    ∧ algebraic_FoxFwdIdeal_FoxFwdReferenceIdeal (hFoxFwdIdeal := hFoxFwdIdeal) (hFoxFwdReferenceIdeal := hFoxFwdReferenceIdeal)
    ∧ preserves_GateFwd_GateFwdIdeal
    ∧ algebraic_GateFwdIdeal_GateFwdReferenceIdeal (hGateFwdIdeal := hGateFwdIdeal) (hGateFwdReferenceIdeal := hGateFwdReferenceIdeal)
    ∧ preserves_OFwd_OFwdIdeal
    ∧ algebraic_OFwdIdeal_OFwdReferenceIdeal (hOFwdIdeal := hOFwdIdeal) (hOFwdReferenceIdeal := hOFwdReferenceIdeal)
    ∧ preserves_UpFwd_UpFwdIdeal
    ∧ algebraic_UpFwdIdeal_UpFwdReferenceIdeal (hUpFwdIdeal := hUpFwdIdeal) (hUpFwdReferenceIdeal := hUpFwdReferenceIdeal)
    ∧ preserves_DownFwd_DownFwdIdeal
    ∧ algebraic_DownFwdIdeal_DownFwdReferenceIdeal (hDownFwdIdeal := hDownFwdIdeal) (hDownFwdReferenceIdeal := hDownFwdReferenceIdeal)
    ∧ preserves_FfnBwd_FfnBwdIdeal
    ∧ algebraic_FfnBwdIdeal_FfnBwdReferenceIdeal_pre_ffn_finite (hFfnBwdIdeal := hFfnBwdIdeal) (hFfnBwdReferenceIdeal := hFfnBwdReferenceIdeal) (hPre_ffn_finite := hPre_ffn_finite)
    ∧ preserves_MixBwd_MixBwdIdeal
    ∧ algebraic_MixBwdIdeal_MixBwdReferenceIdeal (hMixBwdIdeal := hMixBwdIdeal) (hMixBwdReferenceIdeal := hMixBwdReferenceIdeal)
    ∧ preserves_ResBwd_ResBwdIdeal
    ∧ algebraic_ResBwdIdeal_ResBwdReferenceIdeal (hResBwdIdeal := hResBwdIdeal) (hResBwdReferenceIdeal := hResBwdReferenceIdeal)
    ∧ preserves_NormBwd_NormBwdIdeal
    ∧ algebraic_NormBwdIdeal_NormBwdReferenceIdeal (hNormBwdIdeal := hNormBwdIdeal) (hNormBwdReferenceIdeal := hNormBwdReferenceIdeal)
    ∧ preserves_RopeBwd_RopeBwdIdeal
    ∧ algebraic_RopeBwdIdeal_RopeBwdReferenceIdeal (hRopeBwdIdeal := hRopeBwdIdeal) (hRopeBwdReferenceIdeal := hRopeBwdReferenceIdeal)
    ∧ preserves_ResFwd_ResFwdIdeal
    ∧ algebraic_ResFwdIdeal_ResFwdReferenceIdeal (hResFwdIdeal := hResFwdIdeal) (hResFwdReferenceIdeal := hResFwdReferenceIdeal)
    ∧ preserves_NormFwd_NormFwdIdeal
    ∧ algebraic_NormFwdIdeal_NormFwdReferenceIdeal (hNormFwdIdeal := hNormFwdIdeal) (hNormFwdReferenceIdeal := hNormFwdReferenceIdeal)
    ∧ preserves_ResNorm_ResNormIdeal
    ∧ algebraic_ResNormIdeal_ResNormReferenceIdeal (hResNormIdeal := hResNormIdeal) (hResNormReferenceIdeal := hResNormReferenceIdeal)
    ∧ preserves_MixFwd_MixFwdIdeal
    ∧ algebraic_MixFwdIdeal_MixFwdReferenceIdeal (hMixFwdIdeal := hMixFwdIdeal) (hMixFwdReferenceIdeal := hMixFwdReferenceIdeal)
    ∧ preserves_RopeFwd_RopeFwdIdeal
    ∧ algebraic_RopeFwdIdeal_RopeFwdReferenceIdeal (hRopeFwdIdeal := hRopeFwdIdeal) (hRopeFwdReferenceIdeal := hRopeFwdReferenceIdeal)
    ∧ preserves_FfnFwd_FfnFwdIdeal
    ∧ algebraic_FfnFwdIdeal_FfnFwdReferenceIdeal (hFfnFwdIdeal := hFfnFwdIdeal) (hFfnFwdReferenceIdeal := hFfnFwdReferenceIdeal)
    ∧ preserves_RetPost_RetPostIdeal
    ∧ algebraic_RetPostIdeal_RetPostReferenceIdeal (hRetPostIdeal := hRetPostIdeal) (hRetPostReferenceIdeal := hRetPostReferenceIdeal)
    ∧ preserves_GlaPost_GlaPostIdeal
    ∧ algebraic_GlaPostIdeal_GlaPostReferenceIdeal (hGlaPostIdeal := hGlaPostIdeal) (hGlaPostReferenceIdeal := hGlaPostReferenceIdeal)
-- ==== Pre_ffn_finite.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S_ : Shape := ⟨0, ![]⟩

class Facts : Prop where
  bitsLt_bf16_f32 : FTy.bits .bf16 < FTy.bits .f32
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn_part1 {F : FTy → Type} [FloatOps F] (main_v14 : IVec S_ 1) (main_v15 : FVec F S2048x2816 .f32) (main_v16 : FVec F S2048x2816 .f32) : IVec S_ 1 :=
  let main_v17 : IVec S2048x2816 1 := cmpf .olt main_v15 main_v16
  let main_c_5 : IVec S_ 1 := constantI S_ 1 1#1
  let main_v18 : IVec S_ 1 := (fun x v => Host.reduce IntOp.andi x v reducesTo_S2048x2816_S_d0_1 h_S_) main_v17 main_c_5
  let main_v19 : IVec S_ 1 := andi main_v14 main_v18
  main_v19

def fn {F : FTy → Type} [FloatOps F] (main_arg0 : FVec F S2048x5632 .bf16) (main_arg1 : FVec F S3x2816 .f32) (main_arg2 : FVec F S1x2816 .f32) (main_arg3 : FVec F S2048x2816 .f32) : IVec S_ 1 :=
  let main_v0 : FVec F S2048x5632 .f32 := (extf .f32 · bitsLt_bf16_f32) main_arg0
  let main_v1 : FVec F S2048x5632 .f32 := Host.absf main_v0
  let main_cst : FVec F S_ .f32 := constant S_ .f32 0x7F800000#32
  let main_v2 : FVec F S2048x5632 .f32 := broadcastInDim S2048x5632 ![] bcast_S_S2048x5632 main_cst
  let main_v3 : IVec S2048x5632 1 := cmpf .olt main_v1 main_v2
  let main_c : IVec S_ 1 := constantI S_ 1 1#1
  let main_v4 : IVec S_ 1 := (fun x v => Host.reduce IntOp.andi x v reducesTo_S2048x5632_S_d0_1 h_S_) main_v3 main_c
  let main_v5 : FVec F S3x2816 .f32 := Host.absf main_arg1
  let main_cst_0 : FVec F S_ .f32 := constant S_ .f32 0x7F800000#32
  let main_v6 : FVec F S3x2816 .f32 := broadcastInDim S3x2816 ![] bcast_S_S3x2816 main_cst_0
  let main_v7 : IVec S3x2816 1 := cmpf .olt main_v5 main_v6
  let main_c_1 : IVec S_ 1 := constantI S_ 1 1#1
  let main_v8 : IVec S_ 1 := (fun x v => Host.reduce IntOp.andi x v reducesTo_S3x2816_S_d0_1 h_S_) main_v7 main_c_1
  let main_v9 : IVec S_ 1 := andi main_v4 main_v8
  let main_v10 : FVec F S1x2816 .f32 := Host.absf main_arg2
  let main_cst_2 : FVec F S_ .f32 := constant S_ .f32 0x7F800000#32
  let main_v11 : FVec F S1x2816 .f32 := broadcastInDim S1x2816 ![] bcast_S_S1x2816 main_cst_2
  let main_v12 : IVec S1x2816 1 := cmpf .olt main_v10 main_v11
  let main_c_3 : IVec S_ 1 := constantI S_ 1 1#1
  let main_v13 : IVec S_ 1 := (fun x v => Host.reduce IntOp.andi x v reducesTo_S1x2816_S_d0_1 h_S_) main_v12 main_c_3
  let main_v14 : IVec S_ 1 := andi main_v9 main_v13
  let main_v15 : FVec F S2048x2816 .f32 := Host.absf main_arg3
  let main_cst_4 : FVec F S_ .f32 := constant S_ .f32 0x7F800000#32
  let main_v16 : FVec F S2048x2816 .f32 := broadcastInDim S2048x2816 ![] bcast_S_S2048x2816 main_cst_4
  fn_part1 (F := F) main_v14 main_v15 main_v16
-- ==== Pre_finite.lean ====
abbrev S2048x1024 : Shape := ⟨2, ![2048, 1024]⟩
abbrev S2048x5120 : Shape := ⟨2, ![2048, 5120]⟩
abbrev S4x2048 : Shape := ⟨2, ![4, 2048]⟩
abbrev S2048x512 : Shape := ⟨2, ![2048, 512]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x5120 : S_.BroadcastsInDim S2048x5120 (![] : Fin 0 → Fin S2048x5120.rank)
  reducesTo_S2048x5120_S_d0_1 : S2048x5120.ReducesTo [0, 1] S_
  bcast_S_S4x2048 : S_.BroadcastsInDim S4x2048 (![] : Fin 0 → Fin S4x2048.rank)
  reducesTo_S4x2048_S_d0_1 : S4x2048.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_v15 : IVec S_ 1) (main_v16 : FVec F S2048x512 .f32) (main_cst_4 : FVec F S_ .f32) : IVec S_ 1 :=
  let main_v17 : FVec F S2048x512 .f32 := broadcastInDim S2048x512 ![] bcast_S_S2048x512 main_cst_4
  let main_v18 : IVec S2048x512 1 := cmpf .olt main_v16 main_v17
  let main_c_5 : IVec S_ 1 := constantI S_ 1 1#1
  let main_v19 : IVec S_ 1 := (fun x v => Host.reduce IntOp.andi x v reducesTo_S2048x512_S_d0_1 h_S_) main_v18 main_c_5
  let main_v20 : IVec S_ 1 := andi main_v15 main_v19
  main_v20

def fn {F : FTy → Type} [FloatOps F] (main_arg0 : FVec F S2048x1024 .bf16) (main_arg1 : FVec F S2048x5120 .bf16) (main_arg2 : FVec F S4x2048 .f32) (main_arg3 : FVec F S2048x512 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x5120 .f32 := (extf .f32 · bitsLt_bf16_f32) main_arg1
  let main_v6 : FVec F S2048x5120 .f32 := Host.absf main_v5
  let main_cst_0 : FVec F S_ .f32 := constant S_ .f32 0x7F800000#32
  let main_v7 : FVec F S2048x5120 .f32 := broadcastInDim S2048x5120 ![] bcast_S_S2048x5120 main_cst_0
  let main_v8 : IVec S2048x5120 1 := cmpf .olt main_v6 main_v7
  let main_c_1 : IVec S_ 1 := constantI S_ 1 1#1
  let main_v9 : IVec S_ 1 := (fun x v => Host.reduce IntOp.andi x v reducesTo_S2048x5120_S_d0_1 h_S_) main_v8 main_c_1
  let main_v10 : IVec S_ 1 := andi main_v4 main_v9
  let main_v11 : FVec F S4x2048 .f32 := Host.absf main_arg2
  let main_cst_2 : FVec F S_ .f32 := constant S_ .f32 0x7F800000#32
  let main_v12 : FVec F S4x2048 .f32 := broadcastInDim S4x2048 ![] bcast_S_S4x2048 main_cst_2
  let main_v13 : IVec S4x2048 1 := cmpf .olt main_v11 main_v12
  let main_c_3 : IVec S_ 1 := constantI S_ 1 1#1
  let main_v14 : IVec S_ 1 := (fun x v => Host.reduce IntOp.andi x v reducesTo_S4x2048_S_d0_1 h_S_) main_v13 main_c_3
  let main_v15 : IVec S_ 1 := andi main_v10 main_v14
  let main_v16 : FVec F S2048x512 .f32 := Host.absf main_arg3
  let main_cst_4 : FVec F S_ .f32 := constant S_ .f32 0x7F800000#32
  fn_part1 (F := F) main_v15 main_v16 main_cst_4
-- ==== Kernel.lean ====
abbrev S2048x1024 : Shape := ⟨2, ![2048, 1024]⟩
abbrev S2048x5120 : Shape := ⟨2, ![2048, 5120]⟩
abbrev S4x2048 : Shape := ⟨2, ![4, 2048]⟩
abbrev S2048x512 : Shape := ⟨2, ![2048, 512]⟩
abbrev S2048x4x128 : Shape := ⟨3, ![2048, 4, 128]⟩
abbrev S4x2048x2048 : Shape := ⟨3, ![4, 2048, 2048]⟩
abbrev S_ : Shape := ⟨0, ![]⟩
abbrev S4x2048x1 : Shape := ⟨3, ![4, 2048, 1]⟩
abbrev S4x1x2048 : Shape := ⟨3, ![4, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x128x2048 : Shape := ⟨3, ![4, 128, 2048]⟩
abbrev S512x128 : Shape := ⟨2, ![512, 128]⟩
abbrev S2048x128 : Shape := ⟨2, ![2048, 128]⟩
abbrev S1x512x1 : Shape := ⟨3, ![1, 512, 1]⟩
abbrev S1x1x2048 : Shape := ⟨3, ![1, 1, 2048]⟩
abbrev S512x512 : Shape := ⟨2, ![512, 512]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩
abbrev S512x1024 : Shape := ⟨2, ![512, 1024]⟩
abbrev S1024x128 : Shape := ⟨2, ![1024, 128]⟩
abbrev S1x1x1024 : Shape := ⟨3, ![1, 1, 1024]⟩
abbrev S1x1024 : Shape := ⟨2, ![1, 1024]⟩
abbrev S1024 : Shape := ⟨1, ![1024]⟩
abbrev S512x1536 : Shape := ⟨2, ![512, 1536]⟩
abbrev S1536x128 : Shape := ⟨2, ![1536, 128]⟩
abbrev S1x1x1536 : Shape := ⟨3, ![1, 1, 1536]⟩
abbrev S1x1536 : Shape := ⟨2, ![1, 1536]⟩
abbrev S1536 : Shape := ⟨1, ![1536]⟩
abbrev S512x2048 : Shape := ⟨2, ![512, 2048]⟩

abbrev nBuf : Space → Nat
  | .hbm => 58
  | .vmem => 26
  | .smem => 0
  | _ => 0

abbrev bufTy : (tb : Table) → Fin (tcTables nBuf tb) → BufTy
  | .hbm, ⟨0, _⟩ => ⟨S2048x1024, .bf16⟩
  | .hbm, ⟨1, _⟩ => ⟨S2048x5120, .bf16⟩
  | .hbm, ⟨2, _⟩ => ⟨S4x2048, .f32⟩
  | .hbm, ⟨3, _⟩ => ⟨S2048x512, .f32⟩
  | .hbm, ⟨4, _⟩ => ⟨S2048x512, .bf16⟩
  | .hbm, ⟨5, _⟩ => ⟨S2048x512, .f32⟩
  | .hbm, ⟨6, _⟩ => ⟨S2048x4x128, .f32⟩
  | .hbm, ⟨7, _⟩ => ⟨S2048x512, .bf16⟩
  | .hbm, ⟨8, _⟩ => ⟨S2048x512, .f32⟩
  | .hbm, ⟨9, _⟩ => ⟨S2048x4x128, .f32⟩
  | .hbm, ⟨10, _⟩ => ⟨S2048x512, .bf16⟩
  | .hbm, ⟨11, _⟩ => ⟨S2048x512, .f32⟩
  | .hbm, ⟨12, _⟩ => ⟨S2048x4x128, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x1x2048, .f32⟩
  | .hbm, ⟨21, _⟩ => ⟨S4x2048x2048, .f32⟩
  | .hbm, ⟨22, _⟩ => ⟨S4x2048x2048, .f32⟩
  | .hbm, ⟨23, _⟩ => ⟨S2048, .i32⟩
  | .hbm, ⟨24, _⟩ => ⟨S2048x1, .i32⟩
  | .hbm, ⟨25, _⟩ => ⟨S2048, .i32⟩
  | .hbm, ⟨26, _⟩ => ⟨S1x2048, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S4x2048x2048, .i1⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S4x2048x2048, .f32⟩
  | .hbm, ⟨45, _⟩ => ⟨S4x2048x2048, .f32⟩
  | .hbm, ⟨46, _⟩ => ⟨S4x128x2048, .f32⟩
  | .hbm, ⟨47, _⟩ => ⟨S2048x4x128, .f32⟩
  | .hbm, ⟨48, _⟩ => ⟨S2048x512, .f32⟩
  | .hbm, ⟨49, _⟩ => ⟨S4x2048x1, .f32⟩
  | .hbm, ⟨50, _⟩ => ⟨S4x2048x1, .f32⟩
  | .hbm, ⟨51, _⟩ => ⟨S4x2048x1, .f32⟩
  | .hbm, ⟨52, _⟩ => ⟨S4x1x2048, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S4x2048x1, .f32⟩
  | .hbm, ⟨57, _⟩ => ⟨S4x1x2048, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x512x1, .f32⟩
  | .local _ .vmem, ⟨7, _⟩ => ⟨S1x512x1, .f32⟩
  | .local _ .vmem, ⟨8, _⟩ => ⟨S1x1x2048, .f32⟩
  | .local _ .vmem, ⟨9, _⟩ => ⟨S1x1x2048, .f32⟩
  | .local _ .vmem, ⟨10, _⟩ => ⟨S1x512x1, .f32⟩
  | .local _ .vmem, ⟨11, _⟩ => ⟨S1x512x1, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S1x512x1, .f32⟩
  | .local _ .vmem, ⟨23, _⟩ => ⟨S1x512x1, .f32⟩
  | .local _ .vmem, ⟨24, _⟩ => ⟨S1x1x2048, .f32⟩
  | .local _ .vmem, ⟨25, _⟩ => ⟨S1x1x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev main_v42_3 : Ref sig .tc := ⟨.hbm, 56, rfl⟩
abbrev main_v42_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S2048x5120 : Shape := ⟨2, ![2048, 5120]⟩
abbrev S4x2048 : Shape := ⟨2, ![4, 2048]⟩
abbrev S2048x512 : Shape := ⟨2, ![2048, 512]⟩
abbrev S2048x4x128 : Shape := ⟨3, ![2048, 4, 128]⟩
abbrev S4x2048x2048 : Shape := ⟨3, ![4, 2048, 2048]⟩
abbrev S_ : Shape := ⟨0, ![]⟩
abbrev S4x2048x1 : Shape := ⟨3, ![4, 2048, 1]⟩
abbrev S4x1x2048 : Shape := ⟨3, ![4, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x128x2048 : Shape := ⟨3, ![4, 128, 2048]⟩
abbrev S4x2048x128 : Shape := ⟨3, ![4, 2048, 128]⟩

abbrev nBuf : Space → Nat
  | .hbm => 123
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5120, .bf16⟩
  | .hbm, ⟨2, _⟩ => ⟨S4x2048, .f32⟩
  | .hbm, ⟨3, _⟩ => ⟨S2048x512, .f32⟩
  | .hbm, ⟨4, _⟩ => ⟨S2048x512, .bf16⟩
  | .hbm, ⟨5, _⟩ => ⟨S2048x512, .f32⟩
  | .hbm, ⟨6, _⟩ => ⟨S2048x4x128, .f32⟩
  | .hbm, ⟨7, _⟩ => ⟨S2048x512, .bf16⟩
  | .hbm, ⟨8, _⟩ => ⟨S2048x512, .f32⟩
  | .hbm, ⟨9, _⟩ => ⟨S2048x4x128, .f32⟩
  | .hbm, ⟨10, _⟩ => ⟨S2048x512, .bf16⟩
  | .hbm, ⟨11, _⟩ => ⟨S2048x512, .f32⟩
  | .hbm, ⟨12, _⟩ => ⟨S2048x4x128, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x1x2048, .f32⟩
  | .hbm, ⟨21, _⟩ => ⟨S4x2048x2048, .f32⟩
  | .hbm, ⟨22, _⟩ => ⟨S4x2048x2048, .f32⟩
  | .hbm, ⟨23, _⟩ => ⟨S2048, .i32⟩
  | .hbm, ⟨24, _⟩ => ⟨S2048x1, .i32⟩
  | .hbm, ⟨25, _⟩ => ⟨S2048, .i32⟩
  | .hbm, ⟨26, _⟩ => ⟨S1x2048, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S4x2048x2048, .i1⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .i1⟩
  | .hbm, ⟨42, _⟩ => ⟨S4x2048x2048, .f32⟩
  | .hbm, ⟨43, _⟩ => ⟨S_, .f32⟩
  | .hbm, ⟨44, _⟩ => ⟨S4x2048, .f32⟩
  | .hbm, ⟨45, _⟩ => ⟨S_, .f32⟩
  | .hbm, ⟨46, _⟩ => ⟨S4x2048, .f32⟩
  | .hbm, ⟨47, _⟩ => ⟨S4x2048, .f32⟩
  | .hbm, ⟨48, _⟩ => ⟨S_, .f32⟩
  | .hbm, ⟨49, _⟩ => ⟨S4x2048, .f32⟩
  | .hbm, ⟨50, _⟩ => ⟨S4x2048, .i1⟩
  | .hbm, ⟨51, _⟩ => ⟨S_, .f32⟩
  | .hbm, ⟨52, _⟩ => ⟨S4x2048, .f32⟩
  | .hbm, ⟨53, _⟩ => ⟨S4x2048, .i1⟩
  | .hbm, ⟨54, _⟩ => ⟨S_, .f32⟩
  | .hbm, ⟨55, _⟩ => ⟨S4x2048, .f32⟩
  | .hbm, ⟨56, _⟩ => ⟨S_, .f32⟩
  | .hbm, ⟨57, _⟩ => ⟨S4x2048, .f32⟩
  | .hbm, ⟨58, _⟩ => ⟨S_, .f32⟩
  | .hbm, ⟨59, _⟩ => ⟨S4x2048, .f32⟩
  | .hbm, ⟨60, _⟩ => ⟨S4x2048, .f32⟩
  | .hbm, ⟨61, _⟩ => ⟨S4x2048, .f32⟩
  | .hbm, ⟨62, _⟩ => ⟨S4x2048x1, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S4x2048x2048, .f32⟩
  | .hbm, ⟨70, _⟩ => ⟨S4x2048x2048, .f32⟩
  | .hbm, ⟨71, _⟩ => ⟨S4x2048x1, .f32⟩
  | .hbm, ⟨72, _⟩ => ⟨S_, .f32⟩
  | .hbm, ⟨73, _⟩ => ⟨S4x2048x1, .f32⟩
  | .hbm, ⟨74, _⟩ => ⟨S4x2048x1, .f32⟩
  | .hbm, ⟨75, _⟩ => ⟨S4x128x2048, .f32⟩
  | .hbm, ⟨76, _⟩ => ⟨S2048x4x128, .f32⟩
  | .hbm, ⟨77, _⟩ => ⟨S2048x4x128, .f32⟩
  | .hbm, ⟨78, _⟩ => ⟨S4x128x2048, .f32⟩
  | .hbm, ⟨79, _⟩ => ⟨S4x2048x2048, .f32⟩
  | .hbm, ⟨80, _⟩ => ⟨S4x128x2048, .f32⟩
  | .hbm, ⟨81, _⟩ => ⟨S2048x4x128, .f32⟩
  | .hbm, ⟨82, _⟩ => ⟨S4x2048x2048, .f32⟩
  | .hbm, ⟨83, _⟩ => ⟨S4x2048x2048, .f32⟩
  | .hbm, ⟨84, _⟩ => ⟨S4x2048x2048, .f32⟩
  | .hbm, ⟨85, _⟩ => ⟨S_, .f32⟩
  | .hbm, ⟨86, _⟩ => ⟨S4x2048, .f32⟩
  | .hbm, ⟨87, _⟩ => ⟨S4x2048x1, .f32⟩
  | .hbm, ⟨88, _⟩ => ⟨S4x2048x1, .f32⟩
  | .hbm, ⟨89, _⟩ => ⟨S4x2048x2048, .f32⟩
  | .hbm, ⟨90, _⟩ => ⟨S4x2048x2048, .f32⟩
  | .hbm, ⟨91, _⟩ => ⟨S_, .f32⟩
  | .hbm, ⟨92, _⟩ => ⟨S4x2048, .f32⟩
  | .hbm, ⟨93, _⟩ => ⟨S4x2048x2048, .f32⟩
  | .hbm, ⟨94, _⟩ => ⟨S4x2048x2048, .f32⟩
  | .hbm, ⟨95, _⟩ => ⟨S4x2048x2048, .f32⟩
  | .hbm, ⟨96, _⟩ => ⟨S_, .f32⟩
  | .hbm, ⟨97, _⟩ => ⟨S4x2048x2048, .f32⟩
  | .hbm, ⟨98, _⟩ => ⟨S4x2048x2048, .f32⟩
  | .hbm, ⟨99, _⟩ => ⟨S4x2048x2048, .f32⟩
  | .hbm, ⟨100, _⟩ => ⟨S_, .f32⟩
  | .hbm, ⟨101, _⟩ => ⟨S4x2048, .f32⟩
  | .hbm, ⟨102, _⟩ => ⟨S4x1x2048, .f32⟩
  | .hbm, ⟨103, _⟩ => ⟨S_, .f32⟩
  | .hbm, ⟨104, _⟩ => ⟨S4x2048, .f32⟩
  | .hbm, ⟨105, _⟩ => ⟨S_, .f32⟩
  | .hbm, ⟨106, _⟩ => ⟨S4x2048, .f32⟩
  | .hbm, ⟨107, _⟩ => ⟨S4x2048x1, .f32⟩
  | .hbm, ⟨108, _⟩ => ⟨S_, .f32⟩
  | .hbm, ⟨109, _⟩ => ⟨S4x2048, .f32⟩
  | .hbm, ⟨110, _⟩ => ⟨S_, .f32⟩
  | .hbm, ⟨111, _⟩ => ⟨S4x2048x2048, .f32⟩
  | .hbm, ⟨112, _⟩ => ⟨S4x2048x2048, .f32⟩
  | .hbm, ⟨113, _⟩ => ⟨S4x2048x128, .f32⟩
  | .hbm, ⟨114, _⟩ => ⟨S2048x4x128, .f32⟩
  | .hbm, ⟨115, _⟩ => ⟨S4x2048x128, .f32⟩
  | .hbm, ⟨116, _⟩ => ⟨S2048x4x128, .f32⟩
  | .hbm, ⟨117, _⟩ => ⟨S2048x512, .f32⟩
  | .hbm, ⟨118, _⟩ => ⟨S2048x512, .f32⟩
  | .hbm, ⟨119, _⟩ => ⟨S2048x512, .f32⟩
  | .hbm, ⟨120, _⟩ => ⟨S4x2048x1, .f32⟩
  | .hbm, ⟨121, _⟩ => ⟨S4x1x2048, .f32⟩
  | .hbm, ⟨122, _⟩ => ⟨S4x1x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_v25_1 : Ref sig .tc := ⟨.hbm, 32, rfl⟩
abbrev main_call0_v2 : Ref sig .tc := ⟨.hbm, 33, rfl⟩
abbrev main_v25_0 : Ref sig .tc := ⟨.hbm, 34, rfl⟩
abbrev main_call0_cst : Ref sig .tc := ⟨.hbm, 35, rfl⟩
abbrev main_v25_2 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call1_cst : Ref sig .tc := ⟨.hbm, 96, rfl⟩
abbrev main_call1_v0 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]
-- ==== DownDx.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S2x2048x2816 : Shape := ⟨3, ![2, 2048, 2816]⟩
abbrev S5632x1024 : Shape := ⟨2, ![5632, 1024]⟩
abbrev S2048x1024 : Shape := ⟨2, ![2048, 1024]⟩
abbrev S1x1024x1408 : Shape := ⟨3, ![1, 1024, 1408]⟩
abbrev S1408x512 : Shape := ⟨2, ![1408, 512]⟩
abbrev S1024x512 : Shape := ⟨2, ![1024, 512]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x2816, .bf16⟩
  | .hbm, ⟨1, _⟩ => ⟨S5632x1024, .bf16⟩
  | .hbm, ⟨2, _⟩ => ⟨S2048x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S2x2048x2816 : Shape := ⟨3, ![2, 2048, 2816]⟩
abbrev S5632x1024 : Shape := ⟨2, ![5632, 1024]⟩
abbrev S_ : Shape := ⟨0, ![]⟩
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S1x2048x2816 : Shape := ⟨3, ![1, 2048, 2816]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S5632x1024, .bf16⟩
  | .hbm, ⟨2, _⟩ => ⟨S2x2048x2816, .f32⟩
  | .hbm, ⟨3, _⟩ => ⟨S_, .f32⟩
  | .hbm, ⟨4, _⟩ => ⟨S2048x1024, .f32⟩
  | .hbm, ⟨5, _⟩ => ⟨S5632x1024, .f32⟩
  | .hbm, ⟨6, _⟩ => ⟨S1024x5632, .f32⟩
  | .hbm, ⟨7, _⟩ => ⟨S2048x5632, .f32⟩
  | .hbm, ⟨8, _⟩ => ⟨S2048x2816, .f32⟩
  | .hbm, ⟨9, _⟩ => ⟨S2048x2816, .f32⟩
  | .hbm, ⟨10, _⟩ => ⟨S1x2048x2816, .f32⟩
  | .hbm, ⟨11, _⟩ => ⟨S2048x2816, .f32⟩
  | .hbm, ⟨12, _⟩ => ⟨S1x2048x2816, .f32⟩
  | .hbm, ⟨13, _⟩ => ⟨S2048x2816, .f32⟩
  | .hbm, ⟨14, _⟩ => ⟨S2048x5632, .f32⟩
  | .hbm, ⟨15, _⟩ => ⟨S2048x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== UpDw.lean ====
abbrev S2x2048x2816 : Shape := ⟨3, ![2, 2048, 2816]⟩
abbrev S2048x1024 : Shape := ⟨2, ![2048, 1024]⟩
abbrev S5632x1024 : Shape := ⟨2, ![5632, 1024]⟩
abbrev S1x2048x1408 : Shape := ⟨3, ![1, 2048, 1408]⟩
abbrev S2048x512 : Shape := ⟨2, ![2048, 512]⟩
abbrev S1408x512 : Shape := ⟨2, ![1408, 512]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x2816, .bf16⟩
  | .hbm, ⟨1, _⟩ => ⟨S2048x1024, .bf16⟩
  | .hbm, ⟨2, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S2x2048x2816 : Shape := ⟨3, ![2, 2048, 2816]⟩
abbrev S2048x1024 : Shape := ⟨2, ![2048, 1024]⟩
abbrev S_ : Shape := ⟨0, ![]⟩
abbrev S1024x5632 : Shape := ⟨2, ![1024, 5632]⟩
abbrev S2048x5632 : Shape := ⟨2, ![2048, 5632]⟩
abbrev S2048x2816 : Shape := ⟨2, ![2048, 2816]⟩
abbrev S1x2048x2816 : Shape := ⟨3, ![1, 2048, 2816]⟩
abbrev S5632x1024 : Shape := ⟨2, ![5632, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S2048x1024, .bf16⟩
  | .hbm, ⟨2, _⟩ => ⟨S2x2048x2816, .f32⟩
  | .hbm, ⟨3, _⟩ => ⟨S_, .f32⟩
  | .hbm, ⟨4, _⟩ => ⟨S1024x5632, .f32⟩
  | .hbm, ⟨5, _⟩ => ⟨S2048x1024, .f32⟩
  | .hbm, ⟨6, _⟩ => ⟨S2048x5632, .f32⟩
  | .hbm, ⟨7, _⟩ => ⟨S2048x2816, .f32⟩
  | .hbm, ⟨8, _⟩ => ⟨S2048x2816, .f32⟩
  | .hbm, ⟨9, _⟩ => ⟨S1x2048x2816, .f32⟩
  | .hbm, ⟨10, _⟩ => ⟨S2048x2816, .f32⟩
  | .hbm, ⟨11, _⟩ => ⟨S1x2048x2816, .f32⟩
  | .hbm, ⟨12, _⟩ => ⟨S2048x2816, .f32⟩
  | .hbm, ⟨13, _⟩ => ⟨S2048x5632, .f32⟩
  | .hbm, ⟨14, _⟩ => ⟨S5632x1024, .f32⟩
  | .hbm, ⟨15, _⟩ => ⟨S1024x5632, .f32⟩
  | .hbm, ⟨16, _⟩ => ⟨S5632x1024, .f32⟩
  | .hbm, ⟨17, _⟩ => ⟨S5632x1024, .bf16⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== ODx.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ODxReferenceIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ODw.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ODwReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BrDx.lean ====
abbrev S2048x1024 : Shape := ⟨2, ![2048, 1024]⟩
abbrev S1024x512 : Shape := ⟨2, ![1024, 512]⟩
abbrev S2048x512 : Shape := ⟨2, ![2048, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDxReferenceIdeal.lean ====
abbrev S2048x1024 : Shape := ⟨2, ![2048, 1024]⟩
abbrev S1024x512 : Shape := ⟨2, ![1024, 512]⟩
abbrev S_ : Shape := ⟨0, ![]⟩
abbrev S2048x512 : Shape := ⟨2, ![2048, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S_, .f32⟩
  | .hbm, ⟨3, _⟩ => ⟨S2048x512, .f32⟩
  | .hbm, ⟨4, _⟩ => ⟨S512x1024, .bf16⟩
  | .hbm, ⟨5, _⟩ => ⟨S512x1024, .f32⟩
  | .hbm, ⟨6, _⟩ => ⟨S2048x1024, .f32⟩
  | .hbm, ⟨7, _⟩ => ⟨S2048x1024, .f32⟩
  | .hbm, ⟨8, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BrDw.lean ====
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1024x512, .bf16⟩
  | .local _ .vmem, ⟨0, _⟩ => ⟨S2048x1024, .bf16⟩
  | .local _ .vmem, ⟨1, _⟩ => ⟨S2048x512, .bf16⟩
  | .local _ .vmem, ⟨2, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BrDwIdeal.lean ====
  | .hbm, ⟨1, _⟩ => ⟨S2048x512, .bf16⟩
  | .local _ .vmem, ⟨1, _⟩ => ⟨S2048x512, .bf16⟩
abbrev stage0_1 : Fin 1 → Memref sig .tc .vmem S2048x512 .bf16 := fun | 0 => Memref.whole cc0_stg1_0 | ⟨_ + 1, h⟩ => absurd h (Nat.not_lt.2 (Nat.le_add_left _ _))
-- ==== BrDwReferenceIdeal.lean ====
abbrev S2048x1024 : Shape := ⟨2, ![2048, 1024]⟩
abbrev S2048x512 : Shape := ⟨2, ![2048, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FoxDw.lean ====
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x512, .f32⟩
  | .hbm, ⟨2, _⟩ => ⟨S1024x512, .bf16⟩
  | .local _ .vmem, ⟨0, _⟩ => ⟨S2048x1024, .bf16⟩
  | .local _ .vmem, ⟨1, _⟩ => ⟨S2048x512, .f32⟩
  | .local _ .vmem, ⟨2, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== FoxDwReferenceIdeal.lean ====
abbrev S2048x1024 : Shape := ⟨2, ![2048, 1024]⟩
abbrev S2048x512 : Shape := ⟨2, ![2048, 512]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .f32⟩
  | .hbm, ⟨2, _⟩ => ⟨S_, .f32⟩
  | .hbm, ⟨3, _⟩ => ⟨S512x1024, .f32⟩
  | .hbm, ⟨4, _⟩ => ⟨S2048x1024, .f32⟩
  | .hbm, ⟨5, _⟩ => ⟨S2048x1024, .f32⟩
  | .hbm, ⟨6, _⟩ => ⟨S1024x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateDx.lean ====
abbrev S2048x3072 : Shape := ⟨2, ![2048, 3072]⟩
abbrev S3072x1024 : Shape := ⟨2, ![3072, 1024]⟩
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxReferenceIdeal.lean ====
abbrev S2048x3072 : Shape := ⟨2, ![2048, 3072]⟩
abbrev S3072x1024 : Shape := ⟨2, ![3072, 1024]⟩
abbrev S_ : Shape := ⟨0, ![]⟩
abbrev S2048x1024 : Shape := ⟨2, ![2048, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S_, .f32⟩
  | .hbm, ⟨3, _⟩ => ⟨S2048x1024, .f32⟩
  | .hbm, ⟨4, _⟩ => ⟨S1024x3072, .bf16⟩
  | .hbm, ⟨5, _⟩ => ⟨S1024x3072, .f32⟩
  | .hbm, ⟨6, _⟩ => ⟨S2048x3072, .f32⟩
  | .hbm, ⟨7, _⟩ => ⟨S2048x3072, .f32⟩
  | .hbm, ⟨8, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateDw.lean ====
abbrev S2048x3072 : Shape := ⟨2, ![2048, 3072]⟩
abbrev S2048x1024 : Shape := ⟨2, ![2048, 1024]⟩
abbrev S3072x1024 : Shape := ⟨2, ![3072, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwReferenceIdeal.lean ====
abbrev S2048x3072 : Shape := ⟨2, ![2048, 3072]⟩
abbrev S2048x1024 : Shape := ⟨2, ![2048, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S_, .f32⟩
  | .hbm, ⟨3, _⟩ => ⟨S1024x3072, .f32⟩
  | .hbm, ⟨4, _⟩ => ⟨S2048x1024, .f32⟩
  | .hbm, ⟨5, _⟩ => ⟨S2048x3072, .f32⟩
  | .hbm, ⟨6, _⟩ => ⟨S2048x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InDx.lean ====
abbrev S2048x5632 : Shape := ⟨2, ![2048, 5632]⟩
abbrev S1024x5632 : Shape := ⟨2, ![1024, 5632]⟩
abbrev S2048x1024 : Shape := ⟨2, ![2048, 1024]⟩
abbrev S1024x1408 : Shape := ⟨2, ![1024, 1408]⟩
abbrev S512x1408 : Shape := ⟨2, ![512, 1408]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S512x1408, .bf16⟩
  | .local _ .vmem, ⟨3, _⟩ => ⟨S512x1408, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxReferenceIdeal.lean ====
abbrev S2048x5632 : Shape := ⟨2, ![2048, 5632]⟩
abbrev S1024x5632 : Shape := ⟨2, ![1024, 5632]⟩
abbrev S2048x1024 : Shape := ⟨2, ![2048, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x5632, .f32⟩
  | .hbm, ⟨6, _⟩ => ⟨S2048x5632, .f32⟩
  | .hbm, ⟨7, _⟩ => ⟨S2048x5632, .f32⟩
  | .hbm, ⟨8, _⟩ => ⟨S2048x1024, .f32⟩
  | .hbm, ⟨9, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InDw.lean ====
abbrev S2048x1024 : Shape := ⟨2, ![2048, 1024]⟩
abbrev S2048x5632 : Shape := ⟨2, ![2048, 5632]⟩
abbrev S1024x5632 : Shape := ⟨2, ![1024, 5632]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S1024x5632, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S_, .f32⟩
  | .hbm, ⟨3, _⟩ => ⟨S1024x5632, .f32⟩
  | .hbm, ⟨4, _⟩ => ⟨S2048x1024, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InFwd.lean ====
abbrev S2048x1024 : Shape := ⟨2, ![2048, 1024]⟩
abbrev S1024x5632 : Shape := ⟨2, ![1024, 5632]⟩
abbrev S2048x5120 : Shape := ⟨2, ![2048, 5120]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdReferenceIdeal.lean ====
abbrev S2048x1024 : Shape := ⟨2, ![2048, 1024]⟩
abbrev S1024x5632 : Shape := ⟨2, ![1024, 5632]⟩
abbrev S2048x5632 : Shape := ⟨2, ![2048, 5632]⟩
abbrev S2048x5120 : Shape := ⟨2, ![2048, 5120]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | .hbm, ⟨5, _⟩ => ⟨S2048x5120, .f32⟩
  | .hbm, ⟨6, _⟩ => ⟨S2048x5120, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InTail.lean ====
abbrev S2048x1024 : Shape := ⟨2, ![2048, 1024]⟩
abbrev S1024x5632 : Shape := ⟨2, ![1024, 5632]⟩
abbrev S2048x128 : Shape := ⟨2, ![2048, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InTailReferenceIdeal.lean ====
abbrev S2048x1024 : Shape := ⟨2, ![2048, 1024]⟩
abbrev S1024x5632 : Shape := ⟨2, ![1024, 5632]⟩
abbrev S2048x5632 : Shape := ⟨2, ![2048, 5632]⟩
abbrev S2048x128 : Shape := ⟨2, ![2048, 128]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | .hbm, ⟨5, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BrFwd.lean ====
abbrev S2048x512 : Shape := ⟨2, ![2048, 512]⟩
abbrev S1024x512 : Shape := ⟨2, ![1024, 512]⟩
abbrev S2048x1024 : Shape := ⟨2, ![2048, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S1024x512, .bf16⟩
  | .hbm, ⟨2, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrFwdIdeal.lean ====
abbrev S2048x512 : Shape := ⟨2, ![2048, 512]⟩
abbrev S1024x512 : Shape := ⟨2, ![1024, 512]⟩
abbrev S2048x1024 : Shape := ⟨2, ![2048, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S1024x512, .bf16⟩
  | .hbm, ⟨2, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrFwdReferenceIdeal.lean ====
abbrev S2048x512 : Shape := ⟨2, ![2048, 512]⟩
abbrev S1024x512 : Shape := ⟨2, ![1024, 512]⟩
abbrev S512x1024 : Shape := ⟨2, ![512, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S1024x512, .bf16⟩
  | .hbm, ⟨2, _⟩ => ⟨S512x1024, .bf16⟩
  | .hbm, ⟨3, _⟩ => ⟨S2048x512, .f32⟩
  | .hbm, ⟨4, _⟩ => ⟨S512x1024, .f32⟩
  | .hbm, ⟨5, _⟩ => ⟨S2048x1024, .f32⟩
  | .hbm, ⟨6, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FoxFwd.lean ====
abbrev S2048x512 : Shape := ⟨2, ![2048, 512]⟩
abbrev S1024x512 : Shape := ⟨2, ![1024, 512]⟩
abbrev S2048x1024 : Shape := ⟨2, ![2048, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S1024x512, .bf16⟩
  | .hbm, ⟨2, _⟩ => ⟨S2048x1024, .bf16⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxFwdReferenceIdeal.lean ====
abbrev S2048x512 : Shape := ⟨2, ![2048, 512]⟩
abbrev S1024x512 : Shape := ⟨2, ![1024, 512]⟩
abbrev S512x1024 : Shape := ⟨2, ![512, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1024x512, .bf16⟩
  | .hbm, ⟨2, _⟩ => ⟨S512x1024, .bf16⟩
  | .hbm, ⟨3, _⟩ => ⟨S512x1024, .f32⟩
  | .hbm, ⟨4, _⟩ => ⟨S2048x1024, .f32⟩
  | .hbm, ⟨5, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateFwd.lean ====
abbrev S2048x1024 : Shape := ⟨2, ![2048, 1024]⟩
abbrev S3072x1024 : Shape := ⟨2, ![3072, 1024]⟩
abbrev S2048x3072 : Shape := ⟨2, ![2048, 3072]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S3072x1024, .bf16⟩
  | .hbm, ⟨2, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateFwdReferenceIdeal.lean ====
abbrev S2048x1024 : Shape := ⟨2, ![2048, 1024]⟩
abbrev S3072x1024 : Shape := ⟨2, ![3072, 1024]⟩
abbrev S1024x3072 : Shape := ⟨2, ![1024, 3072]⟩
abbrev S2048x3072 : Shape := ⟨2, ![2048, 3072]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3072x1024, .bf16⟩
  | .hbm, ⟨2, _⟩ => ⟨S1024x3072, .bf16⟩
  | .hbm, ⟨3, _⟩ => ⟨S2048x1024, .f32⟩
  | .hbm, ⟨4, _⟩ => ⟨S1024x3072, .f32⟩
  | .hbm, ⟨5, _⟩ => ⟨S2048x3072, .f32⟩
  | .hbm, ⟨6, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OFwd.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OFwdReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpFwd.lean ====
abbrev S2048x1024 : Shape := ⟨2, ![2048, 1024]⟩
abbrev S5632x1024 : Shape := ⟨2, ![5632, 1024]⟩
abbrev S2048x5632 : Shape := ⟨2, ![2048, 5632]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdReferenceIdeal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S1024x5632, .bf16⟩
  | .hbm, ⟨3, _⟩ => ⟨S2048x1024, .f32⟩
  | .hbm, ⟨4, _⟩ => ⟨S1024x5632, .f32⟩
  | .hbm, ⟨5, _⟩ => ⟨S2048x5632, .f32⟩
  | .hbm, ⟨6, _⟩ => ⟨S2048x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownFwd.lean ====
abbrev S2048x2816 : Shape := ⟨2, ![2048, 2816]⟩
abbrev S2816x1024 : Shape := ⟨2, ![2816, 1024]⟩
abbrev S2048x1024 : Shape := ⟨2, ![2048, 1024]⟩
abbrev S1024x1408 : Shape := ⟨2, ![1024, 1408]⟩
abbrev S1408x512 : Shape := ⟨2, ![1408, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdReferenceIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x2816, .f32⟩
  | .hbm, ⟨3, _⟩ => ⟨S2816x1024, .f32⟩
  | .hbm, ⟨4, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnBwd.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S2x2048x2816 : Shape := ⟨3, ![2, 2048, 2816]⟩
abbrev S8x2816 : Shape := ⟨2, ![8, 2816]⟩
abbrev S2048x256 : Shape := ⟨2, ![2048, 256]⟩
abbrev S3x256 : Shape := ⟨2, ![3, 256]⟩
abbrev S1x256 : Shape := ⟨2, ![1, 256]⟩
abbrev S2x2048x256 : Shape := ⟨3, ![2, 2048, 256]⟩
abbrev S8x256 : Shape := ⟨2, ![8, 256]⟩
abbrev S1x2048x256 : Shape := ⟨3, ![1, 2048, 256]⟩
abbrev S256 : Shape := ⟨1, ![256]⟩

abbrev nBuf : Space → Nat
  | .hbm => 6
  | .vmem => 14
  | .smem => 0
  | _ => 0

abbrev bufTy : (tb : Table) → Fin (tcTables nBuf tb) → BufTy
  | .hbm, ⟨0, _⟩ => ⟨S2048x5632, .bf16⟩
  | .hbm, ⟨1, _⟩ => ⟨S3x2816, .f32⟩
  | .hbm, ⟨2, _⟩ => ⟨S1x2816, .f32⟩
  | .hbm, ⟨3, _⟩ => ⟨S2048x2816, .f32⟩
  | .hbm, ⟨4, _⟩ => ⟨S2x2048x2816, .bf16⟩
  | .hbm, ⟨5, _⟩ => ⟨S8x2816, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2x2048x256, .bf16⟩
  | .local _ .vmem, ⟨11, _⟩ => ⟨S2x2048x256, .bf16⟩
  | .local _ .vmem, ⟨12, _⟩ => ⟨S8x256, .f32⟩
  | .local _ .vmem, ⟨13, _⟩ => ⟨S8x256, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnBwdReferenceIdeal.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S2816 : Shape := ⟨1, ![2816]⟩
abbrev S_ : Shape := ⟨0, ![]⟩
abbrev S2x2816 : Shape := ⟨2, ![2, 2816]⟩
abbrev S2050x2816 : Shape := ⟨2, ![2050, 2816]⟩
abbrev S1x2048x2816 : Shape := ⟨3, ![1, 2048, 2816]⟩
abbrev S2x2048x2816 : Shape := ⟨3, ![2, 2048, 2816]⟩
abbrev S4x2816 : Shape := ⟨2, ![4, 2816]⟩
abbrev S8x2816 : Shape := ⟨2, ![8, 2816]⟩

abbrev nBuf : Space → Nat
  | .hbm => 114
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S3x2816, .f32⟩
  | .hbm, ⟨2, _⟩ => ⟨S1x2816, .f32⟩
  | .hbm, ⟨3, _⟩ => ⟨S2048x2816, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2816, .f32⟩
  | .hbm, ⟨8, _⟩ => ⟨S_, .f32⟩
  | .hbm, ⟨9, _⟩ => ⟨S2x2816, .f32⟩
  | .hbm, ⟨10, _⟩ => ⟨S2050x2816, .f32⟩
  | .hbm, ⟨11, _⟩ => ⟨S_, .f32⟩
  | .hbm, ⟨12, _⟩ => ⟨S2x2816, .f32⟩
  | .hbm, ⟨13, _⟩ => ⟨S1x2816, .f32⟩
  | .hbm, ⟨14, _⟩ => ⟨S2816, .f32⟩
  | .hbm, ⟨15, _⟩ => ⟨S2048x2816, .f32⟩
  | .hbm, ⟨16, _⟩ => ⟨S1x2816, .f32⟩
  | .hbm, ⟨17, _⟩ => ⟨S2048x2816, .f32⟩
  | .hbm, ⟨18, _⟩ => ⟨S2048x2816, .f32⟩
  | .hbm, ⟨19, _⟩ => ⟨S1x2816, .f32⟩
  | .hbm, ⟨20, _⟩ => ⟨S2048x2816, .f32⟩
  | .hbm, ⟨21, _⟩ => ⟨S2048x2816, .f32⟩
  | .hbm, ⟨22, _⟩ => ⟨S1x2816, .f32⟩
  | .hbm, ⟨23, _⟩ => ⟨S2816, .f32⟩
  | .hbm, ⟨24, _⟩ => ⟨S2048x2816, .f32⟩
  | .hbm, ⟨25, _⟩ => ⟨S1x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S1x2816, .f32⟩
  | .hbm, ⟨30, _⟩ => ⟨S2816, .f32⟩
  | .hbm, ⟨31, _⟩ => ⟨S2048x2816, .f32⟩
  | .hbm, ⟨32, _⟩ => ⟨S1x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S_, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S_, .f32⟩
  | .hbm, ⟨60, _⟩ => ⟨S2816, .f32⟩
  | .hbm, ⟨61, _⟩ => ⟨S1x2816, .f32⟩
  | .hbm, ⟨62, _⟩ => ⟨S_, .f32⟩
  | .hbm, ⟨63, _⟩ => ⟨S2816, .f32⟩
  | .hbm, ⟨64, _⟩ => ⟨S_, .f32⟩
  | .hbm, ⟨65, _⟩ => ⟨S2050x2816, .f32⟩
  | .hbm, ⟨66, _⟩ => ⟨S1x2816, .f32⟩
  | .hbm, ⟨67, _⟩ => ⟨S_, .f32⟩
  | .hbm, ⟨68, _⟩ => ⟨S3x2816, .f32⟩
  | .hbm, ⟨69, _⟩ => ⟨S2048x2816, .f32⟩
  | .hbm, ⟨70, _⟩ => ⟨S2048x2816, .f32⟩
  | .hbm, ⟨71, _⟩ => ⟨S2048x2816, .f32⟩
  | .hbm, ⟨72, _⟩ => ⟨S_, .f32⟩
  | .hbm, ⟨73, _⟩ => ⟨S2816, .f32⟩
  | .hbm, ⟨74, _⟩ => ⟨S1x2816, .f32⟩
  | .hbm, ⟨75, _⟩ => ⟨S_, .f32⟩
  | .hbm, ⟨76, _⟩ => ⟨S2816, .f32⟩
  | .hbm, ⟨77, _⟩ => ⟨S_, .f32⟩
  | .hbm, ⟨78, _⟩ => ⟨S2050x2816, .f32⟩
  | .hbm, ⟨79, _⟩ => ⟨S2050x2816, .f32⟩
  | .hbm, ⟨80, _⟩ => ⟨S1x2816, .f32⟩
  | .hbm, ⟨81, _⟩ => ⟨S_, .f32⟩
  | .hbm, ⟨82, _⟩ => ⟨S3x2816, .f32⟩
  | .hbm, ⟨83, _⟩ => ⟨S3x2816, .f32⟩
  | .hbm, ⟨84, _⟩ => ⟨S_, .f32⟩
  | .hbm, ⟨85, _⟩ => ⟨S2816, .f32⟩
  | .hbm, ⟨86, _⟩ => ⟨S1x2816, .f32⟩
  | .hbm, ⟨87, _⟩ => ⟨S_, .f32⟩
  | .hbm, ⟨88, _⟩ => ⟨S2816, .f32⟩
  | .hbm, ⟨89, _⟩ => ⟨S2048x2816, .f32⟩
  | .hbm, ⟨90, _⟩ => ⟨S2048x2816, .f32⟩
  | .hbm, ⟨91, _⟩ => ⟨S2048x2816, .f32⟩
  | .hbm, ⟨92, _⟩ => ⟨S_, .f32⟩
  | .hbm, ⟨93, _⟩ => ⟨S2816, .f32⟩
  | .hbm, ⟨94, _⟩ => ⟨S1x2816, .f32⟩
  | .hbm, ⟨95, _⟩ => ⟨S_, .f32⟩
  | .hbm, ⟨96, _⟩ => ⟨S2816, .f32⟩
  | .hbm, ⟨97, _⟩ => ⟨S_, .f32⟩
  | .hbm, ⟨98, _⟩ => ⟨S2050x2816, .f32⟩
  | .hbm, ⟨99, _⟩ => ⟨S2050x2816, .f32⟩
  | .hbm, ⟨100, _⟩ => ⟨S1x2816, .f32⟩
  | .hbm, ⟨101, _⟩ => ⟨S_, .f32⟩
  | .hbm, ⟨102, _⟩ => ⟨S3x2816, .f32⟩
  | .hbm, ⟨103, _⟩ => ⟨S3x2816, .f32⟩
  | .hbm, ⟨104, _⟩ => ⟨S2x2816, .f32⟩
  | .hbm, ⟨105, _⟩ => ⟨S2048x2816, .f32⟩
  | .hbm, ⟨106, _⟩ => ⟨S1x2048x2816, .f32⟩
  | .hbm, ⟨107, _⟩ => ⟨S1x2048x2816, .f32⟩
  | .hbm, ⟨108, _⟩ => ⟨S2x2048x2816, .f32⟩
  | .hbm, ⟨109, _⟩ => ⟨S2x2048x2816, .bf16⟩
  | .hbm, ⟨110, _⟩ => ⟨S1x2816, .f32⟩
  | .hbm, ⟨111, _⟩ => ⟨S_, .f32⟩
  | .hbm, ⟨112, _⟩ => ⟨S4x2816, .f32⟩
  | .hbm, ⟨113, _⟩ => ⟨S8x2816, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v30_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v30_1 : Ref sig .tc := ⟨.hbm, 47, rfl⟩
abbrev main_v30_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_1 : Ref sig .tc := ⟨.hbm, 59, rfl⟩
abbrev main_v38 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩

abbrev nD : Nat := 1
abbrev τ : Topo := Topo.v7x

variable {F : FTy → Type} [FloatOps F]
-- ==== MixBwd.lean ====
abbrev S2048x3072 : Shape := ⟨2, ![2048, 3072]⟩
abbrev S1x3072 : Shape := ⟨2, ![1, 3072]⟩
abbrev S2048x1024 : Shape := ⟨2, ![2048, 1024]⟩
abbrev S8x3072 : Shape := ⟨2, ![8, 3072]⟩
abbrev S512x3072 : Shape := ⟨2, ![512, 3072]⟩
abbrev S512x1024 : Shape := ⟨2, ![512, 1024]⟩
abbrev S1x1024 : Shape := ⟨2, ![1, 1024]⟩
abbrev S1024 : Shape := ⟨1, ![1024]⟩

abbrev nBuf : Space → Nat
  | .hbm => 11
  | .vmem => 20
  | .smem => 0
  | _ => 0

abbrev bufTy : (tb : Table) → Fin (tcTables nBuf tb) → BufTy
  | .hbm, ⟨0, _⟩ => ⟨S2048x3072, .bf16⟩
  | .hbm, ⟨1, _⟩ => ⟨S1x3072, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x3072, .bf16⟩
  | .hbm, ⟨10, _⟩ => ⟨S8x3072, .f32⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x3072, .bf16⟩
  | .local _ .vmem, ⟨18, _⟩ => ⟨S512x3072, .bf16⟩
  | .local _ .vmem, ⟨19, _⟩ => ⟨S8x3072, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixBwdReferenceIdeal.lean ====
abbrev S2048x3072 : Shape := ⟨2, ![2048, 3072]⟩
abbrev S1x3072 : Shape := ⟨2, ![1, 3072]⟩
abbrev S2048x1024 : Shape := ⟨2, ![2048, 1024]⟩
abbrev S2048x1x1024 : Shape := ⟨3, ![2048, 1, 1024]⟩
abbrev S2048x3x1024 : Shape := ⟨3, ![2048, 3, 1024]⟩
abbrev S3072 : Shape := ⟨1, ![3072]⟩
abbrev S_ : Shape := ⟨0, ![]⟩
abbrev S7x3072 : Shape := ⟨2, ![7, 3072]⟩
abbrev S8x3072 : Shape := ⟨2, ![8, 3072]⟩

abbrev nBuf : Space → Nat
  | .hbm => 56
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1x3072, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1x1024, .f32⟩
  | .hbm, ⟨10, _⟩ => ⟨S2048x1x1024, .f32⟩
  | .hbm, ⟨11, _⟩ => ⟨S2048x1x1024, .f32⟩
  | .hbm, ⟨12, _⟩ => ⟨S2048x3x1024, .f32⟩
  | .hbm, ⟨13, _⟩ => ⟨S2048x3072, .f32⟩
  | .hbm, ⟨14, _⟩ => ⟨S3072, .f32⟩
  | .hbm, ⟨15, _⟩ => ⟨S1x3072, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S2048x3x1024, .f32⟩
  | .hbm, ⟨31, _⟩ => ⟨S2048x3x1024, .f32⟩
  | .hbm, ⟨32, _⟩ => ⟨S_, .f32⟩
  | .hbm, ⟨33, _⟩ => ⟨S2048x1024, .f32⟩
  | .hbm, ⟨34, _⟩ => ⟨S2048x3x1024, .f32⟩
  | .hbm, ⟨35, _⟩ => ⟨S2048x3x1024, .f32⟩
  | .hbm, ⟨36, _⟩ => ⟨S2048x3x1024, .f32⟩
  | .hbm, ⟨37, _⟩ => ⟨S2048x3072, .f32⟩
  | .hbm, ⟨38, _⟩ => ⟨S2048x3072, .f32⟩
  | .hbm, ⟨39, _⟩ => ⟨S_, .f32⟩
  | .hbm, ⟨40, _⟩ => ⟨S3072, .f32⟩
  | .hbm, ⟨41, _⟩ => ⟨S1x3072, .f32⟩
  | .hbm, ⟨42, _⟩ => ⟨S_, .f32⟩
  | .hbm, ⟨43, _⟩ => ⟨S3072, .f32⟩
  | .hbm, ⟨44, _⟩ => ⟨S2048x3x1024, .bf16⟩
  | .hbm, ⟨45, _⟩ => ⟨S2048x1x1024, .bf16⟩
  | .hbm, ⟨46, _⟩ => ⟨S2048x1024, .bf16⟩
  | .hbm, ⟨47, _⟩ => ⟨S2048x1x1024, .bf16⟩
  | .hbm, ⟨48, _⟩ => ⟨S2048x1024, .bf16⟩
  | .hbm, ⟨49, _⟩ => ⟨S2048x1x1024, .bf16⟩
  | .hbm, ⟨50, _⟩ => ⟨S2048x1024, .bf16⟩
  | .hbm, ⟨51, _⟩ => ⟨S2048x3072, .bf16⟩
  | .hbm, ⟨52, _⟩ => ⟨S1x3072, .f32⟩
  | .hbm, ⟨53, _⟩ => ⟨S_, .f32⟩
  | .hbm, ⟨54, _⟩ => ⟨S7x3072, .f32⟩
  | .hbm, ⟨55, _⟩ => ⟨S8x3072, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== ResBwd.lean ====
abbrev S2048x1024 : Shape := ⟨2, ![2048, 1024]⟩
abbrev S1x1024 : Shape := ⟨2, ![1, 1024]⟩
abbrev S8x1024 : Shape := ⟨2, ![8, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .bf16⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ResBwdReferenceIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S7x1024 : Shape := ⟨2, ![7, 1024]⟩
abbrev S8x1024 : Shape := ⟨2, ![8, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S_, .f32⟩
  | .hbm, ⟨14, _⟩ => ⟨S1024, .f32⟩
  | .hbm, ⟨15, _⟩ => ⟨S2048x1024, .bf16⟩
  | .hbm, ⟨16, _⟩ => ⟨S1x1024, .f32⟩
  | .hbm, ⟨17, _⟩ => ⟨S_, .f32⟩
  | .hbm, ⟨18, _⟩ => ⟨S7x1024, .f32⟩
  | .hbm, ⟨19, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== NormBwd.lean ====
abbrev S2048x1024 : Shape := ⟨2, ![2048, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormBwdReferenceIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S5x1024 : Shape := ⟨2, ![5, 1024]⟩
abbrev S8x1024 : Shape := ⟨2, ![8, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S5x1024, .f32⟩
  | .hbm, ⟨83, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== RopeBwd.lean ====
abbrev S2048x512 : Shape := ⟨2, ![2048, 512]⟩
abbrev S2048x64 : Shape := ⟨2, ![2048, 64]⟩
abbrev S2048x128 : Shape := ⟨2, ![2048, 128]⟩
abbrev S2048x1024 : Shape := ⟨2, ![2048, 1024]⟩
abbrev S512x512 : Shape := ⟨2, ![512, 512]⟩
abbrev S512x128 : Shape := ⟨2, ![512, 128]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x64, .f32⟩
  | .hbm, ⟨3, _⟩ => ⟨S2048x64, .f32⟩
  | .hbm, ⟨4, _⟩ => ⟨S2048x128, .f32⟩
  | .hbm, ⟨5, _⟩ => ⟨S2048x64, .f32⟩
  | .hbm, ⟨6, _⟩ => ⟨S2048x128, .f32⟩
  | .hbm, ⟨7, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeBwdReferenceIdeal.lean ====
abbrev S2048x512 : Shape := ⟨2, ![2048, 512]⟩
abbrev S2048x64 : Shape := ⟨2, ![2048, 64]⟩
abbrev S_ : Shape := ⟨0, ![]⟩
abbrev S2048x4x128 : Shape := ⟨3, ![2048, 4, 128]⟩
abbrev S2048x1x64 : Shape := ⟨3, ![2048, 1, 64]⟩
abbrev S2048x4x64 : Shape := ⟨3, ![2048, 4, 64]⟩
abbrev S2048x1024 : Shape := ⟨2, ![2048, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x64, .f32⟩
  | .hbm, ⟨3, _⟩ => ⟨S2048x64, .f32⟩
  | .hbm, ⟨4, _⟩ => ⟨S_, .f32⟩
  | .hbm, ⟨5, _⟩ => ⟨S2048x4x128, .f32⟩
  | .hbm, ⟨6, _⟩ => ⟨S2048x1x64, .f32⟩
  | .hbm, ⟨7, _⟩ => ⟨S2048x1x64, .f32⟩
  | .hbm, ⟨8, _⟩ => ⟨S2048x4x64, .f32⟩
  | .hbm, ⟨9, _⟩ => ⟨S2048x4x64, .f32⟩
  | .hbm, ⟨10, _⟩ => ⟨S2048x4x64, .f32⟩
  | .hbm, ⟨11, _⟩ => ⟨S2048x4x64, .f32⟩
  | .hbm, ⟨12, _⟩ => ⟨S2048x4x64, .f32⟩
  | .hbm, ⟨13, _⟩ => ⟨S2048x4x64, .f32⟩
  | .hbm, ⟨14, _⟩ => ⟨S2048x4x64, .f32⟩
  | .hbm, ⟨15, _⟩ => ⟨S2048x4x64, .f32⟩
  | .hbm, ⟨16, _⟩ => ⟨S2048x4x64, .f32⟩
  | .hbm, ⟨17, _⟩ => ⟨S2048x4x64, .f32⟩
  | .hbm, ⟨18, _⟩ => ⟨S2048x4x64, .f32⟩
  | .hbm, ⟨19, _⟩ => ⟨S2048x4x64, .f32⟩
  | .hbm, ⟨20, _⟩ => ⟨S2048x4x128, .f32⟩
  | .hbm, ⟨21, _⟩ => ⟨S2048x1x64, .f32⟩
  | .hbm, ⟨22, _⟩ => ⟨S2048x1x64, .f32⟩
  | .hbm, ⟨23, _⟩ => ⟨S2048x4x64, .f32⟩
  | .hbm, ⟨24, _⟩ => ⟨S2048x4x64, .f32⟩
  | .hbm, ⟨25, _⟩ => ⟨S2048x4x64, .f32⟩
  | .hbm, ⟨26, _⟩ => ⟨S2048x4x64, .f32⟩
  | .hbm, ⟨27, _⟩ => ⟨S2048x4x64, .f32⟩
  | .hbm, ⟨28, _⟩ => ⟨S2048x4x64, .f32⟩
  | .hbm, ⟨29, _⟩ => ⟨S2048x4x64, .f32⟩
  | .hbm, ⟨30, _⟩ => ⟨S2048x4x64, .f32⟩
  | .hbm, ⟨31, _⟩ => ⟨S2048x4x64, .f32⟩
  | .hbm, ⟨32, _⟩ => ⟨S2048x4x64, .f32⟩
  | .hbm, ⟨33, _⟩ => ⟨S2048x4x64, .f32⟩
  | .hbm, ⟨34, _⟩ => ⟨S2048x4x64, .f32⟩
  | .hbm, ⟨35, _⟩ => ⟨S2048x4x128, .f32⟩
  | .hbm, ⟨36, _⟩ => ⟨S_, .f32⟩
  | .hbm, ⟨37, _⟩ => ⟨S2048x4x128, .f32⟩
  | .hbm, ⟨38, _⟩ => ⟨S2048x4x128, .f32⟩
  | .hbm, ⟨39, _⟩ => ⟨S2048x4x128, .f32⟩
  | .hbm, ⟨40, _⟩ => ⟨S2048x4x128, .f32⟩
  | .hbm, ⟨41, _⟩ => ⟨S_, .f32⟩
  | .hbm, ⟨42, _⟩ => ⟨S2048x4x128, .f32⟩
  | .hbm, ⟨43, _⟩ => ⟨S2048x4x128, .f32⟩
  | .hbm, ⟨44, _⟩ => ⟨S2048x4x64, .f32⟩
  | .hbm, ⟨45, _⟩ => ⟨S2048x4x64, .f32⟩
  | .hbm, ⟨46, _⟩ => ⟨S2048x4x64, .f32⟩
  | .hbm, ⟨47, _⟩ => ⟨S2048x4x64, .f32⟩
  | .hbm, ⟨48, _⟩ => ⟨S2048x4x64, .f32⟩
  | .hbm, ⟨49, _⟩ => ⟨S2048x4x64, .f32⟩
  | .hbm, ⟨50, _⟩ => ⟨S2048x4x64, .f32⟩
  | .hbm, ⟨51, _⟩ => ⟨S2048x4x64, .f32⟩
  | .hbm, ⟨52, _⟩ => ⟨S2048x4x64, .f32⟩
  | .hbm, ⟨53, _⟩ => ⟨S2048x4x64, .f32⟩
  | .hbm, ⟨54, _⟩ => ⟨S2048x4x64, .f32⟩
  | .hbm, ⟨55, _⟩ => ⟨S2048x4x64, .f32⟩
  | .hbm, ⟨56, _⟩ => ⟨S2048x4x64, .f32⟩
  | .hbm, ⟨57, _⟩ => ⟨S_, .f32⟩
  | .hbm, ⟨58, _⟩ => ⟨S2048x4x128, .f32⟩
  | .hbm, ⟨59, _⟩ => ⟨S_, .f32⟩
  | .hbm, ⟨60, _⟩ => ⟨S2048x4x128, .f32⟩
  | .hbm, ⟨61, _⟩ => ⟨S2048x4x128, .f32⟩
  | .hbm, ⟨62, _⟩ => ⟨S2048x4x64, .f32⟩
  | .hbm, ⟨63, _⟩ => ⟨S2048x4x64, .f32⟩
  | .hbm, ⟨64, _⟩ => ⟨S2048x4x64, .f32⟩
  | .hbm, ⟨65, _⟩ => ⟨S2048x4x64, .f32⟩
  | .hbm, ⟨66, _⟩ => ⟨S2048x4x64, .f32⟩
  | .hbm, ⟨67, _⟩ => ⟨S2048x4x64, .f32⟩
  | .hbm, ⟨68, _⟩ => ⟨S2048x4x64, .f32⟩
  | .hbm, ⟨69, _⟩ => ⟨S2048x4x64, .f32⟩
  | .hbm, ⟨70, _⟩ => ⟨S2048x4x64, .f32⟩
  | .hbm, ⟨71, _⟩ => ⟨S2048x4x64, .f32⟩
  | .hbm, ⟨72, _⟩ => ⟨S2048x4x64, .f32⟩
  | .hbm, ⟨73, _⟩ => ⟨S2048x4x64, .f32⟩
  | .hbm, ⟨74, _⟩ => ⟨S2048x4x64, .f32⟩
  | .hbm, ⟨75, _⟩ => ⟨S_, .f32⟩
  | .hbm, ⟨76, _⟩ => ⟨S2048x4x128, .f32⟩
  | .hbm, ⟨77, _⟩ => ⟨S_, .f32⟩
  | .hbm, ⟨78, _⟩ => ⟨S2048x4x128, .f32⟩
  | .hbm, ⟨79, _⟩ => ⟨S2048x4x128, .f32⟩
  | .hbm, ⟨80, _⟩ => ⟨S2048x512, .f32⟩
  | .hbm, ⟨81, _⟩ => ⟨S2048x512, .f32⟩
  | .hbm, ⟨82, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_2 : Ref sig .tc := ⟨.hbm, 57, rfl⟩
abbrev main_v50 : Ref sig .tc := ⟨.hbm, 58, rfl⟩
abbrev main_cst_3 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_cst_4 : Ref sig .tc := ⟨.hbm, 75, rfl⟩
abbrev main_v66 : Ref sig .tc := ⟨.hbm, 76, rfl⟩
abbrev main_cst_5 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩

abbrev nD : Nat := 1
abbrev τ : Topo := Topo.v7x

variable {F : FTy → Type} [FloatOps F]
-- ==== ResFwd.lean ====
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResFwdReferenceIdeal.lean ====
abbrev S2048x1024 : Shape := ⟨2, ![2048, 1024]⟩
abbrev S1x1024 : Shape := ⟨2, ![1, 1024]⟩
abbrev S1024 : Shape := ⟨1, ![1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormFwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdReferenceIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== ResNorm.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResNormReferenceIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== MixFwd.lean ====
abbrev S2048x3072 : Shape := ⟨2, ![2048, 3072]⟩
abbrev S1x3072 : Shape := ⟨2, ![1, 3072]⟩
abbrev S2048x1024 : Shape := ⟨2, ![2048, 1024]⟩
abbrev S512x3072 : Shape := ⟨2, ![512, 3072]⟩
abbrev S512x1024 : Shape := ⟨2, ![512, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x3072, .bf16⟩
  | .hbm, ⟨1, _⟩ => ⟨S1x3072, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixFwdReferenceIdeal.lean ====
abbrev S2048x3072 : Shape := ⟨2, ![2048, 3072]⟩
abbrev S1x3072 : Shape := ⟨2, ![1, 3072]⟩
abbrev S2048x1024 : Shape := ⟨2, ![2048, 1024]⟩
abbrev S2048x1x1024 : Shape := ⟨3, ![2048, 1, 1024]⟩
abbrev S2048x3x1024 : Shape := ⟨3, ![2048, 3, 1024]⟩
abbrev S3072 : Shape := ⟨1, ![3072]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1x3072, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1x1024, .f32⟩
  | .hbm, ⟨9, _⟩ => ⟨S2048x1x1024, .f32⟩
  | .hbm, ⟨10, _⟩ => ⟨S2048x1x1024, .f32⟩
  | .hbm, ⟨11, _⟩ => ⟨S2048x3x1024, .f32⟩
  | .hbm, ⟨12, _⟩ => ⟨S2048x3072, .f32⟩
  | .hbm, ⟨13, _⟩ => ⟨S3072, .f32⟩
  | .hbm, ⟨14, _⟩ => ⟨S1x3072, .f32⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S2048x3x1024, .f32⟩
  | .hbm, ⟨26, _⟩ => ⟨S2048x3x1024, .f32⟩
  | .hbm, ⟨27, _⟩ => ⟨S_, .f32⟩
  | .hbm, ⟨28, _⟩ => ⟨S2048x1024, .f32⟩
  | .hbm, ⟨29, _⟩ => ⟨S2048x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== RopeFwd.lean ====
abbrev S2048x5120 : Shape := ⟨2, ![2048, 5120]⟩
abbrev S2048x64 : Shape := ⟨2, ![2048, 64]⟩
abbrev S2048x128 : Shape := ⟨2, ![2048, 128]⟩
abbrev S2048x1024 : Shape := ⟨2, ![2048, 1024]⟩
abbrev S512x1024 : Shape := ⟨2, ![512, 1024]⟩
abbrev S512x128 : Shape := ⟨2, ![512, 128]⟩

abbrev nBuf : Space → Nat
  | .hbm => 7
  | .vmem => 8
  | .smem => 0
  | _ => 0

abbrev bufTy : (tb : Table) → Fin (tcTables nBuf tb) → BufTy
  | .hbm, ⟨0, _⟩ => ⟨S2048x5120, .bf16⟩
  | .hbm, ⟨1, _⟩ => ⟨S2048x64, .f32⟩
  | .hbm, ⟨2, _⟩ => ⟨S2048x64, .f32⟩
  | .hbm, ⟨3, _⟩ => ⟨S2048x128, .f32⟩
  | .hbm, ⟨4, _⟩ => ⟨S2048x64, .f32⟩
  | .hbm, ⟨5, _⟩ => ⟨S2048x128, .f32⟩
  | .hbm, ⟨6, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeFwdReferenceIdeal.lean ====
abbrev S2048x5120 : Shape := ⟨2, ![2048, 5120]⟩
abbrev S2048x64 : Shape := ⟨2, ![2048, 64]⟩
abbrev S2048x512 : Shape := ⟨2, ![2048, 512]⟩
abbrev S2048x4x128 : Shape := ⟨3, ![2048, 4, 128]⟩
abbrev S2048x1x64 : Shape := ⟨3, ![2048, 1, 64]⟩
abbrev S2048x4x64 : Shape := ⟨3, ![2048, 4, 64]⟩
abbrev S_ : Shape := ⟨0, ![]⟩
abbrev S2048x1024 : Shape := ⟨2, ![2048, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S2048x64, .f32⟩
  | .hbm, ⟨2, _⟩ => ⟨S2048x64, .f32⟩
  | .hbm, ⟨3, _⟩ => ⟨S2048x5120, .f32⟩
  | .hbm, ⟨4, _⟩ => ⟨S2048x512, .f32⟩
  | .hbm, ⟨5, _⟩ => ⟨S2048x4x128, .f32⟩
  | .hbm, ⟨6, _⟩ => ⟨S2048x1x64, .f32⟩
  | .hbm, ⟨7, _⟩ => ⟨S2048x1x64, .f32⟩
  | .hbm, ⟨8, _⟩ => ⟨S2048x4x64, .f32⟩
  | .hbm, ⟨9, _⟩ => ⟨S2048x4x64, .f32⟩
  | .hbm, ⟨10, _⟩ => ⟨S2048x4x64, .f32⟩
  | .hbm, ⟨11, _⟩ => ⟨S2048x4x64, .f32⟩
  | .hbm, ⟨12, _⟩ => ⟨S2048x4x64, .f32⟩
  | .hbm, ⟨13, _⟩ => ⟨S2048x4x64, .f32⟩
  | .hbm, ⟨14, _⟩ => ⟨S2048x4x64, .f32⟩
  | .hbm, ⟨15, _⟩ => ⟨S2048x4x64, .f32⟩
  | .hbm, ⟨16, _⟩ => ⟨S2048x4x64, .f32⟩
  | .hbm, ⟨17, _⟩ => ⟨S2048x4x64, .f32⟩
  | .hbm, ⟨18, _⟩ => ⟨S2048x4x64, .f32⟩
  | .hbm, ⟨19, _⟩ => ⟨S2048x4x64, .f32⟩
  | .hbm, ⟨20, _⟩ => ⟨S2048x4x128, .f32⟩
  | .hbm, ⟨21, _⟩ => ⟨S2048x512, .f32⟩
  | .hbm, ⟨22, _⟩ => ⟨S2048x4x128, .f32⟩
  | .hbm, ⟨23, _⟩ => ⟨S2048x1x64, .f32⟩
  | .hbm, ⟨24, _⟩ => ⟨S2048x1x64, .f32⟩
  | .hbm, ⟨25, _⟩ => ⟨S2048x4x64, .f32⟩
  | .hbm, ⟨26, _⟩ => ⟨S2048x4x64, .f32⟩
  | .hbm, ⟨27, _⟩ => ⟨S2048x4x64, .f32⟩
  | .hbm, ⟨28, _⟩ => ⟨S2048x4x64, .f32⟩
  | .hbm, ⟨29, _⟩ => ⟨S2048x4x64, .f32⟩
  | .hbm, ⟨30, _⟩ => ⟨S2048x4x64, .f32⟩
  | .hbm, ⟨31, _⟩ => ⟨S2048x4x64, .f32⟩
  | .hbm, ⟨32, _⟩ => ⟨S2048x4x64, .f32⟩
  | .hbm, ⟨33, _⟩ => ⟨S2048x4x64, .f32⟩
  | .hbm, ⟨34, _⟩ => ⟨S2048x4x64, .f32⟩
  | .hbm, ⟨35, _⟩ => ⟨S2048x4x64, .f32⟩
  | .hbm, ⟨36, _⟩ => ⟨S2048x4x64, .f32⟩
  | .hbm, ⟨37, _⟩ => ⟨S2048x4x128, .f32⟩
  | .hbm, ⟨38, _⟩ => ⟨S_, .f32⟩
  | .hbm, ⟨39, _⟩ => ⟨S2048x4x128, .f32⟩
  | .hbm, ⟨40, _⟩ => ⟨S2048x4x128, .f32⟩
  | .hbm, ⟨41, _⟩ => ⟨S2048x512, .f32⟩
  | .hbm, ⟨42, _⟩ => ⟨S2048x512, .f32⟩
  | .hbm, ⟨43, _⟩ => ⟨S2048x1024, .f32⟩
  | .hbm, ⟨44, _⟩ => ⟨S2048x1024, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_cst : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩

abbrev nD : Nat := 1
abbrev τ : Topo := Topo.v7x

variable {F : FTy → Type} [FloatOps F]
-- ==== FfnFwd.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S2048x256 : Shape := ⟨2, ![2048, 256]⟩
abbrev S3x256 : Shape := ⟨2, ![3, 256]⟩
abbrev S1x256 : Shape := ⟨2, ![1, 256]⟩

abbrev nBuf : Space → Nat
  | .hbm => 4
  | .vmem => 10
  | .smem => 0
  | _ => 0

abbrev bufTy : (tb : Table) → Fin (tcTables nBuf tb) → BufTy
  | .hbm, ⟨0, _⟩ => ⟨S2048x5632, .bf16⟩
  | .hbm, ⟨1, _⟩ => ⟨S3x2816, .f32⟩
  | .hbm, ⟨2, _⟩ => ⟨S1x2816, .f32⟩
  | .hbm, ⟨3, _⟩ => ⟨S2048x2816, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnFwdReferenceIdeal.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S2816 : Shape := ⟨1, ![2816]⟩
abbrev S_ : Shape := ⟨0, ![]⟩
abbrev S2x2816 : Shape := ⟨2, ![2, 2816]⟩
abbrev S2050x2816 : Shape := ⟨2, ![2050, 2816]⟩

abbrev nBuf : Space → Nat
  | .hbm => 44
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S3x2816, .f32⟩
  | .hbm, ⟨2, _⟩ => ⟨S1x2816, .f32⟩
  | .hbm, ⟨3, _⟩ => ⟨S2048x5632, .f32⟩
  | .hbm, ⟨4, _⟩ => ⟨S2048x2816, .f32⟩
  | .hbm, ⟨5, _⟩ => ⟨S2048x2816, .f32⟩
  | .hbm, ⟨6, _⟩ => ⟨S2816, .f32⟩
  | .hbm, ⟨7, _⟩ => ⟨S_, .f32⟩
  | .hbm, ⟨8, _⟩ => ⟨S2x2816, .f32⟩
  | .hbm, ⟨9, _⟩ => ⟨S2050x2816, .f32⟩
  | .hbm, ⟨10, _⟩ => ⟨S1x2816, .f32⟩
  | .hbm, ⟨11, _⟩ => ⟨S2816, .f32⟩
  | .hbm, ⟨12, _⟩ => ⟨S2048x2816, .f32⟩
  | .hbm, ⟨13, _⟩ => ⟨S1x2816, .f32⟩
  | .hbm, ⟨14, _⟩ => ⟨S2048x2816, .f32⟩
  | .hbm, ⟨15, _⟩ => ⟨S2048x2816, .f32⟩
  | .hbm, ⟨16, _⟩ => ⟨S1x2816, .f32⟩
  | .hbm, ⟨17, _⟩ => ⟨S2048x2816, .f32⟩
  | .hbm, ⟨18, _⟩ => ⟨S2048x2816, .f32⟩
  | .hbm, ⟨19, _⟩ => ⟨S1x2816, .f32⟩
  | .hbm, ⟨20, _⟩ => ⟨S2816, .f32⟩
  | .hbm, ⟨21, _⟩ => ⟨S2048x2816, .f32⟩
  | .hbm, ⟨22, _⟩ => ⟨S1x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S1x2816, .f32⟩
  | .hbm, ⟨27, _⟩ => ⟨S2816, .f32⟩
  | .hbm, ⟨28, _⟩ => ⟨S2048x2816, .f32⟩
  | .hbm, ⟨29, _⟩ => ⟨S1x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x2816, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== RetPost.lean ====
abbrev S2048x512 : Shape := ⟨2, ![2048, 512]⟩
abbrev S2048x5120 : Shape := ⟨2, ![2048, 5120]⟩
abbrev S1x512 : Shape := ⟨2, ![1, 512]⟩
abbrev S512x512 : Shape := ⟨2, ![512, 512]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x5120, .bf16⟩
  | .hbm, ⟨2, _⟩ => ⟨S1x512, .f32⟩
  | .hbm, ⟨3, _⟩ => ⟨S2048x512, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RetPostReferenceIdeal.lean ====
abbrev S2048x512 : Shape := ⟨2, ![2048, 512]⟩
abbrev S2048x5120 : Shape := ⟨2, ![2048, 5120]⟩
abbrev S1x512 : Shape := ⟨2, ![1, 512]⟩
abbrev S2048x4x128 : Shape := ⟨3, ![2048, 4, 128]⟩
abbrev S4x128 : Shape := ⟨2, ![4, 128]⟩
abbrev S_ : Shape := ⟨0, ![]⟩
abbrev S2048x4 : Shape := ⟨2, ![2048, 4]⟩
abbrev S2048x4x1 : Shape := ⟨3, ![2048, 4, 1]⟩
abbrev S1x4x128 : Shape := ⟨3, ![1, 4, 128]⟩

abbrev nBuf : Space → Nat
  | .hbm => 43
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x5120, .bf16⟩
  | .hbm, ⟨2, _⟩ => ⟨S1x512, .f32⟩
  | .hbm, ⟨3, _⟩ => ⟨S2048x4x128, .f32⟩
  | .hbm, ⟨4, _⟩ => ⟨S4x128, .f32⟩
  | .hbm, ⟨5, _⟩ => ⟨S_, .f32⟩
  | .hbm, ⟨6, _⟩ => ⟨S2048x4, .f32⟩
  | .hbm, ⟨7, _⟩ => ⟨S2048x4x1, .f32⟩
  | .hbm, ⟨8, _⟩ => ⟨S_, .f32⟩
  | .hbm, ⟨9, _⟩ => ⟨S2048x4x1, .f32⟩
  | .hbm, ⟨10, _⟩ => ⟨S2048x4x1, .f32⟩
  | .hbm, ⟨11, _⟩ => ⟨S2048x4x128, .f32⟩
  | .hbm, ⟨12, _⟩ => ⟨S2048x4x128, .f32⟩
  | .hbm, ⟨13, _⟩ => ⟨S2048x4x128, .f32⟩
  | .hbm, ⟨14, _⟩ => ⟨S_, .f32⟩
  | .hbm, ⟨15, _⟩ => ⟨S2048x4, .f32⟩
  | .hbm, ⟨16, _⟩ => ⟨S2048x4x1, .f32⟩
  | .hbm, ⟨17, _⟩ => ⟨S_, .f32⟩
  | .hbm, ⟨18, _⟩ => ⟨S2048x4x1, .f32⟩
  | .hbm, ⟨19, _⟩ => ⟨S2048x4x1, .f32⟩
  | .hbm, ⟨20, _⟩ => ⟨S_, .f32⟩
  | .hbm, ⟨21, _⟩ => ⟨S2048x4x1, .f32⟩
  | .hbm, ⟨22, _⟩ => ⟨S2048x4x1, .f32⟩
  | .hbm, ⟨23, _⟩ => ⟨S2048x4x1, .f32⟩
  | .hbm, ⟨24, _⟩ => ⟨S2048x4x128, .f32⟩
  | .hbm, ⟨25, _⟩ => ⟨S2048x4x128, .f32⟩
  | .hbm, ⟨26, _⟩ => ⟨S1x4x128, .f32⟩
  | .hbm, ⟨27, _⟩ => ⟨S2048x4x128, .f32⟩
  | .hbm, ⟨28, _⟩ => ⟨S2048x4x128, .f32⟩
  | .hbm, ⟨29, _⟩ => ⟨S2048x512, .f32⟩
  | .hbm, ⟨30, _⟩ => ⟨S2048x512, .bf16⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== GlaPost.lean ====
abbrev S2048x512 : Shape := ⟨2, ![2048, 512]⟩
abbrev S2048x5120 : Shape := ⟨2, ![2048, 5120]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x5120, .bf16⟩
  | .hbm, ⟨2, _⟩ => ⟨S1x128, .f32⟩
  | .hbm, ⟨3, _⟩ => ⟨S2048x512, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GlaPostReferenceIdeal.lean ====
abbrev S2048x512 : Shape := ⟨2, ![2048, 512]⟩
abbrev S2048x5120 : Shape := ⟨2, ![2048, 5120]⟩
abbrev S1x128 : Shape := ⟨2, ![1, 128]⟩
abbrev S2048x4x128 : Shape := ⟨3, ![2048, 4, 128]⟩
abbrev S128 : Shape := ⟨1, ![128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x5120, .bf16⟩
  | .hbm, ⟨2, _⟩ => ⟨S1x128, .f32⟩
  | .hbm, ⟨3, _⟩ => ⟨S2048x4x128, .f32⟩
  | .hbm, ⟨4, _⟩ => ⟨S128, .f32⟩
  | .hbm, ⟨5, _⟩ => ⟨S2048x4x128, .f32⟩
  | .hbm, ⟨6, _⟩ => ⟨S_, .f32⟩
  | .hbm, ⟨7, _⟩ => ⟨S2048x4, .f32⟩
  | .hbm, ⟨8, _⟩ => ⟨S2048x4x1, .f32⟩
  | .hbm, ⟨9, _⟩ => ⟨S_, .f32⟩
  | .hbm, ⟨10, _⟩ => ⟨S2048x4x1, .f32⟩
  | .hbm, ⟨11, _⟩ => ⟨S2048x4x1, .f32⟩
  | .hbm, ⟨12, _⟩ => ⟨S_, .f32⟩
  | .hbm, ⟨13, _⟩ => ⟨S2048x4x1, .f32⟩
  | .hbm, ⟨14, _⟩ => ⟨S2048x4x1, .f32⟩
  | .hbm, ⟨15, _⟩ => ⟨S2048x4x1, .f32⟩
  | .hbm, ⟨16, _⟩ => ⟨S2048x4x128, .f32⟩
  | .hbm, ⟨17, _⟩ => ⟨S2048x4x128, .f32⟩
  | .hbm, ⟨18, _⟩ => ⟨S1x1x128, .f32⟩
  | .hbm, ⟨19, _⟩ => ⟨S2048x4x128, .f32⟩
  | .hbm, ⟨20, _⟩ => ⟨S2048x4x128, .f32⟩
  | .hbm, ⟨21, _⟩ => ⟨S2048x512, .f32⟩
  | .hbm, ⟨22, _⟩ => ⟨S2048x512, .bf16⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.FoxReal.lean ====
module

public import Idealize.ShloMosaic.PureOps.Ideal.Laws
public import Idealize.ShloMosaic.Lib.IdealHost

/-! # The forgetting attention's backward pass over the reals

Queries, keys, values and the output's cotangent are four heads of 2048 rows of 128; `c` is the running sum of
the log gates, `σ` the logits' scale and `M` any number taken off a row's logits before the exponential. The
kernel computes the gradient of the logits from the normaliser `lse` and the row sums of `o · d`; the rule for
the softmax computes it from the exponentials and their sum. `dsr_eq` says that they agree. -/

@[expose] public section

noncomputable section

namespace Cert.FoxReal

open Idealize.ShloMosaic

/-! ## Extended reals that are reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A maximum taken from −∞ over finitely many values below +∞, one of them above −∞, is a real. -/
theorem fold_max_real {ι : Type} (s : Finset ι) (f : ι → EReal) (htop : ∀ i ∈ s, f i ≠ ⊤) (hbot : ∃ i ∈ s, f i ≠ ⊥) :
    ∃ r : ℝ, s.fold max ⊥ f = (r : EReal) := by
  have h1 : s.fold max ⊥ f ≠ ⊤ := by
    refine ne_of_lt ?_
    rw [Finset.fold_max_lt]
    exact ⟨bot_lt_top, fun x hx => lt_top_iff_ne_top.mpr (htop x hx)⟩
  have h2 : s.fold max ⊥ f ≠ ⊥ := by
    refine ne_of_gt ?_
    rw [Finset.lt_fold_max]
    obtain ⟨i, hi, h⟩ := hbot
    exact Or.inr ⟨i, hi, bot_lt_iff_ne_bot.mpr h⟩
  exact ⟨(s.fold max ⊥ f).toReal, (EReal.coe_toReal h1 h2).symm⟩

/-! ## One pass over the reals -/

abbrev Rows := Fin 4 → Fin 2048 → Fin 128 → ℝ

variable (q k v d : Rows) (c : Fin 4 → Fin 2048 → ℝ) (σ : ℝ) (M : Fin 4 → Fin 2048 → ℝ)

def lg (h : Fin 4) (i j : Fin 2048) : ℝ := (∑ e, q h i e * k h j e) * σ + c h i - c h j
def ex (h : Fin 4) (i j : Fin 2048) : ℝ := if j.val ≤ i.val then Real.exp (lg q k c σ h i j - M h i) else 0
def su (h : Fin 4) (i : Fin 2048) : ℝ := ∑ j, ex q k c σ M h i j
def lse (h : Fin 4) (i : Fin 2048) : ℝ := M h i + Real.log (su q k c σ M h i)
def pr (h : Fin 4) (i j : Fin 2048) : ℝ := ex q k c σ M h i j / su q k c σ M h i
def out (h : Fin 4) (i : Fin 2048) (e : Fin 128) : ℝ := ∑ j, v h j e * pr q k c σ M h i j
def dp (h : Fin 4) (i j : Fin 2048) : ℝ := ∑ e, d h i e * v h j e
/-- The gradient of the logits as the kernel computes it. -/
def ds (h : Fin 4) (i j : Fin 2048) : ℝ :=
  pr q k c σ M h i j * (dp v d h i j - ∑ e, out q k v c σ M h i e * d h i e)
/-- The gradient of the logits as the rule for the softmax computes it. -/
def dsr (h : Fin 4) (i j : Fin 2048) : ℝ :=
  if j.val ≤ i.val then (dp v d h i j / su q k c σ M h i
    + -∑ j', dp v d h i j' * (1 / (su q k c σ M h i * su q k c σ M h i)) * ex q k c σ M h i j') * ex q k c σ M h i j else 0

theorem su_pos (h : Fin 4) (i : Fin 2048) : 0 < su q k c σ M h i := by
  refine Finset.sum_pos' (fun j _ => ?_) ⟨i, Finset.mem_univ _, ?_⟩
  · unfold ex; split
    · exact (Real.exp_pos _).le
    · exact le_refl _
  · unfold ex; rw [if_pos (le_refl _)]; exact Real.exp_pos _

/-- The exponential of a logit less the normaliser is the exponential over the row's sum. -/
theorem pr_eq (h : Fin 4) (i j : Fin 2048) :
    pr q k c σ M h i j = if j.val ≤ i.val then Real.exp (lg q k c σ h i j - lse q k c σ M h i) else 0 := by
  unfold pr
  by_cases hji : j.val ≤ i.val
  · rw [if_pos hji]
    unfold lse
    rw [show lg q k c σ h i j - (M h i + Real.log (su q k c σ M h i)) = (lg q k c σ h i j - M h i) - Real.log (su q k c σ M h i) by ring,
      Real.exp_sub, Real.exp_log (su_pos q k c σ M h i)]
    unfold ex
    rw [if_pos hji]
  · rw [if_neg hji]
    unfold ex
    rw [if_neg hji, zero_div]

/-- The row sum of output times cotangent is the row sum of probability times its gradient. -/
theorem delta_eq (h : Fin 4) (i : Fin 2048) :
    ∑ e, out q k v c σ M h i e * d h i e = ∑ j, dp v d h i j * pr q k c σ M h i j := by
  unfold out dp
  simp only [Finset.sum_mul]
  rw [Finset.sum_comm]
  exact Finset.sum_congr rfl fun j _ => Finset.sum_congr rfl fun e _ => by ring

theorem dsr_eq (h : Fin 4) (i j : Fin 2048) : dsr q k v d c σ M h i j = ds q k v d c σ M h i j := by
  have hl := (su_pos q k c σ M h i).ne'
  unfold dsr ds
  rw [delta_eq]
  unfold pr
  by_cases hji : j.val ≤ i.val
  · rw [if_pos hji]
    have e : ∑ j', dp v d h i j' * (1 / (su q k c σ M h i * su q k c σ M h i)) * ex q k c σ M h i j'
        = (∑ j', dp v d h i j' * (ex q k c σ M h i j' / su q k c σ M h i)) / su q k c σ M h i := by
      rw [Finset.sum_div]
      exact Finset.sum_congr rfl fun j' _ => by field_simp
    rw [e]
    field_simp
    ring
  · rw [if_neg hji]
    have : ex q k c σ M h i j = 0 := by unfold ex; rw [if_neg hji]
    rw [this, zero_div, zero_mul]

end Cert.FoxReal
end
-- ==== Proof.RefA.lean ====
module

public import proofs.«01_k».proof.Proof.FoxReal
public import proofs.«01_k».proof.Proof.Gen.ReferenceIdeal.Read
public import Idealize.ShloMosaic.Lib.Pointwise
public import Idealize.ShloMosaic.Lib.ValueIdx
public import Idealize.ShloMosaic.Lib.WordCmp

/-! # The reference's lines, read at an index, on arguments that are reals -/

@[expose] public section
set_option maxRecDepth 16384
noncomputable section
namespace Cert.ReferenceIdeal.Fox
open Idealize.ShloMosaic
open Cert.ReferenceIdeal Cert.ReferenceIdeal.Read
open Cert.FoxReal

/-- An array of reals as an array of extended reals. -/
def up {s : Shape} (a : s.Idx → ℝ) : s.Idx → EReal := fun i => ((a i : ℝ) : EReal)
theorem up_apply {s : Shape} (a : s.Idx → ℝ) (i : s.Idx) : up a i = ((a i : ℝ) : EReal) := rfl

/-- The columns of head `h` in the array of queries and keys, in that of the gated branch, and in one of 512 columns. -/
def qc (h : Fin 4) (e : Fin 128) : Fin 1024 := ⟨h.val * 128 + e.val, by omega⟩
def kc (h : Fin 4) (e : Fin 128) : Fin 1024 := ⟨512 + (h.val * 128 + e.val), by omega⟩
def vc (h : Fin 4) (e : Fin 128) : Fin 5120 := ⟨4608 + (h.val * 128 + e.val), by omega⟩
def oc (h : Fin 4) (e : Fin 128) : Fin 512 := ⟨h.val * 128 + e.val, by omega⟩

variable (a0 : S2048x1024.Idx → ℝ) (a1 : S2048x5120.Idx → ℝ) (a2 : S4x2048.Idx → ℝ) (a3 : S2048x512.Idx → ℝ)

def qR : Rows := fun h i e => a0 (ix2 i (qc h e))
def kR : Rows := fun h i e => a0 (ix2 i (kc h e))
def vR : Rows := fun h i e => a1 (ix2 i (vc h e))
def dR : Rows := fun h i e => a3 (ix2 i (oc h e))
def cR : Fin 4 → Fin 2048 → ℝ := fun h i => a2 (ix2 h i)

/-- The logits' scale, as a real. -/
def sg : ℝ := (Ideal.ofBits FTy.f32 1035273459#32).toReal
theorem sg_eq : Ideal.ofBits FTy.f32 1035273459#32 = ((sg : ℝ) : EReal) := by
  unfold sg
  rw [EReal.coe_toReal] <;> simp [Ideal.ofBits, Ideal.ieee] <;> norm_cast

theorem mask_iff (i j : Fin 2048) : (IntOp.cmpi CmpIPredicate.sge (BitVec.ofNat 32 i.val) (BitVec.ofNat 32 j.val) = 1#1) ↔ j.val ≤ i.val := by
  word_cmp

theorem mask_at (h : Fin 4) (i j : Fin 2048) (x y : EReal) :
    Scalar.select (val_main_v25_1 (F := Ideal) (ix3 h i j)) x y = if j.val ≤ i.val then x else y := by
  have e : val_main_v25_1 (F := Ideal) (ix3 h i j) = IntOp.cmpi CmpIPredicate.sge (BitVec.ofNat 32 i.val) (BitVec.ofNat 32 j.val) := by
    unfold val_main_v25_1 val_main_v24 val_main_v22 val_main_v19 val_main_v18 val_main_v23 val_main_v21 val_main_v20
    pointwise
  rw [e]
  show (if _ = 1#1 then x else y) = _
  simp only [mask_iff]

theorem v17_at (h : Fin 4) (i j : Fin 2048) :
    val_main_v17 (F := Ideal) (up a0) (up a2) (ix3 h i j) = ((lg (qR a0) (kR a0) (cR a2) sg h i j : ℝ) : EReal) := by
  have e : val_main_v17 (F := Ideal) (up a0) (up a2) (ix3 h i j)
      = (∑ e, up a0 (ix2 i (qc h e)) * up a0 (ix2 j (kc h e))) * Ideal.ofBits FTy.f32 1035273459#32 + up a2 (ix2 h i) - up a2 (ix2 h j) := by
    generalize up a0 = x0
    generalize up a2 = x2
    unfold val_main_v17 val_main_v14 val_main_v11 val_main_v9 val_main_v2 val_main_v1 val_main_v0 val_main_v5 val_main_v4 val_main_v3
      val_main_v10 val_main_cst val_main_v13 val_main_v12 val_main_v16 val_main_v15
    pointwise
    try rfl
  rw [e, sg_eq]
  simp only [up_apply, ← EReal.coe_mul, coe_sum, ← EReal.coe_add, ← EReal.coe_sub]
  rfl

theorem v25_at (h : Fin 4) (i j : Fin 2048) :
    val_main_v25_0 (F := Ideal) (up a0) (up a2) (ix3 h i j)
      = if j.val ≤ i.val then ((lg (qR a0) (kR a0) (cR a2) sg h i j : ℝ) : EReal) else ⊥ := by
  rw [val_main_v25_0_apply, mask_at, v17_at]
  have e : val_main_call0_v2 (F := Ideal) (ix3 h i j) = ⊥ := by
    unfold val_main_call0_v2 val_main_call0_v0 val_main_cst_0
    pointwise
    try rfl
  rw [e]

/-- Each row's largest logit is a real. -/
theorem v26_real : ∃ M : Fin 4 → Fin 2048 → ℝ, ∀ h i, val_main_v26 (F := Ideal) (up a0) (up a2) (ix2 h i) = ((M h i : ℝ) : EReal) := by
  have key : ∀ h i, ∃ r : ℝ, val_main_v26 (F := Ideal) (up a0) (up a2) (ix2 h i) = (r : EReal) := by
    intro h i
    unfold val_main_v26
    rw [Host.reduce_eq_fold]
    have e : (val_main_cst_1 (F := Ideal)) (Shape.Idx.first Gen.h_S_) = (⊥ : EReal) := by
      unfold val_main_cst_1
      pointwise
      rfl
    rw [e]
    refine fold_max_real _ _ (fun x _ => ?_) ⟨ix3 h i i, ?_, ?_⟩
    · rw [show x = ix3 (x 0) (x 1) (x 2) from ValueIdx.eq_ix3 x]
      refine (v25_at a0 a2 (x 0) (x 1) (x 2)).trans_ne ?_
      split <;> simp
    · rw [Finset.mem_filter]
      refine ⟨Finset.mem_univ _, ?_⟩
      refine funext fun b => Fin.ext ?_
      match b with
      | ⟨0, _⟩ => exact Shape.ReducesTo.drop_apply_val_of_eq Gen.reducesTo_S4x2048x2048_S4x2048_d2 (ix3 h i i) 0 0
      | ⟨1, _⟩ => exact Shape.ReducesTo.drop_apply_val_of_eq Gen.reducesTo_S4x2048x2048_S4x2048_d2 (ix3 h i i) 1 1
    · rw [v25_at, if_pos (le_refl _)]
      exact EReal.coe_ne_bot _
  choose M hM using key
  exact ⟨M, hM⟩

variable (M : Fin 4 → Fin 2048 → ℝ)
  (hM : ∀ h i, val_main_v26 (F := Ideal) (up a0) (up a2) (ix2 h i) = ((M h i : ℝ) : EReal))

theorem v33_at (h : Fin 4) (i : Fin 2048) :
    val_main_v33 (F := Ideal) (up a0) (up a2) (ix2 h i) = val_main_v26 (F := Ideal) (up a0) (up a2) (ix2 h i) := by
  rw [val_main_v33_apply]
  generalize val_main_v26 (F := Ideal) (up a0) (up a2) (ix2 h i) = y
  have e : val_main_v32 (F := Ideal) (ix2 h i) = (⊥ : EReal) := by
    unfold val_main_v32 val_main_cst_3
    pointwise
    rfl
  rw [e]
  exact max_eq_right (bot_le (a := y))

include hM in
theorem v46_at (h : Fin 4) (i j : Fin 2048) :
    val_main_v46 (F := Ideal) (up a0) (up a2) (ix3 h i j) = ((ex (qR a0) (kR a0) (cR a2) sg M h i j : ℝ) : EReal) := by
  have e : val_main_v46 (F := Ideal) (up a0) (up a2) (ix3 h i j)
      = Ideal.exp (val_main_v25_0 (F := Ideal) (up a0) (up a2) (ix3 h i j) - val_main_v33 (F := Ideal) (up a0) (up a2) (ix2 h i)) := by
    unfold val_main_v46 val_main_v45 val_main_v44 val_main_v43
    generalize val_main_v25_0 (F := Ideal) (up a0) (up a2) = y
    generalize val_main_v33 (F := Ideal) (up a0) (up a2) = z
    pointwise
  rw [e, v33_at, hM, v25_at]
  unfold ex
  by_cases hji : j.val ≤ i.val
  · rw [if_pos hji, if_pos hji, ← EReal.coe_sub, Ideal.exp_coe]
  · rw [if_neg hji, if_neg hji, EReal.bot_sub]
    rfl

include hM in
theorem v47_at (h : Fin 4) (i : Fin 2048) :
    val_main_v47 (F := Ideal) (up a0) (up a2) (ix2 h i) = ((su (qR a0) (kR a0) (cR a2) sg M h i : ℝ) : EReal) := by
  have e : val_main_v47 (F := Ideal) (up a0) (up a2) (ix2 h i) = ∑ j, val_main_v46 (F := Ideal) (up a0) (up a2) (ix3 h i j) := by
    unfold val_main_v47 val_main_cst_9
    generalize val_main_v46 (F := Ideal) (up a0) (up a2) = y
    pointwise
  rw [e]
  simp only [v46_at a0 a2 M hM, coe_sum]
  rfl

include hM in
theorem v50_at (h : Fin 4) (i j : Fin 2048) :
    val_main_v50 (F := Ideal) (up a0) (up a2) (ix3 h i j) = ((pr (qR a0) (kR a0) (cR a2) sg M h i j : ℝ) : EReal) := by
  have e : val_main_v50 (F := Ideal) (up a0) (up a2) (ix3 h i j)
      = Ideal.div (val_main_v46 (F := Ideal) (up a0) (up a2) (ix3 h i j)) (val_main_v47 (F := Ideal) (up a0) (up a2) (ix2 h i)) := by
    unfold val_main_v50 val_main_v49 val_main_v48
    generalize val_main_v46 (F := Ideal) (up a0) (up a2) = y
    generalize val_main_v47 (F := Ideal) (up a0) (up a2) = z
    pointwise
  rw [e, v46_at a0 a2 M hM, v47_at a0 a2 M hM, Ideal.div_coe (su_pos _ _ _ _ _ _ _).ne', ← EReal.coe_mul, mul_one_div]
  rfl

/-- The gradient of the probabilities. -/
theorem v58_at (h : Fin 4) (i j : Fin 2048) :
    val_main_v58 (F := Ideal) (up a1) (up a3) (ix3 h i j) = ((dp (vR a1) (dR a3) h i j : ℝ) : EReal) := by
  have e : val_main_v58 (F := Ideal) (up a1) (up a3) (ix3 h i j) = ∑ e, up a3 (ix2 i (oc h e)) * up a1 (ix2 j (vc h e)) := by
    generalize up a1 = x1
    generalize up a3 = x3
    unfold val_main_v58 val_main_v57 val_main_v56 val_main_v8 val_main_v7 val_main_v6
    pointwise
    rfl
  rw [e]
  simp only [up_apply, ← EReal.coe_mul, coe_sum]
  rfl

include hM in
theorem v64_at (h : Fin 4) (i : Fin 2048) :
    val_main_v64 (F := Ideal) (up a0) (up a1) (up a2) (up a3) (ix2 h i)
      = ((∑ j, dp (vR a1) (dR a3) h i j * (1 / (su (qR a0) (kR a0) (cR a2) sg M h i * su (qR a0) (kR a0) (cR a2) sg M h i))
          * ex (qR a0) (kR a0) (cR a2) sg M h i j : ℝ) : EReal) := by
  have e : val_main_v64 (F := Ideal) (up a0) (up a1) (up a2) (up a3) (ix2 h i)
      = ∑ j, val_main_v58 (F := Ideal) (up a1) (up a3) (ix3 h i j)
          * Ideal.div (Ideal.ofBits FTy.f32 0x3F800000#32) (val_main_v47 (F := Ideal) (up a0) (up a2) (ix2 h i) * val_main_v47 (F := Ideal) (up a0) (up a2) (ix2 h i))
          * val_main_v46 (F := Ideal) (up a0) (up a2) (ix3 h i j) := by
    unfold val_main_v64 val_main_cst_11 val_main_v63 val_main_v62 val_main_v61 val_main_v53 val_main_v52 val_main_cst_10 val_main_v51 val_main_v48
    generalize val_main_v46 (F := Ideal) (up a0) (up a2) = y
    generalize val_main_v47 (F := Ideal) (up a0) (up a2) = z
    generalize val_main_v58 (F := Ideal) (up a1) (up a3) = w
    pointwise
  have hl := (su_pos (qR a0) (kR a0) (cR a2) sg M h i).ne'
  rw [e, v47_at a0 a2 M hM, Ideal.ofBits_one_f32, ← EReal.coe_mul, Ideal.div_coe (mul_ne_zero hl hl), one_mul]
  simp only [v58_at, v46_at a0 a2 M hM, ← EReal.coe_mul, coe_sum]

include hM in
theorem v73_at (h : Fin 4) (i j : Fin 2048) :
    val_main_v73 (F := Ideal) (up a0) (up a1) (up a2) (up a3) (ix3 h i j)
      = ((ds (qR a0) (kR a0) (vR a1) (dR a3) (cR a2) sg M h i j : ℝ) : EReal) := by
  have e : val_main_v72 (F := Ideal) (up a0) (up a1) (up a2) (up a3) (ix3 h i j)
      = (Ideal.div (val_main_v58 (F := Ideal) (up a1) (up a3) (ix3 h i j)) (val_main_v47 (F := Ideal) (up a0) (up a2) (ix2 h i))
          + -val_main_v64 (F := Ideal) (up a0) (up a1) (up a2) (up a3) (ix2 h i))
          * val_main_v46 (F := Ideal) (up a0) (up a2) (ix3 h i j) := by
    unfold val_main_v72 val_main_v71 val_main_v70 val_main_v69 val_main_cst_12 val_main_v66 val_main_v65 val_main_v68 val_main_v67 val_main_v48
    generalize val_main_v46 (F := Ideal) (up a0) (up a2) = y
    generalize val_main_v47 (F := Ideal) (up a0) (up a2) = z
    generalize val_main_v58 (F := Ideal) (up a1) (up a3) = w
    generalize val_main_v64 (F := Ideal) (up a0) (up a1) (up a2) (up a3) = u
    pointwise
    rw [Fin.sum_univ_one]
  have e0 : val_main_call1_v0 (F := Ideal) (ix3 h i j) = 0 := by
    unfold val_main_call1_v0 val_main_call1_cst
    pointwise
  rw [val_main_v73_apply, mask_at, e, e0, v58_at, v47_at a0 a2 M hM, v64_at a0 a1 a2 a3 M hM, v46_at a0 a2 M hM,
    Ideal.div_coe (su_pos _ _ _ _ _ _ _).ne', ← EReal.coe_mul, ← EReal.coe_neg, ← EReal.coe_add, ← EReal.coe_mul, mul_one_div,
    ← dsr_eq]
  unfold dsr
  split <;> rfl

end Cert.ReferenceIdeal.Fox
end
-- ==== Proof.Reals.lean ====
module

public import proofs.«01_k».proof.Defs
public import proofs.«01_k».proof.Proof.RefA
public import Idealize.ShloMosaic.PureOps.Reduce

/-! # Arrays whose entries are all real

The precondition compares every entry's absolute value with infinity and takes the conjunction: where it holds, an
array is one of reals. -/

@[expose] public section

noncomputable section

namespace Cert.Reals

open Idealize.ShloMosaic
open Cert.ReferenceIdeal.Fox (up)

theorem bit_and : ∀ a b : BitVec 1, IntOp.andi a b = 1#1 → a = 1#1 ∧ b = 1#1 := by decide

/-- A conjunction over a set is true only if every member is. -/
theorem fold_and {ι : Type} [DecidableEq ι] (S : Finset ι) (b : BitVec 1) (f : ι → BitVec 1) (h : S.fold IntOp.andi b f = 1#1) :
    ∀ i ∈ S, f i = 1#1 := by
  induction S using Finset.cons_induction with
  | empty => intro i hi; simp at hi
  | cons a S ha ih =>
    rw [Finset.fold_cons] at h
    obtain ⟨h1, h2⟩ := bit_and _ _ h
    intro i hi
    rcases Finset.mem_cons.mp hi with rfl | hi
    · exact h1
    · exact ih h2 i hi

/-- An absolute value below infinity is that of a real. -/
theorem real_of_lt (x : EReal) (h : max x (-x) < ⊤) : ((x.toReal : ℝ) : EReal) = x := by
  refine EReal.coe_toReal ?_ ?_
  · rintro rfl
    simp at h
  · rintro rfl
    simp at h

theorem real_of_bit (x y : EReal) (hy : y = ⊤) (h : Ideal.cmp .olt (max x (-x)) y = 1#1) : ((x.toReal : ℝ) : EReal) = x := by
  subst hy
  refine real_of_lt x ?_
  by_contra hn
  unfold Ideal.cmp at h
  simp only [decide_eq_false hn] at h
  exact absurd h (by decide)

theorem top_word : Ideal.ofBits FTy.f32 0x7F800000#32 = (⊤ : EReal) := by
  simp [Ideal.ofBits, Ideal.ieee]

/-- Where the conjunction over an array of the comparisons holds, the array is one of reals. -/
theorem up_of_all {s : Shape} (x : s.Idx → EReal) (b : s.Idx → BitVec 1)
    (hb : ∀ i, b i = Ideal.cmp .olt (max (x i) (-(x i))) (Ideal.ofBits FTy.f32 0x7F800000#32))
    {u t : Shape} {axes : List (Fin s.rank)} (h : s.ReducesTo axes t) (hu : 0 < u.numel) (init : u.Idx → BitVec 1) (j : t.Idx)
    (hj : ∀ i, h.drop i = j) (hall : Host.reduce IntOp.andi b init h hu j = 1#1) :
    x = up (fun i => (x i).toReal) := by
  rw [Host.reduce_eq_fold] at hall
  funext i
  have hi := fold_and _ _ _ hall i (Finset.mem_filter.mpr ⟨Finset.mem_univ _, hj i⟩)
  rw [hb i] at hi
  exact (real_of_bit _ _ top_word hi).symm

theorem all_eq (i j : (Pre_finite.S_).Idx) : i = j := funext fun a => absurd a.isLt (Nat.not_lt_zero _)

/-- Two bits' conjunction, entry by entry. -/
theorem split (a b : IVec Pre_finite.S_ 1) (j : (Pre_finite.S_).Idx) (h : andi a b j = 1#1) : a j = 1#1 ∧ b j = 1#1 :=
  bit_and _ _ h

/-- The precondition makes the four arguments arrays of reals. -/
theorem reals [Pre_finite.Facts] (x0 : Pre_finite.S2048x1024.Idx → EReal) (x1 : Pre_finite.S2048x5120.Idx → EReal)
    (x2 : Pre_finite.S4x2048.Idx → EReal) (x3 : Pre_finite.S2048x512.Idx → EReal)
    (h : Pre_finite.fn (F := Ideal) x0 x1 x2 x3 = fun _ => 1#1) :
    (x0 = up (fun i => (x0 i).toReal) ∧ x1 = up (fun i => (x1 i).toReal))
      ∧ (x2 = up (fun i => (x2 i).toReal) ∧ x3 = up (fun i => (x3 i).toReal)) := by
  have hj := congrFun h (fun a => absurd a.isLt (Nat.not_lt_zero _))
  unfold Pre_finite.fn Pre_finite.fn_part1 at hj
  obtain ⟨hj, h3⟩ := split _ _ _ hj
  obtain ⟨hj, h2⟩ := split _ _ _ hj
  obtain ⟨h0, h1⟩ := split _ _ _ hj
  exact ⟨⟨up_of_all x0 _ (fun _ => rfl) _ _ _ _ (fun _ => all_eq _ _) h0, up_of_all x1 _ (fun _ => rfl) _ _ _ _ (fun _ => all_eq _ _) h1⟩,
    up_of_all x2 _ (fun _ => rfl) _ _ _ _ (fun _ => all_eq _ _) h2, up_of_all x3 _ (fun _ => rfl) _ _ _ _ (fun _ => all_eq _ _) h3⟩

end Cert.Reals

end
-- ==== Proof.Blocks.lean ====
module

public import proofs.«01_k».proof.Proof.Gen.KernelIdeal.Skeleton
public import Idealize.ShloMosaic.Lib.Pointwise
public import Idealize.ShloMosaic.Lib.ValueIdx
public import Idealize.ShloMosaic.Lib.VecWindow
public import Idealize.ShloMosaic.Lib.WordCmp

/-! # The forgetting attention's backward kernel: one grid point, in closed form

At a grid point the kernel holds a block of 512 queries of one head and all 2048 keys of that head, and
works on the first `512 (i + 1)` of them. The closed forms below sum over ALL the keys: a key past the
block's last query has weight `exp ⊥ = 0`, so the two readings agree (`sum_low`). -/

@[expose] public section

set_option maxRecDepth 16384

noncomputable section

namespace Cert.KernelIdeal.Fox

open Idealize.ShloMosaic Idealize.ShloMosaic.Tactic Cert.KernelIdeal.Gen

/-! ## The closed forms -/

/-- The score's factor, as the program writes it. -/
abbrev scl : EReal := Ideal.ofBits FTy.f32 1035273459#32

section forms

variable (i : ℕ) (q : Vec Ideal S512x128 .bf16) (k v : Vec Ideal S2048x128 .bf16) (u : Vec Ideal S1x512x1 .f32)
  (w : Vec Ideal S1x1x2048 .f32) (l : Vec Ideal S1x512x1 .f32) (o d : Vec Ideal S512x128 .f32)

/-- The attention weight of key `j` for query `r` of block `i`. -/
def pB (r : Fin 512) (j : Fin 2048) : EReal :=
  Ideal.exp ((if j.val ≤ 512 * i + r.val then
      (∑ e : Fin 128, q (ix2 r e) * k (ix2 j e)) * scl + u (ix3 (0 : Fin 1) r (0 : Fin 1)) - w (ix3 (0 : Fin 1) (0 : Fin 1) j)
    else ⊥) - l (ix3 (0 : Fin 1) r (0 : Fin 1)))

/-- The row sum of output times cotangent. -/
def dltB (r : Fin 512) : EReal := ∑ e : Fin 128, o (ix2 r e) * d (ix2 r e)

/-- The gradient of the score of query `r` and key `j`. -/
def dsB (r : Fin 512) (j : Fin 2048) : EReal :=
  pB i q k u w l r j * ((∑ e : Fin 128, d (ix2 r e) * v (ix2 j e)) - dltB o d r)

/-- The block of the queries' gradient. -/
def dqB : Vec Ideal S512x128 .f32 := fun x =>
  (∑ j : Fin 2048, dsB i q k v u w l o d (x 0) j * k (ix2 j (x 1))) * scl

/-- The block of the row gates' gradient. -/
def drB : Vec Ideal S1x512x1 .f32 := fun x => ∑ j : Fin 2048, dsB i q k v u w l o d (x 1) j

/-- What the point adds to the keys' gradient. -/
def dkB : Vec Ideal S2048x128 .f32 := fun x =>
  (∑ r : Fin 512, dsB i q k v u w l o d r (x 0) * q (ix2 r (x 1))) * scl

/-- What the point adds to the values' gradient. -/
def dvB : Vec Ideal S2048x128 .f32 := fun x => ∑ r : Fin 512, pB i q k u w l r (x 0) * d (ix2 r (x 1))

/-- What the point adds to the column gates' gradient. -/
def dcB : Vec Ideal S1x1x2048 .f32 := fun x => ∑ r : Fin 512, dsB i q k v u w l o d r (x 2)

theorem dqB_at (r : Fin 512) (e : Fin 128) :
    dqB i q k v u w l o d (ix2 r e) = (∑ j : Fin 2048, dsB i q k v u w l o d r j * k (ix2 j e)) * scl := rfl

theorem drB_at (z : Fin 1) (r : Fin 512) (z' : Fin 1) :
    drB i q k v u w l o d (ix3 z r z') = ∑ j : Fin 2048, dsB i q k v u w l o d r j := rfl

theorem dkB_at (j : Fin 2048) (e : Fin 128) :
    dkB i q k v u w l o d (ix2 j e) = (∑ r : Fin 512, dsB i q k v u w l o d r j * q (ix2 r e)) * scl := rfl

theorem dvB_at (j : Fin 2048) (e : Fin 128) :
    dvB i q k u w l d (ix2 j e) = ∑ r : Fin 512, pB i q k u w l r j * d (ix2 r e) := rfl

theorem dcB_at (z z' : Fin 1) (j : Fin 2048) :
    dcB i q k v u w l o d (ix3 z z' j) = ∑ r : Fin 512, dsB i q k v u w l o d r j := rfl

/-! ## Keys past the block -/

theorem pB_high (r : Fin 512) (j : Fin 2048) (h : 512 * (i + 1) ≤ j.val) : pB i q k u w l r j = 0 := by
  have hr := r.isLt
  unfold pB
  rw [if_neg (by omega), sub_eq_add_neg, EReal.bot_add]
  rfl

theorem dsB_high (r : Fin 512) (j : Fin 2048) (h : 512 * (i + 1) ≤ j.val) : dsB i q k v u w l o d r j = 0 := by
  unfold dsB; rw [pB_high i q k u w l r j h, zero_mul]

theorem dkB_high (x : S2048x128.Idx) (h : 512 * (i + 1) ≤ (x 0).val) : dkB i q k v u w l o d x = 0 := by
  unfold dkB
  rw [Finset.sum_eq_zero fun r _ => by rw [dsB_high i q k v u w l o d r (x 0) h, zero_mul], zero_mul]

theorem dvB_high (x : S2048x128.Idx) (h : 512 * (i + 1) ≤ (x 0).val) : dvB i q k u w l d x = 0 := by
  unfold dvB
  exact Finset.sum_eq_zero fun r _ => by rw [pB_high i q k u w l r (x 0) h, zero_mul]

theorem dcB_high (x : S1x1x2048.Idx) (h : 512 * (i + 1) ≤ (x 2).val) : dcB i q k v u w l o d x = 0 := by
  unfold dcB
  exact Finset.sum_eq_zero fun r _ => dsB_high i q k v u w l o d r (x 2) h

end forms

/-- A sum over the first `n` keys is the sum over all of them, where the later terms vanish. -/
theorem sum_low {n : ℕ} (hn : n ≤ 2048) (f : Fin 2048 → EReal) (h0 : ∀ j : Fin 2048, n ≤ j.val → f j = 0) :
    ∑ x : Fin n, f (Fin.castLE hn x) = ∑ j : Fin 2048, f j := by
  rw [show (∑ x : Fin n, f (Fin.castLE hn x)) = ∑ x : Fin n, f (Fin.castLEEmb hn x) from rfl,
    ← Finset.sum_map Finset.univ (Fin.castLEEmb hn) f]
  refine Finset.sum_subset (Finset.subset_univ _) fun j _ hj => h0 j ?_
  by_contra hlt
  exact hj (Finset.mem_map.mpr ⟨⟨j.val, by omega⟩, Finset.mem_univ _, Fin.ext rfl⟩)

/-- The mask's comparison of positions, on words, is the comparison of the numbers. -/
theorem mask_select (c r j : ℕ) (z : BitVec 32) (hz : Scalar.muli z 512#32 = BitVec.ofNat 32 c) (hc : c < 2048) (hr : r < 512) (hj : j < 2048) (a b : EReal) :
    Scalar.select (IntOp.cmpi CmpIPredicate.sle (BitVec.ofNat 32 j)
      (IntOp.addi (BitVec.ofNat 32 r) (Scalar.muli z 512#32))) a b = if j ≤ c + r then a else b := by
  have h1 : IntOp.addi (BitVec.ofNat 32 r) (BitVec.ofNat 32 c) = BitVec.ofNat 32 (c + r) := by
    apply BitVec.eq_of_toNat_eq
    show (BitVec.ofNat 32 r + BitVec.ofNat 32 c).toNat = _
    simp only [BitVec.toNat_add, BitVec.toNat_ofNat]
    omega
  have h2 : IntOp.cmpi CmpIPredicate.sle (BitVec.ofNat 32 j) (BitVec.ofNat 32 (c + r)) = 1#1 ↔ j ≤ c + r := by word_cmp
  rw [hz, h1]
  unfold Scalar.select
  by_cases h : j ≤ c + r
  · rw [if_pos h]; exact if_pos (h2.mpr h)
  · rw [if_neg h]; exact if_neg fun h' => h (h2.mp h')

/-- Loading a whole block of 512 rows. -/
theorem blk_load {e : EltTy} (g : Memref sig .tc .vmem S512x128 e) (hg : g.IsWhole) (x : Vec Ideal S512x128 e) :
    View.readAt (Elt Ideal) g.view (Rect.unit (s := S512x128) ![0, 0] ![512, 128] inb_S512x128_S512x128_0_0).toLoadRect (hg.unread x) = x :=
  (View.readAt_full g.view (hg.unread x) inb_S512x128_S512x128_0_0).trans (hg.read_unread x)

/-- Loading a whole block of row gates or row logarithms. -/
theorem gate_load (g : Memref sig .tc .vmem S1x512x1 .f32) (hg : g.IsWhole) (x : Vec Ideal S1x512x1 .f32) :
    View.readAt (Elt Ideal) g.view (Rect.unit (s := S1x512x1) ![0, 0, 0] ![1, 512, 1] inb_S1x512x1_S1x512x1_0_0_0).toLoadRect (hg.unread x) = x :=
  (View.readAt_full g.view (hg.unread x) inb_S1x512x1_S1x512x1_0_0_0).trans (hg.read_unread x)

/-- An update of a window is the array `g` where the payload is `g` on the window and the old contents are `g` off it. -/
theorem put_eq {s : Shape} {α : Type} (x g : s.Idx → α) (off size : Fin s.rank → ℕ) (inb : ∀ a, off a + size a ≤ s.size a)
    (w : ((a : Fin s.rank) → Fin (size a)) → α) (h : ∀ y, w y = g ((Rect.unit off size inb).emb y))
    (h0 : ∀ y : s.Idx, (¬ ∀ a, off a ≤ (y a).val ∧ (y a).val < off a + size a) → x y = g y) :
    VecWindow.put x off size w = g := by
  funext y
  unfold VecWindow.put
  split
  · rename_i hy
    rw [h]
    refine congrArg g (funext fun a => Fin.ext ?_)
    have := hy a
    show off a + 1 * ((y a).val - off a) = (y a).val
    omega
  · rename_i hy
    exact h0 y hy

/-- A place no block of the first `n` rows, or of the first `n` entries, holds lies beyond them. -/
theorem beyond {n : ℕ} {x : S2048x128.Idx} (hx : ¬ ∀ a, (![0, 0] : Fin 2 → ℕ) a ≤ (x a).val ∧ (x a).val < (![0, 0] : Fin 2 → ℕ) a + (![n, 128] : Fin 2 → ℕ) a) : n ≤ (x 0).val := by
  by_contra hlt
  refine hx fun a => ?_
  match a with
  | 0 => exact ⟨Nat.zero_le _, by show (x 0).val < 0 + n; omega⟩
  | 1 => exact ⟨Nat.zero_le _, by have : (x 1).val < 128 := (x 1).isLt; show (x 1).val < 0 + 128; omega⟩
theorem beyond_c {n : ℕ} {x : S1x1x2048.Idx} (hx : ¬ ∀ a, (![0, 0, 0] : Fin 3 → ℕ) a ≤ (x a).val ∧ (x a).val < (![0, 0, 0] : Fin 3 → ℕ) a + (![1, 1, n] : Fin 3 → ℕ) a) : n ≤ (x 2).val := by
  by_contra hlt
  refine hx fun a => ?_
  match a with
  | 0 => exact ⟨Nat.zero_le _, by have : (x 0).val < 1 := (x 0).isLt; show (x 0).val < 0 + 1; omega⟩
  | 1 => exact ⟨Nat.zero_le _, by have : (x 1).val < 1 := (x 1).isLt; show (x 1).val < 0 + 1; omega⟩
  | 2 => exact ⟨Nat.zero_le _, by show (x 2).val < 0 + n; omega⟩

/-! ## The first 512 keys -/

section n512

variable (q : Vec Ideal S512x128 .bf16) (k v : Vec Ideal S2048x128 .bf16) (u : Vec Ideal S1x512x1 .f32)
  (w : Vec Ideal S1x1x2048 .f32) (l : Vec Ideal S1x512x1 .f32) (o d : Vec Ideal S512x128 .f32)

/-- The first 512 rows of a block of keys or values. -/
def rows512 {e : EltTy} (x : Vec Ideal S2048x128 e) : Vec Ideal S512x128 e :=
  VecWindow.window x ![0, 0] S512x128.size inb_S2048x128_S512x128_0_0

/-- The first 512 entries of the column gates. -/
def cols512 (x : Vec Ideal S1x1x2048 .f32) : Vec Ideal S1x1x512 .f32 :=
  VecWindow.window x ![0, 0, 0] S1x1x512.size inb_S1x1x2048_S1x1x512_0_0_0

/-- The kernel's weights, as it forms them. -/
def pK512 : FVec Ideal S512x512 .f32 := k0_pay8 (BitVec.ofNat 32 0) q (rows512 k) u (cols512 w) l

theorem rows512_at {e : EltTy} (x : Vec Ideal S2048x128 e) (j : Fin 512) (e' : Fin 128) :
    rows512 x (ix2 j e') = x (ix2 (Fin.castLE (by decide) j : Fin 2048) e') :=
  congrArg x (funext fun a => Fin.ext (by
    match a with
    | 0 => show 0 + 1 * j.val = j.val; omega
    | 1 => show 0 + 1 * e'.val = e'.val; omega))

theorem cols512_at (x : Vec Ideal S1x1x2048 .f32) (j : Fin 512) :
    cols512 x (ix3 (0 : Fin 1) (0 : Fin 1) j) = x (ix3 (0 : Fin 1) (0 : Fin 1) (Fin.castLE (by decide) j : Fin 2048)) :=
  congrArg x (funext fun a => Fin.ext (by
    match a with
    | 0 => rfl
    | 1 => rfl
    | 2 => show 0 + 1 * j.val = j.val; omega))

/-- Loading the first 512 rows of a whole buffer that holds `x`. -/
theorem rows512_load {e : EltTy} (g : Memref sig .tc .vmem S2048x128 e) (hg : g.IsWhole) (x : Vec Ideal S2048x128 e) :
    View.readAt (Elt Ideal) g.view (Rect.unit (s := S2048x128) ![0, 0] ![512, 128] inb_S2048x128_S512x128_0_0).toLoadRect (hg.unread x) = rows512 x :=
  (View.readAt_unit g.view (hg.unread x) inb_S2048x128_S512x128_0_0 rfl inb_S2048x128_S512x128_0_0).trans (by rw [hg.read_unread]; rfl)

/-- Loading the first 512 column gates. -/
theorem cols512_load (g : Memref sig .tc .vmem S1x1x2048 .f32) (hg : g.IsWhole) (x : Vec Ideal S1x1x2048 .f32) :
    View.readAt (Elt Ideal) g.view (Rect.unit (s := S1x1x2048) ![0, 0, 0] ![1, 1, 512] inb_S1x1x2048_S1x1x512_0_0_0).toLoadRect (hg.unread x) = cols512 x :=
  (View.readAt_unit g.view (hg.unread x) inb_S1x1x2048_S1x1x512_0_0_0 rfl inb_S1x1x2048_S1x1x512_0_0_0).trans (by rw [hg.read_unread]; rfl)

theorem emb512 (j : Fin 512) (e : Fin 128) : (Rect.unit (s := S2048x128) ![0, 0] S512x128.size inb_S2048x128_S512x128_0_0).emb (ix2 j e)
    = ix2 (Fin.castLE (by decide) j : Fin 2048) e := funext fun a => Fin.ext (by
  match a with
  | 0 => show 0 + 1 * j.val = j.val; omega
  | 1 => show 0 + 1 * e.val = e.val; omega)

theorem embc512 (z z' : Fin 1) (j : Fin 512) : (Rect.unit (s := S1x1x2048) ![0, 0, 0] S1x1x512.size inb_S1x1x2048_S1x1x512_0_0_0).emb (ix3 z z' j)
    = ix3 (0 : Fin 1) (0 : Fin 1) (Fin.castLE (by decide) j : Fin 2048) := funext fun a => Fin.ext (by
  match a with
  | 0 => show 0 + 1 * z.val = 0; omega
  | 1 => show 0 + 1 * z'.val = 0; omega
  | 2 => show 0 + 1 * j.val = j.val; omega)

theorem pK512_at (r : Fin 512) (j : Fin 512) :
    pK512 q k u w l (ix2 r j) = pB 0 q k u w l r (Fin.castLE (by decide) j) := by
  have hj : j.val < 2048 := lt_of_lt_of_le j.isLt (by decide)
  unfold pK512 k0_pay8 pB
  pointwise
  simp only [rows512_at, cols512_at]
  rw [mask_select 0 r.val j.val _ (by decide) (by decide) r.isLt hj]
  rw [Nat.zero_add]
  rfl

theorem dl512_at (r : Fin 512) : k0_pay9 d o (ix2 r (0 : Fin 1)) = dltB o d r := by
  unfold k0_pay9 dltB
  pointwise

theorem ds512_at (r : Fin 512) (j : Fin 512) :
    k0_pay10 d (pK512 q k u w l) (k0_pay9 d o) (rows512 v) (ix2 r j) = dsB 0 q k v u w l o d r (Fin.castLE (by decide) j) := by
  unfold k0_pay10 dsB
  pointwise
  simp only [rows512_at, pK512_at, dl512_at]

theorem dq512_eq : k0_pay11 d (pK512 q k u w l) (k0_pay9 d o) (rows512 v) (rows512 k) = dqB 0 q k v u w l o d := by
  funext x
  obtain ⟨r, e, rfl⟩ : ∃ (r : Fin 512) (e : Fin 128), x = ix2 r e := ⟨x 0, x 1, ValueIdx.eq_ix2 x⟩
  rw [dqB_at]
  unfold k0_pay11
  pointwise
  simp only [ds512_at, rows512_at]
  refine congrArg (· * scl) ?_
  exact sum_low (n := 512) (by decide) (fun j => dsB 0 q k v u w l o d r j * k (ix2 j e)) fun j hj => by
    rw [dsB_high _ _ _ _ _ _ _ _ _ _ _ hj, zero_mul]

theorem dr512_eq : k0_pay12 d (pK512 q k u w l) (k0_pay9 d o) (rows512 v) = drB 0 q k v u w l o d := by
  funext x
  obtain ⟨z, r, z', rfl⟩ : ∃ (z : Fin 1) (r : Fin 512) (z' : Fin 1), x = ix3 z r z' := ⟨x 0, x 1, x 2, ValueIdx.eq_ix3 x⟩
  rw [drB_at]
  unfold k0_pay12
  pointwise
  simp only [ds512_at]
  exact sum_low (n := 512) (by decide) (fun j => dsB 0 q k v u w l o d r j) fun j hj => dsB_high _ _ _ _ _ _ _ _ _ _ _ hj

theorem dk512_eq (y : Vec Ideal S2048x128 .f32) :
    VecWindow.put y ![0, 0] S512x128.size (k0_pay13 q d (pK512 q k u w l) (k0_pay9 d o) (rows512 v) (rows512 y))
      = fun x => y x + dkB 0 q k v u w l o d x := by
  refine put_eq _ _ _ _ inb_S2048x128_S512x128_0_0 _ (fun x : S512x128.Idx => ?_) fun x hx => ?_
  · obtain ⟨j, e, rfl⟩ : ∃ (j : Fin 512) (e : Fin 128), x = ix2 j e := ⟨x 0, x 1, ValueIdx.eq_ix2 x⟩
    rw [emb512]
    rw [dkB_at]
    unfold k0_pay13
    pointwise
    simp only [rows512_at]
    simp only [ds512_at]
  · rw [dkB_high _ _ _ _ _ _ _ _ _ _ ?_, add_zero]
    exact beyond hx

theorem dv512_eq (y : Vec Ideal S2048x128 .f32) :
    VecWindow.put y ![0, 0] S512x128.size (k0_pay14 d (pK512 q k u w l) (rows512 y)) = fun x => y x + dvB 0 q k u w l d x := by
  refine put_eq _ _ _ _ inb_S2048x128_S512x128_0_0 _ (fun x : S512x128.Idx => ?_) fun x hx => ?_
  · obtain ⟨j, e, rfl⟩ : ∃ (j : Fin 512) (e : Fin 128), x = ix2 j e := ⟨x 0, x 1, ValueIdx.eq_ix2 x⟩
    rw [emb512]
    rw [dvB_at]
    refine Eq.trans (b := rows512 y (ix2 j e) + ∑ r : Fin 512, pK512 q k u w l (ix2 r j) * d (ix2 r e)) ?_ ?_
    · generalize pK512 q k u w l = p
      generalize rows512 y = z
      unfold k0_pay14
      pointwise
    exact congrArg₂ (· + ·) (rows512_at y j e) (Finset.sum_congr rfl fun r _ => congrArg (· * d (ix2 r e)) (pK512_at q k u w l r j))
  · rw [dvB_high _ _ _ _ _ _ _ _ ?_, add_zero]
    exact beyond hx

theorem dc512_eq (y : Vec Ideal S1x1x2048 .f32) :
    VecWindow.put y ![0, 0, 0] S1x1x512.size (k0_pay4 (k0_pay10 d (pK512 q k u w l) (k0_pay9 d o) (rows512 v)) (cols512 y)) = fun x => y x + dcB 0 q k v u w l o d x := by
  refine put_eq _ _ _ _ inb_S1x1x2048_S1x1x512_0_0_0 _ (fun x : S1x1x512.Idx => ?_) fun x hx => ?_
  · obtain ⟨z, z', j, rfl⟩ : ∃ (z z' : Fin 1) (j : Fin 512), x = ix3 z z' j := ⟨x 0, x 1, x 2, ValueIdx.eq_ix3 x⟩
    rw [embc512]
    rw [dcB_at]
    unfold k0_pay4
    pointwise
    simp only [ds512_at, cols512_at]
  · rw [dcB_high _ _ _ _ _ _ _ _ _ _ ?_, add_zero]
    exact beyond_c hx

end n512

/-! ## The first 1024 keys -/

section n1024

variable (q : Vec Ideal S512x128 .bf16) (k v : Vec Ideal S2048x128 .bf16) (u : Vec Ideal S1x512x1 .f32)
  (w : Vec Ideal S1x1x2048 .f32) (l : Vec Ideal S1x512x1 .f32) (o d : Vec Ideal S512x128 .f32)

/-- The first 1024 rows of a block of keys or values. -/
def rows1024 {e : EltTy} (x : Vec Ideal S2048x128 e) : Vec Ideal S1024x128 e :=
  VecWindow.window x ![0, 0] S1024x128.size inb_S2048x128_S1024x128_0_0

/-- The first 1024 entries of the column gates. -/
def cols1024 (x : Vec Ideal S1x1x2048 .f32) : Vec Ideal S1x1x1024 .f32 :=
  VecWindow.window x ![0, 0, 0] S1x1x1024.size inb_S1x1x2048_S1x1x1024_0_0_0

/-- The kernel's weights, as it forms them. -/
def pK1024 : FVec Ideal S512x1024 .f32 := k0_pay15 (BitVec.ofNat 32 1) q (rows1024 k) u (cols1024 w) l

theorem rows1024_at {e : EltTy} (x : Vec Ideal S2048x128 e) (j : Fin 1024) (e' : Fin 128) :
    rows1024 x (ix2 j e') = x (ix2 (Fin.castLE (by decide) j : Fin 2048) e') :=
  congrArg x (funext fun a => Fin.ext (by
    match a with
    | 0 => show 0 + 1 * j.val = j.val; omega
    | 1 => show 0 + 1 * e'.val = e'.val; omega))

theorem cols1024_at (x : Vec Ideal S1x1x2048 .f32) (j : Fin 1024) :
    cols1024 x (ix3 (0 : Fin 1) (0 : Fin 1) j) = x (ix3 (0 : Fin 1) (0 : Fin 1) (Fin.castLE (by decide) j : Fin 2048)) :=
  congrArg x (funext fun a => Fin.ext (by
    match a with
    | 0 => rfl
    | 1 => rfl
    | 2 => show 0 + 1 * j.val = j.val; omega))

/-- Loading the first 1024 rows of a whole buffer that holds `x`. -/
theorem rows1024_load {e : EltTy} (g : Memref sig .tc .vmem S2048x128 e) (hg : g.IsWhole) (x : Vec Ideal S2048x128 e) :
    View.readAt (Elt Ideal) g.view (Rect.unit (s := S2048x128) ![0, 0] ![1024, 128] inb_S2048x128_S1024x128_0_0).toLoadRect (hg.unread x) = rows1024 x :=
  (View.readAt_unit g.view (hg.unread x) inb_S2048x128_S1024x128_0_0 rfl inb_S2048x128_S1024x128_0_0).trans (by rw [hg.read_unread]; rfl)

/-- Loading the first 1024 column gates. -/
theorem cols1024_load (g : Memref sig .tc .vmem S1x1x2048 .f32) (hg : g.IsWhole) (x : Vec Ideal S1x1x2048 .f32) :
    View.readAt (Elt Ideal) g.view (Rect.unit (s := S1x1x2048) ![0, 0, 0] ![1, 1, 1024] inb_S1x1x2048_S1x1x1024_0_0_0).toLoadRect (hg.unread x) = cols1024 x :=
  (View.readAt_unit g.view (hg.unread x) inb_S1x1x2048_S1x1x1024_0_0_0 rfl inb_S1x1x2048_S1x1x1024_0_0_0).trans (by rw [hg.read_unread]; rfl)

theorem emb1024 (j : Fin 1024) (e : Fin 128) : (Rect.unit (s := S2048x128) ![0, 0] S1024x128.size inb_S2048x128_S1024x128_0_0).emb (ix2 j e)
    = ix2 (Fin.castLE (by decide) j : Fin 2048) e := funext fun a => Fin.ext (by
  match a with
  | 0 => show 0 + 1 * j.val = j.val; omega
  | 1 => show 0 + 1 * e.val = e.val; omega)

theorem embc1024 (z z' : Fin 1) (j : Fin 1024) : (Rect.unit (s := S1x1x2048) ![0, 0, 0] S1x1x1024.size inb_S1x1x2048_S1x1x1024_0_0_0).emb (ix3 z z' j)
    = ix3 (0 : Fin 1) (0 : Fin 1) (Fin.castLE (by decide) j : Fin 2048) := funext fun a => Fin.ext (by
  match a with
  | 0 => show 0 + 1 * z.val = 0; omega
  | 1 => show 0 + 1 * z'.val = 0; omega
  | 2 => show 0 + 1 * j.val = j.val; omega)

theorem pK1024_at (r : Fin 512) (j : Fin 1024) :
    pK1024 q k u w l (ix2 r j) = pB 1 q k u w l r (Fin.castLE (by decide) j) := by
  have hj : j.val < 2048 := lt_of_lt_of_le j.isLt (by decide)
  unfold pK1024 k0_pay15 pB
  pointwise
  simp only [rows1024_at, cols1024_at]
  rw [mask_select 512 r.val j.val _ (by decide) (by decide) r.isLt hj]
  rfl

theorem dl1024_at (r : Fin 512) : k0_pay16 d o (ix2 r (0 : Fin 1)) = dltB o d r := by
  unfold k0_pay16 dltB
  pointwise

theorem ds1024_at (r : Fin 512) (j : Fin 1024) :
    k0_pay17 d (pK1024 q k u w l) (k0_pay16 d o) (rows1024 v) (ix2 r j) = dsB 1 q k v u w l o d r (Fin.castLE (by decide) j) := by
  unfold k0_pay17 dsB
  pointwise
  simp only [rows1024_at, pK1024_at, dl1024_at]

theorem dq1024_eq : k0_pay18 d (pK1024 q k u w l) (k0_pay16 d o) (rows1024 v) (rows1024 k) = dqB 1 q k v u w l o d := by
  funext x
  obtain ⟨r, e, rfl⟩ : ∃ (r : Fin 512) (e : Fin 128), x = ix2 r e := ⟨x 0, x 1, ValueIdx.eq_ix2 x⟩
  rw [dqB_at]
  unfold k0_pay18
  pointwise
  simp only [ds1024_at, rows1024_at]
  refine congrArg (· * scl) ?_
  exact sum_low (n := 1024) (by decide) (fun j => dsB 1 q k v u w l o d r j * k (ix2 j e)) fun j hj => by
    rw [dsB_high _ _ _ _ _ _ _ _ _ _ _ hj, zero_mul]

theorem dr1024_eq : k0_pay19 d (pK1024 q k u w l) (k0_pay16 d o) (rows1024 v) = drB 1 q k v u w l o d := by
  funext x
  obtain ⟨z, r, z', rfl⟩ : ∃ (z : Fin 1) (r : Fin 512) (z' : Fin 1), x = ix3 z r z' := ⟨x 0, x 1, x 2, ValueIdx.eq_ix3 x⟩
  rw [drB_at]
  unfold k0_pay19
  pointwise
  simp only [ds1024_at]
  exact sum_low (n := 1024) (by decide) (fun j => dsB 1 q k v u w l o d r j) fun j hj => dsB_high _ _ _ _ _ _ _ _ _ _ _ hj

theorem dk1024_eq (y : Vec Ideal S2048x128 .f32) :
    VecWindow.put y ![0, 0] S1024x128.size (k0_pay20 q d (pK1024 q k u w l) (k0_pay16 d o) (rows1024 v) (rows1024 y))
      = fun x => y x + dkB 1 q k v u w l o d x := by
  refine put_eq _ _ _ _ inb_S2048x128_S1024x128_0_0 _ (fun x : S1024x128.Idx => ?_) fun x hx => ?_
  · obtain ⟨j, e, rfl⟩ : ∃ (j : Fin 1024) (e : Fin 128), x = ix2 j e := ⟨x 0, x 1, ValueIdx.eq_ix2 x⟩
    rw [emb1024]
    rw [dkB_at]
    unfold k0_pay20
    pointwise
    simp only [rows1024_at]
    simp only [ds1024_at]
  · rw [dkB_high _ _ _ _ _ _ _ _ _ _ ?_, add_zero]
    exact beyond hx

theorem dv1024_eq (y : Vec Ideal S2048x128 .f32) :
    VecWindow.put y ![0, 0] S1024x128.size (k0_pay21 d (pK1024 q k u w l) (rows1024 y)) = fun x => y x + dvB 1 q k u w l d x := by
  refine put_eq _ _ _ _ inb_S2048x128_S1024x128_0_0 _ (fun x : S1024x128.Idx => ?_) fun x hx => ?_
  · obtain ⟨j, e, rfl⟩ : ∃ (j : Fin 1024) (e : Fin 128), x = ix2 j e := ⟨x 0, x 1, ValueIdx.eq_ix2 x⟩
    rw [emb1024]
    rw [dvB_at]
    refine Eq.trans (b := rows1024 y (ix2 j e) + ∑ r : Fin 512, pK1024 q k u w l (ix2 r j) * d (ix2 r e)) ?_ ?_
    · generalize pK1024 q k u w l = p
      generalize rows1024 y = z
      unfold k0_pay21
      pointwise
    exact congrArg₂ (· + ·) (rows1024_at y j e) (Finset.sum_congr rfl fun r _ => congrArg (· * d (ix2 r e)) (pK1024_at q k u w l r j))
  · rw [dvB_high _ _ _ _ _ _ _ _ ?_, add_zero]
    exact beyond hx

theorem dc1024_eq (y : Vec Ideal S1x1x2048 .f32) :
    VecWindow.put y ![0, 0, 0] S1x1x1024.size (k0_pay5 (k0_pay17 d (pK1024 q k u w l) (k0_pay16 d o) (rows1024 v)) (cols1024 y)) = fun x => y x + dcB 1 q k v u w l o d x := by
  refine put_eq _ _ _ _ inb_S1x1x2048_S1x1x1024_0_0_0 _ (fun x : S1x1x1024.Idx => ?_) fun x hx => ?_
  · obtain ⟨z, z', j, rfl⟩ : ∃ (z z' : Fin 1) (j : Fin 1024), x = ix3 z z' j := ⟨x 0, x 1, x 2, ValueIdx.eq_ix3 x⟩
    rw [embc1024]
    rw [dcB_at]
    unfold k0_pay5
    pointwise
    simp only [ds1024_at, cols1024_at]
  · rw [dcB_high _ _ _ _ _ _ _ _ _ _ ?_, add_zero]
    exact beyond_c hx

end n1024

/-! ## The first 1536 keys -/

section n1536

variable (q : Vec Ideal S512x128 .bf16) (k v : Vec Ideal S2048x128 .bf16) (u : Vec Ideal S1x512x1 .f32)
  (w : Vec Ideal S1x1x2048 .f32) (l : Vec Ideal S1x512x1 .f32) (o d : Vec Ideal S512x128 .f32)

/-- The first 1536 rows of a block of keys or values. -/
def rows1536 {e : EltTy} (x : Vec Ideal S2048x128 e) : Vec Ideal S1536x128 e :=
  VecWindow.window x ![0, 0] S1536x128.size inb_S2048x128_S1536x128_0_0

/-- The first 1536 entries of the column gates. -/
def cols1536 (x : Vec Ideal S1x1x2048 .f32) : Vec Ideal S1x1x1536 .f32 :=
  VecWindow.window x ![0, 0, 0] S1x1x1536.size inb_S1x1x2048_S1x1x1536_0_0_0

/-- The kernel's weights, as it forms them. -/
def pK1536 : FVec Ideal S512x1536 .f32 := k0_pay22 (BitVec.ofNat 32 2) q (rows1536 k) u (cols1536 w) l

theorem rows1536_at {e : EltTy} (x : Vec Ideal S2048x128 e) (j : Fin 1536) (e' : Fin 128) :
    rows1536 x (ix2 j e') = x (ix2 (Fin.castLE (by decide) j : Fin 2048) e') :=
  congrArg x (funext fun a => Fin.ext (by
    match a with
    | 0 => show 0 + 1 * j.val = j.val; omega
    | 1 => show 0 + 1 * e'.val = e'.val; omega))

theorem cols1536_at (x : Vec Ideal S1x1x2048 .f32) (j : Fin 1536) :
    cols1536 x (ix3 (0 : Fin 1) (0 : Fin 1) j) = x (ix3 (0 : Fin 1) (0 : Fin 1) (Fin.castLE (by decide) j : Fin 2048)) :=
  congrArg x (funext fun a => Fin.ext (by
    match a with
    | 0 => rfl
    | 1 => rfl
    | 2 => show 0 + 1 * j.val = j.val; omega))

/-- Loading the first 1536 rows of a whole buffer that holds `x`. -/
theorem rows1536_load {e : EltTy} (g : Memref sig .tc .vmem S2048x128 e) (hg : g.IsWhole) (x : Vec Ideal S2048x128 e) :
    View.readAt (Elt Ideal) g.view (Rect.unit (s := S2048x128) ![0, 0] ![1536, 128] inb_S2048x128_S1536x128_0_0).toLoadRect (hg.unread x) = rows1536 x :=
  (View.readAt_unit g.view (hg.unread x) inb_S2048x128_S1536x128_0_0 rfl inb_S2048x128_S1536x128_0_0).trans (by rw [hg.read_unread]; rfl)

/-- Loading the first 1536 column gates. -/
theorem cols1536_load (g : Memref sig .tc .vmem S1x1x2048 .f32) (hg : g.IsWhole) (x : Vec Ideal S1x1x2048 .f32) :
    View.readAt (Elt Ideal) g.view (Rect.unit (s := S1x1x2048) ![0, 0, 0] ![1, 1, 1536] inb_S1x1x2048_S1x1x1536_0_0_0).toLoadRect (hg.unread x) = cols1536 x :=
  (View.readAt_unit g.view (hg.unread x) inb_S1x1x2048_S1x1x1536_0_0_0 rfl inb_S1x1x2048_S1x1x1536_0_0_0).trans (by rw [hg.read_unread]; rfl)

theorem emb1536 (j : Fin 1536) (e : Fin 128) : (Rect.unit (s := S2048x128) ![0, 0] S1536x128.size inb_S2048x128_S1536x128_0_0).emb (ix2 j e)
    = ix2 (Fin.castLE (by decide) j : Fin 2048) e := funext fun a => Fin.ext (by
  match a with
  | 0 => show 0 + 1 * j.val = j.val; omega
  | 1 => show 0 + 1 * e.val = e.val; omega)

theorem embc1536 (z z' : Fin 1) (j : Fin 1536) : (Rect.unit (s := S1x1x2048) ![0, 0, 0] S1x1x1536.size inb_S1x1x2048_S1x1x1536_0_0_0).emb (ix3 z z' j)
    = ix3 (0 : Fin 1) (0 : Fin 1) (Fin.castLE (by decide) j : Fin 2048) := funext fun a => Fin.ext (by
  match a with
  | 0 => show 0 + 1 * z.val = 0; omega
  | 1 => show 0 + 1 * z'.val = 0; omega
  | 2 => show 0 + 1 * j.val = j.val; omega)

theorem pK1536_at (r : Fin 512) (j : Fin 1536) :
    pK1536 q k u w l (ix2 r j) = pB 2 q k u w l r (Fin.castLE (by decide) j) := by
  have hj : j.val < 2048 := lt_of_lt_of_le j.isLt (by decide)
  unfold pK1536 k0_pay22 pB
  pointwise
  simp only [rows1536_at, cols1536_at]
  rw [mask_select 1024 r.val j.val _ (by decide) (by decide) r.isLt hj]
  rfl

theorem dl1536_at (r : Fin 512) : k0_pay23 d o (ix2 r (0 : Fin 1)) = dltB o d r := by
  unfold k0_pay23 dltB
  pointwise

theorem ds1536_at (r : Fin 512) (j : Fin 1536) :
    k0_pay24 d (pK1536 q k u w l) (k0_pay23 d o) (rows1536 v) (ix2 r j) = dsB 2 q k v u w l o d r (Fin.castLE (by decide) j) := by
  unfold k0_pay24 dsB
  pointwise
  simp only [rows1536_at, pK1536_at, dl1536_at]

theorem dq1536_eq : k0_pay25 d (pK1536 q k u w l) (k0_pay23 d o) (rows1536 v) (rows1536 k) = dqB 2 q k v u w l o d := by
  funext x
  obtain ⟨r, e, rfl⟩ : ∃ (r : Fin 512) (e : Fin 128), x = ix2 r e := ⟨x 0, x 1, ValueIdx.eq_ix2 x⟩
  rw [dqB_at]
  unfold k0_pay25
  pointwise
  simp only [ds1536_at, rows1536_at]
  refine congrArg (· * scl) ?_
  exact sum_low (n := 1536) (by decide) (fun j => dsB 2 q k v u w l o d r j * k (ix2 j e)) fun j hj => by
    rw [dsB_high _ _ _ _ _ _ _ _ _ _ _ hj, zero_mul]

theorem dr1536_eq : k0_pay26 d (pK1536 q k u w l) (k0_pay23 d o) (rows1536 v) = drB 2 q k v u w l o d := by
  funext x
  obtain ⟨z, r, z', rfl⟩ : ∃ (z : Fin 1) (r : Fin 512) (z' : Fin 1), x = ix3 z r z' := ⟨x 0, x 1, x 2, ValueIdx.eq_ix3 x⟩
  rw [drB_at]
  unfold k0_pay26
  pointwise
  simp only [ds1536_at]
  exact sum_low (n := 1536) (by decide) (fun j => dsB 2 q k v u w l o d r j) fun j hj => dsB_high _ _ _ _ _ _ _ _ _ _ _ hj

theorem dk1536_eq (y : Vec Ideal S2048x128 .f32) :
    VecWindow.put y ![0, 0] S1536x128.size (k0_pay27 q d (pK1536 q k u w l) (k0_pay23 d o) (rows1536 v) (rows1536 y))
      = fun x => y x + dkB 2 q k v u w l o d x := by
  refine put_eq _ _ _ _ inb_S2048x128_S1536x128_0_0 _ (fun x : S1536x128.Idx => ?_) fun x hx => ?_
  · obtain ⟨j, e, rfl⟩ : ∃ (j : Fin 1536) (e : Fin 128), x = ix2 j e := ⟨x 0, x 1, ValueIdx.eq_ix2 x⟩
    rw [emb1536]
    rw [dkB_at]
    unfold k0_pay27
    pointwise
    simp only [rows1536_at]
    simp only [ds1536_at]
  · rw [dkB_high _ _ _ _ _ _ _ _ _ _ ?_, add_zero]
    exact beyond hx

theorem dv1536_eq (y : Vec Ideal S2048x128 .f32) :
    VecWindow.put y ![0, 0] S1536x128.size (k0_pay28 d (pK1536 q k u w l) (rows1536 y)) = fun x => y x + dvB 2 q k u w l d x := by
  refine put_eq _ _ _ _ inb_S2048x128_S1536x128_0_0 _ (fun x : S1536x128.Idx => ?_) fun x hx => ?_
  · obtain ⟨j, e, rfl⟩ : ∃ (j : Fin 1536) (e : Fin 128), x = ix2 j e := ⟨x 0, x 1, ValueIdx.eq_ix2 x⟩
    rw [emb1536]
    rw [dvB_at]
    refine Eq.trans (b := rows1536 y (ix2 j e) + ∑ r : Fin 512, pK1536 q k u w l (ix2 r j) * d (ix2 r e)) ?_ ?_
    · generalize pK1536 q k u w l = p
      generalize rows1536 y = z
      unfold k0_pay28
      pointwise
    exact congrArg₂ (· + ·) (rows1536_at y j e) (Finset.sum_congr rfl fun r _ => congrArg (· * d (ix2 r e)) (pK1536_at q k u w l r j))
  · rw [dvB_high _ _ _ _ _ _ _ _ ?_, add_zero]
    exact beyond hx

theorem dc1536_eq (y : Vec Ideal S1x1x2048 .f32) :
    VecWindow.put y ![0, 0, 0] S1x1x1536.size (k0_pay6 (k0_pay24 d (pK1536 q k u w l) (k0_pay23 d o) (rows1536 v)) (cols1536 y)) = fun x => y x + dcB 2 q k v u w l o d x := by
  refine put_eq _ _ _ _ inb_S1x1x2048_S1x1x1536_0_0_0 _ (fun x : S1x1x1536.Idx => ?_) fun x hx => ?_
  · obtain ⟨z, z', j, rfl⟩ : ∃ (z z' : Fin 1) (j : Fin 1536), x = ix3 z z' j := ⟨x 0, x 1, x 2, ValueIdx.eq_ix3 x⟩
    rw [embc1536]
    rw [dcB_at]
    unfold k0_pay6
    pointwise
    simp only [ds1536_at, cols1536_at]
  · rw [dcB_high _ _ _ _ _ _ _ _ _ _ ?_, add_zero]
    exact beyond_c hx

end n1536

/-! ## The first 2048 keys -/

section n2048

variable (q : Vec Ideal S512x128 .bf16) (k v : Vec Ideal S2048x128 .bf16) (u : Vec Ideal S1x512x1 .f32)
  (w : Vec Ideal S1x1x2048 .f32) (l : Vec Ideal S1x512x1 .f32) (o d : Vec Ideal S512x128 .f32)

/-- The first 2048 rows of a block of keys or values. -/
def rows2048 {e : EltTy} (x : Vec Ideal S2048x128 e) : Vec Ideal S2048x128 e :=
  VecWindow.window x ![0, 0] S2048x128.size inb_S2048x128_S2048x128_0_0

/-- The first 2048 entries of the column gates. -/
def cols2048 (x : Vec Ideal S1x1x2048 .f32) : Vec Ideal S1x1x2048 .f32 :=
  VecWindow.window x ![0, 0, 0] S1x1x2048.size inb_S1x1x2048_S1x1x2048_0_0_0

/-- The kernel's weights, as it forms them. -/
def pK2048 : FVec Ideal S512x2048 .f32 := k0_pay29 (BitVec.ofNat 32 3) q (rows2048 k) u (cols2048 w) l

theorem rows2048_at {e : EltTy} (x : Vec Ideal S2048x128 e) (j : Fin 2048) (e' : Fin 128) :
    rows2048 x (ix2 j e') = x (ix2 (Fin.castLE (by decide) j : Fin 2048) e') :=
  congrArg x (funext fun a => Fin.ext (by
    match a with
    | 0 => show 0 + 1 * j.val = j.val; omega
    | 1 => show 0 + 1 * e'.val = e'.val; omega))

theorem cols2048_at (x : Vec Ideal S1x1x2048 .f32) (j : Fin 2048) :
    cols2048 x (ix3 (0 : Fin 1) (0 : Fin 1) j) = x (ix3 (0 : Fin 1) (0 : Fin 1) (Fin.castLE (by decide) j : Fin 2048)) :=
  congrArg x (funext fun a => Fin.ext (by
    match a with
    | 0 => rfl
    | 1 => rfl
    | 2 => show 0 + 1 * j.val = j.val; omega))

/-- Loading the first 2048 rows of a whole buffer that holds `x`. -/
theorem rows2048_load {e : EltTy} (g : Memref sig .tc .vmem S2048x128 e) (hg : g.IsWhole) (x : Vec Ideal S2048x128 e) :
    View.readAt (Elt Ideal) g.view (Rect.unit (s := S2048x128) ![0, 0] ![2048, 128] inb_S2048x128_S2048x128_0_0).toLoadRect (hg.unread x) = rows2048 x :=
  (View.readAt_unit g.view (hg.unread x) inb_S2048x128_S2048x128_0_0 rfl inb_S2048x128_S2048x128_0_0).trans (by rw [hg.read_unread]; rfl)

/-- Loading the first 2048 column gates. -/
theorem cols2048_load (g : Memref sig .tc .vmem S1x1x2048 .f32) (hg : g.IsWhole) (x : Vec Ideal S1x1x2048 .f32) :
    View.readAt (Elt Ideal) g.view (Rect.unit (s := S1x1x2048) ![0, 0, 0] ![1, 1, 2048] inb_S1x1x2048_S1x1x2048_0_0_0).toLoadRect (hg.unread x) = cols2048 x :=
  (View.readAt_unit g.view (hg.unread x) inb_S1x1x2048_S1x1x2048_0_0_0 rfl inb_S1x1x2048_S1x1x2048_0_0_0).trans (by rw [hg.read_unread]; rfl)

theorem emb2048 (j : Fin 2048) (e : Fin 128) : (Rect.unit (s := S2048x128) ![0, 0] S2048x128.size inb_S2048x128_S2048x128_0_0).emb (ix2 j e)
    = ix2 (Fin.castLE (by decide) j : Fin 2048) e := funext fun a => Fin.ext (by
  match a with
  | 0 => show 0 + 1 * j.val = j.val; omega
  | 1 => show 0 + 1 * e.val = e.val; omega)

theorem embc2048 (z z' : Fin 1) (j : Fin 2048) : (Rect.unit (s := S1x1x2048) ![0, 0, 0] S1x1x2048.size inb_S1x1x2048_S1x1x2048_0_0_0).emb (ix3 z z' j)
    = ix3 (0 : Fin 1) (0 : Fin 1) (Fin.castLE (by decide) j : Fin 2048) := funext fun a => Fin.ext (by
  match a with
  | 0 => show 0 + 1 * z.val = 0; omega
  | 1 => show 0 + 1 * z'.val = 0; omega
  | 2 => show 0 + 1 * j.val = j.val; omega)

theorem pK2048_at (r : Fin 512) (j : Fin 2048) :
    pK2048 q k u w l (ix2 r j) = pB 3 q k u w l r (Fin.castLE (by decide) j) := by
  have hj : j.val < 2048 := lt_of_lt_of_le j.isLt (by decide)
  unfold pK2048 k0_pay29 pB
  pointwise
  simp only [rows2048_at, cols2048_at]
  rw [mask_select 1536 r.val j.val _ (by decide) (by decide) r.isLt hj]
  rfl

theorem dl2048_at (r : Fin 512) : k0_pay30 d o (ix2 r (0 : Fin 1)) = dltB o d r := by
  unfold k0_pay30 dltB
  pointwise

theorem ds2048_at (r : Fin 512) (j : Fin 2048) :
    k0_pay31 d (pK2048 q k u w l) (k0_pay30 d o) (rows2048 v) (ix2 r j) = dsB 3 q k v u w l o d r (Fin.castLE (by decide) j) := by
  unfold k0_pay31 dsB
  pointwise
  simp only [rows2048_at, pK2048_at, dl2048_at]

theorem dq2048_eq : k0_pay32 d (pK2048 q k u w l) (k0_pay30 d o) (rows2048 v) (rows2048 k) = dqB 3 q k v u w l o d := by
  funext x
  obtain ⟨r, e, rfl⟩ : ∃ (r : Fin 512) (e : Fin 128), x = ix2 r e := ⟨x 0, x 1, ValueIdx.eq_ix2 x⟩
  rw [dqB_at]
  unfold k0_pay32
  pointwise
  simp only [ds2048_at, rows2048_at]
  refine congrArg (· * scl) ?_
  exact sum_low (n := 2048) (by decide) (fun j => dsB 3 q k v u w l o d r j * k (ix2 j e)) fun j hj => by
    rw [dsB_high _ _ _ _ _ _ _ _ _ _ _ hj, zero_mul]

theorem dr2048_eq : k0_pay33 d (pK2048 q k u w l) (k0_pay30 d o) (rows2048 v) = drB 3 q k v u w l o d := by
  funext x
  obtain ⟨z, r, z', rfl⟩ : ∃ (z : Fin 1) (r : Fin 512) (z' : Fin 1), x = ix3 z r z' := ⟨x 0, x 1, x 2, ValueIdx.eq_ix3 x⟩
  rw [drB_at]
  unfold k0_pay33
  pointwise
  simp only [ds2048_at]
  exact sum_low (n := 2048) (by decide) (fun j => dsB 3 q k v u w l o d r j) fun j hj => dsB_high _ _ _ _ _ _ _ _ _ _ _ hj

theorem dk2048_eq (y : Vec Ideal S2048x128 .f32) :
    VecWindow.put y ![0, 0] S2048x128.size (k0_pay34 q d (pK2048 q k u w l) (k0_pay30 d o) (rows2048 v) (rows2048 y))
      = fun x => y x + dkB 3 q k v u w l o d x := by
  refine put_eq _ _ _ _ inb_S2048x128_S2048x128_0_0 _ (fun x : S2048x128.Idx => ?_) fun x hx => ?_
  · obtain ⟨j, e, rfl⟩ : ∃ (j : Fin 2048) (e : Fin 128), x = ix2 j e := ⟨x 0, x 1, ValueIdx.eq_ix2 x⟩
    rw [emb2048]
    rw [dkB_at]
    unfold k0_pay34
    pointwise
    simp only [rows2048_at]
    simp only [ds2048_at]
  · rw [dkB_high _ _ _ _ _ _ _ _ _ _ ?_, add_zero]
    exact beyond hx

theorem dv2048_eq (y : Vec Ideal S2048x128 .f32) :
    VecWindow.put y ![0, 0] S2048x128.size (k0_pay35 d (pK2048 q k u w l) (rows2048 y)) = fun x => y x + dvB 3 q k u w l d x := by
  refine put_eq _ _ _ _ inb_S2048x128_S2048x128_0_0 _ (fun x : S2048x128.Idx => ?_) fun x hx => ?_
  · obtain ⟨j, e, rfl⟩ : ∃ (j : Fin 2048) (e : Fin 128), x = ix2 j e := ⟨x 0, x 1, ValueIdx.eq_ix2 x⟩
    rw [emb2048]
    rw [dvB_at]
    refine Eq.trans (b := rows2048 y (ix2 j e) + ∑ r : Fin 512, pK2048 q k u w l (ix2 r j) * d (ix2 r e)) ?_ ?_
    · generalize pK2048 q k u w l = p
      generalize rows2048 y = z
      unfold k0_pay35
      pointwise
    exact congrArg₂ (· + ·) (rows2048_at y j e) (Finset.sum_congr rfl fun r _ => congrArg (· * d (ix2 r e)) (pK2048_at q k u w l r j))
  · rw [dvB_high _ _ _ _ _ _ _ _ ?_, add_zero]
    exact beyond hx

theorem dc2048_eq (y : Vec Ideal S1x1x2048 .f32) :
    VecWindow.put y ![0, 0, 0] S1x1x2048.size (k0_pay7 (k0_pay31 d (pK2048 q k u w l) (k0_pay30 d o) (rows2048 v)) (cols2048 y)) = fun x => y x + dcB 3 q k v u w l o d x := by
  refine put_eq _ _ _ _ inb_S1x1x2048_S1x1x2048_0_0_0 _ (fun x : S1x1x2048.Idx => ?_) fun x hx => ?_
  · obtain ⟨z, z', j, rfl⟩ : ∃ (z z' : Fin 1) (j : Fin 2048), x = ix3 z z' j := ⟨x 0, x 1, x 2, ValueIdx.eq_ix3 x⟩
    rw [embc2048]
    rw [dcB_at]
    unfold k0_pay7
    pointwise
    simp only [ds2048_at, cols2048_at]
  · rw [dcB_high _ _ _ _ _ _ _ _ _ _ ?_, add_zero]
    exact beyond_c hx

end n2048

/-! ## The accumulators' start -/

theorem pay1_at (x : S2048x128.Idx) : k0_pay1 (F := Ideal) x = (0 : EReal) := Ideal.ofBits_zero .f32
theorem pay2_at (x : S2048x128.Idx) : k0_pay2 (F := Ideal) x = (0 : EReal) := Ideal.ofBits_zero .f32
theorem pay3_at (x : S1x1x2048.Idx) : k0_pay3 (F := Ideal) x = (0 : EReal) := Ideal.ofBits_zero .f32

/-- Loading the first rows of a buffer just filled with `z`. -/
theorem rows512_cov (g : Memref sig .tc .vmem S2048x128 .f32) (z : Vec Ideal S2048x128 .f32) :
    g.view.readCov [⟨Rect.unit (s := S2048x128) ![0, 0] ![2048, 128] inb_S2048x128_S2048x128_0_0, z⟩]
      (Rect.unit (s := S2048x128) ![0, 0] ![512, 128] inb_S2048x128_S512x128_0_0).toLoadRect = rows512 z :=
  (View.readAt_unit g.view _ inb_S2048x128_S512x128_0_0 rfl inb_S2048x128_S512x128_0_0).trans
    (congrArg (fun y : S2048x128.Idx → Elt Ideal .f32 => VecWindow.window y ![0, 0] S512x128.size inb_S2048x128_S512x128_0_0)
      (View.read_writes_full (s := S2048x128) g.view g.view.junk inb_S2048x128_S2048x128_0_0 z []))

/-- Loading the first column gates of a buffer just filled with `z`. -/
theorem cols512_cov (g : Memref sig .tc .vmem S1x1x2048 .f32) (z : Vec Ideal S1x1x2048 .f32) :
    g.view.readCov [⟨Rect.unit (s := S1x1x2048) ![0, 0, 0] ![1, 1, 2048] inb_S1x1x2048_S1x1x2048_0_0_0, z⟩]
      (Rect.unit (s := S1x1x2048) ![0, 0, 0] ![1, 1, 512] inb_S1x1x2048_S1x1x512_0_0_0).toLoadRect = cols512 z :=
  (View.readAt_unit g.view _ inb_S1x1x2048_S1x1x512_0_0_0 rfl inb_S1x1x2048_S1x1x512_0_0_0).trans
    (congrArg (fun y : S1x1x2048.Idx → Elt Ideal .f32 => VecWindow.window y ![0, 0, 0] S1x1x512.size inb_S1x1x2048_S1x1x512_0_0_0)
      (View.read_writes_full (s := S1x1x2048) g.view g.view.junk inb_S1x1x2048_S1x1x2048_0_0_0 z []))

end Cert.KernelIdeal.Fox

end
-- ==== Proof.BodyA.lean ====
module

public import proofs.«01_k».proof.Proof.Gen.KernelIdeal.Frame
public import proofs.«01_k».proof.Proof.Gen.KernelIdeal.Skeleton
public import proofs.«01_k».proof.Proof.Blocks

/-! # The forgetting attention's backward kernel: the body run on the first 512 keys -/

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

set_option maxHeartbeats 1000000 in
/-- The body at the points of query block 0: from the staged blocks and the accumulators' contents it leaves the
    point's blocks of the queries' and row gates' gradients, and adds its part to the keys', values' and column gates'. -/
theorem runA (c : Dev nD) (i : grid0.Coords) (hi : (i 1).val = 0) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x512x1 .f32) (harg5 : arg5.IsWhole) (arg6 : Memref sig .tc .vmem S1x1x2048 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1x512x1 .f32) (harg13 : arg13.IsWhole) (arg14 : Memref sig .tc .vmem S1x1x2048 .f32) (harg14 : arg14.IsWhole)
    (hc0 : k0_cond1 i = 1#1) (hc1 : k0_cond2 i = 1#1) (hc2 : ¬k0_cond3 i = 1#1) (hc3 : ¬k0_cond4 i = 1#1) (hc4 : ¬k0_cond5 i = 1#1)
    (q : Vec Ideal S512x128 .bf16) (k v : Vec Ideal S2048x128 .bf16) (u : Vec Ideal S1x512x1 .f32) (w : Vec Ideal S1x1x2048 .f32) (l : Vec Ideal S1x512x1 .f32) (o d : Vec Ideal S512x128 .f32) (y9 y10 : Vec Ideal S2048x128 .f32) (y12 : Vec Ideal S1x1x2048 .f32) (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare u ∗ owns (c : Thread nD τ) arg6 fullShare w ∗ owns (c : Thread nD τ) arg7 fullShare l ∗ owns (c : Thread nD τ) arg8 fullShare o ∗ owns (c : Thread nD τ) arg9 fullShare d ∗ (∃ z, owns (c : Thread nD τ) arg10 fullShare z) ∗ owns (c : Thread nD τ) arg11 fullShare y9 ∗ owns (c : Thread nD τ) arg12 fullShare y10 ∗ (∃ z, owns (c : Thread nD τ) arg13 fullShare z) ∗ owns (c : Thread nD τ) arg14 fullShare y12
      ∗ (iprop(owns (c : Thread nD τ) arg2 fullShare q ∗ owns (c : Thread nD τ) arg3 fullShare k ∗ owns (c : Thread nD τ) arg4 fullShare v ∗ owns (c : Thread nD τ) arg5 fullShare u ∗ owns (c : Thread nD τ) arg6 fullShare w ∗ owns (c : Thread nD τ) arg7 fullShare l ∗ owns (c : Thread nD τ) arg8 fullShare o ∗ owns (c : Thread nD τ) arg9 fullShare d ∗ owns (c : Thread nD τ) arg10 fullShare (dqB 0 q k v u w l o d) ∗ owns (c : Thread nD τ) arg11 fullShare (dkB 0 q k v u w l o d) ∗ owns (c : Thread nD τ) arg12 fullShare (dvB 0 q k u w l d) ∗ owns (c : Thread nD τ) arg13 fullShare (drB 0 q k v u w l o d) ∗ owns (c : Thread nD τ) arg14 fullShare (dcB 0 q k v u w l o d)) -∗ K ⟨⟩))
    ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  simp only [cc0_fox_bwd_eq_skeleton]; unfold cc0_fox_bwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%z8, %f8, -, H8⟩, ⟨%f9, %hf9, H9⟩, ⟨%f10, %hf10, H10⟩, ⟨%z11, %f11, -, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg14.eq_unread hf12
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (View.read_writes_full _ _ _ _ _).trans ?_
    delta runA.sl.r runA.sl.r_1 runA.sl.r_2 runA.sl.r_3 runA.sl.r_4 runA.sl.r_5
    simp only [blk_load, gate_load, rows512_load, cols512_load, hi]
    have hval := dq512_eq q k v u w l o d
    unfold pK512 at hval
    exact hval
  isplitl [H9]
  · iexists _; isplitr; swap; · iexact H9
    ipureintro
    delta runA.sl.r runA.sl.r_1 runA.sl.r_2 runA.sl.r_3 runA.sl.r_4 runA.sl.r_5 runA.sl.v65 runA.sl.H9_1
    refine (View.read_writes_cons_put _ _ _ _ _ rfl).trans ?_
    refine (congrArg (fun y => VecWindow.put y _ _ _) (View.read_writes_full (Val := Elt Ideal) (s := S2048x128) arg11.view _ inb_S2048x128_S2048x128_0_0 (k0_pay1 (F := Ideal)) [])).trans ?_
    simp only [blk_load, gate_load, rows512_load, cols512_load, rows512_cov, hi]
    have hval := dk512_eq q k v u w l o d (k0_pay1 (F := Ideal))
    unfold pK512 at hval
    refine hval.trans (funext fun x => ?_)
    rw [pay1_at, zero_add]
  isplitl [H10]
  · iexists _; isplitr; swap; · iexact H10
    ipureintro
    delta runA.sl.r runA.sl.r_1 runA.sl.r_2 runA.sl.r_3 runA.sl.r_4 runA.sl.r_5 runA.sl.v73 runA.sl.H10_1
    refine (View.read_writes_cons_put _ _ _ _ _ rfl).trans ?_
    refine (congrArg (fun y => VecWindow.put y _ _ _) (View.read_writes_full (Val := Elt Ideal) (s := S2048x128) arg12.view _ inb_S2048x128_S2048x128_0_0 (k0_pay2 (F := Ideal)) [])).trans ?_
    simp only [blk_load, gate_load, rows512_load, cols512_load, rows512_cov, hi]
    have hval := dv512_eq q k u w l d (k0_pay2 (F := Ideal))
    unfold pK512 at hval
    refine hval.trans (funext fun x => ?_)
    rw [pay2_at, zero_add]
  isplitl [H11]
  · iexists _; isplitr; swap; · iexact H11
    ipureintro
    refine (View.read_writes_full _ _ _ _ _).trans ?_
    delta runA.sl.r runA.sl.r_1 runA.sl.r_2 runA.sl.r_3 runA.sl.r_4 runA.sl.r_5
    simp only [blk_load, gate_load, rows512_load, cols512_load, hi]
    have hval := dr512_eq q k v u w l o d
    unfold pK512 at hval
    exact hval
  iexists _; isplitr; swap; · iexact H12
  ipureintro
  delta runA.sl.r runA.sl.r_1 runA.sl.r_2 runA.sl.r_3 runA.sl.r_4 runA.sl.r_5 runA.sl.v80 runA.sl.H12_1
  refine (View.read_writes_cons_put _ _ _ _ _ rfl).trans ?_
  refine (congrArg (fun y => VecWindow.put y _ _ _) (View.read_writes_full (Val := Elt Ideal) (s := S1x1x2048) arg14.view _ inb_S1x1x2048_S1x1x2048_0_0_0 (k0_pay3 (F := Ideal)) [])).trans ?_
  simp only [blk_load, gate_load, rows512_load, cols512_load, cols512_cov, hi]
  have hval := dc512_eq q k v u w l o d (k0_pay3 (F := Ideal))
  unfold pK512 at hval
  refine hval.trans (funext fun x => ?_)
  rw [pay3_at, zero_add]

end Cert.KernelIdeal.Fox

end
-- ==== Proof.BodyB.lean ====
module

public import proofs.«01_k».proof.Proof.Gen.KernelIdeal.Frame
public import proofs.«01_k».proof.Proof.Gen.KernelIdeal.Skeleton
public import proofs.«01_k».proof.Proof.Blocks

/-! # The forgetting attention's backward kernel: the body run on the first 1024 keys -/

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

set_option maxHeartbeats 1000000 in
/-- The body at the points of query block 1: from the staged blocks and the accumulators' contents it leaves the
    point's blocks of the queries' and row gates' gradients, and adds its part to the keys', values' and column gates'. -/
theorem runB (c : Dev nD) (i : grid0.Coords) (hi : (i 1).val = 1) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x512x1 .f32) (harg5 : arg5.IsWhole) (arg6 : Memref sig .tc .vmem S1x1x2048 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1x512x1 .f32) (harg13 : arg13.IsWhole) (arg14 : Memref sig .tc .vmem S1x1x2048 .f32) (harg14 : arg14.IsWhole)
    (hc0 : ¬k0_cond1 i = 1#1) (hc1 : ¬k0_cond2 i = 1#1) (hc2 : k0_cond3 i = 1#1) (hc3 : ¬k0_cond4 i = 1#1) (hc4 : ¬k0_cond5 i = 1#1)
    (q : Vec Ideal S512x128 .bf16) (k v : Vec Ideal S2048x128 .bf16) (u : Vec Ideal S1x512x1 .f32) (w : Vec Ideal S1x1x2048 .f32) (l : Vec Ideal S1x512x1 .f32) (o d : Vec Ideal S512x128 .f32) (y9 y10 : Vec Ideal S2048x128 .f32) (y12 : Vec Ideal S1x1x2048 .f32) (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare u ∗ owns (c : Thread nD τ) arg6 fullShare w ∗ owns (c : Thread nD τ) arg7 fullShare l ∗ owns (c : Thread nD τ) arg8 fullShare o ∗ owns (c : Thread nD τ) arg9 fullShare d ∗ (∃ z, owns (c : Thread nD τ) arg10 fullShare z) ∗ owns (c : Thread nD τ) arg11 fullShare y9 ∗ owns (c : Thread nD τ) arg12 fullShare y10 ∗ (∃ z, owns (c : Thread nD τ) arg13 fullShare z) ∗ owns (c : Thread nD τ) arg14 fullShare y12
      ∗ (iprop(owns (c : Thread nD τ) arg2 fullShare q ∗ owns (c : Thread nD τ) arg3 fullShare k ∗ owns (c : Thread nD τ) arg4 fullShare v ∗ owns (c : Thread nD τ) arg5 fullShare u ∗ owns (c : Thread nD τ) arg6 fullShare w ∗ owns (c : Thread nD τ) arg7 fullShare l ∗ owns (c : Thread nD τ) arg8 fullShare o ∗ owns (c : Thread nD τ) arg9 fullShare d ∗ owns (c : Thread nD τ) arg10 fullShare (dqB 1 q k v u w l o d) ∗ owns (c : Thread nD τ) arg11 fullShare (fun x => y9 x + dkB 1 q k v u w l o d x) ∗ owns (c : Thread nD τ) arg12 fullShare (fun x => y10 x + dvB 1 q k u w l d x) ∗ owns (c : Thread nD τ) arg13 fullShare (drB 1 q k v u w l o d) ∗ owns (c : Thread nD τ) arg14 fullShare (fun x => y12 x + dcB 1 q k v u w l o d x)) -∗ K ⟨⟩))
    ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  simp only [cc0_fox_bwd_eq_skeleton]; unfold cc0_fox_bwd_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%z8, %f8, -, H8⟩, ⟨%f9, %hf9, H9⟩, ⟨%f10, %hf10, H10⟩, ⟨%z11, %f11, -, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg14.eq_unread hf12
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (View.read_writes_full _ _ _ _ _).trans ?_
    delta runB.sl.r runB.sl.r_1 runB.sl.r_2 runB.sl.r_3 runB.sl.r_4 runB.sl.r_5
    simp only [blk_load, gate_load, rows1024_load, cols1024_load, hi]
    have hval := dq1024_eq q k v u w l o d
    unfold pK1024 at hval
    exact hval
  isplitl [H9]
  · iexists _; isplitr; swap; · iexact H9
    ipureintro
    refine (View.read_writes_cons_put _ _ _ _ _ rfl).trans ?_
    rw [View.writes_nil, harg11.read_unread]
    delta runB.sl.r runB.sl.r_1 runB.sl.r_2 runB.sl.r_3 runB.sl.r_4 runB.sl.r_5
    simp only [blk_load, gate_load, rows1024_load, cols1024_load, hi]
    have hval := dk1024_eq q k v u w l o d y9
    unfold pK1024 at hval
    exact hval
  isplitl [H10]
  · iexists _; isplitr; swap; · iexact H10
    ipureintro
    refine (View.read_writes_cons_put _ _ _ _ _ rfl).trans ?_
    rw [View.writes_nil, harg12.read_unread]
    delta runB.sl.r runB.sl.r_1 runB.sl.r_2 runB.sl.r_3 runB.sl.r_4 runB.sl.r_5
    simp only [blk_load, gate_load, rows1024_load, cols1024_load, hi]
    have hval := dv1024_eq q k u w l d y10
    unfold pK1024 at hval
    exact hval
  isplitl [H11]
  · iexists _; isplitr; swap; · iexact H11
    ipureintro
    refine (View.read_writes_full _ _ _ _ _).trans ?_
    delta runB.sl.r runB.sl.r_1 runB.sl.r_2 runB.sl.r_3 runB.sl.r_4 runB.sl.r_5
    simp only [blk_load, gate_load, rows1024_load, cols1024_load, hi]
    have hval := dr1024_eq q k v u w l o d
    unfold pK1024 at hval
    exact hval
  iexists _; isplitr; swap; · iexact H12
  ipureintro
  refine (View.read_writes_cons_put _ _ _ _ _ rfl).trans ?_
  rw [View.writes_nil, harg14.read_unread]
  delta runB.sl.r runB.sl.r_1 runB.sl.r_2 runB.sl.r_3 runB.sl.r_4 runB.sl.r_5
  simp only [blk_load, gate_load, rows1024_load, cols1024_load, hi]
  have hval := dc1024_eq q k v u w l o d y12
  unfold pK1024 at hval
  exact hval

end Cert.KernelIdeal.Fox

end
-- ==== Proof.BodyC.lean ====
module

public import proofs.«01_k».proof.Proof.Gen.KernelIdeal.Frame
public import proofs.«01_k».proof.Proof.Gen.KernelIdeal.Skeleton
public import proofs.«01_k».proof.Proof.Blocks

/-! # The forgetting attention's backward kernel: the body run on the first 1536 keys -/

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

set_option maxHeartbeats 1000000 in
/-- The body at the points of query block 2: from the staged blocks and the accumulators' contents it leaves the
    point's blocks of the queries' and row gates' gradients, and adds its part to the keys', values' and column gates'. -/
theorem runC (c : Dev nD) (i : grid0.Coords) (hi : (i 1).val = 2) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x512x1 .f32) (harg5 : arg5.IsWhole) (arg6 : Memref sig .tc .vmem S1x1x2048 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1x512x1 .f32) (harg13 : arg13.IsWhole) (arg14 : Memref sig .tc .vmem S1x1x2048 .f32) (harg14 : arg14.IsWhole)
    (hc0 : ¬k0_cond1 i = 1#1) (hc1 : ¬k0_cond2 i = 1#1) (hc2 : ¬k0_cond3 i = 1#1) (hc3 : k0_cond4 i = 1#1) (hc4 : ¬k0_cond5 i = 1#1)
    (q : Vec Ideal S512x128 .bf16) (k v : Vec Ideal S2048x128 .bf16) (u : Vec Ideal S1x512x1 .f32) (w : Vec Ideal S1x1x2048 .f32) (l : Vec Ideal S1x512x1 .f32) (o d : Vec Ideal S512x128 .f32) (y9 y10 : Vec Ideal S2048x128 .f32) (y12 : Vec Ideal S1x1x2048 .f32) (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare u ∗ owns (c : Thread nD τ) arg6 fullShare w ∗ owns (c : Thread nD τ) arg7 fullShare l ∗ owns (c : Thread nD τ) arg8 fullShare o ∗ owns (c : Thread nD τ) arg9 fullShare d ∗ (∃ z, owns (c : Thread nD τ) arg10 fullShare z) ∗ owns (c : Thread nD τ) arg11 fullShare y9 ∗ owns (c : Thread nD τ) arg12 fullShare y10 ∗ (∃ z, owns (c : Thread nD τ) arg13 fullShare z) ∗ owns (c : Thread nD τ) arg14 fullShare y12
      ∗ (iprop(owns (c : Thread nD τ) arg2 fullShare q ∗ owns (c : Thread nD τ) arg3 fullShare k ∗ owns (c : Thread nD τ) arg4 fullShare v ∗ owns (c : Thread nD τ) arg5 fullShare u ∗ owns (c : Thread nD τ) arg6 fullShare w ∗ owns (c : Thread nD τ) arg7 fullShare l ∗ owns (c : Thread nD τ) arg8 fullShare o ∗ owns (c : Thread nD τ) arg9 fullShare d ∗ owns (c : Thread nD τ) arg10 fullShare (dqB 2 q k v u w l o d) ∗ owns (c : Thread nD τ) arg11 fullShare (fun x => y9 x + dkB 2 q k v u w l o d x) ∗ owns (c : Thread nD τ) arg12 fullShare (fun x => y10 x + dvB 2 q k u w l d x) ∗ owns (c : Thread nD τ) arg13 fullShare (drB 2 q k v u w l o d) ∗ owns (c : Thread nD τ) arg14 fullShare (fun x => y12 x + dcB 2 q k v u w l o d x)) -∗ K ⟨⟩))
    ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  simp only [cc0_fox_bwd_eq_skeleton]; unfold cc0_fox_bwd_skel
  simp only [k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%z8, %f8, -, H8⟩, ⟨%f9, %hf9, H9⟩, ⟨%f10, %hf10, H10⟩, ⟨%z11, %f11, -, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg14.eq_unread hf12
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (View.read_writes_full _ _ _ _ _).trans ?_
    delta runC.sl.r runC.sl.r_1 runC.sl.r_2 runC.sl.r_3 runC.sl.r_4 runC.sl.r_5
    simp only [blk_load, gate_load, rows1536_load, cols1536_load, hi]
    have hval := dq1536_eq q k v u w l o d
    unfold pK1536 at hval
    exact hval
  isplitl [H9]
  · iexists _; isplitr; swap; · iexact H9
    ipureintro
    refine (View.read_writes_cons_put _ _ _ _ _ rfl).trans ?_
    rw [View.writes_nil, harg11.read_unread]
    delta runC.sl.r runC.sl.r_1 runC.sl.r_2 runC.sl.r_3 runC.sl.r_4 runC.sl.r_5
    simp only [blk_load, gate_load, rows1536_load, cols1536_load, hi]
    have hval := dk1536_eq q k v u w l o d y9
    unfold pK1536 at hval
    exact hval
  isplitl [H10]
  · iexists _; isplitr; swap; · iexact H10
    ipureintro
    refine (View.read_writes_cons_put _ _ _ _ _ rfl).trans ?_
    rw [View.writes_nil, harg12.read_unread]
    delta runC.sl.r runC.sl.r_1 runC.sl.r_2 runC.sl.r_3 runC.sl.r_4 runC.sl.r_5
    simp only [blk_load, gate_load, rows1536_load, cols1536_load, hi]
    have hval := dv1536_eq q k u w l d y10
    unfold pK1536 at hval
    exact hval
  isplitl [H11]
  · iexists _; isplitr; swap; · iexact H11
    ipureintro
    refine (View.read_writes_full _ _ _ _ _).trans ?_
    delta runC.sl.r runC.sl.r_1 runC.sl.r_2 runC.sl.r_3 runC.sl.r_4 runC.sl.r_5
    simp only [blk_load, gate_load, rows1536_load, cols1536_load, hi]
    have hval := dr1536_eq q k v u w l o d
    unfold pK1536 at hval
    exact hval
  iexists _; isplitr; swap; · iexact H12
  ipureintro
  refine (View.read_writes_cons_put _ _ _ _ _ rfl).trans ?_
  rw [View.writes_nil, harg14.read_unread]
  delta runC.sl.r runC.sl.r_1 runC.sl.r_2 runC.sl.r_3 runC.sl.r_4 runC.sl.r_5
  simp only [blk_load, gate_load, rows1536_load, cols1536_load, hi]
  have hval := dc1536_eq q k v u w l o d y12
  unfold pK1536 at hval
  exact hval

end Cert.KernelIdeal.Fox

end
-- ==== Proof.BodyD.lean ====
module

public import proofs.«01_k».proof.Proof.Gen.KernelIdeal.Frame
public import proofs.«01_k».proof.Proof.Gen.KernelIdeal.Skeleton
public import proofs.«01_k».proof.Proof.Blocks

/-! # The forgetting attention's backward kernel: the body run on the first 2048 keys -/

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

set_option maxHeartbeats 1000000 in
/-- The body at the points of query block 3: from the staged blocks and the accumulators' contents it leaves the
    point's blocks of the queries' and row gates' gradients, and adds its part to the keys', values' and column gates'. -/
theorem runD (c : Dev nD) (i : grid0.Coords) (hi : (i 1).val = 3) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x512x1 .f32) (harg5 : arg5.IsWhole) (arg6 : Memref sig .tc .vmem S1x1x2048 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1x512x1 .f32) (harg13 : arg13.IsWhole) (arg14 : Memref sig .tc .vmem S1x1x2048 .f32) (harg14 : arg14.IsWhole)
    (hc0 : ¬k0_cond1 i = 1#1) (hc1 : ¬k0_cond2 i = 1#1) (hc2 : ¬k0_cond3 i = 1#1) (hc3 : ¬k0_cond4 i = 1#1) (hc4 : k0_cond5 i = 1#1)
    (q : Vec Ideal S512x128 .bf16) (k v : Vec Ideal S2048x128 .bf16) (u : Vec Ideal S1x512x1 .f32) (w : Vec Ideal S1x1x2048 .f32) (l : Vec Ideal S1x512x1 .f32) (o d : Vec Ideal S512x128 .f32) (y9 y10 : Vec Ideal S2048x128 .f32) (y12 : Vec Ideal S1x1x2048 .f32) (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare u ∗ owns (c : Thread nD τ) arg6 fullShare w ∗ owns (c : Thread nD τ) arg7 fullShare l ∗ owns (c : Thread nD τ) arg8 fullShare o ∗ owns (c : Thread nD τ) arg9 fullShare d ∗ (∃ z, owns (c : Thread nD τ) arg10 fullShare z) ∗ owns (c : Thread nD τ) arg11 fullShare y9 ∗ owns (c : Thread nD τ) arg12 fullShare y10 ∗ (∃ z, owns (c : Thread nD τ) arg13 fullShare z) ∗ owns (c : Thread nD τ) arg14 fullShare y12
      ∗ (iprop(owns (c : Thread nD τ) arg2 fullShare q ∗ owns (c : Thread nD τ) arg3 fullShare k ∗ owns (c : Thread nD τ) arg4 fullShare v ∗ owns (c : Thread nD τ) arg5 fullShare u ∗ owns (c : Thread nD τ) arg6 fullShare w ∗ owns (c : Thread nD τ) arg7 fullShare l ∗ owns (c : Thread nD τ) arg8 fullShare o ∗ owns (c : Thread nD τ) arg9 fullShare d ∗ owns (c : Thread nD τ) arg10 fullShare (dqB 3 q k v u w l o d) ∗ owns (c : Thread nD τ) arg11 fullShare (fun x => y9 x + dkB 3 q k v u w l o d x) ∗ owns (c : Thread nD τ) arg12 fullShare (fun x => y10 x + dvB 3 q k u w l d x) ∗ owns (c : Thread nD τ) arg13 fullShare (drB 3 q k v u w l o d) ∗ owns (c : Thread nD τ) arg14 fullShare (fun x => y12 x + dcB 3 q k v u w l o d x)) -∗ K ⟨⟩))
    ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  simp only [cc0_fox_bwd_eq_skeleton]; unfold cc0_fox_bwd_skel
  simp only [k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%z8, %f8, -, H8⟩, ⟨%f9, %hf9, H9⟩, ⟨%f10, %hf10, H10⟩, ⟨%z11, %f11, -, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg14.eq_unread hf12
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (View.read_writes_full _ _ _ _ _).trans ?_
    delta runD.sl.r runD.sl.r_1 runD.sl.r_2 runD.sl.r_3 runD.sl.r_4 runD.sl.r_5
    simp only [blk_load, gate_load, rows2048_load, cols2048_load, hi]
    have hval := dq2048_eq q k v u w l o d
    unfold pK2048 at hval
    exact hval
  isplitl [H9]
  · iexists _; isplitr; swap; · iexact H9
    ipureintro
    refine (View.read_writes_cons_put _ _ _ _ _ rfl).trans ?_
    rw [View.writes_nil, harg11.read_unread]
    delta runD.sl.r runD.sl.r_1 runD.sl.r_2 runD.sl.r_3 runD.sl.r_4 runD.sl.r_5
    simp only [blk_load, gate_load, rows2048_load, cols2048_load, hi]
    have hval := dk2048_eq q k v u w l o d y9
    unfold pK2048 at hval
    exact hval
  isplitl [H10]
  · iexists _; isplitr; swap; · iexact H10
    ipureintro
    refine (View.read_writes_cons_put _ _ _ _ _ rfl).trans ?_
    rw [View.writes_nil, harg12.read_unread]
    delta runD.sl.r runD.sl.r_1 runD.sl.r_2 runD.sl.r_3 runD.sl.r_4 runD.sl.r_5
    simp only [blk_load, gate_load, rows2048_load, cols2048_load, hi]
    have hval := dv2048_eq q k u w l d y10
    unfold pK2048 at hval
    exact hval
  isplitl [H11]
  · iexists _; isplitr; swap; · iexact H11
    ipureintro
    refine (View.read_writes_full _ _ _ _ _).trans ?_
    delta runD.sl.r runD.sl.r_1 runD.sl.r_2 runD.sl.r_3 runD.sl.r_4 runD.sl.r_5
    simp only [blk_load, gate_load, rows2048_load, cols2048_load, hi]
    have hval := dr2048_eq q k v u w l o d
    unfold pK2048 at hval
    exact hval
  iexists _; isplitr; swap; · iexact H12
  ipureintro
  refine (View.read_writes_cons_put _ _ _ _ _ rfl).trans ?_
  rw [View.writes_nil, harg14.read_unread]
  delta runD.sl.r runD.sl.r_1 runD.sl.r_2 runD.sl.r_3 runD.sl.r_4 runD.sl.r_5
  simp only [blk_load, gate_load, rows2048_load, cols2048_load, hi]
  have hval := dc2048_eq q k v u w l o d y12
  unfold pK2048 at hval
  exact hval

end Cert.KernelIdeal.Fox

end
-- ==== Proof.Run.lean ====
module

public import proofs.«01_k».proof.Proof.BodyA
public import proofs.«01_k».proof.Proof.BodyB
public import proofs.«01_k».proof.Proof.BodyC
public import proofs.«01_k».proof.Proof.BodyD

/-! # The forgetting attention's backward kernel: the whole grid's run, with its results named

The grid is four heads of four query blocks. The blocks of the queries' and row gates' gradients are written
at every point; those of the keys', values' and column gates' gradients stay staged over the four points of
a head, each of which adds its part (`acc`). -/

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-! ## Which branch a point takes -/

theorem cond1_iff (i : grid0.Coords) : k0_cond1 i = 1#1 ↔ (i 1).val = 0 := by
  have h : (i 1).val < 4 := (i 1).isLt
  simp only [k0_cond1]
  word_cmp

theorem cond2_iff (i : grid0.Coords) : k0_cond2 i = 1#1 ↔ (i 1).val = 0 := by
  have h : (i 1).val < 4 := (i 1).isLt
  simp only [k0_cond2]
  word_cmp

theorem cond3_iff (i : grid0.Coords) : k0_cond3 i = 1#1 ↔ (i 1).val = 1 := by
  have h : (i 1).val < 4 := (i 1).isLt
  simp only [k0_cond3]
  word_cmp

theorem cond4_iff (i : grid0.Coords) : k0_cond4 i = 1#1 ↔ (i 1).val = 2 := by
  have h : (i 1).val < 4 := (i 1).isLt
  simp only [k0_cond4]
  word_cmp

theorem cond5_iff (i : grid0.Coords) : k0_cond5 i = 1#1 ↔ (i 1).val = 3 := by
  have h : (i 1).val < 4 := (i 1).isLt
  simp only [k0_cond5]
  word_cmp

/-- A point's second coordinate is its block of queries. -/
theorem coord1 (t : Fin cfg0.N) : (grid0.coords t 1).val = t.val % 4 := by
  have e : (grid0.coords t 1).val = t.val / 1 % 4 := Pipeline.Grid.coords_val t 1 (by decide) rfl
  rw [e, Nat.div_one]

theorem coord_cases (i : grid0.Coords) : (i 1).val = 0 ∨ (i 1).val = 1 ∨ (i 1).val = 2 ∨ (i 1).val = 3 := by
  have h : (i 1).val < 4 := (i 1).isLt
  omega

/-- Window 8 is stored at every point. -/
theorem live8 (i : grid0.Coords) : cfg0.idle 8 i = false := by
  show idle0 8 i = false
  rcases coord_cases i with h | h | h | h
  · simp [idle0, (cond2_iff i).mpr h]
  · simp [idle0, (cond3_iff i).mpr h]
  · simp [idle0, (cond4_iff i).mpr h]
  · simp [idle0, (cond5_iff i).mpr h]

/-- Window 9 is stored at every point. -/
theorem live9 (i : grid0.Coords) : cfg0.idle 9 i = false := by
  show idle0 9 i = false
  rcases coord_cases i with h | h | h | h
  · simp [idle0, (cond2_iff i).mpr h]
  · simp [idle0, (cond3_iff i).mpr h]
  · simp [idle0, (cond4_iff i).mpr h]
  · simp [idle0, (cond5_iff i).mpr h]

/-- Window 10 is stored at every point. -/
theorem live10 (i : grid0.Coords) : cfg0.idle 10 i = false := by
  show idle0 10 i = false
  rcases coord_cases i with h | h | h | h
  · simp [idle0, (cond2_iff i).mpr h]
  · simp [idle0, (cond3_iff i).mpr h]
  · simp [idle0, (cond4_iff i).mpr h]
  · simp [idle0, (cond5_iff i).mpr h]

/-- Window 11 is stored at every point. -/
theorem live11 (i : grid0.Coords) : cfg0.idle 11 i = false := by
  show idle0 11 i = false
  rcases coord_cases i with h | h | h | h
  · simp [idle0, (cond2_iff i).mpr h]
  · simp [idle0, (cond3_iff i).mpr h]
  · simp [idle0, (cond4_iff i).mpr h]
  · simp [idle0, (cond5_iff i).mpr h]

/-- Window 12 is stored at every point. -/
theorem live12 (i : grid0.Coords) : cfg0.idle 12 i = false := by
  show idle0 12 i = false
  rcases coord_cases i with h | h | h | h
  · simp [idle0, (cond2_iff i).mpr h]
  · simp [idle0, (cond3_iff i).mpr h]
  · simp [idle0, (cond4_iff i).mpr h]
  · simp [idle0, (cond5_iff i).mpr h]

/-! ## What the accumulators hold -/

/-- The point of block `n` of the head of point `t`. -/
def pt (t : Fin cfg0.N) (n : Fin 4) : Fin cfg0.N :=
  ⟨4 * (t.val / 4) + n.val, by
    have h : t.val < 16 := lt_of_lt_of_eq t.isLt N_0
    have hn := n.isLt
    exact lt_of_lt_of_eq (by omega : 4 * (t.val / 4) + n.val < 16) N_0.symm⟩

/-- The sum, over the points of a head up to `t`, of what each adds. -/
def acc {s : Shape} (f : Fin cfg0.N → s.Idx → EReal) (t : Fin cfg0.N) : s.Idx → EReal :=
  fun x => ∑ n : Fin 4, if n.val ≤ t.val % 4 then f (pt t n) x else 0

theorem acc_first {s : Shape} (f : Fin cfg0.N → s.Idx → EReal) (t : Fin cfg0.N) (h : t.val % 4 = 0) : acc f t = f t := by
  have e : pt t 0 = t := Fin.ext (by show 4 * (t.val / 4) + 0 = t.val; omega)
  funext x
  unfold acc
  rw [Fin.sum_univ_four, h, if_pos (by decide), if_neg (by decide), if_neg (by decide), if_neg (by decide), e, add_zero, add_zero, add_zero]

/-- The point before `t`. -/
abbrev prev (t : Fin cfg0.N) : Fin cfg0.N := ⟨t.val - 1, Nat.lt_of_le_of_lt (Nat.sub_le _ _) t.isLt⟩

theorem acc_step {s : Shape} (f : Fin cfg0.N → s.Idx → EReal) (t : Fin cfg0.N) (h : t.val % 4 ≠ 0) :
    acc f t = fun x => acc f (prev t) x + f t x := by
  have hp : ∀ n, pt (prev t) n = pt t n := fun n => Fin.ext (by
    show 4 * ((t.val - 1) / 4) + n.val = 4 * (t.val / 4) + n.val; omega)
  have hm : (prev t).val % 4 = t.val % 4 - 1 := by show (t.val - 1) % 4 = t.val % 4 - 1; omega
  have hlt : t.val % 4 < 4 := Nat.mod_lt _ (by decide)
  have e : pt t ⟨t.val % 4, hlt⟩ = t := Fin.ext (by show 4 * (t.val / 4) + t.val % 4 = t.val; omega)
  funext x
  unfold acc
  rw [hm, ← Finset.add_sum_erase Finset.univ _ (Finset.mem_univ (⟨t.val % 4, hlt⟩ : Fin 4)),
    ← Finset.add_sum_erase Finset.univ (fun n : Fin 4 => if n.val ≤ t.val % 4 - 1 then f (pt (prev t) n) x else 0) (Finset.mem_univ (⟨t.val % 4, hlt⟩ : Fin 4)),
    if_pos (le_refl _), if_neg (by show ¬ t.val % 4 ≤ t.val % 4 - 1; omega), e, zero_add, add_comm]
  refine congrArg (· + f t x) (Finset.sum_congr rfl fun n hn => ?_)
  have hne : n.val ≠ t.val % 4 := fun h' => (Finset.mem_erase.mp hn).1 (Fin.ext h')
  rw [hp n]
  by_cases hle : n.val ≤ t.val % 4
  · rw [if_pos hle, if_pos (by omega)]
  · rw [if_neg hle, if_neg (by omega)]

section run

variable (m : (ℓ : Loc nD τ sig) → Buf (Elt Ideal) ℓ) (ρ : Dev nD → PrngReg)

def dqP (c : Dev nD) (t : Fin cfg0.N) : Vec Ideal S512x128 .f32 :=
  dqB (t.val % 4) (iblk m c 0 t) (iblk m c 1 t) (iblk m c 2 t) (iblk m c 3 t) (iblk m c 4 t) (iblk m c 5 t) (iblk m c 6 t) (iblk m c 7 t)

def drP (c : Dev nD) (t : Fin cfg0.N) : Vec Ideal S1x512x1 .f32 :=
  drB (t.val % 4) (iblk m c 0 t) (iblk m c 1 t) (iblk m c 2 t) (iblk m c 3 t) (iblk m c 4 t) (iblk m c 5 t) (iblk m c 6 t) (iblk m c 7 t)

def dkP (c : Dev nD) (t : Fin cfg0.N) : Vec Ideal S2048x128 .f32 :=
  dkB (t.val % 4) (iblk m c 0 t) (iblk m c 1 t) (iblk m c 2 t) (iblk m c 3 t) (iblk m c 4 t) (iblk m c 5 t) (iblk m c 6 t) (iblk m c 7 t)

def dvP (c : Dev nD) (t : Fin cfg0.N) : Vec Ideal S2048x128 .f32 :=
  dvB (t.val % 4) (iblk m c 0 t) (iblk m c 1 t) (iblk m c 3 t) (iblk m c 4 t) (iblk m c 5 t) (iblk m c 7 t)

def dcP (c : Dev nD) (t : Fin cfg0.N) : Vec Ideal S1x1x2048 .f32 :=
  dcB (t.val % 4) (iblk m c 0 t) (iblk m c 1 t) (iblk m c 2 t) (iblk m c 3 t) (iblk m c 4 t) (iblk m c 5 t) (iblk m c 6 t) (iblk m c 7 t)

/-- The run's proof data: the arrays as the region finds them, and what each point leaves in each staged block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqP m c t
    | ⟨9, _⟩ => acc (dkP m c) t
    | ⟨10, _⟩ => acc (dvP m c) t
    | ⟨11, _⟩ => drP m c t
    | ⟨12, _⟩ => acc (dcP m c) t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = dqP m c t := by dsimp only [dats]
theorem after_9 (c : Dev nD) (t : Fin cfg0.N) : (dats m 0 c).after 9 t = acc (dkP m c) t := by dsimp only [dats]
theorem after_10 (c : Dev nD) (t : Fin cfg0.N) : (dats m 0 c).after 10 t = acc (dvP m c) t := by dsimp only [dats]
theorem after_11 (c : Dev nD) (t : Fin cfg0.N) : (dats m 0 c).after 11 t = drP m c t := by dsimp only [dats]
theorem after_12 (c : Dev nD) (t : Fin cfg0.N) : (dats m 0 c).after 12 t = acc (dcP m c) t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Past a head's first point, window 9 holds what the head's earlier points added up to. -/
theorem before_9 (c : Dev nD) (t : Fin cfg0.N) (h : t.val % 4 ≠ 0) (d) : (dats m 0 c).before 9 t d = (dats m 0 c).after 9 (prev t) :=
  (dats m 0 c).before_out_kept 9 rfl t (fun h0 => h (by rw [h0])) (Bool.eq_false_iff.mpr fun hf => by
    have := (flush0_9 (prev t)).mp hf
    have e : (prev t).val = t.val - 1 := rfl
    omega) live9 (fun _ _ => rfl) d

/-- Past a head's first point, window 10 holds what the head's earlier points added up to. -/
theorem before_10 (c : Dev nD) (t : Fin cfg0.N) (h : t.val % 4 ≠ 0) (d) : (dats m 0 c).before 10 t d = (dats m 0 c).after 10 (prev t) :=
  (dats m 0 c).before_out_kept 10 rfl t (fun h0 => h (by rw [h0])) (Bool.eq_false_iff.mpr fun hf => by
    have := (flush0_10 (prev t)).mp hf
    have e : (prev t).val = t.val - 1 := rfl
    omega) live10 (fun _ _ => rfl) d

/-- Past a head's first point, window 12 holds what the head's earlier points added up to. -/
theorem before_12 (c : Dev nD) (t : Fin cfg0.N) (h : t.val % 4 ≠ 0) (d) : (dats m 0 c).before 12 t d = (dats m 0 c).after 12 (prev t) :=
  (dats m 0 c).before_out_kept 12 rfl t (fun h0 => h (by rw [h0])) (Bool.eq_false_iff.mpr fun hf => by
    have := (flush0_12 (prev t)).mp hf
    have e : (prev t).val = t.val - 1 := rfl
    omega) live12 (fun _ _ => rfl) d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves_0 (c : Dev nD) (t : Fin cfg0.N) : (dats m 0 c).leavesExact 0 t = owns (c : Thread nD τ) (st0_0 t) fullShare (iblk m c 0 t) := by
  unfold Dat.leavesExact
  rw [(show cfg0.idle 0 (grid0.coords t) = false from rfl), after_0]

theorem leaves_1 (c : Dev nD) (t : Fin cfg0.N) : (dats m 0 c).leavesExact 1 t = owns (c : Thread nD τ) (st0_1 t) fullShare (iblk m c 1 t) := by
  unfold Dat.leavesExact
  rw [(show cfg0.idle 1 (grid0.coords t) = false from rfl), after_1]

theorem leaves_2 (c : Dev nD) (t : Fin cfg0.N) : (dats m 0 c).leavesExact 2 t = owns (c : Thread nD τ) (st0_2 t) fullShare (iblk m c 2 t) := by
  unfold Dat.leavesExact
  rw [(show cfg0.idle 2 (grid0.coords t) = false from rfl), after_2]

theorem leaves_3 (c : Dev nD) (t : Fin cfg0.N) : (dats m 0 c).leavesExact 3 t = owns (c : Thread nD τ) (st0_3 t) fullShare (iblk m c 3 t) := by
  unfold Dat.leavesExact
  rw [(show cfg0.idle 3 (grid0.coords t) = false from rfl), after_3]

theorem leaves_4 (c : Dev nD) (t : Fin cfg0.N) : (dats m 0 c).leavesExact 4 t = owns (c : Thread nD τ) (st0_4 t) fullShare (iblk m c 4 t) := by
  unfold Dat.leavesExact
  rw [(show cfg0.idle 4 (grid0.coords t) = false from rfl), after_4]

theorem leaves_5 (c : Dev nD) (t : Fin cfg0.N) : (dats m 0 c).leavesExact 5 t = owns (c : Thread nD τ) (st0_5 t) fullShare (iblk m c 5 t) := by
  unfold Dat.leavesExact
  rw [(show cfg0.idle 5 (grid0.coords t) = false from rfl), after_5]

theorem leaves_6 (c : Dev nD) (t : Fin cfg0.N) : (dats m 0 c).leavesExact 6 t = owns (c : Thread nD τ) (st0_6 t) fullShare (iblk m c 6 t) := by
  unfold Dat.leavesExact
  rw [(show cfg0.idle 6 (grid0.coords t) = false from rfl), after_6]

theorem leaves_7 (c : Dev nD) (t : Fin cfg0.N) : (dats m 0 c).leavesExact 7 t = owns (c : Thread nD τ) (st0_7 t) fullShare (iblk m c 7 t) := by
  unfold Dat.leavesExact
  rw [(show cfg0.idle 7 (grid0.coords t) = false from rfl), after_7]

theorem leaves_8 (c : Dev nD) (t : Fin cfg0.N) : (dats m 0 c).leavesExact 8 t = owns (c : Thread nD τ) (st0_8 t) fullShare (dqP m c t) := by
  unfold Dat.leavesExact
  rw [live8 (grid0.coords t), after_8]

theorem leaves_9 (c : Dev nD) (t : Fin cfg0.N) : (dats m 0 c).leavesExact 9 t = owns (c : Thread nD τ) (st0_9 t) fullShare (acc (dkP m c) t) := by
  unfold Dat.leavesExact
  rw [live9 (grid0.coords t), after_9]

theorem leaves_10 (c : Dev nD) (t : Fin cfg0.N) : (dats m 0 c).leavesExact 10 t = owns (c : Thread nD τ) (st0_10 t) fullShare (acc (dvP m c) t) := by
  unfold Dat.leavesExact
  rw [live10 (grid0.coords t), after_10]

theorem leaves_11 (c : Dev nD) (t : Fin cfg0.N) : (dats m 0 c).leavesExact 11 t = owns (c : Thread nD τ) (st0_11 t) fullShare (drP m c t) := by
  unfold Dat.leavesExact
  rw [live11 (grid0.coords t), after_11]

theorem leaves_12 (c : Dev nD) (t : Fin cfg0.N) : (dats m 0 c).leavesExact 12 t = owns (c : Thread nD τ) (st0_12 t) fullShare (acc (dcP m c) t) := by
  unfold Dat.leavesExact
  rw [live12 (grid0.coords t), after_12]

set_option maxHeartbeats 2000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6, leaves_7, leaves_8, leaves_9, leaves_10, leaves_11, leaves_12]
  have hc := coord1 t
  rcases (by omega : t.val % 4 = 0 ∨ t.val % 4 = 1 ∨ t.val % 4 = 2 ∨ t.val % 4 = 3) with h | h | h | h
  case' inl =>
    have hi : (grid0.coords t 1).val = 0 := hc.trans h
    rw [acc_first (dkP m c) t h, acc_first (dvP m c) t h, acc_first (dcP m c) t h]
    rw [show dqP m c t = dqB 0 _ _ _ _ _ _ _ _ from by unfold dqP; rw [h], show drP m c t = drB 0 _ _ _ _ _ _ _ _ from by unfold drP; rw [h], show dkP m c t = dkB 0 _ _ _ _ _ _ _ _ from by unfold dkP; rw [h],
      show dvP m c t = dvB 0 _ _ _ _ _ _ from by unfold dvP; rw [h], show dcP m c t = dcB 0 _ _ _ _ _ _ _ _ from by unfold dcP; rw [h]]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runA c (grid0.coords t) hi _ _ _ _ _ _ _ _ _ _ _ _ _ _ _ _ _ _ _ _ _ _ _ _ _ _ ((cond1_iff _).mpr hi) ((cond2_iff _).mpr hi) (fun h' => absurd (hi.symm.trans ((cond3_iff _).mp h')) (by decide)) (fun h' => absurd (hi.symm.trans ((cond4_iff _).mp h')) (by decide)) (fun h' => absurd (hi.symm.trans ((cond5_iff _).mp h')) (by decide)) (iblk m c 0 t) (iblk m c 1 t) (iblk m c 2 t) (iblk m c 3 t) (iblk m c 4 t) (iblk m c 5 t) (iblk m c 6 t) (iblk m c 7 t) _ _ _ Set.univ _)
  case' inr.inl =>
    have hi : (grid0.coords t 1).val = 1 := hc.trans h
    have hne : t.val % 4 ≠ 0 := by omega
    simp only [before_9 m c t hne, before_10 m c t hne, before_12 m c t hne, after_9, after_10, after_12]
    rw [acc_step (dkP m c) t hne, acc_step (dvP m c) t hne, acc_step (dcP m c) t hne]
    rw [show dqP m c t = dqB 1 _ _ _ _ _ _ _ _ from by unfold dqP; rw [h], show drP m c t = drB 1 _ _ _ _ _ _ _ _ from by unfold drP; rw [h], show dkP m c t = dkB 1 _ _ _ _ _ _ _ _ from by unfold dkP; rw [h],
      show dvP m c t = dvB 1 _ _ _ _ _ _ from by unfold dvP; rw [h], show dcP m c t = dcB 1 _ _ _ _ _ _ _ _ from by unfold dcP; rw [h]]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runB c (grid0.coords t) hi _ _ _ _ _ _ _ _ _ _ _ _ _ _ _ _ _ _ _ _ _ _ _ _ _ _ (fun h' => absurd (hi.symm.trans ((cond1_iff _).mp h')) (by decide)) (fun h' => absurd (hi.symm.trans ((cond2_iff _).mp h')) (by decide)) ((cond3_iff _).mpr hi) (fun h' => absurd (hi.symm.trans ((cond4_iff _).mp h')) (by decide)) (fun h' => absurd (hi.symm.trans ((cond5_iff _).mp h')) (by decide)) (iblk m c 0 t) (iblk m c 1 t) (iblk m c 2 t) (iblk m c 3 t) (iblk m c 4 t) (iblk m c 5 t) (iblk m c 6 t) (iblk m c 7 t) _ _ _ Set.univ _)
  case' inr.inr.inl =>
    have hi : (grid0.coords t 1).val = 2 := hc.trans h
    have hne : t.val % 4 ≠ 0 := by omega
    simp only [before_9 m c t hne, before_10 m c t hne, before_12 m c t hne, after_9, after_10, after_12]
    rw [acc_step (dkP m c) t hne, acc_step (dvP m c) t hne, acc_step (dcP m c) t hne]
    rw [show dqP m c t = dqB 2 _ _ _ _ _ _ _ _ from by unfold dqP; rw [h], show drP m c t = drB 2 _ _ _ _ _ _ _ _ from by unfold drP; rw [h], show dkP m c t = dkB 2 _ _ _ _ _ _ _ _ from by unfold dkP; rw [h],
      show dvP m c t = dvB 2 _ _ _ _ _ _ from by unfold dvP; rw [h], show dcP m c t = dcB 2 _ _ _ _ _ _ _ _ from by unfold dcP; rw [h]]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runC c (grid0.coords t) hi _ _ _ _ _ _ _ _ _ _ _ _ _ _ _ _ _ _ _ _ _ _ _ _ _ _ (fun h' => absurd (hi.symm.trans ((cond1_iff _).mp h')) (by decide)) (fun h' => absurd (hi.symm.trans ((cond2_iff _).mp h')) (by decide)) (fun h' => absurd (hi.symm.trans ((cond3_iff _).mp h')) (by decide)) ((cond4_iff _).mpr hi) (fun h' => absurd (hi.symm.trans ((cond5_iff _).mp h')) (by decide)) (iblk m c 0 t) (iblk m c 1 t) (iblk m c 2 t) (iblk m c 3 t) (iblk m c 4 t) (iblk m c 5 t) (iblk m c 6 t) (iblk m c 7 t) _ _ _ Set.univ _)
  case' inr.inr.inr =>
    have hi : (grid0.coords t 1).val = 3 := hc.trans h
    have hne : t.val % 4 ≠ 0 := by omega
    simp only [before_9 m c t hne, before_10 m c t hne, before_12 m c t hne, after_9, after_10, after_12]
    rw [acc_step (dkP m c) t hne, acc_step (dvP m c) t hne, acc_step (dcP m c) t hne]
    rw [show dqP m c t = dqB 3 _ _ _ _ _ _ _ _ from by unfold dqP; rw [h], show drP m c t = drB 3 _ _ _ _ _ _ _ _ from by unfold drP; rw [h], show dkP m c t = dkB 3 _ _ _ _ _ _ _ _ from by unfold dkP; rw [h],
      show dvP m c t = dvB 3 _ _ _ _ _ _ from by unfold dvP; rw [h], show dcP m c t = dcB 3 _ _ _ _ _ _ _ _ from by unfold dcP; rw [h]]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runD c (grid0.coords t) hi _ _ _ _ _ _ _ _ _ _ _ _ _ _ _ _ _ _ _ _ _ _ _ _ _ _ (fun h' => absurd (hi.symm.trans ((cond1_iff _).mp h')) (by decide)) (fun h' => absurd (hi.symm.trans ((cond2_iff _).mp h')) (by decide)) (fun h' => absurd (hi.symm.trans ((cond3_iff _).mp h')) (by decide)) (fun h' => absurd (hi.symm.trans ((cond4_iff _).mp h')) (by decide)) ((cond5_iff _).mpr hi) (iblk m c 0 t) (iblk m c 1 t) (iblk m c 2 t) (iblk m c 3 t) (iblk m c 4 t) (iblk m c 5 t) (iblk m c 6 t) (iblk m c 7 t) _ _ _ Set.univ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexists _; iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- Every execution ends with the region's arrays at what the proof data say and every semaphore counter at zero. -/
theorem run_main : θ_run defs (onTc (τ := τ) (main (F := Ideal))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

end run

end Cert.KernelIdeal.Fox

end
-- ==== Proof.Host.lean ====
module

public import proofs.«01_k».proof.Proof.Run
public import proofs.«01_k».proof.Proof.RefA
public import Idealize.ShloMosaic.Lib.StableHlo.ReadAt

/-! # What the kernel's program has computed on the host before the kernel starts

The forward pass that leaves the output and each row's normaliser is the reference's own lines. -/

@[expose] public section
set_option maxRecDepth 16384
noncomputable section
namespace Cert.KernelIdeal.Fox
open Idealize.ShloMosaic Idealize.ShloMosaic.TcCoe
open Cert.KernelIdeal.Gen
open Cert.FoxReal
open Cert.ReferenceIdeal.Fox (up up_apply qc kc vc oc qR kR vR dR cR sg sg_eq)
open Cert.ReferenceIdeal.Read

variable (m : (ℓ : Loc nD τ sig) → Buf (Elt Ideal) ℓ) (c : Dev nD)

def W8 (c : Dev nD) : S2048x4x128.Idx → EReal := V m c main_v8
def W25 (c : Dev nD) : S4x2048x2048.Idx → EReal := V m c main_v25
def W26 (c : Dev nD) : S4x2048.Idx → EReal := V m c main_v26
def W30 (c : Dev nD) : S4x2048x2048.Idx → EReal := V m c main_v30
def W31 (c : Dev nD) : S4x2048.Idx → EReal := V m c main_v31
def W34 (c : Dev nD) : S4x2048x2048.Idx → EReal := V m c main_v34
def W35 (c : Dev nD) : S4x128x2048.Idx → EReal := V m c main_v35
def W37 (c : Dev nD) : S2048x512.Idx → EReal := V m c main_v37
def W39 (c : Dev nD) : S4x2048x1.Idx → EReal := V m c main_v39
def W40 (c : Dev nD) : S4x2048x1.Idx → EReal := V m c main_v40
def W41 (c : Dev nD) : S4x1x2048.Idx → EReal := V m c main_v41

theorem V_v25 (c : Dev nD) : (W25 m c)
    = val_main_v25_0 (F := Ideal) (m ((c : Thread nD τ).loc main_arg0)) (m ((c : Thread nD τ).loc main_arg2)) := by
  simp only [W8, W25, W26, W30, W31, W34, W35, W37, W39, W40, W41]
  unfold V
  simp only [hostOps0, hostOps0_1, hostOps0_2, List.flatten_cons, List.flatten_nil, List.append_nil, List.cons_append, List.nil_append]
  after_reads_simp
  rfl

theorem V_v26 (c : Dev nD) : (W26 m c)
    = Host.reduce FloatOps.maximumf (W25 m c) (constant (F := Ideal) S_ .f32 0xFF800000#32) reducesTo_S4x2048x2048_S4x2048_d2 h_S_ := by
  simp only [W8, W25, W26, W30, W31, W34, W35, W37, W39, W40, W41]
  unfold V
  simp only [hostOps0, hostOps0_1, hostOps0_2, List.flatten_cons, List.flatten_nil, List.append_nil, List.cons_append, List.nil_append]
  after_reads_simp
  all_goals try congr 1
  all_goals try congr 1
  all_goals try rfl

theorem V_v8 (c : Dev nD) : (W8 m c)
    = val_main_v8 (F := Ideal) (m ((c : Thread nD τ).loc main_arg1)) := by
  simp only [W8, W25, W26, W30, W31, W34, W35, W37, W39, W40, W41]
  unfold V
  simp only [hostOps0, hostOps0_1, hostOps0_2, List.flatten_cons, List.flatten_nil, List.append_nil, List.cons_append, List.nil_append]
  after_reads_simp
  rfl

theorem V_v30 (c : Dev nD) : (W30 m c)
    = Host.exp (F := Ideal) (φ := .f32) (subf (F := Ideal) (φ := .f32) (W25 m c) (broadcastInDim S4x2048x2048 ![0, 1, 2] bcast_S4x2048x1_S4x2048x2048_0_1_2 (broadcastInDim S4x2048x1 ![0, 1] bcast_S4x2048_S4x2048x1_0_1 (W26 m c)))) := by
  simp only [W8, W25, W26, W30, W31, W34, W35, W37, W39, W40, W41]
  unfold V
  simp only [hostOps0, hostOps0_1, hostOps0_2, List.flatten_cons, List.flatten_nil, List.append_nil, List.cons_append, List.nil_append]
  after_reads_simp
  all_goals try congr 1
  all_goals try congr 1
  all_goals try rfl

theorem V_v31 (c : Dev nD) : (W31 m c)
    = Host.reduceAdd (F := Ideal) (φ := .f32) (W30 m c) (constant (F := Ideal) S_ .f32 0#32) reducesTo_S4x2048x2048_S4x2048_d2 h_S_ := by
  simp only [W8, W25, W26, W30, W31, W34, W35, W37, W39, W40, W41]
  unfold V
  simp only [hostOps0, hostOps0_1, hostOps0_2, List.flatten_cons, List.flatten_nil, List.append_nil, List.cons_append, List.nil_append]
  after_reads_simp
  all_goals try congr 1
  all_goals try congr 1
  all_goals try rfl

theorem V_v34 (c : Dev nD) : (W34 m c)
    = Host.divf (F := Ideal) (φ := .f32) (W30 m c) (broadcastInDim S4x2048x2048 ![0, 1, 2] bcast_S4x2048x1_S4x2048x2048_0_1_2 (broadcastInDim S4x2048x1 ![0, 1] bcast_S4x2048_S4x2048x1_0_1 (W31 m c))) := by
  simp only [W8, W25, W26, W30, W31, W34, W35, W37, W39, W40, W41]
  unfold V
  simp only [hostOps0, hostOps0_1, hostOps0_2, List.flatten_cons, List.flatten_nil, List.append_nil, List.cons_append, List.nil_append]
  after_reads_simp
  all_goals try congr 1
  all_goals try congr 1
  all_goals try rfl

theorem V_v35 (c : Dev nD) : (W35 m c)
    = Host.dotGeneral (F := Ideal) (φ₁ := .f32) (φ₂ := .f32) dot_S2048x4x128_S4x2048x2048_S4x128x2048_0_2_2_1_1_0 none (W8 m c) (W34 m c) := by
  simp only [W8, W25, W26, W30, W31, W34, W35, W37, W39, W40, W41]
  unfold V
  simp only [hostOps0, hostOps0_1, hostOps0_2, List.flatten_cons, List.flatten_nil, List.append_nil, List.cons_append, List.nil_append]
  after_reads_simp

theorem V_v37 (c : Dev nD) : (W37 m c)
    = shapeCast S2048x512 (transpose S2048x4x128 [2, 0, 1] (W35 m c) transposes_S4x128x2048_S2048x4x128_2_0_1) shapeCasts_S2048x4x128_S2048x512 := by
  simp only [W8, W25, W26, W30, W31, W34, W35, W37, W39, W40, W41]
  unfold V
  simp only [hostOps0, hostOps0_1, hostOps0_2, List.flatten_cons, List.flatten_nil, List.append_nil, List.cons_append, List.nil_append]
  after_reads_simp
  rfl

theorem V_v39 (c : Dev nD) : (W39 m c)
    = addf (F := Ideal) (φ := .f32) (broadcastInDim S4x2048x1 ![0, 1] bcast_S4x2048_S4x2048x1_0_1 (W26 m c)) (Host.log (F := Ideal) (φ := .f32) (broadcastInDim S4x2048x1 ![0, 1] bcast_S4x2048_S4x2048x1_0_1 (W31 m c))) := by
  simp only [W8, W25, W26, W30, W31, W34, W35, W37, W39, W40, W41]
  unfold V
  simp only [hostOps0, hostOps0_1, hostOps0_2, List.flatten_cons, List.flatten_nil, List.append_nil, List.cons_append, List.nil_append]
  after_reads_simp
  all_goals try congr 1
  all_goals try congr 1
  all_goals try rfl

theorem V_v40 (c : Dev nD) : (W40 m c)
    = shapeCast S4x2048x1 (m ((c : Thread nD τ).loc main_arg2)) shapeCasts_S4x2048_S4x2048x1 := by
  simp only [W8, W25, W26, W30, W31, W34, W35, W37, W39, W40, W41]
  unfold V
  simp only [hostOps0, hostOps0_1, hostOps0_2, List.flatten_cons, List.flatten_nil, List.append_nil, List.cons_append, List.nil_append]
  after_reads_simp
  all_goals try congr 1
  all_goals try congr 1
  all_goals try rfl

theorem V_v41 (c : Dev nD) : (W41 m c)
    = shapeCast S4x1x2048 (m ((c : Thread nD τ).loc main_arg2)) shapeCasts_S4x2048_S4x1x2048 := by
  simp only [W8, W25, W26, W30, W31, W34, W35, W37, W39, W40, W41]
  unfold V
  simp only [hostOps0, hostOps0_1, hostOps0_2, List.flatten_cons, List.flatten_nil, List.append_nil, List.cons_append, List.nil_append]
  after_reads_simp
  all_goals try congr 1
  all_goals try congr 1
  all_goals try rfl

variable (a0 : S2048x1024.Idx → ℝ) (a1 : S2048x5120.Idx → ℝ) (a2 : S4x2048.Idx → ℝ)
  (h0 : m ((c : Thread nD τ).loc main_arg0) = up a0) (h1 : m ((c : Thread nD τ).loc main_arg1) = up a1)
  (h2 : m ((c : Thread nD τ).loc main_arg2) = up a2)
  (M : Fin 4 → Fin 2048 → ℝ) (hM : ∀ h i, val_main_v26 (F := Ideal) (up a0) (up a2) (ix2 h i) = ((M h i : ℝ) : EReal))

include h0 h2 hM in
theorem V_v26_at (h : Fin 4) (i : Fin 2048) : (W26 m c) (ix2 h i) = ((M h i : ℝ) : EReal) := by
  have e : W26 m c = val_main_v26 (F := Ideal) (up a0) (up a2) := by
    rw [V_v26, V_v25, h0, h2]
    unfold val_main_v26 val_main_cst_1
    rfl
  rw [e, hM]

include h0 h2 hM in
theorem V_v30_at (h : Fin 4) (i j : Fin 2048) : (W30 m c) (ix3 h i j)
    = ((ex (qR a0) (kR a0) (cR a2) sg M h i j : ℝ) : EReal) := by
  have e : (W30 m c) (ix3 h i j)
      = Ideal.exp ((W25 m c) (ix3 h i j) - (W26 m c) (ix2 h i)) := by
    rw [V_v30]
    generalize (W25 m c) = y
    generalize (W26 m c) = z
    pointwise
  rw [e, V_v26_at m c a0 a2 h0 h2 M hM, V_v25, h0, h2, Cert.ReferenceIdeal.Fox.v25_at]
  unfold ex
  by_cases hji : j.val ≤ i.val
  · rw [if_pos hji, if_pos hji, ← EReal.coe_sub, Ideal.exp_coe]
  · rw [if_neg hji, if_neg hji, EReal.bot_sub]
    rfl

include h0 h2 hM in
theorem V_v31_at (h : Fin 4) (i : Fin 2048) : (W31 m c) (ix2 h i)
    = ((su (qR a0) (kR a0) (cR a2) sg M h i : ℝ) : EReal) := by
  have e : (W31 m c) (ix2 h i) = ∑ j, (W30 m c) (ix3 h i j) := by
    rw [V_v31]
    generalize (W30 m c) = y
    pointwise
  rw [e]
  simp only [V_v30_at m c a0 a2 h0 h2 M hM, coe_sum]
  rfl

theorem bcast_at (y : S4x2048.Idx → EReal) (h : Fin 4) (i : Fin 2048) (z : Fin 1) :
    broadcastInDim S4x2048x1 ![0, 1] bcast_S4x2048_S4x2048x1_0_1 y (ix3 h i z) = y (ix2 h i) := by
  pointwise

theorem addLog_at {s : Shape} (y u : s.Idx → EReal) (i : s.Idx) :
    addf (F := Ideal) (φ := .f32) y (Host.log (F := Ideal) (φ := .f32) u) i = y i + Ideal.log (u i) := rfl

theorem V_v39_apply (h : Fin 4) (i : Fin 2048) (z : Fin 1) : (W39 m c) (ix3 h i z)
    = (W26 m c) (ix2 h i) + Ideal.log ((W31 m c) (ix2 h i)) := by
  rw [V_v39]
  generalize (W26 m c) = y
  generalize (W31 m c) = u
  rw [addLog_at, bcast_at, bcast_at]

include h0 h2 hM in
/-- Each row's normaliser. -/
theorem V_v39_at (h : Fin 4) (i : Fin 2048) (z : Fin 1) : (W39 m c) (ix3 h i z)
    = ((lse (qR a0) (kR a0) (cR a2) sg M h i : ℝ) : EReal) := by
  have hs := su_pos (qR a0) (kR a0) (cR a2) sg M h i
  unfold lse
  rw [V_v39_apply, V_v26_at m c a0 a2 h0 h2 M hM, V_v31_at m c a0 a2 h0 h2 M hM]
  generalize su (qR a0) (kR a0) (cR a2) sg M h i = l at hs
  rw [Ideal.log_coe, if_neg (not_le.mpr hs), EReal.coe_add]

include h0 h1 h2 hM in
/-- The forward pass's output. -/
theorem V_v37_at (h : Fin 4) (i : Fin 2048) (e' : Fin 128) : (W37 m c) (ix2 i (oc h e'))
    = ((out (qR a0) (kR a0) (vR a1) (cR a2) sg M h i e' : ℝ) : EReal) := by
  have e34 : ∀ j, (W34 m c) (ix3 h i j) = ((pr (qR a0) (kR a0) (cR a2) sg M h i j : ℝ) : EReal) := by
    intro j
    have e : (W34 m c) (ix3 h i j)
        = Ideal.div ((W30 m c) (ix3 h i j)) ((W31 m c) (ix2 h i)) := by
      rw [V_v34]
      generalize (W30 m c) = y
      generalize (W31 m c) = u
      pointwise
    rw [e, V_v30_at m c a0 a2 h0 h2 M hM, V_v31_at m c a0 a2 h0 h2 M hM, Ideal.div_coe (su_pos _ _ _ _ _ _ _).ne', ← EReal.coe_mul, mul_one_div]
    rfl
  have e8 : ∀ j, (W8 m c) (ix3 j h e') = ((vR a1 h j e' : ℝ) : EReal) := by
    intro j
    rw [V_v8, h1]
    unfold vR
    rw [← up_apply a1]
    generalize up a1 = x1
    unfold val_main_v8 val_main_v7 val_main_v6
    pointwise
    rfl
  have e : (W37 m c) (ix2 i (oc h e'))
      = ∑ j, (W8 m c) (ix3 j h e') * (W34 m c) (ix3 h i j) := by
    rw [V_v37, V_v35]
    generalize (W8 m c) = y
    generalize (W34 m c) = u
    have hx : (oc h e').val / 128 = h.val ∧ (oc h e').val % 128 = e'.val := by
      unfold oc
      constructor <;> (dsimp only; omega)
    generalize oc h e' = x at hx
    obtain ⟨hx1, hx2⟩ := hx
    have hh : h = ⟨x.val / 128, by clear hx1 hx2; omega⟩ := Fin.ext hx1.symm
    have he : e' = ⟨x.val % 128, by clear hx1 hx2; omega⟩ := Fin.ext hx2.symm
    clear hx1 hx2 e34 e8
    subst hh
    subst he
    pointwise
  rw [e]
  simp only [e34, e8, ← EReal.coe_mul, coe_sum]
  rfl

include h2 in
theorem V_v40_at (h : Fin 4) (i : Fin 2048) (z : Fin 1) : (W40 m c) (ix3 h i z) = ((cR a2 h i : ℝ) : EReal) := by
  rw [V_v40, h2]
  unfold cR
  rw [← up_apply a2]
  generalize up a2 = x2
  pointwise

include h2 in
theorem V_v41_at (h : Fin 4) (i : Fin 2048) (z : Fin 1) : (W41 m c) (ix3 h z i) = ((cR a2 h i : ℝ) : EReal) := by
  rw [V_v41, h2]
  unfold cR
  rw [← up_apply a2]
  generalize up a2 = x2
  pointwise

end Cert.KernelIdeal.Fox
end
-- ==== Proof.RefB.lean ====
module

public import proofs.«01_k».proof.Proof.RefA

/-! # The reference's five results, read at an index, on arguments that are reals -/

@[expose] public section
set_option maxRecDepth 16384
noncomputable section
namespace Cert.ReferenceIdeal.Fox
open Idealize.ShloMosaic
open Cert.ReferenceIdeal Cert.ReferenceIdeal.Read
open Cert.FoxReal

/-- The head that owns column `x` of 512, and the column within the head. -/
def hd (x : Fin 512) : Fin 4 := ⟨x.val / 128, by omega⟩
def ln (x : Fin 512) : Fin 128 := ⟨x.val % 128, by omega⟩

variable (a0 : S2048x1024.Idx → ℝ) (a1 : S2048x5120.Idx → ℝ) (a2 : S4x2048.Idx → ℝ) (a3 : S2048x512.Idx → ℝ)
variable (M : Fin 4 → Fin 2048 → ℝ)
  (hM : ∀ h i, val_main_v26 (F := Ideal) (up a0) (up a2) (ix2 h i) = ((M h i : ℝ) : EReal))

theorem v2_at (i : Fin 2048) (h : Fin 4) (e : Fin 128) : val_main_v2 (F := Ideal) (up a0) (ix3 i h e) = ((qR a0 h i e : ℝ) : EReal) := by
  unfold qR
  rw [← up_apply a0]
  generalize up a0 = x0
  unfold val_main_v2 val_main_v1 val_main_v0
  pointwise
  rfl

theorem v5_at (i : Fin 2048) (h : Fin 4) (e : Fin 128) : val_main_v5 (F := Ideal) (up a0) (ix3 i h e) = ((kR a0 h i e : ℝ) : EReal) := by
  unfold kR
  rw [← up_apply a0]
  generalize up a0 = x0
  unfold val_main_v5 val_main_v4 val_main_v3
  pointwise
  rfl

theorem v57_at (h : Fin 4) (e : Fin 128) (i : Fin 2048) : val_main_v57 (F := Ideal) (up a3) (ix3 h e i) = ((dR a3 h i e : ℝ) : EReal) := by
  unfold dR
  rw [← up_apply a3]
  generalize up a3 = x3
  unfold val_main_v57 val_main_v56
  pointwise
  rfl

include hM in
theorem v87_at (i : Fin 2048) (x : Fin 512) :
    val_main_v87 (F := Ideal) (up a0) (up a1) (up a2) (up a3) (ix2 i x)
      = ((∑ j, ds (qR a0) (kR a0) (vR a1) (dR a3) (cR a2) sg M (hd x) i j * sg * kR a0 (hd x) j (ln x) : ℝ) : EReal) := by
  have e : val_main_v87 (F := Ideal) (up a0) (up a1) (up a2) (up a3) (ix2 i x)
      = ∑ j, val_main_v73 (F := Ideal) (up a0) (up a1) (up a2) (up a3) (ix3 (hd x) i j) * Ideal.ofBits FTy.f32 1035273459#32
          * val_main_v5 (F := Ideal) (up a0) (ix3 j (hd x) (ln x)) := by
    unfold val_main_v87 val_main_v86 val_main_v85 val_main_v82 val_main_v81 val_main_cst_17
    generalize val_main_v73 (F := Ideal) (up a0) (up a1) (up a2) (up a3) = y
    generalize val_main_v5 (F := Ideal) (up a0) = z
    pointwise
    rfl
  rw [e, sg_eq]
  simp only [v73_at a0 a1 a2 a3 M hM, v5_at, ← EReal.coe_mul, coe_sum]

include hM in
theorem v88_at (j : Fin 2048) (x : Fin 512) :
    val_main_v88 (F := Ideal) (up a0) (up a1) (up a2) (up a3) (ix2 j x)
      = ((∑ i, ds (qR a0) (kR a0) (vR a1) (dR a3) (cR a2) sg M (hd x) i j * sg * qR a0 (hd x) i (ln x) : ℝ) : EReal) := by
  have e : val_main_v88 (F := Ideal) (up a0) (up a1) (up a2) (up a3) (ix2 j x)
      = ∑ i, val_main_v73 (F := Ideal) (up a0) (up a1) (up a2) (up a3) (ix3 (hd x) i j) * Ideal.ofBits FTy.f32 1035273459#32
          * val_main_v2 (F := Ideal) (up a0) (ix3 i (hd x) (ln x)) := by
    unfold val_main_v88 val_main_v84 val_main_v83 val_main_v82 val_main_v81 val_main_cst_17
    generalize val_main_v73 (F := Ideal) (up a0) (up a1) (up a2) (up a3) = y
    generalize val_main_v2 (F := Ideal) (up a0) = z
    pointwise
    rfl
  rw [e, sg_eq]
  simp only [v73_at a0 a1 a2 a3 M hM, v2_at, ← EReal.coe_mul, coe_sum]

include hM in
theorem v89_at (j : Fin 2048) (x : Fin 512) :
    val_main_v89 (F := Ideal) (up a0) (up a2) (up a3) (ix2 j x)
      = ((∑ i, dR a3 (hd x) i (ln x) * pr (qR a0) (kR a0) (cR a2) sg M (hd x) i j : ℝ) : EReal) := by
  have e : val_main_v89 (F := Ideal) (up a0) (up a2) (up a3) (ix2 j x)
      = ∑ i, val_main_v57 (F := Ideal) (up a3) (ix3 (hd x) (ln x) i) * val_main_v50 (F := Ideal) (up a0) (up a2) (ix3 (hd x) i j) := by
    unfold val_main_v89 val_main_v60 val_main_v59
    generalize val_main_v50 (F := Ideal) (up a0) (up a2) = y
    generalize val_main_v57 (F := Ideal) (up a3) = z
    pointwise
    rfl
  rw [e]
  simp only [v57_at, v50_at a0 a2 M hM, ← EReal.coe_mul, coe_sum]

include hM in
theorem v90_at (h : Fin 4) (i : Fin 2048) (z : Fin 1) :
    val_main_v90 (F := Ideal) (up a0) (up a1) (up a2) (up a3) (ix3 h i z)
      = ((∑ j, ds (qR a0) (kR a0) (vR a1) (dR a3) (cR a2) sg M h i j : ℝ) : EReal) := by
  have e : val_main_v90 (F := Ideal) (up a0) (up a1) (up a2) (up a3) (ix3 h i z)
      = ∑ j, val_main_v73 (F := Ideal) (up a0) (up a1) (up a2) (up a3) (ix3 h i j) := by
    unfold val_main_v90 val_main_v80 val_main_v79 val_main_v78 val_main_cst_15 val_main_cst_16
    generalize val_main_v73 (F := Ideal) (up a0) (up a1) (up a2) (up a3) = y
    pointwise
    rw [Fin.sum_univ_one]
  rw [e]
  simp only [v73_at a0 a1 a2 a3 M hM, coe_sum]

include hM in
theorem v92_at (h : Fin 4) (j : Fin 2048) (z : Fin 1) :
    val_main_v92 (F := Ideal) (up a0) (up a1) (up a2) (up a3) (ix3 h z j)
      = ((∑ i, ds (qR a0) (kR a0) (vR a1) (dR a3) (cR a2) sg M h i j : ℝ) : EReal) := by
  have e : val_main_v92 (F := Ideal) (up a0) (up a1) (up a2) (up a3) (ix3 h z j)
      = -∑ i, -val_main_v73 (F := Ideal) (up a0) (up a1) (up a2) (up a3) (ix3 h i j) := by
    unfold val_main_v92 val_main_v91 val_main_v77 val_main_v76 val_main_v75 val_main_v74 val_main_cst_13 val_main_cst_14
    generalize val_main_v73 (F := Ideal) (up a0) (up a1) (up a2) (up a3) = y
    pointwise
    rw [Fin.sum_univ_one]
  rw [e]
  simp only [v73_at a0 a1 a2 a3 M hM, ← EReal.coe_neg, coe_sum, Finset.sum_neg_distrib, neg_neg]

end Cert.ReferenceIdeal.Fox
end
-- ==== Proof.Places.lean ====
module

public import proofs.«01_k».proof.Proof.Host
public import proofs.«01_k».proof.Proof.RefB
public import Idealize.ShloMosaic.Lib.Pipeline.Value

/-! # The forgetting attention's backward kernel: what its five results hold at the end

Where each window's block lies in its array; then, on arguments that are reals, each point's parts and the
five results. -/

@[expose] public section

set_option maxRecDepth 16384

noncomputable section

namespace Cert.KernelIdeal.Fox

open Idealize.ShloMosaic Idealize.ShloMosaic.TcCoe
open Idealize.SL.Sem
open Idealize.ShloMosaic.Pipeline (Dat Cfg Window)
open Cert.KernelIdeal.Gen
open Cert.FoxReal
open Cert.ReferenceIdeal.Fox (up up_apply qc kc vc oc qR kR vR dR cR sg sg_eq hd ln)
open Cert.ReferenceIdeal.Read (val_main_v26)

theorem lt_N (t : Fin cfg0.N) : t.val < 16 := lt_of_lt_of_eq t.isLt N_0

/-- The head of point `t`, and the row of the arrays that row `r` of its query block is. -/
def H (t : Fin cfg0.N) : Fin 4 := ⟨t.val / 4, by have := lt_N t; omega⟩
def row (t : Fin cfg0.N) (r : Fin 512) : Fin 2048 := ⟨512 * (t.val % 4) + r.val, by omega⟩

theorem index_0 (t : Fin cfg0.N) : win0_0.index t 0 = t.val % 4 ∧ win0_0.index t 1 = t.val / 4 := by
  rcases fin_N0 t with h | h | h | h | h | h | h | h | h | h | h | h | h | h | h | h <;> subst h <;> decide +kernel

theorem emb_0 (t : Fin cfg0.N) (r : Fin 512) (e : Fin 128) : (win0_0.rect t).emb (ix2 r e) = ix2 (row t r) (qc (H t) e) := by
  have hi := index_0 t
  refine funext fun a => ?_
  match a with
  | ⟨0, _⟩ =>
    refine Fin.ext ((Window.rect_emb_val win0_0 t (ix2 r e) 0).trans ?_)
    rw [hi.1]
    show (t.val % 4) * 512 + r.val = 512 * (t.val % 4) + r.val
    omega
  | ⟨1, _⟩ =>
    refine Fin.ext ((Window.rect_emb_val win0_0 t (ix2 r e) 1).trans ?_)
    rw [hi.2]
    show (t.val / 4) * 128 + e.val = t.val / 4 * 128 + e.val
    omega

theorem index_1 (t : Fin cfg0.N) : win0_1.index t 0 = 0 ∧ win0_1.index t 1 = 4 + t.val / 4 := by
  rcases fin_N0 t with h | h | h | h | h | h | h | h | h | h | h | h | h | h | h | h <;> subst h <;> decide +kernel

theorem emb_1 (t : Fin cfg0.N) (r : Fin 2048) (e : Fin 128) : (win0_1.rect t).emb (ix2 r e) = ix2 r (kc (H t) e) := by
  have hi := index_1 t
  refine funext fun a => ?_
  match a with
  | ⟨0, _⟩ =>
    refine Fin.ext ((Window.rect_emb_val win0_1 t (ix2 r e) 0).trans ?_)
    rw [hi.1]
    show (0) * 2048 + r.val = r.val
    omega
  | ⟨1, _⟩ =>
    refine Fin.ext ((Window.rect_emb_val win0_1 t (ix2 r e) 1).trans ?_)
    rw [hi.2]
    show (4 + t.val / 4) * 128 + e.val = 512 + (t.val / 4 * 128 + e.val)
    omega

theorem index_2 (t : Fin cfg0.N) : win0_2.index t 0 = 0 ∧ win0_2.index t 1 = 36 + t.val / 4 := by
  rcases fin_N0 t with h | h | h | h | h | h | h | h | h | h | h | h | h | h | h | h <;> subst h <;> decide +kernel

theorem emb_2 (t : Fin cfg0.N) (r : Fin 2048) (e : Fin 128) : (win0_2.rect t).emb (ix2 r e) = ix2 r (vc (H t) e) := by
  have hi := index_2 t
  refine funext fun a => ?_
  match a with
  | ⟨0, _⟩ =>
    refine Fin.ext ((Window.rect_emb_val win0_2 t (ix2 r e) 0).trans ?_)
    rw [hi.1]
    show (0) * 2048 + r.val = r.val
    omega
  | ⟨1, _⟩ =>
    refine Fin.ext ((Window.rect_emb_val win0_2 t (ix2 r e) 1).trans ?_)
    rw [hi.2]
    show (36 + t.val / 4) * 128 + e.val = 4608 + (t.val / 4 * 128 + e.val)
    omega

theorem index_3 (t : Fin cfg0.N) : win0_3.index t 0 = t.val / 4 ∧ win0_3.index t 1 = t.val % 4 ∧ win0_3.index t 2 = 0 := by
  rcases fin_N0 t with h | h | h | h | h | h | h | h | h | h | h | h | h | h | h | h <;> subst h <;> decide +kernel

theorem emb_3 (t : Fin cfg0.N) (z : Fin 1) (r : Fin 512) (y : Fin 1) : (win0_3.rect t).emb (ix3 z r y) = ix3 (H t) (row t r) y := by
  have hi := index_3 t
  refine funext fun a => ?_
  match a with
  | ⟨0, _⟩ =>
    refine Fin.ext ((Window.rect_emb_val win0_3 t (ix3 z r y) 0).trans ?_)
    rw [hi.1]
    show (t.val / 4) * 1 + z.val = t.val / 4
    omega
  | ⟨1, _⟩ =>
    refine Fin.ext ((Window.rect_emb_val win0_3 t (ix3 z r y) 1).trans ?_)
    rw [hi.2.1]
    show (t.val % 4) * 512 + r.val = 512 * (t.val % 4) + r.val
    omega
  | ⟨2, _⟩ =>
    refine Fin.ext ((Window.rect_emb_val win0_3 t (ix3 z r y) 2).trans ?_)
    rw [hi.2.2]
    show (0) * 1 + y.val = y.val
    omega

theorem index_4 (t : Fin cfg0.N) : win0_4.index t 0 = t.val / 4 ∧ win0_4.index t 1 = 0 ∧ win0_4.index t 2 = 0 := by
  rcases fin_N0 t with h | h | h | h | h | h | h | h | h | h | h | h | h | h | h | h <;> subst h <;> decide +kernel

theorem emb_4 (t : Fin cfg0.N) (z y : Fin 1) (r : Fin 2048) : (win0_4.rect t).emb (ix3 z y r) = ix3 (H t) y r := by
  have hi := index_4 t
  refine funext fun a => ?_
  match a with
  | ⟨0, _⟩ =>
    refine Fin.ext ((Window.rect_emb_val win0_4 t (ix3 z y r) 0).trans ?_)
    rw [hi.1]
    show (t.val / 4) * 1 + z.val = t.val / 4
    omega
  | ⟨1, _⟩ =>
    refine Fin.ext ((Window.rect_emb_val win0_4 t (ix3 z y r) 1).trans ?_)
    rw [hi.2.1]
    show (0) * 1 + y.val = y.val
    omega
  | ⟨2, _⟩ =>
    refine Fin.ext ((Window.rect_emb_val win0_4 t (ix3 z y r) 2).trans ?_)
    rw [hi.2.2]
    show (0) * 2048 + r.val = r.val
    omega

theorem index_5 (t : Fin cfg0.N) : win0_5.index t 0 = t.val / 4 ∧ win0_5.index t 1 = t.val % 4 ∧ win0_5.index t 2 = 0 := by
  rcases fin_N0 t with h | h | h | h | h | h | h | h | h | h | h | h | h | h | h | h <;> subst h <;> decide +kernel

theorem emb_5 (t : Fin cfg0.N) (z : Fin 1) (r : Fin 512) (y : Fin 1) : (win0_5.rect t).emb (ix3 z r y) = ix3 (H t) (row t r) y := by
  have hi := index_5 t
  refine funext fun a => ?_
  match a with
  | ⟨0, _⟩ =>
    refine Fin.ext ((Window.rect_emb_val win0_5 t (ix3 z r y) 0).trans ?_)
    rw [hi.1]
    show (t.val / 4) * 1 + z.val = t.val / 4
    omega
  | ⟨1, _⟩ =>
    refine Fin.ext ((Window.rect_emb_val win0_5 t (ix3 z r y) 1).trans ?_)
    rw [hi.2.1]
    show (t.val % 4) * 512 + r.val = 512 * (t.val % 4) + r.val
    omega
  | ⟨2, _⟩ =>
    refine Fin.ext ((Window.rect_emb_val win0_5 t (ix3 z r y) 2).trans ?_)
    rw [hi.2.2]
    show (0) * 1 + y.val = y.val
    omega

theorem index_6 (t : Fin cfg0.N) : win0_6.index t 0 = t.val % 4 ∧ win0_6.index t 1 = t.val / 4 := by
  rcases fin_N0 t with h | h | h | h | h | h | h | h | h | h | h | h | h | h | h | h <;> subst h <;> decide +kernel

theorem emb_6 (t : Fin cfg0.N) (r : Fin 512) (e : Fin 128) : (win0_6.rect t).emb (ix2 r e) = ix2 (row t r) (oc (H t) e) := by
  have hi := index_6 t
  refine funext fun a => ?_
  match a with
  | ⟨0, _⟩ =>
    refine Fin.ext ((Window.rect_emb_val win0_6 t (ix2 r e) 0).trans ?_)
    rw [hi.1]
    show (t.val % 4) * 512 + r.val = 512 * (t.val % 4) + r.val
    omega
  | ⟨1, _⟩ =>
    refine Fin.ext ((Window.rect_emb_val win0_6 t (ix2 r e) 1).trans ?_)
    rw [hi.2]
    show (t.val / 4) * 128 + e.val = t.val / 4 * 128 + e.val
    omega

theorem index_7 (t : Fin cfg0.N) : win0_7.index t 0 = t.val % 4 ∧ win0_7.index t 1 = t.val / 4 := by
  rcases fin_N0 t with h | h | h | h | h | h | h | h | h | h | h | h | h | h | h | h <;> subst h <;> decide +kernel

theorem emb_7 (t : Fin cfg0.N) (r : Fin 512) (e : Fin 128) : (win0_7.rect t).emb (ix2 r e) = ix2 (row t r) (oc (H t) e) := by
  have hi := index_7 t
  refine funext fun a => ?_
  match a with
  | ⟨0, _⟩ =>
    refine Fin.ext ((Window.rect_emb_val win0_7 t (ix2 r e) 0).trans ?_)
    rw [hi.1]
    show (t.val % 4) * 512 + r.val = 512 * (t.val % 4) + r.val
    omega
  | ⟨1, _⟩ =>
    refine Fin.ext ((Window.rect_emb_val win0_7 t (ix2 r e) 1).trans ?_)
    rw [hi.2]
    show (t.val / 4) * 128 + e.val = t.val / 4 * 128 + e.val
    omega

theorem index_8 (t : Fin cfg0.N) : win0_8.index t 0 = t.val % 4 ∧ win0_8.index t 1 = t.val / 4 := by
  rcases fin_N0 t with h | h | h | h | h | h | h | h | h | h | h | h | h | h | h | h <;> subst h <;> decide +kernel

theorem emb_8 (t : Fin cfg0.N) (r : Fin 512) (e : Fin 128) : (win0_8.rect t).emb (ix2 r e) = ix2 (row t r) (oc (H t) e) := by
  have hi := index_8 t
  refine funext fun a => ?_
  match a with
  | ⟨0, _⟩ =>
    refine Fin.ext ((Window.rect_emb_val win0_8 t (ix2 r e) 0).trans ?_)
    rw [hi.1]
    show (t.val % 4) * 512 + r.val = 512 * (t.val % 4) + r.val
    omega
  | ⟨1, _⟩ =>
    refine Fin.ext ((Window.rect_emb_val win0_8 t (ix2 r e) 1).trans ?_)
    rw [hi.2]
    show (t.val / 4) * 128 + e.val = t.val / 4 * 128 + e.val
    omega

theorem index_9 (t : Fin cfg0.N) : win0_9.index t 0 = 0 ∧ win0_9.index t 1 = t.val / 4 := by
  rcases fin_N0 t with h | h | h | h | h | h | h | h | h | h | h | h | h | h | h | h <;> subst h <;> decide +kernel

theorem emb_9 (t : Fin cfg0.N) (r : Fin 2048) (e : Fin 128) : (win0_9.rect t).emb (ix2 r e) = ix2 r (oc (H t) e) := by
  have hi := index_9 t
  refine funext fun a => ?_
  match a with
  | ⟨0, _⟩ =>
    refine Fin.ext ((Window.rect_emb_val win0_9 t (ix2 r e) 0).trans ?_)
    rw [hi.1]
    show (0) * 2048 + r.val = r.val
    omega
  | ⟨1, _⟩ =>
    refine Fin.ext ((Window.rect_emb_val win0_9 t (ix2 r e) 1).trans ?_)
    rw [hi.2]
    show (t.val / 4) * 128 + e.val = t.val / 4 * 128 + e.val
    omega

theorem index_10 (t : Fin cfg0.N) : win0_10.index t 0 = 0 ∧ win0_10.index t 1 = t.val / 4 := by
  rcases fin_N0 t with h | h | h | h | h | h | h | h | h | h | h | h | h | h | h | h <;> subst h <;> decide +kernel

theorem emb_10 (t : Fin cfg0.N) (r : Fin 2048) (e : Fin 128) : (win0_10.rect t).emb (ix2 r e) = ix2 r (oc (H t) e) := by
  have hi := index_10 t
  refine funext fun a => ?_
  match a with
  | ⟨0, _⟩ =>
    refine Fin.ext ((Window.rect_emb_val win0_10 t (ix2 r e) 0).trans ?_)
    rw [hi.1]
    show (0) * 2048 + r.val = r.val
    omega
  | ⟨1, _⟩ =>
    refine Fin.ext ((Window.rect_emb_val win0_10 t (ix2 r e) 1).trans ?_)
    rw [hi.2]
    show (t.val / 4) * 128 + e.val = t.val / 4 * 128 + e.val
    omega

theorem index_11 (t : Fin cfg0.N) : win0_11.index t 0 = t.val / 4 ∧ win0_11.index t 1 = t.val % 4 ∧ win0_11.index t 2 = 0 := by
  rcases fin_N0 t with h | h | h | h | h | h | h | h | h | h | h | h | h | h | h | h <;> subst h <;> decide +kernel

theorem emb_11 (t : Fin cfg0.N) (z : Fin 1) (r : Fin 512) (y : Fin 1) : (win0_11.rect t).emb (ix3 z r y) = ix3 (H t) (row t r) y := by
  have hi := index_11 t
  refine funext fun a => ?_
  match a with
  | ⟨0, _⟩ =>
    refine Fin.ext ((Window.rect_emb_val win0_11 t (ix3 z r y) 0).trans ?_)
    rw [hi.1]
    show (t.val / 4) * 1 + z.val = t.val / 4
    omega
  | ⟨1, _⟩ =>
    refine Fin.ext ((Window.rect_emb_val win0_11 t (ix3 z r y) 1).trans ?_)
    rw [hi.2.1]
    show (t.val % 4) * 512 + r.val = 512 * (t.val % 4) + r.val
    omega
  | ⟨2, _⟩ =>
    refine Fin.ext ((Window.rect_emb_val win0_11 t (ix3 z r y) 2).trans ?_)
    rw [hi.2.2]
    show (0) * 1 + y.val = y.val
    omega

theorem index_12 (t : Fin cfg0.N) : win0_12.index t 0 = t.val / 4 ∧ win0_12.index t 1 = 0 ∧ win0_12.index t 2 = 0 := by
  rcases fin_N0 t with h | h | h | h | h | h | h | h | h | h | h | h | h | h | h | h <;> subst h <;> decide +kernel

theorem emb_12 (t : Fin cfg0.N) (z y : Fin 1) (r : Fin 2048) : (win0_12.rect t).emb (ix3 z y r) = ix3 (H t) y r := by
  have hi := index_12 t
  refine funext fun a => ?_
  match a with
  | ⟨0, _⟩ =>
    refine Fin.ext ((Window.rect_emb_val win0_12 t (ix3 z y r) 0).trans ?_)
    rw [hi.1]
    show (t.val / 4) * 1 + z.val = t.val / 4
    omega
  | ⟨1, _⟩ =>
    refine Fin.ext ((Window.rect_emb_val win0_12 t (ix3 z y r) 1).trans ?_)
    rw [hi.2.1]
    show (0) * 1 + y.val = y.val
    omega
  | ⟨2, _⟩ =>
    refine Fin.ext ((Window.rect_emb_val win0_12 t (ix3 z y r) 2).trans ?_)
    rw [hi.2.2]
    show (0) * 2048 + r.val = r.val
    omega

end Cert.KernelIdeal.Fox
end
-- ==== Proof.Final.lean ====
module

public import proofs.«01_k».proof.Proof.Places

/-! # The forgetting attention's backward kernel: what its five results hold at the end

On arguments that are reals: each point's parts, then the five results, equal to the reference's. -/

@[expose] public section

set_option maxRecDepth 16384

noncomputable section

namespace Cert.KernelIdeal.Fox

open Idealize.ShloMosaic Idealize.ShloMosaic.TcCoe
open Idealize.SL.Sem
open Idealize.ShloMosaic.Pipeline (Dat Cfg Window)
open Cert.KernelIdeal.Gen
open Cert.FoxReal
open Cert.ReferenceIdeal.Fox (up up_apply qc kc vc oc qR kR vR dR cR sg sg_eq hd ln)
open Cert.ReferenceIdeal.Read (val_main_v26 val_main_v87 val_main_v88 val_main_v89 val_main_v90 val_main_v92)

theorem hd_oc (h : Fin 4) (e : Fin 128) : hd (oc h e) = h := Fin.ext (by show (h.val * 128 + e.val) / 128 = h.val; omega)
theorem ln_oc (h : Fin 4) (e : Fin 128) : ln (oc h e) = e := Fin.ext (by show (h.val * 128 + e.val) % 128 = e.val; omega)
theorem oc_hd_ln (x : Fin 512) : oc (hd x) (ln x) = x := Fin.ext (by show x.val / 128 * 128 + x.val % 128 = x.val; omega)

/-- A sum over 2048 rows, block by block. -/
theorem sum_blocks (f : Fin 2048 → ℝ) : ∑ n : Fin 4, ∑ r : Fin 512, f ⟨512 * n.val + r.val, by omega⟩ = ∑ i, f i := by
  rw [← Fintype.sum_prod_type' (f := fun (n : Fin 4) (r : Fin 512) => f ⟨512 * n.val + r.val, by omega⟩)]
  refine Fintype.sum_equiv (finProdFinEquiv (m := 4) (n := 512)) _ _ fun x => congrArg f (Fin.ext ?_)
  show 512 * x.1.val + x.2.val = x.2.val + 512 * x.1.val
  omega

variable (m : (ℓ : Loc nD τ sig) → Buf (Elt Ideal) ℓ) (c : Dev nD)
variable (a0 : S2048x1024.Idx → ℝ) (a1 : S2048x5120.Idx → ℝ) (a2 : S4x2048.Idx → ℝ) (a3 : S2048x512.Idx → ℝ)
  (h0 : m ((c : Thread nD τ).loc main_arg0) = up a0) (h1 : m ((c : Thread nD τ).loc main_arg1) = up a1)
  (h2 : m ((c : Thread nD τ).loc main_arg2) = up a2) (h3 : m ((c : Thread nD τ).loc main_arg3) = up a3)
  (M : Fin 4 → Fin 2048 → ℝ) (hM : ∀ h i, val_main_v26 (F := Ideal) (up a0) (up a2) (ix2 h i) = ((M h i : ℝ) : EReal))

/-! ## The blocks a point reads -/

include h0 in
theorem iblk_0 (t : Fin cfg0.N) (r : Fin 512) (e : Fin 128) :
    iblk m c 0 t (ix2 r e) = ((qR a0 (H t) (row t r) e : ℝ) : EReal) := by
  show V m c main_arg0 ((win0_0.rect t).emb (ix2 r e)) = _
  rw [emb_0, V_main_arg0, h0]
  rfl

include h0 in
theorem iblk_1 (t : Fin cfg0.N) (j : Fin 2048) (e : Fin 128) :
    iblk m c 1 t (ix2 j e) = ((kR a0 (H t) j e : ℝ) : EReal) := by
  show V m c main_arg0 ((win0_1.rect t).emb (ix2 j e)) = _
  rw [emb_1, V_main_arg0, h0]
  rfl

include h1 in
theorem iblk_2 (t : Fin cfg0.N) (j : Fin 2048) (e : Fin 128) :
    iblk m c 2 t (ix2 j e) = ((vR a1 (H t) j e : ℝ) : EReal) := by
  show V m c main_arg1 ((win0_2.rect t).emb (ix2 j e)) = _
  rw [emb_2, V_main_arg1, h1]
  rfl

/-- A block's entry, in the array it is read from. -/
theorem read_3 (t : Fin cfg0.N) (B : S4x2048x1.Idx → EReal) (z : Fin 1) (r : Fin 512) (y : Fin 1) :
    ((cfg0.win 3).blk t).view.read (Elt Ideal) B (ix3 z r y) = B ((win0_3.rect t).emb (ix3 z r y)) := rfl

include h2 in
theorem iblk_3 (t : Fin cfg0.N) (z : Fin 1) (r : Fin 512) (y : Fin 1) :
    iblk m c 3 t (ix3 z r y) = ((cR a2 (H t) (row t r) : ℝ) : EReal) := by
  refine (read_3 t (V m c main_v40) z r y).trans ?_
  refine (congrArg (W40 m c) (emb_3 t z r y)).trans ?_
  rw [V_v40_at m c a2 h2]

/-- A block's entry, in the array it is read from. -/
theorem read_4 (t : Fin cfg0.N) (B : S4x1x2048.Idx → EReal) (z y : Fin 1) (j : Fin 2048) :
    ((cfg0.win 4).blk t).view.read (Elt Ideal) B (ix3 z y j) = B ((win0_4.rect t).emb (ix3 z y j)) := rfl

include h2 in
theorem iblk_4 (t : Fin cfg0.N) (z y : Fin 1) (j : Fin 2048) :
    iblk m c 4 t (ix3 z y j) = ((cR a2 (H t) j : ℝ) : EReal) := by
  refine (read_4 t (V m c main_v41) z y j).trans ?_
  refine (congrArg (W41 m c) (emb_4 t z y j)).trans ?_
  rw [V_v41_at m c a2 h2]

/-- A block's entry, in the array it is read from. -/
theorem read_5 (t : Fin cfg0.N) (B : S4x2048x1.Idx → EReal) (z : Fin 1) (r : Fin 512) (y : Fin 1) :
    ((cfg0.win 5).blk t).view.read (Elt Ideal) B (ix3 z r y) = B ((win0_5.rect t).emb (ix3 z r y)) := rfl

include h0 h2 hM in
theorem iblk_5 (t : Fin cfg0.N) (z : Fin 1) (r : Fin 512) (y : Fin 1) :
    iblk m c 5 t (ix3 z r y) = ((lse (qR a0) (kR a0) (cR a2) sg M (H t) (row t r) : ℝ) : EReal) := by
  refine (read_5 t (V m c main_v39) z r y).trans ?_
  refine (congrArg (W39 m c) (emb_5 t z r y)).trans ?_
  rw [V_v39_at m c a0 a2 h0 h2 M hM]

/-- A block's entry, in the array it is read from. -/
theorem read_6 (t : Fin cfg0.N) (B : S2048x512.Idx → EReal) (r : Fin 512) (e : Fin 128) :
    ((cfg0.win 6).blk t).view.read (Elt Ideal) B (ix2 r e) = B ((win0_6.rect t).emb (ix2 r e)) := rfl

include h0 h1 h2 hM in
theorem iblk_6 (t : Fin cfg0.N) (r : Fin 512) (e : Fin 128) :
    iblk m c 6 t (ix2 r e) = ((out (qR a0) (kR a0) (vR a1) (cR a2) sg M (H t) (row t r) e : ℝ) : EReal) := by
  refine (read_6 t (V m c main_v37) r e).trans ?_
  refine (congrArg (W37 m c) (emb_6 t r e)).trans ?_
  rw [V_v37_at m c a0 a1 a2 h0 h1 h2 M hM]

include h3 in
theorem iblk_7 (t : Fin cfg0.N) (r : Fin 512) (e : Fin 128) :
    iblk m c 7 t (ix2 r e) = ((dR a3 (H t) (row t r) e : ℝ) : EReal) := by
  show V m c main_arg3 ((win0_7.rect t).emb (ix2 r e)) = _
  rw [emb_7, V_main_arg3, h3]
  rfl

/-! ## What a point computes -/

include h0 h2 hM in
theorem pB_real (t : Fin cfg0.N) (r : Fin 512) (j : Fin 2048) :
    pB (t.val % 4) (iblk m c 0 t) (iblk m c 1 t) (iblk m c 3 t) (iblk m c 4 t) (iblk m c 5 t) r j
      = ((pr (qR a0) (kR a0) (cR a2) sg M (H t) (row t r) j : ℝ) : EReal) := by
  unfold pB
  rw [pr_eq]
  have hr : (row t r).val = 512 * (t.val % 4) + r.val := rfl
  rw [← hr]
  simp only [iblk_0 m c a0 h0, iblk_1 m c a0 h0, iblk_3 m c a2 h2, iblk_4 m c a2 h2, iblk_5 m c a0 a2 h0 h2 M hM,
    scl, sg_eq, ← EReal.coe_mul, coe_sum, ← EReal.coe_add, ← EReal.coe_sub]
  by_cases hji : j.val ≤ (row t r).val
  · rw [if_pos hji, if_pos hji, ← EReal.coe_sub, Ideal.exp_coe]
    rfl
  · rw [if_neg hji, if_neg hji, EReal.bot_sub]
    rfl

include h0 h1 h2 h3 hM in
theorem dsB_real (t : Fin cfg0.N) (r : Fin 512) (j : Fin 2048) :
    dsB (t.val % 4) (iblk m c 0 t) (iblk m c 1 t) (iblk m c 2 t) (iblk m c 3 t) (iblk m c 4 t) (iblk m c 5 t) (iblk m c 6 t) (iblk m c 7 t) r j
      = ((ds (qR a0) (kR a0) (vR a1) (dR a3) (cR a2) sg M (H t) (row t r) j : ℝ) : EReal) := by
  unfold dsB dltB
  rw [pB_real m c a0 a2 h0 h2 M hM]
  simp only [iblk_2 m c a1 h1, iblk_6 m c a0 a1 a2 h0 h1 h2 M hM, iblk_7 m c a3 h3, ← EReal.coe_mul, coe_sum, ← EReal.coe_sub]
  rfl

include h0 h1 h2 h3 hM in
theorem dqP_real (t : Fin cfg0.N) (r : Fin 512) (e : Fin 128) :
    dqP m c t (ix2 r e) = ((∑ j, ds (qR a0) (kR a0) (vR a1) (dR a3) (cR a2) sg M (H t) (row t r) j * sg * kR a0 (H t) j e : ℝ) : EReal) := by
  unfold dqP
  rw [dqB_at]
  simp only [dsB_real m c a0 a1 a2 a3 h0 h1 h2 h3 M hM, iblk_1 m c a0 h0, scl, sg_eq, ← EReal.coe_mul, coe_sum]
  refine congrArg _ ?_
  rw [Finset.sum_mul]
  exact Finset.sum_congr rfl fun j _ => by ring

include h0 h1 h2 h3 hM in
theorem drP_real (t : Fin cfg0.N) (z : Fin 1) (r : Fin 512) (y : Fin 1) :
    drP m c t (ix3 z r y) = ((∑ j, ds (qR a0) (kR a0) (vR a1) (dR a3) (cR a2) sg M (H t) (row t r) j : ℝ) : EReal) := by
  unfold drP
  rw [drB_at]
  simp only [dsB_real m c a0 a1 a2 a3 h0 h1 h2 h3 M hM, coe_sum]

include h0 h1 h2 h3 hM in
theorem dkP_real (t : Fin cfg0.N) (j : Fin 2048) (e : Fin 128) :
    dkP m c t (ix2 j e) = ((∑ r, ds (qR a0) (kR a0) (vR a1) (dR a3) (cR a2) sg M (H t) (row t r) j * sg * qR a0 (H t) (row t r) e : ℝ) : EReal) := by
  unfold dkP
  rw [dkB_at]
  simp only [dsB_real m c a0 a1 a2 a3 h0 h1 h2 h3 M hM, iblk_0 m c a0 h0, scl, sg_eq, ← EReal.coe_mul, coe_sum]
  refine congrArg _ ?_
  rw [Finset.sum_mul]
  exact Finset.sum_congr rfl fun r _ => by ring

include h0 h2 h3 hM in
theorem dvP_real (t : Fin cfg0.N) (j : Fin 2048) (e : Fin 128) :
    dvP m c t (ix2 j e) = ((∑ r, dR a3 (H t) (row t r) e * pr (qR a0) (kR a0) (cR a2) sg M (H t) (row t r) j : ℝ) : EReal) := by
  unfold dvP
  rw [dvB_at]
  simp only [pB_real m c a0 a2 h0 h2 M hM, iblk_7 m c a3 h3, ← EReal.coe_mul, coe_sum]
  exact congrArg _ (Finset.sum_congr rfl fun r _ => mul_comm _ _)

include h0 h1 h2 h3 hM in
theorem dcP_real (t : Fin cfg0.N) (z y : Fin 1) (j : Fin 2048) :
    dcP m c t (ix3 z y j) = ((∑ r, ds (qR a0) (kR a0) (vR a1) (dR a3) (cR a2) sg M (H t) (row t r) j : ℝ) : EReal) := by
  unfold dcP
  rw [dcB_at]
  simp only [dsB_real m c a0 a1 a2 a3 h0 h1 h2 h3 M hM, coe_sum]

/-! ## A head's four points together -/

theorem H_pt (t : Fin cfg0.N) (n : Fin 4) : H (pt t n) = H t :=
  Fin.ext (by show (4 * (t.val / 4) + n.val) / 4 = t.val / 4; omega)
theorem row_pt (t : Fin cfg0.N) (n : Fin 4) (r : Fin 512) : row (pt t n) r = ⟨512 * n.val + r.val, by omega⟩ :=
  Fin.ext (by show 512 * ((4 * (t.val / 4) + n.val) % 4) + r.val = 512 * n.val + r.val; omega)

/-- At a head's last point the accumulated part is the sum over all rows. -/
theorem acc_last {s : Shape} (f : Fin cfg0.N → s.Idx → EReal) (t : Fin cfg0.N) (ht : t.val % 4 = 3) (x : s.Idx)
    (g : Fin 4 → Fin 2048 → ℝ) (hf : ∀ t, f t x = ((∑ r, g (H t) (row t r) : ℝ) : EReal)) :
    acc f t x = ((∑ i, g (H t) i : ℝ) : EReal) := by
  unfold acc
  have e : ∀ n : Fin 4, (if n.val ≤ t.val % 4 then f (pt t n) x else 0)
      = ((∑ r : Fin 512, g (H t) ⟨512 * n.val + r.val, by omega⟩ : ℝ) : EReal) := by
    intro n
    rw [if_pos (by omega), hf, H_pt]
    simp only [row_pt]
  simp only [e, coe_sum]
  exact congrArg _ (sum_blocks (g (H t)))

/-! ## The results -/

include h0 h1 h2 h3 hM in
theorem flushed_8 (t : Fin cfg0.N) (ht : (cfg0.win 8).flush t = true) :
    (dats m 0 c).flushed 8 t = (win0_8.blk t).view.read (Elt Ideal) (val_main_v87 (F := Ideal) (up a0) (up a1) (up a2) (up a3) : S2048x512.Idx → EReal) := by
  show (cfg0.win 8).cut (grid0.coords t) ((dats m 0 c).after 8 t) = _
  rw [after_8]
  refine funext fun (x : S512x128.Idx) => ?_
  obtain ⟨r, e, rfl⟩ : ∃ (r : Fin 512) (e : Fin 128), x = ix2 r e := ⟨x 0, x 1, ValueIdx.eq_ix2 x⟩
  refine Eq.trans ?_ (congrArg (val_main_v87 (F := Ideal) (up a0) (up a1) (up a2) (up a3)) (emb_8 t r e)).symm
  refine Eq.trans ?_ (Cert.ReferenceIdeal.Fox.v87_at a0 a1 a2 a3 M hM (row t r) (oc (H t) e)).symm
  rw [hd_oc, ln_oc]
  exact dqP_real m c a0 a1 a2 a3 h0 h1 h2 h3 M hM t r e

theorem cover_8 (x : S2048x512.Idx) : ∃ t : Fin cfg0.N, (cfg0.win 8).flush t = true ∧ x ∈ ((cfg0.win 8).blk t).view.set := by
  obtain ⟨i, y, rfl⟩ : ∃ (i : Fin 2048) (y : Fin 512), x = ix2 i y := ⟨x 0, x 1, ValueIdx.eq_ix2 x⟩
  have hN : 4 * (y.val / 128) + i.val / 512 < cfg0.N := lt_of_lt_of_eq (by omega : _ < 16) N_0.symm
  refine ⟨⟨_, hN⟩, flush0_8 _, Finset.mem_map.mpr ⟨ix2 (⟨i.val % 512, by omega⟩ : Fin 512) (ln y), Finset.mem_univ _, ?_⟩⟩
  refine (emb_8 ⟨_, hN⟩ (⟨i.val % 512, by omega⟩ : Fin 512) (ln y)).trans (congrArg₂ ix2 (Fin.ext ?_) (Fin.ext ?_))
  · show 512 * ((4 * (y.val / 128) + i.val / 512) % 4) + i.val % 512 = i.val
    omega
  · show (4 * (y.val / 128) + i.val / 512) / 4 * 128 + y.val % 128 = y.val
    omega

include h0 h1 h2 h3 hM in
/-- The queries' gradient is the reference's. -/
theorem final_8 : (dats m 0 c).arrAt 8 cfg0.N = (val_main_v87 (F := Ideal) (up a0) (up a1) (up a2) (up a3) : S2048x512.Idx → EReal) :=
  (dats m 0 c).arrAt_eq_of_cover 8 _ (fun t ht => flushed_8 m c a0 a1 a2 a3 h0 h1 h2 h3 M hM t ht) cover_8

include h0 h1 h2 h3 hM in
theorem flushed_9 (t : Fin cfg0.N) (ht : (cfg0.win 9).flush t = true) :
    (dats m 0 c).flushed 9 t = (win0_9.blk t).view.read (Elt Ideal) (val_main_v88 (F := Ideal) (up a0) (up a1) (up a2) (up a3) : S2048x512.Idx → EReal) := by
  show (cfg0.win 9).cut (grid0.coords t) ((dats m 0 c).after 9 t) = _
  rw [after_9]
  refine funext fun (x : S2048x128.Idx) => ?_
  obtain ⟨r, e, rfl⟩ : ∃ (r : Fin 2048) (e : Fin 128), x = ix2 r e := ⟨x 0, x 1, ValueIdx.eq_ix2 x⟩
  refine Eq.trans ?_ (congrArg (val_main_v88 (F := Ideal) (up a0) (up a1) (up a2) (up a3)) (emb_9 t r e)).symm
  have h3' : t.val % 4 = 3 := (flush0_9 t).mp ht
  refine Eq.trans ?_ (Cert.ReferenceIdeal.Fox.v88_at a0 a1 a2 a3 M hM r (oc (H t) e)).symm
  rw [hd_oc, ln_oc]
  exact acc_last (dkP m c) t h3' (ix2 r e) (fun h i => ds (qR a0) (kR a0) (vR a1) (dR a3) (cR a2) sg M h i r * sg * qR a0 h i e) fun t => dkP_real m c a0 a1 a2 a3 h0 h1 h2 h3 M hM t r e

theorem cover_9 (x : S2048x512.Idx) : ∃ t : Fin cfg0.N, (cfg0.win 9).flush t = true ∧ x ∈ ((cfg0.win 9).blk t).view.set := by
  obtain ⟨i, y, rfl⟩ : ∃ (i : Fin 2048) (y : Fin 512), x = ix2 i y := ⟨x 0, x 1, ValueIdx.eq_ix2 x⟩
  have hN : 4 * (y.val / 128) + 3 < cfg0.N := lt_of_lt_of_eq (by omega : _ < 16) N_0.symm
  refine ⟨⟨_, hN⟩, (flush0_9 _).mpr (by show (4 * (y.val / 128) + 3) % 4 = 3; omega), Finset.mem_map.mpr ⟨ix2 i (ln y), Finset.mem_univ _, ?_⟩⟩
  refine (emb_9 ⟨_, hN⟩ i (ln y)).trans (congrArg₂ ix2 rfl (Fin.ext ?_))
  show (4 * (y.val / 128) + 3) / 4 * 128 + y.val % 128 = y.val
  omega

include h0 h1 h2 h3 hM in
/-- The keys' gradient is the reference's. -/
theorem final_9 : (dats m 0 c).arrAt 9 cfg0.N = (val_main_v88 (F := Ideal) (up a0) (up a1) (up a2) (up a3) : S2048x512.Idx → EReal) :=
  (dats m 0 c).arrAt_eq_of_cover 9 _ (fun t ht => flushed_9 m c a0 a1 a2 a3 h0 h1 h2 h3 M hM t ht) cover_9

include h0 h1 h2 h3 hM in
theorem flushed_10 (t : Fin cfg0.N) (ht : (cfg0.win 10).flush t = true) :
    (dats m 0 c).flushed 10 t = (win0_10.blk t).view.read (Elt Ideal) (val_main_v89 (F := Ideal) (up a0) (up a2) (up a3) : S2048x512.Idx → EReal) := by
  show (cfg0.win 10).cut (grid0.coords t) ((dats m 0 c).after 10 t) = _
  rw [after_10]
  refine funext fun (x : S2048x128.Idx) => ?_
  obtain ⟨r, e, rfl⟩ : ∃ (r : Fin 2048) (e : Fin 128), x = ix2 r e := ⟨x 0, x 1, ValueIdx.eq_ix2 x⟩
  refine Eq.trans ?_ (congrArg (val_main_v89 (F := Ideal) (up a0) (up a2) (up a3)) (emb_10 t r e)).symm
  have h3' : t.val % 4 = 3 := (flush0_10 t).mp ht
  refine Eq.trans ?_ (Cert.ReferenceIdeal.Fox.v89_at a0 a2 a3 M hM r (oc (H t) e)).symm
  rw [hd_oc, ln_oc]
  exact acc_last (dvP m c) t h3' (ix2 r e) (fun h i => dR a3 h i e * pr (qR a0) (kR a0) (cR a2) sg M h i r) fun t => dvP_real m c a0 a2 a3 h0 h2 h3 M hM t r e

theorem cover_10 (x : S2048x512.Idx) : ∃ t : Fin cfg0.N, (cfg0.win 10).flush t = true ∧ x ∈ ((cfg0.win 10).blk t).view.set := by
  obtain ⟨i, y, rfl⟩ : ∃ (i : Fin 2048) (y : Fin 512), x = ix2 i y := ⟨x 0, x 1, ValueIdx.eq_ix2 x⟩
  have hN : 4 * (y.val / 128) + 3 < cfg0.N := lt_of_lt_of_eq (by omega : _ < 16) N_0.symm
  refine ⟨⟨_, hN⟩, (flush0_10 _).mpr (by show (4 * (y.val / 128) + 3) % 4 = 3; omega), Finset.mem_map.mpr ⟨ix2 i (ln y), Finset.mem_univ _, ?_⟩⟩
  refine (emb_10 ⟨_, hN⟩ i (ln y)).trans (congrArg₂ ix2 rfl (Fin.ext ?_))
  show (4 * (y.val / 128) + 3) / 4 * 128 + y.val % 128 = y.val
  omega

include h0 h1 h2 h3 hM in
/-- The values' gradient is the reference's. -/
theorem final_10 : (dats m 0 c).arrAt 10 cfg0.N = (val_main_v89 (F := Ideal) (up a0) (up a2) (up a3) : S2048x512.Idx → EReal) :=
  (dats m 0 c).arrAt_eq_of_cover 10 _ (fun t ht => flushed_10 m c a0 a1 a2 a3 h0 h1 h2 h3 M hM t ht) cover_10

include h0 h1 h2 h3 hM in
theorem flushed_11 (t : Fin cfg0.N) (ht : (cfg0.win 11).flush t = true) :
    (dats m 0 c).flushed 11 t = (win0_11.blk t).view.read (Elt Ideal) (val_main_v90 (F := Ideal) (up a0) (up a1) (up a2) (up a3) : S4x2048x1.Idx → EReal) := by
  show (cfg0.win 11).cut (grid0.coords t) ((dats m 0 c).after 11 t) = _
  rw [after_11]
  refine funext fun (x : S1x512x1.Idx) => ?_
  obtain ⟨z, r, y, rfl⟩ : ∃ (z : Fin 1) (r : Fin 512) (y : Fin 1), x = ix3 z r y := ⟨x 0, x 1, x 2, ValueIdx.eq_ix3 x⟩
  refine Eq.trans ?_ (congrArg (val_main_v90 (F := Ideal) (up a0) (up a1) (up a2) (up a3)) (emb_11 t z r y)).symm
  refine Eq.trans ?_ (Cert.ReferenceIdeal.Fox.v90_at a0 a1 a2 a3 M hM (H t) (row t r) y).symm
  exact drP_real m c a0 a1 a2 a3 h0 h1 h2 h3 M hM t z r y

theorem cover_11 (x : S4x2048x1.Idx) : ∃ t : Fin cfg0.N, (cfg0.win 11).flush t = true ∧ x ∈ ((cfg0.win 11).blk t).view.set := by
  obtain ⟨h, i, y, rfl⟩ : ∃ (h : Fin 4) (i : Fin 2048) (y : Fin 1), x = ix3 h i y := ⟨x 0, x 1, x 2, ValueIdx.eq_ix3 x⟩
  have hN : 4 * h.val + i.val / 512 < cfg0.N := lt_of_lt_of_eq (by omega : _ < 16) N_0.symm
  refine ⟨⟨_, hN⟩, flush0_11 _, Finset.mem_map.mpr ⟨ix3 (0 : Fin 1) (⟨i.val % 512, by omega⟩ : Fin 512) y, Finset.mem_univ _, ?_⟩⟩
  refine (emb_11 ⟨_, hN⟩ (0 : Fin 1) (⟨i.val % 512, by omega⟩ : Fin 512) y).trans ?_
  have e0 : H ⟨4 * h.val + i.val / 512, hN⟩ = h := Fin.ext (by show (4 * h.val + i.val / 512) / 4 = h.val; omega)
  have e1 : row ⟨4 * h.val + i.val / 512, hN⟩ (⟨i.val % 512, by omega⟩ : Fin 512) = i :=
    Fin.ext (by show 512 * ((4 * h.val + i.val / 512) % 4) + i.val % 512 = i.val; omega)
  rw [e0, e1]

include h0 h1 h2 h3 hM in
/-- The row gates' gradient is the reference's. -/
theorem final_11 : (dats m 0 c).arrAt 11 cfg0.N = (val_main_v90 (F := Ideal) (up a0) (up a1) (up a2) (up a3) : S4x2048x1.Idx → EReal) :=
  (dats m 0 c).arrAt_eq_of_cover 11 _ (fun t ht => flushed_11 m c a0 a1 a2 a3 h0 h1 h2 h3 M hM t ht) cover_11

include h0 h1 h2 h3 hM in
theorem flushed_12 (t : Fin cfg0.N) (ht : (cfg0.win 12).flush t = true) :
    (dats m 0 c).flushed 12 t = (win0_12.blk t).view.read (Elt Ideal) (val_main_v92 (F := Ideal) (up a0) (up a1) (up a2) (up a3) : S4x1x2048.Idx → EReal) := by
  show (cfg0.win 12).cut (grid0.coords t) ((dats m 0 c).after 12 t) = _
  rw [after_12]
  refine funext fun (x : S1x1x2048.Idx) => ?_
  obtain ⟨z, r, y, rfl⟩ : ∃ (z : Fin 1) (r : Fin 1) (y : Fin 2048), x = ix3 z r y := ⟨x 0, x 1, x 2, ValueIdx.eq_ix3 x⟩
  refine Eq.trans ?_ (congrArg (val_main_v92 (F := Ideal) (up a0) (up a1) (up a2) (up a3)) (emb_12 t z r y)).symm
  have h3' : t.val % 4 = 3 := (flush0_12 t).mp ht
  refine Eq.trans ?_ (Cert.ReferenceIdeal.Fox.v92_at a0 a1 a2 a3 M hM (H t) y r).symm
  exact acc_last (dcP m c) t h3' (ix3 z r y) (fun h i => ds (qR a0) (kR a0) (vR a1) (dR a3) (cR a2) sg M h i y) fun t => dcP_real m c a0 a1 a2 a3 h0 h1 h2 h3 M hM t z r y

theorem cover_12 (x : S4x1x2048.Idx) : ∃ t : Fin cfg0.N, (cfg0.win 12).flush t = true ∧ x ∈ ((cfg0.win 12).blk t).view.set := by
  obtain ⟨h, y, j, rfl⟩ : ∃ (h : Fin 4) (y : Fin 1) (j : Fin 2048), x = ix3 h y j := ⟨x 0, x 1, x 2, ValueIdx.eq_ix3 x⟩
  have hN : 4 * h.val + 3 < cfg0.N := lt_of_lt_of_eq (by omega : _ < 16) N_0.symm
  refine ⟨⟨_, hN⟩, (flush0_12 _).mpr (by show (4 * h.val + 3) % 4 = 3; omega), Finset.mem_map.mpr ⟨ix3 (0 : Fin 1) y j, Finset.mem_univ _, ?_⟩⟩
  refine (emb_12 ⟨_, hN⟩ (0 : Fin 1) y j).trans ?_
  have e0 : H ⟨4 * h.val + 3, hN⟩ = h := Fin.ext (by show (4 * h.val + 3) / 4 = h.val; omega)
  rw [e0]

include h0 h1 h2 h3 hM in
/-- The column gates' gradient is the reference's. -/
theorem final_12 : (dats m 0 c).arrAt 12 cfg0.N = (val_main_v92 (F := Ideal) (up a0) (up a1) (up a2) (up a3) : S4x1x2048.Idx → EReal) :=
  (dats m 0 c).arrAt_eq_of_cover 12 _ (fun t ht => flushed_12 m c a0 a1 a2 a3 h0 h1 h2 h3 M hM t ht) cover_12

end Cert.KernelIdeal.Fox
end
-- ==== Proof.KernelFrame.lean ====
module

public import proofs.«01_k».proof.Proof.Gen.Kernel.Frame
public import proofs.«01_k».proof.Proof.Gen.Kernel.Skeleton
public import Idealize.ShloMosaic.Lib.Claim

/-! # The forgetting attention's backward kernel as it is compiled: it runs, and leaves its arguments alone

Nothing is said here of what the kernel's five results hold: at every point their staged blocks are given to the
body and handed back at some contents. -/

@[expose] public section

set_option maxRecDepth 16384

noncomputable section

namespace Cert.Kernel.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## Which branch a point takes -/

theorem cond1_iff (i : grid0.Coords) : k0_cond1 i = 1#1 ↔ (i 1).val = 0 := by
  have h : (i 1).val < 4 := (i 1).isLt
  simp only [k0_cond1]
  word_cmp

theorem cond2_iff (i : grid0.Coords) : k0_cond2 i = 1#1 ↔ (i 1).val = 0 := by
  have h : (i 1).val < 4 := (i 1).isLt
  simp only [k0_cond2]
  word_cmp

theorem cond3_iff (i : grid0.Coords) : k0_cond3 i = 1#1 ↔ (i 1).val = 1 := by
  have h : (i 1).val < 4 := (i 1).isLt
  simp only [k0_cond3]
  word_cmp

theorem cond4_iff (i : grid0.Coords) : k0_cond4 i = 1#1 ↔ (i 1).val = 2 := by
  have h : (i 1).val < 4 := (i 1).isLt
  simp only [k0_cond4]
  word_cmp

theorem cond5_iff (i : grid0.Coords) : k0_cond5 i = 1#1 ↔ (i 1).val = 3 := by
  have h : (i 1).val < 4 := (i 1).isLt
  simp only [k0_cond5]
  word_cmp

/-! ## The body, block of queries by block of queries -/

section Runs
variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x512x1 .f32) (harg5 : arg5.IsWhole) (arg6 : Memref sig .tc .vmem S1x1x2048 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1x512x1 .f32) (harg13 : arg13.IsWhole) (arg14 : Memref sig .tc .vmem S1x1x2048 .f32) (harg14 : arg14.IsWhole)
    (x0 : Vec F S512x128 .bf16) (x1 : Vec F S2048x128 .bf16) (x2 : Vec F S2048x128 .bf16) (x3 : Vec F S1x512x1 .f32) (x4 : Vec F S1x1x2048 .f32) (x5 : Vec F S1x512x1 .f32) (x6 : Vec F S512x128 .f32) (x7 : Vec F S512x128 .f32) (E : Set ℕ)

/-- The point's staged blocks and the buffers of the results, whatever these hold; the last of them comes with what follows. -/
def held (r : sProp 𝕄) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ r)

include harg2 harg3 harg4 harg5 harg6 harg7 harg8 harg9 harg10 harg11 harg12 harg13 harg14

set_option maxHeartbeats 1000000 in
theorem runA (K : PUnit → sProp 𝕄) (hi : (i 1).val = 0) :
    held c arg2 arg3 arg4 arg5 arg6 arg7 arg8 arg9 arg10 arg11 arg12 arg13 x0 x1 x2 x3 x4 x5 x6 x7 iprop((∃ d, owns (c : Thread nD τ) arg14 fullShare d) ∗ (held c arg2 arg3 arg4 arg5 arg6 arg7 arg8 arg9 arg10 arg11 arg12 arg13 x0 x1 x2 x3 x4 x5 x6 x7 iprop((∃ d, owns (c : Thread nD τ) arg14 fullShare d)) -∗ K ⟨⟩))
    ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  have hc1 : k0_cond1 i = 1#1 := (cond1_iff i).mpr hi
  have hc2 : k0_cond2 i = 1#1 := (cond2_iff i).mpr hi
  have hc3 : ¬k0_cond3 i = 1#1 := fun h => absurd (hi.symm.trans ((cond3_iff i).mp h)) (by decide)
  have hc4 : ¬k0_cond4 i = 1#1 := fun h => absurd (hi.symm.trans ((cond4_iff i).mp h)) (by decide)
  have hc5 : ¬k0_cond5 i = 1#1 := fun h => absurd (hi.symm.trans ((cond5_iff i).mp h)) (by decide)
  simp only [cc0_fox_bwd_eq_skeleton]; unfold cc0_fox_bwd_skel
  simp only [k0_part1_eq_skeleton, k0_part2_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%z8, %f8, -, H8⟩, ⟨%z9, %f9, -, H9⟩, ⟨%z10, %f10, -, H10⟩, ⟨%z11, %f11, -, H11⟩, ⟨%z12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

set_option maxHeartbeats 1000000 in
theorem runB (K : PUnit → sProp 𝕄) (hi : (i 1).val = 1) :
    held c arg2 arg3 arg4 arg5 arg6 arg7 arg8 arg9 arg10 arg11 arg12 arg13 x0 x1 x2 x3 x4 x5 x6 x7 iprop((∃ d, owns (c : Thread nD τ) arg14 fullShare d) ∗ (held c arg2 arg3 arg4 arg5 arg6 arg7 arg8 arg9 arg10 arg11 arg12 arg13 x0 x1 x2 x3 x4 x5 x6 x7 iprop((∃ d, owns (c : Thread nD τ) arg14 fullShare d)) -∗ K ⟨⟩))
    ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  have hc1 : ¬k0_cond1 i = 1#1 := fun h => absurd (hi.symm.trans ((cond1_iff i).mp h)) (by decide)
  have hc2 : ¬k0_cond2 i = 1#1 := fun h => absurd (hi.symm.trans ((cond2_iff i).mp h)) (by decide)
  have hc3 : k0_cond3 i = 1#1 := (cond3_iff i).mpr hi
  have hc4 : ¬k0_cond4 i = 1#1 := fun h => absurd (hi.symm.trans ((cond4_iff i).mp h)) (by decide)
  have hc5 : ¬k0_cond5 i = 1#1 := fun h => absurd (hi.symm.trans ((cond5_iff i).mp h)) (by decide)
  simp only [cc0_fox_bwd_eq_skeleton]; unfold cc0_fox_bwd_skel
  simp only [k0_part3_eq_skeleton, k0_part4_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%z8, %f8, -, H8⟩, ⟨%z9, %f9, -, H9⟩, ⟨%z10, %f10, -, H10⟩, ⟨%z11, %f11, -, H11⟩, ⟨%z12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

set_option maxHeartbeats 1000000 in
theorem runC (K : PUnit → sProp 𝕄) (hi : (i 1).val = 2) :
    held c arg2 arg3 arg4 arg5 arg6 arg7 arg8 arg9 arg10 arg11 arg12 arg13 x0 x1 x2 x3 x4 x5 x6 x7 iprop((∃ d, owns (c : Thread nD τ) arg14 fullShare d) ∗ (held c arg2 arg3 arg4 arg5 arg6 arg7 arg8 arg9 arg10 arg11 arg12 arg13 x0 x1 x2 x3 x4 x5 x6 x7 iprop((∃ d, owns (c : Thread nD τ) arg14 fullShare d)) -∗ K ⟨⟩))
    ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  have hc1 : ¬k0_cond1 i = 1#1 := fun h => absurd (hi.symm.trans ((cond1_iff i).mp h)) (by decide)
  have hc2 : ¬k0_cond2 i = 1#1 := fun h => absurd (hi.symm.trans ((cond2_iff i).mp h)) (by decide)
  have hc3 : ¬k0_cond3 i = 1#1 := fun h => absurd (hi.symm.trans ((cond3_iff i).mp h)) (by decide)
  have hc4 : k0_cond4 i = 1#1 := (cond4_iff i).mpr hi
  have hc5 : ¬k0_cond5 i = 1#1 := fun h => absurd (hi.symm.trans ((cond5_iff i).mp h)) (by decide)
  simp only [cc0_fox_bwd_eq_skeleton]; unfold cc0_fox_bwd_skel
  simp only [k0_part5_eq_skeleton, k0_part6_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%z8, %f8, -, H8⟩, ⟨%z9, %f9, -, H9⟩, ⟨%z10, %f10, -, H10⟩, ⟨%z11, %f11, -, H11⟩, ⟨%z12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

set_option maxHeartbeats 1000000 in
theorem runD (K : PUnit → sProp 𝕄) (hi : (i 1).val = 3) :
    held c arg2 arg3 arg4 arg5 arg6 arg7 arg8 arg9 arg10 arg11 arg12 arg13 x0 x1 x2 x3 x4 x5 x6 x7 iprop((∃ d, owns (c : Thread nD τ) arg14 fullShare d) ∗ (held c arg2 arg3 arg4 arg5 arg6 arg7 arg8 arg9 arg10 arg11 arg12 arg13 x0 x1 x2 x3 x4 x5 x6 x7 iprop((∃ d, owns (c : Thread nD τ) arg14 fullShare d)) -∗ K ⟨⟩))
    ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  have hc1 : ¬k0_cond1 i = 1#1 := fun h => absurd (hi.symm.trans ((cond1_iff i).mp h)) (by decide)
  have hc2 : ¬k0_cond2 i = 1#1 := fun h => absurd (hi.symm.trans ((cond2_iff i).mp h)) (by decide)
  have hc3 : ¬k0_cond3 i = 1#1 := fun h => absurd (hi.symm.trans ((cond3_iff i).mp h)) (by decide)
  have hc4 : ¬k0_cond4 i = 1#1 := fun h => absurd (hi.symm.trans ((cond4_iff i).mp h)) (by decide)
  have hc5 : k0_cond5 i = 1#1 := (cond5_iff i).mpr hi
  simp only [cc0_fox_bwd_eq_skeleton]; unfold cc0_fox_bwd_skel
  simp only [k0_part7_eq_skeleton, k0_part8_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%z8, %f8, -, H8⟩, ⟨%z9, %f9, -, H9⟩, ⟨%z10, %f10, -, H10⟩, ⟨%z11, %f11, -, H11⟩, ⟨%z12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

end Runs

variable (m : (ℓ : Loc nD τ sig) → Buf (Elt F) ℓ) (ρ : Dev nD → PrngReg)

/-! ## The grid's run -/

/-- The windows whose contents are not named: the five results'. -/
def unread0 : Fin 13 → Bool := fun w => w.val == 8 || w.val == 9 || w.val == 10 || w.val == 11 || w.val == 12

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) : (dats m 0 c).leavesExact 0 t = owns (c : Thread nD τ) (st0_0 t) fullShare (iblk m c 0 t) := by
  unfold Dat.leavesExact
  rw [(show cfg0.idle 0 (grid0.coords t) = false from rfl), after_0]

theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) : (dats m 0 c).leavesExact 1 t = owns (c : Thread nD τ) (st0_1 t) fullShare (iblk m c 1 t) := by
  unfold Dat.leavesExact
  rw [(show cfg0.idle 1 (grid0.coords t) = false from rfl), after_1]

theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) : (dats m 0 c).leavesExact 2 t = owns (c : Thread nD τ) (st0_2 t) fullShare (iblk m c 2 t) := by
  unfold Dat.leavesExact
  rw [(show cfg0.idle 2 (grid0.coords t) = false from rfl), after_2]

theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) : (dats m 0 c).leavesExact 3 t = owns (c : Thread nD τ) (st0_3 t) fullShare (iblk m c 3 t) := by
  unfold Dat.leavesExact
  rw [(show cfg0.idle 3 (grid0.coords t) = false from rfl), after_3]

theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem leaves_4 (c : Dev nD) (t : Fin cfg0.N) : (dats m 0 c).leavesExact 4 t = owns (c : Thread nD τ) (st0_4 t) fullShare (iblk m c 4 t) := by
  unfold Dat.leavesExact
  rw [(show cfg0.idle 4 (grid0.coords t) = false from rfl), after_4]

theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem leaves_5 (c : Dev nD) (t : Fin cfg0.N) : (dats m 0 c).leavesExact 5 t = owns (c : Thread nD τ) (st0_5 t) fullShare (iblk m c 5 t) := by
  unfold Dat.leavesExact
  rw [(show cfg0.idle 5 (grid0.coords t) = false from rfl), after_5]

theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem leaves_6 (c : Dev nD) (t : Fin cfg0.N) : (dats m 0 c).leavesExact 6 t = owns (c : Thread nD τ) (st0_6 t) fullShare (iblk m c 6 t) := by
  unfold Dat.leavesExact
  rw [(show cfg0.idle 6 (grid0.coords t) = false from rfl), after_6]

theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem leaves_7 (c : Dev nD) (t : Fin cfg0.N) : (dats m 0 c).leavesExact 7 t = owns (c : Thread nD τ) (st0_7 t) fullShare (iblk m c 7 t) := by
  unfold Dat.leavesExact
  rw [(show cfg0.idle 7 (grid0.coords t) = false from rfl), after_7]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6, leaves_7]
  have hlt : (grid0.coords t 1).val < 4 := (grid0.coords t 1).isLt
  rcases (by omega : (grid0.coords t 1).val = 0 ∨ (grid0.coords t 1).val = 1 ∨ (grid0.coords t 1).val = 2 ∨ (grid0.coords t 1).val = 3) with hi | hi | hi | hi
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runA c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _ hi)
  rotate_left
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runB c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _ hi)
  rotate_left
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runC c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _ hi)
  rotate_left
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runD c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _ hi)
  rotate_left
  all_goals
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unread0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => (Pipeline.RDat.FramePost (cfgs 0) (fun c => (dats m 0 c).toRForget unread0) (V m)) r ∧ r.2.sem = fun _ => 0) :=
  Pipeline.θ_run_frame_forget_shared (Q' := _) cfgs (dats m) (0 : Fin 1) launch₀0 defs₀ Variants.none unread0 m ρ main
    (hbody := fun c => (body_obligation m c).loose) (hq := fun _ _ _ => rfl)
    (howed := fun _ _ => rfl) (V := V m) (hmain := hmain m Variants.none) (hA := A_eq m) (hΦ := fun _ _ => rfl)

/-- The kernel terminates, leaves its four arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(Pipeline.RDat.FramePost.arr_in h.1 c 1 rfl).trans ((A_eq m c 1).trans (V_main_arg0 m c)),
      (Pipeline.RDat.FramePost.arr_in h.1 c 2 rfl).trans ((A_eq m c 2).trans (V_main_arg1 m c)),
      ((h.1 c).2 main_arg2 (Pipeline.mem_restRefs_of main_arg2 (by decide) (by decide))).trans (V_main_arg2 m c),
      (Pipeline.RDat.FramePost.arr_in h.1 c 7 rfl).trans ((A_eq m c 7).trans (V_main_arg3 m c))⟩, h.2⟩) (run_main m ρ)

end Cert.Kernel.Fox

end
-- ==== Proof.Lies.lean ====
module

public import Idealize.ShloMosaic.Lib.Pointwise
public import Idealize.ShloMosaic.Lib.ValueIdx
public import Idealize.ShloMosaic.Lib.Claim
public import Idealize.ShloMosaic.Adequacy
public import Idealize.ShloMosaic.Init

/-! # Where a block's entry lies in its array -/

@[expose] public section

namespace Cert

open Idealize.ShloMosaic

/-- A block `(u, v)` of `n` rows and `k` columns: its entry `(r, e)` is the array's `(x, y)`. -/
theorem lies {a b q z u v n k r e : ℕ} {f : Shape.Idx ⟨2, ![a, b]⟩} {x : Fin a} {y : Fin b} (h : q = u ∧ z = v)
    (h0 : (f 0).val = q * n + r) (h1 : (f 1).val = z * k + e) (hx : u * n + r = x.val) (hy : v * k + e = y.val) : f = ix2 x y := by
  obtain ⟨rfl, rfl⟩ := h
  refine funext fun c => ?_
  match c with
  | ⟨0, _⟩ => exact Fin.ext (h0.trans hx)
  | ⟨1, _⟩ => exact Fin.ext (h1.trans hy)

end Cert
-- ==== Proof.DownDx.lean ====
module

public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxReferenceIdeal.Run
public import proofs.«01_k».proof.Proof.Gen.DownDxReferenceIdeal.Read
public import proofs.«01_k».proof.Proof.Lies

/-! # The gradient of the feed-forward's hidden rows: the cotangent times the transposed weight -/

@[expose] public section

noncomputable section

namespace Cert.DownDxIdeal.Prod

open Idealize.ShloMosaic Idealize.ShloMosaic.TcCoe
open Idealize.SL.Sem
open Idealize.ShloMosaic.Pipeline (Dat Cfg Window)
open Cert.DownDxIdeal.Gen
open Cert.DownDxReferenceIdeal.Read

/-- One entry of a block of the product. -/
theorem out_at (x : Vec Ideal S1024x1024 .bf16) (y : Vec Ideal S1408x1024 .bf16) (r : Fin 1024) (e : Fin 1408) :
    out0_2 x y (ix2 r e) = ∑ k : Fin 1024, x (ix2 r k) * y (ix2 e k) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x1024.Idx → EReal) (y : S2816x1024.Idx → EReal) (r : Fin 2048) (e : Fin 2816) :
    val_main_v4 (F := Ideal) x y (ix2 r e) = ∑ k : Fin 1024, x (ix2 r k) * y (ix2 e k) := by
  unfold val_main_v4 val_main_v3 val_main_v1
  pointwise

/-! ## Where the blocks lie -/

theorem lt_N (t : Fin cfg0.N) : t.val < 4 := lt_of_lt_of_eq t.isLt N_0

/-- Row `r` of point `t`'s block of rows, and column `e` of its block of columns. -/
def row (t : Fin cfg0.N) (r : Fin 1024) : Fin 2048 := ⟨t.val / 2 * 1024 + r.val, by have := lt_N t; omega⟩
def col (t : Fin cfg0.N) (e : Fin 1408) : Fin 2816 := ⟨t.val % 2 * 1408 + e.val, by omega⟩

theorem index_0 : ∀ t : Fin cfg0.N, win0_0.index t 0 = t.val / 2 ∧ win0_0.index t 1 = 0 := by decide +kernel
theorem index_1 : ∀ t : Fin cfg0.N, win0_1.index t 0 = t.val % 2 ∧ win0_1.index t 1 = 0 := by decide +kernel
theorem index_2 : ∀ t : Fin cfg0.N, win0_2.index t 0 = t.val / 2 ∧ win0_2.index t 1 = t.val % 2 := by decide +kernel

theorem emb_2 (t : Fin cfg0.N) (r : Fin 1024) (e : Fin 1408) : (win0_2.rect t).emb (ix2 r e) = ix2 (row t r) (col t e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The two arguments. -/
def A : S2048x1024.Idx → EReal := m ((c : Thread nD τ).loc main_arg0)
def B : S2816x1024.Idx → EReal := m ((c : Thread nD τ).loc main_arg1)

theorem iblk_0 (t : Fin cfg0.N) (r : Fin 1024) (k : Fin 1024) : (iblk m c 0 t : S1024x1024.Idx → EReal) (ix2 r k) = A m c (ix2 (row t r) k) :=
  (congrFun (V_main_arg0 m c) _).trans (congrArg (A m c) (lies (index_0 t) (Window.rect_emb_val win0_0 t _ 0) (Window.rect_emb_val win0_0 t _ 1) rfl (Nat.zero_add _)))

theorem iblk_1 (t : Fin cfg0.N) (e : Fin 1408) (k : Fin 1024) : (iblk m c 1 t : S1408x1024.Idx → EReal) (ix2 e k) = B m c (ix2 (col t e) k) :=
  (congrFun (V_main_arg1 m c) _).trans (congrArg (B m c) (lies (index_1 t) (Window.rect_emb_val win0_1 t _ 0) (Window.rect_emb_val win0_1 t _ 1) rfl (Nat.zero_add _)))

theorem flushed (t : Fin cfg0.N) :
    (dats m 0 c).flushed 2 t = (win0_2.blk t).view.read (Elt Ideal) (val_main_v4 (F := Ideal) (A m c) (B m c) : S2048x2816.Idx → EReal) := by
  rw [Value.flushed2]
  refine funext fun (x : S1024x1408.Idx) => ?_
  obtain ⟨r, e, rfl⟩ : ∃ (r : Fin 1024) (e : Fin 1408), x = ix2 r e := ⟨x 0, x 1, ValueIdx.eq_ix2 x⟩
  refine Eq.trans ?_ (congrArg (val_main_v4 (F := Ideal) (A m c) (B m c)) (emb_2 t r e)).symm
  rw [ref_at]
  refine (out_at _ _ r e).trans (Finset.sum_congr rfl fun k _ => ?_)
  rw [iblk_0, iblk_1]

theorem cover (x : S2048x2816.Idx) : ∃ t : Fin cfg0.N, (cfg0.win 2).flush t = true ∧ x ∈ ((cfg0.win 2).blk t).view.set := by
  obtain ⟨i, y, rfl⟩ : ∃ (i : Fin 2048) (y : Fin 2816), x = ix2 i y := ⟨x 0, x 1, ValueIdx.eq_ix2 x⟩
  have hN : 2 * (i.val / 1024) + y.val / 1408 < cfg0.N := lt_of_lt_of_eq (by omega : _ < 4) N_0.symm
  refine ⟨⟨_, hN⟩, flush0_2 _, Finset.mem_map.mpr ⟨ix2 (⟨i.val % 1024, by omega⟩ : Fin 1024) (⟨y.val % 1408, by omega⟩ : Fin 1408), Finset.mem_univ _, ?_⟩⟩
  refine (emb_2 ⟨_, hN⟩ _ _).trans (congrArg₂ ix2 (Fin.ext ?_) (Fin.ext ?_))
  · show (2 * (i.val / 1024) + y.val / 1408) / 2 * 1024 + i.val % 1024 = i.val
    omega
  · show (2 * (i.val / 1024) + y.val / 1408) % 2 * 1408 + y.val % 1408 = y.val
    omega

/-- The kernel's result is the reference's. -/
theorem final : (dats m 0 c).arrAt 2 cfg0.N = (val_main_v4 (F := Ideal) (A m c) (B m c) : S2048x2816.Idx → EReal) :=
  (dats m 0 c).arrAt_eq_of_cover 2 _ (fun t _ => flushed m c t) cover

end Cert.DownDxIdeal.Prod

end
-- ==== Proof.DownDw.lean ====
module

public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwReferenceIdeal.Run
public import proofs.«01_k».proof.Proof.Gen.DownDwReferenceIdeal.Read
public import proofs.«01_k».proof.Proof.Lies

/-! # The gradient of the feed-forward's second weight: the transposed hidden rows times the cotangent -/

@[expose] public section

noncomputable section

namespace Cert.DownDwIdeal.Prod

open Idealize.ShloMosaic Idealize.ShloMosaic.TcCoe
open Idealize.SL.Sem
open Idealize.ShloMosaic.Pipeline (Dat Cfg Window)
open Cert.DownDwIdeal.Gen
open Cert.DownDwReferenceIdeal.Read

/-- One entry of a block of the product. -/
theorem out_at (x : Vec Ideal S2048x1408 .bf16) (y : Vec Ideal S2048x512 .bf16) (r : Fin 1408) (e : Fin 512) :
    out0_2 x y (ix2 r e) = ∑ k : Fin 2048, x (ix2 k r) * y (ix2 k e) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x2816.Idx → EReal) (y : S2048x1024.Idx → EReal) (r : Fin 2816) (e : Fin 1024) :
    val_main_v6 (F := Ideal) x y (ix2 r e) = ∑ k : Fin 2048, y (ix2 k e) * x (ix2 k r) := by
  unfold val_main_v6 val_main_v5 val_main_v4 val_main_v3 val_main_v1
  pointwise

/-! ## Where the blocks lie -/

theorem lt_N (t : Fin cfg0.N) : t.val < 4 := lt_of_lt_of_eq t.isLt N_0

/-- Row `r` of point `t`'s block of rows, and column `e` of its block of columns. -/
def row (t : Fin cfg0.N) (r : Fin 1408) : Fin 2816 := ⟨t.val / 2 * 1408 + r.val, by have := lt_N t; omega⟩
def col (t : Fin cfg0.N) (e : Fin 512) : Fin 1024 := ⟨t.val % 2 * 512 + e.val, by have := lt_N t; omega⟩

theorem index_0 : ∀ t : Fin cfg0.N, win0_0.index t 0 = 0 ∧ win0_0.index t 1 = t.val / 2 := by decide +kernel
theorem index_1 : ∀ t : Fin cfg0.N, win0_1.index t 0 = 0 ∧ win0_1.index t 1 = t.val % 2 := by decide +kernel
theorem index_2 : ∀ t : Fin cfg0.N, win0_2.index t 0 = t.val / 2 ∧ win0_2.index t 1 = t.val % 2 := by decide +kernel

theorem emb_2 (t : Fin cfg0.N) (r : Fin 1408) (e : Fin 512) : (win0_2.rect t).emb (ix2 r e) = ix2 (row t r) (col t e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The two arguments. -/
def A : S2048x2816.Idx → EReal := m ((c : Thread nD τ).loc main_arg0)
def B : S2048x1024.Idx → EReal := m ((c : Thread nD τ).loc main_arg1)

theorem iblk_0 (t : Fin cfg0.N) (r : Fin 1408) (k : Fin 2048) : (iblk m c 0 t : S2048x1408.Idx → EReal) (ix2 k r) = A m c (ix2 k (row t r)) :=
  (congrFun (V_main_arg0 m c) _).trans (congrArg (A m c) (lies (index_0 t) (Window.rect_emb_val win0_0 t _ 0) (Window.rect_emb_val win0_0 t _ 1) (Nat.zero_add _) rfl))

theorem iblk_1 (t : Fin cfg0.N) (e : Fin 512) (k : Fin 2048) : (iblk m c 1 t : S2048x512.Idx → EReal) (ix2 k e) = B m c (ix2 k (col t e)) :=
  (congrFun (V_main_arg1 m c) _).trans (congrArg (B m c) (lies (index_1 t) (Window.rect_emb_val win0_1 t _ 0) (Window.rect_emb_val win0_1 t _ 1) (Nat.zero_add _) rfl))

theorem flushed (t : Fin cfg0.N) :
    (dats m 0 c).flushed 2 t = (win0_2.blk t).view.read (Elt Ideal) (val_main_v6 (F := Ideal) (A m c) (B m c) : S2816x1024.Idx → EReal) := by
  rw [Value.flushed2]
  refine funext fun (x : S1408x512.Idx) => ?_
  obtain ⟨r, e, rfl⟩ : ∃ (r : Fin 1408) (e : Fin 512), x = ix2 r e := ⟨x 0, x 1, ValueIdx.eq_ix2 x⟩
  refine Eq.trans ?_ (congrArg (val_main_v6 (F := Ideal) (A m c) (B m c)) (emb_2 t r e)).symm
  rw [ref_at]
  refine (out_at _ _ r e).trans (Finset.sum_congr rfl fun k _ => ?_)
  rw [iblk_0, iblk_1, mul_comm]

theorem cover (x : S2816x1024.Idx) : ∃ t : Fin cfg0.N, (cfg0.win 2).flush t = true ∧ x ∈ ((cfg0.win 2).blk t).view.set := by
  obtain ⟨i, y, rfl⟩ : ∃ (i : Fin 2816) (y : Fin 1024), x = ix2 i y := ⟨x 0, x 1, ValueIdx.eq_ix2 x⟩
  have hN : 2 * (i.val / 1408) + y.val / 512 < cfg0.N := lt_of_lt_of_eq (by omega : _ < 4) N_0.symm
  refine ⟨⟨_, hN⟩, flush0_2 _, Finset.mem_map.mpr ⟨ix2 (⟨i.val % 1408, by omega⟩ : Fin 1408) (⟨y.val % 512, by omega⟩ : Fin 512), Finset.mem_univ _, ?_⟩⟩
  refine (emb_2 ⟨_, hN⟩ _ _).trans (congrArg₂ ix2 (Fin.ext ?_) (Fin.ext ?_))
  · show (2 * (i.val / 1408) + y.val / 512) / 2 * 1408 + i.val % 1408 = i.val
    omega
  · show (2 * (i.val / 1408) + y.val / 512) % 2 * 512 + y.val % 512 = y.val
    omega

/-- The kernel's result is the reference's. -/
theorem final : (dats m 0 c).arrAt 2 cfg0.N = (val_main_v6 (F := Ideal) (A m c) (B m c) : S2816x1024.Idx → EReal) :=
  (dats m 0 c).arrAt_eq_of_cover 2 _ (fun t _ => flushed m c t) cover

end Cert.DownDwIdeal.Prod

end
-- ==== Proof.Steps.lean ====
module

public import Idealize.ShloMosaic.Lib.Pipeline.Value
public import Idealize.ShloMosaic.Lib.ValueIdx
public import Idealize.ShloMosaic.Lib.WholeRead

/-! # A product added up over blocks of its contracted axis -/

@[expose] public section

noncomputable section

namespace Cert.Steps

open Idealize.ShloMosaic

theorem hz : (![0, 0] : Fin 2 → Nat) = fun _ => 0 := by decide
theorem hz3 : (![0, 0, 0] : Fin 3 → Nat) = fun _ => 0 := by decide

/-- A load of all of a whole staging buffer reads what it was given to hold. -/
theorem load_whole {sig : RefSig} {κ : Kind} {sp : Space} {s : Shape} {e : EltTy} (g : Memref sig κ sp s e) (hg : g.IsWhole)
    (x : s.Idx → Elt Ideal e) {off : Fin s.rank → Nat} (h : off = fun _ => 0) (inb : ∀ a, off a + s.size a ≤ s.size a) :
    View.readAt (Elt Ideal) g.view (Rect.unit off s.size inb).toLoadRect (hg.unread x) = x :=
  (congrArg (fun v => View.ld v (Rect.unit off s.size inb)) (hg.read_unread x)).trans (View.ld_unit_zero h inb x)

/-- Index `k` of block `j` of an axis of `n` blocks of `b`. -/
def at_ (n b : ℕ) [NeZero n] (j : ℕ) (k : Fin b) : Fin (n * b) :=
  ⟨j % n * b + k.val, by
    have h : j % n < n := Nat.mod_lt _ (NeZero.pos n)
    have := k.isLt
    calc j % n * b + k.val < j % n * b + b := by omega
      _ = (j % n + 1) * b := by ring
      _ ≤ n * b := Nat.mul_le_mul_right b h⟩

/-- A sum over an axis, block by block. -/
theorem sum_blocks (n b : ℕ) [NeZero n] (f : Fin (n * b) → EReal) :
    ∑ j ∈ Finset.range n, ∑ k : Fin b, f (at_ n b j k) = ∑ i : Fin (n * b), f i := by
  rw [Finset.sum_range, ← Fintype.sum_prod_type' (f := fun (j : Fin n) (k : Fin b) => f (at_ n b j.val k))]
  refine Fintype.sum_equiv finProdFinEquiv _ _ fun p => congrArg f (Fin.ext ?_)
  show p.1.val % n * b + p.2.val = p.2.val + b * p.1.val
  rw [Nat.mod_eq_of_lt p.1.isLt]
  ring

/-- What is left after each step of a sum restarted at every multiple of `n` and added to at the steps between. -/
theorem fold (n N : ℕ) (hn : 1 < n) (acc : (t : ℕ) → t < N → EReal) (part : ℕ → ℕ → EReal)
    (h0 : ∀ t ht, t % n = 0 → acc t ht = part (t / n) 0)
    (h1 : ∀ t (ht : t < N), t % n ≠ 0 → t % n + 1 < n → acc t ht = acc (t - 1) (by omega) + part (t / n) (t % n)) :
    ∀ t ht, t % n + 1 < n → acc t ht = ∑ j ∈ Finset.range (t % n + 1), part (t / n) j := by
  intro t
  induction t with
  | zero => intro ht _; rw [h0 0 ht (Nat.zero_mod n)]; simp
  | succ t ih =>
    intro ht hlt
    by_cases hz : (t + 1) % n = 0
    · rw [h0 _ ht hz, hz]; simp
    · have hd : (t + 1) / n = t / n ∧ (t + 1) % n = t % n + 1 := by
        have a := Nat.div_add_mod t n
        have hm : t % n < n := Nat.mod_lt _ (by omega)
        by_cases hc : t % n + 1 < n
        · have e : t + 1 = (t % n + 1) + n * (t / n) := by omega
          exact ⟨by rw [e, Nat.add_mul_div_left _ _ (by omega), Nat.div_eq_of_lt hc]; omega, by rw [e, Nat.add_mul_mod_self_left, Nat.mod_eq_of_lt hc]⟩
        · exfalso
          have e : t + 1 = n * (t / n + 1) := by rw [Nat.mul_add]; omega
          exact hz (by rw [e, Nat.mul_mod_right])
      have hi := ih (by omega) (by omega)
      rw [h1 _ ht hz hlt, Finset.sum_range_succ, hd.1, hd.2, ← hi]
      rfl

end Cert.Steps

end
-- ==== Proof.UpDx.lean ====
module

public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxReferenceIdeal.Run
public import proofs.«01_k».proof.Proof.Gen.UpDxReferenceIdeal.Read
public import proofs.«01_k».proof.Proof.Steps
public import proofs.«01_k».proof.Proof.Lies

/-! # The gradient of the feed-forward's input rows: both halves' cotangents times the first weight, added up over four blocks of columns -/

@[expose] public section

noncomputable section

namespace Cert.UpDxIdeal.Prod

open Idealize.ShloMosaic Idealize.ShloMosaic.TcCoe
open Idealize.SL.Sem
open Idealize.ShloMosaic.Pipeline (Dat Cfg Window)
open Cert.Steps
open Cert.UpDxIdeal.Gen
open Cert.UpDxReferenceIdeal.Read

/-! ## What one step leaves -/

section Cases
variable (c : Dev nD) (i : grid0.Coords) (p3 : Memref sig .tc .vmem S1x1024x1408 .bf16) (h3 : p3.IsWhole) (p4 : Memref sig .tc .vmem S1408x512 .bf16) (h4 : p4.IsWhole)
  (p5 : Memref sig .tc .vmem S1024x512 .f32) (h5 : p5.IsWhole) (p6 : Memref sig .tc .vmem S1024x512 .f32) (h6 : p6.IsWhole)
  (x : Vec Ideal S1x1024x1408 .bf16) (y : Vec Ideal S1408x512 .bf16) (a : Vec Ideal S1024x512 .f32)

/-- The first step leaves its product in the accumulator. -/
theorem first (c0 : cond0_0 i) (c1 : ¬cond0_1 i) (c2 : ¬cond0_2 i) : sout0_A_0 c i p3 h3 p4 h4 p5 h5 p6 h6 c0 c1 c2 x y = k0_pay2 x y := by
  unfold sout0_A_0
  rw [View.read_writes_junk_eq_canon]
  unfold kernelRun0_A
  dsimp only
  rw [View.canon_unit_zero hz]
  exact congrArg₂ k0_pay2 (load_whole p3 h3 x hz3 _) (load_whole p4 h4 y hz _)

/-- A step between adds its product to what the accumulator held. -/
theorem next (c0 : ¬cond0_0 i) (c1 : cond0_1 i) (c2 : ¬cond0_2 i) : sout0_B_0 c i p3 h3 p4 h4 p5 h5 p6 h6 c0 c1 c2 x y a = k0_pay3 x y a := by
  unfold sout0_B_0
  rw [View.read_writes_junk_eq_canon]
  unfold kernelRun0_B
  dsimp only
  rw [View.canon_unit_zero hz]
  exact congr (congrArg₂ k0_pay3 (load_whole p3 h3 x hz3 _) (load_whole p4 h4 y hz _)) (load_whole p6 h6 a hz _)

/-- The last step stores the accumulator's contents with its own product added. -/
theorem last (c0 : ¬cond0_0 i) (c1 : ¬cond0_1 i) (c2 : cond0_2 i) : out0_C_2 c i p3 h3 p4 h4 p5 h5 p6 h6 c0 c1 c2 x y a = k0_pay4 x y a := by
  unfold out0_C_2
  rw [View.read_writes_junk_eq_canon]
  unfold kernelRun0_C
  dsimp only
  rw [View.canon_unit_zero hz]
  exact congr (congrArg₂ k0_pay4 (load_whole p3 h3 x hz3 _) (load_whole p4 h4 y hz _)) (load_whole p6 h6 a hz _)

end Cases

/-- One entry of each step's value. -/
theorem prod_at (x : Vec Ideal S1x1024x1408 .bf16) (y : Vec Ideal S1408x512 .bf16) (r : Fin 1024) (e : Fin 512) :
    k0_pay1 x y (ix2 r e) = ∑ k : Fin 1408, x (ix3 (0 : Fin 1) r k) * y (ix2 k e) := by
  unfold k0_pay1
  pointwise

theorem first_at (x : Vec Ideal S1x1024x1408 .bf16) (y : Vec Ideal S1408x512 .bf16) (r : Fin 1024) (e : Fin 512) :
    k0_pay2 x y (ix2 r e) = k0_pay1 x y (ix2 r e) := by
  unfold k0_pay2
  pointwise

theorem next_at (x : Vec Ideal S1x1024x1408 .bf16) (y : Vec Ideal S1408x512 .bf16) (a : Vec Ideal S1024x512 .f32) (r : Fin 1024) (e : Fin 512) :
    k0_pay3 x y a (ix2 r e) = a (ix2 r e) + k0_pay1 x y (ix2 r e) := by
  unfold k0_pay3
  pointwise

theorem last_at (x : Vec Ideal S1x1024x1408 .bf16) (y : Vec Ideal S1408x512 .bf16) (a : Vec Ideal S1024x512 .f32) (r : Fin 1024) (e : Fin 512) :
    k0_pay4 x y a (ix2 r e) = a (ix2 r e) + k0_pay1 x y (ix2 r e) := by
  unfold k0_pay4
  pointwise

/-- The two halves' cotangents side by side. -/
def both (x : S2x2048x2816.Idx → EReal) (i : Fin 2048) (k : Fin 5632) : EReal := x (ix3 (⟨k.val / 2816, by omega⟩ : Fin 2) i (⟨k.val % 2816, by omega⟩ : Fin 2816))

theorem both_at (x : S2x2048x2816.Idx → EReal) (i : Fin 2048) (k : Fin 5632) : val_main_v11 (F := Ideal) x (ix2 i k) = both x i k := by
  unfold val_main_v11 both
  by_cases h : k.val < 2816
  · refine (concatenate_pair_apply_left (t := Cert.UpDxReferenceIdeal.S2048x5632) (s₁ := Cert.UpDxReferenceIdeal.S2048x2816) (s₂ := Cert.UpDxReferenceIdeal.S2048x2816) 1 _ _ _ (ix2 i k) rfl (ix2 i (⟨k.val, h⟩ : Fin 2816)) (fun b => match b with | ⟨0, _⟩ => rfl | ⟨1, _⟩ => rfl)).trans ?_
    rw [val_main_v8_apply, val_main_v7_apply]
    refine congrArg x (funext fun a => Fin.ext ?_)
    match a with
    | ⟨0, _⟩ => show 0 = k.val / 2816; omega
    | ⟨1, _⟩ => show (i.val * 2816 + k.val) / 2816 % 2048 = i.val; omega
    | ⟨2, _⟩ => show (i.val * 2816 + k.val) % 2816 = k.val % 2816; omega
  · refine (concatenate_pair_apply_right (t := Cert.UpDxReferenceIdeal.S2048x5632) (s₁ := Cert.UpDxReferenceIdeal.S2048x2816) (s₂ := Cert.UpDxReferenceIdeal.S2048x2816) 1 _ _ _ (ix2 i k) rfl rfl (ix2 i (⟨k.val - 2816, by omega⟩ : Fin 2816))
      (fun b hb => match b, hb with | ⟨0, _⟩, _ => rfl | ⟨1, _⟩, hb => absurd rfl hb) (Nat.sub_add_cancel (Nat.le_of_not_lt h))).trans ?_
    rw [val_main_v10_apply, val_main_v9_apply]
    refine congrArg x (funext fun a => Fin.ext ?_)
    match a with
    | ⟨0, _⟩ => show 1 + 0 = k.val / 2816; omega
    | ⟨1, _⟩ => show (i.val * 2816 + (k.val - 2816)) / 2816 % 2048 = i.val; omega
    | ⟨2, _⟩ => show (i.val * 2816 + (k.val - 2816)) % 2816 = k.val % 2816; omega

/-- One entry of the reference. -/
theorem ref_at (x : S2x2048x2816.Idx → EReal) (y : S5632x1024.Idx → EReal) (r : Fin 2048) (e : Fin 1024) :
    val_main_v12 (F := Ideal) x y (ix2 r e) = ∑ k : Fin 5632, both x r k * y (ix2 k e) := by
  unfold val_main_v12
  refine Eq.trans (b := ∑ k : Fin 5632, val_main_v11 (F := Ideal) x (ix2 r k) * y (ix2 k e)) (by unfold val_main_v3 val_main_v2; pointwise) (Finset.sum_congr rfl fun k _ => congrArg (· * _) (both_at x r k))

/-! ## Where the blocks lie -/

theorem lt_N (t : Fin cfg0.N) : t.val < 16 := lt_of_lt_of_eq t.isLt N_0

/-- Row `r` and column `e` of block `q` of the result. -/
def row (q : ℕ) (r : Fin 1024) : Fin 2048 := ⟨q / 2 % 2 * 1024 + r.val, by omega⟩
def col (q : ℕ) (e : Fin 512) : Fin 1024 := ⟨q % 2 * 512 + e.val, by omega⟩

theorem index_0 : ∀ t : Fin cfg0.N, win0_0.index t 0 = t.val % 4 / 2 ∧ win0_0.index t 1 = t.val / 4 / 2 % 2 ∧ win0_0.index t 2 = t.val % 4 % 2 := by decide +kernel
theorem index_1 : ∀ t : Fin cfg0.N, win0_1.index t 0 = t.val % 4 ∧ win0_1.index t 1 = t.val / 4 % 2 := by decide +kernel
theorem index_2 : ∀ t : Fin cfg0.N, win0_2.index t 0 = t.val / 4 / 2 % 2 ∧ win0_2.index t 1 = t.val / 4 % 2 := by decide +kernel

theorem emb_0 (t : Fin cfg0.N) (r : Fin 1024) (k : Fin 1408) : (win0_0.rect t).emb (ix3 (0 : Fin 1) r k)
    = ix3 (⟨(at_ 4 1408 (t.val % 4) k).val / 2816, by have := (at_ 4 1408 (t.val % 4) k).isLt; omega⟩ : Fin 2) (row (t.val / 4) r) (⟨(at_ 4 1408 (t.val % 4) k).val % 2816, by omega⟩ : Fin 2816) := by
  have hk : (at_ 4 1408 (t.val % 4) k).val = t.val % 4 * 1408 + k.val := by show t.val % 4 % 4 * 1408 + k.val = _; rw [Nat.mod_mod]
  refine funext fun a => ?_
  match a with
  | ⟨0, _⟩ => exact Fin.ext ((Window.rect_emb_val win0_0 t (ix3 (0 : Fin 1) r k) 0).trans (by rw [(index_0 t).1]; show t.val % 4 / 2 * 1 + 0 = (at_ 4 1408 (t.val % 4) k).val / 2816; rw [hk]; omega))
  | ⟨1, _⟩ => exact Fin.ext ((Window.rect_emb_val win0_0 t (ix3 (0 : Fin 1) r k) 1).trans (by rw [(index_0 t).2.1]; rfl))
  | ⟨2, _⟩ => exact Fin.ext ((Window.rect_emb_val win0_0 t (ix3 (0 : Fin 1) r k) 2).trans (by rw [(index_0 t).2.2]; show t.val % 4 % 2 * 1408 + k.val = (at_ 4 1408 (t.val % 4) k).val % 2816; rw [hk]; omega))

theorem emb_2 (t : Fin cfg0.N) (r : Fin 1024) (e : Fin 512) : (win0_2.rect t).emb (ix2 r e) = ix2 (row (t.val / 4) r) (col (t.val / 4) e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The arguments. -/
def A : S2x2048x2816.Idx → EReal := m ((c : Thread nD τ).loc main_arg0)
def B : S5632x1024.Idx → EReal := m ((c : Thread nD τ).loc main_arg1)

/-- One product's share from block `j` of the contracted axis. -/
def part (i : Fin 2048) (y : Fin 1024) (j : ℕ) : EReal := ∑ k : Fin 1408, both (A m c) i (at_ 4 1408 j k) * B m c (ix2 (at_ 4 1408 j k) y)

theorem iblk_0 (t : Fin cfg0.N) (r : Fin 1024) (k : Fin 1408) : (iblk m c 0 t : S1x1024x1408.Idx → EReal) (ix3 (0 : Fin 1) r k) = both (A m c) (row (t.val / 4) r) (at_ 4 1408 (t.val % 4) k) :=
  (congrFun (V_main_arg0 m c) _).trans (congrArg (A m c) (emb_0 t r k))

theorem iblk_1 (t : Fin cfg0.N) (e : Fin 512) (k : Fin 1408) : (iblk m c 1 t : S1408x512.Idx → EReal) (ix2 k e) = B m c (ix2 (at_ 4 1408 (t.val % 4) k) (col (t.val / 4) e)) :=
  (congrFun (V_main_arg1 m c) _).trans (congrArg (B m c) (lies (index_1 t) (Window.rect_emb_val win0_1 t _ 0) (Window.rect_emb_val win0_1 t _ 1) (by show t.val % 4 * 1408 + k.val = t.val % 4 % 4 * 1408 + k.val; rw [Nat.mod_mod]) rfl))

theorem prod_blk (t : Fin cfg0.N) (r : Fin 1024) (e : Fin 512) :
    k0_pay1 (iblk m c 0 t) (iblk m c 1 t) (ix2 r e) = part m c (row (t.val / 4) r) (col (t.val / 4) e) (t.val % 4) :=
  (prod_at _ _ r e).trans (Finset.sum_congr rfl fun k _ => by rw [iblk_0, iblk_1])

/-- What the accumulator holds after each point but the last of a block's. -/
theorem acc_at (r : Fin 1024) (e : Fin 512) : ∀ t (ht : t < cfg0.N), t % 4 + 1 < 4 →
    (outsAt0 m c t ht).2 (ix2 r e) = ∑ j ∈ Finset.range (t % 4 + 1), part m c (row (t / 4) r) (col (t / 4) e) j :=
  fold 4 cfg0.N (by decide) (fun t ht => (outsAt0 m c t ht).2 (ix2 r e)) (fun q => part m c (row q r) (col q e))
    (fun t ht h => by
      rw [outsAt0_A m c ⟨t, ht⟩ h (by dsimp only; omega) (by dsimp only; omega)]
      dsimp only
      rw [first]
      refine (first_at _ _ r e).trans ((prod_blk m c ⟨t, ht⟩ r e).trans ?_)
      rw [show (⟨t, ht⟩ : Fin cfg0.N).val % 4 = 0 from h])
    (fun t ht h h' => by
      rw [outsAt0_B m c ⟨t, ht⟩ h (by dsimp only; omega) (by dsimp only; omega)]
      dsimp only
      rw [next]
      exact (next_at _ _ _ r e).trans (congrArg (_ + ·) (prod_blk m c ⟨t, ht⟩ r e)))

theorem flushed (t : Fin cfg0.N) (ht : (cfg0.win 2).flush t = true) :
    (dats m 0 c).flushed 2 t = (win0_2.blk t).view.read (Elt Ideal) (val_main_v12 (F := Ideal) (A m c) (B m c) : S2048x1024.Idx → EReal) := by
  have h : t.val % 4 = 3 := (flush0_2 t).mp ht
  rw [Value.flushed2_C m c t (by omega) (by omega) h, last]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v12 (F := Ideal) (A m c) (B m c)) (emb_2 t r e)).symm
  rw [ref_at]
  refine (last_at _ _ _ r e).trans ?_
  rw [prod_blk, acc_at m c r e (t.val - 1) _ (by omega), show (t.val - 1) / 4 = t.val / 4 by omega, show (t.val - 1) % 4 + 1 = 3 by omega, h, ← Finset.sum_range_succ]
  exact sum_blocks 4 1408 fun k => both (A m c) (row (t.val / 4) r) (k) * B m c (ix2 k (col (t.val / 4) e))

theorem cover (x : S2048x1024.Idx) : ∃ t : Fin cfg0.N, (cfg0.win 2).flush t = true ∧ x ∈ ((cfg0.win 2).blk t).view.set := by
  obtain ⟨i, y, rfl⟩ : ∃ (i : Fin 2048) (y : Fin 1024), x = ix2 i y := ⟨x 0, x 1, ValueIdx.eq_ix2 x⟩
  have hN : 4 * (2 * (i.val / 1024) + y.val / 512) + 3 < cfg0.N := lt_of_lt_of_eq (by omega : _ < 16) N_0.symm
  refine ⟨⟨_, hN⟩, (flush0_2 _).mpr (by dsimp only; omega), Finset.mem_map.mpr ⟨ix2 (⟨i.val % 1024, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · show (4 * (2 * (i.val / 1024) + y.val / 512) + 3) / 4 / 2 % 2 * 1024 + i.val % 1024 = i.val
    omega
  · show (4 * (2 * (i.val / 1024) + y.val / 512) + 3) / 4 % 2 * 512 + y.val % 512 = y.val
    omega

/-- The kernel's result is the reference's. -/
theorem final : (dats m 0 c).arrAt 2 cfg0.N = (val_main_v12 (F := Ideal) (A m c) (B m c) : S2048x1024.Idx → EReal) :=
  (dats m 0 c).arrAt_eq_of_cover 2 _ (fun t ht => flushed m c t ht) cover

end Cert.UpDxIdeal.Prod

end
-- ==== Proof.UpDw.lean ====
module

public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwReferenceIdeal.Run
public import proofs.«01_k».proof.Proof.Gen.UpDwReferenceIdeal.Read
public import proofs.«01_k».proof.Proof.Lies

/-! # The gradient of the feed-forward's first weight, laid out transposed: both halves' transposed cotangents times the rows -/

@[expose] public section

noncomputable section

namespace Cert.UpDwIdeal.Prod

open Idealize.ShloMosaic Idealize.ShloMosaic.TcCoe
open Idealize.SL.Sem
open Idealize.ShloMosaic.Pipeline (Dat Cfg Window)
open Cert.UpDwIdeal.Gen
open Cert.UpDwReferenceIdeal.Read

/-- One entry of a block of the product. -/
theorem out_at (x : Vec Ideal S1x2048x1408 .bf16) (y : Vec Ideal S2048x512 .bf16) (r : Fin 1408) (e : Fin 512) :
    out0_2 x y (ix2 r e) = ∑ k : Fin 2048, x (ix3 (0 : Fin 1) k r) * y (ix2 k e) := by
  have hz3 : (![0, 0, 0] : Fin 3 → Nat) = fun _ => 0 := by decide
  have hz : (![0, 0] : Fin 2 → Nat) = fun _ => 0 := by decide
  unfold out0_2
  rw [View.canon_unit_zero hz, View.ld_unit_zero hz3, View.ld_unit_zero hz]
  unfold k0_pay1
  pointwise

/-- The two halves' cotangents side by side. -/
def both (x : S2x2048x2816.Idx → EReal) (i : Fin 2048) (k : Fin 5632) : EReal := x (ix3 (⟨k.val / 2816, by omega⟩ : Fin 2) i (⟨k.val % 2816, by omega⟩ : Fin 2816))

theorem both_at (x : S2x2048x2816.Idx → EReal) (i : Fin 2048) (k : Fin 5632) : val_main_v10 (F := Ideal) x (ix2 i k) = both x i k := by
  unfold val_main_v10 both
  by_cases h : k.val < 2816
  · refine (concatenate_pair_apply_left (t := Cert.UpDwReferenceIdeal.S2048x5632) (s₁ := Cert.UpDwReferenceIdeal.S2048x2816) (s₂ := Cert.UpDwReferenceIdeal.S2048x2816) 1 _ _ _ (ix2 i k) rfl (ix2 i (⟨k.val, h⟩ : Fin 2816)) (fun b => match b with | ⟨0, _⟩ => rfl | ⟨1, _⟩ => rfl)).trans ?_
    rw [val_main_v7_apply, val_main_v6_apply]
    refine congrArg x (funext fun a => Fin.ext ?_)
    match a with
    | ⟨0, _⟩ => show 0 = k.val / 2816; omega
    | ⟨1, _⟩ => show (i.val * 2816 + k.val) / 2816 % 2048 = i.val; omega
    | ⟨2, _⟩ => show (i.val * 2816 + k.val) % 2816 = k.val % 2816; omega
  · refine (concatenate_pair_apply_right (t := Cert.UpDwReferenceIdeal.S2048x5632) (s₁ := Cert.UpDwReferenceIdeal.S2048x2816) (s₂ := Cert.UpDwReferenceIdeal.S2048x2816) 1 _ _ _ (ix2 i k) rfl rfl (ix2 i (⟨k.val - 2816, by omega⟩ : Fin 2816))
      (fun b hb => match b, hb with | ⟨0, _⟩, _ => rfl | ⟨1, _⟩, hb => absurd rfl hb) (Nat.sub_add_cancel (Nat.le_of_not_lt h))).trans ?_
    rw [val_main_v9_apply, val_main_v8_apply]
    refine congrArg x (funext fun a => Fin.ext ?_)
    match a with
    | ⟨0, _⟩ => show 1 + 0 = k.val / 2816; omega
    | ⟨1, _⟩ => show (i.val * 2816 + (k.val - 2816)) / 2816 % 2048 = i.val; omega
    | ⟨2, _⟩ => show (i.val * 2816 + (k.val - 2816)) % 2816 = k.val % 2816; omega

/-- One entry of the reference. -/
theorem ref_at (x : S2x2048x2816.Idx → EReal) (y : S2048x1024.Idx → EReal) (r : Fin 5632) (e : Fin 1024) :
    val_main_v14 (F := Ideal) x y (ix2 r e) = ∑ k : Fin 2048, both x k r * y (ix2 k e) := by
  refine Eq.trans (b := ∑ k : Fin 2048, val_main_v10 (F := Ideal) x (ix2 k r) * y (ix2 k e)) (by unfold val_main_v14 val_main_v13 val_main_v12 val_main_v11 val_main_v2; pointwise) (Finset.sum_congr rfl fun k _ => congrArg (· * _) (both_at x k r))

/-! ## Where the blocks lie -/

theorem lt_N (t : Fin cfg0.N) : t.val < 8 := lt_of_lt_of_eq t.isLt N_0

/-- Row `r` of point `t`'s block of rows, and column `e` of its block of columns. -/
def row (t : Fin cfg0.N) (r : Fin 1408) : Fin 5632 := ⟨t.val / 2 * 1408 + r.val, by have := lt_N t; omega⟩
def col (t : Fin cfg0.N) (e : Fin 512) : Fin 1024 := ⟨t.val % 2 * 512 + e.val, by have := lt_N t; omega⟩

theorem index_0 : ∀ t : Fin cfg0.N, win0_0.index t 0 = t.val / 2 / 2 ∧ win0_0.index t 1 = 0 ∧ win0_0.index t 2 = t.val / 2 % 2 := by decide +kernel
theorem index_1 : ∀ t : Fin cfg0.N, win0_1.index t 0 = 0 ∧ win0_1.index t 1 = t.val % 2 := by decide +kernel
theorem index_2 : ∀ t : Fin cfg0.N, win0_2.index t 0 = t.val / 2 ∧ win0_2.index t 1 = t.val % 2 := by decide +kernel

theorem emb_0 (t : Fin cfg0.N) (r : Fin 1408) (k : Fin 2048) : (win0_0.rect t).emb (ix3 (0 : Fin 1) k r)
    = ix3 (⟨(row t r).val / 2816, by omega⟩ : Fin 2) k (⟨(row t r).val % 2816, by omega⟩ : Fin 2816) := by
  have hk : (row t r).val = t.val / 2 * 1408 + r.val := rfl
  refine funext fun a => ?_
  match a with
  | ⟨0, _⟩ => exact Fin.ext ((Window.rect_emb_val win0_0 t (ix3 (0 : Fin 1) k r) 0).trans (by rw [(index_0 t).1]; show t.val / 2 / 2 * 1 + 0 = (row t r).val / 2816; rw [hk]; omega))
  | ⟨1, _⟩ => exact Fin.ext ((Window.rect_emb_val win0_0 t (ix3 (0 : Fin 1) k r) 1).trans (by rw [(index_0 t).2.1]; exact Nat.zero_add _))
  | ⟨2, _⟩ => exact Fin.ext ((Window.rect_emb_val win0_0 t (ix3 (0 : Fin 1) k r) 2).trans (by rw [(index_0 t).2.2]; show t.val / 2 % 2 * 1408 + r.val = (row t r).val % 2816; rw [hk]; omega))

theorem emb_2 (t : Fin cfg0.N) (r : Fin 1408) (e : Fin 512) : (win0_2.rect t).emb (ix2 r e) = ix2 (row t r) (col t e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The two arguments. -/
def A : S2x2048x2816.Idx → EReal := m ((c : Thread nD τ).loc main_arg0)
def B : S2048x1024.Idx → EReal := m ((c : Thread nD τ).loc main_arg1)

theorem iblk_0 (t : Fin cfg0.N) (r : Fin 1408) (k : Fin 2048) : (iblk m c 0 t : S1x2048x1408.Idx → EReal) (ix3 (0 : Fin 1) k r) = both (A m c) k (row t r) :=
  (congrFun (V_main_arg0 m c) _).trans (congrArg (A m c) (emb_0 t r k))

theorem iblk_1 (t : Fin cfg0.N) (e : Fin 512) (k : Fin 2048) : (iblk m c 1 t : S2048x512.Idx → EReal) (ix2 k e) = B m c (ix2 k (col t e)) :=
  (congrFun (V_main_arg1 m c) _).trans (congrArg (B m c) (lies (index_1 t) (Window.rect_emb_val win0_1 t _ 0) (Window.rect_emb_val win0_1 t _ 1) (Nat.zero_add _) rfl))

theorem flushed (t : Fin cfg0.N) :
    (dats m 0 c).flushed 2 t = (win0_2.blk t).view.read (Elt Ideal) (val_main_v14 (F := Ideal) (A m c) (B m c) : S5632x1024.Idx → EReal) := by
  rw [Value.flushed2]
  refine funext fun (x : S1408x512.Idx) => ?_
  obtain ⟨r, e, rfl⟩ : ∃ (r : Fin 1408) (e : Fin 512), x = ix2 r e := ⟨x 0, x 1, ValueIdx.eq_ix2 x⟩
  refine Eq.trans ?_ (congrArg (val_main_v14 (F := Ideal) (A m c) (B m c)) (emb_2 t r e)).symm
  rw [ref_at]
  refine (out_at _ _ r e).trans (Finset.sum_congr rfl fun k _ => ?_)
  rw [iblk_0, iblk_1]

theorem cover (x : S5632x1024.Idx) : ∃ t : Fin cfg0.N, (cfg0.win 2).flush t = true ∧ x ∈ ((cfg0.win 2).blk t).view.set := by
  obtain ⟨i, y, rfl⟩ : ∃ (i : Fin 5632) (y : Fin 1024), x = ix2 i y := ⟨x 0, x 1, ValueIdx.eq_ix2 x⟩
  have hN : 2 * (i.val / 1408) + y.val / 512 < cfg0.N := lt_of_lt_of_eq (by omega : _ < 8) N_0.symm
  refine ⟨⟨_, hN⟩, flush0_2 _, Finset.mem_map.mpr ⟨ix2 (⟨i.val % 1408, by omega⟩ : Fin 1408) (⟨y.val % 512, by omega⟩ : Fin 512), Finset.mem_univ _, ?_⟩⟩
  refine (emb_2 ⟨_, hN⟩ _ _).trans (congrArg₂ ix2 (Fin.ext ?_) (Fin.ext ?_))
  · show (2 * (i.val / 1408) + y.val / 512) / 2 * 1408 + i.val % 1408 = i.val
    omega
  · show (2 * (i.val / 1408) + y.val / 512) % 2 * 512 + y.val % 512 = y.val
    omega

/-- The kernel's result is the reference's. -/
theorem final : (dats m 0 c).arrAt 2 cfg0.N = (val_main_v14 (F := Ideal) (A m c) (B m c) : S5632x1024.Idx → EReal) :=
  (dats m 0 c).arrAt_eq_of_cover 2 _ (fun t _ => flushed m c t) cover

end Cert.UpDwIdeal.Prod

end
-- ==== Proof.ODx.lean ====
module

public import proofs.«01_k».proof.Proof.Gen.ODx.Frame
public import proofs.«01_k».proof.Proof.Gen.ODxIdeal.Frame
public import proofs.«01_k».proof.Proof.Gen.ODxIdeal.Value
public import proofs.«01_k».proof.Proof.Gen.ODxReferenceIdeal.Run
public import proofs.«01_k».proof.Proof.Gen.ODxReferenceIdeal.Read
public import proofs.«01_k».proof.Proof.Lies

/-! # The gradient of the mixed rows: the cotangent times the transposed output weight -/

@[expose] public section

noncomputable section

namespace Cert.ODxIdeal.Prod

open Idealize.ShloMosaic Idealize.ShloMosaic.TcCoe
open Idealize.SL.Sem
open Idealize.ShloMosaic.Pipeline (Dat Cfg Window)
open Cert.ODxIdeal.Gen
open Cert.ODxReferenceIdeal.Read

/-- One entry of a block of the product. -/
theorem out_at (x : Vec Ideal S1024x1024 .bf16) (y : Vec Ideal S512x1024 .bf16) (r : Fin 1024) (e : Fin 512) :
    out0_2 x y (ix2 r e) = ∑ k : Fin 1024, x (ix2 r k) * y (ix2 e k) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x1024.Idx → EReal) (y : S1024x1024.Idx → EReal) (r : Fin 2048) (e : Fin 1024) :
    val_main_v4 (F := Ideal) x y (ix2 r e) = ∑ k : Fin 1024, x (ix2 r k) * y (ix2 e k) := by
  unfold val_main_v4 val_main_v3 val_main_v1
  pointwise

/-! ## Where the blocks lie -/

theorem lt_N (t : Fin cfg0.N) : t.val < 4 := lt_of_lt_of_eq t.isLt N_0

/-- Row `r` of point `t`'s block of rows, and column `e` of its block of columns. -/
def row (t : Fin cfg0.N) (r : Fin 1024) : Fin 2048 := ⟨t.val / 2 * 1024 + r.val, by have := lt_N t; omega⟩
def col (t : Fin cfg0.N) (e : Fin 512) : Fin 1024 := ⟨t.val % 2 * 512 + e.val, by have := lt_N t; omega⟩

theorem index_0 : ∀ t : Fin cfg0.N, win0_0.index t 0 = t.val / 2 ∧ win0_0.index t 1 = 0 := by decide +kernel
theorem index_1 : ∀ t : Fin cfg0.N, win0_1.index t 0 = t.val % 2 ∧ win0_1.index t 1 = 0 := by decide +kernel
theorem index_2 : ∀ t : Fin cfg0.N, win0_2.index t 0 = t.val / 2 ∧ win0_2.index t 1 = t.val % 2 := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The two arguments. -/
def A : S2048x1024.Idx → EReal := m ((c : Thread nD τ).loc main_arg0)
def B : S1024x1024.Idx → EReal := m ((c : Thread nD τ).loc main_arg1)

theorem iblk_0 (t : Fin cfg0.N) (r : Fin 1024) (k : Fin 1024) : (iblk m c 0 t : S1024x1024.Idx → EReal) (ix2 r k) = A m c (ix2 (row t r) k) :=
  (congrFun (V_main_arg0 m c) _).trans (congrArg (A m c) (lies (index_0 t) (Window.rect_emb_val win0_0 t _ 0) (Window.rect_emb_val win0_0 t _ 1) rfl (Nat.zero_add _)))

theorem iblk_1 (t : Fin cfg0.N) (e : Fin 512) (k : Fin 1024) : (iblk m c 1 t : S512x1024.Idx → EReal) (ix2 e k) = B m c (ix2 (col t e) k) :=
  (congrFun (V_main_arg1 m c) _).trans (congrArg (B m c) (lies (index_1 t) (Window.rect_emb_val win0_1 t _ 0) (Window.rect_emb_val win0_1 t _ 1) rfl (Nat.zero_add _)))

theorem flushed (t : Fin cfg0.N) :
    (dats m 0 c).flushed 2 t = (win0_2.blk t).view.read (Elt Ideal) (val_main_v4 (F := Ideal) (A m c) (B m c) : S2048x1024.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v4 (F := Ideal) (A m c) (B m c)) (emb_2 t r e)).symm
  rw [ref_at]
  refine (out_at _ _ r e).trans (Finset.sum_congr rfl fun k _ => ?_)
  rw [iblk_0, iblk_1]

theorem cover (x : S2048x1024.Idx) : ∃ t : Fin cfg0.N, (cfg0.win 2).flush t = true ∧ x ∈ ((cfg0.win 2).blk t).view.set := by
  obtain ⟨i, y, rfl⟩ : ∃ (i : Fin 2048) (y : Fin 1024), x = ix2 i y := ⟨x 0, x 1, ValueIdx.eq_ix2 x⟩
  have hN : 2 * (i.val / 1024) + y.val / 512 < cfg0.N := lt_of_lt_of_eq (by omega : _ < 4) N_0.symm
  refine ⟨⟨_, hN⟩, flush0_2 _, Finset.mem_map.mpr ⟨ix2 (⟨i.val % 1024, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · show (2 * (i.val / 1024) + y.val / 512) / 2 * 1024 + i.val % 1024 = i.val
    omega
  · show (2 * (i.val / 1024) + y.val / 512) % 2 * 512 + y.val % 512 = y.val
    omega

/-- The kernel's result is the reference's. -/
theorem final : (dats m 0 c).arrAt 2 cfg0.N = (val_main_v4 (F := Ideal) (A m c) (B m c) : S2048x1024.Idx → EReal) :=
  (dats m 0 c).arrAt_eq_of_cover 2 _ (fun t _ => flushed m c t) cover

end Cert.ODxIdeal.Prod

end
-- ==== Proof.ODw.lean ====
module

public import proofs.«01_k».proof.Proof.Gen.ODw.Frame
public import proofs.«01_k».proof.Proof.Gen.ODwIdeal.Frame
public import proofs.«01_k».proof.Proof.Gen.ODwIdeal.Value
public import proofs.«01_k».proof.Proof.Gen.ODwReferenceIdeal.Run
public import proofs.«01_k».proof.Proof.Gen.ODwReferenceIdeal.Read
public import proofs.«01_k».proof.Proof.Lies

/-! # The gradient of the output weight: the transposed mixed rows times the cotangent -/

@[expose] public section

noncomputable section

namespace Cert.ODwIdeal.Prod

open Idealize.ShloMosaic Idealize.ShloMosaic.TcCoe
open Idealize.SL.Sem
open Idealize.ShloMosaic.Pipeline (Dat Cfg Window)
open Cert.ODwIdeal.Gen
open Cert.ODwReferenceIdeal.Read

/-- One entry of a block of the product. -/
theorem out_at (x : Vec Ideal S2048x1024 .bf16) (y : Vec Ideal S2048x512 .bf16) (r : Fin 1024) (e : Fin 512) :
    out0_2 x y (ix2 r e) = ∑ k : Fin 2048, x (ix2 k r) * y (ix2 k e) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x1024.Idx → EReal) (y : S2048x1024.Idx → EReal) (r : Fin 1024) (e : Fin 1024) :
    val_main_v6 (F := Ideal) x y (ix2 r e) = ∑ k : Fin 2048, y (ix2 k e) * x (ix2 k r) := by
  unfold val_main_v6 val_main_v5 val_main_v4 val_main_v3 val_main_v1
  pointwise

/-! ## Where the blocks lie -/

theorem lt_N (t : Fin cfg0.N) : t.val < 2 := lt_of_lt_of_eq t.isLt N_0

/-- Row `r` of point `t`'s block of rows, and column `e` of its block of columns. -/
def row (t : Fin cfg0.N) (r : Fin 1024) : Fin 1024 := ⟨r.val, by omega⟩
def col (t : Fin cfg0.N) (e : Fin 512) : Fin 1024 := ⟨t.val * 512 + e.val, by have := lt_N t; omega⟩

theorem index_0 : ∀ t : Fin cfg0.N, win0_0.index t 0 = 0 ∧ win0_0.index t 1 = 0 := by decide +kernel
theorem index_1 : ∀ t : Fin cfg0.N, win0_1.index t 0 = 0 ∧ win0_1.index t 1 = t.val := by decide +kernel
theorem index_2 : ∀ t : Fin cfg0.N, win0_2.index t 0 = 0 ∧ win0_2.index t 1 = t.val := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) (Nat.zero_add _) rfl

/-! ## The result -/

variable (m : (ℓ : Loc nD τ sig) → Buf (Elt Ideal) ℓ) (c : Dev nD)

/-- The two arguments. -/
def A : S2048x1024.Idx → EReal := m ((c : Thread nD τ).loc main_arg0)
def B : S2048x1024.Idx → EReal := m ((c : Thread nD τ).loc main_arg1)

theorem iblk_0 (t : Fin cfg0.N) (r : Fin 1024) (k : Fin 2048) : (iblk m c 0 t : S2048x1024.Idx → EReal) (ix2 k r) = A m c (ix2 k (row t r)) :=
  (congrFun (V_main_arg0 m c) _).trans (congrArg (A m c) (lies (index_0 t) (Window.rect_emb_val win0_0 t _ 0) (Window.rect_emb_val win0_0 t _ 1) (Nat.zero_add _) (Nat.zero_add _)))

theorem iblk_1 (t : Fin cfg0.N) (e : Fin 512) (k : Fin 2048) : (iblk m c 1 t : S2048x512.Idx → EReal) (ix2 k e) = B m c (ix2 k (col t e)) :=
  (congrFun (V_main_arg1 m c) _).trans (congrArg (B m c) (lies (index_1 t) (Window.rect_emb_val win0_1 t _ 0) (Window.rect_emb_val win0_1 t _ 1) (Nat.zero_add _) rfl))

theorem flushed (t : Fin cfg0.N) :
    (dats m 0 c).flushed 2 t = (win0_2.blk t).view.read (Elt Ideal) (val_main_v6 (F := Ideal) (A m c) (B m c) : S1024x1024.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v6 (F := Ideal) (A m c) (B m c)) (emb_2 t r e)).symm
  rw [ref_at]
  refine (out_at _ _ r e).trans (Finset.sum_congr rfl fun k _ => ?_)
  rw [iblk_0, iblk_1, mul_comm]

theorem cover (x : S1024x1024.Idx) : ∃ t : Fin cfg0.N, (cfg0.win 2).flush t = true ∧ x ∈ ((cfg0.win 2).blk t).view.set := by
  obtain ⟨i, y, rfl⟩ : ∃ (i : Fin 1024) (y : Fin 1024), x = ix2 i y := ⟨x 0, x 1, ValueIdx.eq_ix2 x⟩
  have hN : y.val / 512 < cfg0.N := lt_of_lt_of_eq (by omega : _ < 2) N_0.symm
  refine ⟨⟨_, hN⟩, flush0_2 _, Finset.mem_map.mpr ⟨ix2 (⟨i.val, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · rfl
  · show (y.val / 512) * 512 + y.val % 512 = y.val
    omega

/-- The kernel's result is the reference's. -/
theorem final : (dats m 0 c).arrAt 2 cfg0.N = (val_main_v6 (F := Ideal) (A m c) (B m c) : S1024x1024.Idx → EReal) :=
  (dats m 0 c).arrAt_eq_of_cover 2 _ (fun t _ => flushed m c t) cover

end Cert.ODwIdeal.Prod

end
-- ==== Proof.BrDx.lean ====
module

public import proofs.«01_k».proof.Proof.Gen.BrDx.Frame
public import proofs.«01_k».proof.Proof.Gen.BrDxIdeal.Frame
public import proofs.«01_k».proof.Proof.Gen.BrDxIdeal.Value
public import proofs.«01_k».proof.Proof.Gen.BrDxReferenceIdeal.Run
public import proofs.«01_k».proof.Proof.Gen.BrDxReferenceIdeal.Read
public import proofs.«01_k».proof.Proof.Lies

/-! # The gradient of a branch's rows: the cotangent times the transposed branch weight -/

@[expose] public section

noncomputable section

namespace Cert.BrDxIdeal.Prod

open Idealize.ShloMosaic Idealize.ShloMosaic.TcCoe
open Idealize.SL.Sem
open Idealize.ShloMosaic.Pipeline (Dat Cfg Window)
open Cert.BrDxIdeal.Gen
open Cert.BrDxReferenceIdeal.Read

/-- One entry of a block of the product. -/
theorem out_at (x : Vec Ideal S1024x1024 .bf16) (y : Vec Ideal S1024x512 .bf16) (r : Fin 1024) (e : Fin 512) :
    out0_2 x y (ix2 r e) = ∑ k : Fin 1024, x (ix2 r k) * y (ix2 k e) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x1024.Idx → EReal) (y : S1024x512.Idx → EReal) (r : Fin 2048) (e : Fin 512) :
    val_main_v5 (F := Ideal) x y (ix2 r e) = ∑ k : Fin 1024, x (ix2 r k) * y (ix2 k e) := by
  unfold val_main_v5 val_main_v4 val_main_v2 val_main_v1
  pointwise

/-! ## Where the blocks lie -/

theorem lt_N (t : Fin cfg0.N) : t.val < 2 := lt_of_lt_of_eq t.isLt N_0

/-- Row `r` of point `t`'s block of rows, and column `e` of its block of columns. -/
def row (t : Fin cfg0.N) (r : Fin 1024) : Fin 2048 := ⟨t.val * 1024 + r.val, by have := lt_N t; omega⟩
def col (t : Fin cfg0.N) (e : Fin 512) : Fin 512 := ⟨e.val, by omega⟩

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) rfl (Nat.zero_add _)

/-! ## The result -/

variable (m : (ℓ : Loc nD τ sig) → Buf (Elt Ideal) ℓ) (c : Dev nD)

/-- The two arguments. -/
def A : S2048x1024.Idx → EReal := m ((c : Thread nD τ).loc main_arg0)
def B : S1024x512.Idx → EReal := m ((c : Thread nD τ).loc main_arg1)

theorem iblk_0 (t : Fin cfg0.N) (r : Fin 1024) (k : Fin 1024) : (iblk m c 0 t : S1024x1024.Idx → EReal) (ix2 r k) = A m c (ix2 (row t r) k) :=
  (congrFun (V_main_arg0 m c) _).trans (congrArg (A m c) (lies (index_0 t) (Window.rect_emb_val win0_0 t _ 0) (Window.rect_emb_val win0_0 t _ 1) rfl (Nat.zero_add _)))

theorem iblk_1 (t : Fin cfg0.N) (e : Fin 512) (k : Fin 1024) : (iblk m c 1 t : S1024x512.Idx → EReal) (ix2 k e) = B m c (ix2 k (col t e)) :=
  (congrFun (V_main_arg1 m c) _).trans (congrArg (B m c) (lies (index_1 t) (Window.rect_emb_val win0_1 t _ 0) (Window.rect_emb_val win0_1 t _ 1) (Nat.zero_add _) (Nat.zero_add _)))

theorem flushed (t : Fin cfg0.N) :
    (dats m 0 c).flushed 2 t = (win0_2.blk t).view.read (Elt Ideal) (val_main_v5 (F := Ideal) (A m c) (B m c) : S2048x512.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v5 (F := Ideal) (A m c) (B m c)) (emb_2 t r e)).symm
  rw [ref_at]
  refine (out_at _ _ r e).trans (Finset.sum_congr rfl fun k _ => ?_)
  rw [iblk_0, iblk_1]

theorem cover (x : S2048x512.Idx) : ∃ t : Fin cfg0.N, (cfg0.win 2).flush t = true ∧ x ∈ ((cfg0.win 2).blk t).view.set := by
  obtain ⟨i, y, rfl⟩ : ∃ (i : Fin 2048) (y : Fin 512), x = ix2 i y := ⟨x 0, x 1, ValueIdx.eq_ix2 x⟩
  have hN : i.val / 1024 < cfg0.N := lt_of_lt_of_eq (by omega : _ < 2) N_0.symm
  refine ⟨⟨_, hN⟩, flush0_2 _, Finset.mem_map.mpr ⟨ix2 (⟨i.val % 1024, by omega⟩ : Fin 1024) (⟨y.val, by omega⟩ : Fin 512), Finset.mem_univ _, ?_⟩⟩
  refine (emb_2 ⟨_, hN⟩ _ _).trans (congrArg₂ ix2 (Fin.ext ?_) (Fin.ext ?_))
  · show (i.val / 1024) * 1024 + i.val % 1024 = i.val
    omega
  · rfl

/-- The kernel's result is the reference's. -/
theorem final : (dats m 0 c).arrAt 2 cfg0.N = (val_main_v5 (F := Ideal) (A m c) (B m c) : S2048x512.Idx → EReal) :=
  (dats m 0 c).arrAt_eq_of_cover 2 _ (fun t _ => flushed m c t) cover

end Cert.BrDxIdeal.Prod

end
-- ==== Proof.BrDw.lean ====
module

public import proofs.«01_k».proof.Proof.Gen.BrDw.Frame
public import proofs.«01_k».proof.Proof.Gen.BrDwIdeal.Frame
public import proofs.«01_k».proof.Proof.Gen.BrDwIdeal.Value
public import proofs.«01_k».proof.Proof.Gen.BrDwReferenceIdeal.Run
public import proofs.«01_k».proof.Proof.Gen.BrDwReferenceIdeal.Read
public import proofs.«01_k».proof.Proof.Lies

/-! # The gradient of a branch's weight, laid out transposed: the transposed cotangent times the branch's rows -/

@[expose] public section

noncomputable section

namespace Cert.BrDwIdeal.Prod

open Idealize.ShloMosaic Idealize.ShloMosaic.TcCoe
open Idealize.SL.Sem
open Idealize.ShloMosaic.Pipeline (Dat Cfg Window)
open Cert.BrDwIdeal.Gen
open Cert.BrDwReferenceIdeal.Read

/-- One entry of a block of the product. -/
theorem out_at (x : Vec Ideal S2048x1024 .bf16) (y : Vec Ideal S2048x512 .bf16) (r : Fin 1024) (e : Fin 512) :
    out0_2 x y (ix2 r e) = ∑ k : Fin 2048, x (ix2 k r) * y (ix2 k e) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x1024.Idx → EReal) (y : S2048x512.Idx → EReal) (r : Fin 1024) (e : Fin 512) :
    val_main_v7 (F := Ideal) x y (ix2 r e) = ∑ k : Fin 2048, x (ix2 k r) * y (ix2 k e) := by
  unfold val_main_v7 val_main_v6 val_main_v5 val_main_v4 val_main_v3 val_main_v1
  pointwise

/-! ## Where the blocks lie -/

theorem lt_N (t : Fin cfg0.N) : t.val < 1 := lt_of_lt_of_eq t.isLt N_0

/-- Row `r` of point `t`'s block of rows, and column `e` of its block of columns. -/
def row (t : Fin cfg0.N) (r : Fin 1024) : Fin 1024 := ⟨r.val, by omega⟩
def col (t : Fin cfg0.N) (e : Fin 512) : Fin 512 := ⟨e.val, by omega⟩

theorem index_0 : ∀ t : Fin cfg0.N, win0_0.index t 0 = 0 ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = 0 ∧ win0_2.index t 1 = 0 := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) (Nat.zero_add _) (Nat.zero_add _)

/-! ## The result -/

variable (m : (ℓ : Loc nD τ sig) → Buf (Elt Ideal) ℓ) (c : Dev nD)

/-- The two arguments. -/
def A : S2048x1024.Idx → EReal := m ((c : Thread nD τ).loc main_arg0)
def B : S2048x512.Idx → EReal := m ((c : Thread nD τ).loc main_arg1)

theorem iblk_0 (t : Fin cfg0.N) (r : Fin 1024) (k : Fin 2048) : (iblk m c 0 t : S2048x1024.Idx → EReal) (ix2 k r) = A m c (ix2 k (row t r)) :=
  (congrFun (V_main_arg0 m c) _).trans (congrArg (A m c) (lies (index_0 t) (Window.rect_emb_val win0_0 t _ 0) (Window.rect_emb_val win0_0 t _ 1) (Nat.zero_add _) (Nat.zero_add _)))

theorem iblk_1 (t : Fin cfg0.N) (e : Fin 512) (k : Fin 2048) : (iblk m c 1 t : S2048x512.Idx → EReal) (ix2 k e) = B m c (ix2 k (col t e)) :=
  (congrFun (V_main_arg1 m c) _).trans (congrArg (B m c) (lies (index_1 t) (Window.rect_emb_val win0_1 t _ 0) (Window.rect_emb_val win0_1 t _ 1) (Nat.zero_add _) (Nat.zero_add _)))

theorem flushed (t : Fin cfg0.N) :
    (dats m 0 c).flushed 2 t = (win0_2.blk t).view.read (Elt Ideal) (val_main_v7 (F := Ideal) (A m c) (B m c) : S1024x512.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v7 (F := Ideal) (A m c) (B m c)) (emb_2 t r e)).symm
  rw [ref_at]
  refine (out_at _ _ r e).trans (Finset.sum_congr rfl fun k _ => ?_)
  rw [iblk_0, iblk_1]

theorem cover (x : S1024x512.Idx) : ∃ t : Fin cfg0.N, (cfg0.win 2).flush t = true ∧ x ∈ ((cfg0.win 2).blk t).view.set := by
  obtain ⟨i, y, rfl⟩ : ∃ (i : Fin 1024) (y : Fin 512), x = ix2 i y := ⟨x 0, x 1, ValueIdx.eq_ix2 x⟩
  have hN : 0 < cfg0.N := lt_of_lt_of_eq (by omega : _ < 1) N_0.symm
  refine ⟨⟨_, hN⟩, flush0_2 _, Finset.mem_map.mpr ⟨ix2 (⟨i.val, by omega⟩ : Fin 1024) (⟨y.val, by omega⟩ : Fin 512), Finset.mem_univ _, ?_⟩⟩
  refine (emb_2 ⟨_, hN⟩ _ _).trans (congrArg₂ ix2 (Fin.ext ?_) (Fin.ext ?_))
  · rfl
  · rfl

/-- The kernel's result is the reference's. -/
theorem final : (dats m 0 c).arrAt 2 cfg0.N = (val_main_v7 (F := Ideal) (A m c) (B m c) : S1024x512.Idx → EReal) :=
  (dats m 0 c).arrAt_eq_of_cover 2 _ (fun t _ => flushed m c t) cover

end Cert.BrDwIdeal.Prod

end
-- ==== Proof.FoxDw.lean ====
module

public import proofs.«01_k».proof.Proof.Gen.FoxDw.Frame
public import proofs.«01_k».proof.Proof.Gen.FoxDwIdeal.Frame
public import proofs.«01_k».proof.Proof.Gen.FoxDwIdeal.Value
public import proofs.«01_k».proof.Proof.Gen.FoxDwReferenceIdeal.Run
public import proofs.«01_k».proof.Proof.Gen.FoxDwReferenceIdeal.Read
public import proofs.«01_k».proof.Proof.Lies

/-! # The gradient of the attention branch's weight, laid out transposed: the transposed cotangent times the attention's rows -/

@[expose] public section

noncomputable section

namespace Cert.FoxDwIdeal.Prod

open Idealize.ShloMosaic Idealize.ShloMosaic.TcCoe
open Idealize.SL.Sem
open Idealize.ShloMosaic.Pipeline (Dat Cfg Window)
open Cert.FoxDwIdeal.Gen
open Cert.FoxDwReferenceIdeal.Read

/-- One entry of a block of the product. -/
theorem out_at (x : Vec Ideal S2048x1024 .bf16) (y : Vec Ideal S2048x512 .f32) (r : Fin 1024) (e : Fin 512) :
    out0_2 x y (ix2 r e) = ∑ k : Fin 2048, x (ix2 k r) * y (ix2 k e) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x1024.Idx → EReal) (y : S2048x512.Idx → EReal) (r : Fin 1024) (e : Fin 512) :
    val_main_v6 (F := Ideal) x y (ix2 r e) = ∑ k : Fin 2048, x (ix2 k r) * y (ix2 k e) := by
  unfold val_main_v6 val_main_v5 val_main_v4 val_main_v3 val_main_v2
  pointwise

/-! ## Where the blocks lie -/

theorem lt_N (t : Fin cfg0.N) : t.val < 1 := lt_of_lt_of_eq t.isLt N_0

/-- Row `r` of point `t`'s block of rows, and column `e` of its block of columns. -/
def row (t : Fin cfg0.N) (r : Fin 1024) : Fin 1024 := ⟨r.val, by omega⟩
def col (t : Fin cfg0.N) (e : Fin 512) : Fin 512 := ⟨e.val, by omega⟩

theorem index_0 : ∀ t : Fin cfg0.N, win0_0.index t 0 = 0 ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = 0 ∧ win0_2.index t 1 = 0 := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) (Nat.zero_add _) (Nat.zero_add _)

/-! ## The result -/

variable (m : (ℓ : Loc nD τ sig) → Buf (Elt Ideal) ℓ) (c : Dev nD)

/-- The two arguments. -/
def A : S2048x1024.Idx → EReal := m ((c : Thread nD τ).loc main_arg0)
def B : S2048x512.Idx → EReal := m ((c : Thread nD τ).loc main_arg1)

theorem iblk_0 (t : Fin cfg0.N) (r : Fin 1024) (k : Fin 2048) : (iblk m c 0 t : S2048x1024.Idx → EReal) (ix2 k r) = A m c (ix2 k (row t r)) :=
  (congrFun (V_main_arg0 m c) _).trans (congrArg (A m c) (lies (index_0 t) (Window.rect_emb_val win0_0 t _ 0) (Window.rect_emb_val win0_0 t _ 1) (Nat.zero_add _) (Nat.zero_add _)))

theorem iblk_1 (t : Fin cfg0.N) (e : Fin 512) (k : Fin 2048) : (iblk m c 1 t : S2048x512.Idx → EReal) (ix2 k e) = B m c (ix2 k (col t e)) :=
  (congrFun (V_main_arg1 m c) _).trans (congrArg (B m c) (lies (index_1 t) (Window.rect_emb_val win0_1 t _ 0) (Window.rect_emb_val win0_1 t _ 1) (Nat.zero_add _) (Nat.zero_add _)))

theorem flushed (t : Fin cfg0.N) :
    (dats m 0 c).flushed 2 t = (win0_2.blk t).view.read (Elt Ideal) (val_main_v6 (F := Ideal) (A m c) (B m c) : S1024x512.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v6 (F := Ideal) (A m c) (B m c)) (emb_2 t r e)).symm
  rw [ref_at]
  refine (out_at _ _ r e).trans (Finset.sum_congr rfl fun k _ => ?_)
  rw [iblk_0, iblk_1]

theorem cover (x : S1024x512.Idx) : ∃ t : Fin cfg0.N, (cfg0.win 2).flush t = true ∧ x ∈ ((cfg0.win 2).blk t).view.set := by
  obtain ⟨i, y, rfl⟩ : ∃ (i : Fin 1024) (y : Fin 512), x = ix2 i y := ⟨x 0, x 1, ValueIdx.eq_ix2 x⟩
  have hN : 0 < cfg0.N := lt_of_lt_of_eq (by omega : _ < 1) N_0.symm
  refine ⟨⟨_, hN⟩, flush0_2 _, Finset.mem_map.mpr ⟨ix2 (⟨i.val, by omega⟩ : Fin 1024) (⟨y.val, by omega⟩ : Fin 512), Finset.mem_univ _, ?_⟩⟩
  refine (emb_2 ⟨_, hN⟩ _ _).trans (congrArg₂ ix2 (Fin.ext ?_) (Fin.ext ?_))
  · rfl
  · rfl

/-- The kernel's result is the reference's. -/
theorem final : (dats m 0 c).arrAt 2 cfg0.N = (val_main_v6 (F := Ideal) (A m c) (B m c) : S1024x512.Idx → EReal) :=
  (dats m 0 c).arrAt_eq_of_cover 2 _ (fun t _ => flushed m c t) cover

end Cert.FoxDwIdeal.Prod

end
-- ==== Proof.GateDx.lean ====
module

public import proofs.«01_k».proof.Proof.Gen.GateDx.Frame
public import proofs.«01_k».proof.Proof.Gen.GateDxIdeal.Frame
public import proofs.«01_k».proof.Proof.Gen.GateDxIdeal.Value
public import proofs.«01_k».proof.Proof.Gen.GateDxReferenceIdeal.Run
public import proofs.«01_k».proof.Proof.Gen.GateDxReferenceIdeal.Read
public import proofs.«01_k».proof.Proof.Steps
public import proofs.«01_k».proof.Proof.Lies

/-! # The gradient of the gates' rows: the cotangent times the gates' weight, added up over three blocks of columns -/

@[expose] public section

noncomputable section

namespace Cert.GateDxIdeal.Prod

open Idealize.ShloMosaic Idealize.ShloMosaic.TcCoe
open Idealize.SL.Sem
open Idealize.ShloMosaic.Pipeline (Dat Cfg Window)
open Cert.Steps
open Cert.GateDxIdeal.Gen
open Cert.GateDxReferenceIdeal.Read

/-! ## What one step leaves -/

section Cases
variable (c : Dev nD) (i : grid0.Coords) (p3 : Memref sig .tc .vmem S1024x1024 .bf16) (h3 : p3.IsWhole) (p4 : Memref sig .tc .vmem S1024x512 .bf16) (h4 : p4.IsWhole)
  (p5 : Memref sig .tc .vmem S1024x512 .f32) (h5 : p5.IsWhole) (p6 : Memref sig .tc .vmem S1024x512 .f32) (h6 : p6.IsWhole)
  (x : Vec Ideal S1024x1024 .bf16) (y : Vec Ideal S1024x512 .bf16) (a : Vec Ideal S1024x512 .f32)

/-- The first step leaves its product in the accumulator. -/
theorem first (c0 : cond0_0 i) (c1 : ¬cond0_1 i) (c2 : ¬cond0_2 i) : sout0_A_0 c i p3 h3 p4 h4 p5 h5 p6 h6 c0 c1 c2 x y = k0_pay2 x y := by
  unfold sout0_A_0
  rw [View.read_writes_junk_eq_canon]
  unfold kernelRun0_A
  dsimp only
  rw [View.canon_unit_zero hz]
  exact congrArg₂ k0_pay2 (load_whole p3 h3 x hz _) (load_whole p4 h4 y hz _)

/-- A step between adds its product to what the accumulator held. -/
theorem next (c0 : ¬cond0_0 i) (c1 : cond0_1 i) (c2 : ¬cond0_2 i) : sout0_B_0 c i p3 h3 p4 h4 p5 h5 p6 h6 c0 c1 c2 x y a = k0_pay3 x y a := by
  unfold sout0_B_0
  rw [View.read_writes_junk_eq_canon]
  unfold kernelRun0_B
  dsimp only
  rw [View.canon_unit_zero hz]
  exact congr (congrArg₂ k0_pay3 (load_whole p3 h3 x hz _) (load_whole p4 h4 y hz _)) (load_whole p6 h6 a hz _)

/-- The last step stores the accumulator's contents with its own product added. -/
theorem last (c0 : ¬cond0_0 i) (c1 : ¬cond0_1 i) (c2 : cond0_2 i) : out0_C_2 c i p3 h3 p4 h4 p5 h5 p6 h6 c0 c1 c2 x y a = k0_pay4 x y a := by
  unfold out0_C_2
  rw [View.read_writes_junk_eq_canon]
  unfold kernelRun0_C
  dsimp only
  rw [View.canon_unit_zero hz]
  exact congr (congrArg₂ k0_pay4 (load_whole p3 h3 x hz _) (load_whole p4 h4 y hz _)) (load_whole p6 h6 a hz _)

end Cases

/-- One entry of each step's value. -/
theorem prod_at (x : Vec Ideal S1024x1024 .bf16) (y : Vec Ideal S1024x512 .bf16) (r : Fin 1024) (e : Fin 512) :
    k0_pay1 x y (ix2 r e) = ∑ k : Fin 1024, x (ix2 r k) * y (ix2 k e) := by
  unfold k0_pay1
  pointwise

theorem first_at (x : Vec Ideal S1024x1024 .bf16) (y : Vec Ideal S1024x512 .bf16) (r : Fin 1024) (e : Fin 512) :
    k0_pay2 x y (ix2 r e) = k0_pay1 x y (ix2 r e) := by
  unfold k0_pay2
  pointwise

theorem next_at (x : Vec Ideal S1024x1024 .bf16) (y : Vec Ideal S1024x512 .bf16) (a : Vec Ideal S1024x512 .f32) (r : Fin 1024) (e : Fin 512) :
    k0_pay3 x y a (ix2 r e) = a (ix2 r e) + k0_pay1 x y (ix2 r e) := by
  unfold k0_pay3
  pointwise

theorem last_at (x : Vec Ideal S1024x1024 .bf16) (y : Vec Ideal S1024x512 .bf16) (a : Vec Ideal S1024x512 .f32) (r : Fin 1024) (e : Fin 512) :
    k0_pay4 x y a (ix2 r e) = a (ix2 r e) + k0_pay1 x y (ix2 r e) := by
  unfold k0_pay4
  pointwise

/-- One entry of the reference. -/
theorem ref_at (x : S2048x3072.Idx → EReal) (y : S3072x1024.Idx → EReal) (r : Fin 2048) (e : Fin 1024) :
    val_main_v5 (F := Ideal) x y (ix2 r e) = ∑ k : Fin 3072, x (ix2 r k) * y (ix2 k e) := by
  unfold val_main_v5 val_main_v4 val_main_v2 val_main_v1
  pointwise

/-! ## Where the blocks lie -/

theorem lt_N (t : Fin cfg0.N) : t.val < 12 := lt_of_lt_of_eq t.isLt N_0

/-- Row `r` and column `e` of block `q` of the result. -/
def row (q : ℕ) (r : Fin 1024) : Fin 2048 := ⟨q / 2 % 2 * 1024 + r.val, by omega⟩
def col (q : ℕ) (e : Fin 512) : Fin 1024 := ⟨q % 2 * 512 + e.val, by omega⟩

theorem index_0 : ∀ t : Fin cfg0.N, win0_0.index t 0 = t.val / 3 / 2 % 2 ∧ win0_0.index t 1 = t.val % 3 := by decide +kernel
theorem index_1 : ∀ t : Fin cfg0.N, win0_1.index t 0 = t.val % 3 ∧ win0_1.index t 1 = t.val / 3 % 2 := by decide +kernel
theorem index_2 : ∀ t : Fin cfg0.N, win0_2.index t 0 = t.val / 3 / 2 % 2 ∧ win0_2.index t 1 = t.val / 3 % 2 := by decide +kernel

theorem emb_2 (t : Fin cfg0.N) (r : Fin 1024) (e : Fin 512) : (win0_2.rect t).emb (ix2 r e) = ix2 (row (t.val / 3) r) (col (t.val / 3) e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The arguments. -/
def A : S2048x3072.Idx → EReal := m ((c : Thread nD τ).loc main_arg0)
def B : S3072x1024.Idx → EReal := m ((c : Thread nD τ).loc main_arg1)

/-- One product's share from block `j` of the contracted axis. -/
def part (i : Fin 2048) (y : Fin 1024) (j : ℕ) : EReal := ∑ k : Fin 1024, A m c (ix2 i (at_ 3 1024 j k)) * B m c (ix2 (at_ 3 1024 j k) y)

theorem iblk_0 (t : Fin cfg0.N) (r : Fin 1024) (k : Fin 1024) : (iblk m c 0 t : S1024x1024.Idx → EReal) (ix2 r k) = A m c (ix2 (row (t.val / 3) r) (at_ 3 1024 (t.val % 3) k)) :=
  (congrFun (V_main_arg0 m c) _).trans (congrArg (A m c) (lies (index_0 t) (Window.rect_emb_val win0_0 t _ 0) (Window.rect_emb_val win0_0 t _ 1) rfl (by show t.val % 3 * 1024 + k.val = t.val % 3 % 3 * 1024 + k.val; rw [Nat.mod_mod])))

theorem iblk_1 (t : Fin cfg0.N) (e : Fin 512) (k : Fin 1024) : (iblk m c 1 t : S1024x512.Idx → EReal) (ix2 k e) = B m c (ix2 (at_ 3 1024 (t.val % 3) k) (col (t.val / 3) e)) :=
  (congrFun (V_main_arg1 m c) _).trans (congrArg (B m c) (lies (index_1 t) (Window.rect_emb_val win0_1 t _ 0) (Window.rect_emb_val win0_1 t _ 1) (by show t.val % 3 * 1024 + k.val = t.val % 3 % 3 * 1024 + k.val; rw [Nat.mod_mod]) rfl))

theorem prod_blk (t : Fin cfg0.N) (r : Fin 1024) (e : Fin 512) :
    k0_pay1 (iblk m c 0 t) (iblk m c 1 t) (ix2 r e) = part m c (row (t.val / 3) r) (col (t.val / 3) e) (t.val % 3) :=
  (prod_at _ _ r e).trans (Finset.sum_congr rfl fun k _ => by rw [iblk_0, iblk_1])

/-- What the accumulator holds after each point but the last of a block's. -/
theorem acc_at (r : Fin 1024) (e : Fin 512) : ∀ t (ht : t < cfg0.N), t % 3 + 1 < 3 →
    (outsAt0 m c t ht).2 (ix2 r e) = ∑ j ∈ Finset.range (t % 3 + 1), part m c (row (t / 3) r) (col (t / 3) e) j :=
  fold 3 cfg0.N (by decide) (fun t ht => (outsAt0 m c t ht).2 (ix2 r e)) (fun q => part m c (row q r) (col q e))
    (fun t ht h => by
      rw [outsAt0_A m c ⟨t, ht⟩ h (by dsimp only; omega) (by dsimp only; omega)]
      dsimp only
      rw [first]
      refine (first_at _ _ r e).trans ((prod_blk m c ⟨t, ht⟩ r e).trans ?_)
      rw [show (⟨t, ht⟩ : Fin cfg0.N).val % 3 = 0 from h])
    (fun t ht h h' => by
      rw [outsAt0_B m c ⟨t, ht⟩ h (by dsimp only; omega) (by dsimp only; omega)]
      dsimp only
      rw [next]
      exact (next_at _ _ _ r e).trans (congrArg (_ + ·) (prod_blk m c ⟨t, ht⟩ r e)))

theorem flushed (t : Fin cfg0.N) (ht : (cfg0.win 2).flush t = true) :
    (dats m 0 c).flushed 2 t = (win0_2.blk t).view.read (Elt Ideal) (val_main_v5 (F := Ideal) (A m c) (B m c) : S2048x1024.Idx → EReal) := by
  have h : t.val % 3 = 2 := (flush0_2 t).mp ht
  rw [Value.flushed2_C m c t (by omega) (by omega) h, last]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v5 (F := Ideal) (A m c) (B m c)) (emb_2 t r e)).symm
  rw [ref_at]
  refine (last_at _ _ _ r e).trans ?_
  rw [prod_blk, acc_at m c r e (t.val - 1) _ (by omega), show (t.val - 1) / 3 = t.val / 3 by omega, show (t.val - 1) % 3 + 1 = 2 by omega, h, ← Finset.sum_range_succ]
  exact sum_blocks 3 1024 fun k => A m c (ix2 (row (t.val / 3) r) (k)) * B m c (ix2 k (col (t.val / 3) e))

theorem cover (x : S2048x1024.Idx) : ∃ t : Fin cfg0.N, (cfg0.win 2).flush t = true ∧ x ∈ ((cfg0.win 2).blk t).view.set := by
  obtain ⟨i, y, rfl⟩ : ∃ (i : Fin 2048) (y : Fin 1024), x = ix2 i y := ⟨x 0, x 1, ValueIdx.eq_ix2 x⟩
  have hN : 3 * (2 * (i.val / 1024) + y.val / 512) + 2 < cfg0.N := lt_of_lt_of_eq (by omega : _ < 12) N_0.symm
  refine ⟨⟨_, hN⟩, (flush0_2 _).mpr (by dsimp only; omega), Finset.mem_map.mpr ⟨ix2 (⟨i.val % 1024, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · show (3 * (2 * (i.val / 1024) + y.val / 512) + 2) / 3 / 2 % 2 * 1024 + i.val % 1024 = i.val
    omega
  · show (3 * (2 * (i.val / 1024) + y.val / 512) + 2) / 3 % 2 * 512 + y.val % 512 = y.val
    omega

/-- The kernel's result is the reference's. -/
theorem final : (dats m 0 c).arrAt 2 cfg0.N = (val_main_v5 (F := Ideal) (A m c) (B m c) : S2048x1024.Idx → EReal) :=
  (dats m 0 c).arrAt_eq_of_cover 2 _ (fun t ht => flushed m c t ht) cover

end Cert.GateDxIdeal.Prod

end
-- ==== Proof.GateDw.lean ====
module

public import proofs.«01_k».proof.Proof.Gen.GateDw.Frame
public import proofs.«01_k».proof.Proof.Gen.GateDwIdeal.Frame
public import proofs.«01_k».proof.Proof.Gen.GateDwIdeal.Value
public import proofs.«01_k».proof.Proof.Gen.GateDwReferenceIdeal.Run
public import proofs.«01_k».proof.Proof.Gen.GateDwReferenceIdeal.Read
public import proofs.«01_k».proof.Proof.Lies

/-! # The gradient of the gates' weight, laid out transposed: the transposed cotangent times the normalised rows -/

@[expose] public section

noncomputable section

namespace Cert.GateDwIdeal.Prod

open Idealize.ShloMosaic Idealize.ShloMosaic.TcCoe
open Idealize.SL.Sem
open Idealize.ShloMosaic.Pipeline (Dat Cfg Window)
open Cert.GateDwIdeal.Gen
open Cert.GateDwReferenceIdeal.Read

/-- One entry of a block of the product. -/
theorem out_at (x : Vec Ideal S2048x1024 .bf16) (y : Vec Ideal S2048x512 .bf16) (r : Fin 1024) (e : Fin 512) :
    out0_2 x y (ix2 r e) = ∑ k : Fin 2048, x (ix2 k r) * y (ix2 k e) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x3072.Idx → EReal) (y : S2048x1024.Idx → EReal) (r : Fin 3072) (e : Fin 1024) :
    val_main_v7 (F := Ideal) x y (ix2 r e) = ∑ k : Fin 2048, x (ix2 k r) * y (ix2 k e) := by
  unfold val_main_v7 val_main_v6 val_main_v5 val_main_v4 val_main_v3 val_main_v1
  pointwise

/-! ## Where the blocks lie -/

theorem lt_N (t : Fin cfg0.N) : t.val < 6 := lt_of_lt_of_eq t.isLt N_0

/-- Row `r` of point `t`'s block of rows, and column `e` of its block of columns. -/
def row (t : Fin cfg0.N) (r : Fin 1024) : Fin 3072 := ⟨t.val / 2 * 1024 + r.val, by have := lt_N t; omega⟩
def col (t : Fin cfg0.N) (e : Fin 512) : Fin 1024 := ⟨t.val % 2 * 512 + e.val, by have := lt_N t; omega⟩

theorem index_0 : ∀ t : Fin cfg0.N, win0_0.index t 0 = 0 ∧ win0_0.index t 1 = t.val / 2 := by decide +kernel
theorem index_1 : ∀ t : Fin cfg0.N, win0_1.index t 0 = 0 ∧ win0_1.index t 1 = t.val % 2 := by decide +kernel
theorem index_2 : ∀ t : Fin cfg0.N, win0_2.index t 0 = t.val / 2 ∧ win0_2.index t 1 = t.val % 2 := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The two arguments. -/
def A : S2048x3072.Idx → EReal := m ((c : Thread nD τ).loc main_arg0)
def B : S2048x1024.Idx → EReal := m ((c : Thread nD τ).loc main_arg1)

theorem iblk_0 (t : Fin cfg0.N) (r : Fin 1024) (k : Fin 2048) : (iblk m c 0 t : S2048x1024.Idx → EReal) (ix2 k r) = A m c (ix2 k (row t r)) :=
  (congrFun (V_main_arg0 m c) _).trans (congrArg (A m c) (lies (index_0 t) (Window.rect_emb_val win0_0 t _ 0) (Window.rect_emb_val win0_0 t _ 1) (Nat.zero_add _) rfl))

theorem iblk_1 (t : Fin cfg0.N) (e : Fin 512) (k : Fin 2048) : (iblk m c 1 t : S2048x512.Idx → EReal) (ix2 k e) = B m c (ix2 k (col t e)) :=
  (congrFun (V_main_arg1 m c) _).trans (congrArg (B m c) (lies (index_1 t) (Window.rect_emb_val win0_1 t _ 0) (Window.rect_emb_val win0_1 t _ 1) (Nat.zero_add _) rfl))

theorem flushed (t : Fin cfg0.N) :
    (dats m 0 c).flushed 2 t = (win0_2.blk t).view.read (Elt Ideal) (val_main_v7 (F := Ideal) (A m c) (B m c) : S3072x1024.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v7 (F := Ideal) (A m c) (B m c)) (emb_2 t r e)).symm
  rw [ref_at]
  refine (out_at _ _ r e).trans (Finset.sum_congr rfl fun k _ => ?_)
  rw [iblk_0, iblk_1]

theorem cover (x : S3072x1024.Idx) : ∃ t : Fin cfg0.N, (cfg0.win 2).flush t = true ∧ x ∈ ((cfg0.win 2).blk t).view.set := by
  obtain ⟨i, y, rfl⟩ : ∃ (i : Fin 3072) (y : Fin 1024), x = ix2 i y := ⟨x 0, x 1, ValueIdx.eq_ix2 x⟩
  have hN : 2 * (i.val / 1024) + y.val / 512 < cfg0.N := lt_of_lt_of_eq (by omega : _ < 6) N_0.symm
  refine ⟨⟨_, hN⟩, flush0_2 _, Finset.mem_map.mpr ⟨ix2 (⟨i.val % 1024, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · show (2 * (i.val / 1024) + y.val / 512) / 2 * 1024 + i.val % 1024 = i.val
    omega
  · show (2 * (i.val / 1024) + y.val / 512) % 2 * 512 + y.val % 512 = y.val
    omega

/-- The kernel's result is the reference's. -/
theorem final : (dats m 0 c).arrAt 2 cfg0.N = (val_main_v7 (F := Ideal) (A m c) (B m c) : S3072x1024.Idx → EReal) :=
  (dats m 0 c).arrAt_eq_of_cover 2 _ (fun t _ => flushed m c t) cover

end Cert.GateDwIdeal.Prod

end
-- ==== Proof.InDx.lean ====
module

public import proofs.«01_k».proof.Proof.Gen.InDx.Frame
public import proofs.«01_k».proof.Proof.Gen.InDxIdeal.Frame
public import proofs.«01_k».proof.Proof.Gen.InDxIdeal.Value
public import proofs.«01_k».proof.Proof.Gen.InDxReferenceIdeal.Run
public import proofs.«01_k».proof.Proof.Gen.InDxReferenceIdeal.Read
public import proofs.«01_k».proof.Proof.Steps
public import proofs.«01_k».proof.Proof.Lies

/-! # The gradient of the normalised rows: the cotangent times the transposed input weight, added up over four blocks of columns and onto what the rows' gradient was -/

@[expose] public section

noncomputable section

namespace Cert.InDxIdeal.Prod

open Idealize.ShloMosaic Idealize.ShloMosaic.TcCoe
open Idealize.SL.Sem
open Idealize.ShloMosaic.Pipeline (Dat Cfg Window)
open Cert.Steps
open Cert.InDxIdeal.Gen
open Cert.InDxReferenceIdeal.Read

/-! ## What one step leaves -/

section Cases
variable (c : Dev nD) (i : grid0.Coords) (p3 : Memref sig .tc .vmem S1024x1408 .bf16) (h3 : p3.IsWhole) (p4 : Memref sig .tc .vmem S512x1408 .bf16) (h4 : p4.IsWhole)
  (p5 : Memref sig .tc .vmem S1024x512 .f32) (h5 : p5.IsWhole) (p6 : Memref sig .tc .vmem S1024x512 .f32) (h6 : p6.IsWhole) (p7 : Memref sig .tc .vmem S1024x512 .f32) (h7 : p7.IsWhole)
  (x : Vec Ideal S1024x1408 .bf16) (y : Vec Ideal S512x1408 .bf16) (d : Vec Ideal S1024x512 .f32) (a : Vec Ideal S1024x512 .f32)

/-- The first step leaves its product in the accumulator. -/
theorem first (c0 : cond0_0 i) (c1 : ¬cond0_1 i) (c2 : ¬cond0_2 i) : sout0_A_0 c i p3 h3 p4 h4 p5 h5 p6 h6 p7 h7 c0 c1 c2 x y d = k0_pay2 x y := by
  unfold sout0_A_0
  rw [View.read_writes_junk_eq_canon]
  unfold kernelRun0_A
  dsimp only
  rw [View.canon_unit_zero hz]
  exact congrArg₂ k0_pay2 (load_whole p3 h3 x hz _) (load_whole p4 h4 y hz _)

/-- A step between adds its product to what the accumulator held. -/
theorem next (c0 : ¬cond0_0 i) (c1 : cond0_1 i) (c2 : ¬cond0_2 i) : sout0_B_0 c i p3 h3 p4 h4 p5 h5 p6 h6 p7 h7 c0 c1 c2 x y d a = k0_pay3 x y a := by
  unfold sout0_B_0
  rw [View.read_writes_junk_eq_canon]
  unfold kernelRun0_B
  dsimp only
  rw [View.canon_unit_zero hz]
  exact congr (congrArg₂ k0_pay3 (load_whole p3 h3 x hz _) (load_whole p4 h4 y hz _)) (load_whole p7 h7 a hz _)

/-- The last step stores the accumulator's contents with its own product added, and the rows' gradient so far. -/
theorem last (c0 : ¬cond0_0 i) (c1 : ¬cond0_1 i) (c2 : cond0_2 i) : out0_C_3 c i p3 h3 p4 h4 p5 h5 p6 h6 p7 h7 c0 c1 c2 x y d a = k0_pay4 x y a d := by
  unfold out0_C_3
  rw [View.read_writes_junk_eq_canon]
  unfold kernelRun0_C
  dsimp only
  rw [View.canon_unit_zero hz]
  exact congr (congr (congrArg₂ k0_pay4 (load_whole p3 h3 x hz _) (load_whole p4 h4 y hz _)) (load_whole p7 h7 a hz _)) (load_whole p5 h5 d hz _)

end Cases

/-- One entry of each step's value. -/
theorem prod_at (x : Vec Ideal S1024x1408 .bf16) (y : Vec Ideal S512x1408 .bf16) (r : Fin 1024) (e : Fin 512) :
    k0_pay1 x y (ix2 r e) = ∑ k : Fin 1408, x (ix2 r k) * y (ix2 e k) := by
  unfold k0_pay1
  pointwise

theorem first_at (x : Vec Ideal S1024x1408 .bf16) (y : Vec Ideal S512x1408 .bf16) (r : Fin 1024) (e : Fin 512) :
    k0_pay2 x y (ix2 r e) = k0_pay1 x y (ix2 r e) := by
  unfold k0_pay2
  pointwise

theorem next_at (x : Vec Ideal S1024x1408 .bf16) (y : Vec Ideal S512x1408 .bf16) (a : Vec Ideal S1024x512 .f32) (r : Fin 1024) (e : Fin 512) :
    k0_pay3 x y a (ix2 r e) = a (ix2 r e) + k0_pay1 x y (ix2 r e) := by
  unfold k0_pay3
  pointwise

theorem last_at (x : Vec Ideal S1024x1408 .bf16) (y : Vec Ideal S512x1408 .bf16) (a : Vec Ideal S1024x512 .f32) (d : Vec Ideal S1024x512 .f32) (r : Fin 1024) (e : Fin 512) :
    k0_pay4 x y a d (ix2 r e) = a (ix2 r e) + k0_pay1 x y (ix2 r e) + d (ix2 r e) := by
  unfold k0_pay4
  pointwise

/-- One entry of the reference. -/
theorem ref_at (x : S2048x5632.Idx → EReal) (y : S1024x5632.Idx → EReal) (d : S2048x1024.Idx → EReal) (r : Fin 2048) (e : Fin 1024) :
    val_main_v5 (F := Ideal) x y d (ix2 r e) = (∑ k : Fin 5632, x (ix2 r k) * y (ix2 e k)) + d (ix2 r e) := by
  unfold val_main_v5 val_main_v4 val_main_v3 val_main_v1
  pointwise

/-! ## Where the blocks lie -/

theorem lt_N (t : Fin cfg0.N) : t.val < 16 := lt_of_lt_of_eq t.isLt N_0

/-- Row `r` and column `e` of block `q` of the result. -/
def row (q : ℕ) (r : Fin 1024) : Fin 2048 := ⟨q / 2 % 2 * 1024 + r.val, by omega⟩
def col (q : ℕ) (e : Fin 512) : Fin 1024 := ⟨q % 2 * 512 + e.val, by omega⟩

theorem index_0 : ∀ t : Fin cfg0.N, win0_0.index t 0 = t.val / 4 / 2 % 2 ∧ win0_0.index t 1 = t.val % 4 := by decide +kernel
theorem index_1 : ∀ t : Fin cfg0.N, win0_1.index t 0 = t.val / 4 % 2 ∧ win0_1.index t 1 = t.val % 4 := by decide +kernel
theorem index_2 : ∀ t : Fin cfg0.N, win0_2.index t 0 = t.val / 4 / 2 % 2 ∧ win0_2.index t 1 = t.val / 4 % 2 := by decide +kernel
theorem index_3 : ∀ t : Fin cfg0.N, win0_3.index t 0 = t.val / 4 / 2 % 2 ∧ win0_3.index t 1 = t.val / 4 % 2 := by decide +kernel

theorem emb_3 (t : Fin cfg0.N) (r : Fin 1024) (e : Fin 512) : (win0_3.rect t).emb (ix2 r e) = ix2 (row (t.val / 4) r) (col (t.val / 4) e) :=
  lies (index_3 t) (Window.rect_emb_val win0_3 t _ 0) (Window.rect_emb_val win0_3 t _ 1) rfl rfl

/-! ## The result -/

variable (m : (ℓ : Loc nD τ sig) → Buf (Elt Ideal) ℓ) (c : Dev nD)

/-- The arguments. -/
def A : S2048x5632.Idx → EReal := m ((c : Thread nD τ).loc main_arg0)
def B : S1024x5632.Idx → EReal := m ((c : Thread nD τ).loc main_arg1)
def D : S2048x1024.Idx → EReal := m ((c : Thread nD τ).loc main_arg2)

/-- One product's share from block `j` of the contracted axis. -/
def part (i : Fin 2048) (y : Fin 1024) (j : ℕ) : EReal := ∑ k : Fin 1408, A m c (ix2 i (at_ 4 1408 j k)) * B m c (ix2 y (at_ 4 1408 j k))

theorem iblk_0 (t : Fin cfg0.N) (r : Fin 1024) (k : Fin 1408) : (iblk m c 0 t : S1024x1408.Idx → EReal) (ix2 r k) = A m c (ix2 (row (t.val / 4) r) (at_ 4 1408 (t.val % 4) k)) :=
  (congrFun (V_main_arg0 m c) _).trans (congrArg (A m c) (lies (index_0 t) (Window.rect_emb_val win0_0 t _ 0) (Window.rect_emb_val win0_0 t _ 1) rfl (by show t.val % 4 * 1408 + k.val = t.val % 4 % 4 * 1408 + k.val; rw [Nat.mod_mod])))

theorem iblk_1 (t : Fin cfg0.N) (e : Fin 512) (k : Fin 1408) : (iblk m c 1 t : S512x1408.Idx → EReal) (ix2 e k) = B m c (ix2 (col (t.val / 4) e) (at_ 4 1408 (t.val % 4) k)) :=
  (congrFun (V_main_arg1 m c) _).trans (congrArg (B m c) (lies (index_1 t) (Window.rect_emb_val win0_1 t _ 0) (Window.rect_emb_val win0_1 t _ 1) rfl (by show t.val % 4 * 1408 + k.val = t.val % 4 % 4 * 1408 + k.val; rw [Nat.mod_mod])))

theorem iblk_2 (t : Fin cfg0.N) (r : Fin 1024) (e : Fin 512) : (iblk m c 2 t : S1024x512.Idx → EReal) (ix2 r e) = D m c (ix2 (row (t.val / 4) r) (col (t.val / 4) e)) :=
  (congrFun (V_main_arg2 m c) _).trans (congrArg (D m c) (lies (index_2 t) (Window.rect_emb_val win0_2 t _ 0) (Window.rect_emb_val win0_2 t _ 1) rfl rfl))

theorem prod_blk (t : Fin cfg0.N) (r : Fin 1024) (e : Fin 512) :
    k0_pay1 (iblk m c 0 t) (iblk m c 1 t) (ix2 r e) = part m c (row (t.val / 4) r) (col (t.val / 4) e) (t.val % 4) :=
  (prod_at _ _ r e).trans (Finset.sum_congr rfl fun k _ => by rw [iblk_0, iblk_1])

/-- What the accumulator holds after each point but the last of a block's. -/
theorem acc_at (r : Fin 1024) (e : Fin 512) : ∀ t (ht : t < cfg0.N), t % 4 + 1 < 4 →
    (outsAt0 m c t ht).2 (ix2 r e) = ∑ j ∈ Finset.range (t % 4 + 1), part m c (row (t / 4) r) (col (t / 4) e) j :=
  fold 4 cfg0.N (by decide) (fun t ht => (outsAt0 m c t ht).2 (ix2 r e)) (fun q => part m c (row q r) (col q e))
    (fun t ht h => by
      rw [outsAt0_A m c ⟨t, ht⟩ h (by dsimp only; omega) (by dsimp only; omega)]
      dsimp only
      rw [first]
      refine (first_at _ _ r e).trans ((prod_blk m c ⟨t, ht⟩ r e).trans ?_)
      rw [show (⟨t, ht⟩ : Fin cfg0.N).val % 4 = 0 from h])
    (fun t ht h h' => by
      rw [outsAt0_B m c ⟨t, ht⟩ h (by dsimp only; omega) (by dsimp only; omega)]
      dsimp only
      rw [next]
      exact (next_at _ _ _ r e).trans (congrArg (_ + ·) (prod_blk m c ⟨t, ht⟩ r e)))

theorem flushed (t : Fin cfg0.N) (ht : (cfg0.win 3).flush t = true) :
    (dats m 0 c).flushed 3 t = (win0_3.blk t).view.read (Elt Ideal) (val_main_v5 (F := Ideal) (A m c) (B m c) (D m c) : S2048x1024.Idx → EReal) := by
  have h : t.val % 4 = 3 := (flush0_3 t).mp ht
  rw [Value.flushed3_C m c t (by omega) (by omega) h, last]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v5 (F := Ideal) (A m c) (B m c) (D m c)) (emb_3 t r e)).symm
  rw [ref_at]
  refine (last_at _ _ _ _ r e).trans (congrArg₂ (· + ·) ?_ (iblk_2 m c t r e))
  rw [prod_blk, acc_at m c r e (t.val - 1) _ (by omega), show (t.val - 1) / 4 = t.val / 4 by omega, show (t.val - 1) % 4 + 1 = 3 by omega, h, ← Finset.sum_range_succ]
  exact sum_blocks 4 1408 fun k => A m c (ix2 (row (t.val / 4) r) (k)) * B m c (ix2 (col (t.val / 4) e) k)

theorem cover (x : S2048x1024.Idx) : ∃ t : Fin cfg0.N, (cfg0.win 3).flush t = true ∧ x ∈ ((cfg0.win 3).blk t).view.set := by
  obtain ⟨i, y, rfl⟩ : ∃ (i : Fin 2048) (y : Fin 1024), x = ix2 i y := ⟨x 0, x 1, ValueIdx.eq_ix2 x⟩
  have hN : 4 * (2 * (i.val / 1024) + y.val / 512) + 3 < cfg0.N := lt_of_lt_of_eq (by omega : _ < 16) N_0.symm
  refine ⟨⟨_, hN⟩, (flush0_3 _).mpr (by dsimp only; omega), Finset.mem_map.mpr ⟨ix2 (⟨i.val % 1024, by omega⟩ : Fin 1024) (⟨y.val % 512, by omega⟩ : Fin 512), Finset.mem_univ _, ?_⟩⟩
  refine (emb_3 ⟨_, hN⟩ _ _).trans (congrArg₂ ix2 (Fin.ext ?_) (Fin.ext ?_))
  · show (4 * (2 * (i.val / 1024) + y.val / 512) + 3) / 4 / 2 % 2 * 1024 + i.val % 1024 = i.val
    omega
  · show (4 * (2 * (i.val / 1024) + y.val / 512) + 3) / 4 % 2 * 512 + y.val % 512 = y.val
    omega

/-- The kernel's result is the reference's. -/
theorem final : (dats m 0 c).arrAt 3 cfg0.N = (val_main_v5 (F := Ideal) (A m c) (B m c) (D m c) : S2048x1024.Idx → EReal) :=
  (dats m 0 c).arrAt_eq_of_cover 3 _ (fun t ht => flushed m c t ht) cover

end Cert.InDxIdeal.Prod

end
-- ==== Proof.InDw.lean ====
module

public import proofs.«01_k».proof.Proof.Gen.InDw.Frame
public import proofs.«01_k».proof.Proof.Gen.InDwIdeal.Frame
public import proofs.«01_k».proof.Proof.Gen.InDwIdeal.Value
public import proofs.«01_k».proof.Proof.Gen.InDwReferenceIdeal.Run
public import proofs.«01_k».proof.Proof.Gen.InDwReferenceIdeal.Read
public import proofs.«01_k».proof.Proof.Lies

/-! # The gradient of the input weight: the transposed normalised rows times the cotangent -/

@[expose] public section

noncomputable section

namespace Cert.InDwIdeal.Prod

open Idealize.ShloMosaic Idealize.ShloMosaic.TcCoe
open Idealize.SL.Sem
open Idealize.ShloMosaic.Pipeline (Dat Cfg Window)
open Cert.InDwIdeal.Gen
open Cert.InDwReferenceIdeal.Read

/-- One entry of a block of the product. -/
theorem out_at (x : Vec Ideal S2048x1024 .bf16) (y : Vec Ideal S2048x512 .bf16) (r : Fin 1024) (e : Fin 512) :
    out0_2 x y (ix2 r e) = ∑ k : Fin 2048, x (ix2 k r) * y (ix2 k e) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x1024.Idx → EReal) (y : S2048x5632.Idx → EReal) (r : Fin 1024) (e : Fin 5632) :
    val_main_v6 (F := Ideal) x y (ix2 r e) = ∑ k : Fin 2048, y (ix2 k e) * x (ix2 k r) := by
  unfold val_main_v6 val_main_v5 val_main_v4 val_main_v3 val_main_v1
  pointwise

/-! ## Where the blocks lie -/

theorem lt_N (t : Fin cfg0.N) : t.val < 11 := lt_of_lt_of_eq t.isLt N_0

/-- Row `r` of point `t`'s block of rows, and column `e` of its block of columns. -/
def row (t : Fin cfg0.N) (r : Fin 1024) : Fin 1024 := ⟨r.val, by omega⟩
def col (t : Fin cfg0.N) (e : Fin 512) : Fin 5632 := ⟨t.val * 512 + e.val, by have := lt_N t; omega⟩

theorem index_0 : ∀ t : Fin cfg0.N, win0_0.index t 0 = 0 ∧ win0_0.index t 1 = 0 := by decide +kernel
theorem index_1 : ∀ t : Fin cfg0.N, win0_1.index t 0 = 0 ∧ win0_1.index t 1 = t.val := by decide +kernel
theorem index_2 : ∀ t : Fin cfg0.N, win0_2.index t 0 = 0 ∧ win0_2.index t 1 = t.val := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) (Nat.zero_add _) rfl

/-! ## The result -/

variable (m : (ℓ : Loc nD τ sig) → Buf (Elt Ideal) ℓ) (c : Dev nD)

/-- The two arguments. -/
def A : S2048x1024.Idx → EReal := m ((c : Thread nD τ).loc main_arg0)
def B : S2048x5632.Idx → EReal := m ((c : Thread nD τ).loc main_arg1)

theorem iblk_0 (t : Fin cfg0.N) (r : Fin 1024) (k : Fin 2048) : (iblk m c 0 t : S2048x1024.Idx → EReal) (ix2 k r) = A m c (ix2 k (row t r)) :=
  (congrFun (V_main_arg0 m c) _).trans (congrArg (A m c) (lies (index_0 t) (Window.rect_emb_val win0_0 t _ 0) (Window.rect_emb_val win0_0 t _ 1) (Nat.zero_add _) (Nat.zero_add _)))

theorem iblk_1 (t : Fin cfg0.N) (e : Fin 512) (k : Fin 2048) : (iblk m c 1 t : S2048x512.Idx → EReal) (ix2 k e) = B m c (ix2 k (col t e)) :=
  (congrFun (V_main_arg1 m c) _).trans (congrArg (B m c) (lies (index_1 t) (Window.rect_emb_val win0_1 t _ 0) (Window.rect_emb_val win0_1 t _ 1) (Nat.zero_add _) rfl))

theorem flushed (t : Fin cfg0.N) :
    (dats m 0 c).flushed 2 t = (win0_2.blk t).view.read (Elt Ideal) (val_main_v6 (F := Ideal) (A m c) (B m c) : S1024x5632.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v6 (F := Ideal) (A m c) (B m c)) (emb_2 t r e)).symm
  rw [ref_at]
  refine (out_at _ _ r e).trans (Finset.sum_congr rfl fun k _ => ?_)
  rw [iblk_0, iblk_1, mul_comm]

theorem cover (x : S1024x5632.Idx) : ∃ t : Fin cfg0.N, (cfg0.win 2).flush t = true ∧ x ∈ ((cfg0.win 2).blk t).view.set := by
  obtain ⟨i, y, rfl⟩ : ∃ (i : Fin 1024) (y : Fin 5632), x = ix2 i y := ⟨x 0, x 1, ValueIdx.eq_ix2 x⟩
  have hN : y.val / 512 < cfg0.N := lt_of_lt_of_eq (by omega : _ < 11) N_0.symm
  refine ⟨⟨_, hN⟩, flush0_2 _, Finset.mem_map.mpr ⟨ix2 (⟨i.val, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · rfl
  · show (y.val / 512) * 512 + y.val % 512 = y.val
    omega

/-- The kernel's result is the reference's. -/
theorem final : (dats m 0 c).arrAt 2 cfg0.N = (val_main_v6 (F := Ideal) (A m c) (B m c) : S1024x5632.Idx → EReal) :=
  (dats m 0 c).arrAt_eq_of_cover 2 _ (fun t _ => flushed m c t) cover

end Cert.InDwIdeal.Prod

end
-- ==== Proof.InFwd.lean ====
module

public import proofs.«01_k».proof.Proof.Gen.InFwd.Frame
public import proofs.«01_k».proof.Proof.Gen.InFwdIdeal.Frame
public import proofs.«01_k».proof.Proof.Gen.InFwdIdeal.Value
public import proofs.«01_k».proof.Proof.Gen.InFwdReferenceIdeal.Run
public import proofs.«01_k».proof.Proof.Gen.InFwdReferenceIdeal.Read
public import proofs.«01_k».proof.Proof.Lies

/-! # The input projection: the normalised rows times the input weight's first columns -/

@[expose] public section

noncomputable section

namespace Cert.InFwdIdeal.Prod

open Idealize.ShloMosaic Idealize.ShloMosaic.TcCoe
open Idealize.SL.Sem
open Idealize.ShloMosaic.Pipeline (Dat Cfg Window)
open Cert.InFwdIdeal.Gen
open Cert.InFwdReferenceIdeal.Read

/-- One entry of a block of the product. -/
theorem out_at (x : Vec Ideal S1024x1024 .bf16) (y : Vec Ideal S1024x512 .bf16) (r : Fin 1024) (e : Fin 512) :
    out0_2 x y (ix2 r e) = ∑ k : Fin 1024, x (ix2 r k) * y (ix2 k e) := by
  have hz : (![0, 0] : Fin 2 → Nat) = fun _ => 0 := by decide
  unfold out0_2
  rw [View.canon_unit_zero hz, View.ld_unit_zero hz, View.ld_unit_zero hz]
  unfold k0_pay1
  pointwise

/-- Column `e` of the result among the weight's columns. -/
def wide (e : Fin 5120) : Fin 5632 := ⟨e.val, by omega⟩

/-- One entry of the reference. -/
theorem ref_at (x : S2048x1024.Idx → EReal) (y : S1024x5632.Idx → EReal) (r : Fin 2048) (e : Fin 5120) :
    val_main_v4 (F := Ideal) x y (ix2 r e) = ∑ k : Fin 1024, x (ix2 r k) * y (ix2 k (wide e)) := by
  unfold val_main_v4 val_main_v3 val_main_v2 val_main_v1 val_main_v0
  pointwise
  rfl

/-! ## Where the blocks lie -/

theorem lt_N (t : Fin cfg0.N) : t.val < 20 := lt_of_lt_of_eq t.isLt N_0

/-- Row `r` of point `t`'s block of rows, and column `e` of its block of columns. -/
def row (t : Fin cfg0.N) (r : Fin 1024) : Fin 2048 := ⟨t.val / 10 * 1024 + r.val, by have := lt_N t; omega⟩
def col (t : Fin cfg0.N) (e : Fin 512) : Fin 5120 := ⟨t.val % 10 * 512 + e.val, by have := lt_N t; omega⟩

theorem index_0 : ∀ t : Fin cfg0.N, win0_0.index t 0 = t.val / 10 ∧ win0_0.index t 1 = 0 := by decide +kernel
theorem index_1 : ∀ t : Fin cfg0.N, win0_1.index t 0 = 0 ∧ win0_1.index t 1 = t.val % 10 := by decide +kernel
theorem index_2 : ∀ t : Fin cfg0.N, win0_2.index t 0 = t.val / 10 ∧ win0_2.index t 1 = t.val % 10 := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The two arguments. -/
def A : S2048x1024.Idx → EReal := m ((c : Thread nD τ).loc main_arg0)
def B : S1024x5632.Idx → EReal := m ((c : Thread nD τ).loc main_arg1)

theorem iblk_0 (t : Fin cfg0.N) (r : Fin 1024) (k : Fin 1024) : (iblk m c 0 t : S1024x1024.Idx → EReal) (ix2 r k) = A m c (ix2 (row t r) k) :=
  (congrFun (V_main_arg0 m c) _).trans (congrArg (A m c) (lies (index_0 t) (Window.rect_emb_val win0_0 t _ 0) (Window.rect_emb_val win0_0 t _ 1) rfl (Nat.zero_add _)))

theorem iblk_1 (t : Fin cfg0.N) (e : Fin 512) (k : Fin 1024) : (iblk m c 1 t : S1024x512.Idx → EReal) (ix2 k e) = B m c (ix2 k (wide (col t e))) :=
  (congrFun (V_main_arg1 m c) _).trans (congrArg (B m c) (lies (index_1 t) (Window.rect_emb_val win0_1 t _ 0) (Window.rect_emb_val win0_1 t _ 1) (Nat.zero_add _) rfl))

theorem flushed (t : Fin cfg0.N) :
    (dats m 0 c).flushed 2 t = (win0_2.blk t).view.read (Elt Ideal) (val_main_v4 (F := Ideal) (A m c) (B m c) : S2048x5120.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v4 (F := Ideal) (A m c) (B m c)) (emb_2 t r e)).symm
  rw [ref_at]
  refine (out_at _ _ r e).trans (Finset.sum_congr rfl fun k _ => ?_)
  rw [iblk_0, iblk_1]

theorem cover (x : S2048x5120.Idx) : ∃ t : Fin cfg0.N, (cfg0.win 2).flush t = true ∧ x ∈ ((cfg0.win 2).blk t).view.set := by
  obtain ⟨i, y, rfl⟩ : ∃ (i : Fin 2048) (y : Fin 5120), x = ix2 i y := ⟨x 0, x 1, ValueIdx.eq_ix2 x⟩
  have hN : 10 * (i.val / 1024) + y.val / 512 < cfg0.N := lt_of_lt_of_eq (by omega : _ < 20) N_0.symm
  refine ⟨⟨_, hN⟩, flush0_2 _, Finset.mem_map.mpr ⟨ix2 (⟨i.val % 1024, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · show (10 * (i.val / 1024) + y.val / 512) / 10 * 1024 + i.val % 1024 = i.val
    omega
  · show (10 * (i.val / 1024) + y.val / 512) % 10 * 512 + y.val % 512 = y.val
    omega

/-- The kernel's result is the reference's. -/
theorem final : (dats m 0 c).arrAt 2 cfg0.N = (val_main_v4 (F := Ideal) (A m c) (B m c) : S2048x5120.Idx → EReal) :=
  (dats m 0 c).arrAt_eq_of_cover 2 _ (fun t _ => flushed m c t) cover

end Cert.InFwdIdeal.Prod

end
-- ==== Proof.InTail.lean ====
module

public import proofs.«01_k».proof.Proof.Gen.InTail.Frame
public import proofs.«01_k».proof.Proof.Gen.InTailIdeal.Frame
public import proofs.«01_k».proof.Proof.Gen.InTailIdeal.Value
public import proofs.«01_k».proof.Proof.Gen.InTailReferenceIdeal.Run
public import proofs.«01_k».proof.Proof.Gen.InTailReferenceIdeal.Read
public import proofs.«01_k».proof.Proof.Lies

/-! # The input projection's last columns -/

@[expose] public section

noncomputable section

namespace Cert.InTailIdeal.Prod

open Idealize.ShloMosaic Idealize.ShloMosaic.TcCoe
open Idealize.SL.Sem
open Idealize.ShloMosaic.Pipeline (Dat Cfg Window)
open Cert.InTailIdeal.Gen
open Cert.InTailReferenceIdeal.Read

/-- One entry of a block of the product. -/
theorem out_at (x : Vec Ideal S1024x1024 .bf16) (y : Vec Ideal S1024x128 .bf16) (r : Fin 1024) (e : Fin 128) :
    out0_2 x y (ix2 r e) = ∑ k : Fin 1024, x (ix2 r k) * y (ix2 k e) := by
  have hz : (![0, 0] : Fin 2 → Nat) = fun _ => 0 := by decide
  unfold out0_2
  rw [View.canon_unit_zero hz, View.ld_unit_zero hz, View.ld_unit_zero hz]
  unfold k0_pay1
  pointwise

/-- Column `e` of the result among the weight's columns. -/
def wide (e : Fin 128) : Fin 5632 := ⟨5120 + e.val, by omega⟩

/-- One entry of the reference. -/
theorem ref_at (x : S2048x1024.Idx → EReal) (y : S1024x5632.Idx → EReal) (r : Fin 2048) (e : Fin 128) :
    val_main_v3 (F := Ideal) x y (ix2 r e) = ∑ k : Fin 1024, x (ix2 r k) * y (ix2 k (wide e)) := by
  unfold val_main_v3 val_main_v2 val_main_v1 val_main_v0
  pointwise
  rfl

/-! ## Where the blocks lie -/

theorem lt_N (t : Fin cfg0.N) : t.val < 2 := lt_of_lt_of_eq t.isLt N_0

/-- Row `r` of point `t`'s block of rows, and column `e` of its block of columns. -/
def row (t : Fin cfg0.N) (r : Fin 1024) : Fin 2048 := ⟨t.val * 1024 + r.val, by have := lt_N t; omega⟩
def col (t : Fin cfg0.N) (e : Fin 128) : Fin 128 := ⟨e.val, by omega⟩

theorem index_0 : ∀ t : Fin cfg0.N, win0_0.index t 0 = t.val ∧ win0_0.index t 1 = 0 := by decide +kernel
theorem index_1 : ∀ t : Fin cfg0.N, win0_1.index t 0 = 0 ∧ win0_1.index t 1 = 40 := by decide +kernel
theorem index_2 : ∀ t : Fin cfg0.N, win0_2.index t 0 = t.val ∧ win0_2.index t 1 = 0 := by decide +kernel

theorem emb_2 (t : Fin cfg0.N) (r : Fin 1024) (e : Fin 128) : (win0_2.rect t).emb (ix2 r e) = ix2 (row t r) (col t e) :=
  lies (index_2 t) (Window.rect_emb_val win0_2 t _ 0) (Window.rect_emb_val win0_2 t _ 1) rfl (Nat.zero_add _)

/-! ## The result -/

variable (m : (ℓ : Loc nD τ sig) → Buf (Elt Ideal) ℓ) (c : Dev nD)

/-- The two arguments. -/
def A : S2048x1024.Idx → EReal := m ((c : Thread nD τ).loc main_arg0)
def B : S1024x5632.Idx → EReal := m ((c : Thread nD τ).loc main_arg1)

theorem iblk_0 (t : Fin cfg0.N) (r : Fin 1024) (k : Fin 1024) : (iblk m c 0 t : S1024x1024.Idx → EReal) (ix2 r k) = A m c (ix2 (row t r) k) :=
  (congrFun (V_main_arg0 m c) _).trans (congrArg (A m c) (lies (index_0 t) (Window.rect_emb_val win0_0 t _ 0) (Window.rect_emb_val win0_0 t _ 1) rfl (Nat.zero_add _)))

theorem iblk_1 (t : Fin cfg0.N) (e : Fin 128) (k : Fin 1024) : (iblk m c 1 t : S1024x128.Idx → EReal) (ix2 k e) = B m c (ix2 k (wide (col t e))) :=
  (congrFun (V_main_arg1 m c) _).trans (congrArg (B m c) (lies (index_1 t) (Window.rect_emb_val win0_1 t _ 0) (Window.rect_emb_val win0_1 t _ 1) (Nat.zero_add _) rfl))

theorem flushed (t : Fin cfg0.N) :
    (dats m 0 c).flushed 2 t = (win0_2.blk t).view.read (Elt Ideal) (val_main_v3 (F := Ideal) (A m c) (B m c) : S2048x128.Idx → EReal) := by
  rw [Value.flushed2]
  refine funext fun (x : S1024x128.Idx) => ?_
  obtain ⟨r, e, rfl⟩ : ∃ (r : Fin 1024) (e : Fin 128), x = ix2 r e := ⟨x 0, x 1, ValueIdx.eq_ix2 x⟩
  refine Eq.trans ?_ (congrArg (val_main_v3 (F := Ideal) (A m c) (B m c)) (emb_2 t r e)).symm
  rw [ref_at]
  refine (out_at _ _ r e).trans (Finset.sum_congr rfl fun k _ => ?_)
  rw [iblk_0, iblk_1]

theorem cover (x : S2048x128.Idx) : ∃ t : Fin cfg0.N, (cfg0.win 2).flush t = true ∧ x ∈ ((cfg0.win 2).blk t).view.set := by
  obtain ⟨i, y, rfl⟩ : ∃ (i : Fin 2048) (y : Fin 128), x = ix2 i y := ⟨x 0, x 1, ValueIdx.eq_ix2 x⟩
  have hN : i.val / 1024 < cfg0.N := lt_of_lt_of_eq (by omega : _ < 2) N_0.symm
  refine ⟨⟨_, hN⟩, flush0_2 _, Finset.mem_map.mpr ⟨ix2 (⟨i.val % 1024, by omega⟩ : Fin 1024) (⟨y.val, by omega⟩ : Fin 128), Finset.mem_univ _, ?_⟩⟩
  refine (emb_2 ⟨_, hN⟩ _ _).trans (congrArg₂ ix2 (Fin.ext ?_) (Fin.ext ?_))
  · show (i.val / 1024) * 1024 + i.val % 1024 = i.val
    omega
  · rfl

/-- The kernel's result is the reference's. -/
theorem final : (dats m 0 c).arrAt 2 cfg0.N = (val_main_v3 (F := Ideal) (A m c) (B m c) : S2048x128.Idx → EReal) :=
  (dats m 0 c).arrAt_eq_of_cover 2 _ (fun t _ => flushed m c t) cover

end Cert.InTailIdeal.Prod

end
-- ==== Proof.BrFwd.lean ====
module

public import proofs.«01_k».proof.Proof.Gen.BrFwd.Frame
public import proofs.«01_k».proof.Proof.Gen.BrFwdIdeal.Frame
public import proofs.«01_k».proof.Proof.Gen.BrFwdIdeal.Value
public import proofs.«01_k».proof.Proof.Gen.BrFwdReferenceIdeal.Run
public import proofs.«01_k».proof.Proof.Gen.BrFwdReferenceIdeal.Read
public import proofs.«01_k».proof.Proof.Lies

/-! # A branch's projection: its rows times the branch weight, which is stored transposed -/

@[expose] public section

noncomputable section

namespace Cert.BrFwdIdeal.Prod

open Idealize.ShloMosaic Idealize.ShloMosaic.TcCoe
open Idealize.SL.Sem
open Idealize.ShloMosaic.Pipeline (Dat Cfg Window)
open Cert.BrFwdIdeal.Gen
open Cert.BrFwdReferenceIdeal.Read

/-- One entry of a block of the product. -/
theorem out_at (x : Vec Ideal S1024x512 .bf16) (y : Vec Ideal S512x512 .bf16) (r : Fin 1024) (e : Fin 512) :
    out0_2 x y (ix2 r e) = ∑ k : Fin 512, x (ix2 r k) * y (ix2 e k) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x512.Idx → EReal) (y : S1024x512.Idx → EReal) (r : Fin 2048) (e : Fin 1024) :
    val_main_v4 (F := Ideal) x y (ix2 r e) = ∑ k : Fin 512, x (ix2 r k) * y (ix2 e k) := by
  unfold val_main_v4 val_main_v3 val_main_v2 val_main_v1 val_main_v0
  pointwise

/-! ## Where the blocks lie -/

theorem lt_N (t : Fin cfg0.N) : t.val < 4 := lt_of_lt_of_eq t.isLt N_0

/-- Row `r` of point `t`'s block of rows, and column `e` of its block of columns. -/
def row (t : Fin cfg0.N) (r : Fin 1024) : Fin 2048 := ⟨t.val / 2 * 1024 + r.val, by have := lt_N t; omega⟩
def col (t : Fin cfg0.N) (e : Fin 512) : Fin 1024 := ⟨t.val % 2 * 512 + e.val, by have := lt_N t; omega⟩

theorem index_0 : ∀ t : Fin cfg0.N, win0_0.index t 0 = t.val / 2 ∧ win0_0.index t 1 = 0 := by decide +kernel
theorem index_1 : ∀ t : Fin cfg0.N, win0_1.index t 0 = t.val % 2 ∧ win0_1.index t 1 = 0 := by decide +kernel
theorem index_2 : ∀ t : Fin cfg0.N, win0_2.index t 0 = t.val / 2 ∧ win0_2.index t 1 = t.val % 2 := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The two arguments. -/
def A : S2048x512.Idx → EReal := m ((c : Thread nD τ).loc main_arg0)
def B : S1024x512.Idx → EReal := m ((c : Thread nD τ).loc main_arg1)

theorem iblk_0 (t : Fin cfg0.N) (r : Fin 1024) (k : Fin 512) : (iblk m c 0 t : S1024x512.Idx → EReal) (ix2 r k) = A m c (ix2 (row t r) k) :=
  (congrFun (V_main_arg0 m c) _).trans (congrArg (A m c) (lies (index_0 t) (Window.rect_emb_val win0_0 t _ 0) (Window.rect_emb_val win0_0 t _ 1) rfl (Nat.zero_add _)))

theorem iblk_1 (t : Fin cfg0.N) (e : Fin 512) (k : Fin 512) : (iblk m c 1 t : S512x512.Idx → EReal) (ix2 e k) = B m c (ix2 (col t e) k) :=
  (congrFun (V_main_arg1 m c) _).trans (congrArg (B m c) (lies (index_1 t) (Window.rect_emb_val win0_1 t _ 0) (Window.rect_emb_val win0_1 t _ 1) rfl (Nat.zero_add _)))

theorem flushed (t : Fin cfg0.N) :
    (dats m 0 c).flushed 2 t = (win0_2.blk t).view.read (Elt Ideal) (val_main_v4 (F := Ideal) (A m c) (B m c) : S2048x1024.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v4 (F := Ideal) (A m c) (B m c)) (emb_2 t r e)).symm
  rw [ref_at]
  refine (out_at _ _ r e).trans (Finset.sum_congr rfl fun k _ => ?_)
  rw [iblk_0, iblk_1]

theorem cover (x : S2048x1024.Idx) : ∃ t : Fin cfg0.N, (cfg0.win 2).flush t = true ∧ x ∈ ((cfg0.win 2).blk t).view.set := by
  obtain ⟨i, y, rfl⟩ : ∃ (i : Fin 2048) (y : Fin 1024), x = ix2 i y := ⟨x 0, x 1, ValueIdx.eq_ix2 x⟩
  have hN : 2 * (i.val / 1024) + y.val / 512 < cfg0.N := lt_of_lt_of_eq (by omega : _ < 4) N_0.symm
  refine ⟨⟨_, hN⟩, flush0_2 _, Finset.mem_map.mpr ⟨ix2 (⟨i.val % 1024, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · show (2 * (i.val / 1024) + y.val / 512) / 2 * 1024 + i.val % 1024 = i.val
    omega
  · show (2 * (i.val / 1024) + y.val / 512) % 2 * 512 + y.val % 512 = y.val
    omega

/-- The kernel's result is the reference's. -/
theorem final : (dats m 0 c).arrAt 2 cfg0.N = (val_main_v4 (F := Ideal) (A m c) (B m c) : S2048x1024.Idx → EReal) :=
  (dats m 0 c).arrAt_eq_of_cover 2 _ (fun t _ => flushed m c t) cover

end Cert.BrFwdIdeal.Prod

end
-- ==== Proof.FoxFwd.lean ====
module

public import proofs.«01_k».proof.Proof.Gen.FoxFwd.Frame
public import proofs.«01_k».proof.Proof.Gen.FoxFwdIdeal.Frame
public import proofs.«01_k».proof.Proof.Gen.FoxFwdIdeal.Value
public import proofs.«01_k».proof.Proof.Gen.FoxFwdReferenceIdeal.Run
public import proofs.«01_k».proof.Proof.Gen.FoxFwdReferenceIdeal.Read
public import proofs.«01_k».proof.Proof.Lies

/-! # The attention branch's projection: its rows times the branch weight, which is stored transposed -/

@[expose] public section

noncomputable section

namespace Cert.FoxFwdIdeal.Prod

open Idealize.ShloMosaic Idealize.ShloMosaic.TcCoe
open Idealize.SL.Sem
open Idealize.ShloMosaic.Pipeline (Dat Cfg Window)
open Cert.FoxFwdIdeal.Gen
open Cert.FoxFwdReferenceIdeal.Read

/-- One entry of a block of the product. -/
theorem out_at (x : Vec Ideal S1024x512 .f32) (y : Vec Ideal S512x512 .bf16) (r : Fin 1024) (e : Fin 512) :
    out0_2 x y (ix2 r e) = ∑ k : Fin 512, x (ix2 r k) * y (ix2 e k) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x512.Idx → EReal) (y : S1024x512.Idx → EReal) (r : Fin 2048) (e : Fin 1024) :
    val_main_v3 (F := Ideal) x y (ix2 r e) = ∑ k : Fin 512, x (ix2 r k) * y (ix2 e k) := by
  unfold val_main_v3 val_main_v2 val_main_v1 val_main_v0
  pointwise

/-! ## Where the blocks lie -/

theorem lt_N (t : Fin cfg0.N) : t.val < 4 := lt_of_lt_of_eq t.isLt N_0

/-- Row `r` of point `t`'s block of rows, and column `e` of its block of columns. -/
def row (t : Fin cfg0.N) (r : Fin 1024) : Fin 2048 := ⟨t.val / 2 * 1024 + r.val, by have := lt_N t; omega⟩
def col (t : Fin cfg0.N) (e : Fin 512) : Fin 1024 := ⟨t.val % 2 * 512 + e.val, by have := lt_N t; omega⟩

theorem index_0 : ∀ t : Fin cfg0.N, win0_0.index t 0 = t.val / 2 ∧ win0_0.index t 1 = 0 := by decide +kernel
theorem index_1 : ∀ t : Fin cfg0.N, win0_1.index t 0 = t.val % 2 ∧ win0_1.index t 1 = 0 := by decide +kernel
theorem index_2 : ∀ t : Fin cfg0.N, win0_2.index t 0 = t.val / 2 ∧ win0_2.index t 1 = t.val % 2 := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The two arguments. -/
def A : S2048x512.Idx → EReal := m ((c : Thread nD τ).loc main_arg0)
def B : S1024x512.Idx → EReal := m ((c : Thread nD τ).loc main_arg1)

theorem iblk_0 (t : Fin cfg0.N) (r : Fin 1024) (k : Fin 512) : (iblk m c 0 t : S1024x512.Idx → EReal) (ix2 r k) = A m c (ix2 (row t r) k) :=
  (congrFun (V_main_arg0 m c) _).trans (congrArg (A m c) (lies (index_0 t) (Window.rect_emb_val win0_0 t _ 0) (Window.rect_emb_val win0_0 t _ 1) rfl (Nat.zero_add _)))

theorem iblk_1 (t : Fin cfg0.N) (e : Fin 512) (k : Fin 512) : (iblk m c 1 t : S512x512.Idx → EReal) (ix2 e k) = B m c (ix2 (col t e) k) :=
  (congrFun (V_main_arg1 m c) _).trans (congrArg (B m c) (lies (index_1 t) (Window.rect_emb_val win0_1 t _ 0) (Window.rect_emb_val win0_1 t _ 1) rfl (Nat.zero_add _)))

theorem flushed (t : Fin cfg0.N) :
    (dats m 0 c).flushed 2 t = (win0_2.blk t).view.read (Elt Ideal) (val_main_v3 (F := Ideal) (A m c) (B m c) : S2048x1024.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v3 (F := Ideal) (A m c) (B m c)) (emb_2 t r e)).symm
  rw [ref_at]
  refine (out_at _ _ r e).trans (Finset.sum_congr rfl fun k _ => ?_)
  rw [iblk_0, iblk_1]

theorem cover (x : S2048x1024.Idx) : ∃ t : Fin cfg0.N, (cfg0.win 2).flush t = true ∧ x ∈ ((cfg0.win 2).blk t).view.set := by
  obtain ⟨i, y, rfl⟩ : ∃ (i : Fin 2048) (y : Fin 1024), x = ix2 i y := ⟨x 0, x 1, ValueIdx.eq_ix2 x⟩
  have hN : 2 * (i.val / 1024) + y.val / 512 < cfg0.N := lt_of_lt_of_eq (by omega : _ < 4) N_0.symm
  refine ⟨⟨_, hN⟩, flush0_2 _, Finset.mem_map.mpr ⟨ix2 (⟨i.val % 1024, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · show (2 * (i.val / 1024) + y.val / 512) / 2 * 1024 + i.val % 1024 = i.val
    omega
  · show (2 * (i.val / 1024) + y.val / 512) % 2 * 512 + y.val % 512 = y.val
    omega

/-- The kernel's result is the reference's. -/
theorem final : (dats m 0 c).arrAt 2 cfg0.N = (val_main_v3 (F := Ideal) (A m c) (B m c) : S2048x1024.Idx → EReal) :=
  (dats m 0 c).arrAt_eq_of_cover 2 _ (fun t _ => flushed m c t) cover

end Cert.FoxFwdIdeal.Prod

end
-- ==== Proof.GateFwd.lean ====
module

public import proofs.«01_k».proof.Proof.Gen.GateFwd.Frame
public import proofs.«01_k».proof.Proof.Gen.GateFwdIdeal.Frame
public import proofs.«01_k».proof.Proof.Gen.GateFwdIdeal.Value
public import proofs.«01_k».proof.Proof.Gen.GateFwdReferenceIdeal.Run
public import proofs.«01_k».proof.Proof.Gen.GateFwdReferenceIdeal.Read
public import proofs.«01_k».proof.Proof.Lies

/-! # The gates' projection: the normalised rows times the gates' weight, which is stored transposed -/

@[expose] public section

noncomputable section

namespace Cert.GateFwdIdeal.Prod

open Idealize.ShloMosaic Idealize.ShloMosaic.TcCoe
open Idealize.SL.Sem
open Idealize.ShloMosaic.Pipeline (Dat Cfg Window)
open Cert.GateFwdIdeal.Gen
open Cert.GateFwdReferenceIdeal.Read

/-- One entry of a block of the product. -/
theorem out_at (x : Vec Ideal S1024x1024 .bf16) (y : Vec Ideal S512x1024 .bf16) (r : Fin 1024) (e : Fin 512) :
    out0_2 x y (ix2 r e) = ∑ k : Fin 1024, x (ix2 r k) * y (ix2 e k) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x1024.Idx → EReal) (y : S3072x1024.Idx → EReal) (r : Fin 2048) (e : Fin 3072) :
    val_main_v4 (F := Ideal) x y (ix2 r e) = ∑ k : Fin 1024, x (ix2 r k) * y (ix2 e k) := by
  unfold val_main_v4 val_main_v3 val_main_v2 val_main_v1 val_main_v0
  pointwise

/-! ## Where the blocks lie -/

theorem lt_N (t : Fin cfg0.N) : t.val < 12 := lt_of_lt_of_eq t.isLt N_0

/-- Row `r` of point `t`'s block of rows, and column `e` of its block of columns. -/
def row (t : Fin cfg0.N) (r : Fin 1024) : Fin 2048 := ⟨t.val / 6 * 1024 + r.val, by have := lt_N t; omega⟩
def col (t : Fin cfg0.N) (e : Fin 512) : Fin 3072 := ⟨t.val % 6 * 512 + e.val, by have := lt_N t; omega⟩

theorem index_0 : ∀ t : Fin cfg0.N, win0_0.index t 0 = t.val / 6 ∧ win0_0.index t 1 = 0 := by decide +kernel
theorem index_1 : ∀ t : Fin cfg0.N, win0_1.index t 0 = t.val % 6 ∧ win0_1.index t 1 = 0 := by decide +kernel
theorem index_2 : ∀ t : Fin cfg0.N, win0_2.index t 0 = t.val / 6 ∧ win0_2.index t 1 = t.val % 6 := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The two arguments. -/
def A : S2048x1024.Idx → EReal := m ((c : Thread nD τ).loc main_arg0)
def B : S3072x1024.Idx → EReal := m ((c : Thread nD τ).loc main_arg1)

theorem iblk_0 (t : Fin cfg0.N) (r : Fin 1024) (k : Fin 1024) : (iblk m c 0 t : S1024x1024.Idx → EReal) (ix2 r k) = A m c (ix2 (row t r) k) :=
  (congrFun (V_main_arg0 m c) _).trans (congrArg (A m c) (lies (index_0 t) (Window.rect_emb_val win0_0 t _ 0) (Window.rect_emb_val win0_0 t _ 1) rfl (Nat.zero_add _)))

theorem iblk_1 (t : Fin cfg0.N) (e : Fin 512) (k : Fin 1024) : (iblk m c 1 t : S512x1024.Idx → EReal) (ix2 e k) = B m c (ix2 (col t e) k) :=
  (congrFun (V_main_arg1 m c) _).trans (congrArg (B m c) (lies (index_1 t) (Window.rect_emb_val win0_1 t _ 0) (Window.rect_emb_val win0_1 t _ 1) rfl (Nat.zero_add _)))

theorem flushed (t : Fin cfg0.N) :
    (dats m 0 c).flushed 2 t = (win0_2.blk t).view.read (Elt Ideal) (val_main_v4 (F := Ideal) (A m c) (B m c) : S2048x3072.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v4 (F := Ideal) (A m c) (B m c)) (emb_2 t r e)).symm
  rw [ref_at]
  refine (out_at _ _ r e).trans (Finset.sum_congr rfl fun k _ => ?_)
  rw [iblk_0, iblk_1]

theorem cover (x : S2048x3072.Idx) : ∃ t : Fin cfg0.N, (cfg0.win 2).flush t = true ∧ x ∈ ((cfg0.win 2).blk t).view.set := by
  obtain ⟨i, y, rfl⟩ : ∃ (i : Fin 2048) (y : Fin 3072), x = ix2 i y := ⟨x 0, x 1, ValueIdx.eq_ix2 x⟩
  have hN : 6 * (i.val / 1024) + y.val / 512 < cfg0.N := lt_of_lt_of_eq (by omega : _ < 12) N_0.symm
  refine ⟨⟨_, hN⟩, flush0_2 _, Finset.mem_map.mpr ⟨ix2 (⟨i.val % 1024, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · show (6 * (i.val / 1024) + y.val / 512) / 6 * 1024 + i.val % 1024 = i.val
    omega
  · show (6 * (i.val / 1024) + y.val / 512) % 6 * 512 + y.val % 512 = y.val
    omega

/-- The kernel's result is the reference's. -/
theorem final : (dats m 0 c).arrAt 2 cfg0.N = (val_main_v4 (F := Ideal) (A m c) (B m c) : S2048x3072.Idx → EReal) :=
  (dats m 0 c).arrAt_eq_of_cover 2 _ (fun t _ => flushed m c t) cover

end Cert.GateFwdIdeal.Prod

end
-- ==== Proof.OFwd.lean ====
module

public import proofs.«01_k».proof.Proof.Gen.OFwd.Frame
public import proofs.«01_k».proof.Proof.Gen.OFwdIdeal.Frame
public import proofs.«01_k».proof.Proof.Gen.OFwdIdeal.Value
public import proofs.«01_k».proof.Proof.Gen.OFwdReferenceIdeal.Run
public import proofs.«01_k».proof.Proof.Gen.OFwdReferenceIdeal.Read
public import proofs.«01_k».proof.Proof.Lies

/-! # The output projection: the mixed rows times the output weight -/

@[expose] public section

noncomputable section

namespace Cert.OFwdIdeal.Prod

open Idealize.ShloMosaic Idealize.ShloMosaic.TcCoe
open Idealize.SL.Sem
open Idealize.ShloMosaic.Pipeline (Dat Cfg Window)
open Cert.OFwdIdeal.Gen
open Cert.OFwdReferenceIdeal.Read

/-- One entry of a block of the product. -/
theorem out_at (x : Vec Ideal S1024x1024 .bf16) (y : Vec Ideal S1024x512 .bf16) (r : Fin 1024) (e : Fin 512) :
    out0_2 x y (ix2 r e) = ∑ k : Fin 1024, x (ix2 r k) * y (ix2 k e) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x1024.Idx → EReal) (y : S1024x1024.Idx → EReal) (r : Fin 2048) (e : Fin 1024) :
    val_main_v2 (F := Ideal) x y (ix2 r e) = ∑ k : Fin 1024, x (ix2 r k) * y (ix2 k e) := by
  unfold val_main_v2 val_main_v1 val_main_v0
  pointwise

/-! ## Where the blocks lie -/

theorem lt_N (t : Fin cfg0.N) : t.val < 4 := lt_of_lt_of_eq t.isLt N_0

/-- Row `r` of point `t`'s block of rows, and column `e` of its block of columns. -/
def row (t : Fin cfg0.N) (r : Fin 1024) : Fin 2048 := ⟨t.val / 2 * 1024 + r.val, by have := lt_N t; omega⟩
def col (t : Fin cfg0.N) (e : Fin 512) : Fin 1024 := ⟨t.val % 2 * 512 + e.val, by have := lt_N t; omega⟩

theorem index_0 : ∀ t : Fin cfg0.N, win0_0.index t 0 = t.val / 2 ∧ win0_0.index t 1 = 0 := by decide +kernel
theorem index_1 : ∀ t : Fin cfg0.N, win0_1.index t 0 = 0 ∧ win0_1.index t 1 = t.val % 2 := by decide +kernel
theorem index_2 : ∀ t : Fin cfg0.N, win0_2.index t 0 = t.val / 2 ∧ win0_2.index t 1 = t.val % 2 := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The two arguments. -/
def A : S2048x1024.Idx → EReal := m ((c : Thread nD τ).loc main_arg0)
def B : S1024x1024.Idx → EReal := m ((c : Thread nD τ).loc main_arg1)

theorem iblk_0 (t : Fin cfg0.N) (r : Fin 1024) (k : Fin 1024) : (iblk m c 0 t : S1024x1024.Idx → EReal) (ix2 r k) = A m c (ix2 (row t r) k) :=
  (congrFun (V_main_arg0 m c) _).trans (congrArg (A m c) (lies (index_0 t) (Window.rect_emb_val win0_0 t _ 0) (Window.rect_emb_val win0_0 t _ 1) rfl (Nat.zero_add _)))

theorem iblk_1 (t : Fin cfg0.N) (e : Fin 512) (k : Fin 1024) : (iblk m c 1 t : S1024x512.Idx → EReal) (ix2 k e) = B m c (ix2 k (col t e)) :=
  (congrFun (V_main_arg1 m c) _).trans (congrArg (B m c) (lies (index_1 t) (Window.rect_emb_val win0_1 t _ 0) (Window.rect_emb_val win0_1 t _ 1) (Nat.zero_add _) rfl))

theorem flushed (t : Fin cfg0.N) :
    (dats m 0 c).flushed 2 t = (win0_2.blk t).view.read (Elt Ideal) (val_main_v2 (F := Ideal) (A m c) (B m c) : S2048x1024.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v2 (F := Ideal) (A m c) (B m c)) (emb_2 t r e)).symm
  rw [ref_at]
  refine (out_at _ _ r e).trans (Finset.sum_congr rfl fun k _ => ?_)
  rw [iblk_0, iblk_1]

theorem cover (x : S2048x1024.Idx) : ∃ t : Fin cfg0.N, (cfg0.win 2).flush t = true ∧ x ∈ ((cfg0.win 2).blk t).view.set := by
  obtain ⟨i, y, rfl⟩ : ∃ (i : Fin 2048) (y : Fin 1024), x = ix2 i y := ⟨x 0, x 1, ValueIdx.eq_ix2 x⟩
  have hN : 2 * (i.val / 1024) + y.val / 512 < cfg0.N := lt_of_lt_of_eq (by omega : _ < 4) N_0.symm
  refine ⟨⟨_, hN⟩, flush0_2 _, Finset.mem_map.mpr ⟨ix2 (⟨i.val % 1024, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · show (2 * (i.val / 1024) + y.val / 512) / 2 * 1024 + i.val % 1024 = i.val
    omega
  · show (2 * (i.val / 1024) + y.val / 512) % 2 * 512 + y.val % 512 = y.val
    omega

/-- The kernel's result is the reference's. -/
theorem final : (dats m 0 c).arrAt 2 cfg0.N = (val_main_v2 (F := Ideal) (A m c) (B m c) : S2048x1024.Idx → EReal) :=
  (dats m 0 c).arrAt_eq_of_cover 2 _ (fun t _ => flushed m c t) cover

end Cert.OFwdIdeal.Prod

end
-- ==== Proof.UpFwd.lean ====
module

public import proofs.«01_k».proof.Proof.Gen.UpFwd.Frame
public import proofs.«01_k».proof.Proof.Gen.UpFwdIdeal.Frame
public import proofs.«01_k».proof.Proof.Gen.UpFwdIdeal.Value
public import proofs.«01_k».proof.Proof.Gen.UpFwdReferenceIdeal.Run
public import proofs.«01_k».proof.Proof.Gen.UpFwdReferenceIdeal.Read
public import proofs.«01_k».proof.Proof.Lies

/-! # The feed-forward's first product: the normalised rows times its first weight, which is stored transposed -/

@[expose] public section

noncomputable section

namespace Cert.UpFwdIdeal.Prod

open Idealize.ShloMosaic Idealize.ShloMosaic.TcCoe
open Idealize.SL.Sem
open Idealize.ShloMosaic.Pipeline (Dat Cfg Window)
open Cert.UpFwdIdeal.Gen
open Cert.UpFwdReferenceIdeal.Read

/-- One entry of a block of the product. -/
theorem out_at (x : Vec Ideal S1024x1024 .bf16) (y : Vec Ideal S512x1024 .bf16) (r : Fin 1024) (e : Fin 512) :
    out0_2 x y (ix2 r e) = ∑ k : Fin 1024, x (ix2 r k) * y (ix2 e k) := by
  have hz : (![0, 0] : Fin 2 → Nat) = fun _ => 0 := by decide
  unfold out0_2
  rw [View.canon_unit_zero hz, View.ld_unit_zero hz, View.ld_unit_zero hz]
  unfold k0_pay1
  pointwise

/-- One entry of the reference. -/
theorem ref_at (x : S2048x1024.Idx → EReal) (y : S5632x1024.Idx → EReal) (r : Fin 2048) (e : Fin 5632) :
    val_main_v4 (F := Ideal) x y (ix2 r e) = ∑ k : Fin 1024, x (ix2 r k) * y (ix2 e k) := by
  unfold val_main_v4 val_main_v3 val_main_v2 val_main_v1 val_main_v0
  pointwise

/-! ## Where the blocks lie -/

theorem lt_N (t : Fin cfg0.N) : t.val < 22 := lt_of_lt_of_eq t.isLt N_0

/-- Row `r` of point `t`'s block of rows, and column `e` of its block of columns. -/
def row (t : Fin cfg0.N) (r : Fin 1024) : Fin 2048 := ⟨t.val / 11 * 1024 + r.val, by have := lt_N t; omega⟩
def col (t : Fin cfg0.N) (e : Fin 512) : Fin 5632 := ⟨t.val % 11 * 512 + e.val, by have := lt_N t; omega⟩

theorem index_0 : ∀ t : Fin cfg0.N, win0_0.index t 0 = t.val / 11 ∧ win0_0.index t 1 = 0 := by decide +kernel
theorem index_1 : ∀ t : Fin cfg0.N, win0_1.index t 0 = t.val % 11 ∧ win0_1.index t 1 = 0 := by decide +kernel
theorem index_2 : ∀ t : Fin cfg0.N, win0_2.index t 0 = t.val / 11 ∧ win0_2.index t 1 = t.val % 11 := by decide +kernel

theorem emb_2 (t : Fin cfg0.N) (r : Fin 1024) (e : Fin 512) : (win0_2.rect t).emb (ix2 r e) = ix2 (row t r) (col t e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The two arguments. -/
def A : S2048x1024.Idx → EReal := m ((c : Thread nD τ).loc main_arg0)
def B : S5632x1024.Idx → EReal := m ((c : Thread nD τ).loc main_arg1)

theorem iblk_0 (t : Fin cfg0.N) (r : Fin 1024) (k : Fin 1024) : (iblk m c 0 t : S1024x1024.Idx → EReal) (ix2 r k) = A m c (ix2 (row t r) k) :=
  (congrFun (V_main_arg0 m c) _).trans (congrArg (A m c) (lies (index_0 t) (Window.rect_emb_val win0_0 t _ 0) (Window.rect_emb_val win0_0 t _ 1) rfl (Nat.zero_add _)))

theorem iblk_1 (t : Fin cfg0.N) (e : Fin 512) (k : Fin 1024) : (iblk m c 1 t : S512x1024.Idx → EReal) (ix2 e k) = B m c (ix2 (col t e) k) :=
  (congrFun (V_main_arg1 m c) _).trans (congrArg (B m c) (lies (index_1 t) (Window.rect_emb_val win0_1 t _ 0) (Window.rect_emb_val win0_1 t _ 1) rfl (Nat.zero_add _)))

theorem flushed (t : Fin cfg0.N) :
    (dats m 0 c).flushed 2 t = (win0_2.blk t).view.read (Elt Ideal) (val_main_v4 (F := Ideal) (A m c) (B m c) : S2048x5632.Idx → EReal) := by
  rw [Value.flushed2]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v4 (F := Ideal) (A m c) (B m c)) (emb_2 t r e)).symm
  rw [ref_at]
  refine (out_at _ _ r e).trans (Finset.sum_congr rfl fun k _ => ?_)
  rw [iblk_0, iblk_1]

theorem cover (x : S2048x5632.Idx) : ∃ t : Fin cfg0.N, (cfg0.win 2).flush t = true ∧ x ∈ ((cfg0.win 2).blk t).view.set := by
  obtain ⟨i, y, rfl⟩ : ∃ (i : Fin 2048) (y : Fin 5632), x = ix2 i y := ⟨x 0, x 1, ValueIdx.eq_ix2 x⟩
  have hN : 11 * (i.val / 1024) + y.val / 512 < cfg0.N := lt_of_lt_of_eq (by omega : _ < 22) N_0.symm
  refine ⟨⟨_, hN⟩, flush0_2 _, Finset.mem_map.mpr ⟨ix2 (⟨i.val % 1024, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · show (11 * (i.val / 1024) + y.val / 512) / 11 * 1024 + i.val % 1024 = i.val
    omega
  · show (11 * (i.val / 1024) + y.val / 512) % 11 * 512 + y.val % 512 = y.val
    omega

/-- The kernel's result is the reference's. -/
theorem final : (dats m 0 c).arrAt 2 cfg0.N = (val_main_v4 (F := Ideal) (A m c) (B m c) : S2048x5632.Idx → EReal) :=
  (dats m 0 c).arrAt_eq_of_cover 2 _ (fun t _ => flushed m c t) cover

end Cert.UpFwdIdeal.Prod

end
-- ==== Proof.DownFwd.lean ====
module

public import proofs.«01_k».proof.Proof.Gen.DownFwd.Frame
public import proofs.«01_k».proof.Proof.Gen.DownFwdIdeal.Frame
public import proofs.«01_k».proof.Proof.Gen.DownFwdIdeal.Value
public import proofs.«01_k».proof.Proof.Gen.DownFwdReferenceIdeal.Run
public import proofs.«01_k».proof.Proof.Gen.DownFwdReferenceIdeal.Read
public import proofs.«01_k».proof.Proof.Steps
public import proofs.«01_k».proof.Proof.Lies

/-! # The feed-forward's second product: the hidden rows times its second weight, added up over two blocks of columns -/

@[expose] public section

noncomputable section

namespace Cert.DownFwdIdeal.Prod

open Idealize.ShloMosaic Idealize.ShloMosaic.TcCoe
open Idealize.SL.Sem
open Idealize.ShloMosaic.Pipeline (Dat Cfg Window)
open Cert.Steps
open Cert.DownFwdIdeal.Gen
open Cert.DownFwdReferenceIdeal.Read

/-! ## What one step leaves -/

section Cases
variable (c : Dev nD) (i : grid0.Coords) (p3 : Memref sig .tc .vmem S1024x1408 .bf16) (h3 : p3.IsWhole) (p4 : Memref sig .tc .vmem S1408x512 .bf16) (h4 : p4.IsWhole)
  (p5 : Memref sig .tc .vmem S1024x512 .f32) (h5 : p5.IsWhole) (p6 : Memref sig .tc .vmem S1024x512 .f32) (h6 : p6.IsWhole)
  (x : Vec Ideal S1024x1408 .bf16) (y : Vec Ideal S1408x512 .bf16) (a : Vec Ideal S1024x512 .f32)

/-- The first step leaves its product in the accumulator. -/
theorem first (c0 : cond0_0 i) (c1 : ¬cond0_1 i) (c2 : ¬cond0_2 i) : sout0_A_0 c i p3 h3 p4 h4 p5 h5 p6 h6 c0 c1 c2 x y = k0_pay2 x y := by
  unfold sout0_A_0
  rw [View.read_writes_junk_eq_canon]
  unfold kernelRun0_A
  dsimp only
  rw [View.canon_unit_zero hz]
  exact congrArg₂ k0_pay2 (load_whole p3 h3 x hz _) (load_whole p4 h4 y hz _)

/-- The last step stores the accumulator's contents with its own product added. -/
theorem last (c0 : ¬cond0_0 i) (c1 : ¬cond0_1 i) (c2 : cond0_2 i) : out0_B_2 c i p3 h3 p4 h4 p5 h5 p6 h6 c0 c1 c2 x y a = k0_pay4 x y a := by
  unfold out0_B_2
  rw [View.read_writes_junk_eq_canon]
  unfold kernelRun0_B
  dsimp only
  rw [View.canon_unit_zero hz]
  exact congr (congrArg₂ k0_pay4 (load_whole p3 h3 x hz _) (load_whole p4 h4 y hz _)) (load_whole p6 h6 a hz _)

end Cases

/-- One entry of each step's value. -/
theorem prod_at (x : Vec Ideal S1024x1408 .bf16) (y : Vec Ideal S1408x512 .bf16) (r : Fin 1024) (e : Fin 512) :
    k0_pay1 x y (ix2 r e) = ∑ k : Fin 1408, x (ix2 r k) * y (ix2 k e) := by
  unfold k0_pay1
  pointwise

theorem first_at (x : Vec Ideal S1024x1408 .bf16) (y : Vec Ideal S1408x512 .bf16) (r : Fin 1024) (e : Fin 512) :
    k0_pay2 x y (ix2 r e) = k0_pay1 x y (ix2 r e) := by
  unfold k0_pay2
  pointwise

theorem last_at (x : Vec Ideal S1024x1408 .bf16) (y : Vec Ideal S1408x512 .bf16) (a : Vec Ideal S1024x512 .f32) (r : Fin 1024) (e : Fin 512) :
    k0_pay4 x y a (ix2 r e) = a (ix2 r e) + k0_pay1 x y (ix2 r e) := by
  unfold k0_pay4
  pointwise

/-- One entry of the reference. -/
theorem ref_at (x : S2048x2816.Idx → EReal) (y : S2816x1024.Idx → EReal) (r : Fin 2048) (e : Fin 1024) :
    val_main_v2 (F := Ideal) x y (ix2 r e) = ∑ k : Fin 2816, x (ix2 r k) * y (ix2 k e) := by
  unfold val_main_v2 val_main_v1 val_main_v0
  pointwise

/-! ## Where the blocks lie -/

theorem lt_N (t : Fin cfg0.N) : t.val < 8 := lt_of_lt_of_eq t.isLt N_0

/-- Row `r` and column `e` of block `q` of the result. -/
def row (q : ℕ) (r : Fin 1024) : Fin 2048 := ⟨q / 2 % 2 * 1024 + r.val, by omega⟩
def col (q : ℕ) (e : Fin 512) : Fin 1024 := ⟨q % 2 * 512 + e.val, by omega⟩

theorem index_0 : ∀ t : Fin cfg0.N, win0_0.index t 0 = t.val / 2 / 2 % 2 ∧ win0_0.index t 1 = t.val % 2 := by decide +kernel
theorem index_1 : ∀ t : Fin cfg0.N, win0_1.index t 0 = t.val % 2 ∧ win0_1.index t 1 = t.val / 2 % 2 := by decide +kernel
theorem index_2 : ∀ t : Fin cfg0.N, win0_2.index t 0 = t.val / 2 / 2 % 2 ∧ win0_2.index t 1 = t.val / 2 % 2 := by decide +kernel

theorem emb_2 (t : Fin cfg0.N) (r : Fin 1024) (e : Fin 512) : (win0_2.rect t).emb (ix2 r e) = ix2 (row (t.val / 2) r) (col (t.val / 2) e) :=
  lies (index_2 t) (Window.rect_emb_val win0_2 t _ 0) (Window.rect_emb_val win0_2 t _ 1) rfl rfl

/-! ## The result -/

variable (m : (ℓ : Loc nD τ sig) → Buf (Elt Ideal) ℓ) (c : Dev nD)

/-- The arguments. -/
def A : S2048x2816.Idx → EReal := m ((c : Thread nD τ).loc main_arg0)
def B : S2816x1024.Idx → EReal := m ((c : Thread nD τ).loc main_arg1)

/-- One product's share from block `j` of the contracted axis. -/
def part (i : Fin 2048) (y : Fin 1024) (j : ℕ) : EReal := ∑ k : Fin 1408, A m c (ix2 i (at_ 2 1408 j k)) * B m c (ix2 (at_ 2 1408 j k) y)

theorem iblk_0 (t : Fin cfg0.N) (r : Fin 1024) (k : Fin 1408) : (iblk m c 0 t : S1024x1408.Idx → EReal) (ix2 r k) = A m c (ix2 (row (t.val / 2) r) (at_ 2 1408 (t.val % 2) k)) :=
  (congrFun (V_main_arg0 m c) _).trans (congrArg (A m c) (lies (index_0 t) (Window.rect_emb_val win0_0 t _ 0) (Window.rect_emb_val win0_0 t _ 1) rfl (by show t.val % 2 * 1408 + k.val = t.val % 2 % 2 * 1408 + k.val; rw [Nat.mod_mod])))

theorem iblk_1 (t : Fin cfg0.N) (e : Fin 512) (k : Fin 1408) : (iblk m c 1 t : S1408x512.Idx → EReal) (ix2 k e) = B m c (ix2 (at_ 2 1408 (t.val % 2) k) (col (t.val / 2) e)) :=
  (congrFun (V_main_arg1 m c) _).trans (congrArg (B m c) (lies (index_1 t) (Window.rect_emb_val win0_1 t _ 0) (Window.rect_emb_val win0_1 t _ 1) (by show t.val % 2 * 1408 + k.val = t.val % 2 % 2 * 1408 + k.val; rw [Nat.mod_mod]) rfl))

theorem prod_blk (t : Fin cfg0.N) (r : Fin 1024) (e : Fin 512) :
    k0_pay1 (iblk m c 0 t) (iblk m c 1 t) (ix2 r e) = part m c (row (t.val / 2) r) (col (t.val / 2) e) (t.val % 2) :=
  (prod_at _ _ r e).trans (Finset.sum_congr rfl fun k _ => by rw [iblk_0, iblk_1])

/-- What the accumulator holds after each point but the last of a block's. -/
theorem acc_at (r : Fin 1024) (e : Fin 512) : ∀ t (ht : t < cfg0.N), t % 2 + 1 < 2 →
    (outsAt0 m c t ht).2 (ix2 r e) = ∑ j ∈ Finset.range (t % 2 + 1), part m c (row (t / 2) r) (col (t / 2) e) j :=
  fold 2 cfg0.N (by decide) (fun t ht => (outsAt0 m c t ht).2 (ix2 r e)) (fun q => part m c (row q r) (col q e))
    (fun t ht h => by
      rw [outsAt0_A m c ⟨t, ht⟩ h (by dsimp only; omega)]
      dsimp only
      rw [first]
      refine (first_at _ _ r e).trans ((prod_blk m c ⟨t, ht⟩ r e).trans ?_)
      rw [show (⟨t, ht⟩ : Fin cfg0.N).val % 2 = 0 from h])
    (fun t ht h h' => by omega)

theorem flushed (t : Fin cfg0.N) (ht : (cfg0.win 2).flush t = true) :
    (dats m 0 c).flushed 2 t = (win0_2.blk t).view.read (Elt Ideal) (val_main_v2 (F := Ideal) (A m c) (B m c) : S2048x1024.Idx → EReal) := by
  have h : t.val % 2 = 1 := (flush0_2 t).mp ht
  rw [Value.flushed2_B m c t (by omega) h, last]
  refine funext fun (x : S1024x512.Idx) => ?_
  obtain ⟨r, e, rfl⟩ : ∃ (r : Fin 1024) (e : Fin 512), x = ix2 r e := ⟨x 0, x 1, ValueIdx.eq_ix2 x⟩
  refine Eq.trans ?_ (congrArg (val_main_v2 (F := Ideal) (A m c) (B m c)) (emb_2 t r e)).symm
  rw [ref_at]
  refine (last_at _ _ _ r e).trans ?_
  rw [prod_blk, acc_at m c r e (t.val - 1) _ (by omega), show (t.val - 1) / 2 = t.val / 2 by omega, show (t.val - 1) % 2 + 1 = 1 by omega, h, ← Finset.sum_range_succ]
  exact sum_blocks 2 1408 fun k => A m c (ix2 (row (t.val / 2) r) (k)) * B m c (ix2 k (col (t.val / 2) e))

theorem cover (x : S2048x1024.Idx) : ∃ t : Fin cfg0.N, (cfg0.win 2).flush t = true ∧ x ∈ ((cfg0.win 2).blk t).view.set := by
  obtain ⟨i, y, rfl⟩ : ∃ (i : Fin 2048) (y : Fin 1024), x = ix2 i y := ⟨x 0, x 1, ValueIdx.eq_ix2 x⟩
  have hN : 2 * (2 * (i.val / 1024) + y.val / 512) + 1 < cfg0.N := lt_of_lt_of_eq (by omega : _ < 8) N_0.symm
  refine ⟨⟨_, hN⟩, (flush0_2 _).mpr (by dsimp only; omega), Finset.mem_map.mpr ⟨ix2 (⟨i.val % 1024, by omega⟩ : Fin 1024) (⟨y.val % 512, by omega⟩ : Fin 512), Finset.mem_univ _, ?_⟩⟩
  refine (emb_2 ⟨_, hN⟩ _ _).trans (congrArg₂ ix2 (Fin.ext ?_) (Fin.ext ?_))
  · show (2 * (2 * (i.val / 1024) + y.val / 512) + 1) / 2 / 2 % 2 * 1024 + i.val % 1024 = i.val
    omega
  · show (2 * (2 * (i.val / 1024) + y.val / 512) + 1) / 2 % 2 * 512 + y.val % 512 = y.val
    omega

/-- The kernel's result is the reference's. -/
theorem final : (dats m 0 c).arrAt 2 cfg0.N = (val_main_v2 (F := Ideal) (A m c) (B m c) : S2048x1024.Idx → EReal) :=
  (dats m 0 c).arrAt_eq_of_cover 2 _ (fun t ht => flushed m c t ht) cover

end Cert.DownFwdIdeal.Prod

end
-- ==== Proof.FfnCols.lean ====
module

public import proofs.«01_k».proof.Proof.Gen.FfnBwdIdeal.Skeleton
public import proofs.«01_k».proof.Proof.Gen.FfnBwdReferenceIdeal.Read
public import proofs.«01_k».proof.Proof.FoxReal
public import Idealize.ShloMosaic.Lib.Pointwise
public import Idealize.ShloMosaic.Lib.ValueIdx
public import Idealize.ShloMosaic.Lib.KernelVsHost
public import Idealize.ShloMosaic.Lib.WordCmp

/-! # One column of the convolution's gradient, in the real numbers

The causal convolution works on each column by itself: a column's result is a function of that column of the first half
`u`, its three weights, its bias, the gate `g` and the cotangent `d`. Both programs' entries are read here as real
numbers, where the arguments' are real. -/

@[expose] public section

noncomputable section

namespace Cert.FfnBwdIdeal.Conv

open Idealize.ShloMosaic Idealize.ShloMosaic.TcCoe

/-- The column's value `k` rows earlier, and `k` rows later: zero where there is no such row. -/
def back (u : Fin 2048 → ℝ) (k : ℕ) (i : Fin 2048) : ℝ := if k ≤ i.val then u ⟨i.val - k, by omega⟩ else 0
def ahead (u : Fin 2048 → ℝ) (k : ℕ) (i : Fin 2048) : ℝ := if h : i.val + k < 2048 then u ⟨i.val + k, h⟩ else 0

/-- The convolution of a column with three weights and a bias. -/
def conv (u : Fin 2048 → ℝ) (w : Fin 3 → ℝ) (b : ℝ) (i : Fin 2048) : ℝ := b + w 0 * back u 2 i + w 1 * back u 1 i + w 2 * u i

/-- The logistic function. -/
def sg (x : ℝ) : ℝ := 1 / (1 + Real.exp (-x))

/-- The convolution's cotangent. -/
def ct (u g d : Fin 2048 → ℝ) (w : Fin 3 → ℝ) (b : ℝ) (i : Fin 2048) : ℝ :=
  d i * g i * (sg (conv u w b i) * (1 + conv u w b i * (1 - sg (conv u w b i))))

/-- The first half's gradient, given the convolution's cotangent `z`. -/
def du (z : Fin 2048 → ℝ) (w : Fin 3 → ℝ) (i : Fin 2048) : ℝ := w 2 * z i + w 1 * ahead z 1 i + w 0 * ahead z 2 i

/-- The gate's gradient. -/
def dg (u d : Fin 2048 → ℝ) (w : Fin 3 → ℝ) (b : ℝ) (i : Fin 2048) : ℝ := d i * (conv u w b i * sg (conv u w b i))

/-- The eight rows of weights' and bias's gradients: three, one, and four of zeros. -/
def dw (z u : Fin 2048 → ℝ) (k : Fin 8) : ℝ :=
  if k.val = 0 then ∑ i, z i * back u 2 i else if k.val = 1 then ∑ i, z i * back u 1 i else if k.val = 2 then ∑ i, z i * u i
  else if k.val = 3 then ∑ i, z i else 0

theorem sigm (x : ℝ) : Ideal.div 1 (1 + Ideal.exp ((-x : ℝ) : EReal)) = ((sg x : ℝ) : EReal) := by
  rw [Ideal.exp_coe, ← EReal.coe_one, ← EReal.coe_add, Ideal.div_coe (ne_of_gt (by positivity)), ← EReal.coe_mul, one_mul]
  rfl

/-! ## Shifted rows -/

theorem from_row (k i : ℕ) (hk : k < 2048) (hi : i < 2048) (a b : EReal) :
    Scalar.select (IntOp.cmpi CmpIPredicate.sge (BitVec.ofNat 32 i) (BitVec.ofNat 32 k)) a b = if k ≤ i then a else b := by
  have h : IntOp.cmpi CmpIPredicate.sge (BitVec.ofNat 32 i) (BitVec.ofNat 32 k) = 1#1 ↔ k ≤ i := by word_cmp
  unfold Scalar.select
  by_cases hk : k ≤ i
  · exact (if_pos (h.mpr hk)).trans (if_pos hk).symm
  · exact (if_neg (fun x => hk (h.mp x))).trans (if_neg hk).symm

theorem until_row (k i : ℕ) (hk : k < 2048) (hi : i < 2048) (a b : EReal) :
    Scalar.select (IntOp.cmpi CmpIPredicate.slt (BitVec.ofNat 32 i) (BitVec.ofNat 32 k)) a b = if i < k then a else b := by
  have h : IntOp.cmpi CmpIPredicate.slt (BitVec.ofNat 32 i) (BitVec.ofNat 32 k) = 1#1 ↔ i < k := by word_cmp
  unfold Scalar.select
  by_cases hk : i < k
  · exact (if_pos (h.mpr hk)).trans (if_pos hk).symm
  · exact (if_neg (fun x => hk (h.mp x))).trans (if_neg hk).symm

/-- Rows turned by `k` places. -/
theorem turned (k : ℕ) (sb : BitVec 32) (hsb : sb.toNat = k) (hk : k < 2048) (x : S2048x256.Idx → EReal) (h : S2048x256.Rotates 0 none)
    (i : Fin 2048) (e : Fin 256) :
    dynamicRotate 0 sb none x h (ix2 i e) = x (ix2 (⟨(i.val + 2048 - k) % 2048, Nat.mod_lt _ (by omega)⟩ : Fin 2048) e) := by
  refine dynamicRotate_apply 0 sb x h _ _ (fun b => ?_)
  match b with
  | ⟨0, _⟩ =>
    show (i.val + 2048 - k) % 2048 = (i.val + 2048 - sb.toNat % 2048) % 2048
    rw [hsb, Nat.mod_eq_of_lt hk]
  | ⟨1, _⟩ => rfl

/-! ## The kernel's values -/

section Kernel
open Cert.FfnBwdIdeal.Gen

variable (x0 x1 : Vec Ideal S2048x256 .bf16) (x2 : Vec Ideal S3x256 .f32) (x3 : Vec Ideal S1x256 .f32) (x4 : Vec Ideal S2048x256 .f32)
  (e : Fin 256) (u g d : Fin 2048 → ℝ) (w : Fin 3 → ℝ) (b : ℝ)

theorem k_u (hu : ∀ i, x0 (ix2 i e) = ((u i : ℝ) : EReal)) (i : Fin 2048) : k0_pay5 (F := Ideal) x0 (ix2 i e) = ((u i : ℝ) : EReal) := by
  unfold k0_pay5
  pointwise
  exact hu i

theorem k_back1 (hu : ∀ i, x0 (ix2 i e) = ((u i : ℝ) : EReal)) (i : Fin 2048) :
    k0_pay6 (F := Ideal) x0 (ix2 i e) = ((back u 1 i : ℝ) : EReal) := by
  unfold k0_pay6 k0_pay5
  pointwise
  rw [hu]
  refine (from_row 1 i.val (by omega) i.isLt _ _).trans ?_
  unfold back
  by_cases h : 1 ≤ i.val
  · rw [if_pos h, if_pos h]
    exact congrArg (fun j => ((u j : ℝ) : EReal)) (Fin.ext (show (i.val + 2048 - 1) % 2048 = i.val - 1 by omega))
  · rw [if_neg h, if_neg h]; rfl

theorem k_back2 (hu : ∀ i, x0 (ix2 i e) = ((u i : ℝ) : EReal)) (i : Fin 2048) :
    k0_pay7 (F := Ideal) x0 (ix2 i e) = ((back u 2 i : ℝ) : EReal) := by
  unfold k0_pay7 k0_pay5
  pointwise
  rw [hu]
  refine (from_row 2 i.val (by omega) i.isLt _ _).trans ?_
  unfold back
  by_cases h : 2 ≤ i.val
  · rw [if_pos h, if_pos h]
    exact congrArg (fun j => ((u j : ℝ) : EReal)) (Fin.ext (show (i.val + 2048 - 2) % 2048 = i.val - 2 by omega))
  · rw [if_neg h, if_neg h]; rfl

theorem k_conv (hu : ∀ i, x0 (ix2 i e) = ((u i : ℝ) : EReal)) (hw : ∀ k, x2 (ix2 k e) = ((w k : ℝ) : EReal))
    (hb : x3 (ix2 0 e) = ((b : ℝ) : EReal)) (i : Fin 2048) :
    k0_pay8 (F := Ideal) x0 x2 x3 (ix2 i e) = ((conv u w b i : ℝ) : EReal) := by
  have h1 := k_back1 x0 e u hu i
  have h2 := k_back2 x0 e u hu i
  unfold k0_pay8 k0_pay5
  generalize k0_pay6 (F := Ideal) x0 = y1 at *
  generalize k0_pay7 (F := Ideal) x0 = y2 at *
  pointwise
  rw [h1, h2, hu, hw, hw, hw, hb]
  simp only [← EReal.coe_mul, ← EReal.coe_add]
  rfl

theorem k_sg (hu : ∀ i, x0 (ix2 i e) = ((u i : ℝ) : EReal)) (hw : ∀ k, x2 (ix2 k e) = ((w k : ℝ) : EReal))
    (hb : x3 (ix2 0 e) = ((b : ℝ) : EReal)) (i : Fin 2048) :
    k0_pay9 (F := Ideal) x0 x2 x3 (ix2 i e) = ((sg (conv u w b i) : ℝ) : EReal) := by
  have h := k_conv x0 x2 x3 e u w b hu hw hb i
  unfold k0_pay9
  generalize k0_pay8 (F := Ideal) x0 x2 x3 = y at *
  pointwise
  rw [h, ← EReal.coe_zero, ← EReal.coe_sub, zero_sub]
  exact sigm _

theorem k_dg (hu : ∀ i, x0 (ix2 i e) = ((u i : ℝ) : EReal)) (hw : ∀ k, x2 (ix2 k e) = ((w k : ℝ) : EReal))
    (hb : x3 (ix2 0 e) = ((b : ℝ) : EReal)) (hd : ∀ i, x4 (ix2 i e) = ((d i : ℝ) : EReal)) (i : Fin 2048) :
    k0_pay11 (F := Ideal) (k0_pay10 x0 x2 x4 x3) (ix3 0 i e) = ((dg u d w b i : ℝ) : EReal) := by
  have h := k_conv x0 x2 x3 e u w b hu hw hb i
  have h' := k_sg x0 x2 x3 e u w b hu hw hb i
  unfold k0_pay11 k0_pay10
  generalize k0_pay8 (F := Ideal) x0 x2 x3 = y at *
  generalize k0_pay9 (F := Ideal) x0 x2 x3 = y' at *
  pointwise
  rw [h, h', hd]
  simp only [← EReal.coe_mul]
  rfl

theorem k_ct (hu : ∀ i, x0 (ix2 i e) = ((u i : ℝ) : EReal)) (hg : ∀ i, x1 (ix2 i e) = ((g i : ℝ) : EReal))
    (hw : ∀ k, x2 (ix2 k e) = ((w k : ℝ) : EReal))
    (hb : x3 (ix2 0 e) = ((b : ℝ) : EReal)) (hd : ∀ i, x4 (ix2 i e) = ((d i : ℝ) : EReal)) (i : Fin 2048) :
    k0_pay12 (F := Ideal) x4 (k0_pay8 x0 x2 x3) (k0_pay9 x0 x2 x3) x1 (ix2 i e) = ((ct u g d w b i : ℝ) : EReal) := by
  have h := k_conv x0 x2 x3 e u w b hu hw hb i
  have h' := k_sg x0 x2 x3 e u w b hu hw hb i
  unfold k0_pay12
  generalize k0_pay8 (F := Ideal) x0 x2 x3 = y at *
  generalize k0_pay9 (F := Ideal) x0 x2 x3 = y' at *
  pointwise
  rw [h, h', hd, hg, ← EReal.coe_one]
  simp only [← EReal.coe_mul, ← EReal.coe_add, ← EReal.coe_sub]
  rfl

theorem k_du (v29 v36 : FVec Ideal S2048x256 .f32) (z : Fin 2048 → ℝ)
    (hz : ∀ i, k0_pay12 (F := Ideal) x4 v29 v36 x1 (ix2 i e) = ((z i : ℝ) : EReal))
    (hw : ∀ k, x2 (ix2 k e) = ((w k : ℝ) : EReal)) (i : Fin 2048) :
    k0_pay13 (F := Ideal) x2 x4 v29 v36 x1 (ix3 0 i e) = ((du z w i : ℝ) : EReal) := by
  unfold k0_pay13
  generalize k0_pay12 (F := Ideal) x4 v29 v36 x1 = y at *
  have t1 := turned 2047 2047#32 rfl (by omega) y rotates_S2048x256_d0 i e
  have t2 := turned 2046 2046#32 rfl (by omega) y rotates_S2048x256_d0 i e
  generalize dynamicRotate 0 2047#32 none y rotates_S2048x256_d0 = y1 at *
  generalize dynamicRotate 0 2046#32 none y rotates_S2048x256_d0 = y2 at *
  pointwise
  rw [t1, t2, hz, hz, hz, hw, hw, hw, until_row 2047 i.val (by omega) i.isLt, until_row 2046 i.val (by omega) i.isLt]
  have a1 : (if i.val < 2047 then ((w 1 : ℝ) : EReal) * ((z ⟨(i.val + 2048 - 2047) % 2048, Nat.mod_lt _ (by omega)⟩ : ℝ) : EReal) else 0)
      = ((w 1 * ahead z 1 i : ℝ) : EReal) := by
    unfold ahead
    by_cases h : i.val < 2047
    · rw [if_pos h, dif_pos (show i.val + 1 < 2048 by omega), ← EReal.coe_mul]
      exact congrArg (fun j => ((w 1 * z j : ℝ) : EReal)) (Fin.ext (show (i.val + 2048 - 2047) % 2048 = i.val + 1 by omega))
    · rw [if_neg h, dif_neg (show ¬i.val + 1 < 2048 by omega), mul_zero]; rfl
  have a2 : (if i.val < 2046 then ((w 0 : ℝ) : EReal) * ((z ⟨(i.val + 2048 - 2046) % 2048, Nat.mod_lt _ (by omega)⟩ : ℝ) : EReal) else 0)
      = ((w 0 * ahead z 2 i : ℝ) : EReal) := by
    unfold ahead
    by_cases h : i.val < 2046
    · rw [if_pos h, dif_pos (show i.val + 2 < 2048 by omega), ← EReal.coe_mul]
      exact congrArg (fun j => ((w 0 * z j : ℝ) : EReal)) (Fin.ext (show (i.val + 2048 - 2046) % 2048 = i.val + 2 by omega))
    · rw [if_neg h, dif_neg (show ¬i.val + 2 < 2048 by omega), mul_zero]; rfl
  rw [a1, a2]
  simp only [← EReal.coe_mul, ← EReal.coe_add]
  rfl

/-- A row of sums of products. -/
theorem k_row (y z : FVec Ideal S2048x256 .f32) (p q : Fin 2048 → ℝ) (hy : ∀ i, y (ix2 i e) = ((p i : ℝ) : EReal))
    (hz : ∀ i, z (ix2 i e) = ((q i : ℝ) : EReal)) : k0_pay1 (F := Ideal) y z (ix2 0 e) = ((∑ i, q i * p i : ℝ) : EReal) := by
  unfold k0_pay1
  pointwise
  simp only [hy, hz, ← EReal.coe_mul, Cert.FoxReal.coe_sum]

theorem k_sum (z : FVec Ideal S2048x256 .f32) (q : Fin 2048 → ℝ)
    (hz : ∀ i, z (ix2 i e) = ((q i : ℝ) : EReal)) : k0_pay4 (F := Ideal) z (ix2 0 e) = ((∑ i, q i : ℝ) : EReal) := by
  unfold k0_pay4
  pointwise
  simp only [hz, Cert.FoxReal.coe_sum]

end Kernel

/-! ## The reference's values -/

section Reference
open Cert.FfnBwdReferenceIdeal.Read

variable (x0 : FfnBwdReferenceIdeal.S2048x5632.Idx → EReal) (x1 : FfnBwdReferenceIdeal.S3x2816.Idx → EReal)
  (x2 : FfnBwdReferenceIdeal.S1x2816.Idx → EReal) (x3 : FfnBwdReferenceIdeal.S2048x2816.Idx → EReal)
  (y : Fin 2816) (u g d : Fin 2048 → ℝ) (w : Fin 3 → ℝ) (b : ℝ)

/-- The column of the first half, and of the second. -/
def lo (y : Fin 2816) : Fin 5632 := ⟨y.val, by omega⟩
def hi (y : Fin 2816) : Fin 5632 := ⟨2816 + y.val, by omega⟩

theorem r_back0 (hu : ∀ i, x0 (ix2 i (lo y)) = ((u i : ℝ) : EReal)) (i : Fin 2048) :
    val_main_v25 (F := Ideal) x0 (ix2 i y) = ((u i : ℝ) : EReal) := by
  unfold val_main_v25 val_main_v5 val_main_v4 val_main_cst val_main_v1 val_main_v0
  pointwise
  exact hu i

theorem r_back1 (hu : ∀ i, x0 (ix2 i (lo y)) = ((u i : ℝ) : EReal)) (i : Fin 2048) :
    val_main_v18 (F := Ideal) x0 (ix2 i y) = ((back u 1 i : ℝ) : EReal) := by
  unfold val_main_v18 val_main_v5 val_main_v4 val_main_cst val_main_v1 val_main_v0
  pointwise
  unfold back
  by_cases h : 1 ≤ i.val
  · refine (dif_neg (by omega)).trans (Eq.trans ?_ (congrArg (fun r : ℝ => (r : EReal)) (if_pos h).symm))
    refine (hu ⟨1 + i.val - 2, by omega⟩).trans (congrArg (fun j => ((u j : ℝ) : EReal)) (Fin.ext ?_))
    show 1 + i.val - 2 = i.val - 1
    omega
  · refine (dif_pos (by omega)).trans (Eq.trans ?_ (congrArg (fun r : ℝ => (r : EReal)) (if_neg h).symm))
    rfl

theorem r_back2 (hu : ∀ i, x0 (ix2 i (lo y)) = ((u i : ℝ) : EReal)) (i : Fin 2048) :
    val_main_v9 (F := Ideal) x0 (ix2 i y) = ((back u 2 i : ℝ) : EReal) := by
  unfold val_main_v9 val_main_v5 val_main_v4 val_main_cst val_main_v1 val_main_v0
  pointwise
  unfold back
  by_cases h : 2 ≤ i.val
  · refine (dif_neg (by omega)).trans (Eq.trans ?_ (congrArg (fun r : ℝ => (r : EReal)) (if_pos h).symm))
    exact hu _
  · refine (dif_pos (by omega)).trans (Eq.trans ?_ (congrArg (fun r : ℝ => (r : EReal)) (if_neg h).symm))
    rfl

theorem r_conv (hu : ∀ i, x0 (ix2 i (lo y)) = ((u i : ℝ) : EReal)) (hw : ∀ k, x1 (ix2 k y) = ((w k : ℝ) : EReal))
    (hb : x2 (ix2 0 y) = ((b : ℝ) : EReal)) (i : Fin 2048) :
    val_main_v29 (F := Ideal) x0 x1 x2 (ix2 i y) = ((conv u w b i : ℝ) : EReal) := by
  have h0 := r_back0 x0 y u hu i
  have h1 := r_back1 x0 y u hu i
  have h2 := r_back2 x0 y u hu i
  unfold val_main_v29 val_main_v28 val_main_v27 val_main_v26 val_main_v24 val_main_v23 val_main_v22 val_main_v21 val_main_v20 val_main_v19 val_main_v17 val_main_v16
  unfold val_main_v15 val_main_v14 val_main_v13 val_main_v12 val_main_v11 val_main_v10 val_main_v8 val_main_v7 val_main_v3
  generalize val_main_v25 (F := Ideal) x0 = y0 at *
  generalize val_main_v18 (F := Ideal) x0 = y1 at *
  generalize val_main_v9 (F := Ideal) x0 = y2 at *
  pointwise
  rw [h0, h1, h2, hw, hw, hw, hb]
  simp only [← EReal.coe_mul, ← EReal.coe_add]
  rfl

theorem r_sg (hu : ∀ i, x0 (ix2 i (lo y)) = ((u i : ℝ) : EReal)) (hw : ∀ k, x1 (ix2 k y) = ((w k : ℝ) : EReal))
    (hb : x2 (ix2 0 y) = ((b : ℝ) : EReal)) (i : Fin 2048) :
    val_main_v30_2 (F := Ideal) x0 x1 x2 (ix2 i y) = ((sg (conv u w b i) : ℝ) : EReal) := by
  have h := r_conv x0 x1 x2 y u w b hu hw hb i
  unfold val_main_v30_2 val_main_call0_v4 val_main_call0_v3 val_main_call0_v2 val_main_call0_v1 val_main_call0_v0 val_main_call0_cst val_main_call0_cst_0
  generalize val_main_v29 (F := Ideal) x0 x1 x2 = z at *
  pointwise
  rw [h, ← EReal.coe_neg]
  exact sigm _

theorem r_dg (hu : ∀ i, x0 (ix2 i (lo y)) = ((u i : ℝ) : EReal)) (hw : ∀ k, x1 (ix2 k y) = ((w k : ℝ) : EReal))
    (hb : x2 (ix2 0 y) = ((b : ℝ) : EReal)) (hd : ∀ i, x3 (ix2 i y) = ((d i : ℝ) : EReal)) (i : Fin 2048) :
    val_main_v32 (F := Ideal) x0 x1 x2 x3 (ix2 i y) = ((dg u d w b i : ℝ) : EReal) := by
  have h := r_conv x0 x1 x2 y u w b hu hw hb i
  have h' := r_sg x0 x1 x2 y u w b hu hw hb i
  unfold val_main_v32 val_main_v30_0
  generalize val_main_v29 (F := Ideal) x0 x1 x2 = z at *
  generalize val_main_v30_2 (F := Ideal) x0 x1 x2 = z' at *
  pointwise
  rw [h, h', hd]
  simp only [← EReal.coe_mul]
  exact congrArg _ (mul_comm _ _)

theorem r_ct (hu : ∀ i, x0 (ix2 i (lo y)) = ((u i : ℝ) : EReal)) (hg : ∀ i, x0 (ix2 i (hi y)) = ((g i : ℝ) : EReal))
    (hw : ∀ k, x1 (ix2 k y) = ((w k : ℝ) : EReal))
    (hb : x2 (ix2 0 y) = ((b : ℝ) : EReal)) (hd : ∀ i, x3 (ix2 i y) = ((d i : ℝ) : EReal)) (i : Fin 2048) :
    val_main_v34 (F := Ideal) x0 x1 x2 x3 (ix2 i y) = ((ct u g d w b i : ℝ) : EReal) := by
  have h := r_conv x0 x1 x2 y u w b hu hw hb i
  have h' := r_sg x0 x1 x2 y u w b hu hw hb i
  have hg' := hg i
  unfold hi at hg'
  unfold val_main_v34 val_main_call1_v2 val_main_call1_v1 val_main_call1_v0 val_main_v33 val_main_v30_1 val_main_call0_v7 val_main_call0_v6 val_main_call0_cst_1 val_main_v2 val_main_v0
  generalize val_main_v29 (F := Ideal) x0 x1 x2 = z at *
  generalize val_main_v30_2 (F := Ideal) x0 x1 x2 = z' at *
  pointwise
  rw [h, h', hd, hg', ← EReal.coe_one]
  simp only [← EReal.coe_mul, ← EReal.coe_add, ← EReal.coe_sub]
  refine congrArg _ ?_
  unfold ct
  ring

theorem r_du (z : Fin 2048 → ℝ) (hz : ∀ i, val_main_v34 (F := Ideal) x0 x1 x2 x3 (ix2 i y) = ((z i : ℝ) : EReal))
    (hw : ∀ k, x1 (ix2 k y) = ((w k : ℝ) : EReal)) (i : Fin 2048) :
    val_main_v74 (F := Ideal) x0 x1 x2 x3 (ix3 0 i y) = ((du z w i : ℝ) : EReal) := by
  unfold val_main_v74 val_main_v73 val_main_v71 val_main_v70 val_main_v65 val_main_v51 val_main_v41 val_main_v64 val_main_v50 val_main_v36 val_main_v45 val_main_v59
  unfold val_main_v35 val_main_v44 val_main_v58 val_main_v26 val_main_v19 val_main_v10 val_main_v24 val_main_v17 val_main_v8 val_main_v23 val_main_v16 val_main_v7 val_main_cst_3 val_main_cst_7 val_main_cst_13
  generalize val_main_v34 (F := Ideal) x0 x1 x2 x3 = z' at *
  pointwise
  simp only [hz, hw]
  unfold du ahead
  have e1 : ∀ h : 1 ≤ 2 + i.val ∧ 2 + i.val - 1 < 2048, (⟨2 + i.val - 1, h.2⟩ : Fin 2048) = ⟨i.val + 1, by omega⟩ := fun h => Fin.ext (by show 2 + i.val - 1 = i.val + 1; omega)
  have e2 : ∀ h : 2 + i.val < 2048, (⟨2 + i.val, h⟩ : Fin 2048) = ⟨i.val + 2, by omega⟩ := fun h => Fin.ext (Nat.add_comm _ _)
  by_cases h1 : i.val + 1 < 2048 <;> by_cases h2 : i.val + 2 < 2048
  · rw [dif_pos (by omega), dif_pos (by omega), dif_pos h1, dif_pos h2, e1 (by omega), e2 (by omega)]
    simp only [← EReal.coe_mul, ← EReal.coe_add]
  · rw [dif_pos (by omega), dif_neg (by omega), dif_pos h1, dif_neg h2, e1 (by omega)]
    simp only [← EReal.coe_mul, ← EReal.coe_add, mul_zero, add_zero]
  · omega
  · rw [dif_neg (by omega), dif_neg (by omega), dif_neg h1, dif_neg h2]
    simp only [← EReal.coe_mul, ← EReal.coe_add, mul_zero, add_zero]

theorem r_gate (i : Fin 2048) :
    val_main_v74 (F := Ideal) x0 x1 x2 x3 (ix3 1 i y) = val_main_v32 (F := Ideal) x0 x1 x2 x3 (ix2 i y) := by
  unfold val_main_v74 val_main_v73 val_main_v72
  generalize val_main_v71 (F := Ideal) x0 x1 x2 x3 = z
  generalize val_main_v32 (F := Ideal) x0 x1 x2 x3 = z'
  pointwise

theorem r_dw (z : Fin 2048 → ℝ) (hz : ∀ i, val_main_v34 (F := Ideal) x0 x1 x2 x3 (ix2 i y) = ((z i : ℝ) : EReal))
    (hu : ∀ i, x0 (ix2 i (lo y)) = ((u i : ℝ) : EReal)) (k : Fin 8) :
    val_main_v77 (F := Ideal) x0 x1 x2 x3 (ix2 k y) = ((dw z u k : ℝ) : EReal) := by
  have h0 := r_back0 x0 y u hu
  have h1 := r_back1 x0 y u hu
  have h2 := r_back2 x0 y u hu
  unfold val_main_v77 val_main_v76 val_main_v75 val_main_v57 val_main_v56 val_main_v55 val_main_v68 val_main_v54 val_main_v43 val_main_v53 val_main_v67 val_main_v42 val_main_v52 val_main_v66
  unfold val_main_v40 val_main_v49 val_main_v63 val_main_v39 val_main_v48 val_main_v62 val_main_v38 val_main_v47 val_main_v61 val_main_v37 val_main_v46 val_main_v60
  unfold val_main_cst_15 val_main_cst_14 val_main_cst_12 val_main_cst_11 val_main_cst_10 val_main_cst_9 val_main_cst_8 val_main_cst_6 val_main_cst_5 val_main_cst_4 val_main_cst_2 val_main_cst_1
  generalize val_main_v34 (F := Ideal) x0 x1 x2 x3 = z' at *
  generalize val_main_v25 (F := Ideal) x0 = y0 at *
  generalize val_main_v18 (F := Ideal) x0 = y1 at *
  generalize val_main_v9 (F := Ideal) x0 = y2 at *
  pointwise
  simp only [hz, h0, h1, h2, ← EReal.coe_mul, Cert.FoxReal.coe_sum, Finset.sum_const, Finset.card_univ, Fintype.card_fin, one_smul]
  fin_cases k <;> simp [dw]

end Reference

end Cert.FfnBwdIdeal.Conv

end
-- ==== Proof.FfnBwd.lean ====
module

public import proofs.«01_k».proof.Defs
public import proofs.«01_k».proof.Proof.Gen.FfnBwd.Frame
public import proofs.«01_k».proof.Proof.Gen.FfnBwdIdeal.Frame
public import proofs.«01_k».proof.Proof.Gen.FfnBwdIdeal.Value
public import proofs.«01_k».proof.Proof.Gen.FfnBwdReferenceIdeal.Run
public import proofs.«01_k».proof.Proof.Gen.FfnBwdReferenceIdeal.Read
public import proofs.«01_k».proof.Proof.Gen.Pre_ffn_finite
public import proofs.«01_k».proof.Proof.FfnCols
public import proofs.«01_k».proof.Proof.Steps
public import proofs.«01_k».proof.Proof.Reals
public import proofs.«01_k».proof.Proof.Lies

/-! # The gradient of the feed-forward block's convolution and gate

Each grid point takes 256 columns, all of their rows; both results' entries are those of `FfnCols`. -/

@[expose] public section

noncomputable section

namespace Cert.FfnBwdIdeal.Prod

open Idealize.ShloMosaic Idealize.ShloMosaic.TcCoe
open Idealize.SL.Sem
open Idealize.ShloMosaic.Pipeline (Dat Cfg Window)
open Cert.Steps
open Cert.FfnBwdIdeal.Conv
open Cert.FfnBwdIdeal.Gen
open Cert.FfnBwdReferenceIdeal.Read

/-! ## What one point leaves -/

/-- The last store, of row `k`, at that row and at another. -/
theorem row_hit (k : ℕ) (inb : ∀ a, (![k, 0] : Fin 2 → ℕ) a + (![1, 256] : Fin 2 → ℕ) a ≤ S8x256.size a)
    (w : (Rect.unit (s := S8x256) ![k, 0] ![1, 256] inb).shape.Idx → Elt Ideal .f32) (L : List (View.Piece (Elt Ideal) S8x256 .f32))
    (a : Fin 8) (ha : a.val = k) (e : Fin 256) :
    View.canon ((⟨Rect.unit (s := S8x256) ![k, 0] ![1, 256] inb, w⟩ : View.Piece (Elt Ideal) S8x256 .f32) :: L) (ix2 a e) = w (ix2 (0 : Fin 1) e) := by
  have he : (Rect.unit (s := S8x256) ![k, 0] ![1, 256] inb).emb (ix2 (0 : Fin 1) e) = ix2 a e := by
    funext x
    match x with
    | ⟨0, _⟩ => exact Fin.ext (by show k + 1 * 0 = a.val; omega)
    | ⟨1, _⟩ => exact Fin.ext (by show 0 + 1 * e.val = e.val; omega)
  rw [← he]
  exact View.canon_cons_emb (Rect.unit (s := S8x256) ![k, 0] ![1, 256] inb) w L (ix2 (0 : Fin 1) e)

theorem row_miss (k : ℕ) (inb : ∀ a, (![k, 0] : Fin 2 → ℕ) a + (![1, 256] : Fin 2 → ℕ) a ≤ S8x256.size a)
    (w : (Rect.unit (s := S8x256) ![k, 0] ![1, 256] inb).shape.Idx → Elt Ideal .f32) (L : List (View.Piece (Elt Ideal) S8x256 .f32))
    (a : Fin 8) (ha : a.val ≠ k) (e : Fin 256) :
    View.canon ((⟨Rect.unit (s := S8x256) ![k, 0] ![1, 256] inb, w⟩ : View.Piece (Elt Ideal) S8x256 .f32) :: L) (ix2 a e) = View.canon L (ix2 a e) := by
  refine View.canon_cons_of_not_mem _ L (fun hm => ?_)
  obtain ⟨i, hi, he⟩ := (LoadRect.mem_set _).mp hm (0 : Fin 2)
  have hi1 : i < 1 := hi
  have he' : a.val = k + 1 * i := he
  omega

/-- The same of the two planes of the other result. -/
theorem plane_hit (k : ℕ) (inb : ∀ a, (![k, 0, 0] : Fin 3 → ℕ) a + (![1, 2048, 256] : Fin 3 → ℕ) a ≤ S2x2048x256.size a)
    (w : (Rect.unit (s := S2x2048x256) ![k, 0, 0] ![1, 2048, 256] inb).shape.Idx → Elt Ideal .bf16) (L : List (View.Piece (Elt Ideal) S2x2048x256 .bf16))
    (a : Fin 2) (ha : a.val = k) (r : Fin 2048) (e : Fin 256) :
    View.canon ((⟨Rect.unit (s := S2x2048x256) ![k, 0, 0] ![1, 2048, 256] inb, w⟩ : View.Piece (Elt Ideal) S2x2048x256 .bf16) :: L) (ix3 a r e)
      = w (ix3 (0 : Fin 1) r e) := by
  have he : (Rect.unit (s := S2x2048x256) ![k, 0, 0] ![1, 2048, 256] inb).emb (ix3 (0 : Fin 1) r e) = ix3 a r e := by
    funext x
    match x with
    | ⟨0, _⟩ => exact Fin.ext (by show k + 1 * 0 = a.val; omega)
    | ⟨1, _⟩ => exact Fin.ext (by show 0 + 1 * r.val = r.val; omega)
    | ⟨2, _⟩ => exact Fin.ext (by show 0 + 1 * e.val = e.val; omega)
  rw [← he]
  exact View.canon_cons_emb (Rect.unit (s := S2x2048x256) ![k, 0, 0] ![1, 2048, 256] inb) w L (ix3 (0 : Fin 1) r e)

theorem plane_miss (k : ℕ) (inb : ∀ a, (![k, 0, 0] : Fin 3 → ℕ) a + (![1, 2048, 256] : Fin 3 → ℕ) a ≤ S2x2048x256.size a)
    (w : (Rect.unit (s := S2x2048x256) ![k, 0, 0] ![1, 2048, 256] inb).shape.Idx → Elt Ideal .bf16) (L : List (View.Piece (Elt Ideal) S2x2048x256 .bf16))
    (a : Fin 2) (ha : a.val ≠ k) (r : Fin 2048) (e : Fin 256) :
    View.canon ((⟨Rect.unit (s := S2x2048x256) ![k, 0, 0] ![1, 2048, 256] inb, w⟩ : View.Piece (Elt Ideal) S2x2048x256 .bf16) :: L) (ix3 a r e)
      = View.canon L (ix3 a r e) := by
  refine View.canon_cons_of_not_mem _ L (fun hm => ?_)
  obtain ⟨i, hi, he⟩ := (LoadRect.mem_set _).mp hm (0 : Fin 3)
  have hi1 : i < 1 := hi
  have he' : a.val = k + 1 * i := he
  omega

section Cases
variable (c : Dev nD) (i : grid0.Coords) (p1 : Memref sig .tc .vmem S2048x256 .bf16) (h1 : p1.IsWhole) (p2 : Memref sig .tc .vmem S2048x256 .bf16) (h2 : p2.IsWhole)
  (p3 : Memref sig .tc .vmem S3x256 .f32) (h3 : p3.IsWhole) (p4 : Memref sig .tc .vmem S1x256 .f32) (h4 : p4.IsWhole) (p5 : Memref sig .tc .vmem S2048x256 .f32) (h5 : p5.IsWhole)
  (p6 : Memref sig .tc .vmem S2x2048x256 .bf16) (h6 : p6.IsWhole) (p7 : Memref sig .tc .vmem S8x256 .f32) (h7 : p7.IsWhole)
  (x0 x1 : Vec Ideal S2048x256 .bf16) (x2 : Vec Ideal S3x256 .f32) (x3 : Vec Ideal S1x256 .f32) (x4 : Vec Ideal S2048x256 .f32)

theorem val_u : kernelRun0_A.sl.r c p1 h1 x0 = k0_pay5 x0 := congrArg k0_pay5 (load_whole p1 h1 x0 hz _)
theorem val_w : kernelRun0_A.sl.r_1 c p3 h3 x2 = x2 := load_whole p3 h3 x2 hz _
theorem val_d : kernelRun0_A.sl.r_2 c p5 h5 x4 = x4 := load_whole p5 h5 x4 hz _
theorem val_u1 : kernelRun0_A.sl.r_3 c p1 h1 x0 = k0_pay6 x0 := congrArg k0_pay6 (load_whole p1 h1 x0 hz _)
theorem val_u2 : kernelRun0_A.sl.r_4 c p1 h1 x0 = k0_pay7 x0 := congrArg k0_pay7 (load_whole p1 h1 x0 hz _)
theorem val_c : kernelRun0_A.sl.r_5 c p1 h1 p3 h3 p4 h4 x0 x2 x3 = k0_pay8 x0 x2 x3 := by
  delta kernelRun0_A.sl.r_5
  rw [load_whole p1 h1 x0 hz, load_whole p3 h3 x2 hz, load_whole p4 h4 x3 hz]
theorem val_s : kernelRun0_A.sl.r_6 c p1 h1 p3 h3 p4 h4 x0 x2 x3 = k0_pay9 x0 x2 x3 := by
  delta kernelRun0_A.sl.r_6
  rw [load_whole p1 h1 x0 hz, load_whole p3 h3 x2 hz, load_whole p4 h4 x3 hz]
theorem val_g : kernelRun0_A.sl.r_7 c p1 h1 p3 h3 p4 h4 p5 h5 x0 x2 x3 x4 = k0_pay10 x0 x2 x4 x3 :=
  congr (congr (congrArg₂ k0_pay10 (load_whole p1 h1 x0 hz _) (load_whole p3 h3 x2 hz _)) (load_whole p5 h5 x4 hz _)) (load_whole p4 h4 x3 hz _)
theorem val_ct : kernelRun0_A.sl.r_8 c p1 h1 p2 h2 p3 h3 p4 h4 p5 h5 x0 x1 x2 x3 x4 = k0_pay12 x4 (k0_pay8 x0 x2 x3) (k0_pay9 x0 x2 x3) x1 := by
  delta kernelRun0_A.sl.r_8
  rw [val_d, val_c, val_s]
  exact congrArg _ (load_whole p2 h2 x1 hz _)

theorem du_at (r : Fin 2048) (e : Fin 256) : out0_A_5 c i p1 h1 p2 h2 p3 h3 p4 h4 p5 h5 p6 h6 p7 h7 x0 x1 x2 x3 x4 (ix3 0 r e)
    = k0_pay13 x2 x4 (k0_pay8 x0 x2 x3) (k0_pay9 x0 x2 x3) x1 (ix3 0 r e) := by
  unfold out0_A_5
  rw [View.read_writes_junk_eq_canon]
  unfold kernelRun0_A
  dsimp only
  refine (plane_hit 0 _ _ _ 0 rfl r e).trans ?_
  rw [val_d, val_c, val_s, val_w]
  exact congrArg (fun v => k0_pay13 x2 x4 (k0_pay8 x0 x2 x3) (k0_pay9 x0 x2 x3) v (ix3 0 r e)) (load_whole p2 h2 x1 hz _)

theorem dg_at (r : Fin 2048) (e : Fin 256) : out0_A_5 c i p1 h1 p2 h2 p3 h3 p4 h4 p5 h5 p6 h6 p7 h7 x0 x1 x2 x3 x4 (ix3 1 r e)
    = k0_pay11 (F := Ideal) (k0_pay10 x0 x2 x4 x3) (ix3 0 r e) := by
  unfold out0_A_5
  rw [View.read_writes_junk_eq_canon]
  unfold kernelRun0_A
  dsimp only
  refine (plane_miss 0 _ _ _ 1 (by decide) r e).trans ((plane_hit 1 _ _ _ 1 rfl r e).trans ?_)
  rw [val_g]

/-- The four rows stored, and the zeros under the others. -/
theorem st_at (k : Fin 8) (e : Fin 256) : out0_A_6 c i p1 h1 p2 h2 p3 h3 p4 h4 p5 h5 p6 h6 p7 h7 x0 x1 x2 x3 x4 (ix2 k e)
    = if k.val = 0 then k0_pay1 (F := Ideal) (k0_pay7 x0) (k0_pay12 x4 (k0_pay8 x0 x2 x3) (k0_pay9 x0 x2 x3) x1) (ix2 0 e)
      else if k.val = 1 then k0_pay1 (F := Ideal) (k0_pay6 x0) (k0_pay12 x4 (k0_pay8 x0 x2 x3) (k0_pay9 x0 x2 x3) x1) (ix2 0 e)
      else if k.val = 2 then k0_pay1 (F := Ideal) (k0_pay5 x0) (k0_pay12 x4 (k0_pay8 x0 x2 x3) (k0_pay9 x0 x2 x3) x1) (ix2 0 e)
      else if k.val = 3 then k0_pay4 (F := Ideal) (k0_pay12 x4 (k0_pay8 x0 x2 x3) (k0_pay9 x0 x2 x3) x1) (ix2 0 e) else 0 := by
  unfold out0_A_6
  rw [View.read_writes_junk_eq_canon]
  unfold kernelRun0_A
  dsimp only
  rw [val_ct, val_u, val_u1, val_u2]
  by_cases a3 : k.val = 3
  · refine (row_hit 3 _ _ _ k a3 e).trans ?_
    rw [if_neg (by omega), if_neg (by omega), if_neg (by omega), if_pos a3]
  refine (row_miss 3 _ _ _ k a3 e).trans ?_
  by_cases a2 : k.val = 2
  · refine (row_hit 2 _ _ _ k a2 e).trans ?_
    rw [if_neg (by omega), if_neg (by omega), if_pos a2]
    rfl
  refine (row_miss 2 _ _ _ k a2 e).trans ?_
  by_cases a1 : k.val = 1
  · refine (row_hit 1 _ _ _ k a1 e).trans ?_
    rw [if_neg (by omega), if_pos a1]
    rfl
  refine (row_miss 1 _ _ _ k a1 e).trans ?_
  by_cases a0 : k.val = 0
  · refine (row_hit 0 _ _ _ k a0 e).trans ?_
    rw [if_pos a0]
  refine (row_miss 0 _ _ _ k a0 e).trans ?_
  rw [if_neg a0, if_neg a1, if_neg a2, if_neg a3]
  refine (congrFun (View.canon_unit_zero (Val := Elt Ideal) (S := S8x256) (e := .f32) hz inb_S8x256_S8x256_0_0 (k0_pay14 (F := Ideal))) (ix2 k e)).trans ?_
  unfold k0_pay14
  pointwise

end Cases

/-! ## Where the blocks lie -/

theorem lt_N (t : Fin cfg0.N) : t.val < 11 := lt_of_lt_of_eq t.isLt N_0

/-- Column `e` of point `t`'s block of columns. -/
def col (t : Fin cfg0.N) (e : Fin 256) : Fin 2816 := ⟨t.val * 256 + e.val, by have := lt_N t; omega⟩

theorem index_0 : ∀ t : Fin cfg0.N, win0_0.index t 0 = 0 ∧ win0_0.index t 1 = t.val := by decide +kernel
theorem index_1 : ∀ t : Fin cfg0.N, win0_1.index t 0 = 0 ∧ win0_1.index t 1 = 11 + t.val := by decide +kernel
theorem index_2 : ∀ t : Fin cfg0.N, win0_2.index t 0 = 0 ∧ win0_2.index t 1 = t.val := by decide +kernel
theorem index_3 : ∀ t : Fin cfg0.N, win0_3.index t 0 = 0 ∧ win0_3.index t 1 = t.val := by decide +kernel
theorem index_4 : ∀ t : Fin cfg0.N, win0_4.index t 0 = 0 ∧ win0_4.index t 1 = t.val := by decide +kernel
theorem index_5 : ∀ t : Fin cfg0.N, win0_5.index t 0 = 0 ∧ win0_5.index t 1 = 0 ∧ win0_5.index t 2 = t.val := by decide +kernel
theorem index_6 : ∀ t : Fin cfg0.N, win0_6.index t 0 = 0 ∧ win0_6.index t 1 = t.val := by decide +kernel

theorem emb_1 (t : Fin cfg0.N) (r : Fin 2048) (e : Fin 256) : (win0_1.rect t).emb (ix2 r e) = ix2 r (hi (col t e)) := by
  refine funext fun a => ?_
  match a with
  | ⟨0, _⟩ => exact Fin.ext ((Window.rect_emb_val win0_1 t (ix2 r e) 0).trans (by rw [(index_1 t).1]; exact Nat.zero_add _))
  | ⟨1, _⟩ => exact Fin.ext ((Window.rect_emb_val win0_1 t (ix2 r e) 1).trans (by
      rw [(index_1 t).2]; show (11 + t.val) * 256 + e.val = 2816 + (t.val * 256 + e.val); omega))

theorem emb_5 (t : Fin cfg0.N) (a : Fin 2) (r : Fin 2048) (e : Fin 256) : (win0_5.rect t).emb (ix3 a r e) = ix3 a r (col t e) := by
  refine funext fun x => ?_
  match x with
  | ⟨0, _⟩ => exact Fin.ext ((Window.rect_emb_val win0_5 t (ix3 a r e) 0).trans (by rw [(index_5 t).1]; exact Nat.zero_add _))
  | ⟨1, _⟩ => exact Fin.ext ((Window.rect_emb_val win0_5 t (ix3 a r e) 1).trans (by rw [(index_5 t).2.1]; exact Nat.zero_add _))
  | ⟨2, _⟩ => exact Fin.ext ((Window.rect_emb_val win0_5 t (ix3 a r e) 2).trans (by rw [(index_5 t).2.2]; rfl))

theorem emb_6 (t : Fin cfg0.N) (r : Fin 8) (e : Fin 256) : (win0_6.rect t).emb (ix2 r e) = ix2 r (col t e) :=
  lies (index_6 t) (Window.rect_emb_val win0_6 t _ 0) (Window.rect_emb_val win0_6 t _ 1) (Nat.zero_add _) rfl

/-! ## The results -/

variable (m : (ℓ : Loc nD τ sig) → Buf (Elt Ideal) ℓ) (c : Dev nD)

/-- The four arguments. -/
def X : S2048x5632.Idx → EReal := m ((c : Thread nD τ).loc main_arg0)
def W : S3x2816.Idx → EReal := m ((c : Thread nD τ).loc main_arg1)
def B : S1x2816.Idx → EReal := m ((c : Thread nD τ).loc main_arg2)
def D : S2048x2816.Idx → EReal := m ((c : Thread nD τ).loc main_arg3)

theorem iblk_0 (t : Fin cfg0.N) (r : Fin 2048) (e : Fin 256) : (iblk m c 0 t : S2048x256.Idx → EReal) (ix2 r e) = X m c (ix2 r (lo (col t e))) :=
  (congrFun (V_main_arg0 m c) _).trans (congrArg (X m c) (lies (index_0 t) (Window.rect_emb_val win0_0 t _ 0) (Window.rect_emb_val win0_0 t _ 1) (Nat.zero_add _) rfl))
theorem iblk_1 (t : Fin cfg0.N) (r : Fin 2048) (e : Fin 256) : (iblk m c 1 t : S2048x256.Idx → EReal) (ix2 r e) = X m c (ix2 r (hi (col t e))) :=
  (congrFun (V_main_arg0 m c) _).trans (congrArg (X m c) (emb_1 t r e))
theorem iblk_2 (t : Fin cfg0.N) (r : Fin 3) (e : Fin 256) : (iblk m c 2 t : S3x256.Idx → EReal) (ix2 r e) = W m c (ix2 r (col t e)) :=
  (congrFun (V_main_arg1 m c) _).trans (congrArg (W m c) (lies (index_2 t) (Window.rect_emb_val win0_2 t _ 0) (Window.rect_emb_val win0_2 t _ 1) (Nat.zero_add _) rfl))
theorem iblk_3 (t : Fin cfg0.N) (r : Fin 1) (e : Fin 256) : (iblk m c 3 t : S1x256.Idx → EReal) (ix2 r e) = B m c (ix2 r (col t e)) :=
  (congrFun (V_main_arg2 m c) _).trans (congrArg (B m c) (lies (index_3 t) (Window.rect_emb_val win0_3 t _ 0) (Window.rect_emb_val win0_3 t _ 1) (Nat.zero_add _) rfl))
theorem iblk_4 (t : Fin cfg0.N) (r : Fin 2048) (e : Fin 256) : (iblk m c 4 t : S2048x256.Idx → EReal) (ix2 r e) = D m c (ix2 r (col t e)) :=
  (congrFun (V_main_arg3 m c) _).trans (congrArg (D m c) (lies (index_4 t) (Window.rect_emb_val win0_4 t _ 0) (Window.rect_emb_val win0_4 t _ 1) (Nat.zero_add _) rfl))

/-- Every argument's entries are real. -/
def Finite : Prop :=
  ((∀ i, X m c i = (((X m c i).toReal : ℝ) : EReal)) ∧ (∀ i, W m c i = (((W m c i).toReal : ℝ) : EReal)))
    ∧ ((∀ i, B m c i = (((B m c i).toReal : ℝ) : EReal)) ∧ (∀ i, D m c i = (((D m c i).toReal : ℝ) : EReal)))

theorem flushed_5 (hf : Finite m c) (t : Fin cfg0.N) :
    (dats m 0 c).flushed 5 t = (win0_5.blk t).view.read (Elt Ideal) (val_main_v74 (F := Ideal) (X m c) (W m c) (B m c) (D m c) : S2x2048x2816.Idx → EReal) := by
  obtain ⟨⟨fX, fW⟩, fB, fD⟩ := hf
  rw [Value.flushed5_A]
  refine funext fun (x : S2x2048x256.Idx) => ?_
  obtain ⟨a, r, e, rfl⟩ : ∃ (a : Fin 2) (r : Fin 2048) (e : Fin 256), x = ix3 a r e := ⟨x 0, x 1, x 2, ValueIdx.eq_ix3 x⟩
  refine Eq.trans ?_ (congrArg (val_main_v74 (F := Ideal) (X m c) (W m c) (B m c) (D m c)) (emb_5 t a r e)).symm
  have hu := fun r => (iblk_0 m c t r e).trans (fX _)
  have hg := fun r => (iblk_1 m c t r e).trans (fX _)
  have hw := fun r => (iblk_2 m c t r e).trans (fW _)
  have hb := (iblk_3 m c t 0 e).trans (fB _)
  have hd := fun r => (iblk_4 m c t r e).trans (fD _)
  match a with
  | ⟨0, _⟩ =>
    refine (du_at c _ _ _ _ _ _ _ _ _ _ _ _ _ _ _ _ _ _ _ _ r e).trans ?_
    refine (k_du _ _ _ e _ _ _ _ (k_ct _ _ _ _ _ e _ _ _ _ _ hu hg hw hb hd) hw r).trans ?_
    exact (r_du _ _ _ _ _ _ _ (r_ct _ _ _ _ _ _ _ _ _ _ (fun _ => fX _) (fun _ => fX _) (fun _ => fW _) (fB _) (fun _ => fD _)) (fun _ => fW _) r).symm
  | ⟨1, _⟩ =>
    refine (dg_at c _ _ _ _ _ _ _ _ _ _ _ _ _ _ _ _ _ _ _ _ r e).trans ?_
    refine (k_dg _ _ _ _ e _ _ _ _ hu hw hb hd r).trans ?_
    exact ((r_gate _ _ _ _ _ r).trans (r_dg _ _ _ _ _ _ _ _ _ (fun _ => fX _) (fun _ => fW _) (fB _) (fun _ => fD _) r)).symm

theorem flushed_6 (hf : Finite m c) (t : Fin cfg0.N) :
    (dats m 0 c).flushed 6 t = (win0_6.blk t).view.read (Elt Ideal) (val_main_v77 (F := Ideal) (X m c) (W m c) (B m c) (D m c) : S8x2816.Idx → EReal) := by
  obtain ⟨⟨fX, fW⟩, fB, fD⟩ := hf
  rw [Value.flushed6_A]
  refine funext fun (x : S8x256.Idx) => ?_
  obtain ⟨k, e, rfl⟩ : ∃ (k : Fin 8) (e : Fin 256), x = ix2 k e := ⟨x 0, x 1, ValueIdx.eq_ix2 x⟩
  refine Eq.trans ?_ (congrArg (val_main_v77 (F := Ideal) (X m c) (W m c) (B m c) (D m c)) (emb_6 t k e)).symm
  have hu := fun r => (iblk_0 m c t r e).trans (fX _)
  have hg := fun r => (iblk_1 m c t r e).trans (fX _)
  have hw := fun r => (iblk_2 m c t r e).trans (fW _)
  have hb := (iblk_3 m c t 0 e).trans (fB _)
  have hd := fun r => (iblk_4 m c t r e).trans (fD _)
  have hz := k_ct _ _ _ _ _ e _ _ _ _ _ hu hg hw hb hd
  refine (st_at c _ _ _ _ _ _ _ _ _ _ _ _ _ _ _ _ _ _ _ _ k e).trans ?_
  rw [k_row e _ _ _ _ (k_back2 _ e _ hu) hz, k_row e _ _ _ _ (k_back1 _ e _ hu) hz, k_row e _ _ _ _ (k_u _ e _ hu) hz, k_sum e _ _ hz]
  refine Eq.trans ?_ (r_dw _ _ _ _ _ _ _ (r_ct _ _ _ _ _ _ _ _ _ _ (fun _ => fX _) (fun _ => fX _) (fun _ => fW _) (fB _) (fun _ => fD _)) (fun _ => fX _) k).symm
  unfold dw
  split_ifs <;> rfl

theorem cover_5 (x : S2x2048x2816.Idx) : ∃ t : Fin cfg0.N, (cfg0.win 5).flush t = true ∧ x ∈ ((cfg0.win 5).blk t).view.set := by
  obtain ⟨a, i, y, rfl⟩ : ∃ (a : Fin 2) (i : Fin 2048) (y : Fin 2816), x = ix3 a i y := ⟨x 0, x 1, x 2, ValueIdx.eq_ix3 x⟩
  have hN : y.val / 256 < cfg0.N := lt_of_lt_of_eq (by omega : _ < 11) N_0.symm
  refine ⟨⟨_, hN⟩, flush0_5 _, Finset.mem_map.mpr ⟨ix3 a i (⟨y.val % 256, by omega⟩ : Fin 256), Finset.mem_univ _, ?_⟩⟩
  refine (emb_5 ⟨_, hN⟩ _ _ _).trans (congrArg (ix3 a i) (Fin.ext ?_))
  show (y.val / 256) * 256 + y.val % 256 = y.val
  omega

theorem cover_6 (x : S8x2816.Idx) : ∃ t : Fin cfg0.N, (cfg0.win 6).flush t = true ∧ x ∈ ((cfg0.win 6).blk t).view.set := by
  obtain ⟨i, y, rfl⟩ : ∃ (i : Fin 8) (y : Fin 2816), x = ix2 i y := ⟨x 0, x 1, ValueIdx.eq_ix2 x⟩
  have hN : y.val / 256 < cfg0.N := lt_of_lt_of_eq (by omega : _ < 11) N_0.symm
  refine ⟨⟨_, hN⟩, flush0_6 _, Finset.mem_map.mpr ⟨ix2 i (⟨y.val % 256, by omega⟩ : Fin 256), Finset.mem_univ _, ?_⟩⟩
  refine (emb_6 ⟨_, hN⟩ _ _).trans (congrArg (ix2 i) (Fin.ext ?_))
  show (y.val / 256) * 256 + y.val % 256 = y.val
  omega

/-- The kernel's two results are the reference's. -/
theorem final_5 (hf : Finite m c) : (dats m 0 c).arrAt 5 cfg0.N = (val_main_v74 (F := Ideal) (X m c) (W m c) (B m c) (D m c) : S2x2048x2816.Idx → EReal) :=
  (dats m 0 c).arrAt_eq_of_cover 5 _ (fun t _ => flushed_5 m c hf t) cover_5
theorem final_6 (hf : Finite m c) : (dats m 0 c).arrAt 6 cfg0.N = (val_main_v77 (F := Ideal) (X m c) (W m c) (B m c) (D m c) : S8x2816.Idx → EReal) :=
  (dats m 0 c).arrAt_eq_of_cover 6 _ (fun t _ => flushed_6 m c hf t) cover_6

/-- The precondition makes the arguments' entries real. -/
theorem finite_of_pre [Cert.Pre_ffn_finite.Facts] (h : Pre_ffn_finite.fn (F := Ideal) (X m c) (W m c) (B m c) (D m c) = fun _ => 1#1) : Finite m c := by
  have hj := congrFun h (fun a => absurd a.isLt (Nat.not_lt_zero _))
  unfold Pre_ffn_finite.fn Pre_ffn_finite.fn_part1 at hj
  obtain ⟨hj, h3⟩ := Reals.split _ _ _ hj
  obtain ⟨hj, h2⟩ := Reals.split _ _ _ hj
  obtain ⟨h0, h1⟩ := Reals.split _ _ _ hj
  exact ⟨⟨congrFun (Reals.up_of_all (X m c) _ (fun _ => rfl) _ _ _ _ (fun _ => Reals.all_eq _ _) h0),
    congrFun (Reals.up_of_all (W m c) _ (fun _ => rfl) _ _ _ _ (fun _ => Reals.all_eq _ _) h1)⟩,
    congrFun (Reals.up_of_all (B m c) _ (fun _ => rfl) _ _ _ _ (fun _ => Reals.all_eq _ _) h2),
    congrFun (Reals.up_of_all (D m c) _ (fun _ => rfl) _ _ _ _ (fun _ => Reals.all_eq _ _) h3)⟩

end Cert.FfnBwdIdeal.Prod

namespace Cert.Products

open Idealize.ShloMosaic Idealize.ShloMosaic.TcCoe Idealize.SL.Sem

theorem frame_FfnBwd : quiescent_FfnBwdReferenceIdeal := fun m g _ =>
  (θ_run FfnBwdReferenceIdeal.defs _ _).mono (fun r h => ⟨fun c => (h c).2.2, sem_eq_zero_of_no_sems (by decide) r.2⟩) (FfnBwdReferenceIdeal.Value.run m g)

theorem algebraic_FfnBwd [Cert.Pre_ffn_finite.Facts] : algebraic_FfnBwdIdeal_FfnBwdReferenceIdeal_pre_ffn_finite := by
  intro m g m' g' hpre h
  have hf := fun c => FfnBwdIdeal.Prod.finite_of_pre m c (hpre c)
  refine ⟨fun c => FfnBwdReferenceIdeal.Read.val_main_v74 (F := Ideal) (FfnBwdIdeal.Prod.X m c) (FfnBwdIdeal.Prod.W m c) (FfnBwdIdeal.Prod.B m c) (FfnBwdIdeal.Prod.D m c),
    fun c => FfnBwdReferenceIdeal.Read.val_main_v77 (F := Ideal) (FfnBwdIdeal.Prod.X m c) (FfnBwdIdeal.Prod.W m c) (FfnBwdIdeal.Prod.B m c) (FfnBwdIdeal.Prod.D m c),
    (θ_run FfnBwdIdeal.defs _ _).mono (fun r h c => ⟨(h c).1.trans (FfnBwdIdeal.Prod.final_5 m c (hf c)), (h c).2.1.trans (FfnBwdIdeal.Prod.final_6 m c (hf c)), (h c).2.2⟩) (FfnBwdIdeal.Value.run_blocks m g),
    (θ_run FfnBwdReferenceIdeal.defs _ _).mono (fun r h' c => ⟨(h' c).1.trans ?_, (h' c).2.1.trans ?_, (h' c).2.2⟩) (FfnBwdReferenceIdeal.Value.run m' g')⟩
  all_goals
    obtain ⟨a0, a1, a2, a3⟩ := h c
  · rw [FfnBwdReferenceIdeal.Read.val_main_v74_eq, a0, a1, a2, a3]
    rfl
  · rw [FfnBwdReferenceIdeal.Read.val_main_v77_eq, a0, a1, a2, a3]
    rfl

end Cert.Products

end
-- ==== Proof.MixCols.lean ====
module

public import proofs.«01_k».proof.Proof.Gen.MixBwdIdeal.Skeleton
public import proofs.«01_k».proof.Proof.Gen.MixBwdReferenceIdeal.Read
public import Idealize.ShloMosaic.Lib.Pointwise
public import Idealize.ShloMosaic.Lib.ValueIdx
public import Idealize.ShloMosaic.Lib.KernelVsHost

/-! # One entry of the mixing gates' gradient

The gate of a branch is the logistic function of its pre-activation, and both programs' gradients are products of the
same factors, so the entries agree over all extended reals. -/

@[expose] public section

noncomputable section

namespace Cert.MixBwdIdeal.Gates

open Idealize.ShloMosaic Idealize.ShloMosaic.TcCoe

/-- The gate of a pre-activation and its bias. -/
def gate (g b : EReal) : EReal := Ideal.div 1 (1 + Ideal.exp (-(g + b)))

/-- The pre-activation's gradient, from the cotangent `d` and the branch's value `y`. -/
def slope (d y g b : EReal) : EReal := d * y * (gate g b * (1 - gate g b))

/-- Column `e` of branch `n` among the branches' columns. -/
def wide (n : Fin 3) (e : Fin 1024) : Fin 3072 := ⟨n.val * 1024 + e.val, by omega⟩

/-! ## The kernel -/

section Kernel
open Cert.MixBwdIdeal.Gen

variable (d : Vec Ideal S512x1024 .f32) (g : Vec Ideal S512x1024 .bf16) (b : Vec Ideal S1x1024 .f32) (y : Vec Ideal S512x1024 .bf16) (a : Vec Ideal S1x1024 .f32)

theorem k_gate (i : Fin 512) (e : Fin 1024) : k0_pay7 (F := Ideal) g b (ix2 i e) = gate (g (ix2 i e)) (b (ix2 0 e)) := by
  unfold k0_pay7
  pointwise
  unfold gate
  rw [zero_sub]

theorem k_dy (i : Fin 512) (e : Fin 1024) : k0_pay8 (F := Ideal) d g b (ix2 i e) = d (ix2 i e) * gate (g (ix2 i e)) (b (ix2 0 e)) := by
  rw [← k_gate]
  unfold k0_pay8
  generalize k0_pay7 (F := Ideal) g b = z at *
  pointwise

theorem k_slope (i : Fin 512) (e : Fin 1024) :
    k0_pay9 (F := Ideal) d g b y (ix2 i e) = slope (d (ix2 i e)) (y (ix2 i e)) (g (ix2 i e)) (b (ix2 0 e)) := by
  unfold slope
  rw [← k_gate]
  unfold k0_pay9
  generalize k0_pay7 (F := Ideal) g b = z at *
  pointwise

theorem k_dg (i : Fin 512) (e : Fin 1024) :
    k0_pay10 (F := Ideal) d g b y (ix2 i e) = slope (d (ix2 i e)) (y (ix2 i e)) (g (ix2 i e)) (b (ix2 0 e)) := by
  rw [← k_slope]
  rfl

theorem k_sum (e : Fin 1024) : k0_pay11 (F := Ideal) d g b y a (ix2 0 e)
    = a (ix2 0 e) + ∑ i : Fin 512, slope (d (ix2 i e)) (y (ix2 i e)) (g (ix2 i e)) (b (ix2 0 e)) := by
  simp only [← k_slope]
  unfold k0_pay11
  generalize k0_pay9 (F := Ideal) d g b y = z at *
  pointwise

end Kernel

/-! ## The reference -/

section Reference
open Cert.MixBwdReferenceIdeal.Read

variable (x0 : MixBwdReferenceIdeal.S2048x3072.Idx → EReal) (x1 : MixBwdReferenceIdeal.S1x3072.Idx → EReal)
  (x2 x3 x4 x5 : MixBwdReferenceIdeal.S2048x1024.Idx → EReal)

theorem r_gate (i : Fin 2048) (c : Fin 3072) : val_main_v17 (F := Ideal) x0 x1 (ix2 i c) = gate (x0 (ix2 i c)) (x1 (ix2 0 c)) := by
  unfold val_main_v17 val_main_v16 val_main_v15 val_main_v14 val_main_v13 val_main_v12 val_main_v11 val_main_v10 val_main_v9 val_main_v8 val_main_v7 val_main_cst val_main_cst_0
  pointwise
  rfl

theorem r_dy (i : Fin 2048) (n : Fin 3) (e : Fin 1024) : val_main_v32 (F := Ideal) x0 x1 x5 (ix3 i n e)
    = x5 (ix2 i e) * gate (x0 (ix2 i (wide n e))) (x1 (ix2 0 (wide n e))) := by
  rw [← r_gate]
  unfold val_main_v32 val_main_v25 val_main_v24 val_main_v21
  generalize val_main_v17 (F := Ideal) x0 x1 = z at *
  pointwise
  rw [mul_comm]
  rfl

/-- The three branches' values. -/
def branch (n : Fin 3) : MixBwdReferenceIdeal.S2048x1024.Idx → EReal := if n.val = 0 then x2 else if n.val = 1 then x3 else x4

theorem r_y (i : Fin 2048) (n : Fin 3) (e : Fin 1024) : val_main_v6 (F := Ideal) x2 x3 x4 (ix3 i n e) = branch x2 x3 x4 n (ix2 i e) := by
  unfold val_main_v6 val_main_v5 val_main_v4 val_main_v3 val_main_v2 val_main_v1 val_main_v0 branch
  fin_cases n <;> pointwise <;> rfl

theorem r_slope (i : Fin 2048) (n : Fin 3) (e : Fin 1024) : val_main_v28 (F := Ideal) x0 x1 x2 x3 x4 x5 (ix2 i (wide n e))
    = slope (x5 (ix2 i e)) (branch x2 x3 x4 n (ix2 i e)) (x0 (ix2 i (wide n e))) (x1 (ix2 0 (wide n e))) := by
  have h := r_y x2 x3 x4 i n e
  have h' := r_gate x0 x1 i (wide n e)
  unfold slope
  rw [← h', ← h]
  unfold val_main_v28 val_main_v27 val_main_v26 val_main_v24 val_main_v20 val_main_v19 val_main_v18 val_main_cst_1
  generalize val_main_v17 (F := Ideal) x0 x1 = z at *
  generalize val_main_v6 (F := Ideal) x2 x3 x4 = z' at *
  pointwise
  have e1 : ∀ h, (⟨(wide n e).val % 1024, h⟩ : Fin 1024) = e := fun h => Fin.ext (by show (n.val * 1024 + e.val) % 1024 = e.val; omega)
  have e0 : ∀ h, (⟨(wide n e).val / 1024, h⟩ : Fin 3) = n := fun h => Fin.ext (by show (n.val * 1024 + e.val) / 1024 = n.val; omega)
  rw [e1, e0]

theorem r_db (k : Fin 8) (n : Fin 3) (e : Fin 1024) : val_main_v42 (F := Ideal) x0 x1 x2 x3 x4 x5 (ix2 k (wide n e))
    = if k.val = 0 then ∑ i : Fin 2048, slope (x5 (ix2 i e)) (branch x2 x3 x4 n (ix2 i e)) (x0 (ix2 i (wide n e))) (x1 (ix2 0 (wide n e))) else 0 := by
  simp only [← r_slope]
  unfold val_main_v42 val_main_v41 val_main_v40 val_main_v31 val_main_v30 val_main_v29 val_main_cst_3 val_main_cst_4 val_main_cst_5
  generalize val_main_v28 (F := Ideal) x0 x1 x2 x3 x4 x5 = z at *
  pointwise
  by_cases h : k.val = 0
  · refine (dif_pos (by omega)).trans ((Fintype.sum_unique _).trans (if_pos h).symm)
  · exact (dif_neg (by omega)).trans (if_neg h).symm

end Reference

end Cert.MixBwdIdeal.Gates

end
-- ==== Proof.MixBwd.lean ====
module

public import proofs.«01_k».proof.Defs
public import proofs.«01_k».proof.Proof.Gen.MixBwd.Frame
public import proofs.«01_k».proof.Proof.Gen.MixBwdIdeal.Frame
public import proofs.«01_k».proof.Proof.Gen.MixBwdIdeal.Value
public import proofs.«01_k».proof.Proof.Gen.MixBwdReferenceIdeal.Run
public import proofs.«01_k».proof.Proof.Gen.MixBwdReferenceIdeal.Read
public import proofs.«01_k».proof.Proof.MixCols
public import proofs.«01_k».proof.Proof.Steps
public import proofs.«01_k».proof.Proof.Lies
public import Idealize.ShloMosaic.Lib.WritesUnit

/-! # The gradient of the mixing gates

Each grid point takes 512 rows, all of their columns; the bias's gradient is added up over the four points. -/

@[expose] public section

noncomputable section

namespace Cert.MixBwdIdeal.Prod

open Idealize.ShloMosaic Idealize.ShloMosaic.TcCoe
open Idealize.SL.Sem
open Idealize.ShloMosaic.Pipeline (Dat Cfg Window)
open Cert.Steps
open Cert.MixBwdIdeal.Gates
open Cert.MixBwdIdeal.Gen
open Cert.MixBwdReferenceIdeal.Read

/-! ## Loads and stores of one branch's columns -/

section Columns
variable {κ : Kind} {sp : Space} {ty : EltTy} {R : ℕ}

/-- A load of branch `j`'s columns reads those columns. -/
theorem load_at (v : View sig κ sp ⟨2, ![R, 3072]⟩ ty) (f : v.ty.Contents (Elt Ideal)) (j : Fin 3) (k : ℕ) (hk : k = j.val * 1024)
    (inb : ∀ a, (![0, k] : Fin 2 → ℕ) a + (![R, 1024] : Fin 2 → ℕ) a ≤ (![R, 3072] : Fin 2 → ℕ) a) (r : Fin R) (e : Fin 1024) :
    View.readAt (Elt Ideal) v (Rect.unit (s := ⟨2, ![R, 3072]⟩) ![0, k] ![R, 1024] inb).toLoadRect f (ix2 r e) = v.read (Elt Ideal) f (ix2 r (wide j e)) := by
  refine congrArg (v.read (Elt Ideal) f) (funext fun a => ?_)
  match a with
  | ⟨0, _⟩ => exact Fin.ext (by show 0 + 1 * r.val = r.val; omega)
  | ⟨1, _⟩ => exact Fin.ext (by show k + 1 * e.val = j.val * 1024 + e.val; omega)

/-- The same of the first row alone. -/
theorem row_at (v : View sig κ sp S8x3072 ty) (f : v.ty.Contents (Elt Ideal)) (j : Fin 3) (k : ℕ) (hk : k = j.val * 1024)
    (inb : ∀ a, (![0, k] : Fin 2 → ℕ) a + (![1, 1024] : Fin 2 → ℕ) a ≤ S8x3072.size a) (e : Fin 1024) :
    View.readAt (Elt Ideal) v (Rect.unit (s := S8x3072) ![0, k] ![1, 1024] inb).toLoadRect f (ix2 (0 : Fin 1) e) = v.read (Elt Ideal) f (ix2 0 (wide j e)) := by
  refine congrArg (v.read (Elt Ideal) f) (funext fun a => ?_)
  match a with
  | ⟨0, _⟩ => exact Fin.ext (by show 0 + 1 * 0 = 0; omega)
  | ⟨1, _⟩ => exact Fin.ext (by show k + 1 * e.val = j.val * 1024 + e.val; omega)

/-- The last store, of branch `j`'s columns of `T` rows, at one of those columns and at another branch's. -/
theorem hit {T : ℕ} (v : View sig κ sp ⟨2, ![R, 3072]⟩ ty) (f : v.ty.Contents (Elt Ideal)) (j : Fin 3) (k : ℕ) (hk : k = j.val * 1024)
    (inb : ∀ a, (![0, k] : Fin 2 → ℕ) a + (![T, 1024] : Fin 2 → ℕ) a ≤ (![R, 3072] : Fin 2 → ℕ) a)
    (w : (Rect.unit (s := ⟨2, ![R, 3072]⟩) ![0, k] ![T, 1024] inb).shape.Idx → Elt Ideal ty) (L : List (View.Piece (Elt Ideal) ⟨2, ![R, 3072]⟩ ty))
    (r : Fin R) (r' : Fin T) (hr : r.val = r'.val) (e : Fin 1024) :
    v.read (Elt Ideal) (v.writes (Elt Ideal) f ((⟨Rect.unit (s := ⟨2, ![R, 3072]⟩) ![0, k] ![T, 1024] inb, w⟩ : View.Piece (Elt Ideal) ⟨2, ![R, 3072]⟩ ty) :: L)) (ix2 r (wide j e))
      = w (ix2 r' e) := by
  refine View.read_writes_cons_unit_of_mem v f inb w L _ (ix2 r' e) rfl fun a => ?_
  match a with
  | ⟨0, _⟩ => show r.val = 0 + r'.val; omega
  | ⟨1, _⟩ => show j.val * 1024 + e.val = k + e.val; omega

theorem miss {T : ℕ} (v : View sig κ sp ⟨2, ![R, 3072]⟩ ty) (f : v.ty.Contents (Elt Ideal)) (j : Fin 3) (k : ℕ) (hk : k = j.val * 1024)
    (inb : ∀ a, (![0, k] : Fin 2 → ℕ) a + (![T, 1024] : Fin 2 → ℕ) a ≤ (![R, 3072] : Fin 2 → ℕ) a)
    (w : (Rect.unit (s := ⟨2, ![R, 3072]⟩) ![0, k] ![T, 1024] inb).shape.Idx → Elt Ideal ty) (L : List (View.Piece (Elt Ideal) ⟨2, ![R, 3072]⟩ ty))
    (r : Fin R) (n : Fin 3) (hn : n.val ≠ j.val ∨ T ≤ r.val) (e : Fin 1024) :
    v.read (Elt Ideal) (v.writes (Elt Ideal) f ((⟨Rect.unit (s := ⟨2, ![R, 3072]⟩) ![0, k] ![T, 1024] inb, w⟩ : View.Piece (Elt Ideal) ⟨2, ![R, 3072]⟩ ty) :: L)) (ix2 r (wide n e))
      = v.read (Elt Ideal) (v.writes (Elt Ideal) f L) (ix2 r (wide n e)) := by
  rcases hn with hn | hn
  · refine View.read_writes_cons_unit_of_not_mem v f inb w L _ rfl 1 ?_
    show n.val * 1024 + e.val < k ∨ k + 1024 ≤ n.val * 1024 + e.val
    omega
  · refine View.read_writes_cons_unit_of_not_mem v f inb w L _ rfl 0 ?_
    show r.val < 0 ∨ 0 + T ≤ r.val
    omega

/-- Three branches' columns stored one after the other. -/
theorem three {T : ℕ} (v : View sig κ sp ⟨2, ![R, 3072]⟩ ty) (f : v.ty.Contents (Elt Ideal))
    (inb0 : ∀ a, (![0, 0] : Fin 2 → ℕ) a + (![T, 1024] : Fin 2 → ℕ) a ≤ (![R, 3072] : Fin 2 → ℕ) a)
    (inb1 : ∀ a, (![0, 1024] : Fin 2 → ℕ) a + (![T, 1024] : Fin 2 → ℕ) a ≤ (![R, 3072] : Fin 2 → ℕ) a)
    (inb2 : ∀ a, (![0, 2048] : Fin 2 → ℕ) a + (![T, 1024] : Fin 2 → ℕ) a ≤ (![R, 3072] : Fin 2 → ℕ) a)
    (w0 : (Rect.unit (s := ⟨2, ![R, 3072]⟩) ![0, 0] ![T, 1024] inb0).shape.Idx → Elt Ideal ty)
    (w1 : (Rect.unit (s := ⟨2, ![R, 3072]⟩) ![0, 1024] ![T, 1024] inb1).shape.Idx → Elt Ideal ty)
    (w2 : (Rect.unit (s := ⟨2, ![R, 3072]⟩) ![0, 2048] ![T, 1024] inb2).shape.Idx → Elt Ideal ty)
    (L : List (View.Piece (Elt Ideal) ⟨2, ![R, 3072]⟩ ty)) (r : Fin R) (r' : Fin T) (hr : r.val = r'.val) (e : Fin 1024) (n : Fin 3) (G : Fin 3 → Elt Ideal ty)
    (h0 : w0 (ix2 r' e) = G 0) (h1 : w1 (ix2 r' e) = G 1) (h2 : w2 (ix2 r' e) = G 2) :
    v.read (Elt Ideal) (v.writes (Elt Ideal) f ((⟨Rect.unit (s := ⟨2, ![R, 3072]⟩) ![0, 2048] ![T, 1024] inb2, w2⟩ : View.Piece (Elt Ideal) ⟨2, ![R, 3072]⟩ ty)
      :: (⟨Rect.unit (s := ⟨2, ![R, 3072]⟩) ![0, 1024] ![T, 1024] inb1, w1⟩ : View.Piece (Elt Ideal) ⟨2, ![R, 3072]⟩ ty)
      :: (⟨Rect.unit (s := ⟨2, ![R, 3072]⟩) ![0, 0] ![T, 1024] inb0, w0⟩ : View.Piece (Elt Ideal) ⟨2, ![R, 3072]⟩ ty) :: L)) (ix2 r (wide n e)) = G n :=
  match n with
  | ⟨0, _⟩ => (miss v f 2 2048 rfl inb2 w2 _ r 0 (.inl (by decide)) e).trans ((miss v f 1 1024 rfl inb1 w1 _ r 0 (.inl (by decide)) e).trans
      ((hit v f 0 0 rfl inb0 w0 L r r' hr e).trans h0))
  | ⟨1, _⟩ => (miss v f 2 2048 rfl inb2 w2 _ r 1 (.inl (by decide)) e).trans ((hit v f 1 1024 rfl inb1 w1 _ r r' hr e).trans h1)
  | ⟨2, _⟩ => (hit v f 2 2048 rfl inb2 w2 _ r r' hr e).trans h2

/-- A row the three stores do not reach. -/
theorem three_miss {T : ℕ} (v : View sig κ sp ⟨2, ![R, 3072]⟩ ty) (f : v.ty.Contents (Elt Ideal))
    (inb0 : ∀ a, (![0, 0] : Fin 2 → ℕ) a + (![T, 1024] : Fin 2 → ℕ) a ≤ (![R, 3072] : Fin 2 → ℕ) a)
    (inb1 : ∀ a, (![0, 1024] : Fin 2 → ℕ) a + (![T, 1024] : Fin 2 → ℕ) a ≤ (![R, 3072] : Fin 2 → ℕ) a)
    (inb2 : ∀ a, (![0, 2048] : Fin 2 → ℕ) a + (![T, 1024] : Fin 2 → ℕ) a ≤ (![R, 3072] : Fin 2 → ℕ) a)
    (w0 : (Rect.unit (s := ⟨2, ![R, 3072]⟩) ![0, 0] ![T, 1024] inb0).shape.Idx → Elt Ideal ty)
    (w1 : (Rect.unit (s := ⟨2, ![R, 3072]⟩) ![0, 1024] ![T, 1024] inb1).shape.Idx → Elt Ideal ty)
    (w2 : (Rect.unit (s := ⟨2, ![R, 3072]⟩) ![0, 2048] ![T, 1024] inb2).shape.Idx → Elt Ideal ty)
    (L : List (View.Piece (Elt Ideal) ⟨2, ![R, 3072]⟩ ty)) (r : Fin R) (hr : T ≤ r.val) (e : Fin 1024) (n : Fin 3) :
    v.read (Elt Ideal) (v.writes (Elt Ideal) f ((⟨Rect.unit (s := ⟨2, ![R, 3072]⟩) ![0, 2048] ![T, 1024] inb2, w2⟩ : View.Piece (Elt Ideal) ⟨2, ![R, 3072]⟩ ty)
      :: (⟨Rect.unit (s := ⟨2, ![R, 3072]⟩) ![0, 1024] ![T, 1024] inb1, w1⟩ : View.Piece (Elt Ideal) ⟨2, ![R, 3072]⟩ ty)
      :: (⟨Rect.unit (s := ⟨2, ![R, 3072]⟩) ![0, 0] ![T, 1024] inb0, w0⟩ : View.Piece (Elt Ideal) ⟨2, ![R, 3072]⟩ ty) :: L)) (ix2 r (wide n e))
      = v.read (Elt Ideal) (v.writes (Elt Ideal) f L) (ix2 r (wide n e)) :=
  (miss v f 2 2048 rfl inb2 w2 _ r n (.inr hr) e).trans ((miss v f 1 1024 rfl inb1 w1 _ r n (.inr hr) e).trans (miss v f 0 0 rfl inb0 w0 L r n (.inr hr) e))

end Columns

/-- Zeros stored over the whole buffer. -/
theorem zeros {κ : Kind} {sp : Space} (v : View sig κ sp S8x3072 .f32) (f : v.ty.Contents (Elt Ideal)) (inb : ∀ a, (![0, 0] : Fin 2 → ℕ) a + S8x3072.size a ≤ S8x3072.size a)
    (y : S8x3072.Idx) : v.read (Elt Ideal) (v.writes (Elt Ideal) f [(⟨Rect.unit ![0, 0] S8x3072.size inb, k0_pay6 (F := Ideal)⟩ : View.Piece (Elt Ideal) S8x3072 .f32)]) y = 0 := by
  refine (View.read_writes_cons_unit_of_mem v f inb (k0_pay6 (F := Ideal)) [] y y hz fun a => (Nat.zero_add _).symm).trans ?_
  unfold k0_pay6
  pointwise

/-! ## What one point leaves -/

section Cases
variable (c : Dev nD) (i : grid0.Coords) (p1 : Memref sig .tc .vmem S512x3072 .bf16) (h1 : p1.IsWhole) (p2 : Memref sig .tc .vmem S1x3072 .f32) (h2 : p2.IsWhole)
  (p3 : Memref sig .tc .vmem S512x1024 .bf16) (h3 : p3.IsWhole) (p4 : Memref sig .tc .vmem S512x1024 .bf16) (h4 : p4.IsWhole) (p5 : Memref sig .tc .vmem S512x1024 .bf16) (h5 : p5.IsWhole)
  (p6 : Memref sig .tc .vmem S512x1024 .f32) (h6 : p6.IsWhole) (p7 : Memref sig .tc .vmem S512x1024 .bf16) (h7 : p7.IsWhole) (p8 : Memref sig .tc .vmem S512x1024 .bf16) (h8 : p8.IsWhole)
  (p9 : Memref sig .tc .vmem S512x1024 .bf16) (h9 : p9.IsWhole) (p10 : Memref sig .tc .vmem S512x3072 .bf16) (h10 : p10.IsWhole) (p11 : Memref sig .tc .vmem S8x3072 .f32) (h11 : p11.IsWhole)
  (g : Vec Ideal S512x3072 .bf16) (b : Vec Ideal S1x3072 .f32) (y0 y1 y2 : Vec Ideal S512x1024 .bf16) (d : Vec Ideal S512x1024 .f32) (o : Vec Ideal S8x3072 .f32)

/-- The loads of the pre-activations' and the biases' columns of branch `j`. -/
theorem at_g (j : Fin 3) (k : ℕ) (hk : k = j.val * 1024) (inb) (r : Fin 512) (e : Fin 1024) :
    View.readAt (Elt Ideal) p1.view (Rect.unit (s := S512x3072) ![0, k] ![512, 1024] inb).toLoadRect (h1.unread g) (ix2 r e) = g (ix2 r (wide j e)) :=
  (load_at p1.view _ j k hk inb r e).trans (congrFun (h1.read_unread g) _)
theorem at_b (j : Fin 3) (k : ℕ) (hk : k = j.val * 1024) (inb) (e : Fin 1024) :
    View.readAt (Elt Ideal) p2.view (Rect.unit (s := S1x3072) ![0, k] ![1, 1024] inb).toLoadRect (h2.unread b) (ix2 0 e) = b (ix2 0 (wide j e)) :=
  (load_at p2.view _ j k hk inb 0 e).trans (congrFun (h2.read_unread b) _)

/-- The three branches' rows of one point. -/
def rows (n : Fin 3) : S512x1024.Idx → EReal := if n.val = 0 then y0 else if n.val = 1 then y1 else y2

/-- One entry of the pre-activations' gradient. -/
def slope_at (n : Fin 3) (r : Fin 512) (e : Fin 1024) : EReal := slope (d (ix2 r e)) (rows y0 y1 y2 n (ix2 r e)) (g (ix2 r (wide n e))) (b (ix2 0 (wide n e)))

/-- One entry of a branch's gradient. -/
def gate_at (n : Fin 3) (r : Fin 512) (e : Fin 1024) : EReal := d (ix2 r e) * gate (g (ix2 r (wide n e))) (b (ix2 0 (wide n e)))

/-- What branch `j`'s columns hold of each result, of the columns loaded. -/
theorem dy_of (j : Fin 3) (k : ℕ) (hk : k = j.val * 1024) (inb inb' inb0) (r : Fin 512) (e : Fin 1024) :
    k0_pay8 (F := Ideal) (View.readAt (Elt Ideal) p6.view (Rect.unit (s := S512x1024) ![0, 0] S512x1024.size inb0).toLoadRect (h6.unread d))
      (View.readAt (Elt Ideal) p1.view (Rect.unit (s := S512x3072) ![0, k] ![512, 1024] inb).toLoadRect (h1.unread g))
      (View.readAt (Elt Ideal) p2.view (Rect.unit (s := S1x3072) ![0, k] ![1, 1024] inb').toLoadRect (h2.unread b)) (ix2 r e)
      = gate_at g b d j r e := by
  refine (k_dy _ _ _ r e).trans ?_
  rw [load_whole p6 h6 d hz]
  exact congrArg₂ (fun x y => d (ix2 r e) * gate x y) (at_g p1 h1 g j k hk inb r e) (at_b p2 h2 b j k hk inb' e)

theorem dg_of (j : Fin 3) (k : ℕ) (hk : k = j.val * 1024) (inb inb' inb0) (y : Vec Ideal S512x1024 .bf16) (hy : rows y0 y1 y2 j = y) (r : Fin 512) (e : Fin 1024) :
    k0_pay10 (F := Ideal) (View.readAt (Elt Ideal) p6.view (Rect.unit (s := S512x1024) ![0, 0] S512x1024.size inb0).toLoadRect (h6.unread d))
      (View.readAt (Elt Ideal) p1.view (Rect.unit (s := S512x3072) ![0, k] ![512, 1024] inb).toLoadRect (h1.unread g))
      (View.readAt (Elt Ideal) p2.view (Rect.unit (s := S1x3072) ![0, k] ![1, 1024] inb').toLoadRect (h2.unread b)) y (ix2 r e)
      = slope_at g b y0 y1 y2 d j r e := by
  subst hy
  refine (k_dg _ _ _ _ r e).trans ?_
  rw [load_whole p6 h6 d hz]
  exact congrArg₂ (fun x z => slope (d (ix2 r e)) (rows y0 y1 y2 j (ix2 r e)) x z) (at_g p1 h1 g j k hk inb r e) (at_b p2 h2 b j k hk inb' e)

theorem db_of (j : Fin 3) (k : ℕ) (hk : k = j.val * 1024) (inb inb' inb0) (y : Vec Ideal S512x1024 .bf16) (hy : rows y0 y1 y2 j = y) (a : Vec Ideal S1x1024 .f32) (e : Fin 1024) :
    k0_pay11 (F := Ideal) (View.readAt (Elt Ideal) p6.view (Rect.unit (s := S512x1024) ![0, 0] S512x1024.size inb0).toLoadRect (h6.unread d))
      (View.readAt (Elt Ideal) p1.view (Rect.unit (s := S512x3072) ![0, k] ![512, 1024] inb).toLoadRect (h1.unread g))
      (View.readAt (Elt Ideal) p2.view (Rect.unit (s := S1x3072) ![0, k] ![1, 1024] inb').toLoadRect (h2.unread b)) y a (ix2 0 e)
      = a (ix2 0 e) + ∑ r : Fin 512, slope_at g b y0 y1 y2 d j r e := by
  subst hy
  refine (k_sum _ _ _ _ _ e).trans (congrArg (a (ix2 0 e) + ·) (Finset.sum_congr rfl fun r _ => ?_))
  rw [load_whole p6 h6 d hz]
  exact congrArg₂ (fun x z => slope (d (ix2 r e)) (rows y0 y1 y2 j (ix2 r e)) x z) (at_g p1 h1 g j k hk inb r e) (at_b p2 h2 b j k hk inb' e)

/-- The third branch's text is the first's, cut in two. -/
theorem third_dy (D : Vec Ideal S512x1024 .f32) (G : Vec Ideal S512x1024 .bf16) (B : Vec Ideal S1x1024 .f32) : k0_pay2 (F := Ideal) D (k0_pay17 G) B = k0_pay8 D G B := rfl
theorem third_dg (D : Vec Ideal S512x1024 .f32) (G : Vec Ideal S512x1024 .bf16) (B : Vec Ideal S1x1024 .f32) (Y : Vec Ideal S512x1024 .bf16) :
    k0_pay4 (F := Ideal) D (k0_pay17 G) B Y = k0_pay10 D G B Y := rfl
theorem third_db (D : Vec Ideal S512x1024 .f32) (G : Vec Ideal S512x1024 .bf16) (B : Vec Ideal S1x1024 .f32) (Y : Vec Ideal S512x1024 .bf16) (A : Vec Ideal S1x1024 .f32) :
    k0_pay5 (F := Ideal) D (k0_pay17 G) B Y A = k0_pay11 D G B Y A := rfl

theorem dy_A0 (c0 : cond0_0 i) (r : Fin 512) (e : Fin 1024) : out0_A_6 c i p1 h1 p2 h2 p3 h3 p4 h4 p5 h5 p6 h6 p7 h7 p8 h8 p9 h9 p10 h10 p11 h11 c0 g b y0 y1 y2 d (ix2 r e)
    = gate_at g b d 0 r e := by
  unfold out0_A_6
  rw [View.read_writes_junk_eq_canon]
  unfold kernelRun0_A
  dsimp only
  rw [View.canon_unit_zero hz]
  exact dy_of p1 h1 p2 h2 p6 h6 g b d 0 0 rfl _ _ _ r e

theorem dy_A1 (c0 : cond0_0 i) (r : Fin 512) (e : Fin 1024) : out0_A_7 c i p1 h1 p2 h2 p3 h3 p4 h4 p5 h5 p6 h6 p7 h7 p8 h8 p9 h9 p10 h10 p11 h11 c0 g b y0 y1 y2 d (ix2 r e)
    = gate_at g b d 1 r e := by
  unfold out0_A_7
  rw [View.read_writes_junk_eq_canon]
  unfold kernelRun0_A
  dsimp only
  rw [View.canon_unit_zero hz]
  delta kernelRun0_A.sl.r
  exact dy_of p1 h1 p2 h2 p6 h6 g b d 1 1024 rfl _ _ _ r e

theorem dy_A2 (c0 : cond0_0 i) (r : Fin 512) (e : Fin 1024) : out0_A_8 c i p1 h1 p2 h2 p3 h3 p4 h4 p5 h5 p6 h6 p7 h7 p8 h8 p9 h9 p10 h10 p11 h11 c0 g b y0 y1 y2 d (ix2 r e)
    = gate_at g b d 2 r e := by
  unfold out0_A_8
  rw [View.read_writes_junk_eq_canon]
  unfold kernelRun0_A
  dsimp only
  rw [View.canon_unit_zero hz]
  delta kernelRun0_A.sl.r kernelRun0_A.sl.r_2
  rw [third_dy]
  exact dy_of p1 h1 p2 h2 p6 h6 g b d 2 2048 rfl _ _ _ r e

theorem dg_A (c0 : cond0_0 i) (n : Fin 3) (r : Fin 512) (e : Fin 1024) : out0_A_9 c i p1 h1 p2 h2 p3 h3 p4 h4 p5 h5 p6 h6 p7 h7 p8 h8 p9 h9 p10 h10 p11 h11 c0 g b y0 y1 y2 d (ix2 r (wide n e)) = slope_at g b y0 y1 y2 d n r e := by
  unfold out0_A_9
  unfold kernelRun0_A
  dsimp only
  delta kernelRun0_A.sl.r kernelRun0_A.sl.r_2
  rw [third_dg, load_whole p3 h3 y0 hz, load_whole p4 h4 y1 hz, load_whole p5 h5 y2 hz]
  refine three (R := 512) (T := 512) (ty := .bf16) _ _ _ _ _ _ _ _ _ r r rfl e n (fun n => slope_at g b y0 y1 y2 d n r e) ?_ ?_ ?_
  · exact dg_of p1 h1 p2 h2 p6 h6 g b y0 y1 y2 d 0 0 rfl _ _ _ y0 rfl r e
  · exact dg_of p1 h1 p2 h2 p6 h6 g b y0 y1 y2 d 1 1024 rfl _ _ _ y1 rfl r e
  · exact dg_of p1 h1 p2 h2 p6 h6 g b y0 y1 y2 d 2 2048 rfl _ _ _ y2 rfl r e

theorem dy_B0 (c0 : ¬cond0_0 i) (r : Fin 512) (e : Fin 1024) : out0_B_6 c i p1 h1 p2 h2 p3 h3 p4 h4 p5 h5 p6 h6 p7 h7 p8 h8 p9 h9 p10 h10 p11 h11 c0 g b y0 y1 y2 d o (ix2 r e)
    = gate_at g b d 0 r e := by
  unfold out0_B_6
  rw [View.read_writes_junk_eq_canon]
  unfold kernelRun0_B
  dsimp only
  rw [View.canon_unit_zero hz]
  exact dy_of p1 h1 p2 h2 p6 h6 g b d 0 0 rfl _ _ _ r e

theorem dy_B1 (c0 : ¬cond0_0 i) (r : Fin 512) (e : Fin 1024) : out0_B_7 c i p1 h1 p2 h2 p3 h3 p4 h4 p5 h5 p6 h6 p7 h7 p8 h8 p9 h9 p10 h10 p11 h11 c0 g b y0 y1 y2 d o (ix2 r e)
    = gate_at g b d 1 r e := by
  unfold out0_B_7
  rw [View.read_writes_junk_eq_canon]
  unfold kernelRun0_B
  dsimp only
  rw [View.canon_unit_zero hz]
  delta kernelRun0_B.sl.r
  exact dy_of p1 h1 p2 h2 p6 h6 g b d 1 1024 rfl _ _ _ r e

theorem dy_B2 (c0 : ¬cond0_0 i) (r : Fin 512) (e : Fin 1024) : out0_B_8 c i p1 h1 p2 h2 p3 h3 p4 h4 p5 h5 p6 h6 p7 h7 p8 h8 p9 h9 p10 h10 p11 h11 c0 g b y0 y1 y2 d o (ix2 r e)
    = gate_at g b d 2 r e := by
  unfold out0_B_8
  rw [View.read_writes_junk_eq_canon]
  unfold kernelRun0_B
  dsimp only
  rw [View.canon_unit_zero hz]
  delta kernelRun0_B.sl.r kernelRun0_B.sl.r_2
  rw [third_dy]
  exact dy_of p1 h1 p2 h2 p6 h6 g b d 2 2048 rfl _ _ _ r e

theorem dg_B (c0 : ¬cond0_0 i) (n : Fin 3) (r : Fin 512) (e : Fin 1024) : out0_B_9 c i p1 h1 p2 h2 p3 h3 p4 h4 p5 h5 p6 h6 p7 h7 p8 h8 p9 h9 p10 h10 p11 h11 c0 g b y0 y1 y2 d o (ix2 r (wide n e)) = slope_at g b y0 y1 y2 d n r e := by
  unfold out0_B_9
  unfold kernelRun0_B
  dsimp only
  delta kernelRun0_B.sl.r kernelRun0_B.sl.r_2
  rw [third_dg, load_whole p3 h3 y0 hz, load_whole p4 h4 y1 hz, load_whole p5 h5 y2 hz]
  refine three (R := 512) (T := 512) (ty := .bf16) _ _ _ _ _ _ _ _ _ r r rfl e n (fun n => slope_at g b y0 y1 y2 d n r e) ?_ ?_ ?_
  · exact dg_of p1 h1 p2 h2 p6 h6 g b y0 y1 y2 d 0 0 rfl _ _ _ y0 rfl r e
  · exact dg_of p1 h1 p2 h2 p6 h6 g b y0 y1 y2 d 1 1024 rfl _ _ _ y1 rfl r e
  · exact dg_of p1 h1 p2 h2 p6 h6 g b y0 y1 y2 d 2 2048 rfl _ _ _ y2 rfl r e

/-- The bias's gradient: the first point's starts from zero, a later one's is added to what the buffer holds; the other rows stay. -/
theorem db_B (c0 : ¬cond0_0 i) (k : Fin 8) (n : Fin 3) (e : Fin 1024) : out0_B_10 c i p1 h1 p2 h2 p3 h3 p4 h4 p5 h5 p6 h6 p7 h7 p8 h8 p9 h9 p10 h10 p11 h11 c0 g b y0 y1 y2 d o (ix2 k (wide n e))
    = o (ix2 k (wide n e)) + if k.val = 0 then ∑ r : Fin 512, slope_at g b y0 y1 y2 d n r e else 0 := by
  unfold out0_B_10
  unfold kernelRun0_B
  dsimp only
  delta kernelRun0_B.sl.v58 kernelRun0_B.sl.r_1 kernelRun0_B.sl.r kernelRun0_B.sl.r_2
  rw [third_db, load_whole p3 h3 y0 hz, load_whole p4 h4 y1 hz, load_whole p5 h5 y2 hz]
  by_cases hk : k.val = 0
  · obtain rfl : k = 0 := Fin.ext hk
    have at_o (j : Fin 3) (q : ℕ) (hq : q = j.val * 1024) (inb) : View.readAt (Elt Ideal) p11.view (Rect.unit (s := S8x3072) ![0, q] ![1, 1024] inb).toLoadRect (h11.unread o) (ix2 0 e)
        = o (ix2 0 (wide j e)) := (row_at p11.view _ j q hq inb e).trans (congrFun (h11.read_unread o) _)
    rw [if_pos hk]
    refine three (R := 8) (T := 1) (ty := .f32) _ _ _ _ _ _ _ _ [] 0 0 rfl e n (fun n => o (ix2 0 (wide n e)) + ∑ r : Fin 512, slope_at g b y0 y1 y2 d n r e) ?_ ?_ ?_
    · exact (db_of p1 h1 p2 h2 p6 h6 g b y0 y1 y2 d 0 0 rfl _ _ _ y0 rfl _ e).trans (congrArg (· + ∑ r : Fin 512, slope_at g b y0 y1 y2 d 0 r e) (at_o 0 0 rfl _))
    · exact (db_of p1 h1 p2 h2 p6 h6 g b y0 y1 y2 d 1 1024 rfl _ _ _ y1 rfl _ e).trans (congrArg (· + ∑ r : Fin 512, slope_at g b y0 y1 y2 d 1 r e) (at_o 1 1024 rfl _))
    · exact (db_of p1 h1 p2 h2 p6 h6 g b y0 y1 y2 d 2 2048 rfl _ _ _ y2 rfl _ e).trans (congrArg (· + ∑ r : Fin 512, slope_at g b y0 y1 y2 d 2 r e) (at_o 2 2048 rfl _))
  · rw [if_neg hk, add_zero]
    refine (three_miss (R := 8) (T := 1) (ty := .f32) _ _ _ _ _ _ _ _ [] k (by omega) e n).trans ?_
    exact congrFun (h11.read_unread o) _

theorem db_A (c0 : cond0_0 i) (k : Fin 8) (n : Fin 3) (e : Fin 1024) : out0_A_10 c i p1 h1 p2 h2 p3 h3 p4 h4 p5 h5 p6 h6 p7 h7 p8 h8 p9 h9 p10 h10 p11 h11 c0 g b y0 y1 y2 d (ix2 k (wide n e))
    = if k.val = 0 then ∑ r : Fin 512, slope_at g b y0 y1 y2 d n r e else 0 := by
  unfold out0_A_10
  unfold kernelRun0_A
  dsimp only
  delta kernelRun0_A.sl.v88 kernelRun0_A.sl.H10_3
  delta kernelRun0_A.sl.v58
  delta kernelRun0_A.sl.H10_2
  delta kernelRun0_A.sl.r_1
  delta kernelRun0_A.sl.v28
  delta kernelRun0_A.sl.H10_1 kernelRun0_A.sl.r kernelRun0_A.sl.r_2
  rw [third_db, load_whole p3 h3 y0 hz, load_whole p4 h4 y1 hz, load_whole p5 h5 y2 hz]
  by_cases hk : k.val = 0
  · obtain rfl : k = 0 := Fin.ext hk
    rw [if_pos hk]
    refine three (R := 8) (T := 1) (ty := .f32) _ _ _ _ _ _ _ _ _ 0 0 rfl e n (fun n => ∑ r : Fin 512, slope_at g b y0 y1 y2 d n r e) ?_ ?_ ?_
    · refine (db_of p1 h1 p2 h2 p6 h6 g b y0 y1 y2 d 0 0 rfl _ _ _ y0 rfl _ e).trans ((congrArg (· + _) ?_).trans (zero_add _))
      exact (row_at _ _ 0 0 rfl _ e).trans (zeros _ _ _ _)
    · refine (db_of p1 h1 p2 h2 p6 h6 g b y0 y1 y2 d 1 1024 rfl _ _ _ y1 rfl _ e).trans ((congrArg (· + _) ?_).trans (zero_add _))
      refine (row_at _ _ 1 1024 rfl _ e).trans ?_
      exact (miss _ _ 0 0 rfl _ _ _ 0 1 (.inl (by decide)) e).trans (zeros _ _ _ _)
    · refine (db_of p1 h1 p2 h2 p6 h6 g b y0 y1 y2 d 2 2048 rfl _ _ _ y2 rfl _ e).trans ((congrArg (· + _) ?_).trans (zero_add _))
      refine (row_at _ _ 2 2048 rfl _ e).trans ?_
      refine (miss _ _ 1 1024 rfl _ _ _ 0 2 (.inl (by decide)) e).trans ?_
      exact (miss _ _ 0 0 rfl _ _ _ 0 2 (.inl (by decide)) e).trans (zeros _ _ _ _)
  · rw [if_neg hk]
    refine (three_miss (R := 8) (T := 1) (ty := .f32) _ _ _ _ _ _ _ _ _ k (by omega) e n).trans ?_
    exact zeros _ _ _ _

end Cases

/-! ## Where the blocks lie -/

theorem lt_N (t : Fin cfg0.N) : t.val < 4 := lt_of_lt_of_eq t.isLt N_0

/-- Row `r` of point `t`'s block of rows. -/
abbrev row (t : ℕ) (r : Fin 512) : Fin 2048 := at_ 4 512 t r

/-- A window of 512 rows places its blocks one under the other; the others' block stays. -/
theorem rows_at (t : Fin cfg0.N) (r : Fin 512) : t.val * 512 + r.val = (row t.val r).val := by
  show _ = t.val % 4 * 512 + r.val
  rw [Nat.mod_eq_of_lt (lt_N t)]

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = t.val ∧ win0_3.index t 1 = 0 := by decide +kernel
theorem index_4 : ∀ t : Fin cfg0.N, win0_4.index t 0 = t.val ∧ win0_4.index t 1 = 0 := by decide +kernel
theorem index_5 : ∀ t : Fin cfg0.N, win0_5.index t 0 = t.val ∧ win0_5.index t 1 = 0 := by decide +kernel
theorem index_6 : ∀ t : Fin cfg0.N, win0_6.index t 0 = t.val ∧ win0_6.index t 1 = 0 := by decide +kernel
theorem index_7 : ∀ t : Fin cfg0.N, win0_7.index t 0 = t.val ∧ win0_7.index t 1 = 0 := by decide +kernel
theorem index_8 : ∀ t : Fin cfg0.N, win0_8.index t 0 = t.val ∧ win0_8.index t 1 = 0 := by decide +kernel
theorem index_9 : ∀ t : Fin cfg0.N, win0_9.index t 0 = t.val ∧ win0_9.index t 1 = 0 := by decide +kernel
theorem index_10 : ∀ t : Fin cfg0.N, win0_10.index t 0 = 0 ∧ win0_10.index t 1 = 0 := by decide +kernel

theorem emb_6 (t : Fin cfg0.N) (r : Fin 512) (e : Fin 1024) : (win0_6.rect t).emb (ix2 r e) = ix2 (row t.val r) e :=
  lies (index_6 t) (Window.rect_emb_val win0_6 t _ 0) (Window.rect_emb_val win0_6 t _ 1) (rows_at t r) (Nat.zero_add _)

theorem emb_7 (t : Fin cfg0.N) (r : Fin 512) (e : Fin 1024) : (win0_7.rect t).emb (ix2 r e) = ix2 (row t.val r) e :=
  lies (index_7 t) (Window.rect_emb_val win0_7 t _ 0) (Window.rect_emb_val win0_7 t _ 1) (rows_at t r) (Nat.zero_add _)

theorem emb_8 (t : Fin cfg0.N) (r : Fin 512) (e : Fin 1024) : (win0_8.rect t).emb (ix2 r e) = ix2 (row t.val r) e :=
  lies (index_8 t) (Window.rect_emb_val win0_8 t _ 0) (Window.rect_emb_val win0_8 t _ 1) (rows_at t r) (Nat.zero_add _)

theorem emb_9 (t : Fin cfg0.N) (r : Fin 512) (e : Fin 3072) : (win0_9.rect t).emb (ix2 r e) = ix2 (row t.val r) e :=
  lies (index_9 t) (Window.rect_emb_val win0_9 t _ 0) (Window.rect_emb_val win0_9 t _ 1) (rows_at t r) (Nat.zero_add _)

theorem emb_10 (t : Fin cfg0.N) (r : Fin 8) (e : Fin 3072) : (win0_10.rect t).emb (ix2 r e) = ix2 r e :=
  lies (index_10 t) (Window.rect_emb_val win0_10 t _ 0) (Window.rect_emb_val win0_10 t _ 1) (Nat.zero_add _) (Nat.zero_add _)

/-! ## The results -/

variable (m : (ℓ : Loc nD τ sig) → Buf (Elt Ideal) ℓ) (c : Dev nD)

/-- The arguments: the pre-activations, their biases, the three branches' values and the cotangent. -/
def G : S2048x3072.Idx → EReal := m ((c : Thread nD τ).loc main_arg0)
def B : S1x3072.Idx → EReal := m ((c : Thread nD τ).loc main_arg1)
def Y0 : S2048x1024.Idx → EReal := m ((c : Thread nD τ).loc main_arg2)
def Y1 : S2048x1024.Idx → EReal := m ((c : Thread nD τ).loc main_arg3)
def Y2 : S2048x1024.Idx → EReal := m ((c : Thread nD τ).loc main_arg4)
def D : S2048x1024.Idx → EReal := m ((c : Thread nD τ).loc main_arg5)

theorem iblk_0 (t : Fin cfg0.N) (r : Fin 512) (e : Fin 3072) : (iblk m c 0 t : S512x3072.Idx → EReal) (ix2 r e) = G m c (ix2 (row t.val r) e) :=
  (congrFun (V_main_arg0 m c) _).trans (congrArg (G m c) (lies (index_0 t) (Window.rect_emb_val win0_0 t _ 0) (Window.rect_emb_val win0_0 t _ 1) (rows_at t r) (Nat.zero_add _)))
theorem iblk_1 (t : Fin cfg0.N) (r : Fin 1) (e : Fin 3072) : (iblk m c 1 t : S1x3072.Idx → EReal) (ix2 r e) = B m c (ix2 r e) :=
  (congrFun (V_main_arg1 m c) _).trans (congrArg (B m c) (lies (index_1 t) (Window.rect_emb_val win0_1 t _ 0) (Window.rect_emb_val win0_1 t _ 1) (Nat.zero_add _) (Nat.zero_add _)))
theorem iblk_2 (t : Fin cfg0.N) (r : Fin 512) (e : Fin 1024) : (iblk m c 2 t : S512x1024.Idx → EReal) (ix2 r e) = Y0 m c (ix2 (row t.val r) e) :=
  (congrFun (V_main_arg2 m c) _).trans (congrArg (Y0 m c) (lies (index_2 t) (Window.rect_emb_val win0_2 t _ 0) (Window.rect_emb_val win0_2 t _ 1) (rows_at t r) (Nat.zero_add _)))
theorem iblk_3 (t : Fin cfg0.N) (r : Fin 512) (e : Fin 1024) : (iblk m c 3 t : S512x1024.Idx → EReal) (ix2 r e) = Y1 m c (ix2 (row t.val r) e) :=
  (congrFun (V_main_arg3 m c) _).trans (congrArg (Y1 m c) (lies (index_3 t) (Window.rect_emb_val win0_3 t _ 0) (Window.rect_emb_val win0_3 t _ 1) (rows_at t r) (Nat.zero_add _)))
theorem iblk_4 (t : Fin cfg0.N) (r : Fin 512) (e : Fin 1024) : (iblk m c 4 t : S512x1024.Idx → EReal) (ix2 r e) = Y2 m c (ix2 (row t.val r) e) :=
  (congrFun (V_main_arg4 m c) _).trans (congrArg (Y2 m c) (lies (index_4 t) (Window.rect_emb_val win0_4 t _ 0) (Window.rect_emb_val win0_4 t _ 1) (rows_at t r) (Nat.zero_add _)))
theorem iblk_5 (t : Fin cfg0.N) (r : Fin 512) (e : Fin 1024) : (iblk m c 5 t : S512x1024.Idx → EReal) (ix2 r e) = D m c (ix2 (row t.val r) e) :=
  (congrFun (V_main_arg5 m c) _).trans (congrArg (D m c) (lies (index_5 t) (Window.rect_emb_val win0_5 t _ 0) (Window.rect_emb_val win0_5 t _ 1) (rows_at t r) (Nat.zero_add _)))

/-- One entry of the pre-activations' gradient, and one of a branch's, of the arguments. -/
def S (n : Fin 3) (i : Fin 2048) (e : Fin 1024) : EReal :=
  slope (D m c (ix2 i e)) (branch (Y0 m c) (Y1 m c) (Y2 m c) n (ix2 i e)) (G m c (ix2 i (wide n e))) (B m c (ix2 0 (wide n e)))
def Q (n : Fin 3) (i : Fin 2048) (e : Fin 1024) : EReal := D m c (ix2 i e) * gate (G m c (ix2 i (wide n e))) (B m c (ix2 0 (wide n e)))

theorem slope_blk (t : Fin cfg0.N) (n : Fin 3) (r : Fin 512) (e : Fin 1024) :
    slope_at (iblk m c 0 t) (iblk m c 1 t) (iblk m c 2 t) (iblk m c 3 t) (iblk m c 4 t) (iblk m c 5 t) n r e = S m c n (row t.val r) e := by
  have h : rows (iblk m c 2 t) (iblk m c 3 t) (iblk m c 4 t) n (ix2 r e) = branch (Y0 m c) (Y1 m c) (Y2 m c) n (ix2 (row t.val r) e) := by
    unfold rows branch
    split_ifs
    · exact iblk_2 m c t r e
    · exact iblk_3 m c t r e
    · exact iblk_4 m c t r e
  unfold slope_at S
  rw [h, iblk_0, iblk_1, iblk_5]

theorem gate_blk (t : Fin cfg0.N) (n : Fin 3) (r : Fin 512) (e : Fin 1024) :
    gate_at (iblk m c 0 t) (iblk m c 1 t) (iblk m c 5 t) n r e = Q m c n (row t.val r) e := by
  unfold gate_at Q
  rw [iblk_0, iblk_1, iblk_5]

/-- Every column belongs to a branch. -/
theorem wide_of (y : Fin 3072) : ∃ (n : Fin 3) (e : Fin 1024), y = wide n e :=
  ⟨⟨y.val / 1024, by omega⟩, ⟨y.val % 1024, by omega⟩, Fin.ext (by show y.val = y.val / 1024 * 1024 + y.val % 1024; omega)⟩

/-- The branches' results of the reference are planes of one array. -/
theorem ref_0 (i : Fin 2048) (e : Fin 1024) : val_main_v34 (F := Ideal) (G m c) (B m c) (D m c) (ix2 i e) = Q m c 0 i e := by
  refine Eq.trans ?_ (r_dy _ _ _ i 0 e)
  unfold val_main_v34 val_main_v33
  generalize val_main_v32 (F := Ideal) (G m c) (B m c) (D m c) = z
  pointwise
theorem ref_1 (i : Fin 2048) (e : Fin 1024) : val_main_v36 (F := Ideal) (G m c) (B m c) (D m c) (ix2 i e) = Q m c 1 i e := by
  refine Eq.trans ?_ (r_dy _ _ _ i 1 e)
  unfold val_main_v36 val_main_v35
  generalize val_main_v32 (F := Ideal) (G m c) (B m c) (D m c) = z
  pointwise
theorem ref_2 (i : Fin 2048) (e : Fin 1024) : val_main_v38 (F := Ideal) (G m c) (B m c) (D m c) (ix2 i e) = Q m c 2 i e := by
  refine Eq.trans ?_ (r_dy _ _ _ i 2 e)
  unfold val_main_v38 val_main_v37
  generalize val_main_v32 (F := Ideal) (G m c) (B m c) (D m c) = z
  pointwise

theorem flushed_6 (t : Fin cfg0.N) :
    (dats m 0 c).flushed 6 t = (win0_6.blk t).view.read (Elt Ideal) (val_main_v34 (F := Ideal) (G m c) (B m c) (D m c) : S2048x1024.Idx → EReal) := by
  refine funext fun (x : S512x1024.Idx) => ?_
  obtain ⟨r, e, rfl⟩ : ∃ (r : Fin 512) (e : Fin 1024), x = ix2 r e := ⟨x 0, x 1, ValueIdx.eq_ix2 x⟩
  refine Eq.trans ?_ ((congrArg (val_main_v34 (F := Ideal) (G m c) (B m c) (D m c)) (emb_6 t r e)).trans (ref_0 m c _ e)).symm
  by_cases h0 : t.val % 4 = 0
  · rw [Value.flushed6_A m c t h0]
    exact (dy_A0 c _ _ _ _ _ _ _ _ _ _ _ _ _ _ _ _ _ _ _ _ _ _ _ _ _ _ _ _ _ _ r e).trans (gate_blk m c t 0 r e)
  · rw [Value.flushed6_B m c t h0]
    exact (dy_B0 c _ _ _ _ _ _ _ _ _ _ _ _ _ _ _ _ _ _ _ _ _ _ _ _ _ _ _ _ _ _ _ r e).trans (gate_blk m c t 0 r e)

theorem flushed_7 (t : Fin cfg0.N) :
    (dats m 0 c).flushed 7 t = (win0_7.blk t).view.read (Elt Ideal) (val_main_v36 (F := Ideal) (G m c) (B m c) (D m c) : S2048x1024.Idx → EReal) := by
  refine funext fun (x : S512x1024.Idx) => ?_
  obtain ⟨r, e, rfl⟩ : ∃ (r : Fin 512) (e : Fin 1024), x = ix2 r e := ⟨x 0, x 1, ValueIdx.eq_ix2 x⟩
  refine Eq.trans ?_ ((congrArg (val_main_v36 (F := Ideal) (G m c) (B m c) (D m c)) (emb_7 t r e)).trans (ref_1 m c _ e)).symm
  by_cases h0 : t.val % 4 = 0
  · rw [Value.flushed7_A m c t h0]
    exact (dy_A1 c _ _ _ _ _ _ _ _ _ _ _ _ _ _ _ _ _ _ _ _ _ _ _ _ _ _ _ _ _ _ r e).trans (gate_blk m c t 1 r e)
  · rw [Value.flushed7_B m c t h0]
    exact (dy_B1 c _ _ _ _ _ _ _ _ _ _ _ _ _ _ _ _ _ _ _ _ _ _ _ _ _ _ _ _ _ _ _ r e).trans (gate_blk m c t 1 r e)

theorem flushed_8 (t : Fin cfg0.N) :
    (dats m 0 c).flushed 8 t = (win0_8.blk t).view.read (Elt Ideal) (val_main_v38 (F := Ideal) (G m c) (B m c) (D m c) : S2048x1024.Idx → EReal) := by
  refine funext fun (x : S512x1024.Idx) => ?_
  obtain ⟨r, e, rfl⟩ : ∃ (r : Fin 512) (e : Fin 1024), x = ix2 r e := ⟨x 0, x 1, ValueIdx.eq_ix2 x⟩
  refine Eq.trans ?_ ((congrArg (val_main_v38 (F := Ideal) (G m c) (B m c) (D m c)) (emb_8 t r e)).trans (ref_2 m c _ e)).symm
  by_cases h0 : t.val % 4 = 0
  · rw [Value.flushed8_A m c t h0]
    exact (dy_A2 c _ _ _ _ _ _ _ _ _ _ _ _ _ _ _ _ _ _ _ _ _ _ _ _ _ _ _ _ _ _ r e).trans (gate_blk m c t 2 r e)
  · rw [Value.flushed8_B m c t h0]
    exact (dy_B2 c _ _ _ _ _ _ _ _ _ _ _ _ _ _ _ _ _ _ _ _ _ _ _ _ _ _ _ _ _ _ _ r e).trans (gate_blk m c t 2 r e)

theorem flushed_9 (t : Fin cfg0.N) :
    (dats m 0 c).flushed 9 t = (win0_9.blk t).view.read (Elt Ideal) (val_main_v39 (F := Ideal) (G m c) (B m c) (Y0 m c) (Y1 m c) (Y2 m c) (D m c) : S2048x3072.Idx → EReal) := by
  refine funext fun (x : S512x3072.Idx) => ?_
  obtain ⟨r, y, rfl⟩ : ∃ (r : Fin 512) (y : Fin 3072), x = ix2 r y := ⟨x 0, x 1, ValueIdx.eq_ix2 x⟩
  obtain ⟨n, e, rfl⟩ := wide_of y
  refine Eq.trans ?_ ((congrArg (val_main_v39 (F := Ideal) (G m c) (B m c) (Y0 m c) (Y1 m c) (Y2 m c) (D m c)) (emb_9 t r (wide n e))).trans (r_slope _ _ _ _ _ _ _ n e)).symm
  by_cases h0 : t.val % 4 = 0
  · rw [Value.flushed9_A m c t h0]
    exact (dg_A c _ _ _ _ _ _ _ _ _ _ _ _ _ _ _ _ _ _ _ _ _ _ _ _ _ _ _ _ _ _ n r e).trans (slope_blk m c t n r e)
  · rw [Value.flushed9_B m c t h0]
    exact (dg_B c _ _ _ _ _ _ _ _ _ _ _ _ _ _ _ _ _ _ _ _ _ _ _ _ _ _ _ _ _ _ _ n r e).trans (slope_blk m c t n r e)

/-- Block `j`'s share of an entry of the bias's gradient. -/
def part (k : Fin 8) (n : Fin 3) (e : Fin 1024) (j : ℕ) : EReal := if k.val = 0 then ∑ r : Fin 512, S m c n (row j r) e else 0

theorem part_blk (t : Fin cfg0.N) (k : Fin 8) (n : Fin 3) (e : Fin 1024) :
    (if k.val = 0 then ∑ r : Fin 512, slope_at (iblk m c 0 t) (iblk m c 1 t) (iblk m c 2 t) (iblk m c 3 t) (iblk m c 4 t) (iblk m c 5 t) n r e else 0) = part m c k n e t.val := by
  simp only [slope_blk]
  rfl

/-- What the bias's buffer holds after each point. -/
theorem acc_at (k : Fin 8) (n : Fin 3) (e : Fin 1024) : ∀ t (ht : t < cfg0.N), t % 5 + 1 < 5 →
    (outsAt0 m c t ht).2.2.2.2 (ix2 k (wide n e)) = ∑ j ∈ Finset.range (t % 5 + 1), part m c k n e j :=
  fold 5 cfg0.N (by decide) (fun t ht => (outsAt0 m c t ht).2.2.2.2 (ix2 k (wide n e))) (fun _ => part m c k n e)
    (fun t ht h => by
      have ht' : t < 4 := lt_of_lt_of_eq ht N_0
      rw [outsAt0_A m c ⟨t, ht⟩ (by dsimp only; omega)]
      dsimp only
      refine (db_A c _ _ _ _ _ _ _ _ _ _ _ _ _ _ _ _ _ _ _ _ _ _ _ _ _ _ _ _ _ _ k n e).trans ((part_blk m c ⟨t, ht⟩ k n e).trans (congrArg (part m c k n e) ?_))
      dsimp only
      omega)
    (fun t ht h h' => by
      have ht' : t < 4 := lt_of_lt_of_eq ht N_0
      rw [outsAt0_B m c ⟨t, ht⟩ (by dsimp only; omega)]
      dsimp only
      refine (db_B c _ _ _ _ _ _ _ _ _ _ _ _ _ _ _ _ _ _ _ _ _ _ _ _ _ _ _ _ _ _ _ k n e).trans (congrArg₂ (· + ·) rfl ((part_blk m c ⟨t, ht⟩ k n e).trans (congrArg (part m c k n e) ?_)))
      dsimp only
      omega)

theorem flushed_10 (t : Fin cfg0.N) (ht : (cfg0.win 10).flush t = true) :
    (dats m 0 c).flushed 10 t = (win0_10.blk t).view.read (Elt Ideal) (val_main_v42 (F := Ideal) (G m c) (B m c) (Y0 m c) (Y1 m c) (Y2 m c) (D m c) : S8x3072.Idx → EReal) := by
  have h3 : t.val % 4 = 3 := (flush0_10 t).mp ht
  have hN := lt_N t
  rw [Value.flushed10]
  refine funext fun (x : S8x3072.Idx) => ?_
  obtain ⟨k, y, rfl⟩ : ∃ (k : Fin 8) (y : Fin 3072), x = ix2 k y := ⟨x 0, x 1, ValueIdx.eq_ix2 x⟩
  obtain ⟨n, e, rfl⟩ := wide_of y
  refine Eq.trans ?_ ((congrArg (val_main_v42 (F := Ideal) (G m c) (B m c) (Y0 m c) (Y1 m c) (Y2 m c) (D m c)) (emb_10 t k (wide n e))).trans (r_db _ _ _ _ _ _ k n e)).symm
  refine (acc_at m c k n e t.val t.isLt (by omega)).trans ?_
  rw [show t.val % 5 + 1 = 4 by omega]
  unfold part
  by_cases hk : k.val = 0
  · simp only [if_pos hk]
    exact sum_blocks 4 512 fun i => S m c n i e
  · simp only [if_neg hk]
    exact Finset.sum_const_zero

/-- The point of row `i`, and where in its block the row lies. -/
def pt (i : Fin 2048) : Fin cfg0.N := ⟨i.val / 512, lt_of_lt_of_eq (by omega : _ < 4) N_0.symm⟩
def off (i : Fin 2048) : Fin 512 := ⟨i.val % 512, by omega⟩
theorem row_pt (i : Fin 2048) : row (pt i).val (off i) = i := Fin.ext (by show i.val / 512 % 4 * 512 + i.val % 512 = i.val; omega)

theorem cover_6 (x : S2048x1024.Idx) : ∃ t : Fin cfg0.N, (cfg0.win 6).flush t = true ∧ x ∈ ((cfg0.win 6).blk t).view.set := by
  obtain ⟨i, y, rfl⟩ : ∃ (i : Fin 2048) (y : Fin 1024), x = ix2 i y := ⟨x 0, x 1, ValueIdx.eq_ix2 x⟩
  exact ⟨pt i, flush0_6 _, Finset.mem_map.mpr ⟨ix2 (off i) y, Finset.mem_univ _, (emb_6 (pt i) (off i) y).trans (congrArg (ix2 · y) (row_pt i))⟩⟩
theorem cover_7 (x : S2048x1024.Idx) : ∃ t : Fin cfg0.N, (cfg0.win 7).flush t = true ∧ x ∈ ((cfg0.win 7).blk t).view.set := by
  obtain ⟨i, y, rfl⟩ : ∃ (i : Fin 2048) (y : Fin 1024), x = ix2 i y := ⟨x 0, x 1, ValueIdx.eq_ix2 x⟩
  exact ⟨pt i, flush0_7 _, Finset.mem_map.mpr ⟨ix2 (off i) y, Finset.mem_univ _, (emb_7 (pt i) (off i) y).trans (congrArg (ix2 · y) (row_pt i))⟩⟩
theorem cover_8 (x : S2048x1024.Idx) : ∃ t : Fin cfg0.N, (cfg0.win 8).flush t = true ∧ x ∈ ((cfg0.win 8).blk t).view.set := by
  obtain ⟨i, y, rfl⟩ : ∃ (i : Fin 2048) (y : Fin 1024), x = ix2 i y := ⟨x 0, x 1, ValueIdx.eq_ix2 x⟩
  exact ⟨pt i, flush0_8 _, Finset.mem_map.mpr ⟨ix2 (off i) y, Finset.mem_univ _, (emb_8 (pt i) (off i) y).trans (congrArg (ix2 · y) (row_pt i))⟩⟩
theorem cover_9 (x : S2048x3072.Idx) : ∃ t : Fin cfg0.N, (cfg0.win 9).flush t = true ∧ x ∈ ((cfg0.win 9).blk t).view.set := by
  obtain ⟨i, y, rfl⟩ : ∃ (i : Fin 2048) (y : Fin 3072), x = ix2 i y := ⟨x 0, x 1, ValueIdx.eq_ix2 x⟩
  exact ⟨pt i, flush0_9 _, Finset.mem_map.mpr ⟨ix2 (off i) y, Finset.mem_univ _, (emb_9 (pt i) (off i) y).trans (congrArg (ix2 · y) (row_pt i))⟩⟩
theorem cover_10 (x : S8x3072.Idx) : ∃ t : Fin cfg0.N, (cfg0.win 10).flush t = true ∧ x ∈ ((cfg0.win 10).blk t).view.set := by
  obtain ⟨k, y, rfl⟩ : ∃ (k : Fin 8) (y : Fin 3072), x = ix2 k y := ⟨x 0, x 1, ValueIdx.eq_ix2 x⟩
  have hN : 3 < cfg0.N := lt_of_lt_of_eq (by decide : 3 < 4) N_0.symm
  exact ⟨⟨3, hN⟩, (flush0_10 ⟨3, hN⟩).mpr (by dsimp only), Finset.mem_map.mpr ⟨ix2 k y, Finset.mem_univ _, emb_10 ⟨3, hN⟩ k y⟩⟩

/-- The kernel's five results are the reference's. -/
theorem final_6 : (dats m 0 c).arrAt 6 cfg0.N = (val_main_v34 (F := Ideal) (G m c) (B m c) (D m c) : S2048x1024.Idx → EReal) :=
  (dats m 0 c).arrAt_eq_of_cover 6 _ (fun t _ => flushed_6 m c t) cover_6
theorem final_7 : (dats m 0 c).arrAt 7 cfg0.N = (val_main_v36 (F := Ideal) (G m c) (B m c) (D m c) : S2048x1024.Idx → EReal) :=
  (dats m 0 c).arrAt_eq_of_cover 7 _ (fun t _ => flushed_7 m c t) cover_7
theorem final_8 : (dats m 0 c).arrAt 8 cfg0.N = (val_main_v38 (F := Ideal) (G m c) (B m c) (D m c) : S2048x1024.Idx → EReal) :=
  (dats m 0 c).arrAt_eq_of_cover 8 _ (fun t _ => flushed_8 m c t) cover_8
theorem final_9 : (dats m 0 c).arrAt 9 cfg0.N = (val_main_v39 (F := Ideal) (G m c) (B m c) (Y0 m c) (Y1 m c) (Y2 m c) (D m c) : S2048x3072.Idx → EReal) :=
  (dats m 0 c).arrAt_eq_of_cover 9 _ (fun t _ => flushed_9 m c t) cover_9
theorem final_10 : (dats m 0 c).arrAt 10 cfg0.N = (val_main_v42 (F := Ideal) (G m c) (B m c) (Y0 m c) (Y1 m c) (Y2 m c) (D m c) : S8x3072.Idx → EReal) :=
  (dats m 0 c).arrAt_eq_of_cover 10 _ (fun t ht => flushed_10 m c t ht) cover_10

end Cert.MixBwdIdeal.Prod

namespace Cert.Products

open Idealize.ShloMosaic Idealize.ShloMosaic.TcCoe Idealize.SL.Sem
open Cert.MixBwdIdeal.Prod

theorem frame_MixBwd : quiescent_MixBwdReferenceIdeal := fun m g _ =>
  (θ_run MixBwdReferenceIdeal.defs _ _).mono (fun r h => ⟨fun c => (h c).2.2.2.2.2, sem_eq_zero_of_no_sems (by decide) r.2⟩) (MixBwdReferenceIdeal.Value.run m g)

theorem algebraic_MixBwd : algebraic_MixBwdIdeal_MixBwdReferenceIdeal := by
  intro m g m' g' _ h
  refine ⟨fun c => MixBwdReferenceIdeal.Read.val_main_v34 (F := Ideal) (G m c) (B m c) (D m c),
    fun c => MixBwdReferenceIdeal.Read.val_main_v36 (F := Ideal) (G m c) (B m c) (D m c),
    fun c => MixBwdReferenceIdeal.Read.val_main_v38 (F := Ideal) (G m c) (B m c) (D m c),
    fun c => MixBwdReferenceIdeal.Read.val_main_v39 (F := Ideal) (G m c) (B m c) (Y0 m c) (Y1 m c) (Y2 m c) (D m c),
    fun c => MixBwdReferenceIdeal.Read.val_main_v42 (F := Ideal) (G m c) (B m c) (Y0 m c) (Y1 m c) (Y2 m c) (D m c),
    (θ_run MixBwdIdeal.defs _ _).mono (fun r h c => ⟨(h c).1.trans (final_6 m c), (h c).2.1.trans (final_7 m c), (h c).2.2.1.trans (final_8 m c),
      (h c).2.2.2.1.trans (final_9 m c), (h c).2.2.2.2.1.trans (final_10 m c), (h c).2.2.2.2.2⟩) (MixBwdIdeal.Value.run_blocks m g),
    (θ_run MixBwdReferenceIdeal.defs _ _).mono (fun r h' c => ⟨(h' c).1.trans ?_, (h' c).2.1.trans ?_, (h' c).2.2.1.trans ?_, (h' c).2.2.2.1.trans ?_,
      (h' c).2.2.2.2.1.trans ?_, (h' c).2.2.2.2.2⟩) (MixBwdReferenceIdeal.Value.run m' g')⟩
  all_goals
    obtain ⟨a0, a1, a2, a3, a4, a5⟩ := h c
  · rw [MixBwdReferenceIdeal.Read.val_main_v34_eq, a0, a1, a5]
    rfl
  · rw [MixBwdReferenceIdeal.Read.val_main_v36_eq, a0, a1, a5]
    rfl
  · rw [MixBwdReferenceIdeal.Read.val_main_v38_eq, a0, a1, a5]
    rfl
  · rw [MixBwdReferenceIdeal.Read.val_main_v39_eq, a0, a1, a2, a3, a4, a5]
    rfl
  · rw [MixBwdReferenceIdeal.Read.val_main_v42_eq, a0, a1, a2, a3, a4, a5]
    rfl

end Cert.Products

end
-- ==== Proof.Products.lean ====
module

public import proofs.«01_k».proof.Defs
public import proofs.«01_k».proof.Proof.DownDx
public import proofs.«01_k».proof.Proof.DownDw
public import proofs.«01_k».proof.Proof.UpDx
public import proofs.«01_k».proof.Proof.UpDw
public import proofs.«01_k».proof.Proof.ODx
public import proofs.«01_k».proof.Proof.ODw
public import proofs.«01_k».proof.Proof.BrDx
public import proofs.«01_k».proof.Proof.BrDw
public import proofs.«01_k».proof.Proof.FoxDw
public import proofs.«01_k».proof.Proof.GateDx
public import proofs.«01_k».proof.Proof.GateDw
public import proofs.«01_k».proof.Proof.InDx
public import proofs.«01_k».proof.Proof.InDw
public import proofs.«01_k».proof.Proof.InFwd
public import proofs.«01_k».proof.Proof.InTail
public import proofs.«01_k».proof.Proof.BrFwd
public import proofs.«01_k».proof.Proof.FoxFwd
public import proofs.«01_k».proof.Proof.GateFwd
public import proofs.«01_k».proof.Proof.OFwd
public import proofs.«01_k».proof.Proof.UpFwd
public import proofs.«01_k».proof.Proof.DownFwd
public import proofs.«01_k».proof.Proof.FfnBwd
public import proofs.«01_k».proof.Proof.MixBwd
public import Idealize.ShloMosaic.Lib.Claim
public import Idealize.ShloMosaic.Adequacy
public import Idealize.ShloMosaic.Init

/-! # The products' claims: each call's run and its reference's end with the same array -/

@[expose] public section

noncomputable section

namespace Cert.Products

open Idealize.ShloMosaic Idealize.ShloMosaic.TcCoe Idealize.SL.Sem

theorem frame_DownDx : quiescent_DownDxReferenceIdeal := fun m g _ =>
  (θ_run DownDxReferenceIdeal.defs _ _).mono (fun r h => ⟨fun c => (h c).2, sem_eq_zero_of_no_sems (by decide) r.2⟩) (DownDxReferenceIdeal.Value.run m g)

theorem algebraic_DownDx : algebraic_DownDxIdeal_DownDxReferenceIdeal := by
  intro m g m' g' _ h
  refine ⟨fun c => DownDxReferenceIdeal.Read.val_main_v4 (F := Ideal) (DownDxIdeal.Prod.A m c) (DownDxIdeal.Prod.B m c),
    (θ_run DownDxIdeal.defs _ _).mono (fun r h c => ⟨(h c).1.trans (DownDxIdeal.Prod.final m c), (h c).2⟩) (DownDxIdeal.Value.run_blocks m g),
    (θ_run DownDxReferenceIdeal.defs _ _).mono (fun r h' c => ⟨(h' c).1.trans ?_, (h' c).2⟩) (DownDxReferenceIdeal.Value.run m' g')⟩
  obtain ⟨a0, a1⟩ := h c
  rw [a0, a1]
  rfl

theorem frame_DownDw : quiescent_DownDwReferenceIdeal := fun m g _ =>
  (θ_run DownDwReferenceIdeal.defs _ _).mono (fun r h => ⟨fun c => (h c).2, sem_eq_zero_of_no_sems (by decide) r.2⟩) (DownDwReferenceIdeal.Value.run m g)

theorem algebraic_DownDw : algebraic_DownDwIdeal_DownDwReferenceIdeal := by
  intro m g m' g' _ h
  refine ⟨fun c => DownDwReferenceIdeal.Read.val_main_v6 (F := Ideal) (DownDwIdeal.Prod.A m c) (DownDwIdeal.Prod.B m c),
    (θ_run DownDwIdeal.defs _ _).mono (fun r h c => ⟨(h c).1.trans (DownDwIdeal.Prod.final m c), (h c).2⟩) (DownDwIdeal.Value.run_blocks m g),
    (θ_run DownDwReferenceIdeal.defs _ _).mono (fun r h' c => ⟨(h' c).1.trans ?_, (h' c).2⟩) (DownDwReferenceIdeal.Value.run m' g')⟩
  obtain ⟨a0, a1⟩ := h c
  rw [a0, a1]
  rfl

theorem frame_UpDx : quiescent_UpDxReferenceIdeal := fun m g _ =>
  (θ_run UpDxReferenceIdeal.defs _ _).mono (fun r h => ⟨fun c => (h c).2, sem_eq_zero_of_no_sems (by decide) r.2⟩) (UpDxReferenceIdeal.Value.run m g)

theorem algebraic_UpDx : algebraic_UpDxIdeal_UpDxReferenceIdeal := by
  intro m g m' g' _ h
  refine ⟨fun c => UpDxReferenceIdeal.Read.val_main_v12 (F := Ideal) (UpDxIdeal.Prod.A m c) (UpDxIdeal.Prod.B m c),
    (θ_run UpDxIdeal.defs _ _).mono (fun r h c => ⟨(h c).1.trans (UpDxIdeal.Prod.final m c), (h c).2⟩) (UpDxIdeal.Value.run_blocks m g),
    (θ_run UpDxReferenceIdeal.defs _ _).mono (fun r h' c => ⟨(h' c).1.trans ?_, (h' c).2⟩) (UpDxReferenceIdeal.Value.run m' g')⟩
  obtain ⟨a0, a1⟩ := h c
  rw [a0, a1]
  rfl

theorem frame_UpDw : quiescent_UpDwReferenceIdeal := fun m g _ =>
  (θ_run UpDwReferenceIdeal.defs _ _).mono (fun r h => ⟨fun c => (h c).2, sem_eq_zero_of_no_sems (by decide) r.2⟩) (UpDwReferenceIdeal.Value.run m g)

theorem algebraic_UpDw : algebraic_UpDwIdeal_UpDwReferenceIdeal := by
  intro m g m' g' _ h
  refine ⟨fun c => UpDwReferenceIdeal.Read.val_main_v14 (F := Ideal) (UpDwIdeal.Prod.A m c) (UpDwIdeal.Prod.B m c),
    (θ_run UpDwIdeal.defs _ _).mono (fun r h c => ⟨(h c).1.trans (UpDwIdeal.Prod.final m c), (h c).2⟩) (UpDwIdeal.Value.run_blocks m g),
    (θ_run UpDwReferenceIdeal.defs _ _).mono (fun r h' c => ⟨(h' c).1.trans ?_, (h' c).2⟩) (UpDwReferenceIdeal.Value.run m' g')⟩
  obtain ⟨a0, a1⟩ := h c
  rw [a0, a1]
  rfl

theorem frame_ODx : quiescent_ODxReferenceIdeal := fun m g _ =>
  (θ_run ODxReferenceIdeal.defs _ _).mono (fun r h => ⟨fun c => (h c).2, sem_eq_zero_of_no_sems (by decide) r.2⟩) (ODxReferenceIdeal.Value.run m g)

theorem algebraic_ODx : algebraic_ODxIdeal_ODxReferenceIdeal := by
  intro m g m' g' _ h
  refine ⟨fun c => ODxReferenceIdeal.Read.val_main_v4 (F := Ideal) (ODxIdeal.Prod.A m c) (ODxIdeal.Prod.B m c),
    (θ_run ODxIdeal.defs _ _).mono (fun r h c => ⟨(h c).1.trans (ODxIdeal.Prod.final m c), (h c).2⟩) (ODxIdeal.Value.run_blocks m g),
    (θ_run ODxReferenceIdeal.defs _ _).mono (fun r h' c => ⟨(h' c).1.trans ?_, (h' c).2⟩) (ODxReferenceIdeal.Value.run m' g')⟩
  obtain ⟨a0, a1⟩ := h c
  rw [a0, a1]
  rfl

theorem frame_ODw : quiescent_ODwReferenceIdeal := fun m g _ =>
  (θ_run ODwReferenceIdeal.defs _ _).mono (fun r h => ⟨fun c => (h c).2, sem_eq_zero_of_no_sems (by decide) r.2⟩) (ODwReferenceIdeal.Value.run m g)

theorem algebraic_ODw : algebraic_ODwIdeal_ODwReferenceIdeal := by
  intro m g m' g' _ h
  refine ⟨fun c => ODwReferenceIdeal.Read.val_main_v6 (F := Ideal) (ODwIdeal.Prod.A m c) (ODwIdeal.Prod.B m c),
    (θ_run ODwIdeal.defs _ _).mono (fun r h c => ⟨(h c).1.trans (ODwIdeal.Prod.final m c), (h c).2⟩) (ODwIdeal.Value.run_blocks m g),
    (θ_run ODwReferenceIdeal.defs _ _).mono (fun r h' c => ⟨(h' c).1.trans ?_, (h' c).2⟩) (ODwReferenceIdeal.Value.run m' g')⟩
  obtain ⟨a0, a1⟩ := h c
  rw [a0, a1]
  rfl

theorem frame_BrDx : quiescent_BrDxReferenceIdeal := fun m g _ =>
  (θ_run BrDxReferenceIdeal.defs _ _).mono (fun r h => ⟨fun c => (h c).2, sem_eq_zero_of_no_sems (by decide) r.2⟩) (BrDxReferenceIdeal.Value.run m g)

theorem algebraic_BrDx : algebraic_BrDxIdeal_BrDxReferenceIdeal := by
  intro m g m' g' _ h
  refine ⟨fun c => BrDxReferenceIdeal.Read.val_main_v5 (F := Ideal) (BrDxIdeal.Prod.A m c) (BrDxIdeal.Prod.B m c),
    (θ_run BrDxIdeal.defs _ _).mono (fun r h c => ⟨(h c).1.trans (BrDxIdeal.Prod.final m c), (h c).2⟩) (BrDxIdeal.Value.run_blocks m g),
    (θ_run BrDxReferenceIdeal.defs _ _).mono (fun r h' c => ⟨(h' c).1.trans ?_, (h' c).2⟩) (BrDxReferenceIdeal.Value.run m' g')⟩
  obtain ⟨a0, a1⟩ := h c
  rw [a0, a1]
  rfl

theorem frame_BrDw : quiescent_BrDwReferenceIdeal := fun m g _ =>
  (θ_run BrDwReferenceIdeal.defs _ _).mono (fun r h => ⟨fun c => (h c).2, sem_eq_zero_of_no_sems (by decide) r.2⟩) (BrDwReferenceIdeal.Value.run m g)

theorem algebraic_BrDw : algebraic_BrDwIdeal_BrDwReferenceIdeal := by
  intro m g m' g' _ h
  refine ⟨fun c => BrDwReferenceIdeal.Read.val_main_v7 (F := Ideal) (BrDwIdeal.Prod.A m c) (BrDwIdeal.Prod.B m c),
    (θ_run BrDwIdeal.defs _ _).mono (fun r h c => ⟨(h c).1.trans (BrDwIdeal.Prod.final m c), (h c).2⟩) (BrDwIdeal.Value.run_blocks m g),
    (θ_run BrDwReferenceIdeal.defs _ _).mono (fun r h' c => ⟨(h' c).1.trans ?_, (h' c).2⟩) (BrDwReferenceIdeal.Value.run m' g')⟩
  obtain ⟨a0, a1⟩ := h c
  rw [a0, a1]
  rfl

theorem frame_FoxDw : quiescent_FoxDwReferenceIdeal := fun m g _ =>
  (θ_run FoxDwReferenceIdeal.defs _ _).mono (fun r h => ⟨fun c => (h c).2, sem_eq_zero_of_no_sems (by decide) r.2⟩) (FoxDwReferenceIdeal.Value.run m g)

theorem algebraic_FoxDw : algebraic_FoxDwIdeal_FoxDwReferenceIdeal := by
  intro m g m' g' _ h
  refine ⟨fun c => FoxDwReferenceIdeal.Read.val_main_v6 (F := Ideal) (FoxDwIdeal.Prod.A m c) (FoxDwIdeal.Prod.B m c),
    (θ_run FoxDwIdeal.defs _ _).mono (fun r h c => ⟨(h c).1.trans (FoxDwIdeal.Prod.final m c), (h c).2⟩) (FoxDwIdeal.Value.run_blocks m g),
    (θ_run FoxDwReferenceIdeal.defs _ _).mono (fun r h' c => ⟨(h' c).1.trans ?_, (h' c).2⟩) (FoxDwReferenceIdeal.Value.run m' g')⟩
  obtain ⟨a0, a1⟩ := h c
  rw [a0, a1]
  rfl

theorem frame_GateDx : quiescent_GateDxReferenceIdeal := fun m g _ =>
  (θ_run GateDxReferenceIdeal.defs _ _).mono (fun r h => ⟨fun c => (h c).2, sem_eq_zero_of_no_sems (by decide) r.2⟩) (GateDxReferenceIdeal.Value.run m g)

theorem algebraic_GateDx : algebraic_GateDxIdeal_GateDxReferenceIdeal := by
  intro m g m' g' _ h
  refine ⟨fun c => GateDxReferenceIdeal.Read.val_main_v5 (F := Ideal) (GateDxIdeal.Prod.A m c) (GateDxIdeal.Prod.B m c),
    (θ_run GateDxIdeal.defs _ _).mono (fun r h c => ⟨(h c).1.trans (GateDxIdeal.Prod.final m c), (h c).2⟩) (GateDxIdeal.Value.run_blocks m g),
    (θ_run GateDxReferenceIdeal.defs _ _).mono (fun r h' c => ⟨(h' c).1.trans ?_, (h' c).2⟩) (GateDxReferenceIdeal.Value.run m' g')⟩
  obtain ⟨a0, a1⟩ := h c
  rw [a0, a1]
  rfl

theorem frame_GateDw : quiescent_GateDwReferenceIdeal := fun m g _ =>
  (θ_run GateDwReferenceIdeal.defs _ _).mono (fun r h => ⟨fun c => (h c).2, sem_eq_zero_of_no_sems (by decide) r.2⟩) (GateDwReferenceIdeal.Value.run m g)

theorem algebraic_GateDw : algebraic_GateDwIdeal_GateDwReferenceIdeal := by
  intro m g m' g' _ h
  refine ⟨fun c => GateDwReferenceIdeal.Read.val_main_v7 (F := Ideal) (GateDwIdeal.Prod.A m c) (GateDwIdeal.Prod.B m c),
    (θ_run GateDwIdeal.defs _ _).mono (fun r h c => ⟨(h c).1.trans (GateDwIdeal.Prod.final m c), (h c).2⟩) (GateDwIdeal.Value.run_blocks m g),
    (θ_run GateDwReferenceIdeal.defs _ _).mono (fun r h' c => ⟨(h' c).1.trans ?_, (h' c).2⟩) (GateDwReferenceIdeal.Value.run m' g')⟩
  obtain ⟨a0, a1⟩ := h c
  rw [a0, a1]
  rfl

theorem frame_InDx : quiescent_InDxReferenceIdeal := fun m g _ =>
  (θ_run InDxReferenceIdeal.defs _ _).mono (fun r h => ⟨fun c => (h c).2, sem_eq_zero_of_no_sems (by decide) r.2⟩) (InDxReferenceIdeal.Value.run m g)

theorem algebraic_InDx : algebraic_InDxIdeal_InDxReferenceIdeal := by
  intro m g m' g' _ h
  refine ⟨fun c => InDxReferenceIdeal.Read.val_main_v5 (F := Ideal) (InDxIdeal.Prod.A m c) (InDxIdeal.Prod.B m c) (InDxIdeal.Prod.D m c),
    (θ_run InDxIdeal.defs _ _).mono (fun r h c => ⟨(h c).1.trans (InDxIdeal.Prod.final m c), (h c).2⟩) (InDxIdeal.Value.run_blocks m g),
    (θ_run InDxReferenceIdeal.defs _ _).mono (fun r h' c => ⟨(h' c).1.trans ?_, (h' c).2⟩) (InDxReferenceIdeal.Value.run m' g')⟩
  obtain ⟨a0, a1, a2⟩ := h c
  rw [a0, a1, a2]
  rfl

theorem frame_InDw : quiescent_InDwReferenceIdeal := fun m g _ =>
  (θ_run InDwReferenceIdeal.defs _ _).mono (fun r h => ⟨fun c => (h c).2, sem_eq_zero_of_no_sems (by decide) r.2⟩) (InDwReferenceIdeal.Value.run m g)

theorem algebraic_InDw : algebraic_InDwIdeal_InDwReferenceIdeal := by
  intro m g m' g' _ h
  refine ⟨fun c => InDwReferenceIdeal.Read.val_main_v6 (F := Ideal) (InDwIdeal.Prod.A m c) (InDwIdeal.Prod.B m c),
    (θ_run InDwIdeal.defs _ _).mono (fun r h c => ⟨(h c).1.trans (InDwIdeal.Prod.final m c), (h c).2⟩) (InDwIdeal.Value.run_blocks m g),
    (θ_run InDwReferenceIdeal.defs _ _).mono (fun r h' c => ⟨(h' c).1.trans ?_, (h' c).2⟩) (InDwReferenceIdeal.Value.run m' g')⟩
  obtain ⟨a0, a1⟩ := h c
  rw [a0, a1]
  rfl

theorem frame_InFwd : quiescent_InFwdReferenceIdeal := fun m g _ =>
  (θ_run InFwdReferenceIdeal.defs _ _).mono (fun r h => ⟨fun c => (h c).2, sem_eq_zero_of_no_sems (by decide) r.2⟩) (InFwdReferenceIdeal.Value.run m g)

theorem algebraic_InFwd : algebraic_InFwdIdeal_InFwdReferenceIdeal := by
  intro m g m' g' _ h
  refine ⟨fun c => InFwdReferenceIdeal.Read.val_main_v4 (F := Ideal) (InFwdIdeal.Prod.A m c) (InFwdIdeal.Prod.B m c),
    (θ_run InFwdIdeal.defs _ _).mono (fun r h c => ⟨(h c).1.trans (InFwdIdeal.Prod.final m c), (h c).2⟩) (InFwdIdeal.Value.run_blocks m g),
    (θ_run InFwdReferenceIdeal.defs _ _).mono (fun r h' c => ⟨(h' c).1.trans ?_, (h' c).2⟩) (InFwdReferenceIdeal.Value.run m' g')⟩
  obtain ⟨a0, a1⟩ := h c
  rw [a0, a1]
  rfl

theorem frame_InTail : quiescent_InTailReferenceIdeal := fun m g _ =>
  (θ_run InTailReferenceIdeal.defs _ _).mono (fun r h => ⟨fun c => (h c).2, sem_eq_zero_of_no_sems (by decide) r.2⟩) (InTailReferenceIdeal.Value.run m g)

theorem algebraic_InTail : algebraic_InTailIdeal_InTailReferenceIdeal := by
  intro m g m' g' _ h
  refine ⟨fun c => InTailReferenceIdeal.Read.val_main_v3 (F := Ideal) (InTailIdeal.Prod.A m c) (InTailIdeal.Prod.B m c),
    (θ_run InTailIdeal.defs _ _).mono (fun r h c => ⟨(h c).1.trans (InTailIdeal.Prod.final m c), (h c).2⟩) (InTailIdeal.Value.run_blocks m g),
    (θ_run InTailReferenceIdeal.defs _ _).mono (fun r h' c => ⟨(h' c).1.trans ?_, (h' c).2⟩) (InTailReferenceIdeal.Value.run m' g')⟩
  obtain ⟨a0, a1⟩ := h c
  rw [a0, a1]
  rfl

theorem frame_BrFwd : quiescent_BrFwdReferenceIdeal := fun m g _ =>
  (θ_run BrFwdReferenceIdeal.defs _ _).mono (fun r h => ⟨fun c => (h c).2, sem_eq_zero_of_no_sems (by decide) r.2⟩) (BrFwdReferenceIdeal.Value.run m g)

theorem algebraic_BrFwd : algebraic_BrFwdIdeal_BrFwdReferenceIdeal := by
  intro m g m' g' _ h
  refine ⟨fun c => BrFwdReferenceIdeal.Read.val_main_v4 (F := Ideal) (BrFwdIdeal.Prod.A m c) (BrFwdIdeal.Prod.B m c),
    (θ_run BrFwdIdeal.defs _ _).mono (fun r h c => ⟨(h c).1.trans (BrFwdIdeal.Prod.final m c), (h c).2⟩) (BrFwdIdeal.Value.run_blocks m g),
    (θ_run BrFwdReferenceIdeal.defs _ _).mono (fun r h' c => ⟨(h' c).1.trans ?_, (h' c).2⟩) (BrFwdReferenceIdeal.Value.run m' g')⟩
  obtain ⟨a0, a1⟩ := h c
  rw [a0, a1]
  rfl

theorem frame_FoxFwd : quiescent_FoxFwdReferenceIdeal := fun m g _ =>
  (θ_run FoxFwdReferenceIdeal.defs _ _).mono (fun r h => ⟨fun c => (h c).2, sem_eq_zero_of_no_sems (by decide) r.2⟩) (FoxFwdReferenceIdeal.Value.run m g)

theorem algebraic_FoxFwd : algebraic_FoxFwdIdeal_FoxFwdReferenceIdeal := by
  intro m g m' g' _ h
  refine ⟨fun c => FoxFwdReferenceIdeal.Read.val_main_v3 (F := Ideal) (FoxFwdIdeal.Prod.A m c) (FoxFwdIdeal.Prod.B m c),
    (θ_run FoxFwdIdeal.defs _ _).mono (fun r h c => ⟨(h c).1.trans (FoxFwdIdeal.Prod.final m c), (h c).2⟩) (FoxFwdIdeal.Value.run_blocks m g),
    (θ_run FoxFwdReferenceIdeal.defs _ _).mono (fun r h' c => ⟨(h' c).1.trans ?_, (h' c).2⟩) (FoxFwdReferenceIdeal.Value.run m' g')⟩
  obtain ⟨a0, a1⟩ := h c
  rw [a0, a1]
  rfl

theorem frame_GateFwd : quiescent_GateFwdReferenceIdeal := fun m g _ =>
  (θ_run GateFwdReferenceIdeal.defs _ _).mono (fun r h => ⟨fun c => (h c).2, sem_eq_zero_of_no_sems (by decide) r.2⟩) (GateFwdReferenceIdeal.Value.run m g)

theorem algebraic_GateFwd : algebraic_GateFwdIdeal_GateFwdReferenceIdeal := by
  intro m g m' g' _ h
  refine ⟨fun c => GateFwdReferenceIdeal.Read.val_main_v4 (F := Ideal) (GateFwdIdeal.Prod.A m c) (GateFwdIdeal.Prod.B m c),
    (θ_run GateFwdIdeal.defs _ _).mono (fun r h c => ⟨(h c).1.trans (GateFwdIdeal.Prod.final m c), (h c).2⟩) (GateFwdIdeal.Value.run_blocks m g),
    (θ_run GateFwdReferenceIdeal.defs _ _).mono (fun r h' c => ⟨(h' c).1.trans ?_, (h' c).2⟩) (GateFwdReferenceIdeal.Value.run m' g')⟩
  obtain ⟨a0, a1⟩ := h c
  rw [a0, a1]
  rfl

theorem frame_OFwd : quiescent_OFwdReferenceIdeal := fun m g _ =>
  (θ_run OFwdReferenceIdeal.defs _ _).mono (fun r h => ⟨fun c => (h c).2, sem_eq_zero_of_no_sems (by decide) r.2⟩) (OFwdReferenceIdeal.Value.run m g)

theorem algebraic_OFwd : algebraic_OFwdIdeal_OFwdReferenceIdeal := by
  intro m g m' g' _ h
  refine ⟨fun c => OFwdReferenceIdeal.Read.val_main_v2 (F := Ideal) (OFwdIdeal.Prod.A m c) (OFwdIdeal.Prod.B m c),
    (θ_run OFwdIdeal.defs _ _).mono (fun r h c => ⟨(h c).1.trans (OFwdIdeal.Prod.final m c), (h c).2⟩) (OFwdIdeal.Value.run_blocks m g),
    (θ_run OFwdReferenceIdeal.defs _ _).mono (fun r h' c => ⟨(h' c).1.trans ?_, (h' c).2⟩) (OFwdReferenceIdeal.Value.run m' g')⟩
  obtain ⟨a0, a1⟩ := h c
  rw [a0, a1]
  rfl

theorem frame_UpFwd : quiescent_UpFwdReferenceIdeal := fun m g _ =>
  (θ_run UpFwdReferenceIdeal.defs _ _).mono (fun r h => ⟨fun c => (h c).2, sem_eq_zero_of_no_sems (by decide) r.2⟩) (UpFwdReferenceIdeal.Value.run m g)

theorem algebraic_UpFwd : algebraic_UpFwdIdeal_UpFwdReferenceIdeal := by
  intro m g m' g' _ h
  refine ⟨fun c => UpFwdReferenceIdeal.Read.val_main_v4 (F := Ideal) (UpFwdIdeal.Prod.A m c) (UpFwdIdeal.Prod.B m c),
    (θ_run UpFwdIdeal.defs _ _).mono (fun r h c => ⟨(h c).1.trans (UpFwdIdeal.Prod.final m c), (h c).2⟩) (UpFwdIdeal.Value.run_blocks m g),
    (θ_run UpFwdReferenceIdeal.defs _ _).mono (fun r h' c => ⟨(h' c).1.trans ?_, (h' c).2⟩) (UpFwdReferenceIdeal.Value.run m' g')⟩
  obtain ⟨a0, a1⟩ := h c
  rw [a0, a1]
  rfl

theorem frame_DownFwd : quiescent_DownFwdReferenceIdeal := fun m g _ =>
  (θ_run DownFwdReferenceIdeal.defs _ _).mono (fun r h => ⟨fun c => (h c).2, sem_eq_zero_of_no_sems (by decide) r.2⟩) (DownFwdReferenceIdeal.Value.run m g)

theorem algebraic_DownFwd : algebraic_DownFwdIdeal_DownFwdReferenceIdeal := by
  intro m g m' g' _ h
  refine ⟨fun c => DownFwdReferenceIdeal.Read.val_main_v2 (F := Ideal) (DownFwdIdeal.Prod.A m c) (DownFwdIdeal.Prod.B m c),
    (θ_run DownFwdIdeal.defs _ _).mono (fun r h c => ⟨(h c).1.trans (DownFwdIdeal.Prod.final m c), (h c).2⟩) (DownFwdIdeal.Value.run_blocks m g),
    (θ_run DownFwdReferenceIdeal.defs _ _).mono (fun r h' c => ⟨(h' c).1.trans ?_, (h' c).2⟩) (DownFwdReferenceIdeal.Value.run m' g')⟩
  obtain ⟨a0, a1⟩ := h c
  rw [a0, a1]
  rfl

end Cert.Products

end
-- ==== Proof.Rows.lean ====
module

public import proofs.«01_k».proof.Proof.Steps
public import Idealize.ShloMosaic.Lib.WritesUnit
public import Idealize.ShloMosaic.Lib.Pointwise

/-! # Loads and stores of one row of a buffer of eight -/

@[expose] public section

noncomputable section

namespace Cert.Rows

open Idealize.ShloMosaic

variable {sig : RefSig} {κ : Kind} {sp : Space} {ty : EltTy} (v : View sig κ sp ⟨2, ![8, 1024]⟩ ty) (f : v.ty.Contents (Elt Ideal))

/-- A load of row `q`. -/
theorem load_row (q : Fin 8) (o : ℕ) (ho : o = q.val) (inb : ∀ a, (![o, 0] : Fin 2 → ℕ) a + (![1, 1024] : Fin 2 → ℕ) a ≤ (![8, 1024] : Fin 2 → ℕ) a) (e : Fin 1024) :
    View.readAt (Elt Ideal) v (Rect.unit (s := ⟨2, ![8, 1024]⟩) ![o, 0] ![1, 1024] inb).toLoadRect f (ix2 (0 : Fin 1) e) = v.read (Elt Ideal) f (ix2 q e) := by
  refine congrArg (v.read (Elt Ideal) f) (funext fun a => ?_)
  match a with
  | ⟨0, _⟩ => exact Fin.ext (by show o + 1 * 0 = q.val; omega)
  | ⟨1, _⟩ => exact Fin.ext (by show 0 + 1 * e.val = e.val; omega)

/-- The last store, of row `o`, at that row and at another. -/
theorem row_hit (q : Fin 8) (o : ℕ) (ho : o = q.val) (inb : ∀ a, (![o, 0] : Fin 2 → ℕ) a + (![1, 1024] : Fin 2 → ℕ) a ≤ (![8, 1024] : Fin 2 → ℕ) a)
    (w : (Rect.unit (s := ⟨2, ![8, 1024]⟩) ![o, 0] ![1, 1024] inb).shape.Idx → Elt Ideal ty) (L : List (View.Piece (Elt Ideal) ⟨2, ![8, 1024]⟩ ty)) (e : Fin 1024) :
    v.read (Elt Ideal) (v.writes (Elt Ideal) f ((⟨Rect.unit (s := ⟨2, ![8, 1024]⟩) ![o, 0] ![1, 1024] inb, w⟩ : View.Piece (Elt Ideal) ⟨2, ![8, 1024]⟩ ty) :: L)) (ix2 q e)
      = w (ix2 (0 : Fin 1) e) := by
  refine View.read_writes_cons_unit_of_mem v f inb w L _ (ix2 (0 : Fin 1) e) rfl fun a => ?_
  match a with
  | ⟨0, _⟩ => show q.val = o + 0; omega
  | ⟨1, _⟩ => show e.val = 0 + e.val; omega

theorem row_miss (q : Fin 8) (o : ℕ) (ho : q.val ≠ o) (inb : ∀ a, (![o, 0] : Fin 2 → ℕ) a + (![1, 1024] : Fin 2 → ℕ) a ≤ (![8, 1024] : Fin 2 → ℕ) a)
    (w : (Rect.unit (s := ⟨2, ![8, 1024]⟩) ![o, 0] ![1, 1024] inb).shape.Idx → Elt Ideal ty) (L : List (View.Piece (Elt Ideal) ⟨2, ![8, 1024]⟩ ty)) (e : Fin 1024) :
    v.read (Elt Ideal) (v.writes (Elt Ideal) f ((⟨Rect.unit (s := ⟨2, ![8, 1024]⟩) ![o, 0] ![1, 1024] inb, w⟩ : View.Piece (Elt Ideal) ⟨2, ![8, 1024]⟩ ty) :: L)) (ix2 q e)
      = v.read (Elt Ideal) (v.writes (Elt Ideal) f L) (ix2 q e) := by
  refine View.read_writes_cons_unit_of_not_mem v f inb w L _ rfl 0 ?_
  show q.val < o ∨ o + 1 ≤ q.val
  omega

/-- A store over all eight rows. -/
theorem all_hit (inb : ∀ a, (![0, 0] : Fin 2 → ℕ) a + (![8, 1024] : Fin 2 → ℕ) a ≤ (![8, 1024] : Fin 2 → ℕ) a)
    (w : (Rect.unit (s := ⟨2, ![8, 1024]⟩) ![0, 0] ![8, 1024] inb).shape.Idx → Elt Ideal ty) (L : List (View.Piece (Elt Ideal) ⟨2, ![8, 1024]⟩ ty)) (q : Fin 8) (e : Fin 1024) :
    v.read (Elt Ideal) (v.writes (Elt Ideal) f ((⟨Rect.unit (s := ⟨2, ![8, 1024]⟩) ![0, 0] ![8, 1024] inb, w⟩ : View.Piece (Elt Ideal) ⟨2, ![8, 1024]⟩ ty) :: L)) (ix2 q e)
      = w (ix2 q e) :=
  View.read_writes_cons_unit_of_mem v f inb w L _ (ix2 q e) Steps.hz fun a => (Nat.zero_add _).symm

/-- Row `r` of the block of 512 rows of point `t`. -/
abbrev row (t : ℕ) (r : Fin 512) : Fin 2048 := Steps.at_ 4 512 t r

end Cert.Rows

end
-- ==== Proof.ResBwd.lean ====
module

public import proofs.«01_k».proof.Defs
public import proofs.«01_k».proof.Proof.Gen.ResBwd.Frame
public import proofs.«01_k».proof.Proof.Gen.ResBwdIdeal.Frame
public import proofs.«01_k».proof.Proof.Gen.ResBwdIdeal.Value
public import proofs.«01_k».proof.Proof.Gen.ResBwdReferenceIdeal.Run
public import proofs.«01_k».proof.Proof.Gen.ResBwdReferenceIdeal.Read
public import proofs.«01_k».proof.Proof.Rows
public import proofs.«01_k».proof.Proof.Lies

/-! # The gradient of the gated residual

Each grid point takes 512 rows; the gate's gradient is added up over the four points. -/

@[expose] public section

noncomputable section

namespace Cert.ResBwdIdeal.Prod

open Idealize.ShloMosaic Idealize.ShloMosaic.TcCoe
open Idealize.SL.Sem
open Idealize.ShloMosaic.Pipeline (Dat Cfg Window)
open Cert.Steps Cert.Rows
open Cert.ResBwdIdeal.Gen
open Cert.ResBwdReferenceIdeal.Read

/-! ## What one point leaves -/

theorem k_dm (d : Vec Ideal S512x1024 .f32) (g : Vec Ideal S1x1024 .f32) (r : Fin 512) (e : Fin 1024) :
    k0_pay1 (F := Ideal) d g (ix2 r e) = g (ix2 0 e) * d (ix2 r e) := by
  unfold k0_pay1
  pointwise

theorem k_dg (d y : Vec Ideal S512x1024 .f32) (a : Vec Ideal S1x1024 .f32) (e : Fin 1024) :
    k0_pay3 (F := Ideal) d a y (ix2 0 e) = a (ix2 0 e) + ∑ r : Fin 512, d (ix2 r e) * y (ix2 r e) := by
  unfold k0_pay3
  pointwise

theorem k_zero (x : S8x1024.Idx) : k0_pay2 (F := Ideal) x = 0 := by
  unfold k0_pay2
  pointwise

/-- What 512 rows add to an entry of the gate's gradient. -/
def part_at (d y : Vec Ideal S512x1024 .f32) (k : Fin 8) (e : Fin 1024) : EReal := if k.val = 0 then ∑ r : Fin 512, d (ix2 r e) * y (ix2 r e) else 0

section Cases
variable (c : Dev nD) (i : grid0.Coords) (p1 : Memref sig .tc .vmem S512x1024 .f32) (h1 : p1.IsWhole) (p2 : Memref sig .tc .vmem S512x1024 .f32) (h2 : p2.IsWhole)
  (p3 : Memref sig .tc .vmem S1x1024 .f32) (h3 : p3.IsWhole) (p4 : Memref sig .tc .vmem S512x1024 .bf16) (h4 : p4.IsWhole) (p5 : Memref sig .tc .vmem S8x1024 .f32) (h5 : p5.IsWhole)
  (d y : Vec Ideal S512x1024 .f32) (g : Vec Ideal S1x1024 .f32) (o : Vec Ideal S8x1024 .f32)

theorem dm_A (c0 : cond0_0 i) (r : Fin 512) (e : Fin 1024) : out0_A_3 c i p1 h1 p2 h2 p3 h3 p4 h4 p5 h5 c0 d y g (ix2 r e) = g (ix2 0 e) * d (ix2 r e) := by
  unfold out0_A_3
  rw [View.read_writes_junk_eq_canon]
  unfold kernelRun0_A
  dsimp only
  rw [View.canon_unit_zero hz, load_whole p1 h1 d hz, load_whole p3 h3 g hz]
  exact k_dm d g r e

theorem dm_B (c0 : ¬cond0_0 i) (r : Fin 512) (e : Fin 1024) : out0_B_3 c i p1 h1 p2 h2 p3 h3 p4 h4 p5 h5 c0 d y g o (ix2 r e) = g (ix2 0 e) * d (ix2 r e) := by
  unfold out0_B_3
  rw [View.read_writes_junk_eq_canon]
  unfold kernelRun0_B
  dsimp only
  rw [View.canon_unit_zero hz, load_whole p1 h1 d hz, load_whole p3 h3 g hz]
  exact k_dm d g r e

/-- The gate's gradient: the first point's starts from zero, a later one's is added to what the buffer holds; the other rows stay. -/
theorem dg_A (c0 : cond0_0 i) (k : Fin 8) (e : Fin 1024) : out0_A_4 c i p1 h1 p2 h2 p3 h3 p4 h4 p5 h5 c0 d y g (ix2 k e)
    = part_at d y k e := by
  unfold part_at out0_A_4
  unfold kernelRun0_A
  dsimp only
  rw [load_whole p1 h1 d hz, load_whole p2 h2 y hz]
  by_cases hk : k.val = 0
  · obtain rfl : k = 0 := Fin.ext hk
    rw [if_pos hk]
    refine (row_hit _ _ 0 0 rfl _ _ _ e).trans ((k_dg d y _ e).trans ((congrArg (· + _) ?_).trans (zero_add _)))
    exact (load_row _ _ 0 0 rfl _ e).trans ((all_hit _ _ _ _ _ 0 e).trans (k_zero _))
  · rw [if_neg hk]
    exact (row_miss _ _ k 0 hk _ _ _ e).trans ((all_hit _ _ _ _ _ k e).trans (k_zero _))

theorem dg_B (c0 : ¬cond0_0 i) (k : Fin 8) (e : Fin 1024) : out0_B_4 c i p1 h1 p2 h2 p3 h3 p4 h4 p5 h5 c0 d y g o (ix2 k e)
    = o (ix2 k e) + part_at d y k e := by
  unfold part_at out0_B_4
  unfold kernelRun0_B
  dsimp only
  rw [load_whole p1 h1 d hz, load_whole p2 h2 y hz]
  by_cases hk : k.val = 0
  · obtain rfl : k = 0 := Fin.ext hk
    rw [if_pos hk]
    refine (row_hit _ _ 0 0 rfl _ _ _ e).trans ((k_dg d y _ e).trans (congrArg (· + _) ?_))
    exact (load_row _ _ 0 0 rfl _ e).trans (congrFun (h5.read_unread o) _)
  · rw [if_neg hk, add_zero]
    exact (row_miss _ _ k 0 hk _ _ _ e).trans (congrFun (h5.read_unread o) _)

end Cases

/-! ## Where the blocks lie -/

theorem lt_N (t : Fin cfg0.N) : t.val < 4 := lt_of_lt_of_eq t.isLt N_0
theorem rows_at (t : Fin cfg0.N) (r : Fin 512) : t.val * 512 + r.val = (row t.val r).val := by
  show _ = t.val % 4 * 512 + r.val
  rw [Nat.mod_eq_of_lt (lt_N t)]

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = 0 ∧ win0_2.index t 1 = 0 := by decide +kernel
theorem index_3 : ∀ t : Fin cfg0.N, win0_3.index t 0 = t.val ∧ win0_3.index t 1 = 0 := by decide +kernel
theorem index_4 : ∀ t : Fin cfg0.N, win0_4.index t 0 = 0 ∧ win0_4.index t 1 = 0 := by decide +kernel

/-- A window of 512 rows places its blocks one under the other; the other windows' block stays. -/
theorem emb_3 (t : Fin cfg0.N) (r : Fin 512) (e : Fin 1024) : (win0_3.rect t).emb (ix2 r e) = ix2 (row t.val r) e :=
  lies (index_3 t) (Window.rect_emb_val win0_3 t _ 0) (Window.rect_emb_val win0_3 t _ 1) (rows_at t r) (Nat.zero_add _)
theorem emb_4 (t : Fin cfg0.N) (r : Fin 8) (e : Fin 1024) : (win0_4.rect t).emb (ix2 r e) = ix2 r e :=
  lies (index_4 t) (Window.rect_emb_val win0_4 t _ 0) (Window.rect_emb_val win0_4 t _ 1) (Nat.zero_add _) (Nat.zero_add _)

/-! ## The results -/

variable (m : (ℓ : Loc nD τ sig) → Buf (Elt Ideal) ℓ) (c : Dev nD)

/-- The arguments: the cotangent, the branch's value and the gate. -/
def D : S2048x1024.Idx → EReal := m ((c : Thread nD τ).loc main_arg0)
def Y : S2048x1024.Idx → EReal := m ((c : Thread nD τ).loc main_arg1)
def G : S1x1024.Idx → EReal := m ((c : Thread nD τ).loc main_arg2)

theorem iblk_0 (t : Fin cfg0.N) (r : Fin 512) (e : Fin 1024) : (iblk m c 0 t : S512x1024.Idx → EReal) (ix2 r e) = D m c (ix2 (row t.val r) e) :=
  (congrFun (V_main_arg0 m c) _).trans (congrArg (D m c) (lies (index_0 t) (Window.rect_emb_val win0_0 t _ 0) (Window.rect_emb_val win0_0 t _ 1) (rows_at t r) (Nat.zero_add _)))
theorem iblk_1 (t : Fin cfg0.N) (r : Fin 512) (e : Fin 1024) : (iblk m c 1 t : S512x1024.Idx → EReal) (ix2 r e) = Y m c (ix2 (row t.val r) e) :=
  (congrFun (V_main_arg1 m c) _).trans (congrArg (Y m c) (lies (index_1 t) (Window.rect_emb_val win0_1 t _ 0) (Window.rect_emb_val win0_1 t _ 1) (rows_at t r) (Nat.zero_add _)))
theorem iblk_2 (t : Fin cfg0.N) (r : Fin 1) (e : Fin 1024) : (iblk m c 2 t : S1x1024.Idx → EReal) (ix2 r e) = G m c (ix2 r e) :=
  (congrFun (V_main_arg2 m c) _).trans (congrArg (G m c) (lies (index_2 t) (Window.rect_emb_val win0_2 t _ 0) (Window.rect_emb_val win0_2 t _ 1) (Nat.zero_add _) (Nat.zero_add _)))

theorem r_dm (i : Fin 2048) (e : Fin 1024) : val_main_v10 (F := Ideal) (D m c) (G m c) (ix2 i e) = G m c (ix2 0 e) * D m c (ix2 i e) := by
  unfold val_main_v10 val_main_v5 val_main_v4 val_main_v1 val_main_v0
  pointwise

theorem r_dg (k : Fin 8) (e : Fin 1024) : val_main_v13 (F := Ideal) (D m c) (Y m c) (ix2 k e)
    = if k.val = 0 then ∑ i : Fin 2048, D m c (ix2 i e) * Y m c (ix2 i e) else 0 := by
  unfold val_main_v13 val_main_v12 val_main_v11 val_main_v9 val_main_v8 val_main_v7 val_main_v6 val_main_cst val_main_cst_0 val_main_cst_1
  pointwise
  by_cases h : k.val = 0
  · refine (dif_pos (by omega)).trans ((Fintype.sum_unique _).trans (if_pos h).symm)
  · exact (dif_neg (by omega)).trans (if_neg h).symm

theorem flushed_3 (t : Fin cfg0.N) :
    (dats m 0 c).flushed 3 t = (win0_3.blk t).view.read (Elt Ideal) (val_main_v10 (F := Ideal) (D m c) (G m c) : S2048x1024.Idx → EReal) := by
  refine funext fun (x : S512x1024.Idx) => ?_
  obtain ⟨r, e, rfl⟩ : ∃ (r : Fin 512) (e : Fin 1024), x = ix2 r e := ⟨x 0, x 1, ValueIdx.eq_ix2 x⟩
  refine Eq.trans ?_ ((congrArg (val_main_v10 (F := Ideal) (D m c) (G m c)) (emb_3 t r e)).trans (r_dm m c _ e)).symm
  have hb := congrArg₂ (fun x y : EReal => x * y) (iblk_2 m c t 0 e) (iblk_0 m c t r e)
  by_cases h0 : t.val % 4 = 0
  · rw [Value.flushed3_A m c t h0]
    exact (dm_A c _ _ _ _ _ _ _ _ _ _ _ _ _ _ _ r e).trans hb
  · rw [Value.flushed3_B m c t h0]
    exact (dm_B c _ _ _ _ _ _ _ _ _ _ _ _ _ _ _ _ r e).trans hb

/-- Block `j`'s share of an entry of the gate's gradient. -/
def part (k : Fin 8) (e : Fin 1024) (j : ℕ) : EReal := if k.val = 0 then ∑ r : Fin 512, D m c (ix2 (row j r) e) * Y m c (ix2 (row j r) e) else 0

theorem part_blk (t : Fin cfg0.N) (k : Fin 8) (e : Fin 1024) :
    part_at (iblk m c 0 t) (iblk m c 1 t) k e = part m c k e t.val := by
  unfold part_at part
  simp only [iblk_0, iblk_1]

/-- What the gate's buffer holds after each point. -/
theorem acc_at (k : Fin 8) (e : Fin 1024) : ∀ t (ht : t < cfg0.N), t % 5 + 1 < 5 →
    (outsAt0 m c t ht).2 (ix2 k e) = ∑ j ∈ Finset.range (t % 5 + 1), part m c k e j :=
  fold 5 cfg0.N (by decide) (fun t ht => (outsAt0 m c t ht).2 (ix2 k e)) (fun _ => part m c k e)
    (fun t ht h => by
      have ht' : t < 4 := lt_of_lt_of_eq ht N_0
      rw [outsAt0_A m c ⟨t, ht⟩ (by dsimp only; omega)]
      dsimp only
      refine (dg_A c _ _ _ _ _ _ _ _ _ _ _ _ _ _ _ k e).trans ((part_blk m c ⟨t, ht⟩ k e).trans (congrArg (part m c k e) ?_))
      dsimp only
      omega)
    (fun t ht h h' => by
      have ht' : t < 4 := lt_of_lt_of_eq ht N_0
      rw [outsAt0_B m c ⟨t, ht⟩ (by dsimp only; omega)]
      dsimp only
      refine (dg_B c _ _ _ _ _ _ _ _ _ _ _ _ _ _ _ _ k e).trans (congrArg₂ (· + ·) rfl ((part_blk m c ⟨t, ht⟩ k e).trans (congrArg (part m c k e) ?_)))
      dsimp only
      omega)

theorem flushed_4 (t : Fin cfg0.N) (ht : (cfg0.win 4).flush t = true) :
    (dats m 0 c).flushed 4 t = (win0_4.blk t).view.read (Elt Ideal) (val_main_v13 (F := Ideal) (D m c) (Y m c) : S8x1024.Idx → EReal) := by
  have h3 : t.val % 4 = 3 := (flush0_4 t).mp ht
  have hN := lt_N t
  rw [Value.flushed4]
  refine funext fun (x : S8x1024.Idx) => ?_
  obtain ⟨k, e, rfl⟩ : ∃ (k : Fin 8) (e : Fin 1024), x = ix2 k e := ⟨x 0, x 1, ValueIdx.eq_ix2 x⟩
  refine Eq.trans ?_ ((congrArg (val_main_v13 (F := Ideal) (D m c) (Y m c)) (emb_4 t k e)).trans (r_dg m c k e)).symm
  refine (acc_at m c k e t.val t.isLt (by omega)).trans ?_
  rw [show t.val % 5 + 1 = 4 by omega]
  unfold part
  by_cases hk : k.val = 0
  · simp only [if_pos hk]
    exact sum_blocks 4 512 fun i => D m c (ix2 i e) * Y m c (ix2 i e)
  · simp only [if_neg hk]
    exact Finset.sum_const_zero

theorem cover_3 (x : S2048x1024.Idx) : ∃ t : Fin cfg0.N, (cfg0.win 3).flush t = true ∧ x ∈ ((cfg0.win 3).blk t).view.set := by
  obtain ⟨i, y, rfl⟩ : ∃ (i : Fin 2048) (y : Fin 1024), x = ix2 i y := ⟨x 0, x 1, ValueIdx.eq_ix2 x⟩
  have hN : i.val / 512 < cfg0.N := lt_of_lt_of_eq (by omega : _ < 4) N_0.symm
  refine ⟨⟨_, hN⟩, flush0_3 _, Finset.mem_map.mpr ⟨ix2 (⟨i.val % 512, by omega⟩ : Fin 512) y, Finset.mem_univ _, (emb_3 ⟨_, hN⟩ _ y).trans (congrArg (ix2 · y) (Fin.ext ?_))⟩⟩
  show i.val / 512 % 4 * 512 + i.val % 512 = i.val
  omega
theorem cover_4 (x : S8x1024.Idx) : ∃ t : Fin cfg0.N, (cfg0.win 4).flush t = true ∧ x ∈ ((cfg0.win 4).blk t).view.set := by
  obtain ⟨k, y, rfl⟩ : ∃ (k : Fin 8) (y : Fin 1024), x = ix2 k y := ⟨x 0, x 1, ValueIdx.eq_ix2 x⟩
  have hN : 3 < cfg0.N := lt_of_lt_of_eq (by decide : 3 < 4) N_0.symm
  exact ⟨⟨3, hN⟩, (flush0_4 ⟨3, hN⟩).mpr (by dsimp only), Finset.mem_map.mpr ⟨ix2 k y, Finset.mem_univ _, emb_4 ⟨3, hN⟩ k y⟩⟩

/-- The kernel's two results are the reference's. -/
theorem final_3 : (dats m 0 c).arrAt 3 cfg0.N = (val_main_v10 (F := Ideal) (D m c) (G m c) : S2048x1024.Idx → EReal) :=
  (dats m 0 c).arrAt_eq_of_cover 3 _ (fun t _ => flushed_3 m c t) cover_3
theorem final_4 : (dats m 0 c).arrAt 4 cfg0.N = (val_main_v13 (F := Ideal) (D m c) (Y m c) : S8x1024.Idx → EReal) :=
  (dats m 0 c).arrAt_eq_of_cover 4 _ (fun t ht => flushed_4 m c t ht) cover_4

end Cert.ResBwdIdeal.Prod

namespace Cert.Products

open Idealize.ShloMosaic Idealize.ShloMosaic.TcCoe Idealize.SL.Sem
open Cert.ResBwdIdeal.Prod

theorem frame_ResBwd : quiescent_ResBwdReferenceIdeal := fun m g _ =>
  (θ_run ResBwdReferenceIdeal.defs _ _).mono (fun r h => ⟨fun c => (h c).2.2, sem_eq_zero_of_no_sems (by decide) r.2⟩) (ResBwdReferenceIdeal.Value.run m g)

theorem algebraic_ResBwd : algebraic_ResBwdIdeal_ResBwdReferenceIdeal := by
  intro m g m' g' _ h
  refine ⟨fun c => ResBwdReferenceIdeal.Read.val_main_v10 (F := Ideal) (D m c) (G m c),
    fun c => ResBwdReferenceIdeal.Read.val_main_v13 (F := Ideal) (D m c) (Y m c),
    (θ_run ResBwdIdeal.defs _ _).mono (fun r h c => ⟨(h c).1.trans (final_3 m c), (h c).2.1.trans (final_4 m c), (h c).2.2⟩) (ResBwdIdeal.Value.run_blocks m g),
    (θ_run ResBwdReferenceIdeal.defs _ _).mono (fun r h' c => ⟨(h' c).1.trans ?_, (h' c).2.1.trans ?_, (h' c).2.2⟩) (ResBwdReferenceIdeal.Value.run m' g')⟩
  all_goals
    obtain ⟨a0, a1, a2⟩ := h c
  · rw [ResBwdReferenceIdeal.Read.val_main_v10_eq, a0, a2]
    rfl
  · rw [ResBwdReferenceIdeal.Read.val_main_v13_eq, a0, a1]
    rfl

end Cert.Products

end
-- ==== Proof.NormMath.lean ====
module

public import Idealize.ShloMosaic.Lib.Pointwise
public import Idealize.ShloMosaic.PureOps.Ideal.Laws

/-! # The root mean square norm's gradient, over all extended reals

The mean square is either `⊤`, where the factor is `0` and both programs leave the residual's cotangent, or a positive
real, where the factor's square is its inverse. -/

@[expose] public section

noncomputable section

namespace Cert.NormBwdIdeal.Row

open Idealize.ShloMosaic

/-- The constants: the number of columns and its inverse, the shift under the root, and the derivative's half. -/
def width : EReal := Ideal.ofBits .f32 0x44800000#32
def eps : EReal := Ideal.ofBits .f32 0x358637BD#32
def half : EReal := Ideal.ofBits .f32 0xBF000000#32

theorem width_eq : width = ((1024 : ℝ) : EReal) := by
  unfold width
  simp [Ideal.ofBits, Ideal.ieee, -EReal.coe_mul, -EReal.coe_natCast]; norm_num

theorem half_eq : half = ((-(1 / 2) : ℝ) : EReal) := by
  unfold half
  simp [Ideal.ofBits, Ideal.ieee, -EReal.coe_mul, -EReal.coe_natCast, -EReal.coe_neg]; norm_num

theorem eps_eq : ∃ e : ℝ, 0 < e ∧ eps = (e : EReal) := by
  unfold eps
  simp [Ideal.ofBits, Ideal.ieee, -EReal.coe_mul, -EReal.coe_natCast]

/-- The mean of a row's sum, and the factor of the mean square. -/
def mean (s : EReal) : EReal := Ideal.div s width
def factor (s : EReal) : EReal := Ideal.rsqrt (mean s + eps)

theorem mean_eq (s : EReal) : mean s = s * (((1024 : ℝ)⁻¹ : ℝ) : EReal) := by
  unfold mean Ideal.div
  rw [width_eq, if_neg (by norm_num), EReal.coe_inv]

/-- A positive real, or the largest value. -/
theorem square_sum {n : ℕ} (x : Fin n → EReal) : (∑ j, x j * x j) = ⊤ ∨ ∃ s : ℝ, 0 ≤ s ∧ (∑ j, x j * x j) = (s : EReal) := by
  have h : 0 ≤ ∑ j, x j * x j := Finset.sum_nonneg fun j _ => by
    induction x j with
    | bot => simp
    | top => simp
    | coe r => exact_mod_cast mul_self_nonneg r
  generalize (∑ j, x j * x j) = t at h
  induction t with
  | bot => simp at h
  | top => exact .inl rfl
  | coe r => exact .inr ⟨r, by exact_mod_cast h, rfl⟩

/-- A real factor of at least zero moves into a sum. -/
theorem mul_sum_real {n : ℕ} (r : ℝ) (hr : 0 ≤ r) (f : Fin n → EReal) : (r : EReal) * ∑ j, f j = ∑ j, (r : EReal) * f j := by
  have h : ∀ S : Finset (Fin n), (r : EReal) * ∑ j ∈ S, f j = ∑ j ∈ S, (r : EReal) * f j := fun S => by
    induction S using Finset.induction_on with
    | empty => simp
    | insert a S ha ih =>
      rw [Finset.sum_insert ha, Finset.sum_insert ha, EReal.left_distrib_of_nonneg_of_ne_top (by exact_mod_cast hr) (EReal.coe_ne_top r), ih]
  exact h _

/-- Twice a real multiple. -/
theorem twice (y : EReal) (t : ℝ) : y * (t : EReal) + y * (t : EReal) = y * ((t + t : ℝ) : EReal) := by
  induction y with
  | coe r => norm_cast; ring
  | bot =>
    rcases lt_trichotomy t 0 with h | rfl | h
    · rw [EReal.bot_mul_coe_of_neg h, EReal.bot_mul_coe_of_neg (by linarith)]; rfl
    · simp
    · rw [EReal.bot_mul_coe_of_pos h, EReal.bot_mul_coe_of_pos (by linarith)]; rfl
  | top =>
    rcases lt_trichotomy t 0 with h | rfl | h
    · rw [EReal.top_mul_coe_of_neg h, EReal.top_mul_coe_of_neg (by linarith)]; rfl
    · simp
    · rw [EReal.top_mul_coe_of_pos h, EReal.top_mul_coe_of_pos (by linarith)]; rfl

/-- One entry of the kernel's gradient and one of the reference's: `q` the row's sum of squares, `x` and `g` the entry and
    the cotangent of the normed entry, `k` and `a` the row's sums of `g (x r)` and of `x g`, `d` the residual's cotangent. -/
def kernel_dx (q x g k d : EReal) : EReal := factor q * (g - x * factor q * mean k) + d
def slope (q a : EReal) : EReal := mean (a * (half * Ideal.div (factor q) (mean q + eps)))
def reference_dx (q x g a d : EReal) : EReal := d + g * factor q + x * slope q a + slope q a * x

theorem dx_eq {n : ℕ} (x g : Fin n → EReal) (d : EReal) (i : Fin n) :
    kernel_dx (∑ j, x j * x j) (x i) (g i) (∑ j, g j * (x j * factor (∑ j, x j * x j))) d
      = reference_dx (∑ j, x j * x j) (x i) (g i) (∑ j, x j * g j) d := by
  obtain ⟨e, he, hE⟩ := eps_eq
  unfold kernel_dx reference_dx slope
  rcases square_sum x with h | ⟨s, hs, h⟩
  · have hv : mean (∑ j, x j * x j) + eps = ⊤ := by
      rw [h, mean_eq, hE, EReal.top_mul_coe_of_pos (by norm_num)]; rfl
    have hr : factor (∑ j, x j * x j) = 0 := by
      unfold factor
      rw [hv]; rfl
    have h0 : Ideal.div 0 ⊤ = 0 := by
      unfold Ideal.div
      rw [if_neg (by simp), zero_mul]
    rw [hr, hv, h0]
    simp [mean_eq]
  · have hv : mean (∑ j, x j * x j) + eps = ((s * (1024 : ℝ)⁻¹ + e : ℝ) : EReal) := by
      rw [h, mean_eq, hE]; norm_cast
    generalize hw : s * (1024 : ℝ)⁻¹ + e = w at hv
    have hp : 0 < w := by rw [← hw]; positivity
    have hr : factor (∑ j, x j * x j) = (((Real.sqrt w)⁻¹ : ℝ) : EReal) := by
      unfold factor
      rw [hv]
      show (if w < 0 then _ else if w = 0 then _ else _) = _
      rw [if_neg (by linarith), if_neg (by linarith)]
    generalize hρ : (Real.sqrt w)⁻¹ = ρ at hr
    have hρ0 : 0 ≤ ρ := by rw [← hρ]; positivity
    have hsq : ρ * ρ = w⁻¹ := by rw [← hρ, ← mul_inv, Real.mul_self_sqrt hp.le]
    have hk : (∑ j, g j * (x j * (ρ : EReal))) = (ρ : EReal) * ∑ j, x j * g j := by
      rw [mul_sum_real ρ hρ0]
      exact Finset.sum_congr rfl fun j _ => by rw [mul_comm (g j), mul_assoc, mul_left_comm]
    have hd : Ideal.div (ρ : EReal) (w : EReal) = ((ρ * w⁻¹ : ℝ) : EReal) := by
      unfold Ideal.div
      rw [if_neg (by exact_mod_cast hp.ne'), ← EReal.coe_inv, ← EReal.coe_mul]
    rw [hr, hv, hd, hk, half_eq]
    simp only [mean_eq]
    generalize (∑ j, x j * g j) = A
    have e1 : x i * (A * (((-(1 / 2) : ℝ) : EReal) * ((ρ * w⁻¹ : ℝ) : EReal)) * (((1024 : ℝ)⁻¹ : ℝ) : EReal))
        = x i * A * ((-(1 / 2) * (ρ * w⁻¹) * (1024 : ℝ)⁻¹ : ℝ) : EReal) := by
      simp only [EReal.coe_mul]
      ac_rfl
    have e2 : (ρ : EReal) * (x i * (ρ : EReal) * ((ρ : EReal) * A * (((1024 : ℝ)⁻¹ : ℝ) : EReal)))
        = x i * A * ((ρ * ρ * ρ * (1024 : ℝ)⁻¹ : ℝ) : EReal) := by
      simp only [EReal.coe_mul]
      ac_rfl
    rw [mul_comm (A * _ * _) (x i), e1, add_assoc, twice, sub_eq_add_neg,
      EReal.left_distrib_of_nonneg_of_ne_top (by exact_mod_cast hρ0) (EReal.coe_ne_top ρ), mul_neg, e2, ← mul_neg, ← EReal.coe_neg,
      mul_comm (g i), show -(ρ * ρ * ρ * (1024 : ℝ)⁻¹) = -(1 / 2) * (ρ * w⁻¹) * (1024 : ℝ)⁻¹ + -(1 / 2) * (ρ * w⁻¹) * (1024 : ℝ)⁻¹ by rw [hsq]; ring]
    ac_rfl

end Cert.NormBwdIdeal.Row

end
-- ==== Proof.NormCols.lean ====
module

public import proofs.«01_k».proof.Proof.Gen.NormBwdIdeal.Skeleton
public import proofs.«01_k».proof.Proof.Gen.NormBwdReferenceIdeal.Read
public import proofs.«01_k».proof.Proof.NormMath
public import Idealize.ShloMosaic.Lib.Pointwise
public import Idealize.ShloMosaic.Lib.ValueIdx
public import Idealize.ShloMosaic.Lib.KernelVsHost

/-! # One entry of each result of the norm's gradient -/

@[expose] public section

noncomputable section

namespace Cert.NormBwdIdeal.Row

open Idealize.ShloMosaic Idealize.ShloMosaic.TcCoe

section Rows
variable {n : ℕ} (x h : Shape.Idx ⟨2, ![n, 1024]⟩ → EReal) (g s : Shape.Idx ⟨2, ![1, 1024]⟩ → EReal)

/-- A row's sum of squares, its normed entries, and the cotangents of the scaled and of the normed entries. -/
def squares (i : Fin n) : EReal := ∑ e : Fin 1024, x (ix2 i e) * x (ix2 i e)
def normed (i : Fin n) (e : Fin 1024) : EReal := x (ix2 i e) * factor (squares x i)
def scaled (i : Fin n) (e : Fin 1024) : EReal := h (ix2 i e) * (1 + s (ix2 0 e))
def cot (i : Fin n) (e : Fin 1024) : EReal := scaled h s i e * g (ix2 0 e)

/-- A row's entry in the gradients of the gain, of the scale and of the shift, by the row of the result. -/
def stat (k : ℕ) (i : Fin n) (e : Fin 1024) : EReal :=
  if k = 0 then scaled h s i e * normed x i e else if k = 1 then h (ix2 i e) * (normed x i e * g (ix2 0 e)) else if k = 2 then h (ix2 i e) else 0
end Rows

/-! ## The kernel -/

section Kernel
open Cert.NormBwdIdeal.Gen

variable (x h d N Y : Vec Ideal S512x1024 .f32) (g s a : Vec Ideal S1x1024 .f32)

theorem k_factor (i : Fin 512) : k0_pay4 (F := Ideal) x (ix2 i 0) = factor (squares x i) := by
  unfold k0_pay4
  pointwise
  rfl

theorem k_normed (i : Fin 512) (e : Fin 1024) : k0_pay5 (F := Ideal) x (ix2 i e) = normed x i e := by
  unfold normed
  rw [← k_factor]
  unfold k0_pay5
  generalize k0_pay4 (F := Ideal) x = z at *
  pointwise

theorem k_scaled (i : Fin 512) (e : Fin 1024) : k0_pay6 (F := Ideal) h s (ix2 i e) = scaled h s i e := by
  unfold k0_pay6 scaled
  pointwise

theorem k_dx (i : Fin 512) (e : Fin 1024) : k0_pay7 (F := Ideal) x h g s d (ix2 i e)
    = kernel_dx (squares x i) (x (ix2 i e)) (cot h g s i e) (∑ j : Fin 1024, cot h g s i j * normed x i j) (d (ix2 i e)) := by
  have e1 : x (ix2 i e) * factor (squares x i) = normed x i e := rfl
  unfold kernel_dx cot
  rw [e1]
  simp only [← k_normed, ← k_scaled, ← k_factor]
  unfold k0_pay7
  generalize k0_pay4 (F := Ideal) x = z at *
  generalize k0_pay5 (F := Ideal) x = z' at *
  generalize k0_pay6 (F := Ideal) h s = z'' at *
  pointwise
  rfl

theorem k_dg (e : Fin 1024) : k0_pay1 (F := Ideal) N Y a (ix2 0 e) = a (ix2 0 e) + ∑ i : Fin 512, Y (ix2 i e) * N (ix2 i e) := by
  unfold k0_pay1
  pointwise

theorem k_dscale (e : Fin 1024) : k0_pay2 (F := Ideal) h g N a (ix2 0 e) = a (ix2 0 e) + ∑ i : Fin 512, h (ix2 i e) * (N (ix2 i e) * g (ix2 0 e)) := by
  unfold k0_pay2
  pointwise

theorem k_dshift (e : Fin 1024) : k0_pay3 (F := Ideal) h a (ix2 0 e) = a (ix2 0 e) + ∑ i : Fin 512, h (ix2 i e) := by
  unfold k0_pay3
  pointwise

theorem k_zero (i : S8x1024.Idx) : k0_pay8 (F := Ideal) i = 0 := by
  unfold k0_pay8
  pointwise

end Kernel

/-! ## The reference -/

section Reference
open Cert.NormBwdReferenceIdeal.Read

variable (x h d : NormBwdReferenceIdeal.S2048x1024.Idx → EReal) (g s : NormBwdReferenceIdeal.S1x1024.Idx → EReal)

theorem r_mean (i : Fin 2048) : val_main_v9 (F := Ideal) x (ix2 i 0) = mean (squares x i) + eps := by
  unfold val_main_v9 val_main_v8 val_main_cst_1 val_main_v7 val_main_v6 val_main_cst_0 val_main_v5 val_main_v4 val_main_cst val_main_v3
  pointwise
  rfl

theorem r_factor (i : Fin 2048) : val_main_v10 (F := Ideal) x (ix2 i 0) = factor (squares x i) := by
  unfold factor
  rw [← r_mean]
  unfold val_main_v10
  generalize val_main_v9 (F := Ideal) x = z at *
  pointwise

theorem r_normed (i : Fin 2048) (e : Fin 1024) : val_main_v15 (F := Ideal) x (ix2 i e) = normed x i e := by
  unfold normed
  rw [← r_factor]
  unfold val_main_v15 val_main_v14
  generalize val_main_v10 (F := Ideal) x = z at *
  pointwise

theorem r_scaled (i : Fin 2048) (e : Fin 1024) : val_main_v35 (F := Ideal) h s (ix2 i e) = scaled h s i e := by
  unfold val_main_v35 val_main_v34 val_main_v27 val_main_v21 val_main_v20 val_main_v19 val_main_cst_3 val_main_v1 scaled
  pointwise

theorem r_cot (i : Fin 2048) (e : Fin 1024) : val_main_v41 (F := Ideal) h g s (ix2 i e) = cot h g s i e := by
  unfold cot
  rw [← r_scaled]
  unfold val_main_v41 val_main_v40 val_main_v16 val_main_v0
  generalize val_main_v35 (F := Ideal) h s = z at *
  pointwise

theorem r_slope (i : Fin 2048) (e : Fin 1024) : val_main_v53 (F := Ideal) x h g s (ix2 i e) = slope (squares x i) (∑ j : Fin 1024, x (ix2 i j) * cot h g s i j) := by
  unfold slope
  simp only [← r_cot, ← r_factor, ← r_mean]
  unfold val_main_v53 val_main_v52 val_main_cst_12 val_main_v51 val_main_v50 val_main_cst_11 val_main_v49 val_main_v45 val_main_v44 val_main_cst_10 val_main_v43 val_main_v13 val_main_v12 val_main_cst_2 val_main_v11
  generalize val_main_v41 (F := Ideal) h g s = z at *
  generalize val_main_v10 (F := Ideal) x = z' at *
  generalize val_main_v9 (F := Ideal) x = z'' at *
  pointwise
  refine (Fintype.sum_unique _).trans ?_
  rfl

theorem r_dx (i : Fin 2048) (e : Fin 1024) : val_main_v57 (F := Ideal) x h d g s (ix2 i e)
    = reference_dx (squares x i) (x (ix2 i e)) (cot h g s i e) (∑ j : Fin 1024, x (ix2 i j) * cot h g s i j) (d (ix2 i e)) := by
  unfold reference_dx
  rw [← r_slope x h g s i e, ← r_cot, ← r_factor]
  unfold val_main_v57 val_main_v56 val_main_v55 val_main_v54 val_main_v48 val_main_v47 val_main_v46
  generalize val_main_v41 (F := Ideal) h g s = z at *
  generalize val_main_v53 (F := Ideal) x h g s = z' at *
  generalize val_main_v10 (F := Ideal) x = z'' at *
  pointwise

theorem r_stat (k : Fin 8) (e : Fin 1024) : val_main_v62 (F := Ideal) x h g s (ix2 k e) = ∑ i : Fin 2048, stat x h g s k.val i e := by
  have h0 : ∀ i, stat x h g s 0 i e = val_main_v15 (F := Ideal) x (ix2 i e) * val_main_v35 (F := Ideal) h s (ix2 i e) := fun i => by
    rw [r_normed, r_scaled, mul_comm]; rfl
  have h1 : ∀ i, stat x h g s 1 i e = val_main_v15 (F := Ideal) x (ix2 i e) * g (ix2 0 e) * h (ix2 i e) := fun i => by
    rw [r_normed, mul_comm]; rfl
  unfold val_main_v62 val_main_v61 val_main_cst_13 val_main_v60 val_main_v59 val_main_v58 val_main_v42 val_main_cst_9 val_main_v39 val_main_v38 val_main_cst_8 val_main_v37 val_main_v36 val_main_cst_7
    val_main_v33 val_main_v32 val_main_cst_6 val_main_v31 val_main_v30 val_main_cst_5 val_main_v29 val_main_v28 val_main_cst_4 val_main_v27 val_main_v18 val_main_v17 val_main_v16 val_main_v0
  generalize val_main_v15 (F := Ideal) x = z at *
  generalize val_main_v35 (F := Ideal) h s = z' at *
  pointwise
  by_cases k0 : k.val = 0
  · refine (dif_pos (by omega)).trans ((Fintype.sum_unique _).trans (Finset.sum_congr rfl fun i _ => ?_))
    rw [k0]
    exact (h0 i).symm
  refine (dif_neg (by omega)).trans ?_
  by_cases k1 : k.val = 1
  · refine (dif_pos (by omega)).trans ((Fintype.sum_unique _).trans (Finset.sum_congr rfl fun i _ => ?_))
    rw [k1]
    exact (h1 i).symm
  refine (dif_neg (by omega)).trans ?_
  by_cases k2 : k.val = 2
  · refine (dif_pos (by omega)).trans ((Fintype.sum_unique _).trans (Finset.sum_congr rfl fun i _ => ?_))
    rw [k2]
    rfl
  refine (dif_neg (by omega)).trans (Finset.sum_eq_zero fun i _ => ?_).symm
  exact (if_neg k0).trans ((if_neg k1).trans (if_neg k2))

end Reference

end Cert.NormBwdIdeal.Row

end
-- ==== Proof.NormBwd.lean ====
module

public import proofs.«01_k».proof.Defs
public import proofs.«01_k».proof.Proof.Gen.NormBwd.Frame
public import proofs.«01_k».proof.Proof.Gen.NormBwdIdeal.Frame
public import proofs.«01_k».proof.Proof.Gen.NormBwdIdeal.Value
public import proofs.«01_k».proof.Proof.Gen.NormBwdReferenceIdeal.Run
public import proofs.«01_k».proof.Proof.Gen.NormBwdReferenceIdeal.Read
public import proofs.«01_k».proof.Proof.Rows
public import proofs.«01_k».proof.Proof.NormCols
public import Idealize.ShloMosaic.Lib.Claim
public import Idealize.ShloMosaic.Adequacy
public import Idealize.ShloMosaic.Init

/-! # The gradient of the modulated norm

Each grid point takes 512 rows; the gradients of the gain, the scale and the shift, three rows of one buffer of eight,
are added up over the four points. -/

@[expose] public section

noncomputable section

namespace Cert.NormBwdIdeal.Prod

open Idealize.ShloMosaic Idealize.ShloMosaic.TcCoe
open Idealize.SL.Sem
open Idealize.ShloMosaic.Pipeline (Dat Cfg Window)
open Cert.Steps Cert.Rows Cert.NormBwdIdeal.Row
open Cert.NormBwdIdeal.Gen
open Cert.NormBwdReferenceIdeal.Read

/-! ## What one point leaves -/

/-- An entry of the input's gradient, in the kernel's order of operations. -/
def dx_at {n : ℕ} (x h d : Shape.Idx ⟨2, ![n, 1024]⟩ → EReal) (g s : Shape.Idx ⟨2, ![1, 1024]⟩ → EReal) (i : Fin n) (e : Fin 1024) : EReal :=
  kernel_dx (squares x i) (x (ix2 i e)) (cot h g s i e) (∑ j : Fin 1024, cot h g s i j * normed x i j) (d (ix2 i e))

/-- What the rows add to an entry of the gradients of the gain, the scale and the shift. -/
def part_at {n : ℕ} (x h : Shape.Idx ⟨2, ![n, 1024]⟩ → EReal) (g s : Shape.Idx ⟨2, ![1, 1024]⟩ → EReal) (k : ℕ) (e : Fin 1024) : EReal :=
  ∑ r : Fin n, stat x h g s k r e

section Sums
variable (x h : Vec Ideal S512x1024 .f32) (g s a : Vec Ideal S1x1024 .f32) (e : Fin 1024) (A : EReal) (ha : a (ix2 0 e) = A)
include ha

theorem add_0 : k0_pay1 (F := Ideal) (k0_pay5 x) (k0_pay6 h s) a (ix2 0 e) = A + part_at x h g s 0 e := by
  rw [k_dg, ha]
  simp only [k_normed, k_scaled]
  rfl
theorem add_1 : k0_pay2 (F := Ideal) h g (k0_pay5 x) a (ix2 0 e) = A + part_at x h g s 1 e := by
  rw [k_dscale, ha]
  simp only [k_normed]
  rfl
theorem add_2 : k0_pay3 (F := Ideal) h a (ix2 0 e) = A + part_at x h g s 2 e := by
  rw [k_dshift, ha]
  rfl
end Sums

theorem part_rest {n : ℕ} (x h : Shape.Idx ⟨2, ![n, 1024]⟩ → EReal) (g s : Shape.Idx ⟨2, ![1, 1024]⟩ → EReal) (k : ℕ) (e : Fin 1024)
    (k0 : k ≠ 0) (k1 : k ≠ 1) (k2 : k ≠ 2) : part_at x h g s k e = 0 :=
  Finset.sum_eq_zero fun i _ => (if_neg k0).trans ((if_neg k1).trans (if_neg k2))

section Cases
variable (c : Dev nD) (i : grid0.Coords) (p1 : Memref sig .tc .vmem S512x1024 .f32) (h1 : p1.IsWhole) (p2 : Memref sig .tc .vmem S512x1024 .f32) (h2 : p2.IsWhole)
  (p3 : Memref sig .tc .vmem S512x1024 .f32) (h3 : p3.IsWhole) (p4 : Memref sig .tc .vmem S1x1024 .f32) (h4 : p4.IsWhole) (p5 : Memref sig .tc .vmem S1x1024 .f32) (h5 : p5.IsWhole)
  (p6 : Memref sig .tc .vmem S1x1024 .f32) (h6 : p6.IsWhole) (p7 : Memref sig .tc .vmem S512x1024 .f32) (h7 : p7.IsWhole) (p8 : Memref sig .tc .vmem S8x1024 .f32) (h8 : p8.IsWhole)
  (x h d : Vec Ideal S512x1024 .f32) (g s b : Vec Ideal S1x1024 .f32) (o : Vec Ideal S8x1024 .f32)

theorem dx_A (c0 : cond0_0 i) (r : Fin 512) (e : Fin 1024) : out0_A_6 c i p1 h1 p2 h2 p3 h3 p4 h4 p5 h5 p6 h6 p7 h7 p8 h8 c0 x h d g s b (ix2 r e) = dx_at x h d g s r e := by
  unfold out0_A_6
  rw [View.read_writes_junk_eq_canon]
  unfold kernelRun0_A
  dsimp only
  rw [View.canon_unit_zero hz, load_whole p1 h1 x hz, load_whole p2 h2 h hz, load_whole p3 h3 d hz, load_whole p4 h4 g hz, load_whole p5 h5 s hz]
  exact k_dx x h d g s r e

theorem dx_B (c0 : ¬cond0_0 i) (r : Fin 512) (e : Fin 1024) : out0_B_6 c i p1 h1 p2 h2 p3 h3 p4 h4 p5 h5 p6 h6 p7 h7 p8 h8 c0 x h d g s b o (ix2 r e) = dx_at x h d g s r e := by
  unfold out0_B_6
  rw [View.read_writes_junk_eq_canon]
  unfold kernelRun0_B
  dsimp only
  rw [View.canon_unit_zero hz, load_whole p1 h1 x hz, load_whole p2 h2 h hz, load_whole p3 h3 d hz, load_whole p4 h4 g hz, load_whole p5 h5 s hz]
  exact k_dx x h d g s r e

/-- The three sums: the first point's start from zero, a later one's are added to what the buffer holds; the other rows stay. -/
theorem st_A (c0 : cond0_0 i) (k : Fin 8) (e : Fin 1024) : out0_A_7 c i p1 h1 p2 h2 p3 h3 p4 h4 p5 h5 p6 h6 p7 h7 p8 h8 c0 x h d g s b (ix2 k e)
    = part_at x h g s k.val e := by
  unfold out0_A_7
  unfold kernelRun0_A
  dsimp only
  delta kernelRun0_A.sl.H7_3 kernelRun0_A.sl.v52 kernelRun0_A.sl.v43 kernelRun0_A.sl.H7_2 kernelRun0_A.sl.v36 kernelRun0_A.sl.H7_1 kernelRun0_A.sl.r_3 kernelRun0_A.sl.r_2 kernelRun0_A.sl.r_1 kernelRun0_A.sl.r
  rw [load_whole p1 h1 x hz, load_whole p2 h2 h hz, load_whole p4 h4 g hz, load_whole p5 h5 s hz]
  by_cases k0 : k.val = 0
  · obtain rfl : k = 0 := Fin.ext k0
    refine (row_miss _ _ 0 2 (by decide) _ _ _ e).trans ((row_miss _ _ 0 1 (by decide) _ _ _ e).trans ((row_hit _ _ 0 0 rfl _ _ _ e).trans ((add_0 x h g s _ e 0 ?_).trans (zero_add _))))
    exact (load_row _ _ 0 0 rfl _ e).trans ((all_hit _ _ _ _ _ 0 e).trans (k_zero _))
  by_cases k1 : k.val = 1
  · obtain rfl : k = 1 := Fin.ext k1
    refine (row_miss _ _ 1 2 (by decide) _ _ _ e).trans ((row_hit _ _ 1 1 rfl _ _ _ e).trans ((add_1 x h g s _ e 0 ?_).trans (zero_add _)))
    exact (load_row _ _ 1 1 rfl _ e).trans ((row_miss _ _ 1 0 (by decide) _ _ _ e).trans ((all_hit _ _ _ _ _ 1 e).trans (k_zero _)))
  by_cases k2 : k.val = 2
  · obtain rfl : k = 2 := Fin.ext k2
    refine (row_hit _ _ 2 2 rfl _ _ _ e).trans ((add_2 x h g s _ e 0 ?_).trans (zero_add _))
    exact (load_row _ _ 2 2 rfl _ e).trans ((row_miss _ _ 2 1 (by decide) _ _ _ e).trans ((row_miss _ _ 2 0 (by decide) _ _ _ e).trans ((all_hit _ _ _ _ _ 2 e).trans (k_zero _))))
  rw [part_rest x h g s k.val e k0 k1 k2]
  exact (row_miss _ _ k 2 k2 _ _ _ e).trans ((row_miss _ _ k 1 k1 _ _ _ e).trans ((row_miss _ _ k 0 k0 _ _ _ e).trans ((all_hit _ _ _ _ _ k e).trans (k_zero _))))

theorem st_B (c0 : ¬cond0_0 i) (k : Fin 8) (e : Fin 1024) : out0_B_7 c i p1 h1 p2 h2 p3 h3 p4 h4 p5 h5 p6 h6 p7 h7 p8 h8 c0 x h d g s b o (ix2 k e)
    = o (ix2 k e) + part_at x h g s k.val e := by
  unfold out0_B_7
  unfold kernelRun0_B
  dsimp only
  delta kernelRun0_B.sl.v52 kernelRun0_B.sl.v43 kernelRun0_B.sl.r_3 kernelRun0_B.sl.r_2 kernelRun0_B.sl.r_1 kernelRun0_B.sl.r
  rw [load_whole p1 h1 x hz, load_whole p2 h2 h hz, load_whole p4 h4 g hz, load_whole p5 h5 s hz]
  have hr := fun q => congrFun (h8.read_unread o) (ix2 q e)
  by_cases k0 : k.val = 0
  · obtain rfl : k = 0 := Fin.ext k0
    refine (row_miss _ _ 0 2 (by decide) _ _ _ e).trans ((row_miss _ _ 0 1 (by decide) _ _ _ e).trans ((row_hit _ _ 0 0 rfl _ _ _ e).trans (add_0 x h g s _ e _ ?_)))
    exact (load_row _ _ 0 0 rfl _ e).trans (hr 0)
  by_cases k1 : k.val = 1
  · obtain rfl : k = 1 := Fin.ext k1
    refine (row_miss _ _ 1 2 (by decide) _ _ _ e).trans ((row_hit _ _ 1 1 rfl _ _ _ e).trans (add_1 x h g s _ e _ ?_))
    exact (load_row _ _ 1 1 rfl _ e).trans (hr 1)
  by_cases k2 : k.val = 2
  · obtain rfl : k = 2 := Fin.ext k2
    refine (row_hit _ _ 2 2 rfl _ _ _ e).trans (add_2 x h g s _ e _ ?_)
    exact (load_row _ _ 2 2 rfl _ e).trans (hr 2)
  rw [part_rest x h g s k.val e k0 k1 k2, add_zero]
  exact (row_miss _ _ k 2 k2 _ _ _ e).trans ((row_miss _ _ k 1 k1 _ _ _ e).trans ((row_miss _ _ k 0 k0 _ _ _ e).trans (hr k)))

end Cases

/-! ## Where the blocks lie -/

theorem lt_N (t : Fin cfg0.N) : t.val < 4 := lt_of_lt_of_eq t.isLt N_0

theorem under {t : Fin cfg0.N} {q : ℕ} {r : Fin 512} (hq : q = t.val) : q * 512 + r.val = (row t.val r).val := by
  show _ = t.val % 4 * 512 + r.val
  rw [Nat.mod_eq_of_lt (lt_N t), hq]
theorem stays {q n r : ℕ} (hq : q = 0) : q * n + r = r := by rw [hq, Nat.zero_mul, Nat.zero_add]
theorem ix2_of {n : ℕ} {f : Shape.Idx ⟨2, ![n, 1024]⟩} {i : Fin n} {e : Fin 1024} (h0 : (f 0).val = i.val) (h1 : (f 1).val = e.val) : f = ix2 i e := by
  refine funext fun a => ?_
  match a with
  | ⟨0, _⟩ => exact Fin.ext h0
  | ⟨1, _⟩ => exact Fin.ext h1

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = t.val ∧ win0_6.index t 1 = 0 := by decide +kernel
theorem index_7 : ∀ t : Fin cfg0.N, win0_7.index t 0 = 0 ∧ win0_7.index t 1 = 0 := by decide +kernel

/-- A window of 512 rows places its blocks one under the other; the other windows' block stays. -/
theorem emb_0 (t : Fin cfg0.N) (r : Fin 512) (e : Fin 1024) : (win0_0.rect t).emb (ix2 r e) = ix2 (row t.val r) e :=
  ix2_of ((Window.rect_emb_val win0_0 t (ix2 r e) 0).trans (under (index_0 t).1)) ((Window.rect_emb_val win0_0 t (ix2 r e) 1).trans (stays (index_0 t).2))
theorem emb_1 (t : Fin cfg0.N) (r : Fin 512) (e : Fin 1024) : (win0_1.rect t).emb (ix2 r e) = ix2 (row t.val r) e :=
  ix2_of ((Window.rect_emb_val win0_1 t (ix2 r e) 0).trans (under (index_1 t).1)) ((Window.rect_emb_val win0_1 t (ix2 r e) 1).trans (stays (index_1 t).2))
theorem emb_2 (t : Fin cfg0.N) (r : Fin 512) (e : Fin 1024) : (win0_2.rect t).emb (ix2 r e) = ix2 (row t.val r) e :=
  ix2_of ((Window.rect_emb_val win0_2 t (ix2 r e) 0).trans (under (index_2 t).1)) ((Window.rect_emb_val win0_2 t (ix2 r e) 1).trans (stays (index_2 t).2))
theorem emb_3 (t : Fin cfg0.N) (r : Fin 1) (e : Fin 1024) : (win0_3.rect t).emb (ix2 r e) = ix2 r e :=
  ix2_of ((Window.rect_emb_val win0_3 t (ix2 r e) 0).trans (stays (index_3 t).1)) ((Window.rect_emb_val win0_3 t (ix2 r e) 1).trans (stays (index_3 t).2))
theorem emb_4 (t : Fin cfg0.N) (r : Fin 1) (e : Fin 1024) : (win0_4.rect t).emb (ix2 r e) = ix2 r e :=
  ix2_of ((Window.rect_emb_val win0_4 t (ix2 r e) 0).trans (stays (index_4 t).1)) ((Window.rect_emb_val win0_4 t (ix2 r e) 1).trans (stays (index_4 t).2))
theorem emb_5 (t : Fin cfg0.N) (r : Fin 1) (e : Fin 1024) : (win0_5.rect t).emb (ix2 r e) = ix2 r e :=
  ix2_of ((Window.rect_emb_val win0_5 t (ix2 r e) 0).trans (stays (index_5 t).1)) ((Window.rect_emb_val win0_5 t (ix2 r e) 1).trans (stays (index_5 t).2))
theorem emb_6 (t : Fin cfg0.N) (r : Fin 512) (e : Fin 1024) : (win0_6.rect t).emb (ix2 r e) = ix2 (row t.val r) e :=
  ix2_of ((Window.rect_emb_val win0_6 t (ix2 r e) 0).trans (under (index_6 t).1)) ((Window.rect_emb_val win0_6 t (ix2 r e) 1).trans (stays (index_6 t).2))
theorem emb_7 (t : Fin cfg0.N) (r : Fin 8) (e : Fin 1024) : (win0_7.rect t).emb (ix2 r e) = ix2 r e :=
  ix2_of ((Window.rect_emb_val win0_7 t (ix2 r e) 0).trans (stays (index_7 t).1)) ((Window.rect_emb_val win0_7 t (ix2 r e) 1).trans (stays (index_7 t).2))

/-! ## The results -/

variable (m : (ℓ : Loc nD τ sig) → Buf (Elt Ideal) ℓ) (c : Dev nD)

/-- The arguments: the input, the cotangents of the modulated norm and of the residual, the gain and the scale. -/
def X : S2048x1024.Idx → EReal := m ((c : Thread nD τ).loc main_arg0)
def H : S2048x1024.Idx → EReal := m ((c : Thread nD τ).loc main_arg1)
def D : S2048x1024.Idx → EReal := m ((c : Thread nD τ).loc main_arg2)
def G : S1x1024.Idx → EReal := m ((c : Thread nD τ).loc main_arg3)
def S : S1x1024.Idx → EReal := m ((c : Thread nD τ).loc main_arg4)

theorem iblk_0 (t : Fin cfg0.N) (r : Fin 512) (e : Fin 1024) : (iblk m c 0 t : S512x1024.Idx → EReal) (ix2 r e) = X m c (ix2 (row t.val r) e) :=
  (congrFun (V_main_arg0 m c) _).trans (congrArg (X m c) (emb_0 t r e))
theorem iblk_1 (t : Fin cfg0.N) (r : Fin 512) (e : Fin 1024) : (iblk m c 1 t : S512x1024.Idx → EReal) (ix2 r e) = H m c (ix2 (row t.val r) e) :=
  (congrFun (V_main_arg1 m c) _).trans (congrArg (H m c) (emb_1 t r e))
theorem iblk_2 (t : Fin cfg0.N) (r : Fin 512) (e : Fin 1024) : (iblk m c 2 t : S512x1024.Idx → EReal) (ix2 r e) = D m c (ix2 (row t.val r) e) :=
  (congrFun (V_main_arg2 m c) _).trans (congrArg (D m c) (emb_2 t r e))
theorem iblk_3 (t : Fin cfg0.N) (r : Fin 1) (e : Fin 1024) : (iblk m c 3 t : S1x1024.Idx → EReal) (ix2 r e) = G m c (ix2 r e) :=
  (congrFun (V_main_arg3 m c) _).trans (congrArg (G m c) (emb_3 t r e))
theorem iblk_4 (t : Fin cfg0.N) (r : Fin 1) (e : Fin 1024) : (iblk m c 4 t : S1x1024.Idx → EReal) (ix2 r e) = S m c (ix2 r e) :=
  (congrFun (V_main_arg4 m c) _).trans (congrArg (S m c) (emb_4 t r e))

theorem r_dx_at (i : Fin 2048) (e : Fin 1024) : val_main_v57 (F := Ideal) (X m c) (H m c) (D m c) (G m c) (S m c) (ix2 i e)
    = dx_at (X m c) (H m c) (D m c) (G m c) (S m c) i e :=
  (r_dx (X m c) (H m c) (D m c) (G m c) (S m c) i e).trans
    (dx_eq (fun j => X m c (ix2 i j)) (fun j => cot (H m c) (G m c) (S m c) i j) (D m c (ix2 i e)) e).symm

/-- A block's rows are the array's. -/
theorem dx_blk (t : Fin cfg0.N) (r : Fin 512) (e : Fin 1024) :
    dx_at (n := 512) (iblk m c 0 t) (iblk m c 1 t) (iblk m c 2 t) (iblk m c 3 t) (iblk m c 4 t) r e
      = dx_at (X m c) (H m c) (D m c) (G m c) (S m c) (row t.val r) e := by
  unfold dx_at cot scaled normed squares
  simp only [iblk_0, iblk_1, iblk_2, iblk_3, iblk_4]

theorem stat_blk (t : Fin cfg0.N) (k : ℕ) (r : Fin 512) (e : Fin 1024) :
    stat (n := 512) (iblk m c 0 t) (iblk m c 1 t) (iblk m c 3 t) (iblk m c 4 t) k r e = stat (X m c) (H m c) (G m c) (S m c) k (row t.val r) e := by
  unfold stat scaled normed squares
  simp only [iblk_0, iblk_1, iblk_3, iblk_4]

theorem flushed_6 (t : Fin cfg0.N) :
    (dats m 0 c).flushed 6 t = (win0_6.blk t).view.read (Elt Ideal) (val_main_v57 (F := Ideal) (X m c) (H m c) (D m c) (G m c) (S m c) : S2048x1024.Idx → EReal) := by
  refine funext fun (x : S512x1024.Idx) => ?_
  obtain ⟨r, e, rfl⟩ : ∃ (r : Fin 512) (e : Fin 1024), x = ix2 r e := ⟨x 0, x 1, ValueIdx.eq_ix2 x⟩
  refine Eq.trans ?_ ((congrArg (val_main_v57 (F := Ideal) (X m c) (H m c) (D m c) (G m c) (S m c)) (emb_6 t r e)).trans (r_dx_at m c _ e)).symm
  by_cases h0 : t.val % 4 = 0
  · rw [Value.flushed6_A m c t h0]
    exact (dx_A c _ _ _ _ _ _ _ _ _ _ _ _ _ _ _ _ _ _ _ _ _ _ _ _ r e).trans (dx_blk m c t r e)
  · rw [Value.flushed6_B m c t h0]
    exact (dx_B c _ _ _ _ _ _ _ _ _ _ _ _ _ _ _ _ _ _ _ _ _ _ _ _ _ r e).trans (dx_blk m c t r e)

/-- Block `j`'s share of an entry of the three sums. -/
def part (k : Fin 8) (e : Fin 1024) (j : ℕ) : EReal := ∑ r : Fin 512, stat (X m c) (H m c) (G m c) (S m c) k.val (row j r) e

theorem part_blk (t : Fin cfg0.N) (k : Fin 8) (e : Fin 1024) :
    part_at (n := 512) (iblk m c 0 t) (iblk m c 1 t) (iblk m c 3 t) (iblk m c 4 t) k.val e = part m c k e t.val :=
  Finset.sum_congr rfl fun r _ => stat_blk m c t k.val r e

/-- What the sums' buffer holds after each point. -/
theorem acc_at (k : Fin 8) (e : Fin 1024) : ∀ t (ht : t < cfg0.N), t % 5 + 1 < 5 →
    (outsAt0 m c t ht).2 (ix2 k e) = ∑ j ∈ Finset.range (t % 5 + 1), part m c k e j :=
  fold 5 cfg0.N (by decide) (fun t ht => (outsAt0 m c t ht).2 (ix2 k e)) (fun _ => part m c k e)
    (fun t ht h => by
      have ht' : t < 4 := lt_of_lt_of_eq ht N_0
      rw [outsAt0_A m c ⟨t, ht⟩ (by dsimp only; omega)]
      dsimp only
      refine (st_A c _ _ _ _ _ _ _ _ _ _ _ _ _ _ _ _ _ _ _ _ _ _ _ _ k e).trans ((part_blk m c ⟨t, ht⟩ k e).trans (congrArg (part m c k e) ?_))
      dsimp only
      omega)
    (fun t ht h h' => by
      have ht' : t < 4 := lt_of_lt_of_eq ht N_0
      rw [outsAt0_B m c ⟨t, ht⟩ (by dsimp only; omega)]
      dsimp only
      refine (st_B c _ _ _ _ _ _ _ _ _ _ _ _ _ _ _ _ _ _ _ _ _ _ _ _ _ k e).trans (congrArg₂ (· + ·) rfl ((part_blk m c ⟨t, ht⟩ k e).trans (congrArg (part m c k e) ?_)))
      dsimp only
      omega)

theorem flushed_7 (t : Fin cfg0.N) (ht : (cfg0.win 7).flush t = true) :
    (dats m 0 c).flushed 7 t = (win0_7.blk t).view.read (Elt Ideal) (val_main_v62 (F := Ideal) (X m c) (H m c) (G m c) (S m c) : S8x1024.Idx → EReal) := by
  have h3 : t.val % 4 = 3 := (flush0_7 t).mp ht
  have hN := lt_N t
  rw [Value.flushed7]
  refine funext fun (x : S8x1024.Idx) => ?_
  obtain ⟨k, e, rfl⟩ : ∃ (k : Fin 8) (e : Fin 1024), x = ix2 k e := ⟨x 0, x 1, ValueIdx.eq_ix2 x⟩
  refine Eq.trans ?_ ((congrArg (val_main_v62 (F := Ideal) (X m c) (H m c) (G m c) (S m c)) (emb_7 t k e)).trans (r_stat (X m c) (H m c) (G m c) (S m c) k e)).symm
  refine (acc_at m c k e t.val t.isLt (by omega)).trans ?_
  rw [show t.val % 5 + 1 = 4 by omega]
  exact sum_blocks 4 512 fun i => stat (X m c) (H m c) (G m c) (S m c) k.val i e

theorem cover_6 (x : S2048x1024.Idx) : ∃ t : Fin cfg0.N, (cfg0.win 6).flush t = true ∧ x ∈ ((cfg0.win 6).blk t).view.set := by
  obtain ⟨i, y, rfl⟩ : ∃ (i : Fin 2048) (y : Fin 1024), x = ix2 i y := ⟨x 0, x 1, ValueIdx.eq_ix2 x⟩
  have hN : i.val / 512 < cfg0.N := lt_of_lt_of_eq (by omega : _ < 4) N_0.symm
  refine ⟨⟨_, hN⟩, flush0_6 _, Finset.mem_map.mpr ⟨ix2 (⟨i.val % 512, by omega⟩ : Fin 512) y, Finset.mem_univ _, (emb_6 ⟨_, hN⟩ _ y).trans (congrArg (ix2 · y) (Fin.ext ?_))⟩⟩
  show i.val / 512 % 4 * 512 + i.val % 512 = i.val
  omega
theorem cover_7 (x : S8x1024.Idx) : ∃ t : Fin cfg0.N, (cfg0.win 7).flush t = true ∧ x ∈ ((cfg0.win 7).blk t).view.set := by
  obtain ⟨k, y, rfl⟩ : ∃ (k : Fin 8) (y : Fin 1024), x = ix2 k y := ⟨x 0, x 1, ValueIdx.eq_ix2 x⟩
  have hN : 3 < cfg0.N := lt_of_lt_of_eq (by decide : 3 < 4) N_0.symm
  exact ⟨⟨3, hN⟩, (flush0_7 ⟨3, hN⟩).mpr (by dsimp only), Finset.mem_map.mpr ⟨ix2 k y, Finset.mem_univ _, emb_7 ⟨3, hN⟩ k y⟩⟩

/-- The kernel's two results are the reference's. -/
theorem final_6 : (dats m 0 c).arrAt 6 cfg0.N = (val_main_v57 (F := Ideal) (X m c) (H m c) (D m c) (G m c) (S m c) : S2048x1024.Idx → EReal) :=
  (dats m 0 c).arrAt_eq_of_cover 6 _ (fun t _ => flushed_6 m c t) cover_6
theorem final_7 : (dats m 0 c).arrAt 7 cfg0.N = (val_main_v62 (F := Ideal) (X m c) (H m c) (G m c) (S m c) : S8x1024.Idx → EReal) :=
  (dats m 0 c).arrAt_eq_of_cover 7 _ (fun t ht => flushed_7 m c t ht) cover_7

end Cert.NormBwdIdeal.Prod

namespace Cert.Products

open Idealize.ShloMosaic Idealize.ShloMosaic.TcCoe Idealize.SL.Sem
open Cert.NormBwdIdeal.Prod

theorem frame_NormBwd : quiescent_NormBwdReferenceIdeal := fun m g _ =>
  (θ_run NormBwdReferenceIdeal.defs _ _).mono (fun r h => ⟨fun c => (h c).2.2, sem_eq_zero_of_no_sems (by decide) r.2⟩) (NormBwdReferenceIdeal.Value.run m g)

theorem algebraic_NormBwd : algebraic_NormBwdIdeal_NormBwdReferenceIdeal := by
  intro m g m' g' _ h
  refine ⟨fun c => NormBwdReferenceIdeal.Read.val_main_v57 (F := Ideal) (X m c) (H m c) (D m c) (G m c) (S m c),
    fun c => NormBwdReferenceIdeal.Read.val_main_v62 (F := Ideal) (X m c) (H m c) (G m c) (S m c),
    (θ_run NormBwdIdeal.defs _ _).mono (fun r h c => ⟨(h c).1.trans (final_6 m c), (h c).2.1.trans (final_7 m c), (h c).2.2⟩) (NormBwdIdeal.Value.run_blocks m g),
    (θ_run NormBwdReferenceIdeal.defs _ _).mono (fun r h' c => ⟨(h' c).1.trans ?_, (h' c).2.1.trans ?_, (h' c).2.2⟩) (NormBwdReferenceIdeal.Value.run m' g')⟩
  all_goals
    obtain ⟨a0, a1, a2, a3, a4, a5⟩ := h c
  · rw [NormBwdReferenceIdeal.Read.val_main_v57_eq, a0, a1, a2, a3, a4]
    rfl
  · refine (NormBwdReferenceIdeal.Read.val_main_v62_eq (F := Ideal) _ _ _ _).trans ?_
    rw [a0, a1, a3, a4]
    rfl

end Cert.Products

end
-- ==== Proof.Forward.lean ====
module

public import proofs.«01_k».proof.Proof.Lies
public import proofs.«01_k».proof.Proof.Rows
public import proofs.«01_k».proof.Proof.NormMath
public import Idealize.ShloMosaic.Lib.Pipeline.ValueKit.Tiles

/-! # What the calls of the forward pass share

Their grid points take 512 rows each; heads have 128 columns. -/

@[expose] public section

noncomputable section

namespace Cert.Forward

open Idealize.ShloMosaic Cert.Rows

/-- A window places its blocks of 512 rows one under the other, in column block `k`; or its one block stays. -/
theorem place {n w t q z k : ℕ} (ht : t < 4) {r : Fin 512} {e : Fin n} {y : Fin w} {f : Shape.Idx ⟨2, ![2048, w]⟩} (h : q = t ∧ z = k) (hy : y.val = k * n + e.val)
    (h0 : (f 0).val = q * 512 + r.val) (h1 : (f 1).val = z * n + e.val) : f = ix2 (row t r) y := by
  refine funext fun a => ?_
  match a with
  | ⟨0, _⟩ =>
    refine Fin.ext (h0.trans ?_)
    show _ = t % 4 * 512 + r.val
    rw [Nat.mod_eq_of_lt ht, h.1]
  | ⟨1, _⟩ => exact Fin.ext (h1.trans (by rw [h.2]; exact hy.symm))
theorem stay {b n q z : ℕ} {r : Fin b} {e : Fin n} {f : Shape.Idx ⟨2, ![b, n]⟩} (h : q = 0 ∧ z = 0)
    (h0 : (f 0).val = q * b + r.val) (h1 : (f 1).val = z * n + e.val) : f = ix2 r e := by
  refine funext fun a => ?_
  match a with
  | ⟨0, _⟩ => exact Fin.ext (h0.trans (by rw [h.1, Nat.zero_mul, Nat.zero_add]; rfl))
  | ⟨1, _⟩ => exact Fin.ext (h1.trans (by rw [h.2, Nat.zero_mul, Nat.zero_add]; rfl))

/-- A block's only column block. -/
theorem flat {n : ℕ} (e : Fin n) : e.val = 0 * n + e.val := by omega

/-- The row a block's row is. -/
theorem row_of (i : Fin 2048) : row (i.val / 512) ⟨i.val % 512, by omega⟩ = i := by
  refine Fin.ext ?_
  show i.val / 512 % 4 * 512 + i.val % 512 = i.val
  omega

/-- A load of some columns. -/
theorem ld_cols {a w n o : ℕ} {et : EltTy} (x : Shape.Idx ⟨2, ![a, w]⟩ → Elt Ideal et) (inb) (r : Fin a) (e : Fin n) (y : Fin w) (hy : y.val = o + e.val) :
    View.ld x (Rect.unit (s := ⟨2, ![a, w]⟩) ![0, o] ![a, n] inb) (ix2 r e) = x (ix2 r y) := by
  refine congrArg x (funext fun b => ?_)
  match b with
  | ⟨0, _⟩ => exact Fin.ext (by show 0 + 1 * r.val = r.val; omega)
  | ⟨1, _⟩ => exact Fin.ext (by show o + 1 * e.val = y.val; omega)

/-- A store of head `j`'s columns, read at an entry of head `k`. -/
theorem tile {a w K : ℕ} {et : EltTy} (col : Fin K → Fin 128 → Fin w) (hc : ∀ k e, (col k e).val = k.val * 128 + e.val) (v : Fin K → Fin 128 → Elt Ideal et) (j : Fin K)
    (o : ℕ) (ho : o = j.val * 128) {x : Shape.Idx ⟨2, ![a, 128]⟩ → Elt Ideal et} {r : Fin a} (h : ∀ e, x (ix2 r e) = v j e) (k : Fin K) (e : Fin 128) :
    View.TileAt (Val := Elt Ideal) (e := et) (S := ⟨2, ![a, w]⟩) (ix2 r (col k e)) ![0, o] ![a, 128] x (v k e) := by
  intro (x : Shape.Idx ⟨2, ![a, 128]⟩) hx
  obtain ⟨r', e', rfl⟩ : ∃ (r' : Fin a) (e' : Fin 128), x = ix2 r' e' := ⟨x 0, x 1, ValueIdx.eq_ix2 x⟩
  have h0 : r.val = 0 + r'.val := hx 0
  have h1 : (col k e).val = o + e'.val := hx 1
  rw [hc] at h1
  obtain rfl : r = r' := Fin.ext (by omega)
  obtain rfl : j = k := Fin.ext (by omega)
  obtain rfl : e = e' := Fin.ext (by omega)
  exact h e

/-- An entry of a row's norm, with its gain `g`, scale `s` and shift `h`. -/
def moded (x g s h : Fin 1024 → EReal) (e : Fin 1024) : EReal := x e * NormBwdIdeal.Row.factor (∑ j, x j * x j) * g e * (1 + s e) + h e

/-- Column `e` of head `j` of four, and column `e` of it among the input's, in column block `k`. -/
def head (j : Fin 4) (e : Fin 128) : Fin 512 := ⟨j.val * 128 + e.val, by omega⟩
def inCol (k : ℕ) (hk : k < 10) (y : Fin 512) : Fin 5120 := ⟨k * 512 + y.val, by omega⟩
theorem head_of (y : Fin 512) : ∃ (j : Fin 4) (e : Fin 128), y = head j e :=
  ⟨⟨y.val / 128, by omega⟩, ⟨y.val % 128, by omega⟩, Fin.ext (by show y.val = y.val / 128 * 128 + y.val % 128; omega)⟩
theorem at_head (z : Fin 4 → Fin 128 → EReal) (j : Fin 4) (e : Fin 128) (h1) (h2) : z ⟨(head j e).val / 128, h1⟩ ⟨(head j e).val % 128, h2⟩ = z j e :=
  congrArg₂ z (Fin.ext (by show (j.val * 128 + e.val) / 128 = _; omega)) (Fin.ext (by show (j.val * 128 + e.val) % 128 = _; omega))

/-- A head's entry less the head's mean, and the norms of a head by its squares and by its variance. -/
def mean (s : EReal) : EReal := Ideal.div s (Ideal.ofBits .f32 0x43000000#32)
def rms (x : Fin 128 → EReal) (e : Fin 128) : EReal := x e * Ideal.rsqrt (mean (∑ j, x j * x j) + NormBwdIdeal.Row.eps)
def centred (x : Fin 128 → EReal) (e : Fin 128) : EReal := x e - mean (∑ j, x j)

/-- A normed entry with its gain `g`, times the gate of `p`. -/
def gated (n g p : EReal) : EReal := p * Ideal.div 1 (1 + Ideal.exp (-p)) * (n * g)

end Cert.Forward

end
-- ==== Proof.RopeBwd.lean ====
module

public import proofs.«01_k».proof.Defs
public import proofs.«01_k».proof.Proof.Gen.RopeBwd.Frame
public import proofs.«01_k».proof.Proof.Gen.RopeBwdIdeal.Frame
public import proofs.«01_k».proof.Proof.Gen.RopeBwdIdeal.Value
public import proofs.«01_k».proof.Proof.Gen.RopeBwdReferenceIdeal.Run
public import proofs.«01_k».proof.Proof.Gen.RopeBwdReferenceIdeal.Read
public import proofs.«01_k».proof.Proof.Rows
public import proofs.«01_k».proof.Proof.Forward
public import Idealize.ShloMosaic.Lib.KernelVsHost
public import Idealize.ShloMosaic.Lib.Pipeline.ValueKit.Tiles
public import Idealize.ShloMosaic.Lib.StableHlo.ReadAt

/-! # The gradient of the rotary positions

Each grid point takes 512 rows and writes eight heads of 128 columns: four of the queries' gradient, then four of the
keys', which are scaled. A head is turned by half its width; the tables hold the cosines twice and the sines with their
signs. -/

@[expose] public section

noncomputable section

namespace Cert.RopeBwdIdeal.Prod

open Idealize.ShloMosaic Idealize.ShloMosaic.TcCoe
open Idealize.SL.Sem
open Idealize.ShloMosaic.Pipeline (Dat Cfg Window)
open Cert.Steps Cert.Rows
open Cert.Forward (place flat tile ld_cols)
open Cert.RopeBwdIdeal.Gen
open Cert.RopeBwdReferenceIdeal.Read

/-! ## One head -/

/-- Column `e` of head `j` of the result and of an argument; the place half a head away; the table's place. -/
def col (j : Fin 8) (e : Fin 128) : Fin 1024 := ⟨j.val * 128 + e.val, by omega⟩
def own (j : Fin 8) (e : Fin 128) : Fin 512 := ⟨j.val % 4 * 128 + e.val, by omega⟩
def opp (e : Fin 128) : Fin 128 := ⟨(e.val + 64) % 128, by omega⟩
def half (e : Fin 128) : Fin 64 := ⟨e.val % 64, by omega⟩

/-- The keys' scale. -/
def scale : EReal := (Scalar.ofBits .f32 0x3DB504F3#32 : Ideal .f32)

/-- What is turned: the queries' gradient, or the keys' scaled. -/
def src {n : ℕ} (q k : Shape.Idx ⟨2, ![n, 512]⟩ → EReal) (j : Fin 8) (i : Fin n) (e : Fin 128) : EReal :=
  if j.val < 4 then q (ix2 i (own j e)) else k (ix2 i (own j e)) * scale

/-- One entry of the result, of the tables. -/
def turn_at {n : ℕ} (q k : Shape.Idx ⟨2, ![n, 512]⟩ → EReal) (a b : Shape.Idx ⟨2, ![n, 128]⟩ → EReal) (i : Fin n) (j : Fin 8) (e : Fin 128) : EReal :=
  src q k j i e * a (ix2 i e) + src q k j i (opp e) * b (ix2 i (opp e))

/-- Columns turned by half a head. -/
theorem turned (x : S512x128.Idx → EReal) (h : S512x128.Rotates 1 none) (r : Fin 512) (e : Fin 128) :
    dynamicRotate 1 64#32 none x h (ix2 r e) = x (ix2 r (opp e)) := by
  refine dynamicRotate_apply 1 64#32 x h _ _ (fun b => ?_)
  match b with
  | ⟨0, _⟩ => rfl
  | ⟨1, _⟩ =>
    show (e.val + 64) % 128 = (e.val + 128 - 64 % 128) % 128
    omega

section Heads
variable (a b v : Vec Ideal S512x128 .f32) (r : Fin 512) (e : Fin 128)

theorem q_0 : k0_pay7 (F := Ideal) a b v (ix2 r e) = v (ix2 r e) * a (ix2 r e) + v (ix2 r (opp e)) * b (ix2 r (opp e)) := by
  unfold k0_pay7 k0_pay5 k0_pay6
  rw [ValueIdx.addf_apply, turned]
  pointwise

/-- The keys' heads, scaled first. -/
theorem k_0 : k0_pay1 (F := Ideal) (k0_pay5 a) (k0_pay6 b) v (ix2 r e)
    = v (ix2 r e) * scale * a (ix2 r e) + v (ix2 r (opp e)) * scale * b (ix2 r (opp e)) :=
  q_0 a b (mulf (F := Ideal) (s := S512x128) (φ := .f32) v (broadcast S512x128 (Scalar.ofBits .f32 0x3DB504F3#32))) r e

end Heads

/-- What a point leaves. -/
theorem out_at (q k : Vec Ideal S512x512 .f32) (a b : Vec Ideal S512x128 .f32) (r : Fin 512) (j : Fin 8) (e : Fin 128) :
    out0_4 q k a b (ix2 r (col j e)) = turn_at q k a b r j e := by
  unfold out0_4
  have ha : View.ld a r0_0 = a := View.ld_unit_zero hz _ a
  have hb : View.ld b r0_0 = b := View.ld_unit_zero hz _ b
  unfold k0_pay11 k0_pay12
  rw [ha, hb]
  refine View.canon_eq_of_allAt _ _ _ (cover0_4 _ _ _ _ _ _ _ _ _) ?_
  have hk := fun (i : Fin 8) (o : ℕ) (ho : o = i.val % 4 * 128) (hi : ¬ i.val < 4) (inb) (e : Fin 128) =>
    (k_0 a b (View.ld k (Rect.unit (s := S512x512) ![0, o] S512x128.size inb)) r e).trans
      (show _ = turn_at q k a b r i e by unfold turn_at src; rw [if_neg hi, if_neg hi, ld_cols (o := o) _ inb r _ (own i _) (congrArg (· + _) ho.symm), ld_cols (o := o) _ inb r _ (own i _) (congrArg (· + _) ho.symm)])
  have hq := fun (i : Fin 8) (o : ℕ) (ho : o = i.val % 4 * 128) (hi : i.val < 4) (inb) (e : Fin 128) =>
    (q_0 a b (View.ld q (Rect.unit (s := S512x512) ![0, o] S512x128.size inb)) r e).trans
      (show _ = turn_at q k a b r i e by unfold turn_at src; rw [if_pos hi, if_pos hi, ld_cols (o := o) _ inb r _ (own i _) (congrArg (· + _) ho.symm), ld_cols (o := o) _ inb r _ (own i _) (congrArg (· + _) ho.symm)])
  refine View.allAt_cons_unit _ _ _ _ _ (tile (a := 512) (et := .f32) col (fun _ _ => rfl) (turn_at q k a b r) 7 896 rfl (hk 7 384 rfl (by decide) _) j e) ?_
  refine View.allAt_cons_unit _ _ _ _ _ (tile (a := 512) (et := .f32) col (fun _ _ => rfl) (turn_at q k a b r) 6 768 rfl (hk 6 256 rfl (by decide) _) j e) ?_
  refine View.allAt_cons_unit _ _ _ _ _ (tile (a := 512) (et := .f32) col (fun _ _ => rfl) (turn_at q k a b r) 5 640 rfl (hk 5 128 rfl (by decide) _) j e) ?_
  refine View.allAt_cons_unit _ _ _ _ _ (tile (a := 512) (et := .f32) col (fun _ _ => rfl) (turn_at q k a b r) 4 512 rfl (hk 4 0 rfl (by decide) _) j e) ?_
  refine View.allAt_cons_unit _ _ _ _ _ (tile (a := 512) (et := .f32) col (fun _ _ => rfl) (turn_at q k a b r) 3 384 rfl (hq 3 384 rfl (by decide) _) j e) ?_
  refine View.allAt_cons_unit _ _ _ _ _ (tile (a := 512) (et := .f32) col (fun _ _ => rfl) (turn_at q k a b r) 2 256 rfl (hq 2 256 rfl (by decide) _) j e) ?_
  refine View.allAt_cons_unit _ _ _ _ _ (tile (a := 512) (et := .f32) col (fun _ _ => rfl) (turn_at q k a b r) 1 128 rfl (hq 1 128 rfl (by decide) _) j e) ?_
  exact View.allAt_cons_unit _ _ _ _ _ (tile (a := 512) (et := .f32) col (fun _ _ => rfl) (turn_at q k a b r) 0 0 rfl (hq 0 0 rfl (by decide) _) j e) (View.allAt_nil _ _)

/-! ## Where the blocks lie -/

theorem lt_N (t : Fin cfg0.N) : t.val < 4 := lt_of_lt_of_eq t.isLt N_0

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = t.val ∧ win0_3.index t 1 = 0 := by decide +kernel
theorem index_4 : ∀ t : Fin cfg0.N, win0_4.index t 0 = t.val ∧ win0_4.index t 1 = 0 := by decide +kernel

theorem emb_0 (t : Fin cfg0.N) (r : Fin 512) (e : Fin 512) : (win0_0.rect t).emb (ix2 r e) = ix2 (row t.val r) e :=
  place (lt_N t) (index_0 t) (flat e) (Window.rect_emb_val win0_0 t (ix2 r e) 0) (Window.rect_emb_val win0_0 t (ix2 r e) 1)
theorem emb_1 (t : Fin cfg0.N) (r : Fin 512) (e : Fin 512) : (win0_1.rect t).emb (ix2 r e) = ix2 (row t.val r) e :=
  place (lt_N t) (index_1 t) (flat e) (Window.rect_emb_val win0_1 t (ix2 r e) 0) (Window.rect_emb_val win0_1 t (ix2 r e) 1)
theorem emb_2 (t : Fin cfg0.N) (r : Fin 512) (e : Fin 128) : (win0_2.rect t).emb (ix2 r e) = ix2 (row t.val r) e :=
  place (lt_N t) (index_2 t) (flat e) (Window.rect_emb_val win0_2 t (ix2 r e) 0) (Window.rect_emb_val win0_2 t (ix2 r e) 1)
theorem emb_3 (t : Fin cfg0.N) (r : Fin 512) (e : Fin 128) : (win0_3.rect t).emb (ix2 r e) = ix2 (row t.val r) e :=
  place (lt_N t) (index_3 t) (flat e) (Window.rect_emb_val win0_3 t (ix2 r e) 0) (Window.rect_emb_val win0_3 t (ix2 r e) 1)
theorem emb_4 (t : Fin cfg0.N) (r : Fin 512) (e : Fin 1024) : (win0_4.rect t).emb (ix2 r e) = ix2 (row t.val r) e :=
  place (lt_N t) (index_4 t) (flat e) (Window.rect_emb_val win0_4 t (ix2 r e) 0) (Window.rect_emb_val win0_4 t (ix2 r e) 1)

/-! ## The tables on the host -/

variable (m : (ℓ : Loc nD τ sig) → Buf (Elt Ideal) ℓ) (c : Dev nD)

/-- The arguments: the two cotangents, the cosines and the sines; and the tables the kernel is given. -/
def Q : S2048x512.Idx → EReal := m ((c : Thread nD τ).loc main_arg0)
def K : S2048x512.Idx → EReal := m ((c : Thread nD τ).loc main_arg1)
def Co : S2048x64.Idx → EReal := m ((c : Thread nD τ).loc main_arg2)
def Si : S2048x64.Idx → EReal := m ((c : Thread nD τ).loc main_arg3)
def W0 : S2048x128.Idx → EReal := V m c main_v0
def W2 : S2048x128.Idx → EReal := V m c main_v2

theorem W0_eq : W0 m c = concatenate S2048x128 1 [⟨S2048x64, Co m c⟩, ⟨S2048x64, Co m c⟩] concatenates_S2048x64_S2048x64_S2048x128_d1 := by
  unfold W0 V
  simp only [hostOps0]
  after_reads_simp
  rfl
theorem W2_eq : W2 m c = concatenate S2048x128 1 [⟨S2048x64, Host.negf (F := Ideal) (s := S2048x64) (φ := .f32) (Si m c)⟩, ⟨S2048x64, Si m c⟩] concatenates_S2048x64_S2048x64_S2048x128_d1 := by
  unfold W2 V
  simp only [hostOps0]
  after_reads_simp
  rfl

/-- The tables' entries. -/
theorem table_cos (co : S2048x64.Idx → EReal) (i : Fin 2048) (e : Fin 128) :
    concatenate S2048x128 1 [⟨S2048x64, co⟩, ⟨S2048x64, co⟩] concatenates_S2048x64_S2048x64_S2048x128_d1 (ix2 i e) = co (ix2 i (half e)) := by
  pointwise
  by_cases h : e.val < 64
  · exact (dif_pos h).trans (congrArg (fun y => co (ix2 i y)) (Fin.ext (show e.val = e.val % 64 by omega)))
  · exact (dif_neg h).trans (congrArg (fun y => co (ix2 i y)) (Fin.ext (show e.val - 64 = e.val % 64 by omega)))

/-- The sine of a table's place, with its sign. -/
def signed (s : Fin 64 → EReal) (e : Fin 128) : EReal := if e.val < 64 then -s (half e) else s (half e)

theorem table_sin (si : S2048x64.Idx → EReal) (i : Fin 2048) (e : Fin 128) :
    concatenate S2048x128 1 [⟨S2048x64, Host.negf (F := Ideal) (s := S2048x64) (φ := .f32) si⟩, ⟨S2048x64, si⟩] concatenates_S2048x64_S2048x64_S2048x128_d1 (ix2 i e)
      = signed (fun y => si (ix2 i y)) e := by
  unfold signed
  pointwise
  by_cases h : e.val < 64
  · exact (dif_pos h).trans ((congrArg (fun y => -si (ix2 i y)) (Fin.ext (show e.val = e.val % 64 by omega))).trans (if_pos h).symm)
  · exact (dif_neg h).trans ((congrArg (fun y => si (ix2 i y)) (Fin.ext (show e.val - 64 = e.val % 64 by omega))).trans (if_neg h).symm)

theorem cos_at (i : Fin 2048) (e : Fin 128) : W0 m c (ix2 i e) = Co m c (ix2 i (half e)) :=
  (congrFun (W0_eq m c) _).trans (table_cos (Co m c) i e)
theorem sin_at (i : Fin 2048) (e : Fin 128) : W2 m c (ix2 i e) = signed (fun y => Si m c (ix2 i y)) e :=
  (congrFun (W2_eq m c) _).trans (table_sin (Si m c) i e)

/-! ## The reference -/

/-- One entry of a head of the gradient. -/
def turn (x : Fin 128 → EReal) (co si : Fin 64 → EReal) (e : Fin 128) : EReal := x e * co (half e) + x (opp e) * signed si (opp e)

/-- The two halves of a head, each filled up with zeros and the two added. -/
theorem halves (x : Fin 128 → EReal) (co si : Fin 64 → EReal) (z z' : EReal) (hz : z = 0) (hz' : z' = 0) (e : Fin 128) :
    (if h : 64 ≤ e.val ∧ e.val - 64 < 64 then
        x ⟨64 + (e.val - 64), by omega⟩ * co ⟨e.val - 64, h.2⟩ + -x ⟨e.val - 64, by omega⟩ * si ⟨e.val - 64, h.2⟩ else z)
      + (if h : e.val < 64 then x ⟨64 + e.val, by omega⟩ * si ⟨e.val, h⟩ + x ⟨e.val, by omega⟩ * co ⟨e.val, h⟩ else z')
      = turn x co si e := by
  unfold turn signed
  by_cases h : e.val < 64
  · have ho : ¬ (opp e).val < 64 := by show ¬ (e.val + 64) % 128 < 64; omega
    rw [dif_neg (by omega), dif_pos h, if_neg ho, hz, zero_add, add_comm]
    refine congrArg₂ (· + ·) (congrArg₂ (· * ·) rfl (congrArg co (Fin.ext ?_))) (congrArg₂ (· * ·) (congrArg x (Fin.ext ?_)) (congrArg si (Fin.ext ?_)))
    · show e.val = e.val % 64; omega
    · show 64 + e.val = (e.val + 64) % 128; omega
    · show e.val = (e.val + 64) % 128 % 64; omega
  · have ho : (opp e).val < 64 := by show (e.val + 64) % 128 < 64; omega
    rw [dif_pos ⟨by omega, by omega⟩, dif_neg h, if_pos ho, hz', add_zero, neg_mul, ← mul_neg]
    refine congrArg₂ (· + ·) (congrArg₂ (· * ·) (congrArg x (Fin.ext ?_)) (congrArg co (Fin.ext ?_))) (congrArg₂ (· * ·) (congrArg x (Fin.ext ?_)) (congrArg (fun y => -si y) (Fin.ext ?_)))
    · show 64 + (e.val - 64) = e.val; omega
    · show e.val - 64 = e.val % 64; omega
    · show e.val - 64 = (e.val + 64) % 128; omega
    · show e.val - 64 = (e.val + 64) % 128 % 64; omega

section Ref
variable (q k : S2048x512.Idx → EReal) (co si : S2048x64.Idx → EReal) (i : Fin 2048)

theorem r_q (h : Fin 4) (e : Fin 128) : val_main_v68 (F := Ideal) q co si (ix3 i h e)
    = turn (fun e => q (ix2 i ⟨h.val * 128 + e.val, by omega⟩)) (fun e => co (ix2 i e)) (fun e => si (ix2 i e)) e := by
  unfold val_main_v68 val_main_v67 val_main_v66 val_main_v65 val_main_v64 val_main_v63 val_main_v62 val_main_v61 val_main_v60 val_main_v59 val_main_v58 val_main_v57 val_main_v56
    val_main_v55 val_main_v54 val_main_v53 val_main_v33 val_main_v2 val_main_v1
  pointwise
  refine halves (fun e => q (ix2 i ⟨h.val * 128 + e.val, by omega⟩)) (fun e => co (ix2 i e)) (fun e => si (ix2 i e)) _ _ ?_ ?_ e
  · unfold val_main_cst_4; pointwise
  · unfold val_main_cst_5; pointwise

theorem r_k (h : Fin 4) (e : Fin 128) : val_main_v52 (F := Ideal) k co si (ix3 i h e)
    = turn (fun e => k (ix2 i ⟨h.val * 128 + e.val, by omega⟩) * scale) (fun e => co (ix2 i e)) (fun e => si (ix2 i e)) e := by
  unfold val_main_v52 val_main_v51 val_main_v50 val_main_v49 val_main_v48 val_main_v47 val_main_v46 val_main_v45 val_main_v44 val_main_v43 val_main_v42 val_main_v41 val_main_v40
    val_main_v39 val_main_v38 val_main_v37 val_main_v36 val_main_v35 val_main_v34 val_main_v17 val_main_v16 val_main_cst_1
  pointwise
  refine halves (fun e => k (ix2 i ⟨h.val * 128 + e.val, by omega⟩) * scale) (fun e => co (ix2 i e)) (fun e => si (ix2 i e)) _ _ ?_ ?_ e
  · unfold val_main_cst_2; pointwise
  · unfold val_main_cst_3; pointwise

theorem r_out (j : Fin 8) (e : Fin 128) : val_main_v71 (F := Ideal) q k co si (ix2 i (col j e))
    = turn (src q k j i) (fun e => co (ix2 i e)) (fun e => si (ix2 i e)) e := by
  have hq := r_q q co si i
  have hk := r_k k co si i
  unfold val_main_v71 val_main_v70 val_main_v69
  generalize val_main_v68 (F := Ideal) q co si = u at *
  generalize val_main_v52 (F := Ideal) k co si = w at *
  pointwise
  have hc : (col j e).val = j.val * 128 + e.val := rfl
  have hm : j.val % 4 < 4 := by omega
  by_cases h : j.val < 4
  · refine (dif_pos (by omega)).trans ((congrArg₂ (fun a b => u (ix3 i a b)) (Fin.ext (?_ : _ = (⟨j.val % 4, hm⟩ : Fin 4).val)) (Fin.ext (?_ : _ = e.val))).trans ((hq ⟨j.val % 4, hm⟩ e).trans ?_))
    · show (col j e).val / 128 = j.val % 4; omega
    · show (col j e).val % 128 = e.val; omega
    · exact congrArg (fun x => turn x _ _ e) (funext fun _ => (if_pos h).symm)
  · refine (dif_neg (by omega)).trans ((congrArg₂ (fun a b => w (ix3 i a b)) (Fin.ext (?_ : _ = (⟨j.val % 4, hm⟩ : Fin 4).val)) (Fin.ext (?_ : _ = e.val))).trans ((hk ⟨j.val % 4, hm⟩ e).trans ?_))
    · show ((col j e).val - 512) / 128 = j.val % 4; omega
    · show ((col j e).val - 512) % 128 = e.val; omega
    · exact congrArg (fun x => turn x _ _ e) (funext fun _ => (if_neg h).symm)

end Ref

/-! ## The result -/

theorem iblk_0 (t : Fin cfg0.N) (r : Fin 512) (e : Fin 512) : (iblk m c 0 t : S512x512.Idx → EReal) (ix2 r e) = Q m c (ix2 (row t.val r) e) :=
  (congrFun (V_main_arg0 m c) _).trans (congrArg (Q m c) (emb_0 t r e))
theorem iblk_1 (t : Fin cfg0.N) (r : Fin 512) (e : Fin 512) : (iblk m c 1 t : S512x512.Idx → EReal) (ix2 r e) = K m c (ix2 (row t.val r) e) :=
  (congrFun (V_main_arg1 m c) _).trans (congrArg (K m c) (emb_1 t r e))
theorem iblk_2 (t : Fin cfg0.N) (r : Fin 512) (e : Fin 128) : (iblk m c 2 t : S512x128.Idx → EReal) (ix2 r e) = W0 m c (ix2 (row t.val r) e) :=
  congrArg (W0 m c) (emb_2 t r e)
theorem iblk_3 (t : Fin cfg0.N) (r : Fin 512) (e : Fin 128) : (iblk m c 3 t : S512x128.Idx → EReal) (ix2 r e) = W2 m c (ix2 (row t.val r) e) :=
  congrArg (W2 m c) (emb_3 t r e)

/-- The reference's value. -/
def R : S2048x1024.Idx → EReal := val_main_v71 (F := Ideal) (Q m c) (K m c) (Co m c) (Si m c)

theorem col_of (y : Fin 1024) : ∃ (j : Fin 8) (e : Fin 128), y = col j e :=
  ⟨⟨y.val / 128, by omega⟩, ⟨y.val % 128, by omega⟩, Fin.ext (by show y.val = y.val / 128 * 128 + y.val % 128; omega)⟩

theorem src_blk (t : Fin cfg0.N) (j : Fin 8) (r : Fin 512) (e : Fin 128) :
    src (iblk m c 0 t) (iblk m c 1 t) j r e = src (Q m c) (K m c) j (row t.val r) e := by
  unfold src
  rw [iblk_0, iblk_1]

theorem flushed_4 (t : Fin cfg0.N) : (dats m 0 c).flushed 4 t = (win0_4.blk t).view.read (Elt Ideal) (R m c) := by
  rw [Value.flushed4]
  refine funext fun (x : S512x1024.Idx) => ?_
  obtain ⟨r, y, rfl⟩ : ∃ (r : Fin 512) (y : Fin 1024), x = ix2 r y := ⟨x 0, x 1, ValueIdx.eq_ix2 x⟩
  obtain ⟨j, e, rfl⟩ := col_of y
  refine Eq.trans ?_ ((congrArg (R m c) (emb_4 t r (col j e))).trans (r_out _ _ _ _ _ j e)).symm
  refine (out_at (iblk m c 0 t) (iblk m c 1 t) (iblk m c 2 t) (iblk m c 3 t) r j e).trans ?_
  unfold turn_at turn
  rw [src_blk, src_blk, iblk_2, iblk_3, cos_at, sin_at]

theorem cover_4 (x : S2048x1024.Idx) : ∃ t : Fin cfg0.N, (cfg0.win 4).flush t = true ∧ x ∈ ((cfg0.win 4).blk t).view.set := by
  obtain ⟨i, y, rfl⟩ : ∃ (i : Fin 2048) (y : Fin 1024), x = ix2 i y := ⟨x 0, x 1, ValueIdx.eq_ix2 x⟩
  have hN : i.val / 512 < cfg0.N := lt_of_lt_of_eq (by omega : _ < 4) N_0.symm
  refine ⟨⟨_, hN⟩, flush0_4 _, Finset.mem_map.mpr ⟨ix2 (⟨i.val % 512, by omega⟩ : Fin 512) y, Finset.mem_univ _, (emb_4 ⟨_, hN⟩ _ y).trans (congrArg (ix2 · y) (Fin.ext ?_))⟩⟩
  show i.val / 512 % 4 * 512 + i.val % 512 = i.val
  omega

/-- The kernel's result is the reference's. -/
theorem final_4 : (dats m 0 c).arrAt 4 cfg0.N = R m c :=
  (dats m 0 c).arrAt_eq_of_cover 4 _ (fun t _ => flushed_4 m c t) cover_4

end Cert.RopeBwdIdeal.Prod

namespace Cert.Products

open Idealize.ShloMosaic Idealize.ShloMosaic.TcCoe Idealize.SL.Sem
open Cert.RopeBwdIdeal.Prod

theorem frame_RopeBwd : quiescent_RopeBwdReferenceIdeal := fun m g _ =>
  (θ_run RopeBwdReferenceIdeal.defs _ _).mono (fun r h => ⟨fun c => (h c).2, sem_eq_zero_of_no_sems (by decide) r.2⟩) (RopeBwdReferenceIdeal.Value.run m g)

theorem algebraic_RopeBwd : algebraic_RopeBwdIdeal_RopeBwdReferenceIdeal := by
  intro m g m' g' _ h
  refine ⟨fun c => R m c,
    (θ_run RopeBwdIdeal.defs _ _).mono (fun r h c => ⟨(h c).1.trans (final_4 m c), (h c).2⟩) (RopeBwdIdeal.Value.run_blocks m g),
    (θ_run RopeBwdReferenceIdeal.defs _ _).mono (fun r h' c => ⟨(h' c).1.trans ?_, (h' c).2⟩) (RopeBwdReferenceIdeal.Value.run m' g')⟩
  obtain ⟨a0, a1, a2, a3⟩ := h c
  refine (RopeBwdReferenceIdeal.Read.val_main_v71_eq (F := Ideal) _ _).trans ?_
  rw [a0, a1, a2, a3]
  rfl

end Cert.Products

end
-- ==== Proof.ResFwd.lean ====
module

public import proofs.«01_k».proof.Defs
public import proofs.«01_k».proof.Proof.Gen.ResFwd.Frame
public import proofs.«01_k».proof.Proof.Gen.ResFwdIdeal.Frame
public import proofs.«01_k».proof.Proof.Gen.ResFwdIdeal.Value
public import proofs.«01_k».proof.Proof.Gen.ResFwdReferenceIdeal.Run
public import proofs.«01_k».proof.Proof.Gen.ResFwdReferenceIdeal.Read
public import proofs.«01_k».proof.Proof.Forward

/-! # The gated residual -/

@[expose] public section

noncomputable section

namespace Cert.ResFwdIdeal.Prod

open Idealize.ShloMosaic Idealize.ShloMosaic.TcCoe
open Idealize.SL.Sem
open Idealize.ShloMosaic.Pipeline (Dat Cfg Window)
open Cert.Steps Cert.Rows Cert.Forward
open Cert.ResFwdIdeal.Gen
open Cert.ResFwdReferenceIdeal.Read

theorem k_out (x y : Vec Ideal S512x1024 .f32) (g : Vec Ideal S1x1024 .f32) (r : Fin 512) (e : Fin 1024) :
    out0_3 (F := Ideal) x y g (ix2 r e) = x (ix2 r e) + g (ix2 0 e) * y (ix2 r e) := by
  have hx : View.ld x r0_0 = x := View.ld_unit_zero hz _ x
  have hy : View.ld y r0_0 = y := View.ld_unit_zero hz _ y
  have hg : View.ld g r0_1 = g := View.ld_unit_zero hz _ g
  unfold out0_3
  rw [View.canon_unit_zero hz, hx, hy, hg]
  unfold k0_pay1
  pointwise

theorem index : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) := by decide +kernel

theorem lt_N (t : Fin cfg0.N) : t.val < 4 := lt_of_lt_of_eq t.isLt N_0

theorem emb_0 (t : Fin cfg0.N) (r : Fin 512) (e : Fin 1024) : (win0_0.rect t).emb (ix2 r e) = ix2 (row t.val r) e :=
  place (lt_N t) (index t).1 (flat e) (Window.rect_emb_val win0_0 t (ix2 r e) 0) (Window.rect_emb_val win0_0 t (ix2 r e) 1)
theorem emb_1 (t : Fin cfg0.N) (r : Fin 512) (e : Fin 1024) : (win0_1.rect t).emb (ix2 r e) = ix2 (row t.val r) e :=
  place (lt_N t) (index t).2.1 (flat e) (Window.rect_emb_val win0_1 t (ix2 r e) 0) (Window.rect_emb_val win0_1 t (ix2 r e) 1)
theorem emb_2 (t : Fin cfg0.N) (r : Fin 1) (e : Fin 1024) : (win0_2.rect t).emb (ix2 r e) = ix2 r e :=
  stay (index t).2.2.1 (Window.rect_emb_val win0_2 t (ix2 r e) 0) (Window.rect_emb_val win0_2 t (ix2 r e) 1)
theorem emb_3 (t : Fin cfg0.N) (r : Fin 512) (e : Fin 1024) : (win0_3.rect t).emb (ix2 r e) = ix2 (row t.val r) e :=
  place (lt_N t) (index t).2.2.2 (flat e) (Window.rect_emb_val win0_3 t (ix2 r e) 0) (Window.rect_emb_val win0_3 t (ix2 r e) 1)

variable (m : (ℓ : Loc nD τ sig) → Buf (Elt Ideal) ℓ) (c : Dev nD)

/-- The arguments: the residual, the branch's value and the gate; and the reference's value. -/
def D : S2048x1024.Idx → EReal := m ((c : Thread nD τ).loc main_arg0)
def Y : S2048x1024.Idx → EReal := m ((c : Thread nD τ).loc main_arg1)
def G : S1x1024.Idx → EReal := m ((c : Thread nD τ).loc main_arg2)
def R : S2048x1024.Idx → EReal := val_main_v4 (F := Ideal) (D m c) (Y m c) (G m c)

theorem iblk_0 (t : Fin cfg0.N) (r : Fin 512) (e : Fin 1024) : (iblk m c 0 t : S512x1024.Idx → EReal) (ix2 r e) = D m c (ix2 (row t.val r) e) :=
  (congrFun (V_main_arg0 m c) _).trans (congrArg (D m c) (emb_0 t r e))
theorem iblk_1 (t : Fin cfg0.N) (r : Fin 512) (e : Fin 1024) : (iblk m c 1 t : S512x1024.Idx → EReal) (ix2 r e) = Y m c (ix2 (row t.val r) e) :=
  (congrFun (V_main_arg1 m c) _).trans (congrArg (Y m c) (emb_1 t r e))
theorem iblk_2 (t : Fin cfg0.N) (r : Fin 1) (e : Fin 1024) : (iblk m c 2 t : S1x1024.Idx → EReal) (ix2 r e) = G m c (ix2 r e) :=
  (congrFun (V_main_arg2 m c) _).trans (congrArg (G m c) (emb_2 t r e))

theorem r_out (x y : S2048x1024.Idx → EReal) (g : S1x1024.Idx → EReal) (i : Fin 2048) (e : Fin 1024) :
    val_main_v4 (F := Ideal) x y g (ix2 i e) = x (ix2 i e) + g (ix2 0 e) * y (ix2 i e) := by
  unfold val_main_v4 val_main_v3 val_main_v2 val_main_v1 val_main_v0
  pointwise

theorem flushed_3 (t : Fin cfg0.N) : (dats m 0 c).flushed 3 t = (win0_3.blk t).view.read (Elt Ideal) (R m c) := by
  rw [Value.flushed3]
  refine funext fun (x : S512x1024.Idx) => ?_
  obtain ⟨r, e, rfl⟩ : ∃ (r : Fin 512) (e : Fin 1024), x = ix2 r e := ⟨x 0, x 1, ValueIdx.eq_ix2 x⟩
  refine Eq.trans ?_ ((congrArg (R m c) (emb_3 t r e)).trans (r_out _ _ _ _ e)).symm
  refine (k_out (iblk m c 0 t) (iblk m c 1 t) (iblk m c 2 t) r e).trans ?_
  rw [iblk_0, iblk_1, iblk_2]

theorem cover_3 (x : S2048x1024.Idx) : ∃ t : Fin cfg0.N, (cfg0.win 3).flush t = true ∧ x ∈ ((cfg0.win 3).blk t).view.set := by
  obtain ⟨i, y, rfl⟩ : ∃ (i : Fin 2048) (y : Fin 1024), x = ix2 i y := ⟨x 0, x 1, ValueIdx.eq_ix2 x⟩
  have hN : i.val / 512 < cfg0.N := lt_of_lt_of_eq (by omega : _ < 4) N_0.symm
  exact ⟨⟨_, hN⟩, flush0_3 _, Finset.mem_map.mpr ⟨ix2 (⟨i.val % 512, by omega⟩ : Fin 512) y, Finset.mem_univ _, (emb_3 ⟨_, hN⟩ _ y).trans (congrArg (ix2 · y) (row_of i))⟩⟩

theorem final_3 : (dats m 0 c).arrAt 3 cfg0.N = R m c :=
  (dats m 0 c).arrAt_eq_of_cover 3 _ (fun t _ => flushed_3 m c t) cover_3

end Cert.ResFwdIdeal.Prod

namespace Cert.Products

open Idealize.ShloMosaic Idealize.ShloMosaic.TcCoe Idealize.SL.Sem
open Cert.ResFwdIdeal.Prod

theorem frame_ResFwd : quiescent_ResFwdReferenceIdeal := fun m g _ =>
  (θ_run ResFwdReferenceIdeal.defs _ _).mono (fun r h => ⟨fun c => (h c).2, sem_eq_zero_of_no_sems (by decide) r.2⟩) (ResFwdReferenceIdeal.Value.run m g)

theorem algebraic_ResFwd : algebraic_ResFwdIdeal_ResFwdReferenceIdeal := by
  intro m g m' g' _ h
  refine ⟨fun c => R m c,
    (θ_run ResFwdIdeal.defs _ _).mono (fun r h c => ⟨(h c).1.trans (final_3 m c), (h c).2⟩) (ResFwdIdeal.Value.run_blocks m g),
    (θ_run ResFwdReferenceIdeal.defs _ _).mono (fun r h' c => ⟨(h' c).1.trans ?_, (h' c).2⟩) (ResFwdReferenceIdeal.Value.run m' g')⟩
  obtain ⟨a0, a1, a2⟩ := h c
  refine (ResFwdReferenceIdeal.Read.val_main_v4_eq (F := Ideal) _ _ _).trans ?_
  rw [a0, a1, a2]
  rfl

end Cert.Products

end
-- ==== Proof.NormFwd.lean ====
module

public import proofs.«01_k».proof.Defs
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdReferenceIdeal.Run
public import proofs.«01_k».proof.Proof.Gen.NormFwdReferenceIdeal.Read
public import proofs.«01_k».proof.Proof.Forward

/-! # The norm with its modulation -/

@[expose] public section

noncomputable section

namespace Cert.NormFwdIdeal.Prod

open Idealize.ShloMosaic Idealize.ShloMosaic.TcCoe
open Idealize.SL.Sem
open Idealize.ShloMosaic.Pipeline (Dat Cfg Window)
open Cert.Steps Cert.Rows Cert.Forward
open Cert.NormFwdIdeal.Gen
open Cert.NormFwdReferenceIdeal.Read

theorem k_out (x : Vec Ideal S512x1024 .f32) (g s h : Vec Ideal S1x1024 .f32) (r : Fin 512) (e : Fin 1024) :
    out0_4 (F := Ideal) x g s h (ix2 r e) = moded (fun j => x (ix2 r j)) (fun j => g (ix2 0 j)) (fun j => s (ix2 0 j)) (fun j => h (ix2 0 j)) e := by
  have hx : View.ld x r0_0 = x := View.ld_unit_zero hz _ x
  have h1 := fun v : Vec Ideal S1x1024 .f32 => (View.ld_unit_zero hz _ v : View.ld v r0_1 = v)
  unfold out0_4
  rw [View.canon_unit_zero hz, hx, h1, h1, h1]
  unfold k0_pay1 moded
  pointwise
  rfl

theorem r_out (x : S2048x1024.Idx → EReal) (g s h : S1x1024.Idx → EReal) (i : Fin 2048) (e : Fin 1024) :
    val_main_v24 (F := Ideal) x g s h (ix2 i e) = moded (fun j => x (ix2 i j)) (fun j => g (ix2 0 j)) (fun j => s (ix2 0 j)) (fun j => h (ix2 0 j)) e := by
  unfold val_main_v24 val_main_v23 val_main_v22 val_main_v21 val_main_v20 val_main_v19 val_main_v18 val_main_v17 val_main_v16 val_main_cst_2 val_main_v15 val_main_v14 val_main_v13
    val_main_v12 val_main_v11 val_main_v10 val_main_v9 val_main_v8 val_main_cst_1 val_main_v7 val_main_v6 val_main_cst_0 val_main_v5 val_main_v4 val_main_cst val_main_v3
    val_main_v2 val_main_v1 val_main_v0 moded
  pointwise
  rfl

theorem index : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = t.val ∧ win0_4.index t 1 = 0) := by decide +kernel

theorem lt_N (t : Fin cfg0.N) : t.val < 4 := lt_of_lt_of_eq t.isLt N_0

theorem emb_4 (t : Fin cfg0.N) (r : Fin 512) (e : Fin 1024) : (win0_4.rect t).emb (ix2 r e) = ix2 (row t.val r) e :=
  place (lt_N t) (index t).2.2.2.2 (flat e) (Window.rect_emb_val win0_4 t (ix2 r e) 0) (Window.rect_emb_val win0_4 t (ix2 r e) 1)

variable (m : (ℓ : Loc nD τ sig) → Buf (Elt Ideal) ℓ) (c : Dev nD)

/-- The arguments: the residual, the gain, the scale and the shift; and the reference's value. -/
def X : S2048x1024.Idx → EReal := m ((c : Thread nD τ).loc main_arg0)
def G : S1x1024.Idx → EReal := m ((c : Thread nD τ).loc main_arg1)
def S : S1x1024.Idx → EReal := m ((c : Thread nD τ).loc main_arg2)
def H : S1x1024.Idx → EReal := m ((c : Thread nD τ).loc main_arg3)
def R : S2048x1024.Idx → EReal := val_main_v24 (F := Ideal) (X m c) (G m c) (S m c) (H m c)

theorem iblk_0 (t : Fin cfg0.N) (r : Fin 512) (e : Fin 1024) : (iblk m c 0 t : S512x1024.Idx → EReal) (ix2 r e) = X m c (ix2 (row t.val r) e) :=
  (congrFun (V_main_arg0 m c) _).trans (congrArg (X m c)
    (place (lt_N t) (index t).1 (flat e) (Window.rect_emb_val win0_0 t (ix2 r e) 0) (Window.rect_emb_val win0_0 t (ix2 r e) 1)))
theorem iblk_1 (t : Fin cfg0.N) (r : Fin 1) (e : Fin 1024) : (iblk m c 1 t : S1x1024.Idx → EReal) (ix2 r e) = G m c (ix2 r e) :=
  (congrFun (V_main_arg1 m c) _).trans (congrArg (G m c) (stay (index t).2.1 (Window.rect_emb_val win0_1 t (ix2 r e) 0) (Window.rect_emb_val win0_1 t (ix2 r e) 1)))
theorem iblk_2 (t : Fin cfg0.N) (r : Fin 1) (e : Fin 1024) : (iblk m c 2 t : S1x1024.Idx → EReal) (ix2 r e) = S m c (ix2 r e) :=
  (congrFun (V_main_arg2 m c) _).trans (congrArg (S m c) (stay (index t).2.2.1 (Window.rect_emb_val win0_2 t (ix2 r e) 0) (Window.rect_emb_val win0_2 t (ix2 r e) 1)))
theorem iblk_3 (t : Fin cfg0.N) (r : Fin 1) (e : Fin 1024) : (iblk m c 3 t : S1x1024.Idx → EReal) (ix2 r e) = H m c (ix2 r e) :=
  (congrFun (V_main_arg3 m c) _).trans (congrArg (H m c) (stay (index t).2.2.2.1 (Window.rect_emb_val win0_3 t (ix2 r e) 0) (Window.rect_emb_val win0_3 t (ix2 r e) 1)))

theorem flushed_4 (t : Fin cfg0.N) : (dats m 0 c).flushed 4 t = (win0_4.blk t).view.read (Elt Ideal) (R m c) := by
  rw [Value.flushed4]
  refine funext fun (x : S512x1024.Idx) => ?_
  obtain ⟨r, e, rfl⟩ : ∃ (r : Fin 512) (e : Fin 1024), x = ix2 r e := ⟨x 0, x 1, ValueIdx.eq_ix2 x⟩
  refine Eq.trans ?_ ((congrArg (R m c) (emb_4 t r e)).trans (r_out _ _ _ _ _ e)).symm
  refine (k_out (iblk m c 0 t) (iblk m c 1 t) (iblk m c 2 t) (iblk m c 3 t) r e).trans ?_
  simp only [iblk_0, iblk_1, iblk_2, iblk_3]

theorem cover_4 (x : S2048x1024.Idx) : ∃ t : Fin cfg0.N, (cfg0.win 4).flush t = true ∧ x ∈ ((cfg0.win 4).blk t).view.set := by
  obtain ⟨i, y, rfl⟩ : ∃ (i : Fin 2048) (y : Fin 1024), x = ix2 i y := ⟨x 0, x 1, ValueIdx.eq_ix2 x⟩
  have hN : i.val / 512 < cfg0.N := lt_of_lt_of_eq (by omega : _ < 4) N_0.symm
  exact ⟨⟨_, hN⟩, flush0_4 _, Finset.mem_map.mpr ⟨ix2 (⟨i.val % 512, by omega⟩ : Fin 512) y, Finset.mem_univ _, (emb_4 ⟨_, hN⟩ _ y).trans (congrArg (ix2 · y) (row_of i))⟩⟩

theorem final_4 : (dats m 0 c).arrAt 4 cfg0.N = R m c :=
  (dats m 0 c).arrAt_eq_of_cover 4 _ (fun t _ => flushed_4 m c t) cover_4

end Cert.NormFwdIdeal.Prod

namespace Cert.Products

open Idealize.ShloMosaic Idealize.ShloMosaic.TcCoe Idealize.SL.Sem
open Cert.NormFwdIdeal.Prod

theorem frame_NormFwd : quiescent_NormFwdReferenceIdeal := fun m g _ =>
  (θ_run NormFwdReferenceIdeal.defs _ _).mono (fun r h => ⟨fun c => (h c).2, sem_eq_zero_of_no_sems (by decide) r.2⟩) (NormFwdReferenceIdeal.Value.run m g)

theorem algebraic_NormFwd : algebraic_NormFwdIdeal_NormFwdReferenceIdeal := by
  intro m g m' g' _ h
  refine ⟨fun c => R m c,
    (θ_run NormFwdIdeal.defs _ _).mono (fun r h c => ⟨(h c).1.trans (final_4 m c), (h c).2⟩) (NormFwdIdeal.Value.run_blocks m g),
    (θ_run NormFwdReferenceIdeal.defs _ _).mono (fun r h' c => ⟨(h' c).1.trans ?_, (h' c).2⟩) (NormFwdReferenceIdeal.Value.run m' g')⟩
  obtain ⟨a0, a1, a2, a3⟩ := h c
  refine (NormFwdReferenceIdeal.Read.val_main_v24_eq (F := Ideal) _ _ _ _).trans ?_
  rw [a0, a1, a2, a3]
  rfl

end Cert.Products

end
-- ==== Proof.ResNorm.lean ====
module

public import proofs.«01_k».proof.Defs
public import proofs.«01_k».proof.Proof.Gen.ResNorm.Frame
public import proofs.«01_k».proof.Proof.Gen.ResNormIdeal.Frame
public import proofs.«01_k».proof.Proof.Gen.ResNormIdeal.Value
public import proofs.«01_k».proof.Proof.Gen.ResNormReferenceIdeal.Run
public import proofs.«01_k».proof.Proof.Gen.ResNormReferenceIdeal.Read
public import proofs.«01_k».proof.Proof.Forward

/-! # The gated residual, and the norm of what it leaves -/

@[expose] public section

noncomputable section

namespace Cert.ResNormIdeal.Prod

open Idealize.ShloMosaic Idealize.ShloMosaic.TcCoe
open Idealize.SL.Sem
open Idealize.ShloMosaic.Pipeline (Dat Cfg Window)
open Cert.Steps Cert.Rows Cert.Forward
open Cert.ResNormIdeal.Gen
open Cert.ResNormReferenceIdeal.Read

section Kernel
variable (x y : Vec Ideal S512x1024 .f32) (a g s h : Vec Ideal S1x1024 .f32) (r : Fin 512) (e : Fin 1024)

/-- An entry of the residual after the branch, for the kernel and for the reference. -/
def added {n : ℕ} (x y : Shape.Idx ⟨2, ![n, 1024]⟩ → EReal) (a : S1x1024.Idx → EReal) (i : Fin n) (e : Fin 1024) : EReal :=
  x (ix2 i e) + a (ix2 0 e) * y (ix2 i e)

theorem k_add : k0_pay1 (F := Ideal) x a y (ix2 r e) = added x y a r e := by
  unfold k0_pay1 added
  pointwise

theorem k_6 : out0_6 (F := Ideal) x y a g s h (ix2 r e) = added x y a r e := by
  unfold out0_6
  rw [View.canon_unit_zero hz, show View.ld x r0_0 = x from View.ld_unit_zero hz _ x, show View.ld y r0_0 = y from View.ld_unit_zero hz _ y,
    show View.ld a r0_1 = a from View.ld_unit_zero hz _ a]
  exact k_add x y a r e

theorem k_7 : out0_7 (F := Ideal) x y a g s h (ix2 r e) = moded (added x y a r) (fun j => g (ix2 0 j)) (fun j => s (ix2 0 j)) (fun j => h (ix2 0 j)) e := by
  have h1 := fun v : Vec Ideal S1x1024 .f32 => (View.ld_unit_zero hz _ v : View.ld v r0_1 = v)
  unfold out0_7
  rw [View.canon_unit_zero hz, show View.ld x r0_0 = x from View.ld_unit_zero hz _ x, show View.ld y r0_0 = y from View.ld_unit_zero hz _ y, h1, h1, h1, h1]
  simp only [moded, ← k_add]
  unfold k0_pay2
  generalize k0_pay1 (F := Ideal) x a y = z
  pointwise
  rfl
end Kernel

section Ref
variable (x y : S2048x1024.Idx → EReal) (a g s h : S1x1024.Idx → EReal) (i : Fin 2048) (e : Fin 1024)

theorem r_4 : val_main_v4 (F := Ideal) x y a (ix2 i e) = added x y a i e := by
  unfold val_main_v4 val_main_v3 val_main_v2 val_main_v1 val_main_v0 added
  pointwise

theorem r_29 : val_main_v29 (F := Ideal) x y a g s h (ix2 i e) = moded (added x y a i) (fun j => g (ix2 0 j)) (fun j => s (ix2 0 j)) (fun j => h (ix2 0 j)) e := by
  simp only [moded, ← r_4]
  unfold val_main_v29 val_main_v28 val_main_v27 val_main_v26 val_main_v25 val_main_v24 val_main_v23 val_main_v22 val_main_v21 val_main_cst_2 val_main_v20 val_main_v19 val_main_v18
    val_main_v17 val_main_v16 val_main_v15 val_main_v14 val_main_v13 val_main_cst_1 val_main_v12 val_main_v11 val_main_cst_0 val_main_v10 val_main_v9 val_main_cst val_main_v8
    val_main_v7 val_main_v6 val_main_v5
  generalize val_main_v4 (F := Ideal) x y a = z
  pointwise
  rfl
end Ref

theorem index : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = t.val ∧ win0_6.index t 1 = 0) ∧ (win0_7.index t 0 = t.val ∧ win0_7.index t 1 = 0) := by decide +kernel

theorem lt_N (t : Fin cfg0.N) : t.val < 4 := lt_of_lt_of_eq t.isLt N_0

theorem emb_6 (t : Fin cfg0.N) (r : Fin 512) (e : Fin 1024) : (win0_6.rect t).emb (ix2 r e) = ix2 (row t.val r) e :=
  place (lt_N t) (index t).2.2.2.2.2.2.1 (flat e) (Window.rect_emb_val win0_6 t (ix2 r e) 0) (Window.rect_emb_val win0_6 t (ix2 r e) 1)
theorem emb_7 (t : Fin cfg0.N) (r : Fin 512) (e : Fin 1024) : (win0_7.rect t).emb (ix2 r e) = ix2 (row t.val r) e :=
  place (lt_N t) (index t).2.2.2.2.2.2.2 (flat e) (Window.rect_emb_val win0_7 t (ix2 r e) 0) (Window.rect_emb_val win0_7 t (ix2 r e) 1)

variable (m : (ℓ : Loc nD τ sig) → Buf (Elt Ideal) ℓ) (c : Dev nD)

/-- The arguments: the residual, the branch's value, its gate, the gain, the scale and the shift; and the reference's values. -/
def X : S2048x1024.Idx → EReal := m ((c : Thread nD τ).loc main_arg0)
def Y : S2048x1024.Idx → EReal := m ((c : Thread nD τ).loc main_arg1)
def A : S1x1024.Idx → EReal := m ((c : Thread nD τ).loc main_arg2)
def G : S1x1024.Idx → EReal := m ((c : Thread nD τ).loc main_arg3)
def S : S1x1024.Idx → EReal := m ((c : Thread nD τ).loc main_arg4)
def H : S1x1024.Idx → EReal := m ((c : Thread nD τ).loc main_arg5)
def R4 : S2048x1024.Idx → EReal := val_main_v4 (F := Ideal) (X m c) (Y m c) (A m c)
def R29 : S2048x1024.Idx → EReal := val_main_v29 (F := Ideal) (X m c) (Y m c) (A m c) (G m c) (S m c) (H m c)

theorem iblk_0 (t : Fin cfg0.N) (r : Fin 512) (e : Fin 1024) : (iblk m c 0 t : S512x1024.Idx → EReal) (ix2 r e) = X m c (ix2 (row t.val r) e) :=
  (congrFun (V_main_arg0 m c) _).trans (congrArg (X m c)
    (place (lt_N t) (index t).1 (flat e) (Window.rect_emb_val win0_0 t (ix2 r e) 0) (Window.rect_emb_val win0_0 t (ix2 r e) 1)))
theorem iblk_1 (t : Fin cfg0.N) (r : Fin 512) (e : Fin 1024) : (iblk m c 1 t : S512x1024.Idx → EReal) (ix2 r e) = Y m c (ix2 (row t.val r) e) :=
  (congrFun (V_main_arg1 m c) _).trans (congrArg (Y m c)
    (place (lt_N t) (index t).2.1 (flat e) (Window.rect_emb_val win0_1 t (ix2 r e) 0) (Window.rect_emb_val win0_1 t (ix2 r e) 1)))
theorem iblk_2 (t : Fin cfg0.N) (e : Fin 1024) : (iblk m c 2 t : S1x1024.Idx → EReal) (ix2 0 e) = A m c (ix2 0 e) :=
  (congrFun (V_main_arg2 m c) _).trans (congrArg (A m c) (stay (index t).2.2.1 (Window.rect_emb_val win0_2 t (ix2 0 e) 0) (Window.rect_emb_val win0_2 t (ix2 0 e) 1)))
theorem iblk_3 (t : Fin cfg0.N) (e : Fin 1024) : (iblk m c 3 t : S1x1024.Idx → EReal) (ix2 0 e) = G m c (ix2 0 e) :=
  (congrFun (V_main_arg3 m c) _).trans (congrArg (G m c) (stay (index t).2.2.2.1 (Window.rect_emb_val win0_3 t (ix2 0 e) 0) (Window.rect_emb_val win0_3 t (ix2 0 e) 1)))
theorem iblk_4 (t : Fin cfg0.N) (e : Fin 1024) : (iblk m c 4 t : S1x1024.Idx → EReal) (ix2 0 e) = S m c (ix2 0 e) :=
  (congrFun (V_main_arg4 m c) _).trans (congrArg (S m c) (stay (index t).2.2.2.2.1 (Window.rect_emb_val win0_4 t (ix2 0 e) 0) (Window.rect_emb_val win0_4 t (ix2 0 e) 1)))
theorem iblk_5 (t : Fin cfg0.N) (e : Fin 1024) : (iblk m c 5 t : S1x1024.Idx → EReal) (ix2 0 e) = H m c (ix2 0 e) :=
  (congrFun (V_main_arg5 m c) _).trans (congrArg (H m c) (stay (index t).2.2.2.2.2.1 (Window.rect_emb_val win0_5 t (ix2 0 e) 0) (Window.rect_emb_val win0_5 t (ix2 0 e) 1)))

theorem blk_add (t : Fin cfg0.N) (r : Fin 512) : added (iblk m c 0 t) (iblk m c 1 t) (iblk m c 2 t) r = added (X m c) (Y m c) (A m c) (row t.val r) := by
  funext e
  unfold added
  rw [iblk_0, iblk_1, iblk_2]

theorem flushed_6 (t : Fin cfg0.N) : (dats m 0 c).flushed 6 t = (win0_6.blk t).view.read (Elt Ideal) (R4 m c) := by
  rw [Value.flushed6]
  refine funext fun (x : S512x1024.Idx) => ?_
  obtain ⟨r, e, rfl⟩ : ∃ (r : Fin 512) (e : Fin 1024), x = ix2 r e := ⟨x 0, x 1, ValueIdx.eq_ix2 x⟩
  refine Eq.trans ?_ ((congrArg (R4 m c) (emb_6 t r e)).trans (r_4 _ _ _ _ e)).symm
  exact (k_6 (iblk m c 0 t) (iblk m c 1 t) (iblk m c 2 t) (iblk m c 3 t) (iblk m c 4 t) (iblk m c 5 t) r e).trans (congrFun (blk_add m c t r) e)

theorem flushed_7 (t : Fin cfg0.N) : (dats m 0 c).flushed 7 t = (win0_7.blk t).view.read (Elt Ideal) (R29 m c) := by
  rw [Value.flushed7]
  refine funext fun (x : S512x1024.Idx) => ?_
  obtain ⟨r, e, rfl⟩ : ∃ (r : Fin 512) (e : Fin 1024), x = ix2 r e := ⟨x 0, x 1, ValueIdx.eq_ix2 x⟩
  refine Eq.trans ?_ ((congrArg (R29 m c) (emb_7 t r e)).trans (r_29 _ _ _ _ _ _ _ e)).symm
  refine (k_7 (iblk m c 0 t) (iblk m c 1 t) (iblk m c 2 t) (iblk m c 3 t) (iblk m c 4 t) (iblk m c 5 t) r e).trans ?_
  simp only [blk_add, iblk_3, iblk_4, iblk_5]

theorem cover_6 (x : S2048x1024.Idx) : ∃ t : Fin cfg0.N, (cfg0.win 6).flush t = true ∧ x ∈ ((cfg0.win 6).blk t).view.set := by
  obtain ⟨i, y, rfl⟩ : ∃ (i : Fin 2048) (y : Fin 1024), x = ix2 i y := ⟨x 0, x 1, ValueIdx.eq_ix2 x⟩
  have hN : i.val / 512 < cfg0.N := lt_of_lt_of_eq (by omega : _ < 4) N_0.symm
  exact ⟨⟨_, hN⟩, flush0_6 _, Finset.mem_map.mpr ⟨ix2 (⟨i.val % 512, by omega⟩ : Fin 512) y, Finset.mem_univ _, (emb_6 ⟨_, hN⟩ _ y).trans (congrArg (ix2 · y) (row_of i))⟩⟩
theorem cover_7 (x : S2048x1024.Idx) : ∃ t : Fin cfg0.N, (cfg0.win 7).flush t = true ∧ x ∈ ((cfg0.win 7).blk t).view.set := by
  obtain ⟨i, y, rfl⟩ : ∃ (i : Fin 2048) (y : Fin 1024), x = ix2 i y := ⟨x 0, x 1, ValueIdx.eq_ix2 x⟩
  have hN : i.val / 512 < cfg0.N := lt_of_lt_of_eq (by omega : _ < 4) N_0.symm
  exact ⟨⟨_, hN⟩, flush0_7 _, Finset.mem_map.mpr ⟨ix2 (⟨i.val % 512, by omega⟩ : Fin 512) y, Finset.mem_univ _, (emb_7 ⟨_, hN⟩ _ y).trans (congrArg (ix2 · y) (row_of i))⟩⟩

theorem final_6 : (dats m 0 c).arrAt 6 cfg0.N = R4 m c :=
  (dats m 0 c).arrAt_eq_of_cover 6 _ (fun t _ => flushed_6 m c t) cover_6
theorem final_7 : (dats m 0 c).arrAt 7 cfg0.N = R29 m c :=
  (dats m 0 c).arrAt_eq_of_cover 7 _ (fun t _ => flushed_7 m c t) cover_7

end Cert.ResNormIdeal.Prod

namespace Cert.Products

open Idealize.ShloMosaic Idealize.ShloMosaic.TcCoe Idealize.SL.Sem
open Cert.ResNormIdeal.Prod

theorem frame_ResNorm : quiescent_ResNormReferenceIdeal := fun m g _ =>
  (θ_run ResNormReferenceIdeal.defs _ _).mono (fun r h => ⟨fun c => (h c).2.2, sem_eq_zero_of_no_sems (by decide) r.2⟩) (ResNormReferenceIdeal.Value.run m g)

theorem algebraic_ResNorm : algebraic_ResNormIdeal_ResNormReferenceIdeal := by
  intro m g m' g' _ h
  refine ⟨fun c => R4 m c, fun c => R29 m c,
    (θ_run ResNormIdeal.defs _ _).mono (fun r h c => ⟨(h c).1.trans (final_6 m c), (h c).2.1.trans (final_7 m c), (h c).2.2⟩) (ResNormIdeal.Value.run_blocks m g),
    (θ_run ResNormReferenceIdeal.defs _ _).mono (fun r h' c => ⟨(h' c).1.trans ?_, (h' c).2.1.trans ?_, (h' c).2.2⟩) (ResNormReferenceIdeal.Value.run m' g')⟩
  all_goals
    obtain ⟨a0, a1, a2, a3, a4, a5⟩ := h c
  · refine (ResNormReferenceIdeal.Read.val_main_v4_eq (F := Ideal) _ _ _).trans ?_
    rw [a0, a1, a2]
    rfl
  · refine (ResNormReferenceIdeal.Read.val_main_v29_eq (F := Ideal) _ _ _ _ _ _).trans ?_
    rw [a0, a1, a2, a3, a4, a5]
    rfl

end Cert.Products

end
-- ==== Proof.MixFwd.lean ====
module

public import proofs.«01_k».proof.Defs
public import proofs.«01_k».proof.Proof.Gen.MixFwd.Frame
public import proofs.«01_k».proof.Proof.Gen.MixFwdIdeal.Frame
public import proofs.«01_k».proof.Proof.Gen.MixFwdIdeal.Value
public import proofs.«01_k».proof.Proof.Gen.MixFwdReferenceIdeal.Run
public import proofs.«01_k».proof.Proof.Gen.MixFwdReferenceIdeal.Read
public import proofs.«01_k».proof.Proof.Forward
public import proofs.«01_k».proof.Proof.MixCols

/-! # The mixing gates -/

@[expose] public section

noncomputable section

namespace Cert.MixFwdIdeal.Prod

open Idealize.ShloMosaic Idealize.ShloMosaic.TcCoe
open Idealize.SL.Sem
open Idealize.ShloMosaic.Pipeline (Dat Cfg Window)
open Cert.Steps Cert.Rows Cert.Forward
open Cert.MixFwdIdeal.Gen
open Cert.MixFwdReferenceIdeal.Read
open Cert.MixBwdIdeal.Gates (gate wide)

/-- The gates' product with the branches, added up. -/
def mixed {n : ℕ} (p : Shape.Idx ⟨2, ![n, 3072]⟩ → EReal) (b : S1x3072.Idx → EReal) (y z w : Shape.Idx ⟨2, ![n, 1024]⟩ → EReal) (i : Fin n) (e : Fin 1024) : EReal :=
  gate (p (ix2 i (wide 0 e))) (b (ix2 0 (wide 0 e))) * y (ix2 i e) + gate (p (ix2 i (wide 1 e))) (b (ix2 0 (wide 1 e))) * z (ix2 i e)
    + gate (p (ix2 i (wide 2 e))) (b (ix2 0 (wide 2 e))) * w (ix2 i e)

theorem k_sum (p0 p1 p2 y z w : Vec Ideal S512x1024 .bf16) (b0 b1 b2 : Vec Ideal S1x1024 .f32) (r : Fin 512) (e : Fin 1024) :
    k0_pay1 (F := Ideal) (k0_pay2 p0 b0 y p1 b1 z) (k0_pay3 p2 b2) (Scalar.ofBits .f32 0x00000000#32) w (ix2 r e)
      = gate (p0 (ix2 r e)) (b0 (ix2 0 e)) * y (ix2 r e) + gate (p1 (ix2 r e)) (b1 (ix2 0 e)) * z (ix2 r e) + gate (p2 (ix2 r e)) (b2 (ix2 0 e)) * w (ix2 r e) := by
  unfold k0_pay1 k0_pay2 k0_pay3 gate
  pointwise
  simp only [zero_sub]

theorem k_out (p : Vec Ideal S512x3072 .bf16) (b : Vec Ideal S1x3072 .f32) (y z w : Vec Ideal S512x1024 .bf16) (r : Fin 512) (e : Fin 1024) :
    out0_5 (F := Ideal) p b y z w (ix2 r e) = mixed p b y z w r e := by
  have hy := fun v : Vec Ideal S512x1024 .bf16 => (View.ld_unit_zero hz _ v : View.ld v r0_2 = v)
  unfold out0_5
  rw [View.canon_unit_zero hz, hy, hy, hy]
  refine (k_sum _ _ _ y z w _ _ _ r e).trans ?_
  unfold mixed
  rw [ld_cols p _ r e (wide 0 e) (by show 0 * 1024 + _ = _; omega), ld_cols (o := 1024) p _ r e (wide 1 e) rfl, ld_cols (o := 2048) p _ r e (wide 2 e) rfl,
    ld_cols b _ 0 e (wide 0 e) (by show 0 * 1024 + _ = _; omega), ld_cols (o := 1024) b _ 0 e (wide 1 e) rfl, ld_cols (o := 2048) b _ 0 e (wide 2 e) rfl]

theorem r_gate (p : S2048x3072.Idx → EReal) (b : S1x3072.Idx → EReal) (i : Fin 2048) (e : Fin 3072) :
    val_main_v17 (F := Ideal) p b (ix2 i e) = gate (p (ix2 i e)) (b (ix2 0 e)) := by
  unfold val_main_v17 val_main_v16 val_main_cst_0 val_main_v15 val_main_v14 val_main_cst val_main_v13 val_main_v12 val_main_v11 val_main_v10 val_main_v9 val_main_v8 val_main_v7 gate
  pointwise

theorem r_out (p : S2048x3072.Idx → EReal) (b : S1x3072.Idx → EReal) (y z w : S2048x1024.Idx → EReal) (i : Fin 2048) (e : Fin 1024) :
    val_main_v21 (F := Ideal) p b y z w (ix2 i e) = mixed p b y z w i e := by
  unfold mixed
  simp only [← r_gate]
  unfold val_main_v21 val_main_v20 val_main_cst_1 val_main_v19 val_main_v18 val_main_v6 val_main_v5 val_main_v4 val_main_v3 val_main_v2 val_main_v1 val_main_v0
  generalize val_main_v17 (F := Ideal) p b = q
  pointwise
  exact Fin.sum_univ_three _

theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0)
    ∧ (win0_5.index t 0 = t.val ∧ win0_5.index t 1 = 0) := by decide +kernel

theorem lt_N (t : Fin cfg0.N) : t.val < 4 := lt_of_lt_of_eq t.isLt N_0

theorem emb_5 (t : Fin cfg0.N) (r : Fin 512) (e : Fin 1024) : (win0_5.rect t).emb (ix2 r e) = ix2 (row t.val r) e :=
  place (lt_N t) (index t).2.2.2.2.2 (flat e) (Window.rect_emb_val win0_5 t (ix2 r e) 0) (Window.rect_emb_val win0_5 t (ix2 r e) 1)

variable (m : (ℓ : Loc nD τ sig) → Buf (Elt Ideal) ℓ) (c : Dev nD)

/-- The arguments: the gates before their bias, the bias and the three branches; and the reference's value. -/
def P : S2048x3072.Idx → EReal := m ((c : Thread nD τ).loc main_arg0)
def B : S1x3072.Idx → EReal := m ((c : Thread nD τ).loc main_arg1)
def Y : S2048x1024.Idx → EReal := m ((c : Thread nD τ).loc main_arg2)
def Z : S2048x1024.Idx → EReal := m ((c : Thread nD τ).loc main_arg3)
def W : S2048x1024.Idx → EReal := m ((c : Thread nD τ).loc main_arg4)
def R : S2048x1024.Idx → EReal := val_main_v21 (F := Ideal) (P m c) (B m c) (Y m c) (Z m c) (W m c)

theorem iblk_0 (t : Fin cfg0.N) (r : Fin 512) (e : Fin 3072) : (iblk m c 0 t : S512x3072.Idx → EReal) (ix2 r e) = P m c (ix2 (row t.val r) e) :=
  (congrFun (V_main_arg0 m c) _).trans (congrArg (P m c) (place (lt_N t) (index t).1 (flat e) (Window.rect_emb_val win0_0 t (ix2 r e) 0) (Window.rect_emb_val win0_0 t (ix2 r e) 1)))
theorem iblk_1 (t : Fin cfg0.N) (e : Fin 3072) : (iblk m c 1 t : S1x3072.Idx → EReal) (ix2 0 e) = B m c (ix2 0 e) :=
  (congrFun (V_main_arg1 m c) _).trans (congrArg (B m c) (stay (index t).2.1 (Window.rect_emb_val win0_1 t (ix2 0 e) 0) (Window.rect_emb_val win0_1 t (ix2 0 e) 1)))
theorem iblk_2 (t : Fin cfg0.N) (r : Fin 512) (e : Fin 1024) : (iblk m c 2 t : S512x1024.Idx → EReal) (ix2 r e) = Y m c (ix2 (row t.val r) e) :=
  (congrFun (V_main_arg2 m c) _).trans (congrArg (Y m c) (place (lt_N t) (index t).2.2.1 (flat e) (Window.rect_emb_val win0_2 t (ix2 r e) 0) (Window.rect_emb_val win0_2 t (ix2 r e) 1)))
theorem iblk_3 (t : Fin cfg0.N) (r : Fin 512) (e : Fin 1024) : (iblk m c 3 t : S512x1024.Idx → EReal) (ix2 r e) = Z m c (ix2 (row t.val r) e) :=
  (congrFun (V_main_arg3 m c) _).trans (congrArg (Z m c) (place (lt_N t) (index t).2.2.2.1 (flat e) (Window.rect_emb_val win0_3 t (ix2 r e) 0) (Window.rect_emb_val win0_3 t (ix2 r e) 1)))
theorem iblk_4 (t : Fin cfg0.N) (r : Fin 512) (e : Fin 1024) : (iblk m c 4 t : S512x1024.Idx → EReal) (ix2 r e) = W m c (ix2 (row t.val r) e) :=
  (congrFun (V_main_arg4 m c) _).trans (congrArg (W m c) (place (lt_N t) (index t).2.2.2.2.1 (flat e) (Window.rect_emb_val win0_4 t (ix2 r e) 0) (Window.rect_emb_val win0_4 t (ix2 r e) 1)))

theorem flushed_5 (t : Fin cfg0.N) : (dats m 0 c).flushed 5 t = (win0_5.blk t).view.read (Elt Ideal) (R m c) := by
  rw [Value.flushed5]
  refine funext fun (x : S512x1024.Idx) => ?_
  obtain ⟨r, e, rfl⟩ : ∃ (r : Fin 512) (e : Fin 1024), x = ix2 r e := ⟨x 0, x 1, ValueIdx.eq_ix2 x⟩
  refine Eq.trans ?_ ((congrArg (R m c) (emb_5 t r e)).trans (r_out _ _ _ _ _ _ e)).symm
  refine (k_out (iblk m c 0 t) (iblk m c 1 t) (iblk m c 2 t) (iblk m c 3 t) (iblk m c 4 t) r e).trans ?_
  unfold mixed
  simp only [iblk_0, iblk_1, iblk_2, iblk_3, iblk_4]

theorem cover_5 (x : S2048x1024.Idx) : ∃ t : Fin cfg0.N, (cfg0.win 5).flush t = true ∧ x ∈ ((cfg0.win 5).blk t).view.set := by
  obtain ⟨i, y, rfl⟩ : ∃ (i : Fin 2048) (y : Fin 1024), x = ix2 i y := ⟨x 0, x 1, ValueIdx.eq_ix2 x⟩
  have hN : i.val / 512 < cfg0.N := lt_of_lt_of_eq (by omega : _ < 4) N_0.symm
  exact ⟨⟨_, hN⟩, flush0_5 _, Finset.mem_map.mpr ⟨ix2 (⟨i.val % 512, by omega⟩ : Fin 512) y, Finset.mem_univ _, (emb_5 ⟨_, hN⟩ _ y).trans (congrArg (ix2 · y) (row_of i))⟩⟩

theorem final_5 : (dats m 0 c).arrAt 5 cfg0.N = R m c :=
  (dats m 0 c).arrAt_eq_of_cover 5 _ (fun t _ => flushed_5 m c t) cover_5

end Cert.MixFwdIdeal.Prod

namespace Cert.Products

open Idealize.ShloMosaic Idealize.ShloMosaic.TcCoe Idealize.SL.Sem
open Cert.MixFwdIdeal.Prod

theorem frame_MixFwd : quiescent_MixFwdReferenceIdeal := fun m g _ =>
  (θ_run MixFwdReferenceIdeal.defs _ _).mono (fun r h => ⟨fun c => (h c).2, sem_eq_zero_of_no_sems (by decide) r.2⟩) (MixFwdReferenceIdeal.Value.run m g)

theorem algebraic_MixFwd : algebraic_MixFwdIdeal_MixFwdReferenceIdeal := by
  intro m g m' g' _ h
  refine ⟨fun c => R m c,
    (θ_run MixFwdIdeal.defs _ _).mono (fun r h c => ⟨(h c).1.trans (final_5 m c), (h c).2⟩) (MixFwdIdeal.Value.run_blocks m g),
    (θ_run MixFwdReferenceIdeal.defs _ _).mono (fun r h' c => ⟨(h' c).1.trans ?_, (h' c).2⟩) (MixFwdReferenceIdeal.Value.run m' g')⟩
  obtain ⟨a0, a1, a2, a3, a4⟩ := h c
  refine (MixFwdReferenceIdeal.Read.val_main_v21_eq (F := Ideal) _ _ _ _ _).trans ?_
  rw [a0, a1, a2, a3, a4]
  rfl

end Cert.Products

end
-- ==== Proof.RopeFwd.lean ====
module

public import proofs.«01_k».proof.Defs
public import proofs.«01_k».proof.Proof.Gen.RopeFwd.Frame
public import proofs.«01_k».proof.Proof.Gen.RopeFwdIdeal.Frame
public import proofs.«01_k».proof.Proof.Gen.RopeFwdIdeal.Value
public import proofs.«01_k».proof.Proof.Gen.RopeFwdReferenceIdeal.Run
public import proofs.«01_k».proof.Proof.Gen.RopeFwdReferenceIdeal.Read
public import proofs.«01_k».proof.Proof.Forward
public import proofs.«01_k».proof.Proof.RopeBwd

/-! # The rotary positions -/

@[expose] public section

noncomputable section

namespace Cert.RopeFwdIdeal.Prod

open Idealize.ShloMosaic Idealize.ShloMosaic.TcCoe
open Idealize.SL.Sem
open Idealize.ShloMosaic.Pipeline (Dat Cfg Window)
open Cert.Steps Cert.Rows Cert.Forward
open Cert.RopeFwdIdeal.Gen
open Cert.RopeFwdReferenceIdeal.Read
open Cert.RopeBwdIdeal.Prod (scale col opp half signed turned table_cos table_sin col_of)

/-- A head's entry turned, with the tables `a` and `b`, and the scale of the keys' heads. -/
def scaled (j : Fin 8) (v : EReal) : EReal := if j.val < 4 then v else v * scale
def turn_at {n : ℕ} (p : Fin n → Fin 1024 → EReal) (a b : Fin n → Fin 128 → EReal) (i : Fin n) (j : Fin 8) (e : Fin 128) : EReal :=
  scaled j (p i (col j e) * a i e + p i (col j (opp e)) * b i e)

section Heads
variable (a b : Vec Ideal S512x128 .f32) (v : Vec Ideal S512x128 .bf16) (r : Fin 512) (e : Fin 128)

theorem q_0 : k0_pay4 (F := Ideal) a b v (ix2 r e) = v (ix2 r e) * a (ix2 r e) + v (ix2 r (opp e)) * b (ix2 r e) := by
  unfold k0_pay4 k0_pay2 k0_pay3
  have ht := turned (extf (F := Ideal) .f32 v bitsLt_bf16_f32) rotates_S512x128_d1 r e
  generalize dynamicRotate 1 64#32 none (extf (F := Ideal) .f32 v bitsLt_bf16_f32) rotates_S512x128_d1 = z at *
  pointwise
  rw [ht]
  pointwise

theorem k_0 : k0_pay9 (F := Ideal) (k0_pay2 a) (k0_pay3 b) v (ix2 r e) = (v (ix2 r e) * a (ix2 r e) + v (ix2 r (opp e)) * b (ix2 r e)) * scale := by
  rw [← q_0 a b v r e]
  rfl

end Heads

theorem out_at (p : Vec Ideal S512x1024 .bf16) (a b : Vec Ideal S512x128 .f32) (r : Fin 512) (j : Fin 8) (e : Fin 128) :
    out0_3 (F := Ideal) p a b (ix2 r (col j e)) = turn_at (fun i y => p (ix2 i y)) (fun i y => a (ix2 i y)) (fun i y => b (ix2 i y)) r j e := by
  unfold out0_3 k0_pay13 k0_pay14
  rw [show View.ld a r0_0 = a from View.ld_unit_zero hz _ a, show View.ld b r0_0 = b from View.ld_unit_zero hz _ b]
  refine View.canon_eq_of_allAt _ _ _ (cover0_3 _ _ _ _ _ _ _ _ _) ?_
  have hq := fun (i : Fin 8) (o : ℕ) (ho : o = i.val * 128) (hi : i.val < 4) (inb) (e : Fin 128) =>
    (q_0 a b (View.ld p (Rect.unit (s := S512x1024) ![0, o] S512x128.size inb)) r e).trans
      (show _ = turn_at (fun i y => p (ix2 i y)) (fun i y => a (ix2 i y)) (fun i y => b (ix2 i y)) r i e by
        unfold turn_at scaled
        rw [if_pos hi, ld_cols p inb r e (col i e) (congrArg (· + e.val) ho.symm), ld_cols p inb r (opp e) (col i (opp e)) (congrArg (· + (opp e).val) ho.symm)])
  have hk := fun (i : Fin 8) (o : ℕ) (ho : o = i.val * 128) (hi : ¬ i.val < 4) (inb) (e : Fin 128) =>
    (k_0 a b (View.ld p (Rect.unit (s := S512x1024) ![0, o] S512x128.size inb)) r e).trans
      (show _ = turn_at (fun i y => p (ix2 i y)) (fun i y => a (ix2 i y)) (fun i y => b (ix2 i y)) r i e by
        unfold turn_at scaled
        rw [if_neg hi, ld_cols p inb r e (col i e) (congrArg (· + e.val) ho.symm), ld_cols p inb r (opp e) (col i (opp e)) (congrArg (· + (opp e).val) ho.symm)])
  generalize turn_at (fun i y => p (ix2 i y)) (fun i y => a (ix2 i y)) (fun i y => b (ix2 i y)) r = T at *
  refine View.allAt_cons_unit _ _ _ _ _ (tile (a := 512) (et := .bf16) col (fun _ _ => rfl) T 7 896 rfl (hk 7 896 rfl (by decide) _) j e) ?_
  refine View.allAt_cons_unit _ _ _ _ _ (tile (a := 512) (et := .bf16) col (fun _ _ => rfl) T 6 768 rfl (hk 6 768 rfl (by decide) _) j e) ?_
  refine View.allAt_cons_unit _ _ _ _ _ (tile (a := 512) (et := .bf16) col (fun _ _ => rfl) T 5 640 rfl (hk 5 640 rfl (by decide) _) j e) ?_
  refine View.allAt_cons_unit _ _ _ _ _ (tile (a := 512) (et := .bf16) col (fun _ _ => rfl) T 4 512 rfl (hk 4 512 rfl (by decide) _) j e) ?_
  refine View.allAt_cons_unit _ _ _ _ _ (tile (a := 512) (et := .bf16) col (fun _ _ => rfl) T 3 384 rfl (hq 3 384 rfl (by decide) _) j e) ?_
  refine View.allAt_cons_unit _ _ _ _ _ (tile (a := 512) (et := .bf16) col (fun _ _ => rfl) T 2 256 rfl (hq 2 256 rfl (by decide) _) j e) ?_
  refine View.allAt_cons_unit _ _ _ _ _ (tile (a := 512) (et := .bf16) col (fun _ _ => rfl) T 1 128 rfl (hq 1 128 rfl (by decide) _) j e) ?_
  exact View.allAt_cons_unit _ _ _ _ _ (tile (a := 512) (et := .bf16) col (fun _ _ => rfl) T 0 0 rfl (hq 0 0 rfl (by decide) _) j e) (View.allAt_nil _ _)

variable (m : (ℓ : Loc nD τ sig) → Buf (Elt Ideal) ℓ) (c : Dev nD)

/-- The arguments: the input's product, the cosines and the sines; and the tables the kernel is given. -/
def P : S2048x5120.Idx → EReal := m ((c : Thread nD τ).loc main_arg0)
def Co : S2048x64.Idx → EReal := m ((c : Thread nD τ).loc main_arg1)
def Si : S2048x64.Idx → EReal := m ((c : Thread nD τ).loc main_arg2)
def W0 : S2048x128.Idx → EReal := V m c main_v0
def W2 : S2048x128.Idx → EReal := V m c main_v2

theorem cos_at (i : Fin 2048) (e : Fin 128) : W0 m c (ix2 i e) = Co m c (ix2 i (half e)) := by
  refine (congrFun (?_ : W0 m c = _) _).trans (table_cos (Co m c) i e)
  unfold W0 V
  simp only [hostOps0]
  after_reads_simp
  rfl
theorem sin_at (i : Fin 2048) (e : Fin 128) : W2 m c (ix2 i e) = signed (fun y => Si m c (ix2 i y)) e := by
  refine (congrFun (?_ : W2 m c = _) _).trans (table_sin (Si m c) i e)
  unfold W2 V
  simp only [hostOps0]
  after_reads_simp
  rfl

section Ref
variable (p : S2048x5120.Idx → EReal) (co si : S2048x64.Idx → EReal) (i : Fin 2048)

/-- A head's column among the input's. -/
def wide (y : Fin 1024) : Fin 5120 := ⟨y.val, by omega⟩

/-- The reference's two halves of a head are the entry turned. -/
theorem halves (j : Fin 8) (e : Fin 128) (z : EReal)
    (h1 : e.val < 64 → z = p (ix2 i (wide (col j e))) * co (ix2 i (half e)) - p (ix2 i (wide (col j (opp e)))) * si (ix2 i (half e)))
    (h2 : ¬ e.val < 64 → z = p (ix2 i (wide (col j (opp e)))) * si (ix2 i (half e)) + p (ix2 i (wide (col j e))) * co (ix2 i (half e))) :
    z = p (ix2 i (wide (col j e))) * co (ix2 i (half e)) + p (ix2 i (wide (col j (opp e)))) * signed (fun y => si (ix2 i y)) e := by
  unfold signed
  by_cases h : e.val < 64
  · rw [h1 h, if_pos h, sub_eq_add_neg, ← mul_neg]
  · rw [h2 h, if_neg h, add_comm]

theorem at_p {y z : Fin 5120} (h : y.val = z.val) : p (ix2 i y) = p (ix2 i z) := congrArg (fun y => p (ix2 i y)) (Fin.ext h)
theorem at_t (t : S2048x64.Idx → EReal) {y z : Fin 64} (h : y.val = z.val) : t (ix2 i y) = t (ix2 i z) := congrArg (fun y => t (ix2 i y)) (Fin.ext h)

theorem r_q (h : Fin 4) (e : Fin 128) : val_main_v17 (F := Ideal) p co si (ix3 i h e)
    = p (ix2 i (wide (col ⟨h.val, by omega⟩ e))) * co (ix2 i (half e)) + p (ix2 i (wide (col ⟨h.val, by omega⟩ (opp e)))) * signed (fun y => si (ix2 i y)) e := by
  refine halves p co si i _ e _ (fun he => ?_) (fun he => ?_)
  all_goals
    unfold val_main_v17 val_main_v16 val_main_v15 val_main_v14 val_main_v13 val_main_v12 val_main_v11 val_main_v10 val_main_v9 val_main_v8 val_main_v7 val_main_v6 val_main_v5 val_main_v4 val_main_v3
      val_main_v2 val_main_v1 val_main_v0
    pointwise
  · refine (dif_pos he).trans (congrArg₂ (· - ·) (congrArg₂ (· * ·) (at_p p i ?_) (at_t i co ?_)) (congrArg₂ (· * ·) (at_p p i ?_) (at_t i si ?_)))
    all_goals simp only [wide, col, opp, half]
    all_goals omega
  · refine (dif_neg he).trans (congrArg₂ (· + ·) (congrArg₂ (· * ·) (at_p p i ?_) (at_t i si ?_)) (congrArg₂ (· * ·) (at_p p i ?_) (at_t i co ?_)))
    all_goals simp only [wide, col, opp, half]
    all_goals omega

theorem r_k (h : Fin 4) (e : Fin 128) : val_main_v34 (F := Ideal) p co si (ix3 i h e)
    = p (ix2 i (wide (col ⟨4 + h.val, by omega⟩ e))) * co (ix2 i (half e)) + p (ix2 i (wide (col ⟨4 + h.val, by omega⟩ (opp e)))) * signed (fun y => si (ix2 i y)) e := by
  refine halves p co si i _ e _ (fun he => ?_) (fun he => ?_)
  all_goals
    unfold val_main_v34 val_main_v33 val_main_v32 val_main_v31 val_main_v30 val_main_v29 val_main_v28 val_main_v27 val_main_v26 val_main_v25 val_main_v24 val_main_v23 val_main_v22 val_main_v21 val_main_v20
      val_main_v19 val_main_v18 val_main_v0
    pointwise
  · refine (dif_pos he).trans (congrArg₂ (· - ·) (congrArg₂ (· * ·) (at_p p i ?_) (at_t i co ?_)) (congrArg₂ (· * ·) (at_p p i ?_) (at_t i si ?_)))
    all_goals simp only [wide, col, opp, half]
    all_goals omega
  · refine (dif_neg he).trans (congrArg₂ (· + ·) (congrArg₂ (· * ·) (at_p p i ?_) (at_t i si ?_)) (congrArg₂ (· * ·) (at_p p i ?_) (at_t i co ?_)))
    all_goals simp only [wide, col, opp, half]
    all_goals omega

theorem r_out (j : Fin 8) (e : Fin 128) : val_main_v40 (F := Ideal) p co si (ix2 i (col j e))
    = turn_at (fun i y => p (ix2 i (wide y))) (fun i y => co (ix2 i (half y))) (fun i y => signed (fun y => si (ix2 i y)) y) i j e := by
  unfold turn_at scaled
  have hq := r_q p co si i
  have hk := r_k p co si i
  unfold val_main_v40 val_main_v39 val_main_v38 val_main_v37 val_main_v36 val_main_v35 val_main_cst
  generalize val_main_v17 (F := Ideal) p co si = q at *
  generalize val_main_v34 (F := Ideal) p co si = k at *
  pointwise
  by_cases h : j.val < 4
  · rw [if_pos h]
    refine (dif_pos (show j.val * 128 + e.val < 512 by omega)).trans ?_
    exact (congrArg₂ (fun a b => q (ix3 i a b)) (Fin.ext (show (j.val * 128 + e.val) / 128 = j.val by omega) : _ = (⟨j.val, h⟩ : Fin 4))
      (Fin.ext (show (j.val * 128 + e.val) % 128 = e.val by omega) : _ = e)).trans (hq ⟨j.val, h⟩ e)
  · rw [if_neg h]
    refine (dif_neg (show ¬ j.val * 128 + e.val < 512 by omega)).trans ?_
    obtain ⟨n, rfl⟩ : ∃ n : Fin 4, j = ⟨4 + n.val, Nat.add_lt_add_left n.isLt 4⟩ := ⟨⟨j.val - 4, by omega⟩, Fin.ext (show j.val = 4 + (j.val - 4) by omega)⟩
    exact congrArg (· * scale) ((congrArg₂ (fun a b => k (ix3 i a b)) (Fin.ext (show ((4 + n.val) * 128 + e.val - 512) / 128 = n.val by omega) : _ = n)
      (Fin.ext (show ((4 + n.val) * 128 + e.val - 512) % 128 = e.val by omega) : _ = e)).trans (hk n e))

end Ref

/-! ## Where the blocks lie -/

theorem lt_N (t : Fin cfg0.N) : t.val < 4 := lt_of_lt_of_eq t.isLt N_0

theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) := by decide +kernel

theorem emb_3 (t : Fin cfg0.N) (r : Fin 512) (e : Fin 1024) : (win0_3.rect t).emb (ix2 r e) = ix2 (row t.val r) e :=
  place (lt_N t) (index t).2.2.2 (flat e) (Window.rect_emb_val win0_3 t (ix2 r e) 0) (Window.rect_emb_val win0_3 t (ix2 r e) 1)

def R : S2048x1024.Idx → EReal := val_main_v40 (F := Ideal) (P m c) (Co m c) (Si m c)

theorem iblk_0 (t : Fin cfg0.N) (r : Fin 512) (e : Fin 1024) : (iblk m c 0 t : S512x1024.Idx → EReal) (ix2 r e) = P m c (ix2 (row t.val r) (wide e)) :=
  (congrFun (V_main_arg0 m c) _).trans (congrArg (P m c) (place (y := wide e) (lt_N t) (index t).1 (flat e) (Window.rect_emb_val win0_0 t (ix2 r e) 0) (Window.rect_emb_val win0_0 t (ix2 r e) 1)))
theorem iblk_1 (t : Fin cfg0.N) (r : Fin 512) (e : Fin 128) : (iblk m c 1 t : S512x128.Idx → EReal) (ix2 r e) = Co m c (ix2 (row t.val r) (half e)) :=
  (congrArg (W0 m c) (place (lt_N t) (index t).2.1 (flat e) (Window.rect_emb_val win0_1 t (ix2 r e) 0) (Window.rect_emb_val win0_1 t (ix2 r e) 1))).trans (cos_at m c _ e)
theorem iblk_2 (t : Fin cfg0.N) (r : Fin 512) (e : Fin 128) : (iblk m c 2 t : S512x128.Idx → EReal) (ix2 r e) = signed (fun y => Si m c (ix2 (row t.val r) y)) e :=
  (congrArg (W2 m c) (place (lt_N t) (index t).2.2.1 (flat e) (Window.rect_emb_val win0_2 t (ix2 r e) 0) (Window.rect_emb_val win0_2 t (ix2 r e) 1))).trans (sin_at m c _ e)

theorem flushed_3 (t : Fin cfg0.N) : (dats m 0 c).flushed 3 t = (win0_3.blk t).view.read (Elt Ideal) (R m c) := by
  rw [Value.flushed3]
  refine funext fun (x : S512x1024.Idx) => ?_
  obtain ⟨r, y, rfl⟩ : ∃ (r : Fin 512) (y : Fin 1024), x = ix2 r y := ⟨x 0, x 1, ValueIdx.eq_ix2 x⟩
  obtain ⟨j, e, rfl⟩ := col_of y
  refine Eq.trans ?_ ((congrArg (R m c) (emb_3 t r (col j e))).trans (r_out _ _ _ _ j e)).symm
  refine (out_at (iblk m c 0 t) (iblk m c 1 t) (iblk m c 2 t) r j e).trans ?_
  unfold turn_at
  simp only [iblk_0, iblk_1, iblk_2]

theorem cover_3 (x : S2048x1024.Idx) : ∃ t : Fin cfg0.N, (cfg0.win 3).flush t = true ∧ x ∈ ((cfg0.win 3).blk t).view.set := by
  obtain ⟨i, y, rfl⟩ : ∃ (i : Fin 2048) (y : Fin 1024), x = ix2 i y := ⟨x 0, x 1, ValueIdx.eq_ix2 x⟩
  have hN : i.val / 512 < cfg0.N := lt_of_lt_of_eq (by omega : _ < 4) N_0.symm
  exact ⟨⟨_, hN⟩, flush0_3 _, Finset.mem_map.mpr ⟨ix2 (⟨i.val % 512, by omega⟩ : Fin 512) y, Finset.mem_univ _, (emb_3 ⟨_, hN⟩ _ y).trans (congrArg (ix2 · y) (row_of i))⟩⟩

theorem final_3 : (dats m 0 c).arrAt 3 cfg0.N = R m c :=
  (dats m 0 c).arrAt_eq_of_cover 3 _ (fun t _ => flushed_3 m c t) cover_3

end Cert.RopeFwdIdeal.Prod

namespace Cert.Products

open Idealize.ShloMosaic Idealize.ShloMosaic.TcCoe Idealize.SL.Sem
open Cert.RopeFwdIdeal.Prod

theorem frame_RopeFwd : quiescent_RopeFwdReferenceIdeal := fun m g _ =>
  (θ_run RopeFwdReferenceIdeal.defs _ _).mono (fun r h => ⟨fun c => (h c).2, sem_eq_zero_of_no_sems (by decide) r.2⟩) (RopeFwdReferenceIdeal.Value.run m g)

theorem algebraic_RopeFwd : algebraic_RopeFwdIdeal_RopeFwdReferenceIdeal := by
  intro m g m' g' _ h
  refine ⟨fun c => R m c,
    (θ_run RopeFwdIdeal.defs _ _).mono (fun r h c => ⟨(h c).1.trans (final_3 m c), (h c).2⟩) (RopeFwdIdeal.Value.run_blocks m g),
    (θ_run RopeFwdReferenceIdeal.defs _ _).mono (fun r h' c => ⟨(h' c).1.trans ?_, (h' c).2⟩) (RopeFwdReferenceIdeal.Value.run m' g')⟩
  obtain ⟨a0, a1, a2⟩ := h c
  refine (RopeFwdReferenceIdeal.Read.val_main_v40_eq (F := Ideal) _ _).trans ?_
  rw [a0, a1, a2]
  rfl

end Cert.Products

end
-- ==== Proof.FfnFwd.lean ====
module

public import proofs.«01_k».proof.Defs
public import proofs.«01_k».proof.Proof.Gen.FfnFwd.Frame
public import proofs.«01_k».proof.Proof.Gen.FfnFwdIdeal.Frame
public import proofs.«01_k».proof.Proof.Gen.FfnFwdIdeal.Value
public import proofs.«01_k».proof.Proof.Gen.FfnFwdReferenceIdeal.Run
public import proofs.«01_k».proof.Proof.Gen.FfnFwdReferenceIdeal.Read
public import proofs.«01_k».proof.Proof.Forward
public import proofs.«01_k».proof.Proof.FfnCols

/-! # The convolution's activation -/

@[expose] public section

noncomputable section

namespace Cert.FfnFwdIdeal.Prod

open Idealize.ShloMosaic Idealize.ShloMosaic.TcCoe
open Idealize.SL.Sem
open Idealize.ShloMosaic.Pipeline (Dat Cfg Window)
open Cert.Steps Cert.Rows Cert.Forward
open Cert.FfnFwdIdeal.Gen
open Cert.FfnFwdReferenceIdeal.Read
open Cert.FfnBwdIdeal.Conv (turned from_row lo hi)

/-- A column's convolution, of its values `u`, weights `w` and bias `b`: a weight meets zero where the row it wants is before the first. -/
def past (u : Fin 2048 → EReal) (k : ℕ) (i : Fin 2048) : EReal := if k ≤ i.val then u ⟨i.val - k, by omega⟩ else 0
def taps (u : Fin 2048 → EReal) (w : Fin 3 → EReal) (b : EReal) (i : Fin 2048) : EReal := b + w 0 * past u 2 i + w 1 * past u 1 i + w 2 * u i

/-- The activation, and the product with the gate. -/
def act (z g : EReal) : EReal := z * Ideal.div 1 (1 + Ideal.exp (-z)) * g

theorem tap (u : Fin 2048 → EReal) (w : EReal) (k : ℕ) (hk : k < 2048) (i : Fin 2048) (h) :
    Scalar.select (IntOp.cmpi CmpIPredicate.sge (BitVec.ofNat 32 i.val) (BitVec.ofNat 32 k)) (w * u ⟨(i.val + 2048 - k) % 2048, h⟩) 0 = w * past u k i := by
  refine (from_row k i.val hk i.isLt _ _).trans ?_
  unfold past
  by_cases hi : k ≤ i.val
  · rw [if_pos hi, if_pos hi]
    exact congrArg (fun j => w * u j) (Fin.ext (show (i.val + 2048 - k) % 2048 = i.val - k by omega))
  · rw [if_neg hi, if_neg hi, mul_zero]

theorem out_at (x g : Vec Ideal S2048x256 .bf16) (w : Vec Ideal S3x256 .f32) (b : Vec Ideal S1x256 .f32) (i : Fin 2048) (e : Fin 256) :
    out0_4 (F := Ideal) x g w b (ix2 i e) = act (taps (fun i => x (ix2 i e)) (fun k => w (ix2 k e)) (b (ix2 0 e)) i) (g (ix2 i e)) := by
  have h1 : dynamicRotate 0 1#32 none (extf (F := Ideal) .f32 x bitsLt_bf16_f32) rotates_S2048x256_d0 (ix2 i e) = x (ix2 ⟨(i.val + 2048 - 1) % 2048, _⟩ e) :=
    turned 1 1#32 rfl (by decide) (extf (F := Ideal) .f32 x bitsLt_bf16_f32) rotates_S2048x256_d0 i e
  have h2 : dynamicRotate 0 2#32 none (extf (F := Ideal) .f32 x bitsLt_bf16_f32) rotates_S2048x256_d0 (ix2 i e) = x (ix2 ⟨(i.val + 2048 - 2) % 2048, _⟩ e) :=
    turned 2 2#32 rfl (by decide) (extf (F := Ideal) .f32 x bitsLt_bf16_f32) rotates_S2048x256_d0 i e
  unfold out0_4
  rw [View.canon_unit_zero hz, View.ld_unit_zero hz, View.ld_unit_zero hz, View.ld_unit_zero hz, View.ld_unit_zero hz]
  unfold k0_pay1 act taps
  generalize dynamicRotate 0 1#32 none (extf (F := Ideal) .f32 x bitsLt_bf16_f32) rotates_S2048x256_d0 = z1 at *
  generalize dynamicRotate 0 2#32 none (extf (F := Ideal) .f32 x bitsLt_bf16_f32) rotates_S2048x256_d0 = z2 at *
  pointwise
  rw [h1, h2, tap (fun i => x (ix2 i e)) _ 1 (by decide), tap (fun i => x (ix2 i e)) _ 2 (by decide), zero_sub]

section Ref
variable (x : S2048x5632.Idx → EReal) (w : S3x2816.Idx → EReal) (b : S1x2816.Idx → EReal) (i : Fin 2048) (y : Fin 2816)

theorem r_conv : val_main_v28 (F := Ideal) x w b (ix2 i y) = taps (fun i => x (ix2 i (lo y))) (fun k => w (ix2 k y)) (b (ix2 0 y)) i := by
  unfold val_main_v28 val_main_v27 val_main_v26 val_main_v25 val_main_v24 val_main_v23 val_main_v22 val_main_v21 val_main_v20 val_main_v19 val_main_v18 val_main_v17 val_main_v16 val_main_v15
    val_main_v14 val_main_v13 val_main_v12 val_main_v11 val_main_v10 val_main_v9 val_main_v8 val_main_v7 val_main_v6 val_main_v5 val_main_v4 val_main_cst val_main_v3 val_main_v1 val_main_v0 taps past
  pointwise
  refine congrArg₂ (· + ·) (congrArg₂ (· + ·) (congrArg (b (ix2 0 y) + w (ix2 0 y) * ·) ?_) (congrArg (w (ix2 1 y) * ·) ?_)) rfl
  · by_cases h : i.val < 2
    · exact (dif_pos h).trans (if_neg (by omega)).symm
    · exact (dif_neg h).trans (if_pos (by omega : 2 ≤ i.val)).symm
  · by_cases h : 1 + i.val < 2
    · exact (dif_pos h).trans (if_neg (by omega)).symm
    · exact (dif_neg h).trans ((congrArg (fun j => x (ix2 j (lo y))) (Fin.ext (show 1 + i.val - 2 = i.val - 1 by omega))).trans (if_pos (by omega : 1 ≤ i.val)).symm)

theorem r_out : val_main_v31 (F := Ideal) x w b (ix2 i y)
    = act (taps (fun i => x (ix2 i (lo y))) (fun k => w (ix2 k y)) (b (ix2 0 y)) i) (x (ix2 i (hi y))) := by
  rw [← r_conv x w b i y]
  unfold val_main_v31 val_main_v30 val_main_v29 val_main_call0_v5 val_main_call0_v4 val_main_call0_cst_0 val_main_call0_v3 val_main_call0_v2 val_main_call0_cst val_main_call0_v1 val_main_call0_v0
    val_main_v2 val_main_v0
  generalize val_main_v28 (F := Ideal) x w b = z at *
  unfold act
  pointwise
  rfl

end Ref

/-! ## Where the blocks lie -/

theorem lt_N (t : Fin cfg0.N) : t.val < 11 := lt_of_lt_of_eq t.isLt N_0

/-- Column `e` of point `t`'s block of columns. -/
def col (t : Fin cfg0.N) (e : Fin 256) : Fin 2816 := ⟨t.val * 256 + e.val, by have := lt_N t; omega⟩

theorem index : ∀ t : Fin cfg0.N, (win0_0.index t 0 = 0 ∧ win0_0.index t 1 = t.val) ∧ (win0_1.index t 0 = 0 ∧ win0_1.index t 1 = 11 + t.val)
    ∧ (win0_2.index t 0 = 0 ∧ win0_2.index t 1 = t.val) ∧ (win0_3.index t 0 = 0 ∧ win0_3.index t 1 = t.val) ∧ (win0_4.index t 0 = 0 ∧ win0_4.index t 1 = t.val) := by decide +kernel

theorem emb_4 (t : Fin cfg0.N) (r : Fin 2048) (e : Fin 256) : (win0_4.rect t).emb (ix2 r e) = ix2 r (col t e) :=
  lies (index t).2.2.2.2 (Window.rect_emb_val win0_4 t _ 0) (Window.rect_emb_val win0_4 t _ 1) (Nat.zero_add _) rfl

variable (m : (ℓ : Loc nD τ sig) → Buf (Elt Ideal) ℓ) (c : Dev nD)

/-- The arguments: the product's rows, the weights and the bias; and the reference's value. -/
def X : S2048x5632.Idx → EReal := m ((c : Thread nD τ).loc main_arg0)
def W : S3x2816.Idx → EReal := m ((c : Thread nD τ).loc main_arg1)
def B : S1x2816.Idx → EReal := m ((c : Thread nD τ).loc main_arg2)
def R : S2048x2816.Idx → EReal := val_main_v31 (F := Ideal) (X m c) (W m c) (B m c)

theorem iblk_0 (t : Fin cfg0.N) (r : Fin 2048) (e : Fin 256) : (iblk m c 0 t : S2048x256.Idx → EReal) (ix2 r e) = X m c (ix2 r (lo (col t e))) :=
  (congrFun (V_main_arg0 m c) _).trans (congrArg (X m c) (lies (index t).1 (Window.rect_emb_val win0_0 t _ 0) (Window.rect_emb_val win0_0 t _ 1) (Nat.zero_add _) rfl))
theorem iblk_1 (t : Fin cfg0.N) (r : Fin 2048) (e : Fin 256) : (iblk m c 1 t : S2048x256.Idx → EReal) (ix2 r e) = X m c (ix2 r (hi (col t e))) :=
  (congrFun (V_main_arg0 m c) _).trans (congrArg (X m c) (lies (index t).2.1 (Window.rect_emb_val win0_1 t _ 0) (Window.rect_emb_val win0_1 t _ 1) (Nat.zero_add _)
    (show (11 + t.val) * 256 + e.val = 2816 + (t.val * 256 + e.val) by omega)))
theorem iblk_2 (t : Fin cfg0.N) (r : Fin 3) (e : Fin 256) : (iblk m c 2 t : S3x256.Idx → EReal) (ix2 r e) = W m c (ix2 r (col t e)) :=
  (congrFun (V_main_arg1 m c) _).trans (congrArg (W m c) (lies (index t).2.2.1 (Window.rect_emb_val win0_2 t _ 0) (Window.rect_emb_val win0_2 t _ 1) (Nat.zero_add _) rfl))
theorem iblk_3 (t : Fin cfg0.N) (r : Fin 1) (e : Fin 256) : (iblk m c 3 t : S1x256.Idx → EReal) (ix2 r e) = B m c (ix2 r (col t e)) :=
  (congrFun (V_main_arg2 m c) _).trans (congrArg (B m c) (lies (index t).2.2.2.1 (Window.rect_emb_val win0_3 t _ 0) (Window.rect_emb_val win0_3 t _ 1) (Nat.zero_add _) rfl))

theorem flushed_4 (t : Fin cfg0.N) : (dats m 0 c).flushed 4 t = (win0_4.blk t).view.read (Elt Ideal) (R m c) := by
  rw [Value.flushed4]
  refine funext fun (x : S2048x256.Idx) => ?_
  obtain ⟨r, e, rfl⟩ : ∃ (r : Fin 2048) (e : Fin 256), x = ix2 r e := ⟨x 0, x 1, ValueIdx.eq_ix2 x⟩
  refine Eq.trans ?_ ((congrArg (R m c) (emb_4 t r e)).trans (r_out _ _ _ _ _)).symm
  refine (out_at (iblk m c 0 t) (iblk m c 1 t) (iblk m c 2 t) (iblk m c 3 t) r e).trans ?_
  simp only [iblk_0, iblk_1, iblk_2, iblk_3]

theorem cover_4 (x : S2048x2816.Idx) : ∃ t : Fin cfg0.N, (cfg0.win 4).flush t = true ∧ x ∈ ((cfg0.win 4).blk t).view.set := by
  obtain ⟨i, y, rfl⟩ : ∃ (i : Fin 2048) (y : Fin 2816), x = ix2 i y := ⟨x 0, x 1, ValueIdx.eq_ix2 x⟩
  have hN : y.val / 256 < cfg0.N := lt_of_lt_of_eq (by omega : _ < 11) N_0.symm
  exact ⟨⟨_, hN⟩, flush0_4 _, Finset.mem_map.mpr ⟨ix2 i (⟨y.val % 256, by omega⟩ : Fin 256), Finset.mem_univ _, (emb_4 ⟨_, hN⟩ i _).trans (congrArg (ix2 i)
    (Fin.ext (show y.val / 256 * 256 + y.val % 256 = y.val by omega)))⟩⟩

theorem final_4 : (dats m 0 c).arrAt 4 cfg0.N = R m c :=
  (dats m 0 c).arrAt_eq_of_cover 4 _ (fun t _ => flushed_4 m c t) cover_4

end Cert.FfnFwdIdeal.Prod

namespace Cert.Products

open Idealize.ShloMosaic Idealize.ShloMosaic.TcCoe Idealize.SL.Sem
open Cert.FfnFwdIdeal.Prod

theorem frame_FfnFwd : quiescent_FfnFwdReferenceIdeal := fun m g _ =>
  (θ_run FfnFwdReferenceIdeal.defs _ _).mono (fun r h => ⟨fun c => (h c).2, sem_eq_zero_of_no_sems (by decide) r.2⟩) (FfnFwdReferenceIdeal.Value.run m g)

theorem algebraic_FfnFwd : algebraic_FfnFwdIdeal_FfnFwdReferenceIdeal := by
  intro m g m' g' _ h
  refine ⟨fun c => R m c,
    (θ_run FfnFwdIdeal.defs _ _).mono (fun r h c => ⟨(h c).1.trans (final_4 m c), (h c).2⟩) (FfnFwdIdeal.Value.run_blocks m g),
    (θ_run FfnFwdReferenceIdeal.defs _ _).mono (fun r h' c => ⟨(h' c).1.trans ?_, (h' c).2⟩) (FfnFwdReferenceIdeal.Value.run m' g')⟩
  obtain ⟨a0, a1, a2⟩ := h c
  refine (FfnFwdReferenceIdeal.Read.val_main_v31_eq (F := Ideal) _ _).trans ?_
  rw [a0, a1, a2]
  rfl

end Cert.Products

end
-- ==== Proof.RetPost.lean ====
module

public import proofs.«01_k».proof.Defs
public import proofs.«01_k».proof.Proof.Gen.RetPost.Frame
public import proofs.«01_k».proof.Proof.Gen.RetPostIdeal.Frame
public import proofs.«01_k».proof.Proof.Gen.RetPostIdeal.Value
public import proofs.«01_k».proof.Proof.Gen.RetPostReferenceIdeal.Run
public import proofs.«01_k».proof.Proof.Gen.RetPostReferenceIdeal.Read
public import proofs.«01_k».proof.Proof.Forward

/-! # The retention branch's norm and gate -/

@[expose] public section

noncomputable section

namespace Cert.RetPostIdeal.Prod

open Idealize.ShloMosaic Idealize.ShloMosaic.TcCoe
open Idealize.SL.Sem
open Idealize.ShloMosaic.Pipeline (Dat Cfg Window)
open Cert.Steps Cert.Rows Cert.Forward
open Cert.RetPostIdeal.Gen
open Cert.RetPostReferenceIdeal.Read

theorem k_0 (x : Vec Ideal S512x128 .f32) (g : Vec Ideal S1x128 .f32) (p : Vec Ideal S512x128 .bf16) (r : Fin 512) (e : Fin 128) :
    k0_pay2 (F := Ideal) g x p (ix2 r e) = gated (rms (centred fun j => x (ix2 r j)) e) (g (ix2 0 e)) (p (ix2 r e)) := by
  unfold k0_pay2 gated rms centred
  pointwise
  simp only [zero_sub]
  rfl

theorem k_1 (x : Vec Ideal S512x128 .f32) (g : Vec Ideal S1x128 .f32) (p : Vec Ideal S512x128 .bf16) : k0_pay4 (F := Ideal) g x (k0_pay3 x) p = k0_pay2 g x p := rfl
theorem k_2 (x : Vec Ideal S512x128 .f32) (g : Vec Ideal S1x128 .f32) (p : Vec Ideal S512x128 .bf16) :
    k0_pay7 (F := Ideal) g (k0_pay5 x) (k0_pay6 x) (Scalar.ofBits .f32 0x43000000#32) p = k0_pay2 g x p := rfl
theorem k_3 (x : Vec Ideal S512x128 .f32) (g : Vec Ideal S1x128 .f32) (p : Vec Ideal S512x128 .bf16) : k0_pay1 (F := Ideal) g (k0_pay8 x) p = k0_pay2 g x p := rfl

/-- An entry of the result. -/
def entry {n : ℕ} (x : Shape.Idx ⟨2, ![n, 512]⟩ → EReal) (p : Fin n → Fin 512 → EReal) (g : S1x512.Idx → EReal) (i : Fin n) (j : Fin 4) (e : Fin 128) : EReal :=
  gated (rms (centred fun k => x (ix2 i (head j k))) e) (g (ix2 0 (head j e))) (p i (head j e))

theorem k_out (x : Vec Ideal S512x512 .f32) (p : Vec Ideal S512x512 .bf16) (g : Vec Ideal S1x512 .f32) (r : Fin 512) (j : Fin 4) (e : Fin 128) :
    out0_3 (F := Ideal) x p g (ix2 r (head j e)) = entry x (fun i y => p (ix2 i y)) g r j e := by
  have h (j : Fin 4) (o : ℕ) (ho : o = j.val * 128) (inb) (inb') (inb'') (e : Fin 128) :
      k0_pay2 (F := Ideal) (View.ld g (Rect.unit (s := S1x512) ![0, o] S1x128.size inb'')) (View.ld x (Rect.unit (s := S512x512) ![0, o] S512x128.size inb)) (View.ld p (Rect.unit (s := S512x512) ![0, o] S512x128.size inb')) (ix2 r e)
        = entry x (fun i y => p (ix2 i y)) g r j e := by
    refine (k_0 _ _ _ r e).trans ?_
    unfold entry
    simp only [fun k => ld_cols x inb r k (head j k) (congrArg (· + k.val) ho.symm), ld_cols p inb' r e (head j e) (congrArg (· + e.val) ho.symm), ld_cols g inb'' 0 e (head j e) (congrArg (· + e.val) ho.symm)]
  unfold out0_3
  refine View.canon_eq_of_allAt _ _ _ (cover0_3 _ _ _ _ _) ?_
  refine View.allAt_cons_unit _ _ _ _ _ (tile (a := 512) (et := .bf16) head (fun _ _ => rfl) (entry x (fun i y => p (ix2 i y)) g r) 3 384 rfl (fun e => (congrFun (k_3 _ _ _) _).trans (h 3 384 rfl _ _ _ e)) j e) ?_
  refine View.allAt_cons_unit _ _ _ _ _ (tile (a := 512) (et := .bf16) head (fun _ _ => rfl) (entry x (fun i y => p (ix2 i y)) g r) 2 256 rfl (fun e => (congrFun (k_2 _ _ _) _).trans (h 2 256 rfl _ _ _ e)) j e) ?_
  refine View.allAt_cons_unit _ _ _ _ _ (tile (a := 512) (et := .bf16) head (fun _ _ => rfl) (entry x (fun i y => p (ix2 i y)) g r) 1 128 rfl (fun e => (congrFun (k_1 _ _ _) _).trans (h 1 128 rfl _ _ _ e)) j e) ?_
  refine View.allAt_cons_unit _ _ _ _ _ (tile (a := 512) (et := .bf16) head (fun _ _ => rfl) (entry x (fun i y => p (ix2 i y)) g r) 0 0 rfl (fun e => h 0 0 rfl _ _ _ e) j e) ?_
  exact View.allAt_nil _ _

theorem r_centred (x : S2048x512.Idx → EReal) (i : Fin 2048) (j : Fin 4) (e : Fin 128) :
    val_main_v7 (F := Ideal) x (ix3 i j e) = centred (fun k => x (ix2 i (head j k))) e := by
  unfold val_main_v7 val_main_v6 val_main_v5 val_main_v4 val_main_cst_0 val_main_v3 val_main_v2 val_main_cst val_main_v0 centred
  pointwise
  rfl

theorem r_norm (x : S2048x512.Idx → EReal) (g : S1x512.Idx → EReal) (i : Fin 2048) (j : Fin 4) (e : Fin 128) :
    val_main_v20 (F := Ideal) x g (ix3 i j e) = rms (centred fun k => x (ix2 i (head j k))) e * g (ix2 0 (head j e)) := by
  unfold rms
  simp only [← r_centred]
  unfold val_main_v20 val_main_v19 val_main_v18 val_main_v17 val_main_v16 val_main_v15 val_main_v14 val_main_v13 val_main_cst_3 val_main_v12 val_main_v11 val_main_cst_2 val_main_v10 val_main_v9
    val_main_cst_1 val_main_v8 val_main_v1
  generalize val_main_v7 (F := Ideal) x = z
  pointwise
  rfl

theorem r_out (x : S2048x512.Idx → EReal) (p : S2048x5120.Idx → EReal) (g : S1x512.Idx → EReal) (i : Fin 2048) (j : Fin 4) (e : Fin 128) :
    val_main_v26 (F := Ideal) x p g (ix2 i (head j e)) = entry x (fun i y => p (ix2 i (inCol 3 (by decide) y))) g i j e := by
  unfold entry gated
  rw [← r_norm]
  unfold val_main_v26 val_main_v25 val_main_v24 val_main_call0_v5 val_main_call0_v4 val_main_call0_cst_0 val_main_call0_v3 val_main_call0_v2 val_main_call0_cst val_main_call0_v1 val_main_call0_v0 val_main_v23 val_main_v22 val_main_v21
  generalize val_main_v20 (F := Ideal) x g = z
  pointwise
  exact congrArg₂ (· * ·) rfl (at_head (fun a b => z (ix3 i a b)) j e _ _)

theorem index : ∀ t : Fin cfg0.N, (win0_0.index t 0 = t.val ∧ win0_0.index t 1 = 0) ∧ (win0_1.index t 0 = t.val ∧ win0_1.index t 1 = 3)
    ∧ (win0_2.index t 0 = 0 ∧ win0_2.index t 1 = 0) ∧ (win0_3.index t 0 = t.val ∧ win0_3.index t 1 = 0) := by decide +kernel

theorem lt_N (t : Fin cfg0.N) : t.val < 4 := lt_of_lt_of_eq t.isLt N_0

theorem emb_3 (t : Fin cfg0.N) (r : Fin 512) (e : Fin 512) : (win0_3.rect t).emb (ix2 r e) = ix2 (row t.val r) e :=
  place (lt_N t) (index t).2.2.2 (flat e) (Window.rect_emb_val win0_3 t (ix2 r e) 0) (Window.rect_emb_val win0_3 t (ix2 r e) 1)

variable (m : (ℓ : Loc nD τ sig) → Buf (Elt Ideal) ℓ) (c : Dev nD)

/-- The arguments: the branch's value, the input's product and the gain; and the reference's value. -/
def X : S2048x512.Idx → EReal := m ((c : Thread nD τ).loc main_arg0)
def P : S2048x5120.Idx → EReal := m ((c : Thread nD τ).loc main_arg1)
def G : S1x512.Idx → EReal := m ((c : Thread nD τ).loc main_arg2)
def R : S2048x512.Idx → EReal := val_main_v26 (F := Ideal) (X m c) (P m c) (G m c)

theorem iblk_0 (t : Fin cfg0.N) (r : Fin 512) (e : Fin 512) : (iblk m c 0 t : S512x512.Idx → EReal) (ix2 r e) = X m c (ix2 (row t.val r) e) :=
  (congrFun (V_main_arg0 m c) _).trans (congrArg (X m c) (place (lt_N t) (index t).1 (flat e) (Window.rect_emb_val win0_0 t (ix2 r e) 0) (Window.rect_emb_val win0_0 t (ix2 r e) 1)))
theorem iblk_1 (t : Fin cfg0.N) (r : Fin 512) (e : Fin 512) : (iblk m c 1 t : S512x512.Idx → EReal) (ix2 r e) = P m c (ix2 (row t.val r) (inCol 3 (by decide) e)) :=
  (congrFun (V_main_arg1 m c) _).trans (congrArg (P m c) (place (lt_N t) (index t).2.1 rfl (Window.rect_emb_val win0_1 t (ix2 r e) 0) (Window.rect_emb_val win0_1 t (ix2 r e) 1)))
theorem iblk_2 (t : Fin cfg0.N) (e : Fin 512) : (iblk m c 2 t : S1x512.Idx → EReal) (ix2 0 e) = G m c (ix2 0 e) :=
  (congrFun (V_main_arg2 m c) _).trans (congrArg (G m c) (stay (index t).2.2.1 (Window.rect_emb_val win0_2 t (ix2 0 e) 0) (Window.rect_emb_val win0_2 t (ix2 0 e) 1)))

theorem flushed_3 (t : Fin cfg0.N) : (dats m 0 c).flushed 3 t = (win0_3.blk t).view.read (Elt Ideal) (R m c) := by
  rw [Value.flushed3]
  refine funext fun (x : S512x512.Idx) => ?_
  obtain ⟨r, y, rfl⟩ : ∃ (r : Fin 512) (y : Fin 512), x = ix2 r y := ⟨x 0, x 1, ValueIdx.eq_ix2 x⟩
  obtain ⟨j, e, rfl⟩ := head_of y
  refine Eq.trans ?_ ((congrArg (R m c) (emb_3 t r (head j e))).trans (r_out _ _ _ _ j e)).symm
  refine (k_out (iblk m c 0 t) (iblk m c 1 t) (iblk m c 2 t) r j e).trans ?_
  unfold entry
  simp only [iblk_0, iblk_1, iblk_2]

theorem cover_3 (x : S2048x512.Idx) : ∃ t : Fin cfg0.N, (cfg0.win 3).flush t = true ∧ x ∈ ((cfg0.win 3).blk t).view.set := by
  obtain ⟨i, y, rfl⟩ : ∃ (i : Fin 2048) (y : Fin 512), x = ix2 i y := ⟨x 0, x 1, ValueIdx.eq_ix2 x⟩
  have hN : i.val / 512 < cfg0.N := lt_of_lt_of_eq (by omega : _ < 4) N_0.symm
  exact ⟨⟨_, hN⟩, flush0_3 _, Finset.mem_map.mpr ⟨ix2 (⟨i.val % 512, by omega⟩ : Fin 512) y, Finset.mem_univ _, (emb_3 ⟨_, hN⟩ _ y).trans (congrArg (ix2 · y) (row_of i))⟩⟩

theorem final_3 : (dats m 0 c).arrAt 3 cfg0.N = R m c :=
  (dats m 0 c).arrAt_eq_of_cover 3 _ (fun t _ => flushed_3 m c t) cover_3

end Cert.RetPostIdeal.Prod

namespace Cert.Products

open Idealize.ShloMosaic Idealize.ShloMosaic.TcCoe Idealize.SL.Sem
open Cert.RetPostIdeal.Prod

theorem frame_RetPost : quiescent_RetPostReferenceIdeal := fun m g _ =>
  (θ_run RetPostReferenceIdeal.defs _ _).mono (fun r h => ⟨fun c => (h c).2, sem_eq_zero_of_no_sems (by decide) r.2⟩) (RetPostReferenceIdeal.Value.run m g)

theorem algebraic_RetPost : algebraic_RetPostIdeal_RetPostReferenceIdeal := by
  intro m g m' g' _ h
  refine ⟨fun c => R m c,
    (θ_run RetPostIdeal.defs _ _).mono (fun r h c => ⟨(h c).1.trans (final_3 m c), (h c).2⟩) (RetPostIdeal.Value.run_blocks m g),
    (θ_run RetPostReferenceIdeal.defs _ _).mono (fun r h' c => ⟨(h' c).1.trans ?_, (h' c).2⟩) (RetPostReferenceIdeal.Value.run m' g')⟩
  obtain ⟨a0, a1, a2⟩ := h c
  refine (RetPostReferenceIdeal.Read.val_main_v26_eq (F := Ideal) _ _ _).trans ?_
  rw [a0, a1, a2]
  rfl

end Cert.Products

end
-- ==== Proof.GlaPost.lean ====
module

public import proofs.«01_k».proof.Defs
public import proofs.«01_k».proof.Proof.Gen.GlaPost.Frame
public import proofs.«01_k».proof.Proof.Gen.GlaPostIdeal.Frame
public import proofs.«01_k».proof.Proof.Gen.GlaPostIdeal.Value
public import proofs.«01_k».proof.Proof.Gen.GlaPostReferenceIdeal.Run
public import proofs.«01_k».proof.Proof.Gen.GlaPostReferenceIdeal.Read
public import proofs.«01_k».proof.Proof.Forward

/-! # The gated linear attention's norm and gate -/

@[expose] public section

noncomputable section

namespace Cert.GlaPostIdeal.Prod

open Idealize.ShloMosaic Idealize.ShloMosaic.TcCoe
open Idealize.SL.Sem
open Idealize.ShloMosaic.Pipeline (Dat Cfg Window)
open Cert.Steps Cert.Rows Cert.Forward
open Cert.GlaPostIdeal.Gen
open Cert.GlaPostReferenceIdeal.Read

theorem k_0 (x : Vec Ideal S512x128 .f32) (g : Vec Ideal S1x128 .f32) (p : Vec Ideal S512x128 .bf16) (r : Fin 512) (e : Fin 128) :
    k0_pay2 (F := Ideal) g x p (ix2 r e) = gated (rms (fun j => x (ix2 r j)) e) (g (ix2 0 e)) (p (ix2 r e)) := by
  unfold k0_pay2 gated rms
  pointwise
  simp only [zero_sub]
  rfl

theorem k_1 (x : Vec Ideal S512x128 .f32) (g : Vec Ideal S1x128 .f32) (p : Vec Ideal S512x128 .bf16) : k0_pay3 (F := Ideal) g x p = k0_pay2 g x p := rfl
theorem k_2 (x : Vec Ideal S512x128 .f32) (g : Vec Ideal S1x128 .f32) (p : Vec Ideal S512x128 .bf16) : k0_pay5 (F := Ideal) g x (k0_pay4 x) p = k0_pay2 g x p := rfl
theorem k_3 (x : Vec Ideal S512x128 .f32) (g : Vec Ideal S1x128 .f32) (p : Vec Ideal S512x128 .bf16) : k0_pay1 (F := Ideal) (k0_pay6 x) (k0_pay7 p) (k0_pay8 g) = k0_pay2 g x p := rfl

/-- An entry of the result. -/
def entry {n : ℕ} (x : Shape.Idx ⟨2, ![n, 512]⟩ → EReal) (p : Fin n → Fin 512 → EReal) (g : S1x128.Idx → EReal) (i : Fin n) (j : Fin 4) (e : Fin 128) : EReal :=
  gated (rms (fun k => x (ix2 i (head j k))) e) (g (ix2 0 e)) (p i (head j e))

theorem k_out (x : Vec Ideal S512x512 .f32) (p : Vec Ideal S512x512 .bf16) (g : Vec Ideal S1x128 .f32) (r : Fin 512) (j : Fin 4) (e : Fin 128) :
    out0_3 (F := Ideal) x p g (ix2 r (head j e)) = entry x (fun i y => p (ix2 i y)) g r j e := by
  have h (j : Fin 4) (o : ℕ) (ho : o = j.val * 128) (inb) (inb') (e : Fin 128) :
      k0_pay2 (F := Ideal) g (View.ld x (Rect.unit (s := S512x512) ![0, o] S512x128.size inb)) (View.ld p (Rect.unit (s := S512x512) ![0, o] S512x128.size inb')) (ix2 r e)
        = entry x (fun i y => p (ix2 i y)) g r j e := by
    refine (k_0 _ _ _ r e).trans ?_
    unfold entry
    simp only [fun k => ld_cols x inb r k (head j k) (congrArg (· + k.val) ho.symm), ld_cols p inb' r e (head j e) (congrArg (· + e.val) ho.symm)]
  unfold out0_3
  rw [show View.ld g r0_0 = g from View.ld_unit_zero hz _ g]
  refine View.canon_eq_of_allAt _ _ _ (cover0_3 _ _ _ _ _) ?_
  refine View.allAt_cons_unit _ _ _ _ _ (tile (a := 512) (et := .bf16) head (fun _ _ => rfl) (entry x (fun i y => p (ix2 i y)) g r) 3 384 rfl (fun e => h 3 384 rfl _ _ e) j e) ?_
  refine View.allAt_cons_unit _ _ _ _ _ (tile (a := 512) (et := .bf16) head (fun _ _ => rfl) (entry x (fun i y => p (ix2 i y)) g r) 2 256 rfl (fun e => (congrFun (k_3 _ _ _) _).trans (h 2 256 rfl _ _ e)) j e) ?_
  refine View.allAt_cons_unit _ _ _ _ _ (tile (a := 512) (et := .bf16) head (fun _ _ => rfl) (entry x (fun i y => p (ix2 i y)) g r) 1 128 rfl (fun e => (congrFun (k_2 _ _ _) _).trans (h 1 128 rfl _ _ e)) j e) ?_
  refine View.allAt_cons_unit _ _ _ _ _ (tile (a := 512) (et := .bf16) head (fun _ _ => rfl) (entry x (fun i y => p (ix2 i y)) g r) 0 0 rfl (fun e => (congrFun (k_1 _ _ _) _).trans (h 0 0 rfl _ _ e)) j e) ?_
  exact View.allAt_nil _ _

theorem r_norm (x : S2048x512.Idx → EReal) (g : S1x128.Idx → EReal) (i : Fin 2048) (j : Fin 4) (e : Fin 128) :
    val_main_v14 (F := Ideal) x g (ix3 i j e) = rms (fun k => x (ix2 i (head j k))) e * g (ix2 0 e) := by
  unfold val_main_v14 val_main_v13 val_main_v12 val_main_v11 val_main_v10 val_main_v9 val_main_v8 val_main_v7 val_main_cst_1 val_main_v6 val_main_v5 val_main_cst_0 val_main_v4 val_main_v3
    val_main_cst val_main_v2 val_main_v1 val_main_v0 rms
  pointwise
  rfl

theorem r_out (x : S2048x512.Idx → EReal) (p : S2048x5120.Idx → EReal) (g : S1x128.Idx → EReal) (i : Fin 2048) (j : Fin 4) (e : Fin 128) :
    val_main_v20 (F := Ideal) x p g (ix2 i (head j e)) = entry x (fun i y => p (ix2 i (inCol 6 (by decide) y))) g i j e := by
  unfold entry gated
  rw [← r_norm]
  unfold val_main_v20 val_main_v19 val_main_v18 val_main_call0_v5 val_main_call0_v4 val_main_call0_cst_0 val_main_call0_v3 val_main_call0_v2 val_main_call0_cst val_main_call0_v1 val_main_call0_v0 val_main_v17 val_main_v16 val_main_v15
  generalize val_main_v14 (F := Ideal) x g = z
  pointwise
  exact congrArg₂ (· * ·) rfl (at_head (fun a b => z (ix3 i a b)) j e _ _)

theorem index : ∀ t : Fin cfg0.N, (win0_0.index t 0 = t.val ∧ win0_0.index t 1 = 0) ∧ (win0_1.index t 0 = t.val ∧ win0_1.index t 1 = 6)
    ∧ (win0_2.index t 0 = 0 ∧ win0_2.index t 1 = 0) ∧ (win0_3.index t 0 = t.val ∧ win0_3.index t 1 = 0) := by decide +kernel

theorem lt_N (t : Fin cfg0.N) : t.val < 4 := lt_of_lt_of_eq t.isLt N_0

theorem emb_3 (t : Fin cfg0.N) (r : Fin 512) (e : Fin 512) : (win0_3.rect t).emb (ix2 r e) = ix2 (row t.val r) e :=
  place (lt_N t) (index t).2.2.2 (flat e) (Window.rect_emb_val win0_3 t (ix2 r e) 0) (Window.rect_emb_val win0_3 t (ix2 r e) 1)

variable (m : (ℓ : Loc nD τ sig) → Buf (Elt Ideal) ℓ) (c : Dev nD)

/-- The arguments: the branch's value, the input's product and the gain; and the reference's value. -/
def X : S2048x512.Idx → EReal := m ((c : Thread nD τ).loc main_arg0)
def P : S2048x5120.Idx → EReal := m ((c : Thread nD τ).loc main_arg1)
def G : S1x128.Idx → EReal := m ((c : Thread nD τ).loc main_arg2)
def R : S2048x512.Idx → EReal := val_main_v20 (F := Ideal) (X m c) (P m c) (G m c)

theorem iblk_0 (t : Fin cfg0.N) (r : Fin 512) (e : Fin 512) : (iblk m c 0 t : S512x512.Idx → EReal) (ix2 r e) = X m c (ix2 (row t.val r) e) :=
  (congrFun (V_main_arg0 m c) _).trans (congrArg (X m c) (place (lt_N t) (index t).1 (flat e) (Window.rect_emb_val win0_0 t (ix2 r e) 0) (Window.rect_emb_val win0_0 t (ix2 r e) 1)))
theorem iblk_1 (t : Fin cfg0.N) (r : Fin 512) (e : Fin 512) : (iblk m c 1 t : S512x512.Idx → EReal) (ix2 r e) = P m c (ix2 (row t.val r) (inCol 6 (by decide) e)) :=
  (congrFun (V_main_arg1 m c) _).trans (congrArg (P m c) (place (lt_N t) (index t).2.1 rfl (Window.rect_emb_val win0_1 t (ix2 r e) 0) (Window.rect_emb_val win0_1 t (ix2 r e) 1)))
theorem iblk_2 (t : Fin cfg0.N) (e : Fin 128) : (iblk m c 2 t : S1x128.Idx → EReal) (ix2 0 e) = G m c (ix2 0 e) :=
  (congrFun (V_main_arg2 m c) _).trans (congrArg (G m c) (stay (index t).2.2.1 (Window.rect_emb_val win0_2 t (ix2 0 e) 0) (Window.rect_emb_val win0_2 t (ix2 0 e) 1)))

theorem flushed_3 (t : Fin cfg0.N) : (dats m 0 c).flushed 3 t = (win0_3.blk t).view.read (Elt Ideal) (R m c) := by
  rw [Value.flushed3]
  refine funext fun (x : S512x512.Idx) => ?_
  obtain ⟨r, y, rfl⟩ : ∃ (r : Fin 512) (y : Fin 512), x = ix2 r y := ⟨x 0, x 1, ValueIdx.eq_ix2 x⟩
  obtain ⟨j, e, rfl⟩ := head_of y
  refine Eq.trans ?_ ((congrArg (R m c) (emb_3 t r (head j e))).trans (r_out _ _ _ _ j e)).symm
  refine (k_out (iblk m c 0 t) (iblk m c 1 t) (iblk m c 2 t) r j e).trans ?_
  unfold entry
  simp only [iblk_0, iblk_1, iblk_2]

theorem cover_3 (x : S2048x512.Idx) : ∃ t : Fin cfg0.N, (cfg0.win 3).flush t = true ∧ x ∈ ((cfg0.win 3).blk t).view.set := by
  obtain ⟨i, y, rfl⟩ : ∃ (i : Fin 2048) (y : Fin 512), x = ix2 i y := ⟨x 0, x 1, ValueIdx.eq_ix2 x⟩
  have hN : i.val / 512 < cfg0.N := lt_of_lt_of_eq (by omega : _ < 4) N_0.symm
  exact ⟨⟨_, hN⟩, flush0_3 _, Finset.mem_map.mpr ⟨ix2 (⟨i.val % 512, by omega⟩ : Fin 512) y, Finset.mem_univ _, (emb_3 ⟨_, hN⟩ _ y).trans (congrArg (ix2 · y) (row_of i))⟩⟩

theorem final_3 : (dats m 0 c).arrAt 3 cfg0.N = R m c :=
  (dats m 0 c).arrAt_eq_of_cover 3 _ (fun t _ => flushed_3 m c t) cover_3

end Cert.GlaPostIdeal.Prod

namespace Cert.Products

open Idealize.ShloMosaic Idealize.ShloMosaic.TcCoe Idealize.SL.Sem
open Cert.GlaPostIdeal.Prod

theorem frame_GlaPost : quiescent_GlaPostReferenceIdeal := fun m g _ =>
  (θ_run GlaPostReferenceIdeal.defs _ _).mono (fun r h => ⟨fun c => (h c).2, sem_eq_zero_of_no_sems (by decide) r.2⟩) (GlaPostReferenceIdeal.Value.run m g)

theorem algebraic_GlaPost : algebraic_GlaPostIdeal_GlaPostReferenceIdeal := by
  intro m g m' g' _ h
  refine ⟨fun c => R m c,
    (θ_run GlaPostIdeal.defs _ _).mono (fun r h c => ⟨(h c).1.trans (final_3 m c), (h c).2⟩) (GlaPostIdeal.Value.run_blocks m g),
    (θ_run GlaPostReferenceIdeal.defs _ _).mono (fun r h' c => ⟨(h' c).1.trans ?_, (h' c).2⟩) (GlaPostReferenceIdeal.Value.run m' g')⟩
  obtain ⟨a0, a1, a2⟩ := h c
  refine (GlaPostReferenceIdeal.Read.val_main_v20_eq (F := Ideal) _ _ _).trans ?_
  rw [a0, a1, a2]
  rfl

end Cert.Products

end
-- ==== Proof.lean ====
/- The certificate's claims, put together: the frames, what the idealization keeps, and the equality of the
   forgetting attention's gradients, of the feed-forward gate's, of the mixing gates', of the gated residual's, of the
   modulated norm's, of the rotary positions', and of every product's, with the reference's. -/
module

public import proofs.«01_k».proof.Defs
public import proofs.«01_k».proof.Proof.Reals
public import proofs.«01_k».proof.Proof.Final
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_ffn_finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelFrame
public import proofs.«01_k».proof.Proof.Products
public import proofs.«01_k».proof.Proof.FfnBwd
public import proofs.«01_k».proof.Proof.MixBwd
public import proofs.«01_k».proof.Proof.ResBwd
public import proofs.«01_k».proof.Proof.NormBwd
public import proofs.«01_k».proof.Proof.RopeBwd
public import proofs.«01_k».proof.Proof.ResFwd
public import proofs.«01_k».proof.Proof.NormFwd
public import proofs.«01_k».proof.Proof.ResNorm
public import proofs.«01_k».proof.Proof.MixFwd
public import proofs.«01_k».proof.Proof.RopeFwd
public import proofs.«01_k».proof.Proof.FfnFwd
public import proofs.«01_k».proof.Proof.RetPost
public import proofs.«01_k».proof.Proof.GlaPost
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem
open Cert.ReferenceIdeal.Fox (up v26_real)
open Cert.ReferenceIdeal.Read (val_main_v26 val_main_v87 val_main_v88 val_main_v89 val_main_v90 val_main_v92)

/-- The idealized kernel's frame, from the run that its value proof is about. -/
theorem frame_KernelIdeal (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal))) ⟨m, fun _ => 0, g⟩
      (fun r => (∀ c : Dev KernelIdeal.nD,
        r.2.mem ((c : Thread KernelIdeal.nD KernelIdeal.τ).loc KernelIdeal.main_arg0) = m ((c : Thread KernelIdeal.nD KernelIdeal.τ).loc KernelIdeal.main_arg0)
        ∧ r.2.mem ((c : Thread KernelIdeal.nD KernelIdeal.τ).loc KernelIdeal.main_arg1) = m ((c : Thread KernelIdeal.nD KernelIdeal.τ).loc KernelIdeal.main_arg1)
        ∧ r.2.mem ((c : Thread KernelIdeal.nD KernelIdeal.τ).loc KernelIdeal.main_arg2) = m ((c : Thread KernelIdeal.nD KernelIdeal.τ).loc KernelIdeal.main_arg2)
        ∧ r.2.mem ((c : Thread KernelIdeal.nD KernelIdeal.τ).loc KernelIdeal.main_arg3) = m ((c : Thread KernelIdeal.nD KernelIdeal.τ).loc KernelIdeal.main_arg3))
        ∧ r.2.sem = fun _ => 0) :=
  θ_run_and
    (KernelIdeal.Gen.frame_of m g (KernelIdeal.Fox.dats m) (KernelIdeal.Fox.A_eq m)
      ((θ_run KernelIdeal.defs _ _).mono (fun _ h => h.1) (KernelIdeal.Fox.run_main m g)))
    ((θ_run KernelIdeal.defs _ _).mono (fun _ h => h.2) (KernelIdeal.Fox.run_main m g))

/-- The reference's frame: a program with no kernel moves no counter. -/
theorem frame_ReferenceIdeal (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c : Thread ReferenceIdeal.nD ReferenceIdeal.τ).loc ReferenceIdeal.main_arg0) = m ((c : Thread ReferenceIdeal.nD ReferenceIdeal.τ).loc ReferenceIdeal.main_arg0)
        ∧ r.2.mem ((c : Thread ReferenceIdeal.nD ReferenceIdeal.τ).loc ReferenceIdeal.main_arg1) = m ((c : Thread ReferenceIdeal.nD ReferenceIdeal.τ).loc ReferenceIdeal.main_arg1)
        ∧ r.2.mem ((c : Thread ReferenceIdeal.nD ReferenceIdeal.τ).loc ReferenceIdeal.main_arg2) = m ((c : Thread ReferenceIdeal.nD ReferenceIdeal.τ).loc ReferenceIdeal.main_arg2)
        ∧ r.2.mem ((c : Thread ReferenceIdeal.nD ReferenceIdeal.τ).loc ReferenceIdeal.main_arg3) = m ((c : Thread ReferenceIdeal.nD ReferenceIdeal.τ).loc ReferenceIdeal.main_arg3))
        ∧ r.2.sem = fun _ => 0) :=
  (θ_run ReferenceIdeal.defs _ _).mono (fun r h => ⟨fun c => (h c).2.2.2.2.2,
    sem_eq_zero_of_no_sems (by decide) r.2⟩) (ReferenceIdeal.Value.run m g)

set_option maxHeartbeats 4000000 in
/-- The kernel's five results are the reference's. -/
theorem algebraic [Cert.Pre_finite.Facts] : algebraic_KernelIdeal_ReferenceIdeal_pre_finite := by
  intro m g m' g' hpre hargs
  have hr := fun c => Reals.reals _ _ _ _ (hpre c)
  refine ⟨fun c => val_main_v87 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)),
    fun c => val_main_v88 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)),
    fun c => val_main_v89 (F := Ideal) (m ((c : Thread KernelIdeal.nD KernelIdeal.τ).loc KernelIdeal.main_arg0)) (m ((c : Thread KernelIdeal.nD KernelIdeal.τ).loc KernelIdeal.main_arg2)) (m ((c : Thread KernelIdeal.nD KernelIdeal.τ).loc KernelIdeal.main_arg3)),
    fun c => val_main_v90 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)),
    fun c => val_main_v92 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)),
    ?_, ?_⟩
  · refine (θ_run KernelIdeal.defs _ _).mono (fun r h c => ?_) (θ_run_and (KernelIdeal.Fox.run_main m g) (frame_KernelIdeal m g))
    obtain ⟨⟨hF, _⟩, hU, _⟩ := h
    obtain ⟨⟨h0, h1⟩, h2, h3⟩ := hr c
    have f := (hF c).1
    obtain ⟨M, hM⟩ := v26_real (fun i => ((m ((c : Thread KernelIdeal.nD KernelIdeal.τ).loc KernelIdeal.main_arg0)) i).toReal) (fun i => ((m ((c : Thread KernelIdeal.nD KernelIdeal.τ).loc KernelIdeal.main_arg2)) i).toReal)
    have e8 := KernelIdeal.Fox.final_8 m c _ _ _ _ h0 h1 h2 h3 M hM
    have e9 := KernelIdeal.Fox.final_9 m c _ _ _ _ h0 h1 h2 h3 M hM
    have e10 := KernelIdeal.Fox.final_10 m c _ _ _ _ h0 h1 h2 h3 M hM
    have e11 := KernelIdeal.Fox.final_11 m c _ _ _ _ h0 h1 h2 h3 M hM
    have e12 := KernelIdeal.Fox.final_12 m c _ _ _ _ h0 h1 h2 h3 M hM
    rw [← h0, ← h1, ← h2, ← h3] at e8 e9 e11 e12
    rw [← h0, ← h2, ← h3] at e10
    exact ⟨(f 8).trans e8, (f 9).trans e9, (f 10).trans e10, (f 11).trans e11, (f 12).trans e12, hU c⟩
  · refine (θ_run ReferenceIdeal.defs _ _).mono (fun r h c => ?_) (ReferenceIdeal.Value.run m' g')
    obtain ⟨h87, h88, h89, h90, h92, hU⟩ := h c
    obtain ⟨a0, a1, a2, a3⟩ := hargs c
    rw [ReferenceIdeal.Read.val_main_v87_eq, a0, a1, a2, a3] at h87
    rw [ReferenceIdeal.Read.val_main_v88_eq, a0, a1, a2, a3] at h88
    rw [ReferenceIdeal.Read.val_main_v89_eq, a0, a2, a3] at h89
    rw [ReferenceIdeal.Read.val_main_v90_eq, a0, a1, a2, a3] at h90
    rw [ReferenceIdeal.Read.val_main_v92_eq, a0, a1, a2, a3] at h92
    exact ⟨h87, h88, h89, h90, h92, hU⟩

theorem claim : Cert.Claim := ⟨Cert.Kernel.Gen.facts, Cert.KernelIdeal.Gen.facts, Cert.ReferenceIdeal.Gen.facts,
  Cert.DownDx.Gen.facts, Cert.DownDxIdeal.Gen.facts, Cert.DownDxReferenceIdeal.Gen.facts,
  Cert.DownDw.Gen.facts, Cert.DownDwIdeal.Gen.facts, Cert.DownDwReferenceIdeal.Gen.facts,
  Cert.UpDx.Gen.facts, Cert.UpDxIdeal.Gen.facts, Cert.UpDxReferenceIdeal.Gen.facts,
  Cert.UpDw.Gen.facts, Cert.UpDwIdeal.Gen.facts, Cert.UpDwReferenceIdeal.Gen.facts,
  Cert.ODx.Gen.facts, Cert.ODxIdeal.Gen.facts, Cert.ODxReferenceIdeal.Gen.facts,
  Cert.ODw.Gen.facts, Cert.ODwIdeal.Gen.facts, Cert.ODwReferenceIdeal.Gen.facts,
  Cert.BrDx.Gen.facts, Cert.BrDxIdeal.Gen.facts, Cert.BrDxReferenceIdeal.Gen.facts,
  Cert.BrDw.Gen.facts, Cert.BrDwIdeal.Gen.facts, Cert.BrDwReferenceIdeal.Gen.facts,
  Cert.FoxDw.Gen.facts, Cert.FoxDwIdeal.Gen.facts, Cert.FoxDwReferenceIdeal.Gen.facts,
  Cert.GateDx.Gen.facts, Cert.GateDxIdeal.Gen.facts, Cert.GateDxReferenceIdeal.Gen.facts,
  Cert.GateDw.Gen.facts, Cert.GateDwIdeal.Gen.facts, Cert.GateDwReferenceIdeal.Gen.facts,
  Cert.InDx.Gen.facts, Cert.InDxIdeal.Gen.facts, Cert.InDxReferenceIdeal.Gen.facts,
  Cert.InDw.Gen.facts, Cert.InDwIdeal.Gen.facts, Cert.InDwReferenceIdeal.Gen.facts,
  Cert.InFwd.Gen.facts, Cert.InFwdIdeal.Gen.facts, Cert.InFwdReferenceIdeal.Gen.facts,
  Cert.InTail.Gen.facts, Cert.InTailIdeal.Gen.facts, Cert.InTailReferenceIdeal.Gen.facts,
  Cert.BrFwd.Gen.facts, Cert.BrFwdIdeal.Gen.facts, Cert.BrFwdReferenceIdeal.Gen.facts,
  Cert.FoxFwd.Gen.facts, Cert.FoxFwdIdeal.Gen.facts, Cert.FoxFwdReferenceIdeal.Gen.facts,
  Cert.GateFwd.Gen.facts, Cert.GateFwdIdeal.Gen.facts, Cert.GateFwdReferenceIdeal.Gen.facts,
  Cert.OFwd.Gen.facts, Cert.OFwdIdeal.Gen.facts, Cert.OFwdReferenceIdeal.Gen.facts,
  Cert.UpFwd.Gen.facts, Cert.UpFwdIdeal.Gen.facts, Cert.UpFwdReferenceIdeal.Gen.facts,
  Cert.DownFwd.Gen.facts, Cert.DownFwdIdeal.Gen.facts, Cert.DownFwdReferenceIdeal.Gen.facts,
  Cert.FfnBwd.Gen.facts, Cert.FfnBwdIdeal.Gen.facts, Cert.FfnBwdReferenceIdeal.Gen.facts,
  Cert.MixBwd.Gen.facts, Cert.MixBwdIdeal.Gen.facts, Cert.MixBwdReferenceIdeal.Gen.facts,
  Cert.ResBwd.Gen.facts, Cert.ResBwdIdeal.Gen.facts, Cert.ResBwdReferenceIdeal.Gen.facts,
  Cert.NormBwd.Gen.facts, Cert.NormBwdIdeal.Gen.facts, Cert.NormBwdReferenceIdeal.Gen.facts,
  Cert.RopeBwd.Gen.facts, Cert.RopeBwdIdeal.Gen.facts, Cert.RopeBwdReferenceIdeal.Gen.facts,
  Cert.ResFwd.Gen.facts, Cert.ResFwdIdeal.Gen.facts, Cert.ResFwdReferenceIdeal.Gen.facts,
  Cert.NormFwd.Gen.facts, Cert.NormFwdIdeal.Gen.facts, Cert.NormFwdReferenceIdeal.Gen.facts,
  Cert.ResNorm.Gen.facts, Cert.ResNormIdeal.Gen.facts, Cert.ResNormReferenceIdeal.Gen.facts,
  Cert.MixFwd.Gen.facts, Cert.MixFwdIdeal.Gen.facts, Cert.MixFwdReferenceIdeal.Gen.facts,
  Cert.RopeFwd.Gen.facts, Cert.RopeFwdIdeal.Gen.facts, Cert.RopeFwdReferenceIdeal.Gen.facts,
  Cert.FfnFwd.Gen.facts, Cert.FfnFwdIdeal.Gen.facts, Cert.FfnFwdReferenceIdeal.Gen.facts,
  Cert.RetPost.Gen.facts, Cert.RetPostIdeal.Gen.facts, Cert.RetPostReferenceIdeal.Gen.facts,
  Cert.GlaPost.Gen.facts, Cert.GlaPostIdeal.Gen.facts, Cert.GlaPostReferenceIdeal.Gen.facts,
  Cert.Pre_finite.Gen.facts, Cert.Pre_ffn_finite.Gen.facts,
  fun m g _ => Cert.Kernel.Fox.frame m g, fun m g _ => frame_KernelIdeal m g, fun m g _ => frame_KernelIdeal m g,
  fun m g _ => frame_ReferenceIdeal m g, fun m g _ => frame_ReferenceIdeal m g,
  fun m g _ => Cert.DownDx.Gen.frame m g, fun m g _ => Cert.DownDxIdeal.Gen.frame m g, Products.frame_DownDx,
  fun m g _ => Cert.DownDw.Gen.frame m g, fun m g _ => Cert.DownDwIdeal.Gen.frame m g, Products.frame_DownDw,
  fun m g _ => Cert.UpDx.Gen.frame m g, fun m g _ => Cert.UpDxIdeal.Gen.frame m g, Products.frame_UpDx,
  fun m g _ => Cert.UpDw.Gen.frame m g, fun m g _ => Cert.UpDwIdeal.Gen.frame m g, Products.frame_UpDw,
  fun m g _ => Cert.ODx.Gen.frame m g, fun m g _ => Cert.ODxIdeal.Gen.frame m g, Products.frame_ODx,
  fun m g _ => Cert.ODw.Gen.frame m g, fun m g _ => Cert.ODwIdeal.Gen.frame m g, Products.frame_ODw,
  fun m g _ => Cert.BrDx.Gen.frame m g, fun m g _ => Cert.BrDxIdeal.Gen.frame m g, Products.frame_BrDx,
  fun m g _ => Cert.BrDw.Gen.frame m g, fun m g _ => Cert.BrDwIdeal.Gen.frame m g, Products.frame_BrDw,
  fun m g _ => Cert.FoxDw.Gen.frame m g, fun m g _ => Cert.FoxDwIdeal.Gen.frame m g, Products.frame_FoxDw,
  fun m g _ => Cert.GateDx.Gen.frame m g, fun m g _ => Cert.GateDxIdeal.Gen.frame m g, Products.frame_GateDx,
  fun m g _ => Cert.GateDw.Gen.frame m g, fun m g _ => Cert.GateDwIdeal.Gen.frame m g, Products.frame_GateDw,
  fun m g _ => Cert.InDx.Gen.frame m g, fun m g _ => Cert.InDxIdeal.Gen.frame m g, Products.frame_InDx,
  fun m g _ => Cert.InDw.Gen.frame m g, fun m g _ => Cert.InDwIdeal.Gen.frame m g, Products.frame_InDw,
  fun m g _ => Cert.InFwd.Gen.frame m g, fun m g _ => Cert.InFwdIdeal.Gen.frame m g, Products.frame_InFwd,
  fun m g _ => Cert.InTail.Gen.frame m g, fun m g _ => Cert.InTailIdeal.Gen.frame m g, Products.frame_InTail,
  fun m g _ => Cert.BrFwd.Gen.frame m g, fun m g _ => Cert.BrFwdIdeal.Gen.frame m g, Products.frame_BrFwd,
  fun m g _ => Cert.FoxFwd.Gen.frame m g, fun m g _ => Cert.FoxFwdIdeal.Gen.frame m g, Products.frame_FoxFwd,
  fun m g _ => Cert.GateFwd.Gen.frame m g, fun m g _ => Cert.GateFwdIdeal.Gen.frame m g, Products.frame_GateFwd,
  fun m g _ => Cert.OFwd.Gen.frame m g, fun m g _ => Cert.OFwdIdeal.Gen.frame m g, Products.frame_OFwd,
  fun m g _ => Cert.UpFwd.Gen.frame m g, fun m g _ => Cert.UpFwdIdeal.Gen.frame m g, Products.frame_UpFwd,
  fun m g _ => Cert.DownFwd.Gen.frame m g, fun m g _ => Cert.DownFwdIdeal.Gen.frame m g, Products.frame_DownFwd,
  fun m g _ => Cert.FfnBwd.Gen.frame m g, fun m g _ => Cert.FfnBwdIdeal.Gen.frame m g, fun m g _ => Cert.FfnBwdIdeal.Gen.frame m g,
  fun m g _ => Products.frame_FfnBwd m g trivial, fun m g _ => Products.frame_FfnBwd m g trivial,
  fun m g _ => Cert.MixBwd.Gen.frame m g, fun m g _ => Cert.MixBwdIdeal.Gen.frame m g, Products.frame_MixBwd,
  fun m g _ => Cert.ResBwd.Gen.frame m g, fun m g _ => Cert.ResBwdIdeal.Gen.frame m g, Products.frame_ResBwd,
  fun m g _ => Cert.NormBwd.Gen.frame m g, fun m g _ => Cert.NormBwdIdeal.Gen.frame m g, Products.frame_NormBwd,
  fun m g _ => Cert.RopeBwd.Gen.frame m g, fun m g _ => Cert.RopeBwdIdeal.Gen.frame m g, Products.frame_RopeBwd,
  fun m g _ => Cert.ResFwd.Gen.frame m g, fun m g _ => Cert.ResFwdIdeal.Gen.frame m g, Products.frame_ResFwd,
  fun m g _ => Cert.NormFwd.Gen.frame m g, fun m g _ => Cert.NormFwdIdeal.Gen.frame m g, Products.frame_NormFwd,
  fun m g _ => Cert.ResNorm.Gen.frame m g, fun m g _ => Cert.ResNormIdeal.Gen.frame m g, Products.frame_ResNorm,
  fun m g _ => Cert.MixFwd.Gen.frame m g, fun m g _ => Cert.MixFwdIdeal.Gen.frame m g, Products.frame_MixFwd,
  fun m g _ => Cert.RopeFwd.Gen.frame m g, fun m g _ => Cert.RopeFwdIdeal.Gen.frame m g, Products.frame_RopeFwd,
  fun m g _ => Cert.FfnFwd.Gen.frame m g, fun m g _ => Cert.FfnFwdIdeal.Gen.frame m g, Products.frame_FfnFwd,
  fun m g _ => Cert.RetPost.Gen.frame m g, fun m g _ => Cert.RetPostIdeal.Gen.frame m g, Products.frame_RetPost,
  fun m g _ => Cert.GlaPost.Gen.frame m g, fun m g _ => Cert.GlaPostIdeal.Gen.frame m g, Products.frame_GlaPost,
  IdealRules.named_const.statement Cert.KernelIdeal.κ "mask" .f32 0xF149F2CA#32 ⊥ rfl, algebraic,
  trivial, Products.algebraic_DownDx,
  trivial, Products.algebraic_DownDw,
  trivial, Products.algebraic_UpDx,
  trivial, Products.algebraic_UpDw,
  trivial, Products.algebraic_ODx,
  trivial, Products.algebraic_ODw,
  trivial, Products.algebraic_BrDx,
  trivial, Products.algebraic_BrDw,
  trivial, Products.algebraic_FoxDw,
  trivial, Products.algebraic_GateDx,
  trivial, Products.algebraic_GateDw,
  trivial, Products.algebraic_InDx,
  trivial, Products.algebraic_InDw,
  trivial, Products.algebraic_InFwd,
  trivial, Products.algebraic_InTail,
  trivial, Products.algebraic_BrFwd,
  trivial, Products.algebraic_FoxFwd,
  trivial, Products.algebraic_GateFwd,
  trivial, Products.algebraic_OFwd,
  trivial, Products.algebraic_UpFwd,
  trivial, Products.algebraic_DownFwd,
  trivial, Products.algebraic_FfnBwd,
  trivial, Products.algebraic_MixBwd,
  trivial, Products.algebraic_ResBwd,
  trivial, Products.algebraic_NormBwd,
  trivial, Products.algebraic_RopeBwd,
  trivial, Products.algebraic_ResFwd,
  trivial, Products.algebraic_NormFwd,
  trivial, Products.algebraic_ResNorm,
  trivial, Products.algebraic_MixFwd,
  trivial, Products.algebraic_RopeFwd,
  trivial, Products.algebraic_FfnFwd,
  trivial, Products.algebraic_RetPost,
  trivial, Products.algebraic_GlaPost⟩

end Cert.Proof

end
